-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxReferenceIdeal (m : (ℓ : Loc Cert.FfnDownDxReferenceIdeal.nD Cert.FfnDownDxReferenceIdeal.τ Cert.FfnDownDxReferenceIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwReferenceIdeal (m : (ℓ : Loc Cert.FfnDownDwReferenceIdeal.nD Cert.FfnDownDwReferenceIdeal.τ Cert.FfnDownDwReferenceIdeal.sig) → Buf (Elt Ideal) ℓ) : Prop :=
  True

def Pre_FfnUpDx (m : (ℓ : Loc Cert.FfnUpDx.nD Cert.FfnUpDx.τ Cert.FfnUpDx.sig) → Buf (Elt Bits) ℓ) : Prop :=
  True

def Pre_FfnUpDxIdeal (m : (ℓ : Loc Cert.FfnUpDxIdeal.nD Cert.FfnUpDxIdeal.τ Cert.FfnUpDxIdeal.sig) → Buf (Elt Ideal) ℓ) : Prop :=
  True

def Pre_FfnUpDxReferenceIdeal (m : (ℓ : Loc Cert.FfnUpDxReferenceIdeal.nD Cert.FfnUpDxReferenceIdeal.τ Cert.FfnUpDxReferenceIdeal.sig) → Buf (Elt Ideal) ℓ) : Prop :=
  True

def Pre_FfnUpDw (m : (ℓ : Loc Cert.FfnUpDw.nD Cert.FfnUpDw.τ Cert.FfnUpDw.sig) → Buf (Elt Bits) ℓ) : Prop :=
  True

def Pre_FfnUpDwIdeal (m : (ℓ : Loc Cert.FfnUpDwIdeal.nD Cert.FfnUpDwIdeal.τ Cert.FfnUpDwIdeal.sig) → Buf (Elt Ideal) ℓ) : Prop :=
  True

def Pre_FfnUpDwReferenceIdeal (m : (ℓ : Loc Cert.FfnUpDwReferenceIdeal.nD Cert.FfnUpDwReferenceIdeal.τ Cert.FfnUpDwReferenceIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdReferenceIdeal (m : (ℓ : Loc Cert.GateFwdReferenceIdeal.nD Cert.GateFwdReferenceIdeal.τ Cert.GateFwdReferenceIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxReferenceIdeal (m : (ℓ : Loc Cert.GateDxReferenceIdeal.nD Cert.GateDxReferenceIdeal.τ Cert.GateDxReferenceIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwReferenceIdeal (m : (ℓ : Loc Cert.GateDwReferenceIdeal.nD Cert.GateDwReferenceIdeal.τ Cert.GateDwReferenceIdeal.sig) → Buf (Elt Ideal) ℓ) : Prop :=
  True

def Pre_BranchFwd (m : (ℓ : Loc Cert.BranchFwd.nD Cert.BranchFwd.τ Cert.BranchFwd.sig) → Buf (Elt Bits) ℓ) : Prop :=
  True

def Pre_BranchFwdIdeal (m : (ℓ : Loc Cert.BranchFwdIdeal.nD Cert.BranchFwdIdeal.τ Cert.BranchFwdIdeal.sig) → Buf (Elt Ideal) ℓ) : Prop :=
  True

def Pre_BranchFwdReferenceIdeal (m : (ℓ : Loc Cert.BranchFwdReferenceIdeal.nD Cert.BranchFwdReferenceIdeal.τ Cert.BranchFwdReferenceIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxReferenceIdeal (m : (ℓ : Loc Cert.BranchDxReferenceIdeal.nD Cert.BranchDxReferenceIdeal.τ Cert.BranchDxReferenceIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwReferenceIdeal (m : (ℓ : Loc Cert.BranchDwReferenceIdeal.nD Cert.BranchDwReferenceIdeal.τ Cert.BranchDwReferenceIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdReferenceIdeal (m : (ℓ : Loc Cert.OutFwdReferenceIdeal.nD Cert.OutFwdReferenceIdeal.τ Cert.OutFwdReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdReferenceIdeal (m : (ℓ : Loc Cert.GluFwdReferenceIdeal.nD Cert.GluFwdReferenceIdeal.τ Cert.GluFwdReferenceIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxReferenceIdeal (m : (ℓ : Loc Cert.GluDxReferenceIdeal.nD Cert.GluDxReferenceIdeal.τ Cert.GluDxReferenceIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwReferenceIdeal (m : (ℓ : Loc Cert.GluDwReferenceIdeal.nD Cert.GluDwReferenceIdeal.τ Cert.GluDwReferenceIdeal.sig) → Buf (Elt Ideal) ℓ) : Prop :=
  True

def Pre_SplitFwd (m : (ℓ : Loc Cert.SplitFwd.nD Cert.SplitFwd.τ Cert.SplitFwd.sig) → Buf (Elt Bits) ℓ) : Prop :=
  True

def Pre_SplitFwdIdeal (m : (ℓ : Loc Cert.SplitFwdIdeal.nD Cert.SplitFwdIdeal.τ Cert.SplitFwdIdeal.sig) → Buf (Elt Ideal) ℓ) : Prop :=
  True

def Pre_SplitFwdReferenceIdeal (m : (ℓ : Loc Cert.SplitFwdReferenceIdeal.nD Cert.SplitFwdReferenceIdeal.τ Cert.SplitFwdReferenceIdeal.sig) → Buf (Elt Ideal) ℓ) : Prop :=
  True

def Pre_SplitDx (m : (ℓ : Loc Cert.SplitDx.nD Cert.SplitDx.τ Cert.SplitDx.sig) → Buf (Elt Bits) ℓ) : Prop :=
  True

def Pre_SplitDxIdeal (m : (ℓ : Loc Cert.SplitDxIdeal.nD Cert.SplitDxIdeal.τ Cert.SplitDxIdeal.sig) → Buf (Elt Ideal) ℓ) : Prop :=
  True

def Pre_SplitDxReferenceIdeal (m : (ℓ : Loc Cert.SplitDxReferenceIdeal.nD Cert.SplitDxReferenceIdeal.τ Cert.SplitDxReferenceIdeal.sig) → Buf (Elt Ideal) ℓ) : Prop :=
  True

def Pre_SplitDw (m : (ℓ : Loc Cert.SplitDw.nD Cert.SplitDw.τ Cert.SplitDw.sig) → Buf (Elt Bits) ℓ) : Prop :=
  True

def Pre_SplitDwIdeal (m : (ℓ : Loc Cert.SplitDwIdeal.nD Cert.SplitDwIdeal.τ Cert.SplitDwIdeal.sig) → Buf (Elt Ideal) ℓ) : Prop :=
  True

def Pre_SplitDwReferenceIdeal (m : (ℓ : Loc Cert.SplitDwReferenceIdeal.nD Cert.SplitDwReferenceIdeal.τ Cert.SplitDwReferenceIdeal.sig) → Buf (Elt Ideal) ℓ) : Prop :=
  True

def Pre_AdamSharded (m : (ℓ : Loc Cert.AdamSharded.nD Cert.AdamSharded.τ Cert.AdamSharded.sig) → Buf (Elt Bits) ℓ) : Prop :=
  True

def Pre_AdamShardedIdeal (m : (ℓ : Loc Cert.AdamShardedIdeal.nD Cert.AdamShardedIdeal.τ Cert.AdamShardedIdeal.sig) → Buf (Elt Ideal) ℓ) : Prop :=
  True

def Pre_AdamShardedReferenceIdeal (m : (ℓ : Loc Cert.AdamShardedReferenceIdeal.nD Cert.AdamShardedReferenceIdeal.τ Cert.AdamShardedReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActReferenceIdeal (m : (ℓ : Loc Cert.FfnActReferenceIdeal.nD Cert.FfnActReferenceIdeal.τ Cert.FfnActReferenceIdeal.sig) → Buf (Elt Ideal) ℓ) : Prop :=
  True

def Pre_FfnActBwd (m : (ℓ : Loc Cert.FfnActBwd.nD Cert.FfnActBwd.τ Cert.FfnActBwd.sig) → Buf (Elt Bits) ℓ) : Prop :=
  True

def Pre_FfnActBwdIdeal (m : (ℓ : Loc Cert.FfnActBwdIdeal.nD Cert.FfnActBwdIdeal.τ Cert.FfnActBwdIdeal.sig) → Buf (Elt Ideal) ℓ) : Prop :=
  True

def Pre_FfnActBwdReferenceIdeal (m : (ℓ : Loc Cert.FfnActBwdReferenceIdeal.nD Cert.FfnActBwdReferenceIdeal.τ Cert.FfnActBwdReferenceIdeal.sig) → Buf (Elt Ideal) ℓ) : Prop :=
  True

def Pre_GluAct (m : (ℓ : Loc Cert.GluAct.nD Cert.GluAct.τ Cert.GluAct.sig) → Buf (Elt Bits) ℓ) : Prop :=
  True

def Pre_GluActIdeal (m : (ℓ : Loc Cert.GluActIdeal.nD Cert.GluActIdeal.τ Cert.GluActIdeal.sig) → Buf (Elt Ideal) ℓ) : Prop :=
  True

def Pre_GluActReferenceIdeal (m : (ℓ : Loc Cert.GluActReferenceIdeal.nD Cert.GluActReferenceIdeal.τ Cert.GluActReferenceIdeal.sig) → Buf (Elt Ideal) ℓ) : Prop :=
  True

def Pre_GluActBwd (m : (ℓ : Loc Cert.GluActBwd.nD Cert.GluActBwd.τ Cert.GluActBwd.sig) → Buf (Elt Bits) ℓ) : Prop :=
  True

def Pre_GluActBwdIdeal (m : (ℓ : Loc Cert.GluActBwdIdeal.nD Cert.GluActBwdIdeal.τ Cert.GluActBwdIdeal.sig) → Buf (Elt Ideal) ℓ) : Prop :=
  True

def Pre_GluActBwdReferenceIdeal (m : (ℓ : Loc Cert.GluActBwdReferenceIdeal.nD Cert.GluActBwdReferenceIdeal.τ Cert.GluActBwdReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdReferenceIdeal (m : (ℓ : Loc Cert.MergeBwdReferenceIdeal.nD Cert.MergeBwdReferenceIdeal.τ Cert.MergeBwdReferenceIdeal.sig) → Buf (Elt Ideal) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormReferenceIdeal (m : (ℓ : Loc Cert.FfnNormReferenceIdeal.nD Cert.FfnNormReferenceIdeal.τ Cert.FfnNormReferenceIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModReferenceIdeal (m : (ℓ : Loc Cert.NormModReferenceIdeal.nD Cert.NormModReferenceIdeal.τ Cert.NormModReferenceIdeal.sig) → Buf (Elt Ideal) ℓ) : Prop :=
  True

def Pre_FfnResid (m : (ℓ : Loc Cert.FfnResid.nD Cert.FfnResid.τ Cert.FfnResid.sig) → Buf (Elt Bits) ℓ) : Prop :=
  True

def Pre_FfnResidIdeal (m : (ℓ : Loc Cert.FfnResidIdeal.nD Cert.FfnResidIdeal.τ Cert.FfnResidIdeal.sig) → Buf (Elt Ideal) ℓ) : Prop :=
  True

def Pre_FfnResidReferenceIdeal (m : (ℓ : Loc Cert.FfnResidReferenceIdeal.nD Cert.FfnResidReferenceIdeal.τ Cert.FfnResidReferenceIdeal.sig) → Buf (Elt Ideal) ℓ) : Prop :=
  True

def Pre_ResidFull (m : (ℓ : Loc Cert.ResidFull.nD Cert.ResidFull.τ Cert.ResidFull.sig) → Buf (Elt Bits) ℓ) : Prop :=
  True

def Pre_ResidFullIdeal (m : (ℓ : Loc Cert.ResidFullIdeal.nD Cert.ResidFullIdeal.τ Cert.ResidFullIdeal.sig) → Buf (Elt Ideal) ℓ) : Prop :=
  True

def Pre_ResidFullReferenceIdeal (m : (ℓ : Loc Cert.ResidFullReferenceIdeal.nD Cert.ResidFullReferenceIdeal.τ Cert.ResidFullReferenceIdeal.sig) → Buf (Elt Ideal) ℓ) : Prop :=
  True

def Pre_PoolScale (m : (ℓ : Loc Cert.PoolScale.nD Cert.PoolScale.τ Cert.PoolScale.sig) → Buf (Elt Bits) ℓ) : Prop :=
  True

def Pre_PoolScaleIdeal (m : (ℓ : Loc Cert.PoolScaleIdeal.nD Cert.PoolScaleIdeal.τ Cert.PoolScaleIdeal.sig) → Buf (Elt Ideal) ℓ) : Prop :=
  True

def Pre_PoolScaleReferenceIdeal (m : (ℓ : Loc Cert.PoolScaleReferenceIdeal.nD Cert.PoolScaleReferenceIdeal.τ Cert.PoolScaleReferenceIdeal.sig) → Buf (Elt Ideal) ℓ) : Prop :=
  True

def Pre_LossRows (m : (ℓ : Loc Cert.LossRows.nD Cert.LossRows.τ Cert.LossRows.sig) → Buf (Elt Bits) ℓ) : Prop :=
  True

def Pre_LossRowsIdeal (m : (ℓ : Loc Cert.LossRowsIdeal.nD Cert.LossRowsIdeal.τ Cert.LossRowsIdeal.sig) → Buf (Elt Ideal) ℓ) : Prop :=
  True

def Pre_LossRowsReferenceIdeal (m : (ℓ : Loc Cert.LossRowsReferenceIdeal.nD Cert.LossRowsReferenceIdeal.τ Cert.LossRowsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ r.2.sem = fun _ => 0)

def quiescent_FfnDownDxReferenceIdeal [hFfnDownDxReferenceIdeal : Cert.FfnDownDxReferenceIdeal.Facts] : Prop :=
  ∀ (m : (ℓ : Loc Cert.FfnDownDxReferenceIdeal.nD Cert.FfnDownDxReferenceIdeal.τ Cert.FfnDownDxReferenceIdeal.sig) → Buf (Elt Ideal) ℓ) (g : Dev Cert.FfnDownDxReferenceIdeal.nD → PrngReg), Pre_FfnDownDxReferenceIdeal m →
    θ_run (Cert.FfnDownDxReferenceIdeal.defs (F := Ideal)) (onTc (τ := Cert.FfnDownDxReferenceIdeal.τ) (Cert.FfnDownDxReferenceIdeal.main (F := Ideal))) ⟨m, fun _ => 0, g⟩ (fun r => (∀ c : Dev Cert.FfnDownDxReferenceIdeal.nD,
      r.2.mem ((c.tc : Thread Cert.FfnDownDxReferenceIdeal.nD Cert.FfnDownDxReferenceIdeal.τ).loc Cert.FfnDownDxReferenceIdeal.main_arg0) = m ((c.tc : Thread Cert.FfnDownDxReferenceIdeal.nD Cert.FfnDownDxReferenceIdeal.τ).loc Cert.FfnDownDxReferenceIdeal.main_arg0)
      ∧ r.2.mem ((c.tc : Thread Cert.FfnDownDxReferenceIdeal.nD Cert.FfnDownDxReferenceIdeal.τ).loc Cert.FfnDownDxReferenceIdeal.main_arg1) = m ((c.tc : Thread Cert.FfnDownDxReferenceIdeal.nD Cert.FfnDownDxReferenceIdeal.τ).loc Cert.FfnDownDxReferenceIdeal.main_arg1))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwReferenceIdeal [hFfnDownDwReferenceIdeal : Cert.FfnDownDwReferenceIdeal.Facts] : Prop :=
  ∀ (m : (ℓ : Loc Cert.FfnDownDwReferenceIdeal.nD Cert.FfnDownDwReferenceIdeal.τ Cert.FfnDownDwReferenceIdeal.sig) → Buf (Elt Ideal) ℓ) (g : Dev Cert.FfnDownDwReferenceIdeal.nD → PrngReg), Pre_FfnDownDwReferenceIdeal m →
    θ_run (Cert.FfnDownDwReferenceIdeal.defs (F := Ideal)) (onTc (τ := Cert.FfnDownDwReferenceIdeal.τ) (Cert.FfnDownDwReferenceIdeal.main (F := Ideal))) ⟨m, fun _ => 0, g⟩ (fun r => (∀ c : Dev Cert.FfnDownDwReferenceIdeal.nD,
      r.2.mem ((c.tc : Thread Cert.FfnDownDwReferenceIdeal.nD Cert.FfnDownDwReferenceIdeal.τ).loc Cert.FfnDownDwReferenceIdeal.main_arg0) = m ((c.tc : Thread Cert.FfnDownDwReferenceIdeal.nD Cert.FfnDownDwReferenceIdeal.τ).loc Cert.FfnDownDwReferenceIdeal.main_arg0)
      ∧ r.2.mem ((c.tc : Thread Cert.FfnDownDwReferenceIdeal.nD Cert.FfnDownDwReferenceIdeal.τ).loc Cert.FfnDownDwReferenceIdeal.main_arg1) = m ((c.tc : Thread Cert.FfnDownDwReferenceIdeal.nD Cert.FfnDownDwReferenceIdeal.τ).loc Cert.FfnDownDwReferenceIdeal.main_arg1))
      ∧ r.2.sem = fun _ => 0)

def quiescent_FfnUpDx [hFfnUpDx : Cert.FfnUpDx.Facts] : Prop :=
  ∀ (m : (ℓ : Loc Cert.FfnUpDx.nD Cert.FfnUpDx.τ Cert.FfnUpDx.sig) → Buf (Elt Bits) ℓ) (g : Dev Cert.FfnUpDx.nD → PrngReg), Pre_FfnUpDx m →
    θ_run (Cert.FfnUpDx.defs (F := Bits)) (onTc (τ := Cert.FfnUpDx.τ) (Cert.FfnUpDx.main (F := Bits))) ⟨m, fun _ => 0, g⟩ (fun r => (∀ c : Dev Cert.FfnUpDx.nD,
      r.2.mem ((c.tc : Thread Cert.FfnUpDx.nD Cert.FfnUpDx.τ).loc Cert.FfnUpDx.main_arg0) = m ((c.tc : Thread Cert.FfnUpDx.nD Cert.FfnUpDx.τ).loc Cert.FfnUpDx.main_arg0)
      ∧ r.2.mem ((c.tc : Thread Cert.FfnUpDx.nD Cert.FfnUpDx.τ).loc Cert.FfnUpDx.main_arg1) = m ((c.tc : Thread Cert.FfnUpDx.nD Cert.FfnUpDx.τ).loc Cert.FfnUpDx.main_arg1))
      ∧ r.2.sem = fun _ => 0)

def quiescent_FfnUpDxIdeal [hFfnUpDxIdeal : Cert.FfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ r.2.sem = fun _ => 0)

def quiescent_FfnUpDxReferenceIdeal [hFfnUpDxReferenceIdeal : Cert.FfnUpDxReferenceIdeal.Facts] : Prop :=
  ∀ (m : (ℓ : Loc Cert.FfnUpDxReferenceIdeal.nD Cert.FfnUpDxReferenceIdeal.τ Cert.FfnUpDxReferenceIdeal.sig) → Buf (Elt Ideal) ℓ) (g : Dev Cert.FfnUpDxReferenceIdeal.nD → PrngReg), Pre_FfnUpDxReferenceIdeal m →
    θ_run (Cert.FfnUpDxReferenceIdeal.defs (F := Ideal)) (onTc (τ := Cert.FfnUpDxReferenceIdeal.τ) (Cert.FfnUpDxReferenceIdeal.main (F := Ideal))) ⟨m, fun _ => 0, g⟩ (fun r => (∀ c : Dev Cert.FfnUpDxReferenceIdeal.nD,
      r.2.mem ((c.tc : Thread Cert.FfnUpDxReferenceIdeal.nD Cert.FfnUpDxReferenceIdeal.τ).loc Cert.FfnUpDxReferenceIdeal.main_arg0) = m ((c.tc : Thread Cert.FfnUpDxReferenceIdeal.nD Cert.FfnUpDxReferenceIdeal.τ).loc Cert.FfnUpDxReferenceIdeal.main_arg0)
      ∧ r.2.mem ((c.tc : Thread Cert.FfnUpDxReferenceIdeal.nD Cert.FfnUpDxReferenceIdeal.τ).loc Cert.FfnUpDxReferenceIdeal.main_arg1) = m ((c.tc : Thread Cert.FfnUpDxReferenceIdeal.nD Cert.FfnUpDxReferenceIdeal.τ).loc Cert.FfnUpDxReferenceIdeal.main_arg1))
      ∧ r.2.sem = fun _ => 0)

def quiescent_FfnUpDw [hFfnUpDw : Cert.FfnUpDw.Facts] : Prop :=
  ∀ (m : (ℓ : Loc Cert.FfnUpDw.nD Cert.FfnUpDw.τ Cert.FfnUpDw.sig) → Buf (Elt Bits) ℓ) (g : Dev Cert.FfnUpDw.nD → PrngReg), Pre_FfnUpDw m →
    θ_run (Cert.FfnUpDw.defs (F := Bits)) (onTc (τ := Cert.FfnUpDw.τ) (Cert.FfnUpDw.main (F := Bits))) ⟨m, fun _ => 0, g⟩ (fun r => (∀ c : Dev Cert.FfnUpDw.nD,
      r.2.mem ((c.tc : Thread Cert.FfnUpDw.nD Cert.FfnUpDw.τ).loc Cert.FfnUpDw.main_arg0) = m ((c.tc : Thread Cert.FfnUpDw.nD Cert.FfnUpDw.τ).loc Cert.FfnUpDw.main_arg0)
      ∧ r.2.mem ((c.tc : Thread Cert.FfnUpDw.nD Cert.FfnUpDw.τ).loc Cert.FfnUpDw.main_arg1) = m ((c.tc : Thread Cert.FfnUpDw.nD Cert.FfnUpDw.τ).loc Cert.FfnUpDw.main_arg1))
      ∧ r.2.sem = fun _ => 0)

def quiescent_FfnUpDwIdeal [hFfnUpDwIdeal : Cert.FfnUpDwIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg), Pre_FfnUpDwIdeal m →
    θ_run (Cert.FfnUpDwIdeal.defs (F := Ideal)) (onTc (τ := Cert.FfnUpDwIdeal.τ) (Cert.FfnUpDwIdeal.main (F := Ideal))) ⟨m, fun _ => 0, g⟩ (fun r => (∀ c : Dev Cert.FfnUpDwIdeal.nD,
      r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
      ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ r.2.sem = fun _ => 0)

def quiescent_FfnUpDwReferenceIdeal [hFfnUpDwReferenceIdeal : Cert.FfnUpDwReferenceIdeal.Facts] : Prop :=
  ∀ (m : (ℓ : Loc Cert.FfnUpDwReferenceIdeal.nD Cert.FfnUpDwReferenceIdeal.τ Cert.FfnUpDwReferenceIdeal.sig) → Buf (Elt Ideal) ℓ) (g : Dev Cert.FfnUpDwReferenceIdeal.nD → PrngReg), Pre_FfnUpDwReferenceIdeal m →
    θ_run (Cert.FfnUpDwReferenceIdeal.defs (F := Ideal)) (onTc (τ := Cert.FfnUpDwReferenceIdeal.τ) (Cert.FfnUpDwReferenceIdeal.main (F := Ideal))) ⟨m, fun _ => 0, g⟩ (fun r => (∀ c : Dev Cert.FfnUpDwReferenceIdeal.nD,
      r.2.mem ((c.tc : Thread Cert.FfnUpDwReferenceIdeal.nD Cert.FfnUpDwReferenceIdeal.τ).loc Cert.FfnUpDwReferenceIdeal.main_arg0) = m ((c.tc : Thread Cert.FfnUpDwReferenceIdeal.nD Cert.FfnUpDwReferenceIdeal.τ).loc Cert.FfnUpDwReferenceIdeal.main_arg0)
      ∧ r.2.mem ((c.tc : Thread Cert.FfnUpDwReferenceIdeal.nD Cert.FfnUpDwReferenceIdeal.τ).loc Cert.FfnUpDwReferenceIdeal.main_arg1) = m ((c.tc : Thread Cert.FfnUpDwReferenceIdeal.nD Cert.FfnUpDwReferenceIdeal.τ).loc Cert.FfnUpDwReferenceIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ r.2.sem = fun _ => 0)

def quiescent_GateFwdReferenceIdeal [hGateFwdReferenceIdeal : Cert.GateFwdReferenceIdeal.Facts] : Prop :=
  ∀ (m : (ℓ : Loc Cert.GateFwdReferenceIdeal.nD Cert.GateFwdReferenceIdeal.τ Cert.GateFwdReferenceIdeal.sig) → Buf (Elt Ideal) ℓ) (g : Dev Cert.GateFwdReferenceIdeal.nD → PrngReg), Pre_GateFwdReferenceIdeal m →
    θ_run (Cert.GateFwdReferenceIdeal.defs (F := Ideal)) (onTc (τ := Cert.GateFwdReferenceIdeal.τ) (Cert.GateFwdReferenceIdeal.main (F := Ideal))) ⟨m, fun _ => 0, g⟩ (fun r => (∀ c : Dev Cert.GateFwdReferenceIdeal.nD,
      r.2.mem ((c.tc : Thread Cert.GateFwdReferenceIdeal.nD Cert.GateFwdReferenceIdeal.τ).loc Cert.GateFwdReferenceIdeal.main_arg0) = m ((c.tc : Thread Cert.GateFwdReferenceIdeal.nD Cert.GateFwdReferenceIdeal.τ).loc Cert.GateFwdReferenceIdeal.main_arg0)
      ∧ r.2.mem ((c.tc : Thread Cert.GateFwdReferenceIdeal.nD Cert.GateFwdReferenceIdeal.τ).loc Cert.GateFwdReferenceIdeal.main_arg1) = m ((c.tc : Thread Cert.GateFwdReferenceIdeal.nD Cert.GateFwdReferenceIdeal.τ).loc Cert.GateFwdReferenceIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1)
      ∧ r.2.mem ((c.tc : Thread Cert.GateDx.nD Cert.GateDx.τ).loc Cert.GateDx.main_arg2) = m ((c.tc : Thread Cert.GateDx.nD Cert.GateDx.τ).loc Cert.GateDx.main_arg2))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
      ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2))
      ∧ r.2.sem = fun _ => 0)

def quiescent_GateDxReferenceIdeal [hGateDxReferenceIdeal : Cert.GateDxReferenceIdeal.Facts] : Prop :=
  ∀ (m : (ℓ : Loc Cert.GateDxReferenceIdeal.nD Cert.GateDxReferenceIdeal.τ Cert.GateDxReferenceIdeal.sig) → Buf (Elt Ideal) ℓ) (g : Dev Cert.GateDxReferenceIdeal.nD → PrngReg), Pre_GateDxReferenceIdeal m →
    θ_run (Cert.GateDxReferenceIdeal.defs (F := Ideal)) (onTc (τ := Cert.GateDxReferenceIdeal.τ) (Cert.GateDxReferenceIdeal.main (F := Ideal))) ⟨m, fun _ => 0, g⟩ (fun r => (∀ c : Dev Cert.GateDxReferenceIdeal.nD,
      r.2.mem ((c.tc : Thread Cert.GateDxReferenceIdeal.nD Cert.GateDxReferenceIdeal.τ).loc Cert.GateDxReferenceIdeal.main_arg0) = m ((c.tc : Thread Cert.GateDxReferenceIdeal.nD Cert.GateDxReferenceIdeal.τ).loc Cert.GateDxReferenceIdeal.main_arg0)
      ∧ r.2.mem ((c.tc : Thread Cert.GateDxReferenceIdeal.nD Cert.GateDxReferenceIdeal.τ).loc Cert.GateDxReferenceIdeal.main_arg1) = m ((c.tc : Thread Cert.GateDxReferenceIdeal.nD Cert.GateDxReferenceIdeal.τ).loc Cert.GateDxReferenceIdeal.main_arg1)
      ∧ r.2.mem ((c.tc : Thread Cert.GateDxReferenceIdeal.nD Cert.GateDxReferenceIdeal.τ).loc Cert.GateDxReferenceIdeal.main_arg2) = m ((c.tc : Thread Cert.GateDxReferenceIdeal.nD Cert.GateDxReferenceIdeal.τ).loc Cert.GateDxReferenceIdeal.main_arg2))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwReferenceIdeal [hGateDwReferenceIdeal : Cert.GateDwReferenceIdeal.Facts] : Prop :=
  ∀ (m : (ℓ : Loc Cert.GateDwReferenceIdeal.nD Cert.GateDwReferenceIdeal.τ Cert.GateDwReferenceIdeal.sig) → Buf (Elt Ideal) ℓ) (g : Dev Cert.GateDwReferenceIdeal.nD → PrngReg), Pre_GateDwReferenceIdeal m →
    θ_run (Cert.GateDwReferenceIdeal.defs (F := Ideal)) (onTc (τ := Cert.GateDwReferenceIdeal.τ) (Cert.GateDwReferenceIdeal.main (F := Ideal))) ⟨m, fun _ => 0, g⟩ (fun r => (∀ c : Dev Cert.GateDwReferenceIdeal.nD,
      r.2.mem ((c.tc : Thread Cert.GateDwReferenceIdeal.nD Cert.GateDwReferenceIdeal.τ).loc Cert.GateDwReferenceIdeal.main_arg0) = m ((c.tc : Thread Cert.GateDwReferenceIdeal.nD Cert.GateDwReferenceIdeal.τ).loc Cert.GateDwReferenceIdeal.main_arg0)
      ∧ r.2.mem ((c.tc : Thread Cert.GateDwReferenceIdeal.nD Cert.GateDwReferenceIdeal.τ).loc Cert.GateDwReferenceIdeal.main_arg1) = m ((c.tc : Thread Cert.GateDwReferenceIdeal.nD Cert.GateDwReferenceIdeal.τ).loc Cert.GateDwReferenceIdeal.main_arg1))
      ∧ r.2.sem = fun _ => 0)

def quiescent_BranchFwd [hBranchFwd : Cert.BranchFwd.Facts] : Prop :=
  ∀ (m : (ℓ : Loc Cert.BranchFwd.nD Cert.BranchFwd.τ Cert.BranchFwd.sig) → Buf (Elt Bits) ℓ) (g : Dev Cert.BranchFwd.nD → PrngReg), Pre_BranchFwd m →
    θ_run (Cert.BranchFwd.defs (F := Bits)) (onTc (τ := Cert.BranchFwd.τ) (Cert.BranchFwd.main (F := Bits))) ⟨m, fun _ => 0, g⟩ (fun r => (∀ c : Dev Cert.BranchFwd.nD,
      r.2.mem ((c.tc : Thread Cert.BranchFwd.nD Cert.BranchFwd.τ).loc Cert.BranchFwd.main_arg0) = m ((c.tc : Thread Cert.BranchFwd.nD Cert.BranchFwd.τ).loc Cert.BranchFwd.main_arg0)
      ∧ r.2.mem ((c.tc : Thread Cert.BranchFwd.nD Cert.BranchFwd.τ).loc Cert.BranchFwd.main_arg1) = m ((c.tc : Thread Cert.BranchFwd.nD Cert.BranchFwd.τ).loc Cert.BranchFwd.main_arg1))
      ∧ r.2.sem = fun _ => 0)

def quiescent_BranchFwdIdeal [hBranchFwdIdeal : Cert.BranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg), Pre_BranchFwdIdeal m →
    θ_run (Cert.BranchFwdIdeal.defs (F := Ideal)) (onTc (τ := Cert.BranchFwdIdeal.τ) (Cert.BranchFwdIdeal.main (F := Ideal))) ⟨m, fun _ => 0, g⟩ (fun r => (∀ c : Dev Cert.BranchFwdIdeal.nD,
      r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
      ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ r.2.sem = fun _ => 0)

def quiescent_BranchFwdReferenceIdeal [hBranchFwdReferenceIdeal : Cert.BranchFwdReferenceIdeal.Facts] : Prop :=
  ∀ (m : (ℓ : Loc Cert.BranchFwdReferenceIdeal.nD Cert.BranchFwdReferenceIdeal.τ Cert.BranchFwdReferenceIdeal.sig) → Buf (Elt Ideal) ℓ) (g : Dev Cert.BranchFwdReferenceIdeal.nD → PrngReg), Pre_BranchFwdReferenceIdeal m →
    θ_run (Cert.BranchFwdReferenceIdeal.defs (F := Ideal)) (onTc (τ := Cert.BranchFwdReferenceIdeal.τ) (Cert.BranchFwdReferenceIdeal.main (F := Ideal))) ⟨m, fun _ => 0, g⟩ (fun r => (∀ c : Dev Cert.BranchFwdReferenceIdeal.nD,
      r.2.mem ((c.tc : Thread Cert.BranchFwdReferenceIdeal.nD Cert.BranchFwdReferenceIdeal.τ).loc Cert.BranchFwdReferenceIdeal.main_arg0) = m ((c.tc : Thread Cert.BranchFwdReferenceIdeal.nD Cert.BranchFwdReferenceIdeal.τ).loc Cert.BranchFwdReferenceIdeal.main_arg0)
      ∧ r.2.mem ((c.tc : Thread Cert.BranchFwdReferenceIdeal.nD Cert.BranchFwdReferenceIdeal.τ).loc Cert.BranchFwdReferenceIdeal.main_arg1) = m ((c.tc : Thread Cert.BranchFwdReferenceIdeal.nD Cert.BranchFwdReferenceIdeal.τ).loc Cert.BranchFwdReferenceIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxReferenceIdeal [hBranchDxReferenceIdeal : Cert.BranchDxReferenceIdeal.Facts] : Prop :=
  ∀ (m : (ℓ : Loc Cert.BranchDxReferenceIdeal.nD Cert.BranchDxReferenceIdeal.τ Cert.BranchDxReferenceIdeal.sig) → Buf (Elt Ideal) ℓ) (g : Dev Cert.BranchDxReferenceIdeal.nD → PrngReg), Pre_BranchDxReferenceIdeal m →
    θ_run (Cert.BranchDxReferenceIdeal.defs (F := Ideal)) (onTc (τ := Cert.BranchDxReferenceIdeal.τ) (Cert.BranchDxReferenceIdeal.main (F := Ideal))) ⟨m, fun _ => 0, g⟩ (fun r => (∀ c : Dev Cert.BranchDxReferenceIdeal.nD,
      r.2.mem ((c.tc : Thread Cert.BranchDxReferenceIdeal.nD Cert.BranchDxReferenceIdeal.τ).loc Cert.BranchDxReferenceIdeal.main_arg0) = m ((c.tc : Thread Cert.BranchDxReferenceIdeal.nD Cert.BranchDxReferenceIdeal.τ).loc Cert.BranchDxReferenceIdeal.main_arg0)
      ∧ r.2.mem ((c.tc : Thread Cert.BranchDxReferenceIdeal.nD Cert.BranchDxReferenceIdeal.τ).loc Cert.BranchDxReferenceIdeal.main_arg1) = m ((c.tc : Thread Cert.BranchDxReferenceIdeal.nD Cert.BranchDxReferenceIdeal.τ).loc Cert.BranchDxReferenceIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwReferenceIdeal [hBranchDwReferenceIdeal : Cert.BranchDwReferenceIdeal.Facts] : Prop :=
  ∀ (m : (ℓ : Loc Cert.BranchDwReferenceIdeal.nD Cert.BranchDwReferenceIdeal.τ Cert.BranchDwReferenceIdeal.sig) → Buf (Elt Ideal) ℓ) (g : Dev Cert.BranchDwReferenceIdeal.nD → PrngReg), Pre_BranchDwReferenceIdeal m →
    θ_run (Cert.BranchDwReferenceIdeal.defs (F := Ideal)) (onTc (τ := Cert.BranchDwReferenceIdeal.τ) (Cert.BranchDwReferenceIdeal.main (F := Ideal))) ⟨m, fun _ => 0, g⟩ (fun r => (∀ c : Dev Cert.BranchDwReferenceIdeal.nD,
      r.2.mem ((c.tc : Thread Cert.BranchDwReferenceIdeal.nD Cert.BranchDwReferenceIdeal.τ).loc Cert.BranchDwReferenceIdeal.main_arg0) = m ((c.tc : Thread Cert.BranchDwReferenceIdeal.nD Cert.BranchDwReferenceIdeal.τ).loc Cert.BranchDwReferenceIdeal.main_arg0)
      ∧ r.2.mem ((c.tc : Thread Cert.BranchDwReferenceIdeal.nD Cert.BranchDwReferenceIdeal.τ).loc Cert.BranchDwReferenceIdeal.main_arg1) = m ((c.tc : Thread Cert.BranchDwReferenceIdeal.nD Cert.BranchDwReferenceIdeal.τ).loc Cert.BranchDwReferenceIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdReferenceIdeal [hOutFwdReferenceIdeal : Cert.OutFwdReferenceIdeal.Facts] : Prop :=
  ∀ (m : (ℓ : Loc Cert.OutFwdReferenceIdeal.nD Cert.OutFwdReferenceIdeal.τ Cert.OutFwdReferenceIdeal.sig) → Buf (Elt Ideal) ℓ) (g : Dev Cert.OutFwdReferenceIdeal.nD → PrngReg), Pre_OutFwdReferenceIdeal m →
    θ_run (Cert.OutFwdReferenceIdeal.defs (F := Ideal)) (onTc (τ := Cert.OutFwdReferenceIdeal.τ) (Cert.OutFwdReferenceIdeal.main (F := Ideal))) ⟨m, fun _ => 0, g⟩ (fun r => (∀ c : Dev Cert.OutFwdReferenceIdeal.nD,
      r.2.mem ((c.tc : Thread Cert.OutFwdReferenceIdeal.nD Cert.OutFwdReferenceIdeal.τ).loc Cert.OutFwdReferenceIdeal.main_arg0) = m ((c.tc : Thread Cert.OutFwdReferenceIdeal.nD Cert.OutFwdReferenceIdeal.τ).loc Cert.OutFwdReferenceIdeal.main_arg0)
      ∧ r.2.mem ((c.tc : Thread Cert.OutFwdReferenceIdeal.nD Cert.OutFwdReferenceIdeal.τ).loc Cert.OutFwdReferenceIdeal.main_arg1) = m ((c.tc : Thread Cert.OutFwdReferenceIdeal.nD Cert.OutFwdReferenceIdeal.τ).loc Cert.OutFwdReferenceIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ r.2.sem = fun _ => 0)

def quiescent_GluFwdReferenceIdeal [hGluFwdReferenceIdeal : Cert.GluFwdReferenceIdeal.Facts] : Prop :=
  ∀ (m : (ℓ : Loc Cert.GluFwdReferenceIdeal.nD Cert.GluFwdReferenceIdeal.τ Cert.GluFwdReferenceIdeal.sig) → Buf (Elt Ideal) ℓ) (g : Dev Cert.GluFwdReferenceIdeal.nD → PrngReg), Pre_GluFwdReferenceIdeal m →
    θ_run (Cert.GluFwdReferenceIdeal.defs (F := Ideal)) (onTc (τ := Cert.GluFwdReferenceIdeal.τ) (Cert.GluFwdReferenceIdeal.main (F := Ideal))) ⟨m, fun _ => 0, g⟩ (fun r => (∀ c : Dev Cert.GluFwdReferenceIdeal.nD,
      r.2.mem ((c.tc : Thread Cert.GluFwdReferenceIdeal.nD Cert.GluFwdReferenceIdeal.τ).loc Cert.GluFwdReferenceIdeal.main_arg0) = m ((c.tc : Thread Cert.GluFwdReferenceIdeal.nD Cert.GluFwdReferenceIdeal.τ).loc Cert.GluFwdReferenceIdeal.main_arg0)
      ∧ r.2.mem ((c.tc : Thread Cert.GluFwdReferenceIdeal.nD Cert.GluFwdReferenceIdeal.τ).loc Cert.GluFwdReferenceIdeal.main_arg1) = m ((c.tc : Thread Cert.GluFwdReferenceIdeal.nD Cert.GluFwdReferenceIdeal.τ).loc Cert.GluFwdReferenceIdeal.main_arg1))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ r.2.sem = fun _ => 0)

def quiescent_GluDxReferenceIdeal [hGluDxReferenceIdeal : Cert.GluDxReferenceIdeal.Facts] : Prop :=
  ∀ (m : (ℓ : Loc Cert.GluDxReferenceIdeal.nD Cert.GluDxReferenceIdeal.τ Cert.GluDxReferenceIdeal.sig) → Buf (Elt Ideal) ℓ) (g : Dev Cert.GluDxReferenceIdeal.nD → PrngReg), Pre_GluDxReferenceIdeal m →
    θ_run (Cert.GluDxReferenceIdeal.defs (F := Ideal)) (onTc (τ := Cert.GluDxReferenceIdeal.τ) (Cert.GluDxReferenceIdeal.main (F := Ideal))) ⟨m, fun _ => 0, g⟩ (fun r => (∀ c : Dev Cert.GluDxReferenceIdeal.nD,
      r.2.mem ((c.tc : Thread Cert.GluDxReferenceIdeal.nD Cert.GluDxReferenceIdeal.τ).loc Cert.GluDxReferenceIdeal.main_arg0) = m ((c.tc : Thread Cert.GluDxReferenceIdeal.nD Cert.GluDxReferenceIdeal.τ).loc Cert.GluDxReferenceIdeal.main_arg0)
      ∧ r.2.mem ((c.tc : Thread Cert.GluDxReferenceIdeal.nD Cert.GluDxReferenceIdeal.τ).loc Cert.GluDxReferenceIdeal.main_arg1) = m ((c.tc : Thread Cert.GluDxReferenceIdeal.nD Cert.GluDxReferenceIdeal.τ).loc Cert.GluDxReferenceIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwReferenceIdeal [hGluDwReferenceIdeal : Cert.GluDwReferenceIdeal.Facts] : Prop :=
  ∀ (m : (ℓ : Loc Cert.GluDwReferenceIdeal.nD Cert.GluDwReferenceIdeal.τ Cert.GluDwReferenceIdeal.sig) → Buf (Elt Ideal) ℓ) (g : Dev Cert.GluDwReferenceIdeal.nD → PrngReg), Pre_GluDwReferenceIdeal m →
    θ_run (Cert.GluDwReferenceIdeal.defs (F := Ideal)) (onTc (τ := Cert.GluDwReferenceIdeal.τ) (Cert.GluDwReferenceIdeal.main (F := Ideal))) ⟨m, fun _ => 0, g⟩ (fun r => (∀ c : Dev Cert.GluDwReferenceIdeal.nD,
      r.2.mem ((c.tc : Thread Cert.GluDwReferenceIdeal.nD Cert.GluDwReferenceIdeal.τ).loc Cert.GluDwReferenceIdeal.main_arg0) = m ((c.tc : Thread Cert.GluDwReferenceIdeal.nD Cert.GluDwReferenceIdeal.τ).loc Cert.GluDwReferenceIdeal.main_arg0)
      ∧ r.2.mem ((c.tc : Thread Cert.GluDwReferenceIdeal.nD Cert.GluDwReferenceIdeal.τ).loc Cert.GluDwReferenceIdeal.main_arg1) = m ((c.tc : Thread Cert.GluDwReferenceIdeal.nD Cert.GluDwReferenceIdeal.τ).loc Cert.GluDwReferenceIdeal.main_arg1))
      ∧ r.2.sem = fun _ => 0)

def quiescent_SplitFwd [hSplitFwd : Cert.SplitFwd.Facts] : Prop :=
  ∀ (m : (ℓ : Loc Cert.SplitFwd.nD Cert.SplitFwd.τ Cert.SplitFwd.sig) → Buf (Elt Bits) ℓ) (g : Dev Cert.SplitFwd.nD → PrngReg), Pre_SplitFwd m →
    θ_run (Cert.SplitFwd.defs (F := Bits)) (onTc (τ := Cert.SplitFwd.τ) (Cert.SplitFwd.main (F := Bits))) ⟨m, fun _ => 0, g⟩ (fun r => (∀ c : Dev Cert.SplitFwd.nD,
      r.2.mem ((c.tc : Thread Cert.SplitFwd.nD Cert.SplitFwd.τ).loc Cert.SplitFwd.main_arg0) = m ((c.tc : Thread Cert.SplitFwd.nD Cert.SplitFwd.τ).loc Cert.SplitFwd.main_arg0)
      ∧ r.2.mem ((c.tc : Thread Cert.SplitFwd.nD Cert.SplitFwd.τ).loc Cert.SplitFwd.main_arg1) = m ((c.tc : Thread Cert.SplitFwd.nD Cert.SplitFwd.τ).loc Cert.SplitFwd.main_arg1))
      ∧ r.2.sem = fun _ => 0)

def quiescent_SplitFwdIdeal [hSplitFwdIdeal : Cert.SplitFwdIdeal.Facts] : Prop :=
  ∀ (m : (ℓ : Loc Cert.SplitFwdIdeal.nD Cert.SplitFwdIdeal.τ Cert.SplitFwdIdeal.sig) → Buf (Elt Ideal) ℓ) (g : Dev Cert.SplitFwdIdeal.nD → PrngReg), Pre_SplitFwdIdeal m →
    θ_run (Cert.SplitFwdIdeal.defs (F := Ideal)) (onTc (τ := Cert.SplitFwdIdeal.τ) (Cert.SplitFwdIdeal.main (F := Ideal))) ⟨m, fun _ => 0, g⟩ (fun r => (∀ c : Dev Cert.SplitFwdIdeal.nD,
      r.2.mem ((c.tc : Thread Cert.SplitFwdIdeal.nD Cert.SplitFwdIdeal.τ).loc Cert.SplitFwdIdeal.main_arg0) = m ((c.tc : Thread Cert.SplitFwdIdeal.nD Cert.SplitFwdIdeal.τ).loc Cert.SplitFwdIdeal.main_arg0)
      ∧ r.2.mem ((c.tc : Thread Cert.SplitFwdIdeal.nD Cert.SplitFwdIdeal.τ).loc Cert.SplitFwdIdeal.main_arg1) = m ((c.tc : Thread Cert.SplitFwdIdeal.nD Cert.SplitFwdIdeal.τ).loc Cert.SplitFwdIdeal.main_arg1))
      ∧ r.2.sem = fun _ => 0)

def quiescent_SplitFwdReferenceIdeal [hSplitFwdReferenceIdeal : Cert.SplitFwdReferenceIdeal.Facts] : Prop :=
  ∀ (m : (ℓ : Loc Cert.SplitFwdReferenceIdeal.nD Cert.SplitFwdReferenceIdeal.τ Cert.SplitFwdReferenceIdeal.sig) → Buf (Elt Ideal) ℓ) (g : Dev Cert.SplitFwdReferenceIdeal.nD → PrngReg), Pre_SplitFwdReferenceIdeal m →
    θ_run (Cert.SplitFwdReferenceIdeal.defs (F := Ideal)) (onTc (τ := Cert.SplitFwdReferenceIdeal.τ) (Cert.SplitFwdReferenceIdeal.main (F := Ideal))) ⟨m, fun _ => 0, g⟩ (fun r => (∀ c : Dev Cert.SplitFwdReferenceIdeal.nD,
      r.2.mem ((c.tc : Thread Cert.SplitFwdReferenceIdeal.nD Cert.SplitFwdReferenceIdeal.τ).loc Cert.SplitFwdReferenceIdeal.main_arg0) = m ((c.tc : Thread Cert.SplitFwdReferenceIdeal.nD Cert.SplitFwdReferenceIdeal.τ).loc Cert.SplitFwdReferenceIdeal.main_arg0)
      ∧ r.2.mem ((c.tc : Thread Cert.SplitFwdReferenceIdeal.nD Cert.SplitFwdReferenceIdeal.τ).loc Cert.SplitFwdReferenceIdeal.main_arg1) = m ((c.tc : Thread Cert.SplitFwdReferenceIdeal.nD Cert.SplitFwdReferenceIdeal.τ).loc Cert.SplitFwdReferenceIdeal.main_arg1))
      ∧ r.2.sem = fun _ => 0)

def quiescent_SplitDx [hSplitDx : Cert.SplitDx.Facts] : Prop :=
  ∀ (m : (ℓ : Loc Cert.SplitDx.nD Cert.SplitDx.τ Cert.SplitDx.sig) → Buf (Elt Bits) ℓ) (g : Dev Cert.SplitDx.nD → PrngReg), Pre_SplitDx m →
    θ_run (Cert.SplitDx.defs (F := Bits)) (onTc (τ := Cert.SplitDx.τ) (Cert.SplitDx.main (F := Bits))) ⟨m, fun _ => 0, g⟩ (fun r => (∀ c : Dev Cert.SplitDx.nD,
      r.2.mem ((c.tc : Thread Cert.SplitDx.nD Cert.SplitDx.τ).loc Cert.SplitDx.main_arg0) = m ((c.tc : Thread Cert.SplitDx.nD Cert.SplitDx.τ).loc Cert.SplitDx.main_arg0)
      ∧ r.2.mem ((c.tc : Thread Cert.SplitDx.nD Cert.SplitDx.τ).loc Cert.SplitDx.main_arg1) = m ((c.tc : Thread Cert.SplitDx.nD Cert.SplitDx.τ).loc Cert.SplitDx.main_arg1)
      ∧ r.2.mem ((c.tc : Thread Cert.SplitDx.nD Cert.SplitDx.τ).loc Cert.SplitDx.main_arg2) = m ((c.tc : Thread Cert.SplitDx.nD Cert.SplitDx.τ).loc Cert.SplitDx.main_arg2)
      ∧ r.2.mem ((c.tc : Thread Cert.SplitDx.nD Cert.SplitDx.τ).loc Cert.SplitDx.main_arg3) = m ((c.tc : Thread Cert.SplitDx.nD Cert.SplitDx.τ).loc Cert.SplitDx.main_arg3)
      ∧ r.2.mem ((c.tc : Thread Cert.SplitDx.nD Cert.SplitDx.τ).loc Cert.SplitDx.main_arg4) = m ((c.tc : Thread Cert.SplitDx.nD Cert.SplitDx.τ).loc Cert.SplitDx.main_arg4)
      ∧ r.2.mem ((c.tc : Thread Cert.SplitDx.nD Cert.SplitDx.τ).loc Cert.SplitDx.main_arg5) = m ((c.tc : Thread Cert.SplitDx.nD Cert.SplitDx.τ).loc Cert.SplitDx.main_arg5)
      ∧ r.2.mem ((c.tc : Thread Cert.SplitDx.nD Cert.SplitDx.τ).loc Cert.SplitDx.main_arg6) = m ((c.tc : Thread Cert.SplitDx.nD Cert.SplitDx.τ).loc Cert.SplitDx.main_arg6)
      ∧ r.2.mem ((c.tc : Thread Cert.SplitDx.nD Cert.SplitDx.τ).loc Cert.SplitDx.main_arg7) = m ((c.tc : Thread Cert.SplitDx.nD Cert.SplitDx.τ).loc Cert.SplitDx.main_arg7)
      ∧ r.2.mem ((c.tc : Thread Cert.SplitDx.nD Cert.SplitDx.τ).loc Cert.SplitDx.main_arg8) = m ((c.tc : Thread Cert.SplitDx.nD Cert.SplitDx.τ).loc Cert.SplitDx.main_arg8))
      ∧ r.2.sem = fun _ => 0)

def quiescent_SplitDxIdeal [hSplitDxIdeal : Cert.SplitDxIdeal.Facts] : Prop :=
  ∀ (m : (ℓ : Loc Cert.SplitDxIdeal.nD Cert.SplitDxIdeal.τ Cert.SplitDxIdeal.sig) → Buf (Elt Ideal) ℓ) (g : Dev Cert.SplitDxIdeal.nD → PrngReg), Pre_SplitDxIdeal m →
    θ_run (Cert.SplitDxIdeal.defs (F := Ideal)) (onTc (τ := Cert.SplitDxIdeal.τ) (Cert.SplitDxIdeal.main (F := Ideal))) ⟨m, fun _ => 0, g⟩ (fun r => (∀ c : Dev Cert.SplitDxIdeal.nD,
      r.2.mem ((c.tc : Thread Cert.SplitDxIdeal.nD Cert.SplitDxIdeal.τ).loc Cert.SplitDxIdeal.main_arg0) = m ((c.tc : Thread Cert.SplitDxIdeal.nD Cert.SplitDxIdeal.τ).loc Cert.SplitDxIdeal.main_arg0)
      ∧ r.2.mem ((c.tc : Thread Cert.SplitDxIdeal.nD Cert.SplitDxIdeal.τ).loc Cert.SplitDxIdeal.main_arg1) = m ((c.tc : Thread Cert.SplitDxIdeal.nD Cert.SplitDxIdeal.τ).loc Cert.SplitDxIdeal.main_arg1)
      ∧ r.2.mem ((c.tc : Thread Cert.SplitDxIdeal.nD Cert.SplitDxIdeal.τ).loc Cert.SplitDxIdeal.main_arg2) = m ((c.tc : Thread Cert.SplitDxIdeal.nD Cert.SplitDxIdeal.τ).loc Cert.SplitDxIdeal.main_arg2)
      ∧ r.2.mem ((c.tc : Thread Cert.SplitDxIdeal.nD Cert.SplitDxIdeal.τ).loc Cert.SplitDxIdeal.main_arg3) = m ((c.tc : Thread Cert.SplitDxIdeal.nD Cert.SplitDxIdeal.τ).loc Cert.SplitDxIdeal.main_arg3)
      ∧ r.2.mem ((c.tc : Thread Cert.SplitDxIdeal.nD Cert.SplitDxIdeal.τ).loc Cert.SplitDxIdeal.main_arg4) = m ((c.tc : Thread Cert.SplitDxIdeal.nD Cert.SplitDxIdeal.τ).loc Cert.SplitDxIdeal.main_arg4)
      ∧ r.2.mem ((c.tc : Thread Cert.SplitDxIdeal.nD Cert.SplitDxIdeal.τ).loc Cert.SplitDxIdeal.main_arg5) = m ((c.tc : Thread Cert.SplitDxIdeal.nD Cert.SplitDxIdeal.τ).loc Cert.SplitDxIdeal.main_arg5)
      ∧ r.2.mem ((c.tc : Thread Cert.SplitDxIdeal.nD Cert.SplitDxIdeal.τ).loc Cert.SplitDxIdeal.main_arg6) = m ((c.tc : Thread Cert.SplitDxIdeal.nD Cert.SplitDxIdeal.τ).loc Cert.SplitDxIdeal.main_arg6)
      ∧ r.2.mem ((c.tc : Thread Cert.SplitDxIdeal.nD Cert.SplitDxIdeal.τ).loc Cert.SplitDxIdeal.main_arg7) = m ((c.tc : Thread Cert.SplitDxIdeal.nD Cert.SplitDxIdeal.τ).loc Cert.SplitDxIdeal.main_arg7)
      ∧ r.2.mem ((c.tc : Thread Cert.SplitDxIdeal.nD Cert.SplitDxIdeal.τ).loc Cert.SplitDxIdeal.main_arg8) = m ((c.tc : Thread Cert.SplitDxIdeal.nD Cert.SplitDxIdeal.τ).loc Cert.SplitDxIdeal.main_arg8))
      ∧ r.2.sem = fun _ => 0)

def quiescent_SplitDxReferenceIdeal [hSplitDxReferenceIdeal : Cert.SplitDxReferenceIdeal.Facts] : Prop :=
  ∀ (m : (ℓ : Loc Cert.SplitDxReferenceIdeal.nD Cert.SplitDxReferenceIdeal.τ Cert.SplitDxReferenceIdeal.sig) → Buf (Elt Ideal) ℓ) (g : Dev Cert.SplitDxReferenceIdeal.nD → PrngReg), Pre_SplitDxReferenceIdeal m →
    θ_run (Cert.SplitDxReferenceIdeal.defs (F := Ideal)) (onTc (τ := Cert.SplitDxReferenceIdeal.τ) (Cert.SplitDxReferenceIdeal.main (F := Ideal))) ⟨m, fun _ => 0, g⟩ (fun r => (∀ c : Dev Cert.SplitDxReferenceIdeal.nD,
      r.2.mem ((c.tc : Thread Cert.SplitDxReferenceIdeal.nD Cert.SplitDxReferenceIdeal.τ).loc Cert.SplitDxReferenceIdeal.main_arg0) = m ((c.tc : Thread Cert.SplitDxReferenceIdeal.nD Cert.SplitDxReferenceIdeal.τ).loc Cert.SplitDxReferenceIdeal.main_arg0)
      ∧ r.2.mem ((c.tc : Thread Cert.SplitDxReferenceIdeal.nD Cert.SplitDxReferenceIdeal.τ).loc Cert.SplitDxReferenceIdeal.main_arg1) = m ((c.tc : Thread Cert.SplitDxReferenceIdeal.nD Cert.SplitDxReferenceIdeal.τ).loc Cert.SplitDxReferenceIdeal.main_arg1)
      ∧ r.2.mem ((c.tc : Thread Cert.SplitDxReferenceIdeal.nD Cert.SplitDxReferenceIdeal.τ).loc Cert.SplitDxReferenceIdeal.main_arg2) = m ((c.tc : Thread Cert.SplitDxReferenceIdeal.nD Cert.SplitDxReferenceIdeal.τ).loc Cert.SplitDxReferenceIdeal.main_arg2)
      ∧ r.2.mem ((c.tc : Thread Cert.SplitDxReferenceIdeal.nD Cert.SplitDxReferenceIdeal.τ).loc Cert.SplitDxReferenceIdeal.main_arg3) = m ((c.tc : Thread Cert.SplitDxReferenceIdeal.nD Cert.SplitDxReferenceIdeal.τ).loc Cert.SplitDxReferenceIdeal.main_arg3)
      ∧ r.2.mem ((c.tc : Thread Cert.SplitDxReferenceIdeal.nD Cert.SplitDxReferenceIdeal.τ).loc Cert.SplitDxReferenceIdeal.main_arg4) = m ((c.tc : Thread Cert.SplitDxReferenceIdeal.nD Cert.SplitDxReferenceIdeal.τ).loc Cert.SplitDxReferenceIdeal.main_arg4)
      ∧ r.2.mem ((c.tc : Thread Cert.SplitDxReferenceIdeal.nD Cert.SplitDxReferenceIdeal.τ).loc Cert.SplitDxReferenceIdeal.main_arg5) = m ((c.tc : Thread Cert.SplitDxReferenceIdeal.nD Cert.SplitDxReferenceIdeal.τ).loc Cert.SplitDxReferenceIdeal.main_arg5)
      ∧ r.2.mem ((c.tc : Thread Cert.SplitDxReferenceIdeal.nD Cert.SplitDxReferenceIdeal.τ).loc Cert.SplitDxReferenceIdeal.main_arg6) = m ((c.tc : Thread Cert.SplitDxReferenceIdeal.nD Cert.SplitDxReferenceIdeal.τ).loc Cert.SplitDxReferenceIdeal.main_arg6)
      ∧ r.2.mem ((c.tc : Thread Cert.SplitDxReferenceIdeal.nD Cert.SplitDxReferenceIdeal.τ).loc Cert.SplitDxReferenceIdeal.main_arg7) = m ((c.tc : Thread Cert.SplitDxReferenceIdeal.nD Cert.SplitDxReferenceIdeal.τ).loc Cert.SplitDxReferenceIdeal.main_arg7)
      ∧ r.2.mem ((c.tc : Thread Cert.SplitDxReferenceIdeal.nD Cert.SplitDxReferenceIdeal.τ).loc Cert.SplitDxReferenceIdeal.main_arg8) = m ((c.tc : Thread Cert.SplitDxReferenceIdeal.nD Cert.SplitDxReferenceIdeal.τ).loc Cert.SplitDxReferenceIdeal.main_arg8))
      ∧ r.2.sem = fun _ => 0)

def quiescent_SplitDw [hSplitDw : Cert.SplitDw.Facts] : Prop :=
  ∀ (m : (ℓ : Loc Cert.SplitDw.nD Cert.SplitDw.τ Cert.SplitDw.sig) → Buf (Elt Bits) ℓ) (g : Dev Cert.SplitDw.nD → PrngReg), Pre_SplitDw m →
    θ_run (Cert.SplitDw.defs (F := Bits)) (onTc (τ := Cert.SplitDw.τ) (Cert.SplitDw.main (F := Bits))) ⟨m, fun _ => 0, g⟩ (fun r => (∀ c : Dev Cert.SplitDw.nD,
      r.2.mem ((c.tc : Thread Cert.SplitDw.nD Cert.SplitDw.τ).loc Cert.SplitDw.main_arg0) = m ((c.tc : Thread Cert.SplitDw.nD Cert.SplitDw.τ).loc Cert.SplitDw.main_arg0)
      ∧ r.2.mem ((c.tc : Thread Cert.SplitDw.nD Cert.SplitDw.τ).loc Cert.SplitDw.main_arg1) = m ((c.tc : Thread Cert.SplitDw.nD Cert.SplitDw.τ).loc Cert.SplitDw.main_arg1)
      ∧ r.2.mem ((c.tc : Thread Cert.SplitDw.nD Cert.SplitDw.τ).loc Cert.SplitDw.main_arg2) = m ((c.tc : Thread Cert.SplitDw.nD Cert.SplitDw.τ).loc Cert.SplitDw.main_arg2)
      ∧ r.2.mem ((c.tc : Thread Cert.SplitDw.nD Cert.SplitDw.τ).loc Cert.SplitDw.main_arg3) = m ((c.tc : Thread Cert.SplitDw.nD Cert.SplitDw.τ).loc Cert.SplitDw.main_arg3)
      ∧ r.2.mem ((c.tc : Thread Cert.SplitDw.nD Cert.SplitDw.τ).loc Cert.SplitDw.main_arg4) = m ((c.tc : Thread Cert.SplitDw.nD Cert.SplitDw.τ).loc Cert.SplitDw.main_arg4)
      ∧ r.2.mem ((c.tc : Thread Cert.SplitDw.nD Cert.SplitDw.τ).loc Cert.SplitDw.main_arg5) = m ((c.tc : Thread Cert.SplitDw.nD Cert.SplitDw.τ).loc Cert.SplitDw.main_arg5)
      ∧ r.2.mem ((c.tc : Thread Cert.SplitDw.nD Cert.SplitDw.τ).loc Cert.SplitDw.main_arg6) = m ((c.tc : Thread Cert.SplitDw.nD Cert.SplitDw.τ).loc Cert.SplitDw.main_arg6)
      ∧ r.2.mem ((c.tc : Thread Cert.SplitDw.nD Cert.SplitDw.τ).loc Cert.SplitDw.main_arg7) = m ((c.tc : Thread Cert.SplitDw.nD Cert.SplitDw.τ).loc Cert.SplitDw.main_arg7)
      ∧ r.2.mem ((c.tc : Thread Cert.SplitDw.nD Cert.SplitDw.τ).loc Cert.SplitDw.main_arg8) = m ((c.tc : Thread Cert.SplitDw.nD Cert.SplitDw.τ).loc Cert.SplitDw.main_arg8))
      ∧ r.2.sem = fun _ => 0)

def quiescent_SplitDwIdeal [hSplitDwIdeal : Cert.SplitDwIdeal.Facts] : Prop :=
  ∀ (m : (ℓ : Loc Cert.SplitDwIdeal.nD Cert.SplitDwIdeal.τ Cert.SplitDwIdeal.sig) → Buf (Elt Ideal) ℓ) (g : Dev Cert.SplitDwIdeal.nD → PrngReg), Pre_SplitDwIdeal m →
    θ_run (Cert.SplitDwIdeal.defs (F := Ideal)) (onTc (τ := Cert.SplitDwIdeal.τ) (Cert.SplitDwIdeal.main (F := Ideal))) ⟨m, fun _ => 0, g⟩ (fun r => (∀ c : Dev Cert.SplitDwIdeal.nD,
      r.2.mem ((c.tc : Thread Cert.SplitDwIdeal.nD Cert.SplitDwIdeal.τ).loc Cert.SplitDwIdeal.main_arg0) = m ((c.tc : Thread Cert.SplitDwIdeal.nD Cert.SplitDwIdeal.τ).loc Cert.SplitDwIdeal.main_arg0)
      ∧ r.2.mem ((c.tc : Thread Cert.SplitDwIdeal.nD Cert.SplitDwIdeal.τ).loc Cert.SplitDwIdeal.main_arg1) = m ((c.tc : Thread Cert.SplitDwIdeal.nD Cert.SplitDwIdeal.τ).loc Cert.SplitDwIdeal.main_arg1)
      ∧ r.2.mem ((c.tc : Thread Cert.SplitDwIdeal.nD Cert.SplitDwIdeal.τ).loc Cert.SplitDwIdeal.main_arg2) = m ((c.tc : Thread Cert.SplitDwIdeal.nD Cert.SplitDwIdeal.τ).loc Cert.SplitDwIdeal.main_arg2)
      ∧ r.2.mem ((c.tc : Thread Cert.SplitDwIdeal.nD Cert.SplitDwIdeal.τ).loc Cert.SplitDwIdeal.main_arg3) = m ((c.tc : Thread Cert.SplitDwIdeal.nD Cert.SplitDwIdeal.τ).loc Cert.SplitDwIdeal.main_arg3)
      ∧ r.2.mem ((c.tc : Thread Cert.SplitDwIdeal.nD Cert.SplitDwIdeal.τ).loc Cert.SplitDwIdeal.main_arg4) = m ((c.tc : Thread Cert.SplitDwIdeal.nD Cert.SplitDwIdeal.τ).loc Cert.SplitDwIdeal.main_arg4)
      ∧ r.2.mem ((c.tc : Thread Cert.SplitDwIdeal.nD Cert.SplitDwIdeal.τ).loc Cert.SplitDwIdeal.main_arg5) = m ((c.tc : Thread Cert.SplitDwIdeal.nD Cert.SplitDwIdeal.τ).loc Cert.SplitDwIdeal.main_arg5)
      ∧ r.2.mem ((c.tc : Thread Cert.SplitDwIdeal.nD Cert.SplitDwIdeal.τ).loc Cert.SplitDwIdeal.main_arg6) = m ((c.tc : Thread Cert.SplitDwIdeal.nD Cert.SplitDwIdeal.τ).loc Cert.SplitDwIdeal.main_arg6)
      ∧ r.2.mem ((c.tc : Thread Cert.SplitDwIdeal.nD Cert.SplitDwIdeal.τ).loc Cert.SplitDwIdeal.main_arg7) = m ((c.tc : Thread Cert.SplitDwIdeal.nD Cert.SplitDwIdeal.τ).loc Cert.SplitDwIdeal.main_arg7)
      ∧ r.2.mem ((c.tc : Thread Cert.SplitDwIdeal.nD Cert.SplitDwIdeal.τ).loc Cert.SplitDwIdeal.main_arg8) = m ((c.tc : Thread Cert.SplitDwIdeal.nD Cert.SplitDwIdeal.τ).loc Cert.SplitDwIdeal.main_arg8))
      ∧ r.2.sem = fun _ => 0)

def quiescent_SplitDwReferenceIdeal [hSplitDwReferenceIdeal : Cert.SplitDwReferenceIdeal.Facts] : Prop :=
  ∀ (m : (ℓ : Loc Cert.SplitDwReferenceIdeal.nD Cert.SplitDwReferenceIdeal.τ Cert.SplitDwReferenceIdeal.sig) → Buf (Elt Ideal) ℓ) (g : Dev Cert.SplitDwReferenceIdeal.nD → PrngReg), Pre_SplitDwReferenceIdeal m →
    θ_run (Cert.SplitDwReferenceIdeal.defs (F := Ideal)) (onTc (τ := Cert.SplitDwReferenceIdeal.τ) (Cert.SplitDwReferenceIdeal.main (F := Ideal))) ⟨m, fun _ => 0, g⟩ (fun r => (∀ c : Dev Cert.SplitDwReferenceIdeal.nD,
      r.2.mem ((c.tc : Thread Cert.SplitDwReferenceIdeal.nD Cert.SplitDwReferenceIdeal.τ).loc Cert.SplitDwReferenceIdeal.main_arg0) = m ((c.tc : Thread Cert.SplitDwReferenceIdeal.nD Cert.SplitDwReferenceIdeal.τ).loc Cert.SplitDwReferenceIdeal.main_arg0)
      ∧ r.2.mem ((c.tc : Thread Cert.SplitDwReferenceIdeal.nD Cert.SplitDwReferenceIdeal.τ).loc Cert.SplitDwReferenceIdeal.main_arg1) = m ((c.tc : Thread Cert.SplitDwReferenceIdeal.nD Cert.SplitDwReferenceIdeal.τ).loc Cert.SplitDwReferenceIdeal.main_arg1)
      ∧ r.2.mem ((c.tc : Thread Cert.SplitDwReferenceIdeal.nD Cert.SplitDwReferenceIdeal.τ).loc Cert.SplitDwReferenceIdeal.main_arg2) = m ((c.tc : Thread Cert.SplitDwReferenceIdeal.nD Cert.SplitDwReferenceIdeal.τ).loc Cert.SplitDwReferenceIdeal.main_arg2)
      ∧ r.2.mem ((c.tc : Thread Cert.SplitDwReferenceIdeal.nD Cert.SplitDwReferenceIdeal.τ).loc Cert.SplitDwReferenceIdeal.main_arg3) = m ((c.tc : Thread Cert.SplitDwReferenceIdeal.nD Cert.SplitDwReferenceIdeal.τ).loc Cert.SplitDwReferenceIdeal.main_arg3)
      ∧ r.2.mem ((c.tc : Thread Cert.SplitDwReferenceIdeal.nD Cert.SplitDwReferenceIdeal.τ).loc Cert.SplitDwReferenceIdeal.main_arg4) = m ((c.tc : Thread Cert.SplitDwReferenceIdeal.nD Cert.SplitDwReferenceIdeal.τ).loc Cert.SplitDwReferenceIdeal.main_arg4)
      ∧ r.2.mem ((c.tc : Thread Cert.SplitDwReferenceIdeal.nD Cert.SplitDwReferenceIdeal.τ).loc Cert.SplitDwReferenceIdeal.main_arg5) = m ((c.tc : Thread Cert.SplitDwReferenceIdeal.nD Cert.SplitDwReferenceIdeal.τ).loc Cert.SplitDwReferenceIdeal.main_arg5)
      ∧ r.2.mem ((c.tc : Thread Cert.SplitDwReferenceIdeal.nD Cert.SplitDwReferenceIdeal.τ).loc Cert.SplitDwReferenceIdeal.main_arg6) = m ((c.tc : Thread Cert.SplitDwReferenceIdeal.nD Cert.SplitDwReferenceIdeal.τ).loc Cert.SplitDwReferenceIdeal.main_arg6)
      ∧ r.2.mem ((c.tc : Thread Cert.SplitDwReferenceIdeal.nD Cert.SplitDwReferenceIdeal.τ).loc Cert.SplitDwReferenceIdeal.main_arg7) = m ((c.tc : Thread Cert.SplitDwReferenceIdeal.nD Cert.SplitDwReferenceIdeal.τ).loc Cert.SplitDwReferenceIdeal.main_arg7)
      ∧ r.2.mem ((c.tc : Thread Cert.SplitDwReferenceIdeal.nD Cert.SplitDwReferenceIdeal.τ).loc Cert.SplitDwReferenceIdeal.main_arg8) = m ((c.tc : Thread Cert.SplitDwReferenceIdeal.nD Cert.SplitDwReferenceIdeal.τ).loc Cert.SplitDwReferenceIdeal.main_arg8))
      ∧ r.2.sem = fun _ => 0)

def quiescent_AdamSharded [hAdamSharded : Cert.AdamSharded.Facts] : Prop :=
  ∀ (m : (ℓ : Loc Cert.AdamSharded.nD Cert.AdamSharded.τ Cert.AdamSharded.sig) → Buf (Elt Bits) ℓ) (g : Dev Cert.AdamSharded.nD → PrngReg), Pre_AdamSharded m →
    θ_run (Cert.AdamSharded.defs (F := Bits)) (onTc (τ := Cert.AdamSharded.τ) (Cert.AdamSharded.main (F := Bits))) ⟨m, fun _ => 0, g⟩ (fun r => (∀ c : Dev Cert.AdamSharded.nD,
      r.2.mem ((c.tc : Thread Cert.AdamSharded.nD Cert.AdamSharded.τ).loc Cert.AdamSharded.main_arg0) = m ((c.tc : Thread Cert.AdamSharded.nD Cert.AdamSharded.τ).loc Cert.AdamSharded.main_arg0)
      ∧ r.2.mem ((c.tc : Thread Cert.AdamSharded.nD Cert.AdamSharded.τ).loc Cert.AdamSharded.main_arg1) = m ((c.tc : Thread Cert.AdamSharded.nD Cert.AdamSharded.τ).loc Cert.AdamSharded.main_arg1)
      ∧ r.2.mem ((c.tc : Thread Cert.AdamSharded.nD Cert.AdamSharded.τ).loc Cert.AdamSharded.main_arg2) = m ((c.tc : Thread Cert.AdamSharded.nD Cert.AdamSharded.τ).loc Cert.AdamSharded.main_arg2)
      ∧ r.2.mem ((c.tc : Thread Cert.AdamSharded.nD Cert.AdamSharded.τ).loc Cert.AdamSharded.main_arg3) = m ((c.tc : Thread Cert.AdamSharded.nD Cert.AdamSharded.τ).loc Cert.AdamSharded.main_arg3))
      ∧ r.2.sem = fun _ => 0)

def quiescent_AdamShardedIdeal [hAdamShardedIdeal : Cert.AdamShardedIdeal.Facts] : Prop :=
  ∀ (m : (ℓ : Loc Cert.AdamShardedIdeal.nD Cert.AdamShardedIdeal.τ Cert.AdamShardedIdeal.sig) → Buf (Elt Ideal) ℓ) (g : Dev Cert.AdamShardedIdeal.nD → PrngReg), Pre_AdamShardedIdeal m →
    θ_run (Cert.AdamShardedIdeal.defs (F := Ideal)) (onTc (τ := Cert.AdamShardedIdeal.τ) (Cert.AdamShardedIdeal.main (F := Ideal))) ⟨m, fun _ => 0, g⟩ (fun r => (∀ c : Dev Cert.AdamShardedIdeal.nD,
      r.2.mem ((c.tc : Thread Cert.AdamShardedIdeal.nD Cert.AdamShardedIdeal.τ).loc Cert.AdamShardedIdeal.main_arg0) = m ((c.tc : Thread Cert.AdamShardedIdeal.nD Cert.AdamShardedIdeal.τ).loc Cert.AdamShardedIdeal.main_arg0)
      ∧ r.2.mem ((c.tc : Thread Cert.AdamShardedIdeal.nD Cert.AdamShardedIdeal.τ).loc Cert.AdamShardedIdeal.main_arg1) = m ((c.tc : Thread Cert.AdamShardedIdeal.nD Cert.AdamShardedIdeal.τ).loc Cert.AdamShardedIdeal.main_arg1)
      ∧ r.2.mem ((c.tc : Thread Cert.AdamShardedIdeal.nD Cert.AdamShardedIdeal.τ).loc Cert.AdamShardedIdeal.main_arg2) = m ((c.tc : Thread Cert.AdamShardedIdeal.nD Cert.AdamShardedIdeal.τ).loc Cert.AdamShardedIdeal.main_arg2)
      ∧ r.2.mem ((c.tc : Thread Cert.AdamShardedIdeal.nD Cert.AdamShardedIdeal.τ).loc Cert.AdamShardedIdeal.main_arg3) = m ((c.tc : Thread Cert.AdamShardedIdeal.nD Cert.AdamShardedIdeal.τ).loc Cert.AdamShardedIdeal.main_arg3))
      ∧ r.2.sem = fun _ => 0)

def quiescent_AdamShardedReferenceIdeal [hAdamShardedReferenceIdeal : Cert.AdamShardedReferenceIdeal.Facts] : Prop :=
  ∀ (m : (ℓ : Loc Cert.AdamShardedReferenceIdeal.nD Cert.AdamShardedReferenceIdeal.τ Cert.AdamShardedReferenceIdeal.sig) → Buf (Elt Ideal) ℓ) (g : Dev Cert.AdamShardedReferenceIdeal.nD → PrngReg), Pre_AdamShardedReferenceIdeal m →
    θ_run (Cert.AdamShardedReferenceIdeal.defs (F := Ideal)) (onTc (τ := Cert.AdamShardedReferenceIdeal.τ) (Cert.AdamShardedReferenceIdeal.main (F := Ideal))) ⟨m, fun _ => 0, g⟩ (fun r => (∀ c : Dev Cert.AdamShardedReferenceIdeal.nD,
      r.2.mem ((c.tc : Thread Cert.AdamShardedReferenceIdeal.nD Cert.AdamShardedReferenceIdeal.τ).loc Cert.AdamShardedReferenceIdeal.main_arg0) = m ((c.tc : Thread Cert.AdamShardedReferenceIdeal.nD Cert.AdamShardedReferenceIdeal.τ).loc Cert.AdamShardedReferenceIdeal.main_arg0)
      ∧ r.2.mem ((c.tc : Thread Cert.AdamShardedReferenceIdeal.nD Cert.AdamShardedReferenceIdeal.τ).loc Cert.AdamShardedReferenceIdeal.main_arg1) = m ((c.tc : Thread Cert.AdamShardedReferenceIdeal.nD Cert.AdamShardedReferenceIdeal.τ).loc Cert.AdamShardedReferenceIdeal.main_arg1)
      ∧ r.2.mem ((c.tc : Thread Cert.AdamShardedReferenceIdeal.nD Cert.AdamShardedReferenceIdeal.τ).loc Cert.AdamShardedReferenceIdeal.main_arg2) = m ((c.tc : Thread Cert.AdamShardedReferenceIdeal.nD Cert.AdamShardedReferenceIdeal.τ).loc Cert.AdamShardedReferenceIdeal.main_arg2)
      ∧ r.2.mem ((c.tc : Thread Cert.AdamShardedReferenceIdeal.nD Cert.AdamShardedReferenceIdeal.τ).loc Cert.AdamShardedReferenceIdeal.main_arg3) = m ((c.tc : Thread Cert.AdamShardedReferenceIdeal.nD Cert.AdamShardedReferenceIdeal.τ).loc Cert.AdamShardedReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0))
      ∧ r.2.sem = fun _ => 0)

def quiescent_FfnActReferenceIdeal [hFfnActReferenceIdeal : Cert.FfnActReferenceIdeal.Facts] : Prop :=
  ∀ (m : (ℓ : Loc Cert.FfnActReferenceIdeal.nD Cert.FfnActReferenceIdeal.τ Cert.FfnActReferenceIdeal.sig) → Buf (Elt Ideal) ℓ) (g : Dev Cert.FfnActReferenceIdeal.nD → PrngReg), Pre_FfnActReferenceIdeal m →
    θ_run (Cert.FfnActReferenceIdeal.defs (F := Ideal)) (onTc (τ := Cert.FfnActReferenceIdeal.τ) (Cert.FfnActReferenceIdeal.main (F := Ideal))) ⟨m, fun _ => 0, g⟩ (fun r => (∀ c : Dev Cert.FfnActReferenceIdeal.nD,
      r.2.mem ((c.tc : Thread Cert.FfnActReferenceIdeal.nD Cert.FfnActReferenceIdeal.τ).loc Cert.FfnActReferenceIdeal.main_arg0) = m ((c.tc : Thread Cert.FfnActReferenceIdeal.nD Cert.FfnActReferenceIdeal.τ).loc Cert.FfnActReferenceIdeal.main_arg0))
      ∧ r.2.sem = fun _ => 0)

def quiescent_FfnActBwd [hFfnActBwd : Cert.FfnActBwd.Facts] : Prop :=
  ∀ (m : (ℓ : Loc Cert.FfnActBwd.nD Cert.FfnActBwd.τ Cert.FfnActBwd.sig) → Buf (Elt Bits) ℓ) (g : Dev Cert.FfnActBwd.nD → PrngReg), Pre_FfnActBwd m →
    θ_run (Cert.FfnActBwd.defs (F := Bits)) (onTc (τ := Cert.FfnActBwd.τ) (Cert.FfnActBwd.main (F := Bits))) ⟨m, fun _ => 0, g⟩ (fun r => (∀ c : Dev Cert.FfnActBwd.nD,
      r.2.mem ((c.tc : Thread Cert.FfnActBwd.nD Cert.FfnActBwd.τ).loc Cert.FfnActBwd.main_arg0) = m ((c.tc : Thread Cert.FfnActBwd.nD Cert.FfnActBwd.τ).loc Cert.FfnActBwd.main_arg0)
      ∧ r.2.mem ((c.tc : Thread Cert.FfnActBwd.nD Cert.FfnActBwd.τ).loc Cert.FfnActBwd.main_arg1) = m ((c.tc : Thread Cert.FfnActBwd.nD Cert.FfnActBwd.τ).loc Cert.FfnActBwd.main_arg1))
      ∧ r.2.sem = fun _ => 0)

def quiescent_FfnActBwdIdeal [hFfnActBwdIdeal : Cert.FfnActBwdIdeal.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg), Pre_FfnActBwdIdeal m →
    θ_run (Cert.FfnActBwdIdeal.defs (F := Ideal)) (onTc (τ := Cert.FfnActBwdIdeal.τ) (Cert.FfnActBwdIdeal.main (F := Ideal))) ⟨m, fun _ => 0, g⟩ (fun r => (∀ c : Dev Cert.FfnActBwdIdeal.nD,
      r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
      ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1))
      ∧ r.2.sem = fun _ => 0)

def quiescent_FfnActBwdReferenceIdeal [hFfnActBwdReferenceIdeal : Cert.FfnActBwdReferenceIdeal.Facts] : Prop :=
  ∀ (m : (ℓ : Loc Cert.FfnActBwdReferenceIdeal.nD Cert.FfnActBwdReferenceIdeal.τ Cert.FfnActBwdReferenceIdeal.sig) → Buf (Elt Ideal) ℓ) (g : Dev Cert.FfnActBwdReferenceIdeal.nD → PrngReg), Pre_FfnActBwdReferenceIdeal m →
    θ_run (Cert.FfnActBwdReferenceIdeal.defs (F := Ideal)) (onTc (τ := Cert.FfnActBwdReferenceIdeal.τ) (Cert.FfnActBwdReferenceIdeal.main (F := Ideal))) ⟨m, fun _ => 0, g⟩ (fun r => (∀ c : Dev Cert.FfnActBwdReferenceIdeal.nD,
      r.2.mem ((c.tc : Thread Cert.FfnActBwdReferenceIdeal.nD Cert.FfnActBwdReferenceIdeal.τ).loc Cert.FfnActBwdReferenceIdeal.main_arg0) = m ((c.tc : Thread Cert.FfnActBwdReferenceIdeal.nD Cert.FfnActBwdReferenceIdeal.τ).loc Cert.FfnActBwdReferenceIdeal.main_arg0)
      ∧ r.2.mem ((c.tc : Thread Cert.FfnActBwdReferenceIdeal.nD Cert.FfnActBwdReferenceIdeal.τ).loc Cert.FfnActBwdReferenceIdeal.main_arg1) = m ((c.tc : Thread Cert.FfnActBwdReferenceIdeal.nD Cert.FfnActBwdReferenceIdeal.τ).loc Cert.FfnActBwdReferenceIdeal.main_arg1))
      ∧ r.2.sem = fun _ => 0)

def quiescent_GluAct [hGluAct : Cert.GluAct.Facts] : Prop :=
  ∀ (m : (ℓ : Loc Cert.GluAct.nD Cert.GluAct.τ Cert.GluAct.sig) → Buf (Elt Bits) ℓ) (g : Dev Cert.GluAct.nD → PrngReg), Pre_GluAct m →
    θ_run (Cert.GluAct.defs (F := Bits)) (onTc (τ := Cert.GluAct.τ) (Cert.GluAct.main (F := Bits))) ⟨m, fun _ => 0, g⟩ (fun r => (∀ c : Dev Cert.GluAct.nD,
      r.2.mem ((c.tc : Thread Cert.GluAct.nD Cert.GluAct.τ).loc Cert.GluAct.main_arg0) = m ((c.tc : Thread Cert.GluAct.nD Cert.GluAct.τ).loc Cert.GluAct.main_arg0))
      ∧ r.2.sem = fun _ => 0)

def quiescent_GluActIdeal [hGluActIdeal : Cert.GluActIdeal.Facts] : Prop :=
  ∀ (m : (ℓ : Loc Cert.GluActIdeal.nD Cert.GluActIdeal.τ Cert.GluActIdeal.sig) → Buf (Elt Ideal) ℓ) (g : Dev Cert.GluActIdeal.nD → PrngReg), Pre_GluActIdeal m →
    θ_run (Cert.GluActIdeal.defs (F := Ideal)) (onTc (τ := Cert.GluActIdeal.τ) (Cert.GluActIdeal.main (F := Ideal))) ⟨m, fun _ => 0, g⟩ (fun r => (∀ c : Dev Cert.GluActIdeal.nD,
      r.2.mem ((c.tc : Thread Cert.GluActIdeal.nD Cert.GluActIdeal.τ).loc Cert.GluActIdeal.main_arg0) = m ((c.tc : Thread Cert.GluActIdeal.nD Cert.GluActIdeal.τ).loc Cert.GluActIdeal.main_arg0))
      ∧ r.2.sem = fun _ => 0)

def quiescent_GluActReferenceIdeal [hGluActReferenceIdeal : Cert.GluActReferenceIdeal.Facts] : Prop :=
  ∀ (m : (ℓ : Loc Cert.GluActReferenceIdeal.nD Cert.GluActReferenceIdeal.τ Cert.GluActReferenceIdeal.sig) → Buf (Elt Ideal) ℓ) (g : Dev Cert.GluActReferenceIdeal.nD → PrngReg), Pre_GluActReferenceIdeal m →
    θ_run (Cert.GluActReferenceIdeal.defs (F := Ideal)) (onTc (τ := Cert.GluActReferenceIdeal.τ) (Cert.GluActReferenceIdeal.main (F := Ideal))) ⟨m, fun _ => 0, g⟩ (fun r => (∀ c : Dev Cert.GluActReferenceIdeal.nD,
      r.2.mem ((c.tc : Thread Cert.GluActReferenceIdeal.nD Cert.GluActReferenceIdeal.τ).loc Cert.GluActReferenceIdeal.main_arg0) = m ((c.tc : Thread Cert.GluActReferenceIdeal.nD Cert.GluActReferenceIdeal.τ).loc Cert.GluActReferenceIdeal.main_arg0))
      ∧ r.2.sem = fun _ => 0)

def quiescent_GluActBwd [hGluActBwd : Cert.GluActBwd.Facts] : Prop :=
  ∀ (m : (ℓ : Loc Cert.GluActBwd.nD Cert.GluActBwd.τ Cert.GluActBwd.sig) → Buf (Elt Bits) ℓ) (g : Dev Cert.GluActBwd.nD → PrngReg), Pre_GluActBwd m →
    θ_run (Cert.GluActBwd.defs (F := Bits)) (onTc (τ := Cert.GluActBwd.τ) (Cert.GluActBwd.main (F := Bits))) ⟨m, fun _ => 0, g⟩ (fun r => (∀ c : Dev Cert.GluActBwd.nD,
      r.2.mem ((c.tc : Thread Cert.GluActBwd.nD Cert.GluActBwd.τ).loc Cert.GluActBwd.main_arg0) = m ((c.tc : Thread Cert.GluActBwd.nD Cert.GluActBwd.τ).loc Cert.GluActBwd.main_arg0)
      ∧ r.2.mem ((c.tc : Thread Cert.GluActBwd.nD Cert.GluActBwd.τ).loc Cert.GluActBwd.main_arg1) = m ((c.tc : Thread Cert.GluActBwd.nD Cert.GluActBwd.τ).loc Cert.GluActBwd.main_arg1))
      ∧ r.2.sem = fun _ => 0)

def quiescent_GluActBwdIdeal [hGluActBwdIdeal : Cert.GluActBwdIdeal.Facts] : Prop :=
  ∀ (m : (ℓ : Loc Cert.GluActBwdIdeal.nD Cert.GluActBwdIdeal.τ Cert.GluActBwdIdeal.sig) → Buf (Elt Ideal) ℓ) (g : Dev Cert.GluActBwdIdeal.nD → PrngReg), Pre_GluActBwdIdeal m →
    θ_run (Cert.GluActBwdIdeal.defs (F := Ideal)) (onTc (τ := Cert.GluActBwdIdeal.τ) (Cert.GluActBwdIdeal.main (F := Ideal))) ⟨m, fun _ => 0, g⟩ (fun r => (∀ c : Dev Cert.GluActBwdIdeal.nD,
      r.2.mem ((c.tc : Thread Cert.GluActBwdIdeal.nD Cert.GluActBwdIdeal.τ).loc Cert.GluActBwdIdeal.main_arg0) = m ((c.tc : Thread Cert.GluActBwdIdeal.nD Cert.GluActBwdIdeal.τ).loc Cert.GluActBwdIdeal.main_arg0)
      ∧ r.2.mem ((c.tc : Thread Cert.GluActBwdIdeal.nD Cert.GluActBwdIdeal.τ).loc Cert.GluActBwdIdeal.main_arg1) = m ((c.tc : Thread Cert.GluActBwdIdeal.nD Cert.GluActBwdIdeal.τ).loc Cert.GluActBwdIdeal.main_arg1))
      ∧ r.2.sem = fun _ => 0)

def quiescent_GluActBwdReferenceIdeal [hGluActBwdReferenceIdeal : Cert.GluActBwdReferenceIdeal.Facts] : Prop :=
  ∀ (m : (ℓ : Loc Cert.GluActBwdReferenceIdeal.nD Cert.GluActBwdReferenceIdeal.τ Cert.GluActBwdReferenceIdeal.sig) → Buf (Elt Ideal) ℓ) (g : Dev Cert.GluActBwdReferenceIdeal.nD → PrngReg), Pre_GluActBwdReferenceIdeal m →
    θ_run (Cert.GluActBwdReferenceIdeal.defs (F := Ideal)) (onTc (τ := Cert.GluActBwdReferenceIdeal.τ) (Cert.GluActBwdReferenceIdeal.main (F := Ideal))) ⟨m, fun _ => 0, g⟩ (fun r => (∀ c : Dev Cert.GluActBwdReferenceIdeal.nD,
      r.2.mem ((c.tc : Thread Cert.GluActBwdReferenceIdeal.nD Cert.GluActBwdReferenceIdeal.τ).loc Cert.GluActBwdReferenceIdeal.main_arg0) = m ((c.tc : Thread Cert.GluActBwdReferenceIdeal.nD Cert.GluActBwdReferenceIdeal.τ).loc Cert.GluActBwdReferenceIdeal.main_arg0)
      ∧ r.2.mem ((c.tc : Thread Cert.GluActBwdReferenceIdeal.nD Cert.GluActBwdReferenceIdeal.τ).loc Cert.GluActBwdReferenceIdeal.main_arg1) = m ((c.tc : Thread Cert.GluActBwdReferenceIdeal.nD Cert.GluActBwdReferenceIdeal.τ).loc Cert.GluActBwdReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_MergeBwdReferenceIdeal [hMergeBwdReferenceIdeal : Cert.MergeBwdReferenceIdeal.Facts] : Prop :=
  ∀ (m : (ℓ : Loc Cert.MergeBwdReferenceIdeal.nD Cert.MergeBwdReferenceIdeal.τ Cert.MergeBwdReferenceIdeal.sig) → Buf (Elt Ideal) ℓ) (g : Dev Cert.MergeBwdReferenceIdeal.nD → PrngReg), Pre_MergeBwdReferenceIdeal m →
    θ_run (Cert.MergeBwdReferenceIdeal.defs (F := Ideal)) (onTc (τ := Cert.MergeBwdReferenceIdeal.τ) (Cert.MergeBwdReferenceIdeal.main (F := Ideal))) ⟨m, fun _ => 0, g⟩ (fun r => (∀ c : Dev Cert.MergeBwdReferenceIdeal.nD,
      r.2.mem ((c.tc : Thread Cert.MergeBwdReferenceIdeal.nD Cert.MergeBwdReferenceIdeal.τ).loc Cert.MergeBwdReferenceIdeal.main_arg0) = m ((c.tc : Thread Cert.MergeBwdReferenceIdeal.nD Cert.MergeBwdReferenceIdeal.τ).loc Cert.MergeBwdReferenceIdeal.main_arg0)
      ∧ r.2.mem ((c.tc : Thread Cert.MergeBwdReferenceIdeal.nD Cert.MergeBwdReferenceIdeal.τ).loc Cert.MergeBwdReferenceIdeal.main_arg1) = m ((c.tc : Thread Cert.MergeBwdReferenceIdeal.nD Cert.MergeBwdReferenceIdeal.τ).loc Cert.MergeBwdReferenceIdeal.main_arg1)
      ∧ r.2.mem ((c.tc : Thread Cert.MergeBwdReferenceIdeal.nD Cert.MergeBwdReferenceIdeal.τ).loc Cert.MergeBwdReferenceIdeal.main_arg2) = m ((c.tc : Thread Cert.MergeBwdReferenceIdeal.nD Cert.MergeBwdReferenceIdeal.τ).loc Cert.MergeBwdReferenceIdeal.main_arg2)
      ∧ r.2.mem ((c.tc : Thread Cert.MergeBwdReferenceIdeal.nD Cert.MergeBwdReferenceIdeal.τ).loc Cert.MergeBwdReferenceIdeal.main_arg3) = m ((c.tc : Thread Cert.MergeBwdReferenceIdeal.nD Cert.MergeBwdReferenceIdeal.τ).loc Cert.MergeBwdReferenceIdeal.main_arg3)
      ∧ r.2.mem ((c.tc : Thread Cert.MergeBwdReferenceIdeal.nD Cert.MergeBwdReferenceIdeal.τ).loc Cert.MergeBwdReferenceIdeal.main_arg4) = m ((c.tc : Thread Cert.MergeBwdReferenceIdeal.nD Cert.MergeBwdReferenceIdeal.τ).loc Cert.MergeBwdReferenceIdeal.main_arg4)
      ∧ r.2.mem ((c.tc : Thread Cert.MergeBwdReferenceIdeal.nD Cert.MergeBwdReferenceIdeal.τ).loc Cert.MergeBwdReferenceIdeal.main_arg5) = m ((c.tc : Thread Cert.MergeBwdReferenceIdeal.nD Cert.MergeBwdReferenceIdeal.τ).loc Cert.MergeBwdReferenceIdeal.main_arg5))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1)
      ∧ r.2.mem ((c.tc : Thread Cert.FfnNorm.nD Cert.FfnNorm.τ).loc Cert.FfnNorm.main_arg2) = m ((c.tc : Thread Cert.FfnNorm.nD Cert.FfnNorm.τ).loc Cert.FfnNorm.main_arg2)
      ∧ r.2.mem ((c.tc : Thread Cert.FfnNorm.nD Cert.FfnNorm.τ).loc Cert.FfnNorm.main_arg3) = m ((c.tc : Thread Cert.FfnNorm.nD Cert.FfnNorm.τ).loc Cert.FfnNorm.main_arg3))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
      ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3))
      ∧ r.2.sem = fun _ => 0)

def quiescent_FfnNormReferenceIdeal [hFfnNormReferenceIdeal : Cert.FfnNormReferenceIdeal.Facts] : Prop :=
  ∀ (m : (ℓ : Loc Cert.FfnNormReferenceIdeal.nD Cert.FfnNormReferenceIdeal.τ Cert.FfnNormReferenceIdeal.sig) → Buf (Elt Ideal) ℓ) (g : Dev Cert.FfnNormReferenceIdeal.nD → PrngReg), Pre_FfnNormReferenceIdeal m →
    θ_run (Cert.FfnNormReferenceIdeal.defs (F := Ideal)) (onTc (τ := Cert.FfnNormReferenceIdeal.τ) (Cert.FfnNormReferenceIdeal.main (F := Ideal))) ⟨m, fun _ => 0, g⟩ (fun r => (∀ c : Dev Cert.FfnNormReferenceIdeal.nD,
      r.2.mem ((c.tc : Thread Cert.FfnNormReferenceIdeal.nD Cert.FfnNormReferenceIdeal.τ).loc Cert.FfnNormReferenceIdeal.main_arg0) = m ((c.tc : Thread Cert.FfnNormReferenceIdeal.nD Cert.FfnNormReferenceIdeal.τ).loc Cert.FfnNormReferenceIdeal.main_arg0)
      ∧ r.2.mem ((c.tc : Thread Cert.FfnNormReferenceIdeal.nD Cert.FfnNormReferenceIdeal.τ).loc Cert.FfnNormReferenceIdeal.main_arg1) = m ((c.tc : Thread Cert.FfnNormReferenceIdeal.nD Cert.FfnNormReferenceIdeal.τ).loc Cert.FfnNormReferenceIdeal.main_arg1)
      ∧ r.2.mem ((c.tc : Thread Cert.FfnNormReferenceIdeal.nD Cert.FfnNormReferenceIdeal.τ).loc Cert.FfnNormReferenceIdeal.main_arg2) = m ((c.tc : Thread Cert.FfnNormReferenceIdeal.nD Cert.FfnNormReferenceIdeal.τ).loc Cert.FfnNormReferenceIdeal.main_arg2)
      ∧ r.2.mem ((c.tc : Thread Cert.FfnNormReferenceIdeal.nD Cert.FfnNormReferenceIdeal.τ).loc Cert.FfnNormReferenceIdeal.main_arg3) = m ((c.tc : Thread Cert.FfnNormReferenceIdeal.nD Cert.FfnNormReferenceIdeal.τ).loc Cert.FfnNormReferenceIdeal.main_arg3))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_NormModReferenceIdeal [hNormModReferenceIdeal : Cert.NormModReferenceIdeal.Facts] : Prop :=
  ∀ (m : (ℓ : Loc Cert.NormModReferenceIdeal.nD Cert.NormModReferenceIdeal.τ Cert.NormModReferenceIdeal.sig) → Buf (Elt Ideal) ℓ) (g : Dev Cert.NormModReferenceIdeal.nD → PrngReg), Pre_NormModReferenceIdeal m →
    θ_run (Cert.NormModReferenceIdeal.defs (F := Ideal)) (onTc (τ := Cert.NormModReferenceIdeal.τ) (Cert.NormModReferenceIdeal.main (F := Ideal))) ⟨m, fun _ => 0, g⟩ (fun r => (∀ c : Dev Cert.NormModReferenceIdeal.nD,
      r.2.mem ((c.tc : Thread Cert.NormModReferenceIdeal.nD Cert.NormModReferenceIdeal.τ).loc Cert.NormModReferenceIdeal.main_arg0) = m ((c.tc : Thread Cert.NormModReferenceIdeal.nD Cert.NormModReferenceIdeal.τ).loc Cert.NormModReferenceIdeal.main_arg0)
      ∧ r.2.mem ((c.tc : Thread Cert.NormModReferenceIdeal.nD Cert.NormModReferenceIdeal.τ).loc Cert.NormModReferenceIdeal.main_arg1) = m ((c.tc : Thread Cert.NormModReferenceIdeal.nD Cert.NormModReferenceIdeal.τ).loc Cert.NormModReferenceIdeal.main_arg1)
      ∧ r.2.mem ((c.tc : Thread Cert.NormModReferenceIdeal.nD Cert.NormModReferenceIdeal.τ).loc Cert.NormModReferenceIdeal.main_arg2) = m ((c.tc : Thread Cert.NormModReferenceIdeal.nD Cert.NormModReferenceIdeal.τ).loc Cert.NormModReferenceIdeal.main_arg2)
      ∧ r.2.mem ((c.tc : Thread Cert.NormModReferenceIdeal.nD Cert.NormModReferenceIdeal.τ).loc Cert.NormModReferenceIdeal.main_arg3) = m ((c.tc : Thread Cert.NormModReferenceIdeal.nD Cert.NormModReferenceIdeal.τ).loc Cert.NormModReferenceIdeal.main_arg3))
      ∧ r.2.sem = fun _ => 0)

def quiescent_FfnResid [hFfnResid : Cert.FfnResid.Facts] : Prop :=
  ∀ (m : (ℓ : Loc Cert.FfnResid.nD Cert.FfnResid.τ Cert.FfnResid.sig) → Buf (Elt Bits) ℓ) (g : Dev Cert.FfnResid.nD → PrngReg), Pre_FfnResid m →
    θ_run (Cert.FfnResid.defs (F := Bits)) (onTc (τ := Cert.FfnResid.τ) (Cert.FfnResid.main (F := Bits))) ⟨m, fun _ => 0, g⟩ (fun r => (∀ c : Dev Cert.FfnResid.nD,
      r.2.mem ((c.tc : Thread Cert.FfnResid.nD Cert.FfnResid.τ).loc Cert.FfnResid.main_arg0) = m ((c.tc : Thread Cert.FfnResid.nD Cert.FfnResid.τ).loc Cert.FfnResid.main_arg0)
      ∧ r.2.mem ((c.tc : Thread Cert.FfnResid.nD Cert.FfnResid.τ).loc Cert.FfnResid.main_arg1) = m ((c.tc : Thread Cert.FfnResid.nD Cert.FfnResid.τ).loc Cert.FfnResid.main_arg1)
      ∧ r.2.mem ((c.tc : Thread Cert.FfnResid.nD Cert.FfnResid.τ).loc Cert.FfnResid.main_arg2) = m ((c.tc : Thread Cert.FfnResid.nD Cert.FfnResid.τ).loc Cert.FfnResid.main_arg2))
      ∧ r.2.sem = fun _ => 0)

def quiescent_FfnResidIdeal [hFfnResidIdeal : Cert.FfnResidIdeal.Facts] : Prop :=
  ∀ (m : (ℓ : Loc Cert.FfnResidIdeal.nD Cert.FfnResidIdeal.τ Cert.FfnResidIdeal.sig) → Buf (Elt Ideal) ℓ) (g : Dev Cert.FfnResidIdeal.nD → PrngReg), Pre_FfnResidIdeal m →
    θ_run (Cert.FfnResidIdeal.defs (F := Ideal)) (onTc (τ := Cert.FfnResidIdeal.τ) (Cert.FfnResidIdeal.main (F := Ideal))) ⟨m, fun _ => 0, g⟩ (fun r => (∀ c : Dev Cert.FfnResidIdeal.nD,
      r.2.mem ((c.tc : Thread Cert.FfnResidIdeal.nD Cert.FfnResidIdeal.τ).loc Cert.FfnResidIdeal.main_arg0) = m ((c.tc : Thread Cert.FfnResidIdeal.nD Cert.FfnResidIdeal.τ).loc Cert.FfnResidIdeal.main_arg0)
      ∧ r.2.mem ((c.tc : Thread Cert.FfnResidIdeal.nD Cert.FfnResidIdeal.τ).loc Cert.FfnResidIdeal.main_arg1) = m ((c.tc : Thread Cert.FfnResidIdeal.nD Cert.FfnResidIdeal.τ).loc Cert.FfnResidIdeal.main_arg1)
      ∧ r.2.mem ((c.tc : Thread Cert.FfnResidIdeal.nD Cert.FfnResidIdeal.τ).loc Cert.FfnResidIdeal.main_arg2) = m ((c.tc : Thread Cert.FfnResidIdeal.nD Cert.FfnResidIdeal.τ).loc Cert.FfnResidIdeal.main_arg2))
      ∧ r.2.sem = fun _ => 0)

def quiescent_FfnResidReferenceIdeal [hFfnResidReferenceIdeal : Cert.FfnResidReferenceIdeal.Facts] : Prop :=
  ∀ (m : (ℓ : Loc Cert.FfnResidReferenceIdeal.nD Cert.FfnResidReferenceIdeal.τ Cert.FfnResidReferenceIdeal.sig) → Buf (Elt Ideal) ℓ) (g : Dev Cert.FfnResidReferenceIdeal.nD → PrngReg), Pre_FfnResidReferenceIdeal m →
    θ_run (Cert.FfnResidReferenceIdeal.defs (F := Ideal)) (onTc (τ := Cert.FfnResidReferenceIdeal.τ) (Cert.FfnResidReferenceIdeal.main (F := Ideal))) ⟨m, fun _ => 0, g⟩ (fun r => (∀ c : Dev Cert.FfnResidReferenceIdeal.nD,
      r.2.mem ((c.tc : Thread Cert.FfnResidReferenceIdeal.nD Cert.FfnResidReferenceIdeal.τ).loc Cert.FfnResidReferenceIdeal.main_arg0) = m ((c.tc : Thread Cert.FfnResidReferenceIdeal.nD Cert.FfnResidReferenceIdeal.τ).loc Cert.FfnResidReferenceIdeal.main_arg0)
      ∧ r.2.mem ((c.tc : Thread Cert.FfnResidReferenceIdeal.nD Cert.FfnResidReferenceIdeal.τ).loc Cert.FfnResidReferenceIdeal.main_arg1) = m ((c.tc : Thread Cert.FfnResidReferenceIdeal.nD Cert.FfnResidReferenceIdeal.τ).loc Cert.FfnResidReferenceIdeal.main_arg1)
      ∧ r.2.mem ((c.tc : Thread Cert.FfnResidReferenceIdeal.nD Cert.FfnResidReferenceIdeal.τ).loc Cert.FfnResidReferenceIdeal.main_arg2) = m ((c.tc : Thread Cert.FfnResidReferenceIdeal.nD Cert.FfnResidReferenceIdeal.τ).loc Cert.FfnResidReferenceIdeal.main_arg2))
      ∧ r.2.sem = fun _ => 0)

def quiescent_ResidFull [hResidFull : Cert.ResidFull.Facts] : Prop :=
  ∀ (m : (ℓ : Loc Cert.ResidFull.nD Cert.ResidFull.τ Cert.ResidFull.sig) → Buf (Elt Bits) ℓ) (g : Dev Cert.ResidFull.nD → PrngReg), Pre_ResidFull m →
    θ_run (Cert.ResidFull.defs (F := Bits)) (onTc (τ := Cert.ResidFull.τ) (Cert.ResidFull.main (F := Bits))) ⟨m, fun _ => 0, g⟩ (fun r => (∀ c : Dev Cert.ResidFull.nD,
      r.2.mem ((c.tc : Thread Cert.ResidFull.nD Cert.ResidFull.τ).loc Cert.ResidFull.main_arg0) = m ((c.tc : Thread Cert.ResidFull.nD Cert.ResidFull.τ).loc Cert.ResidFull.main_arg0)
      ∧ r.2.mem ((c.tc : Thread Cert.ResidFull.nD Cert.ResidFull.τ).loc Cert.ResidFull.main_arg1) = m ((c.tc : Thread Cert.ResidFull.nD Cert.ResidFull.τ).loc Cert.ResidFull.main_arg1)
      ∧ r.2.mem ((c.tc : Thread Cert.ResidFull.nD Cert.ResidFull.τ).loc Cert.ResidFull.main_arg2) = m ((c.tc : Thread Cert.ResidFull.nD Cert.ResidFull.τ).loc Cert.ResidFull.main_arg2))
      ∧ r.2.sem = fun _ => 0)

def quiescent_ResidFullIdeal [hResidFullIdeal : Cert.ResidFullIdeal.Facts] : Prop :=
  ∀ (m : (ℓ : Loc Cert.ResidFullIdeal.nD Cert.ResidFullIdeal.τ Cert.ResidFullIdeal.sig) → Buf (Elt Ideal) ℓ) (g : Dev Cert.ResidFullIdeal.nD → PrngReg), Pre_ResidFullIdeal m →
    θ_run (Cert.ResidFullIdeal.defs (F := Ideal)) (onTc (τ := Cert.ResidFullIdeal.τ) (Cert.ResidFullIdeal.main (F := Ideal))) ⟨m, fun _ => 0, g⟩ (fun r => (∀ c : Dev Cert.ResidFullIdeal.nD,
      r.2.mem ((c.tc : Thread Cert.ResidFullIdeal.nD Cert.ResidFullIdeal.τ).loc Cert.ResidFullIdeal.main_arg0) = m ((c.tc : Thread Cert.ResidFullIdeal.nD Cert.ResidFullIdeal.τ).loc Cert.ResidFullIdeal.main_arg0)
      ∧ r.2.mem ((c.tc : Thread Cert.ResidFullIdeal.nD Cert.ResidFullIdeal.τ).loc Cert.ResidFullIdeal.main_arg1) = m ((c.tc : Thread Cert.ResidFullIdeal.nD Cert.ResidFullIdeal.τ).loc Cert.ResidFullIdeal.main_arg1)
      ∧ r.2.mem ((c.tc : Thread Cert.ResidFullIdeal.nD Cert.ResidFullIdeal.τ).loc Cert.ResidFullIdeal.main_arg2) = m ((c.tc : Thread Cert.ResidFullIdeal.nD Cert.ResidFullIdeal.τ).loc Cert.ResidFullIdeal.main_arg2))
      ∧ r.2.sem = fun _ => 0)

def quiescent_ResidFullReferenceIdeal [hResidFullReferenceIdeal : Cert.ResidFullReferenceIdeal.Facts] : Prop :=
  ∀ (m : (ℓ : Loc Cert.ResidFullReferenceIdeal.nD Cert.ResidFullReferenceIdeal.τ Cert.ResidFullReferenceIdeal.sig) → Buf (Elt Ideal) ℓ) (g : Dev Cert.ResidFullReferenceIdeal.nD → PrngReg), Pre_ResidFullReferenceIdeal m →
    θ_run (Cert.ResidFullReferenceIdeal.defs (F := Ideal)) (onTc (τ := Cert.ResidFullReferenceIdeal.τ) (Cert.ResidFullReferenceIdeal.main (F := Ideal))) ⟨m, fun _ => 0, g⟩ (fun r => (∀ c : Dev Cert.ResidFullReferenceIdeal.nD,
      r.2.mem ((c.tc : Thread Cert.ResidFullReferenceIdeal.nD Cert.ResidFullReferenceIdeal.τ).loc Cert.ResidFullReferenceIdeal.main_arg0) = m ((c.tc : Thread Cert.ResidFullReferenceIdeal.nD Cert.ResidFullReferenceIdeal.τ).loc Cert.ResidFullReferenceIdeal.main_arg0)
      ∧ r.2.mem ((c.tc : Thread Cert.ResidFullReferenceIdeal.nD Cert.ResidFullReferenceIdeal.τ).loc Cert.ResidFullReferenceIdeal.main_arg1) = m ((c.tc : Thread Cert.ResidFullReferenceIdeal.nD Cert.ResidFullReferenceIdeal.τ).loc Cert.ResidFullReferenceIdeal.main_arg1)
      ∧ r.2.mem ((c.tc : Thread Cert.ResidFullReferenceIdeal.nD Cert.ResidFullReferenceIdeal.τ).loc Cert.ResidFullReferenceIdeal.main_arg2) = m ((c.tc : Thread Cert.ResidFullReferenceIdeal.nD Cert.ResidFullReferenceIdeal.τ).loc Cert.ResidFullReferenceIdeal.main_arg2))
      ∧ r.2.sem = fun _ => 0)

def quiescent_PoolScale [hPoolScale : Cert.PoolScale.Facts] : Prop :=
  ∀ (m : (ℓ : Loc Cert.PoolScale.nD Cert.PoolScale.τ Cert.PoolScale.sig) → Buf (Elt Bits) ℓ) (g : Dev Cert.PoolScale.nD → PrngReg), Pre_PoolScale m →
    θ_run (Cert.PoolScale.defs (F := Bits)) (onTc (τ := Cert.PoolScale.τ) (Cert.PoolScale.main (F := Bits))) ⟨m, fun _ => 0, g⟩ (fun r => (∀ c : Dev Cert.PoolScale.nD,
      r.2.mem ((c.tc : Thread Cert.PoolScale.nD Cert.PoolScale.τ).loc Cert.PoolScale.main_arg0) = m ((c.tc : Thread Cert.PoolScale.nD Cert.PoolScale.τ).loc Cert.PoolScale.main_arg0)
      ∧ r.2.mem ((c.tc : Thread Cert.PoolScale.nD Cert.PoolScale.τ).loc Cert.PoolScale.main_arg1) = m ((c.tc : Thread Cert.PoolScale.nD Cert.PoolScale.τ).loc Cert.PoolScale.main_arg1))
      ∧ r.2.sem = fun _ => 0)

def quiescent_PoolScaleIdeal [hPoolScaleIdeal : Cert.PoolScaleIdeal.Facts] : Prop :=
  ∀ (m : (ℓ : Loc Cert.PoolScaleIdeal.nD Cert.PoolScaleIdeal.τ Cert.PoolScaleIdeal.sig) → Buf (Elt Ideal) ℓ) (g : Dev Cert.PoolScaleIdeal.nD → PrngReg), Pre_PoolScaleIdeal m →
    θ_run (Cert.PoolScaleIdeal.defs (F := Ideal)) (onTc (τ := Cert.PoolScaleIdeal.τ) (Cert.PoolScaleIdeal.main (F := Ideal))) ⟨m, fun _ => 0, g⟩ (fun r => (∀ c : Dev Cert.PoolScaleIdeal.nD,
      r.2.mem ((c.tc : Thread Cert.PoolScaleIdeal.nD Cert.PoolScaleIdeal.τ).loc Cert.PoolScaleIdeal.main_arg0) = m ((c.tc : Thread Cert.PoolScaleIdeal.nD Cert.PoolScaleIdeal.τ).loc Cert.PoolScaleIdeal.main_arg0)
      ∧ r.2.mem ((c.tc : Thread Cert.PoolScaleIdeal.nD Cert.PoolScaleIdeal.τ).loc Cert.PoolScaleIdeal.main_arg1) = m ((c.tc : Thread Cert.PoolScaleIdeal.nD Cert.PoolScaleIdeal.τ).loc Cert.PoolScaleIdeal.main_arg1))
      ∧ r.2.sem = fun _ => 0)

def quiescent_PoolScaleReferenceIdeal [hPoolScaleReferenceIdeal : Cert.PoolScaleReferenceIdeal.Facts] : Prop :=
  ∀ (m : (ℓ : Loc Cert.PoolScaleReferenceIdeal.nD Cert.PoolScaleReferenceIdeal.τ Cert.PoolScaleReferenceIdeal.sig) → Buf (Elt Ideal) ℓ) (g : Dev Cert.PoolScaleReferenceIdeal.nD → PrngReg), Pre_PoolScaleReferenceIdeal m →
    θ_run (Cert.PoolScaleReferenceIdeal.defs (F := Ideal)) (onTc (τ := Cert.PoolScaleReferenceIdeal.τ) (Cert.PoolScaleReferenceIdeal.main (F := Ideal))) ⟨m, fun _ => 0, g⟩ (fun r => (∀ c : Dev Cert.PoolScaleReferenceIdeal.nD,
      r.2.mem ((c.tc : Thread Cert.PoolScaleReferenceIdeal.nD Cert.PoolScaleReferenceIdeal.τ).loc Cert.PoolScaleReferenceIdeal.main_arg0) = m ((c.tc : Thread Cert.PoolScaleReferenceIdeal.nD Cert.PoolScaleReferenceIdeal.τ).loc Cert.PoolScaleReferenceIdeal.main_arg0)
      ∧ r.2.mem ((c.tc : Thread Cert.PoolScaleReferenceIdeal.nD Cert.PoolScaleReferenceIdeal.τ).loc Cert.PoolScaleReferenceIdeal.main_arg1) = m ((c.tc : Thread Cert.PoolScaleReferenceIdeal.nD Cert.PoolScaleReferenceIdeal.τ).loc Cert.PoolScaleReferenceIdeal.main_arg1))
      ∧ r.2.sem = fun _ => 0)

def quiescent_LossRows [hLossRows : Cert.LossRows.Facts] : Prop :=
  ∀ (m : (ℓ : Loc Cert.LossRows.nD Cert.LossRows.τ Cert.LossRows.sig) → Buf (Elt Bits) ℓ) (g : Dev Cert.LossRows.nD → PrngReg), Pre_LossRows m →
    θ_run (Cert.LossRows.defs (F := Bits)) (onTc (τ := Cert.LossRows.τ) (Cert.LossRows.main (F := Bits))) ⟨m, fun _ => 0, g⟩ (fun r => (∀ c : Dev Cert.LossRows.nD,
      r.2.mem ((c.tc : Thread Cert.LossRows.nD Cert.LossRows.τ).loc Cert.LossRows.main_arg0) = m ((c.tc : Thread Cert.LossRows.nD Cert.LossRows.τ).loc Cert.LossRows.main_arg0)
      ∧ r.2.mem ((c.tc : Thread Cert.LossRows.nD Cert.LossRows.τ).loc Cert.LossRows.main_arg1) = m ((c.tc : Thread Cert.LossRows.nD Cert.LossRows.τ).loc Cert.LossRows.main_arg1)
      ∧ r.2.mem ((c.tc : Thread Cert.LossRows.nD Cert.LossRows.τ).loc Cert.LossRows.main_arg2) = m ((c.tc : Thread Cert.LossRows.nD Cert.LossRows.τ).loc Cert.LossRows.main_arg2))
      ∧ r.2.sem = fun _ => 0)

def quiescent_LossRowsIdeal [hLossRowsIdeal : Cert.LossRowsIdeal.Facts] : Prop :=
  ∀ (m : (ℓ : Loc Cert.LossRowsIdeal.nD Cert.LossRowsIdeal.τ Cert.LossRowsIdeal.sig) → Buf (Elt Ideal) ℓ) (g : Dev Cert.LossRowsIdeal.nD → PrngReg), Pre_LossRowsIdeal m →
    θ_run (Cert.LossRowsIdeal.defs (F := Ideal)) (onTc (τ := Cert.LossRowsIdeal.τ) (Cert.LossRowsIdeal.main (F := Ideal))) ⟨m, fun _ => 0, g⟩ (fun r => (∀ c : Dev Cert.LossRowsIdeal.nD,
      r.2.mem ((c.tc : Thread Cert.LossRowsIdeal.nD Cert.LossRowsIdeal.τ).loc Cert.LossRowsIdeal.main_arg0) = m ((c.tc : Thread Cert.LossRowsIdeal.nD Cert.LossRowsIdeal.τ).loc Cert.LossRowsIdeal.main_arg0)
      ∧ r.2.mem ((c.tc : Thread Cert.LossRowsIdeal.nD Cert.LossRowsIdeal.τ).loc Cert.LossRowsIdeal.main_arg1) = m ((c.tc : Thread Cert.LossRowsIdeal.nD Cert.LossRowsIdeal.τ).loc Cert.LossRowsIdeal.main_arg1)
      ∧ r.2.mem ((c.tc : Thread Cert.LossRowsIdeal.nD Cert.LossRowsIdeal.τ).loc Cert.LossRowsIdeal.main_arg2) = m ((c.tc : Thread Cert.LossRowsIdeal.nD Cert.LossRowsIdeal.τ).loc Cert.LossRowsIdeal.main_arg2))
      ∧ r.2.sem = fun _ => 0)

def quiescent_LossRowsReferenceIdeal [hLossRowsReferenceIdeal : Cert.LossRowsReferenceIdeal.Facts] : Prop :=
  ∀ (m : (ℓ : Loc Cert.LossRowsReferenceIdeal.nD Cert.LossRowsReferenceIdeal.τ Cert.LossRowsReferenceIdeal.sig) → Buf (Elt Ideal) ℓ) (g : Dev Cert.LossRowsReferenceIdeal.nD → PrngReg), Pre_LossRowsReferenceIdeal m →
    θ_run (Cert.LossRowsReferenceIdeal.defs (F := Ideal)) (onTc (τ := Cert.LossRowsReferenceIdeal.τ) (Cert.LossRowsReferenceIdeal.main (F := Ideal))) ⟨m, fun _ => 0, g⟩ (fun r => (∀ c : Dev Cert.LossRowsReferenceIdeal.nD,
      r.2.mem ((c.tc : Thread Cert.LossRowsReferenceIdeal.nD Cert.LossRowsReferenceIdeal.τ).loc Cert.LossRowsReferenceIdeal.main_arg0) = m ((c.tc : Thread Cert.LossRowsReferenceIdeal.nD Cert.LossRowsReferenceIdeal.τ).loc Cert.LossRowsReferenceIdeal.main_arg0)
      ∧ r.2.mem ((c.tc : Thread Cert.LossRowsReferenceIdeal.nD Cert.LossRowsReferenceIdeal.τ).loc Cert.LossRowsReferenceIdeal.main_arg1) = m ((c.tc : Thread Cert.LossRowsReferenceIdeal.nD Cert.LossRowsReferenceIdeal.τ).loc Cert.LossRowsReferenceIdeal.main_arg1)
      ∧ r.2.mem ((c.tc : Thread Cert.LossRowsReferenceIdeal.nD Cert.LossRowsReferenceIdeal.τ).loc Cert.LossRowsReferenceIdeal.main_arg2) = m ((c.tc : Thread Cert.LossRowsReferenceIdeal.nD Cert.LossRowsReferenceIdeal.τ).loc Cert.LossRowsReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_2)) (v2 : (c : Dev Cert.KernelIdeal.nD) → Buf (Elt Ideal) ((c.tc : Thread Cert.KernelIdeal.nD Cert.KernelIdeal.τ).loc Cert.KernelIdeal.main_v40_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_2) = v1 c
          ∧ r.2.mem ((c.tc : Thread Cert.KernelIdeal.nD Cert.KernelIdeal.τ).loc Cert.KernelIdeal.main_v40_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v3) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v2) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1))

def preserves_FfnDownDx_FfnDownDxIdeal : Prop :=
  True

def algebraic_FfnDownDxIdeal_FfnDownDxReferenceIdeal [hFfnDownDxIdeal : Cert.FfnDownDxIdeal.Facts] [hFfnDownDxReferenceIdeal : Cert.FfnDownDxReferenceIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxReferenceIdeal.nD Cert.FfnDownDxReferenceIdeal.τ Cert.FfnDownDxReferenceIdeal.sig) → Buf (Elt Ideal) ℓ) (g' : Dev Cert.FfnDownDxReferenceIdeal.nD → PrngReg), Pre_FfnDownDxIdeal m →
    (∀ c : Dev Cert.FfnDownDxIdeal.nD,
      m' ((c.tc : Thread Cert.FfnDownDxReferenceIdeal.nD Cert.FfnDownDxReferenceIdeal.τ).loc Cert.FfnDownDxReferenceIdeal.main_arg0) = m ((c.tc : Thread Cert.FfnDownDxIdeal.nD Cert.FfnDownDxIdeal.τ).loc Cert.FfnDownDxIdeal.main_arg0)
      ∧ m' ((c.tc : Thread Cert.FfnDownDxReferenceIdeal.nD Cert.FfnDownDxReferenceIdeal.τ).loc Cert.FfnDownDxReferenceIdeal.main_arg1) = m ((c.tc : Thread Cert.FfnDownDxIdeal.nD Cert.FfnDownDxIdeal.τ).loc Cert.FfnDownDxIdeal.main_arg1)) →
    ∃ (v0 : (c : Dev Cert.FfnDownDxIdeal.nD) → Buf (Elt Ideal) ((c.tc : Thread Cert.FfnDownDxIdeal.nD Cert.FfnDownDxIdeal.τ).loc Cert.FfnDownDxIdeal.main_v0)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v0) = v0 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ θ_run (Cert.FfnDownDxReferenceIdeal.defs (F := Ideal)) (onTc (τ := Cert.FfnDownDxReferenceIdeal.τ) (Cert.FfnDownDxReferenceIdeal.main (F := Ideal))) ⟨m', fun _ => 0, g'⟩ (fun r => ∀ c : Dev Cert.FfnDownDxReferenceIdeal.nD,
          r.2.mem ((c.tc : Thread Cert.FfnDownDxReferenceIdeal.nD Cert.FfnDownDxReferenceIdeal.τ).loc Cert.FfnDownDxReferenceIdeal.main_v3) = v0 c
          ∧ r.2.mem ((c.tc : Thread Cert.FfnDownDxReferenceIdeal.nD Cert.FfnDownDxReferenceIdeal.τ).loc Cert.FfnDownDxReferenceIdeal.main_arg0) = m' ((c.tc : Thread Cert.FfnDownDxReferenceIdeal.nD Cert.FfnDownDxReferenceIdeal.τ).loc Cert.FfnDownDxReferenceIdeal.main_arg0)
          ∧ r.2.mem ((c.tc : Thread Cert.FfnDownDxReferenceIdeal.nD Cert.FfnDownDxReferenceIdeal.τ).loc Cert.FfnDownDxReferenceIdeal.main_arg1) = m' ((c.tc : Thread Cert.FfnDownDxReferenceIdeal.nD Cert.FfnDownDxReferenceIdeal.τ).loc Cert.FfnDownDxReferenceIdeal.main_arg1))

def preserves_FfnDownDw_FfnDownDwIdeal : Prop :=
  True

def algebraic_FfnDownDwIdeal_FfnDownDwReferenceIdeal [hFfnDownDwIdeal : Cert.FfnDownDwIdeal.Facts] [hFfnDownDwReferenceIdeal : Cert.FfnDownDwReferenceIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwReferenceIdeal.nD Cert.FfnDownDwReferenceIdeal.τ Cert.FfnDownDwReferenceIdeal.sig) → Buf (Elt Ideal) ℓ) (g' : Dev Cert.FfnDownDwReferenceIdeal.nD → PrngReg), Pre_FfnDownDwIdeal m →
    (∀ c : Dev Cert.FfnDownDwIdeal.nD,
      m' ((c.tc : Thread Cert.FfnDownDwReferenceIdeal.nD Cert.FfnDownDwReferenceIdeal.τ).loc Cert.FfnDownDwReferenceIdeal.main_arg0) = m ((c.tc : Thread Cert.FfnDownDwIdeal.nD Cert.FfnDownDwIdeal.τ).loc Cert.FfnDownDwIdeal.main_arg0)
      ∧ m' ((c.tc : Thread Cert.FfnDownDwReferenceIdeal.nD Cert.FfnDownDwReferenceIdeal.τ).loc Cert.FfnDownDwReferenceIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwReferenceIdeal.defs (F := Ideal)) (onTc (τ := Cert.FfnDownDwReferenceIdeal.τ) (Cert.FfnDownDwReferenceIdeal.main (F := Ideal))) ⟨m', fun _ => 0, g'⟩ (fun r => ∀ c : Dev Cert.FfnDownDwReferenceIdeal.nD,
          r.2.mem ((c.tc : Thread Cert.FfnDownDwReferenceIdeal.nD Cert.FfnDownDwReferenceIdeal.τ).loc Cert.FfnDownDwReferenceIdeal.main_v4) = v0 c
          ∧ r.2.mem ((c.tc : Thread Cert.FfnDownDwReferenceIdeal.nD Cert.FfnDownDwReferenceIdeal.τ).loc Cert.FfnDownDwReferenceIdeal.main_arg0) = m' ((c.tc : Thread Cert.FfnDownDwReferenceIdeal.nD Cert.FfnDownDwReferenceIdeal.τ).loc Cert.FfnDownDwReferenceIdeal.main_arg0)
          ∧ r.2.mem ((c.tc : Thread Cert.FfnDownDwReferenceIdeal.nD Cert.FfnDownDwReferenceIdeal.τ).loc Cert.FfnDownDwReferenceIdeal.main_arg1) = m' ((c.tc : Thread Cert.FfnDownDwReferenceIdeal.nD Cert.FfnDownDwReferenceIdeal.τ).loc Cert.FfnDownDwReferenceIdeal.main_arg1))

def preserves_FfnUpDx_FfnUpDxIdeal : Prop :=
  True

def algebraic_FfnUpDxIdeal_FfnUpDxReferenceIdeal [hFfnUpDxIdeal : Cert.FfnUpDxIdeal.Facts] [hFfnUpDxReferenceIdeal : Cert.FfnUpDxReferenceIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg)
    (m' : (ℓ : Loc Cert.FfnUpDxReferenceIdeal.nD Cert.FfnUpDxReferenceIdeal.τ Cert.FfnUpDxReferenceIdeal.sig) → Buf (Elt Ideal) ℓ) (g' : Dev Cert.FfnUpDxReferenceIdeal.nD → PrngReg), Pre_FfnUpDxIdeal m →
    (∀ c : Dev Cert.FfnUpDxIdeal.nD,
      m' ((c.tc : Thread Cert.FfnUpDxReferenceIdeal.nD Cert.FfnUpDxReferenceIdeal.τ).loc Cert.FfnUpDxReferenceIdeal.main_arg0) = m ((c.tc : Thread Cert.FfnUpDxIdeal.nD Cert.FfnUpDxIdeal.τ).loc Cert.FfnUpDxIdeal.main_arg0)
      ∧ m' ((c.tc : Thread Cert.FfnUpDxReferenceIdeal.nD Cert.FfnUpDxReferenceIdeal.τ).loc Cert.FfnUpDxReferenceIdeal.main_arg1) = m ((c.tc : Thread Cert.FfnUpDxIdeal.nD Cert.FfnUpDxIdeal.τ).loc Cert.FfnUpDxIdeal.main_arg1)) →
    ∃ (v0 : (c : Dev Cert.FfnUpDxIdeal.nD) → Buf (Elt Ideal) ((c.tc : Thread Cert.FfnUpDxIdeal.nD Cert.FfnUpDxIdeal.τ).loc Cert.FfnUpDxIdeal.main_v0)),
      θ_run (Cert.FfnUpDxIdeal.defs (F := Ideal)) (onTc (τ := Cert.FfnUpDxIdeal.τ) (Cert.FfnUpDxIdeal.main (F := Ideal))) ⟨m, fun _ => 0, g⟩ (fun r => ∀ c : Dev Cert.FfnUpDxIdeal.nD,
          r.2.mem ((c.tc : Thread Cert.FfnUpDxIdeal.nD Cert.FfnUpDxIdeal.τ).loc Cert.FfnUpDxIdeal.main_v0) = v0 c
          ∧ r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
          ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ θ_run (Cert.FfnUpDxReferenceIdeal.defs (F := Ideal)) (onTc (τ := Cert.FfnUpDxReferenceIdeal.τ) (Cert.FfnUpDxReferenceIdeal.main (F := Ideal))) ⟨m', fun _ => 0, g'⟩ (fun r => ∀ c : Dev Cert.FfnUpDxReferenceIdeal.nD,
          r.2.mem ((c.tc : Thread Cert.FfnUpDxReferenceIdeal.nD Cert.FfnUpDxReferenceIdeal.τ).loc Cert.FfnUpDxReferenceIdeal.main_v2) = v0 c
          ∧ r.2.mem ((c.tc : Thread Cert.FfnUpDxReferenceIdeal.nD Cert.FfnUpDxReferenceIdeal.τ).loc Cert.FfnUpDxReferenceIdeal.main_arg0) = m' ((c.tc : Thread Cert.FfnUpDxReferenceIdeal.nD Cert.FfnUpDxReferenceIdeal.τ).loc Cert.FfnUpDxReferenceIdeal.main_arg0)
          ∧ r.2.mem ((c.tc : Thread Cert.FfnUpDxReferenceIdeal.nD Cert.FfnUpDxReferenceIdeal.τ).loc Cert.FfnUpDxReferenceIdeal.main_arg1) = m' ((c.tc : Thread Cert.FfnUpDxReferenceIdeal.nD Cert.FfnUpDxReferenceIdeal.τ).loc Cert.FfnUpDxReferenceIdeal.main_arg1))

def preserves_FfnUpDw_FfnUpDwIdeal : Prop :=
  True

def algebraic_FfnUpDwIdeal_FfnUpDwReferenceIdeal [hFfnUpDwIdeal : Cert.FfnUpDwIdeal.Facts] [hFfnUpDwReferenceIdeal : Cert.FfnUpDwReferenceIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg)
    (m' : (ℓ : Loc Cert.FfnUpDwReferenceIdeal.nD Cert.FfnUpDwReferenceIdeal.τ Cert.FfnUpDwReferenceIdeal.sig) → Buf (Elt Ideal) ℓ) (g' : Dev Cert.FfnUpDwReferenceIdeal.nD → PrngReg), Pre_FfnUpDwIdeal m →
    (∀ c : Dev Cert.FfnUpDwIdeal.nD,
      m' ((c.tc : Thread Cert.FfnUpDwReferenceIdeal.nD Cert.FfnUpDwReferenceIdeal.τ).loc Cert.FfnUpDwReferenceIdeal.main_arg0) = m ((c.tc : Thread Cert.FfnUpDwIdeal.nD Cert.FfnUpDwIdeal.τ).loc Cert.FfnUpDwIdeal.main_arg0)
      ∧ m' ((c.tc : Thread Cert.FfnUpDwReferenceIdeal.nD Cert.FfnUpDwReferenceIdeal.τ).loc Cert.FfnUpDwReferenceIdeal.main_arg1) = m ((c.tc : Thread Cert.FfnUpDwIdeal.nD Cert.FfnUpDwIdeal.τ).loc Cert.FfnUpDwIdeal.main_arg1)) →
    ∃ (v0 : (c : Dev Cert.FfnUpDwIdeal.nD) → Buf (Elt Ideal) ((c.tc : Thread Cert.FfnUpDwIdeal.nD Cert.FfnUpDwIdeal.τ).loc Cert.FfnUpDwIdeal.main_v0)),
      θ_run (Cert.FfnUpDwIdeal.defs (F := Ideal)) (onTc (τ := Cert.FfnUpDwIdeal.τ) (Cert.FfnUpDwIdeal.main (F := Ideal))) ⟨m, fun _ => 0, g⟩ (fun r => ∀ c : Dev Cert.FfnUpDwIdeal.nD,
          r.2.mem ((c.tc : Thread Cert.FfnUpDwIdeal.nD Cert.FfnUpDwIdeal.τ).loc Cert.FfnUpDwIdeal.main_v0) = v0 c
          ∧ r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
          ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ θ_run (Cert.FfnUpDwReferenceIdeal.defs (F := Ideal)) (onTc (τ := Cert.FfnUpDwReferenceIdeal.τ) (Cert.FfnUpDwReferenceIdeal.main (F := Ideal))) ⟨m', fun _ => 0, g'⟩ (fun r => ∀ c : Dev Cert.FfnUpDwReferenceIdeal.nD,
          r.2.mem ((c.tc : Thread Cert.FfnUpDwReferenceIdeal.nD Cert.FfnUpDwReferenceIdeal.τ).loc Cert.FfnUpDwReferenceIdeal.main_v4) = v0 c
          ∧ r.2.mem ((c.tc : Thread Cert.FfnUpDwReferenceIdeal.nD Cert.FfnUpDwReferenceIdeal.τ).loc Cert.FfnUpDwReferenceIdeal.main_arg0) = m' ((c.tc : Thread Cert.FfnUpDwReferenceIdeal.nD Cert.FfnUpDwReferenceIdeal.τ).loc Cert.FfnUpDwReferenceIdeal.main_arg0)
          ∧ r.2.mem ((c.tc : Thread Cert.FfnUpDwReferenceIdeal.nD Cert.FfnUpDwReferenceIdeal.τ).loc Cert.FfnUpDwReferenceIdeal.main_arg1) = m' ((c.tc : Thread Cert.FfnUpDwReferenceIdeal.nD Cert.FfnUpDwReferenceIdeal.τ).loc Cert.FfnUpDwReferenceIdeal.main_arg1))

def preserves_GateFwd_GateFwdIdeal : Prop :=
  True

def algebraic_GateFwdIdeal_GateFwdReferenceIdeal [hGateFwdIdeal : Cert.GateFwdIdeal.Facts] [hGateFwdReferenceIdeal : Cert.GateFwdReferenceIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdReferenceIdeal.nD Cert.GateFwdReferenceIdeal.τ Cert.GateFwdReferenceIdeal.sig) → Buf (Elt Ideal) ℓ) (g' : Dev Cert.GateFwdReferenceIdeal.nD → PrngReg), Pre_GateFwdIdeal m →
    (∀ c : Dev Cert.GateFwdIdeal.nD,
      m' ((c.tc : Thread Cert.GateFwdReferenceIdeal.nD Cert.GateFwdReferenceIdeal.τ).loc Cert.GateFwdReferenceIdeal.main_arg0) = m ((c.tc : Thread Cert.GateFwdIdeal.nD Cert.GateFwdIdeal.τ).loc Cert.GateFwdIdeal.main_arg0)
      ∧ m' ((c.tc : Thread Cert.GateFwdReferenceIdeal.nD Cert.GateFwdReferenceIdeal.τ).loc Cert.GateFwdReferenceIdeal.main_arg1) = m ((c.tc : Thread Cert.GateFwdIdeal.nD Cert.GateFwdIdeal.τ).loc Cert.GateFwdIdeal.main_arg1)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ θ_run (Cert.GateFwdReferenceIdeal.defs (F := Ideal)) (onTc (τ := Cert.GateFwdReferenceIdeal.τ) (Cert.GateFwdReferenceIdeal.main (F := Ideal))) ⟨m', fun _ => 0, g'⟩ (fun r => ∀ c : Dev Cert.GateFwdReferenceIdeal.nD,
          r.2.mem ((c.tc : Thread Cert.GateFwdReferenceIdeal.nD Cert.GateFwdReferenceIdeal.τ).loc Cert.GateFwdReferenceIdeal.main_v2) = v0 c
          ∧ r.2.mem ((c.tc : Thread Cert.GateFwdReferenceIdeal.nD Cert.GateFwdReferenceIdeal.τ).loc Cert.GateFwdReferenceIdeal.main_arg0) = m' ((c.tc : Thread Cert.GateFwdReferenceIdeal.nD Cert.GateFwdReferenceIdeal.τ).loc Cert.GateFwdReferenceIdeal.main_arg0)
          ∧ r.2.mem ((c.tc : Thread Cert.GateFwdReferenceIdeal.nD Cert.GateFwdReferenceIdeal.τ).loc Cert.GateFwdReferenceIdeal.main_arg1) = m' ((c.tc : Thread Cert.GateFwdReferenceIdeal.nD Cert.GateFwdReferenceIdeal.τ).loc Cert.GateFwdReferenceIdeal.main_arg1))

def preserves_GateDx_GateDxIdeal : Prop :=
  True

def algebraic_GateDxIdeal_GateDxReferenceIdeal [hGateDxIdeal : Cert.GateDxIdeal.Facts] [hGateDxReferenceIdeal : Cert.GateDxReferenceIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxReferenceIdeal.nD Cert.GateDxReferenceIdeal.τ Cert.GateDxReferenceIdeal.sig) → Buf (Elt Ideal) ℓ) (g' : Dev Cert.GateDxReferenceIdeal.nD → PrngReg), Pre_GateDxIdeal m →
    (∀ c : Dev Cert.GateDxIdeal.nD,
      m' ((c.tc : Thread Cert.GateDxReferenceIdeal.nD Cert.GateDxReferenceIdeal.τ).loc Cert.GateDxReferenceIdeal.main_arg0) = m ((c.tc : Thread Cert.GateDxIdeal.nD Cert.GateDxIdeal.τ).loc Cert.GateDxIdeal.main_arg0)
      ∧ m' ((c.tc : Thread Cert.GateDxReferenceIdeal.nD Cert.GateDxReferenceIdeal.τ).loc Cert.GateDxReferenceIdeal.main_arg1) = m ((c.tc : Thread Cert.GateDxIdeal.nD Cert.GateDxIdeal.τ).loc Cert.GateDxIdeal.main_arg1)
      ∧ m' ((c.tc : Thread Cert.GateDxReferenceIdeal.nD Cert.GateDxReferenceIdeal.τ).loc Cert.GateDxReferenceIdeal.main_arg2) = m ((c.tc : Thread Cert.GateDxIdeal.nD Cert.GateDxIdeal.τ).loc Cert.GateDxIdeal.main_arg2)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
          ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2))
      ∧ θ_run (Cert.GateDxReferenceIdeal.defs (F := Ideal)) (onTc (τ := Cert.GateDxReferenceIdeal.τ) (Cert.GateDxReferenceIdeal.main (F := Ideal))) ⟨m', fun _ => 0, g'⟩ (fun r => ∀ c : Dev Cert.GateDxReferenceIdeal.nD,
          r.2.mem ((c.tc : Thread Cert.GateDxReferenceIdeal.nD Cert.GateDxReferenceIdeal.τ).loc Cert.GateDxReferenceIdeal.main_v3) = v0 c
          ∧ r.2.mem ((c.tc : Thread Cert.GateDxReferenceIdeal.nD Cert.GateDxReferenceIdeal.τ).loc Cert.GateDxReferenceIdeal.main_arg0) = m' ((c.tc : Thread Cert.GateDxReferenceIdeal.nD Cert.GateDxReferenceIdeal.τ).loc Cert.GateDxReferenceIdeal.main_arg0)
          ∧ r.2.mem ((c.tc : Thread Cert.GateDxReferenceIdeal.nD Cert.GateDxReferenceIdeal.τ).loc Cert.GateDxReferenceIdeal.main_arg1) = m' ((c.tc : Thread Cert.GateDxReferenceIdeal.nD Cert.GateDxReferenceIdeal.τ).loc Cert.GateDxReferenceIdeal.main_arg1)
          ∧ r.2.mem ((c.tc : Thread Cert.GateDxReferenceIdeal.nD Cert.GateDxReferenceIdeal.τ).loc Cert.GateDxReferenceIdeal.main_arg2) = m' ((c.tc : Thread Cert.GateDxReferenceIdeal.nD Cert.GateDxReferenceIdeal.τ).loc Cert.GateDxReferenceIdeal.main_arg2))

def preserves_GateDw_GateDwIdeal : Prop :=
  True

def algebraic_GateDwIdeal_GateDwReferenceIdeal [hGateDwIdeal : Cert.GateDwIdeal.Facts] [hGateDwReferenceIdeal : Cert.GateDwReferenceIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwReferenceIdeal.nD Cert.GateDwReferenceIdeal.τ Cert.GateDwReferenceIdeal.sig) → Buf (Elt Ideal) ℓ) (g' : Dev Cert.GateDwReferenceIdeal.nD → PrngReg), Pre_GateDwIdeal m →
    (∀ c : Dev Cert.GateDwIdeal.nD,
      m' ((c.tc : Thread Cert.GateDwReferenceIdeal.nD Cert.GateDwReferenceIdeal.τ).loc Cert.GateDwReferenceIdeal.main_arg0) = m ((c.tc : Thread Cert.GateDwIdeal.nD Cert.GateDwIdeal.τ).loc Cert.GateDwIdeal.main_arg0)
      ∧ m' ((c.tc : Thread Cert.GateDwReferenceIdeal.nD Cert.GateDwReferenceIdeal.τ).loc Cert.GateDwReferenceIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwReferenceIdeal.defs (F := Ideal)) (onTc (τ := Cert.GateDwReferenceIdeal.τ) (Cert.GateDwReferenceIdeal.main (F := Ideal))) ⟨m', fun _ => 0, g'⟩ (fun r => ∀ c : Dev Cert.GateDwReferenceIdeal.nD,
          r.2.mem ((c.tc : Thread Cert.GateDwReferenceIdeal.nD Cert.GateDwReferenceIdeal.τ).loc Cert.GateDwReferenceIdeal.main_v3) = v0 c
          ∧ r.2.mem ((c.tc : Thread Cert.GateDwReferenceIdeal.nD Cert.GateDwReferenceIdeal.τ).loc Cert.GateDwReferenceIdeal.main_arg0) = m' ((c.tc : Thread Cert.GateDwReferenceIdeal.nD Cert.GateDwReferenceIdeal.τ).loc Cert.GateDwReferenceIdeal.main_arg0)
          ∧ r.2.mem ((c.tc : Thread Cert.GateDwReferenceIdeal.nD Cert.GateDwReferenceIdeal.τ).loc Cert.GateDwReferenceIdeal.main_arg1) = m' ((c.tc : Thread Cert.GateDwReferenceIdeal.nD Cert.GateDwReferenceIdeal.τ).loc Cert.GateDwReferenceIdeal.main_arg1))

def preserves_BranchFwd_BranchFwdIdeal : Prop :=
  True

def algebraic_BranchFwdIdeal_BranchFwdReferenceIdeal [hBranchFwdIdeal : Cert.BranchFwdIdeal.Facts] [hBranchFwdReferenceIdeal : Cert.BranchFwdReferenceIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg)
    (m' : (ℓ : Loc Cert.BranchFwdReferenceIdeal.nD Cert.BranchFwdReferenceIdeal.τ Cert.BranchFwdReferenceIdeal.sig) → Buf (Elt Ideal) ℓ) (g' : Dev Cert.BranchFwdReferenceIdeal.nD → PrngReg), Pre_BranchFwdIdeal m →
    (∀ c : Dev Cert.BranchFwdIdeal.nD,
      m' ((c.tc : Thread Cert.BranchFwdReferenceIdeal.nD Cert.BranchFwdReferenceIdeal.τ).loc Cert.BranchFwdReferenceIdeal.main_arg0) = m ((c.tc : Thread Cert.BranchFwdIdeal.nD Cert.BranchFwdIdeal.τ).loc Cert.BranchFwdIdeal.main_arg0)
      ∧ m' ((c.tc : Thread Cert.BranchFwdReferenceIdeal.nD Cert.BranchFwdReferenceIdeal.τ).loc Cert.BranchFwdReferenceIdeal.main_arg1) = m ((c.tc : Thread Cert.BranchFwdIdeal.nD Cert.BranchFwdIdeal.τ).loc Cert.BranchFwdIdeal.main_arg1)) →
    ∃ (v0 : (c : Dev Cert.BranchFwdIdeal.nD) → Buf (Elt Ideal) ((c.tc : Thread Cert.BranchFwdIdeal.nD Cert.BranchFwdIdeal.τ).loc Cert.BranchFwdIdeal.main_v0)),
      θ_run (Cert.BranchFwdIdeal.defs (F := Ideal)) (onTc (τ := Cert.BranchFwdIdeal.τ) (Cert.BranchFwdIdeal.main (F := Ideal))) ⟨m, fun _ => 0, g⟩ (fun r => ∀ c : Dev Cert.BranchFwdIdeal.nD,
          r.2.mem ((c.tc : Thread Cert.BranchFwdIdeal.nD Cert.BranchFwdIdeal.τ).loc Cert.BranchFwdIdeal.main_v0) = v0 c
          ∧ r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
          ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ θ_run (Cert.BranchFwdReferenceIdeal.defs (F := Ideal)) (onTc (τ := Cert.BranchFwdReferenceIdeal.τ) (Cert.BranchFwdReferenceIdeal.main (F := Ideal))) ⟨m', fun _ => 0, g'⟩ (fun r => ∀ c : Dev Cert.BranchFwdReferenceIdeal.nD,
          r.2.mem ((c.tc : Thread Cert.BranchFwdReferenceIdeal.nD Cert.BranchFwdReferenceIdeal.τ).loc Cert.BranchFwdReferenceIdeal.main_v2) = v0 c
          ∧ r.2.mem ((c.tc : Thread Cert.BranchFwdReferenceIdeal.nD Cert.BranchFwdReferenceIdeal.τ).loc Cert.BranchFwdReferenceIdeal.main_arg0) = m' ((c.tc : Thread Cert.BranchFwdReferenceIdeal.nD Cert.BranchFwdReferenceIdeal.τ).loc Cert.BranchFwdReferenceIdeal.main_arg0)
          ∧ r.2.mem ((c.tc : Thread Cert.BranchFwdReferenceIdeal.nD Cert.BranchFwdReferenceIdeal.τ).loc Cert.BranchFwdReferenceIdeal.main_arg1) = m' ((c.tc : Thread Cert.BranchFwdReferenceIdeal.nD Cert.BranchFwdReferenceIdeal.τ).loc Cert.BranchFwdReferenceIdeal.main_arg1))

def preserves_BranchDx_BranchDxIdeal : Prop :=
  True

def algebraic_BranchDxIdeal_BranchDxReferenceIdeal [hBranchDxIdeal : Cert.BranchDxIdeal.Facts] [hBranchDxReferenceIdeal : Cert.BranchDxReferenceIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxReferenceIdeal.nD Cert.BranchDxReferenceIdeal.τ Cert.BranchDxReferenceIdeal.sig) → Buf (Elt Ideal) ℓ) (g' : Dev Cert.BranchDxReferenceIdeal.nD → PrngReg), Pre_BranchDxIdeal m →
    (∀ c : Dev Cert.BranchDxIdeal.nD,
      m' ((c.tc : Thread Cert.BranchDxReferenceIdeal.nD Cert.BranchDxReferenceIdeal.τ).loc Cert.BranchDxReferenceIdeal.main_arg0) = m ((c.tc : Thread Cert.BranchDxIdeal.nD Cert.BranchDxIdeal.τ).loc Cert.BranchDxIdeal.main_arg0)
      ∧ m' ((c.tc : Thread Cert.BranchDxReferenceIdeal.nD Cert.BranchDxReferenceIdeal.τ).loc Cert.BranchDxReferenceIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxReferenceIdeal.defs (F := Ideal)) (onTc (τ := Cert.BranchDxReferenceIdeal.τ) (Cert.BranchDxReferenceIdeal.main (F := Ideal))) ⟨m', fun _ => 0, g'⟩ (fun r => ∀ c : Dev Cert.BranchDxReferenceIdeal.nD,
          r.2.mem ((c.tc : Thread Cert.BranchDxReferenceIdeal.nD Cert.BranchDxReferenceIdeal.τ).loc Cert.BranchDxReferenceIdeal.main_v2) = v0 c
          ∧ r.2.mem ((c.tc : Thread Cert.BranchDxReferenceIdeal.nD Cert.BranchDxReferenceIdeal.τ).loc Cert.BranchDxReferenceIdeal.main_arg0) = m' ((c.tc : Thread Cert.BranchDxReferenceIdeal.nD Cert.BranchDxReferenceIdeal.τ).loc Cert.BranchDxReferenceIdeal.main_arg0)
          ∧ r.2.mem ((c.tc : Thread Cert.BranchDxReferenceIdeal.nD Cert.BranchDxReferenceIdeal.τ).loc Cert.BranchDxReferenceIdeal.main_arg1) = m' ((c.tc : Thread Cert.BranchDxReferenceIdeal.nD Cert.BranchDxReferenceIdeal.τ).loc Cert.BranchDxReferenceIdeal.main_arg1))

def preserves_BranchDw_BranchDwIdeal : Prop :=
  True

def algebraic_BranchDwIdeal_BranchDwReferenceIdeal [hBranchDwIdeal : Cert.BranchDwIdeal.Facts] [hBranchDwReferenceIdeal : Cert.BranchDwReferenceIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwReferenceIdeal.nD Cert.BranchDwReferenceIdeal.τ Cert.BranchDwReferenceIdeal.sig) → Buf (Elt Ideal) ℓ) (g' : Dev Cert.BranchDwReferenceIdeal.nD → PrngReg), Pre_BranchDwIdeal m →
    (∀ c : Dev Cert.BranchDwIdeal.nD,
      m' ((c.tc : Thread Cert.BranchDwReferenceIdeal.nD Cert.BranchDwReferenceIdeal.τ).loc Cert.BranchDwReferenceIdeal.main_arg0) = m ((c.tc : Thread Cert.BranchDwIdeal.nD Cert.BranchDwIdeal.τ).loc Cert.BranchDwIdeal.main_arg0)
      ∧ m' ((c.tc : Thread Cert.BranchDwReferenceIdeal.nD Cert.BranchDwReferenceIdeal.τ).loc Cert.BranchDwReferenceIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwReferenceIdeal.defs (F := Ideal)) (onTc (τ := Cert.BranchDwReferenceIdeal.τ) (Cert.BranchDwReferenceIdeal.main (F := Ideal))) ⟨m', fun _ => 0, g'⟩ (fun r => ∀ c : Dev Cert.BranchDwReferenceIdeal.nD,
          r.2.mem ((c.tc : Thread Cert.BranchDwReferenceIdeal.nD Cert.BranchDwReferenceIdeal.τ).loc Cert.BranchDwReferenceIdeal.main_v3) = v0 c
          ∧ r.2.mem ((c.tc : Thread Cert.BranchDwReferenceIdeal.nD Cert.BranchDwReferenceIdeal.τ).loc Cert.BranchDwReferenceIdeal.main_arg0) = m' ((c.tc : Thread Cert.BranchDwReferenceIdeal.nD Cert.BranchDwReferenceIdeal.τ).loc Cert.BranchDwReferenceIdeal.main_arg0)
          ∧ r.2.mem ((c.tc : Thread Cert.BranchDwReferenceIdeal.nD Cert.BranchDwReferenceIdeal.τ).loc Cert.BranchDwReferenceIdeal.main_arg1) = m' ((c.tc : Thread Cert.BranchDwReferenceIdeal.nD Cert.BranchDwReferenceIdeal.τ).loc Cert.BranchDwReferenceIdeal.main_arg1))

def preserves_OutFwd_OutFwdIdeal : Prop :=
  True

def algebraic_OutFwdIdeal_OutFwdReferenceIdeal [hOutFwdIdeal : Cert.OutFwdIdeal.Facts] [hOutFwdReferenceIdeal : Cert.OutFwdReferenceIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdReferenceIdeal.nD Cert.OutFwdReferenceIdeal.τ Cert.OutFwdReferenceIdeal.sig) → Buf (Elt Ideal) ℓ) (g' : Dev Cert.OutFwdReferenceIdeal.nD → PrngReg), Pre_OutFwdIdeal m →
    (∀ c : Dev Cert.OutFwdIdeal.nD,
      m' ((c.tc : Thread Cert.OutFwdReferenceIdeal.nD Cert.OutFwdReferenceIdeal.τ).loc Cert.OutFwdReferenceIdeal.main_arg0) = m ((c.tc : Thread Cert.OutFwdIdeal.nD Cert.OutFwdIdeal.τ).loc Cert.OutFwdIdeal.main_arg0)
      ∧ m' ((c.tc : Thread Cert.OutFwdReferenceIdeal.nD Cert.OutFwdReferenceIdeal.τ).loc Cert.OutFwdReferenceIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdReferenceIdeal.defs (F := Ideal)) (onTc (τ := Cert.OutFwdReferenceIdeal.τ) (Cert.OutFwdReferenceIdeal.main (F := Ideal))) ⟨m', fun _ => 0, g'⟩ (fun r => ∀ c : Dev Cert.OutFwdReferenceIdeal.nD,
          r.2.mem ((c.tc : Thread Cert.OutFwdReferenceIdeal.nD Cert.OutFwdReferenceIdeal.τ).loc Cert.OutFwdReferenceIdeal.main_v1) = v0 c
          ∧ r.2.mem ((c.tc : Thread Cert.OutFwdReferenceIdeal.nD Cert.OutFwdReferenceIdeal.τ).loc Cert.OutFwdReferenceIdeal.main_arg0) = m' ((c.tc : Thread Cert.OutFwdReferenceIdeal.nD Cert.OutFwdReferenceIdeal.τ).loc Cert.OutFwdReferenceIdeal.main_arg0)
          ∧ r.2.mem ((c.tc : Thread Cert.OutFwdReferenceIdeal.nD Cert.OutFwdReferenceIdeal.τ).loc Cert.OutFwdReferenceIdeal.main_arg1) = m' ((c.tc : Thread Cert.OutFwdReferenceIdeal.nD Cert.OutFwdReferenceIdeal.τ).loc Cert.OutFwdReferenceIdeal.main_arg1))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v1) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v2) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_GluFwd_GluFwdIdeal : Prop :=
  True

def algebraic_GluFwdIdeal_GluFwdReferenceIdeal [hGluFwdIdeal : Cert.GluFwdIdeal.Facts] [hGluFwdReferenceIdeal : Cert.GluFwdReferenceIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdReferenceIdeal.nD Cert.GluFwdReferenceIdeal.τ Cert.GluFwdReferenceIdeal.sig) → Buf (Elt Ideal) ℓ) (g' : Dev Cert.GluFwdReferenceIdeal.nD → PrngReg), Pre_GluFwdIdeal m →
    (∀ c : Dev Cert.GluFwdIdeal.nD,
      m' ((c.tc : Thread Cert.GluFwdReferenceIdeal.nD Cert.GluFwdReferenceIdeal.τ).loc Cert.GluFwdReferenceIdeal.main_arg0) = m ((c.tc : Thread Cert.GluFwdIdeal.nD Cert.GluFwdIdeal.τ).loc Cert.GluFwdIdeal.main_arg0)
      ∧ m' ((c.tc : Thread Cert.GluFwdReferenceIdeal.nD Cert.GluFwdReferenceIdeal.τ).loc Cert.GluFwdReferenceIdeal.main_arg1) = m ((c.tc : Thread Cert.GluFwdIdeal.nD Cert.GluFwdIdeal.τ).loc Cert.GluFwdIdeal.main_arg1)) →
    ∃ (v0 : (c : Dev Cert.GluFwdIdeal.nD) → Buf (Elt Ideal) ((c.tc : Thread Cert.GluFwdIdeal.nD Cert.GluFwdIdeal.τ).loc Cert.GluFwdIdeal.main_v0)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1))
      ∧ θ_run (Cert.GluFwdReferenceIdeal.defs (F := Ideal)) (onTc (τ := Cert.GluFwdReferenceIdeal.τ) (Cert.GluFwdReferenceIdeal.main (F := Ideal))) ⟨m', fun _ => 0, g'⟩ (fun r => ∀ c : Dev Cert.GluFwdReferenceIdeal.nD,
          r.2.mem ((c.tc : Thread Cert.GluFwdReferenceIdeal.nD Cert.GluFwdReferenceIdeal.τ).loc Cert.GluFwdReferenceIdeal.main_v1) = v0 c
          ∧ r.2.mem ((c.tc : Thread Cert.GluFwdReferenceIdeal.nD Cert.GluFwdReferenceIdeal.τ).loc Cert.GluFwdReferenceIdeal.main_arg0) = m' ((c.tc : Thread Cert.GluFwdReferenceIdeal.nD Cert.GluFwdReferenceIdeal.τ).loc Cert.GluFwdReferenceIdeal.main_arg0)
          ∧ r.2.mem ((c.tc : Thread Cert.GluFwdReferenceIdeal.nD Cert.GluFwdReferenceIdeal.τ).loc Cert.GluFwdReferenceIdeal.main_arg1) = m' ((c.tc : Thread Cert.GluFwdReferenceIdeal.nD Cert.GluFwdReferenceIdeal.τ).loc Cert.GluFwdReferenceIdeal.main_arg1))

def preserves_GluDx_GluDxIdeal : Prop :=
  True

def algebraic_GluDxIdeal_GluDxReferenceIdeal [hGluDxIdeal : Cert.GluDxIdeal.Facts] [hGluDxReferenceIdeal : Cert.GluDxReferenceIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxReferenceIdeal.nD Cert.GluDxReferenceIdeal.τ Cert.GluDxReferenceIdeal.sig) → Buf (Elt Ideal) ℓ) (g' : Dev Cert.GluDxReferenceIdeal.nD → PrngReg), Pre_GluDxIdeal m →
    (∀ c : Dev Cert.GluDxIdeal.nD,
      m' ((c.tc : Thread Cert.GluDxReferenceIdeal.nD Cert.GluDxReferenceIdeal.τ).loc Cert.GluDxReferenceIdeal.main_arg0) = m ((c.tc : Thread Cert.GluDxIdeal.nD Cert.GluDxIdeal.τ).loc Cert.GluDxIdeal.main_arg0)
      ∧ m' ((c.tc : Thread Cert.GluDxReferenceIdeal.nD Cert.GluDxReferenceIdeal.τ).loc Cert.GluDxReferenceIdeal.main_arg1) = m ((c.tc : Thread Cert.GluDxIdeal.nD Cert.GluDxIdeal.τ).loc Cert.GluDxIdeal.main_arg1)) →
    ∃ (v0 : (c : Dev Cert.GluDxIdeal.nD) → Buf (Elt Ideal) ((c.tc : Thread Cert.GluDxIdeal.nD Cert.GluDxIdeal.τ).loc Cert.GluDxIdeal.main_v0)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v0) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ θ_run (Cert.GluDxReferenceIdeal.defs (F := Ideal)) (onTc (τ := Cert.GluDxReferenceIdeal.τ) (Cert.GluDxReferenceIdeal.main (F := Ideal))) ⟨m', fun _ => 0, g'⟩ (fun r => ∀ c : Dev Cert.GluDxReferenceIdeal.nD,
          r.2.mem ((c.tc : Thread Cert.GluDxReferenceIdeal.nD Cert.GluDxReferenceIdeal.τ).loc Cert.GluDxReferenceIdeal.main_v1) = v0 c
          ∧ r.2.mem ((c.tc : Thread Cert.GluDxReferenceIdeal.nD Cert.GluDxReferenceIdeal.τ).loc Cert.GluDxReferenceIdeal.main_arg0) = m' ((c.tc : Thread Cert.GluDxReferenceIdeal.nD Cert.GluDxReferenceIdeal.τ).loc Cert.GluDxReferenceIdeal.main_arg0)
          ∧ r.2.mem ((c.tc : Thread Cert.GluDxReferenceIdeal.nD Cert.GluDxReferenceIdeal.τ).loc Cert.GluDxReferenceIdeal.main_arg1) = m' ((c.tc : Thread Cert.GluDxReferenceIdeal.nD Cert.GluDxReferenceIdeal.τ).loc Cert.GluDxReferenceIdeal.main_arg1))

def preserves_GluDw_GluDwIdeal : Prop :=
  True

def algebraic_GluDwIdeal_GluDwReferenceIdeal [hGluDwIdeal : Cert.GluDwIdeal.Facts] [hGluDwReferenceIdeal : Cert.GluDwReferenceIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwReferenceIdeal.nD Cert.GluDwReferenceIdeal.τ Cert.GluDwReferenceIdeal.sig) → Buf (Elt Ideal) ℓ) (g' : Dev Cert.GluDwReferenceIdeal.nD → PrngReg), Pre_GluDwIdeal m →
    (∀ c : Dev Cert.GluDwIdeal.nD,
      m' ((c.tc : Thread Cert.GluDwReferenceIdeal.nD Cert.GluDwReferenceIdeal.τ).loc Cert.GluDwReferenceIdeal.main_arg0) = m ((c.tc : Thread Cert.GluDwIdeal.nD Cert.GluDwIdeal.τ).loc Cert.GluDwIdeal.main_arg0)
      ∧ m' ((c.tc : Thread Cert.GluDwReferenceIdeal.nD Cert.GluDwReferenceIdeal.τ).loc Cert.GluDwReferenceIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwReferenceIdeal.defs (F := Ideal)) (onTc (τ := Cert.GluDwReferenceIdeal.τ) (Cert.GluDwReferenceIdeal.main (F := Ideal))) ⟨m', fun _ => 0, g'⟩ (fun r => ∀ c : Dev Cert.GluDwReferenceIdeal.nD,
          r.2.mem ((c.tc : Thread Cert.GluDwReferenceIdeal.nD Cert.GluDwReferenceIdeal.τ).loc Cert.GluDwReferenceIdeal.main_v2) = v0 c
          ∧ r.2.mem ((c.tc : Thread Cert.GluDwReferenceIdeal.nD Cert.GluDwReferenceIdeal.τ).loc Cert.GluDwReferenceIdeal.main_arg0) = m' ((c.tc : Thread Cert.GluDwReferenceIdeal.nD Cert.GluDwReferenceIdeal.τ).loc Cert.GluDwReferenceIdeal.main_arg0)
          ∧ r.2.mem ((c.tc : Thread Cert.GluDwReferenceIdeal.nD Cert.GluDwReferenceIdeal.τ).loc Cert.GluDwReferenceIdeal.main_arg1) = m' ((c.tc : Thread Cert.GluDwReferenceIdeal.nD Cert.GluDwReferenceIdeal.τ).loc Cert.GluDwReferenceIdeal.main_arg1))

def preserves_SplitFwd_SplitFwdIdeal : Prop :=
  True

def algebraic_SplitFwdIdeal_SplitFwdReferenceIdeal [hSplitFwdIdeal : Cert.SplitFwdIdeal.Facts] [hSplitFwdReferenceIdeal : Cert.SplitFwdReferenceIdeal.Facts] : Prop :=
  ∀ (m : (ℓ : Loc Cert.SplitFwdIdeal.nD Cert.SplitFwdIdeal.τ Cert.SplitFwdIdeal.sig) → Buf (Elt Ideal) ℓ) (g : Dev Cert.SplitFwdIdeal.nD → PrngReg)
    (m' : (ℓ : Loc Cert.SplitFwdReferenceIdeal.nD Cert.SplitFwdReferenceIdeal.τ Cert.SplitFwdReferenceIdeal.sig) → Buf (Elt Ideal) ℓ) (g' : Dev Cert.SplitFwdReferenceIdeal.nD → PrngReg), Pre_SplitFwdIdeal m →
    (∀ c : Dev Cert.SplitFwdIdeal.nD,
      m' ((c.tc : Thread Cert.SplitFwdReferenceIdeal.nD Cert.SplitFwdReferenceIdeal.τ).loc Cert.SplitFwdReferenceIdeal.main_arg0) = m ((c.tc : Thread Cert.SplitFwdIdeal.nD Cert.SplitFwdIdeal.τ).loc Cert.SplitFwdIdeal.main_arg0)
      ∧ m' ((c.tc : Thread Cert.SplitFwdReferenceIdeal.nD Cert.SplitFwdReferenceIdeal.τ).loc Cert.SplitFwdReferenceIdeal.main_arg1) = m ((c.tc : Thread Cert.SplitFwdIdeal.nD Cert.SplitFwdIdeal.τ).loc Cert.SplitFwdIdeal.main_arg1)) →
    ∃ (v0 : (c : Dev Cert.SplitFwdIdeal.nD) → Buf (Elt Ideal) ((c.tc : Thread Cert.SplitFwdIdeal.nD Cert.SplitFwdIdeal.τ).loc Cert.SplitFwdIdeal.main_v0_0)) (v1 : (c : Dev Cert.SplitFwdIdeal.nD) → Buf (Elt Ideal) ((c.tc : Thread Cert.SplitFwdIdeal.nD Cert.SplitFwdIdeal.τ).loc Cert.SplitFwdIdeal.main_v0_1)) (v2 : (c : Dev Cert.SplitFwdIdeal.nD) → Buf (Elt Ideal) ((c.tc : Thread Cert.SplitFwdIdeal.nD Cert.SplitFwdIdeal.τ).loc Cert.SplitFwdIdeal.main_v0_2)) (v3 : (c : Dev Cert.SplitFwdIdeal.nD) → Buf (Elt Ideal) ((c.tc : Thread Cert.SplitFwdIdeal.nD Cert.SplitFwdIdeal.τ).loc Cert.SplitFwdIdeal.main_v0_3)) (v4 : (c : Dev Cert.SplitFwdIdeal.nD) → Buf (Elt Ideal) ((c.tc : Thread Cert.SplitFwdIdeal.nD Cert.SplitFwdIdeal.τ).loc Cert.SplitFwdIdeal.main_v0_4)) (v5 : (c : Dev Cert.SplitFwdIdeal.nD) → Buf (Elt Ideal) ((c.tc : Thread Cert.SplitFwdIdeal.nD Cert.SplitFwdIdeal.τ).loc Cert.SplitFwdIdeal.main_v0_5)) (v6 : (c : Dev Cert.SplitFwdIdeal.nD) → Buf (Elt Ideal) ((c.tc : Thread Cert.SplitFwdIdeal.nD Cert.SplitFwdIdeal.τ).loc Cert.SplitFwdIdeal.main_v0_6)) (v7 : (c : Dev Cert.SplitFwdIdeal.nD) → Buf (Elt Ideal) ((c.tc : Thread Cert.SplitFwdIdeal.nD Cert.SplitFwdIdeal.τ).loc Cert.SplitFwdIdeal.main_v0_7)),
      θ_run (Cert.SplitFwdIdeal.defs (F := Ideal)) (onTc (τ := Cert.SplitFwdIdeal.τ) (Cert.SplitFwdIdeal.main (F := Ideal))) ⟨m, fun _ => 0, g⟩ (fun r => ∀ c : Dev Cert.SplitFwdIdeal.nD,
          r.2.mem ((c.tc : Thread Cert.SplitFwdIdeal.nD Cert.SplitFwdIdeal.τ).loc Cert.SplitFwdIdeal.main_v0_0) = v0 c
          ∧ r.2.mem ((c.tc : Thread Cert.SplitFwdIdeal.nD Cert.SplitFwdIdeal.τ).loc Cert.SplitFwdIdeal.main_v0_1) = v1 c
          ∧ r.2.mem ((c.tc : Thread Cert.SplitFwdIdeal.nD Cert.SplitFwdIdeal.τ).loc Cert.SplitFwdIdeal.main_v0_2) = v2 c
          ∧ r.2.mem ((c.tc : Thread Cert.SplitFwdIdeal.nD Cert.SplitFwdIdeal.τ).loc Cert.SplitFwdIdeal.main_v0_3) = v3 c
          ∧ r.2.mem ((c.tc : Thread Cert.SplitFwdIdeal.nD Cert.SplitFwdIdeal.τ).loc Cert.SplitFwdIdeal.main_v0_4) = v4 c
          ∧ r.2.mem ((c.tc : Thread Cert.SplitFwdIdeal.nD Cert.SplitFwdIdeal.τ).loc Cert.SplitFwdIdeal.main_v0_5) = v5 c
          ∧ r.2.mem ((c.tc : Thread Cert.SplitFwdIdeal.nD Cert.SplitFwdIdeal.τ).loc Cert.SplitFwdIdeal.main_v0_6) = v6 c
          ∧ r.2.mem ((c.tc : Thread Cert.SplitFwdIdeal.nD Cert.SplitFwdIdeal.τ).loc Cert.SplitFwdIdeal.main_v0_7) = v7 c
          ∧ r.2.mem ((c.tc : Thread Cert.SplitFwdIdeal.nD Cert.SplitFwdIdeal.τ).loc Cert.SplitFwdIdeal.main_arg0) = m ((c.tc : Thread Cert.SplitFwdIdeal.nD Cert.SplitFwdIdeal.τ).loc Cert.SplitFwdIdeal.main_arg0)
          ∧ r.2.mem ((c.tc : Thread Cert.SplitFwdIdeal.nD Cert.SplitFwdIdeal.τ).loc Cert.SplitFwdIdeal.main_arg1) = m ((c.tc : Thread Cert.SplitFwdIdeal.nD Cert.SplitFwdIdeal.τ).loc Cert.SplitFwdIdeal.main_arg1))
      ∧ θ_run (Cert.SplitFwdReferenceIdeal.defs (F := Ideal)) (onTc (τ := Cert.SplitFwdReferenceIdeal.τ) (Cert.SplitFwdReferenceIdeal.main (F := Ideal))) ⟨m', fun _ => 0, g'⟩ (fun r => ∀ c : Dev Cert.SplitFwdReferenceIdeal.nD,
          r.2.mem ((c.tc : Thread Cert.SplitFwdReferenceIdeal.nD Cert.SplitFwdReferenceIdeal.τ).loc Cert.SplitFwdReferenceIdeal.main_v2) = v0 c
          ∧ r.2.mem ((c.tc : Thread Cert.SplitFwdReferenceIdeal.nD Cert.SplitFwdReferenceIdeal.τ).loc Cert.SplitFwdReferenceIdeal.main_v3) = v1 c
          ∧ r.2.mem ((c.tc : Thread Cert.SplitFwdReferenceIdeal.nD Cert.SplitFwdReferenceIdeal.τ).loc Cert.SplitFwdReferenceIdeal.main_v4) = v2 c
          ∧ r.2.mem ((c.tc : Thread Cert.SplitFwdReferenceIdeal.nD Cert.SplitFwdReferenceIdeal.τ).loc Cert.SplitFwdReferenceIdeal.main_v5) = v3 c
          ∧ r.2.mem ((c.tc : Thread Cert.SplitFwdReferenceIdeal.nD Cert.SplitFwdReferenceIdeal.τ).loc Cert.SplitFwdReferenceIdeal.main_v6) = v4 c
          ∧ r.2.mem ((c.tc : Thread Cert.SplitFwdReferenceIdeal.nD Cert.SplitFwdReferenceIdeal.τ).loc Cert.SplitFwdReferenceIdeal.main_v7) = v5 c
          ∧ r.2.mem ((c.tc : Thread Cert.SplitFwdReferenceIdeal.nD Cert.SplitFwdReferenceIdeal.τ).loc Cert.SplitFwdReferenceIdeal.main_v8) = v6 c
          ∧ r.2.mem ((c.tc : Thread Cert.SplitFwdReferenceIdeal.nD Cert.SplitFwdReferenceIdeal.τ).loc Cert.SplitFwdReferenceIdeal.main_v9) = v7 c
          ∧ r.2.mem ((c.tc : Thread Cert.SplitFwdReferenceIdeal.nD Cert.SplitFwdReferenceIdeal.τ).loc Cert.SplitFwdReferenceIdeal.main_arg0) = m' ((c.tc : Thread Cert.SplitFwdReferenceIdeal.nD Cert.SplitFwdReferenceIdeal.τ).loc Cert.SplitFwdReferenceIdeal.main_arg0)
          ∧ r.2.mem ((c.tc : Thread Cert.SplitFwdReferenceIdeal.nD Cert.SplitFwdReferenceIdeal.τ).loc Cert.SplitFwdReferenceIdeal.main_arg1) = m' ((c.tc : Thread Cert.SplitFwdReferenceIdeal.nD Cert.SplitFwdReferenceIdeal.τ).loc Cert.SplitFwdReferenceIdeal.main_arg1))

def preserves_SplitDx_SplitDxIdeal : Prop :=
  True

def algebraic_SplitDxIdeal_SplitDxReferenceIdeal [hSplitDxIdeal : Cert.SplitDxIdeal.Facts] [hSplitDxReferenceIdeal : Cert.SplitDxReferenceIdeal.Facts] : Prop :=
  ∀ (m : (ℓ : Loc Cert.SplitDxIdeal.nD Cert.SplitDxIdeal.τ Cert.SplitDxIdeal.sig) → Buf (Elt Ideal) ℓ) (g : Dev Cert.SplitDxIdeal.nD → PrngReg)
    (m' : (ℓ : Loc Cert.SplitDxReferenceIdeal.nD Cert.SplitDxReferenceIdeal.τ Cert.SplitDxReferenceIdeal.sig) → Buf (Elt Ideal) ℓ) (g' : Dev Cert.SplitDxReferenceIdeal.nD → PrngReg), Pre_SplitDxIdeal m →
    (∀ c : Dev Cert.SplitDxIdeal.nD,
      m' ((c.tc : Thread Cert.SplitDxReferenceIdeal.nD Cert.SplitDxReferenceIdeal.τ).loc Cert.SplitDxReferenceIdeal.main_arg0) = m ((c.tc : Thread Cert.SplitDxIdeal.nD Cert.SplitDxIdeal.τ).loc Cert.SplitDxIdeal.main_arg0)
      ∧ m' ((c.tc : Thread Cert.SplitDxReferenceIdeal.nD Cert.SplitDxReferenceIdeal.τ).loc Cert.SplitDxReferenceIdeal.main_arg1) = m ((c.tc : Thread Cert.SplitDxIdeal.nD Cert.SplitDxIdeal.τ).loc Cert.SplitDxIdeal.main_arg1)
      ∧ m' ((c.tc : Thread Cert.SplitDxReferenceIdeal.nD Cert.SplitDxReferenceIdeal.τ).loc Cert.SplitDxReferenceIdeal.main_arg2) = m ((c.tc : Thread Cert.SplitDxIdeal.nD Cert.SplitDxIdeal.τ).loc Cert.SplitDxIdeal.main_arg2)
      ∧ m' ((c.tc : Thread Cert.SplitDxReferenceIdeal.nD Cert.SplitDxReferenceIdeal.τ).loc Cert.SplitDxReferenceIdeal.main_arg3) = m ((c.tc : Thread Cert.SplitDxIdeal.nD Cert.SplitDxIdeal.τ).loc Cert.SplitDxIdeal.main_arg3)
      ∧ m' ((c.tc : Thread Cert.SplitDxReferenceIdeal.nD Cert.SplitDxReferenceIdeal.τ).loc Cert.SplitDxReferenceIdeal.main_arg4) = m ((c.tc : Thread Cert.SplitDxIdeal.nD Cert.SplitDxIdeal.τ).loc Cert.SplitDxIdeal.main_arg4)
      ∧ m' ((c.tc : Thread Cert.SplitDxReferenceIdeal.nD Cert.SplitDxReferenceIdeal.τ).loc Cert.SplitDxReferenceIdeal.main_arg5) = m ((c.tc : Thread Cert.SplitDxIdeal.nD Cert.SplitDxIdeal.τ).loc Cert.SplitDxIdeal.main_arg5)
      ∧ m' ((c.tc : Thread Cert.SplitDxReferenceIdeal.nD Cert.SplitDxReferenceIdeal.τ).loc Cert.SplitDxReferenceIdeal.main_arg6) = m ((c.tc : Thread Cert.SplitDxIdeal.nD Cert.SplitDxIdeal.τ).loc Cert.SplitDxIdeal.main_arg6)
      ∧ m' ((c.tc : Thread Cert.SplitDxReferenceIdeal.nD Cert.SplitDxReferenceIdeal.τ).loc Cert.SplitDxReferenceIdeal.main_arg7) = m ((c.tc : Thread Cert.SplitDxIdeal.nD Cert.SplitDxIdeal.τ).loc Cert.SplitDxIdeal.main_arg7)
      ∧ m' ((c.tc : Thread Cert.SplitDxReferenceIdeal.nD Cert.SplitDxReferenceIdeal.τ).loc Cert.SplitDxReferenceIdeal.main_arg8) = m ((c.tc : Thread Cert.SplitDxIdeal.nD Cert.SplitDxIdeal.τ).loc Cert.SplitDxIdeal.main_arg8)) →
    ∃ (v0 : (c : Dev Cert.SplitDxIdeal.nD) → Buf (Elt Ideal) ((c.tc : Thread Cert.SplitDxIdeal.nD Cert.SplitDxIdeal.τ).loc Cert.SplitDxIdeal.main_v0)),
      θ_run (Cert.SplitDxIdeal.defs (F := Ideal)) (onTc (τ := Cert.SplitDxIdeal.τ) (Cert.SplitDxIdeal.main (F := Ideal))) ⟨m, fun _ => 0, g⟩ (fun r => ∀ c : Dev Cert.SplitDxIdeal.nD,
          r.2.mem ((c.tc : Thread Cert.SplitDxIdeal.nD Cert.SplitDxIdeal.τ).loc Cert.SplitDxIdeal.main_v0) = v0 c
          ∧ r.2.mem ((c.tc : Thread Cert.SplitDxIdeal.nD Cert.SplitDxIdeal.τ).loc Cert.SplitDxIdeal.main_arg0) = m ((c.tc : Thread Cert.SplitDxIdeal.nD Cert.SplitDxIdeal.τ).loc Cert.SplitDxIdeal.main_arg0)
          ∧ r.2.mem ((c.tc : Thread Cert.SplitDxIdeal.nD Cert.SplitDxIdeal.τ).loc Cert.SplitDxIdeal.main_arg1) = m ((c.tc : Thread Cert.SplitDxIdeal.nD Cert.SplitDxIdeal.τ).loc Cert.SplitDxIdeal.main_arg1)
          ∧ r.2.mem ((c.tc : Thread Cert.SplitDxIdeal.nD Cert.SplitDxIdeal.τ).loc Cert.SplitDxIdeal.main_arg2) = m ((c.tc : Thread Cert.SplitDxIdeal.nD Cert.SplitDxIdeal.τ).loc Cert.SplitDxIdeal.main_arg2)
          ∧ r.2.mem ((c.tc : Thread Cert.SplitDxIdeal.nD Cert.SplitDxIdeal.τ).loc Cert.SplitDxIdeal.main_arg3) = m ((c.tc : Thread Cert.SplitDxIdeal.nD Cert.SplitDxIdeal.τ).loc Cert.SplitDxIdeal.main_arg3)
          ∧ r.2.mem ((c.tc : Thread Cert.SplitDxIdeal.nD Cert.SplitDxIdeal.τ).loc Cert.SplitDxIdeal.main_arg4) = m ((c.tc : Thread Cert.SplitDxIdeal.nD Cert.SplitDxIdeal.τ).loc Cert.SplitDxIdeal.main_arg4)
          ∧ r.2.mem ((c.tc : Thread Cert.SplitDxIdeal.nD Cert.SplitDxIdeal.τ).loc Cert.SplitDxIdeal.main_arg5) = m ((c.tc : Thread Cert.SplitDxIdeal.nD Cert.SplitDxIdeal.τ).loc Cert.SplitDxIdeal.main_arg5)
          ∧ r.2.mem ((c.tc : Thread Cert.SplitDxIdeal.nD Cert.SplitDxIdeal.τ).loc Cert.SplitDxIdeal.main_arg6) = m ((c.tc : Thread Cert.SplitDxIdeal.nD Cert.SplitDxIdeal.τ).loc Cert.SplitDxIdeal.main_arg6)
          ∧ r.2.mem ((c.tc : Thread Cert.SplitDxIdeal.nD Cert.SplitDxIdeal.τ).loc Cert.SplitDxIdeal.main_arg7) = m ((c.tc : Thread Cert.SplitDxIdeal.nD Cert.SplitDxIdeal.τ).loc Cert.SplitDxIdeal.main_arg7)
          ∧ r.2.mem ((c.tc : Thread Cert.SplitDxIdeal.nD Cert.SplitDxIdeal.τ).loc Cert.SplitDxIdeal.main_arg8) = m ((c.tc : Thread Cert.SplitDxIdeal.nD Cert.SplitDxIdeal.τ).loc Cert.SplitDxIdeal.main_arg8))
      ∧ θ_run (Cert.SplitDxReferenceIdeal.defs (F := Ideal)) (onTc (τ := Cert.SplitDxReferenceIdeal.τ) (Cert.SplitDxReferenceIdeal.main (F := Ideal))) ⟨m', fun _ => 0, g'⟩ (fun r => ∀ c : Dev Cert.SplitDxReferenceIdeal.nD,
          r.2.mem ((c.tc : Thread Cert.SplitDxReferenceIdeal.nD Cert.SplitDxReferenceIdeal.τ).loc Cert.SplitDxReferenceIdeal.main_v2) = v0 c
          ∧ r.2.mem ((c.tc : Thread Cert.SplitDxReferenceIdeal.nD Cert.SplitDxReferenceIdeal.τ).loc Cert.SplitDxReferenceIdeal.main_arg0) = m' ((c.tc : Thread Cert.SplitDxReferenceIdeal.nD Cert.SplitDxReferenceIdeal.τ).loc Cert.SplitDxReferenceIdeal.main_arg0)
          ∧ r.2.mem ((c.tc : Thread Cert.SplitDxReferenceIdeal.nD Cert.SplitDxReferenceIdeal.τ).loc Cert.SplitDxReferenceIdeal.main_arg1) = m' ((c.tc : Thread Cert.SplitDxReferenceIdeal.nD Cert.SplitDxReferenceIdeal.τ).loc Cert.SplitDxReferenceIdeal.main_arg1)
          ∧ r.2.mem ((c.tc : Thread Cert.SplitDxReferenceIdeal.nD Cert.SplitDxReferenceIdeal.τ).loc Cert.SplitDxReferenceIdeal.main_arg2) = m' ((c.tc : Thread Cert.SplitDxReferenceIdeal.nD Cert.SplitDxReferenceIdeal.τ).loc Cert.SplitDxReferenceIdeal.main_arg2)
          ∧ r.2.mem ((c.tc : Thread Cert.SplitDxReferenceIdeal.nD Cert.SplitDxReferenceIdeal.τ).loc Cert.SplitDxReferenceIdeal.main_arg3) = m' ((c.tc : Thread Cert.SplitDxReferenceIdeal.nD Cert.SplitDxReferenceIdeal.τ).loc Cert.SplitDxReferenceIdeal.main_arg3)
          ∧ r.2.mem ((c.tc : Thread Cert.SplitDxReferenceIdeal.nD Cert.SplitDxReferenceIdeal.τ).loc Cert.SplitDxReferenceIdeal.main_arg4) = m' ((c.tc : Thread Cert.SplitDxReferenceIdeal.nD Cert.SplitDxReferenceIdeal.τ).loc Cert.SplitDxReferenceIdeal.main_arg4)
          ∧ r.2.mem ((c.tc : Thread Cert.SplitDxReferenceIdeal.nD Cert.SplitDxReferenceIdeal.τ).loc Cert.SplitDxReferenceIdeal.main_arg5) = m' ((c.tc : Thread Cert.SplitDxReferenceIdeal.nD Cert.SplitDxReferenceIdeal.τ).loc Cert.SplitDxReferenceIdeal.main_arg5)
          ∧ r.2.mem ((c.tc : Thread Cert.SplitDxReferenceIdeal.nD Cert.SplitDxReferenceIdeal.τ).loc Cert.SplitDxReferenceIdeal.main_arg6) = m' ((c.tc : Thread Cert.SplitDxReferenceIdeal.nD Cert.SplitDxReferenceIdeal.τ).loc Cert.SplitDxReferenceIdeal.main_arg6)
          ∧ r.2.mem ((c.tc : Thread Cert.SplitDxReferenceIdeal.nD Cert.SplitDxReferenceIdeal.τ).loc Cert.SplitDxReferenceIdeal.main_arg7) = m' ((c.tc : Thread Cert.SplitDxReferenceIdeal.nD Cert.SplitDxReferenceIdeal.τ).loc Cert.SplitDxReferenceIdeal.main_arg7)
          ∧ r.2.mem ((c.tc : Thread Cert.SplitDxReferenceIdeal.nD Cert.SplitDxReferenceIdeal.τ).loc Cert.SplitDxReferenceIdeal.main_arg8) = m' ((c.tc : Thread Cert.SplitDxReferenceIdeal.nD Cert.SplitDxReferenceIdeal.τ).loc Cert.SplitDxReferenceIdeal.main_arg8))

def preserves_SplitDw_SplitDwIdeal : Prop :=
  True

def algebraic_SplitDwIdeal_SplitDwReferenceIdeal [hSplitDwIdeal : Cert.SplitDwIdeal.Facts] [hSplitDwReferenceIdeal : Cert.SplitDwReferenceIdeal.Facts] : Prop :=
  ∀ (m : (ℓ : Loc Cert.SplitDwIdeal.nD Cert.SplitDwIdeal.τ Cert.SplitDwIdeal.sig) → Buf (Elt Ideal) ℓ) (g : Dev Cert.SplitDwIdeal.nD → PrngReg)
    (m' : (ℓ : Loc Cert.SplitDwReferenceIdeal.nD Cert.SplitDwReferenceIdeal.τ Cert.SplitDwReferenceIdeal.sig) → Buf (Elt Ideal) ℓ) (g' : Dev Cert.SplitDwReferenceIdeal.nD → PrngReg), Pre_SplitDwIdeal m →
    (∀ c : Dev Cert.SplitDwIdeal.nD,
      m' ((c.tc : Thread Cert.SplitDwReferenceIdeal.nD Cert.SplitDwReferenceIdeal.τ).loc Cert.SplitDwReferenceIdeal.main_arg0) = m ((c.tc : Thread Cert.SplitDwIdeal.nD Cert.SplitDwIdeal.τ).loc Cert.SplitDwIdeal.main_arg0)
      ∧ m' ((c.tc : Thread Cert.SplitDwReferenceIdeal.nD Cert.SplitDwReferenceIdeal.τ).loc Cert.SplitDwReferenceIdeal.main_arg1) = m ((c.tc : Thread Cert.SplitDwIdeal.nD Cert.SplitDwIdeal.τ).loc Cert.SplitDwIdeal.main_arg1)
      ∧ m' ((c.tc : Thread Cert.SplitDwReferenceIdeal.nD Cert.SplitDwReferenceIdeal.τ).loc Cert.SplitDwReferenceIdeal.main_arg2) = m ((c.tc : Thread Cert.SplitDwIdeal.nD Cert.SplitDwIdeal.τ).loc Cert.SplitDwIdeal.main_arg2)
      ∧ m' ((c.tc : Thread Cert.SplitDwReferenceIdeal.nD Cert.SplitDwReferenceIdeal.τ).loc Cert.SplitDwReferenceIdeal.main_arg3) = m ((c.tc : Thread Cert.SplitDwIdeal.nD Cert.SplitDwIdeal.τ).loc Cert.SplitDwIdeal.main_arg3)
      ∧ m' ((c.tc : Thread Cert.SplitDwReferenceIdeal.nD Cert.SplitDwReferenceIdeal.τ).loc Cert.SplitDwReferenceIdeal.main_arg4) = m ((c.tc : Thread Cert.SplitDwIdeal.nD Cert.SplitDwIdeal.τ).loc Cert.SplitDwIdeal.main_arg4)
      ∧ m' ((c.tc : Thread Cert.SplitDwReferenceIdeal.nD Cert.SplitDwReferenceIdeal.τ).loc Cert.SplitDwReferenceIdeal.main_arg5) = m ((c.tc : Thread Cert.SplitDwIdeal.nD Cert.SplitDwIdeal.τ).loc Cert.SplitDwIdeal.main_arg5)
      ∧ m' ((c.tc : Thread Cert.SplitDwReferenceIdeal.nD Cert.SplitDwReferenceIdeal.τ).loc Cert.SplitDwReferenceIdeal.main_arg6) = m ((c.tc : Thread Cert.SplitDwIdeal.nD Cert.SplitDwIdeal.τ).loc Cert.SplitDwIdeal.main_arg6)
      ∧ m' ((c.tc : Thread Cert.SplitDwReferenceIdeal.nD Cert.SplitDwReferenceIdeal.τ).loc Cert.SplitDwReferenceIdeal.main_arg7) = m ((c.tc : Thread Cert.SplitDwIdeal.nD Cert.SplitDwIdeal.τ).loc Cert.SplitDwIdeal.main_arg7)
      ∧ m' ((c.tc : Thread Cert.SplitDwReferenceIdeal.nD Cert.SplitDwReferenceIdeal.τ).loc Cert.SplitDwReferenceIdeal.main_arg8) = m ((c.tc : Thread Cert.SplitDwIdeal.nD Cert.SplitDwIdeal.τ).loc Cert.SplitDwIdeal.main_arg8)) →
    ∃ (v0 : (c : Dev Cert.SplitDwIdeal.nD) → Buf (Elt Ideal) ((c.tc : Thread Cert.SplitDwIdeal.nD Cert.SplitDwIdeal.τ).loc Cert.SplitDwIdeal.main_v0)),
      θ_run (Cert.SplitDwIdeal.defs (F := Ideal)) (onTc (τ := Cert.SplitDwIdeal.τ) (Cert.SplitDwIdeal.main (F := Ideal))) ⟨m, fun _ => 0, g⟩ (fun r => ∀ c : Dev Cert.SplitDwIdeal.nD,
          r.2.mem ((c.tc : Thread Cert.SplitDwIdeal.nD Cert.SplitDwIdeal.τ).loc Cert.SplitDwIdeal.main_v0) = v0 c
          ∧ r.2.mem ((c.tc : Thread Cert.SplitDwIdeal.nD Cert.SplitDwIdeal.τ).loc Cert.SplitDwIdeal.main_arg0) = m ((c.tc : Thread Cert.SplitDwIdeal.nD Cert.SplitDwIdeal.τ).loc Cert.SplitDwIdeal.main_arg0)
          ∧ r.2.mem ((c.tc : Thread Cert.SplitDwIdeal.nD Cert.SplitDwIdeal.τ).loc Cert.SplitDwIdeal.main_arg1) = m ((c.tc : Thread Cert.SplitDwIdeal.nD Cert.SplitDwIdeal.τ).loc Cert.SplitDwIdeal.main_arg1)
          ∧ r.2.mem ((c.tc : Thread Cert.SplitDwIdeal.nD Cert.SplitDwIdeal.τ).loc Cert.SplitDwIdeal.main_arg2) = m ((c.tc : Thread Cert.SplitDwIdeal.nD Cert.SplitDwIdeal.τ).loc Cert.SplitDwIdeal.main_arg2)
          ∧ r.2.mem ((c.tc : Thread Cert.SplitDwIdeal.nD Cert.SplitDwIdeal.τ).loc Cert.SplitDwIdeal.main_arg3) = m ((c.tc : Thread Cert.SplitDwIdeal.nD Cert.SplitDwIdeal.τ).loc Cert.SplitDwIdeal.main_arg3)
          ∧ r.2.mem ((c.tc : Thread Cert.SplitDwIdeal.nD Cert.SplitDwIdeal.τ).loc Cert.SplitDwIdeal.main_arg4) = m ((c.tc : Thread Cert.SplitDwIdeal.nD Cert.SplitDwIdeal.τ).loc Cert.SplitDwIdeal.main_arg4)
          ∧ r.2.mem ((c.tc : Thread Cert.SplitDwIdeal.nD Cert.SplitDwIdeal.τ).loc Cert.SplitDwIdeal.main_arg5) = m ((c.tc : Thread Cert.SplitDwIdeal.nD Cert.SplitDwIdeal.τ).loc Cert.SplitDwIdeal.main_arg5)
          ∧ r.2.mem ((c.tc : Thread Cert.SplitDwIdeal.nD Cert.SplitDwIdeal.τ).loc Cert.SplitDwIdeal.main_arg6) = m ((c.tc : Thread Cert.SplitDwIdeal.nD Cert.SplitDwIdeal.τ).loc Cert.SplitDwIdeal.main_arg6)
          ∧ r.2.mem ((c.tc : Thread Cert.SplitDwIdeal.nD Cert.SplitDwIdeal.τ).loc Cert.SplitDwIdeal.main_arg7) = m ((c.tc : Thread Cert.SplitDwIdeal.nD Cert.SplitDwIdeal.τ).loc Cert.SplitDwIdeal.main_arg7)
          ∧ r.2.mem ((c.tc : Thread Cert.SplitDwIdeal.nD Cert.SplitDwIdeal.τ).loc Cert.SplitDwIdeal.main_arg8) = m ((c.tc : Thread Cert.SplitDwIdeal.nD Cert.SplitDwIdeal.τ).loc Cert.SplitDwIdeal.main_arg8))
      ∧ θ_run (Cert.SplitDwReferenceIdeal.defs (F := Ideal)) (onTc (τ := Cert.SplitDwReferenceIdeal.τ) (Cert.SplitDwReferenceIdeal.main (F := Ideal))) ⟨m', fun _ => 0, g'⟩ (fun r => ∀ c : Dev Cert.SplitDwReferenceIdeal.nD,
          r.2.mem ((c.tc : Thread Cert.SplitDwReferenceIdeal.nD Cert.SplitDwReferenceIdeal.τ).loc Cert.SplitDwReferenceIdeal.main_v3) = v0 c
          ∧ r.2.mem ((c.tc : Thread Cert.SplitDwReferenceIdeal.nD Cert.SplitDwReferenceIdeal.τ).loc Cert.SplitDwReferenceIdeal.main_arg0) = m' ((c.tc : Thread Cert.SplitDwReferenceIdeal.nD Cert.SplitDwReferenceIdeal.τ).loc Cert.SplitDwReferenceIdeal.main_arg0)
          ∧ r.2.mem ((c.tc : Thread Cert.SplitDwReferenceIdeal.nD Cert.SplitDwReferenceIdeal.τ).loc Cert.SplitDwReferenceIdeal.main_arg1) = m' ((c.tc : Thread Cert.SplitDwReferenceIdeal.nD Cert.SplitDwReferenceIdeal.τ).loc Cert.SplitDwReferenceIdeal.main_arg1)
          ∧ r.2.mem ((c.tc : Thread Cert.SplitDwReferenceIdeal.nD Cert.SplitDwReferenceIdeal.τ).loc Cert.SplitDwReferenceIdeal.main_arg2) = m' ((c.tc : Thread Cert.SplitDwReferenceIdeal.nD Cert.SplitDwReferenceIdeal.τ).loc Cert.SplitDwReferenceIdeal.main_arg2)
          ∧ r.2.mem ((c.tc : Thread Cert.SplitDwReferenceIdeal.nD Cert.SplitDwReferenceIdeal.τ).loc Cert.SplitDwReferenceIdeal.main_arg3) = m' ((c.tc : Thread Cert.SplitDwReferenceIdeal.nD Cert.SplitDwReferenceIdeal.τ).loc Cert.SplitDwReferenceIdeal.main_arg3)
          ∧ r.2.mem ((c.tc : Thread Cert.SplitDwReferenceIdeal.nD Cert.SplitDwReferenceIdeal.τ).loc Cert.SplitDwReferenceIdeal.main_arg4) = m' ((c.tc : Thread Cert.SplitDwReferenceIdeal.nD Cert.SplitDwReferenceIdeal.τ).loc Cert.SplitDwReferenceIdeal.main_arg4)
          ∧ r.2.mem ((c.tc : Thread Cert.SplitDwReferenceIdeal.nD Cert.SplitDwReferenceIdeal.τ).loc Cert.SplitDwReferenceIdeal.main_arg5) = m' ((c.tc : Thread Cert.SplitDwReferenceIdeal.nD Cert.SplitDwReferenceIdeal.τ).loc Cert.SplitDwReferenceIdeal.main_arg5)
          ∧ r.2.mem ((c.tc : Thread Cert.SplitDwReferenceIdeal.nD Cert.SplitDwReferenceIdeal.τ).loc Cert.SplitDwReferenceIdeal.main_arg6) = m' ((c.tc : Thread Cert.SplitDwReferenceIdeal.nD Cert.SplitDwReferenceIdeal.τ).loc Cert.SplitDwReferenceIdeal.main_arg6)
          ∧ r.2.mem ((c.tc : Thread Cert.SplitDwReferenceIdeal.nD Cert.SplitDwReferenceIdeal.τ).loc Cert.SplitDwReferenceIdeal.main_arg7) = m' ((c.tc : Thread Cert.SplitDwReferenceIdeal.nD Cert.SplitDwReferenceIdeal.τ).loc Cert.SplitDwReferenceIdeal.main_arg7)
          ∧ r.2.mem ((c.tc : Thread Cert.SplitDwReferenceIdeal.nD Cert.SplitDwReferenceIdeal.τ).loc Cert.SplitDwReferenceIdeal.main_arg8) = m' ((c.tc : Thread Cert.SplitDwReferenceIdeal.nD Cert.SplitDwReferenceIdeal.τ).loc Cert.SplitDwReferenceIdeal.main_arg8))

def preserves_AdamSharded_AdamShardedIdeal : Prop :=
  True

def algebraic_AdamShardedIdeal_AdamShardedReferenceIdeal [hAdamShardedIdeal : Cert.AdamShardedIdeal.Facts] [hAdamShardedReferenceIdeal : Cert.AdamShardedReferenceIdeal.Facts] : Prop :=
  ∀ (m : (ℓ : Loc Cert.AdamShardedIdeal.nD Cert.AdamShardedIdeal.τ Cert.AdamShardedIdeal.sig) → Buf (Elt Ideal) ℓ) (g : Dev Cert.AdamShardedIdeal.nD → PrngReg)
    (m' : (ℓ : Loc Cert.AdamShardedReferenceIdeal.nD Cert.AdamShardedReferenceIdeal.τ Cert.AdamShardedReferenceIdeal.sig) → Buf (Elt Ideal) ℓ) (g' : Dev Cert.AdamShardedReferenceIdeal.nD → PrngReg), Pre_AdamShardedIdeal m →
    (∀ c : Dev Cert.AdamShardedIdeal.nD,
      m' ((c.tc : Thread Cert.AdamShardedReferenceIdeal.nD Cert.AdamShardedReferenceIdeal.τ).loc Cert.AdamShardedReferenceIdeal.main_arg0) = m ((c.tc : Thread Cert.AdamShardedIdeal.nD Cert.AdamShardedIdeal.τ).loc Cert.AdamShardedIdeal.main_arg0)
      ∧ m' ((c.tc : Thread Cert.AdamShardedReferenceIdeal.nD Cert.AdamShardedReferenceIdeal.τ).loc Cert.AdamShardedReferenceIdeal.main_arg1) = m ((c.tc : Thread Cert.AdamShardedIdeal.nD Cert.AdamShardedIdeal.τ).loc Cert.AdamShardedIdeal.main_arg1)
      ∧ m' ((c.tc : Thread Cert.AdamShardedReferenceIdeal.nD Cert.AdamShardedReferenceIdeal.τ).loc Cert.AdamShardedReferenceIdeal.main_arg2) = m ((c.tc : Thread Cert.AdamShardedIdeal.nD Cert.AdamShardedIdeal.τ).loc Cert.AdamShardedIdeal.main_arg2)
      ∧ m' ((c.tc : Thread Cert.AdamShardedReferenceIdeal.nD Cert.AdamShardedReferenceIdeal.τ).loc Cert.AdamShardedReferenceIdeal.main_arg3) = m ((c.tc : Thread Cert.AdamShardedIdeal.nD Cert.AdamShardedIdeal.τ).loc Cert.AdamShardedIdeal.main_arg3)) →
    ∃ (v0 : (c : Dev Cert.AdamShardedIdeal.nD) → Buf (Elt Ideal) ((c.tc : Thread Cert.AdamShardedIdeal.nD Cert.AdamShardedIdeal.τ).loc Cert.AdamShardedIdeal.main_v0_0)) (v1 : (c : Dev Cert.AdamShardedIdeal.nD) → Buf (Elt Ideal) ((c.tc : Thread Cert.AdamShardedIdeal.nD Cert.AdamShardedIdeal.τ).loc Cert.AdamShardedIdeal.main_v0_1)) (v2 : (c : Dev Cert.AdamShardedIdeal.nD) → Buf (Elt Ideal) ((c.tc : Thread Cert.AdamShardedIdeal.nD Cert.AdamShardedIdeal.τ).loc Cert.AdamShardedIdeal.main_v0_2)) (v3 : (c : Dev Cert.AdamShardedIdeal.nD) → Buf (Elt Ideal) ((c.tc : Thread Cert.AdamShardedIdeal.nD Cert.AdamShardedIdeal.τ).loc Cert.AdamShardedIdeal.main_v0_3)),
      θ_run (Cert.AdamShardedIdeal.defs (F := Ideal)) (onTc (τ := Cert.AdamShardedIdeal.τ) (Cert.AdamShardedIdeal.main (F := Ideal))) ⟨m, fun _ => 0, g⟩ (fun r => ∀ c : Dev Cert.AdamShardedIdeal.nD,
          r.2.mem ((c.tc : Thread Cert.AdamShardedIdeal.nD Cert.AdamShardedIdeal.τ).loc Cert.AdamShardedIdeal.main_v0_0) = v0 c
          ∧ r.2.mem ((c.tc : Thread Cert.AdamShardedIdeal.nD Cert.AdamShardedIdeal.τ).loc Cert.AdamShardedIdeal.main_v0_1) = v1 c
          ∧ r.2.mem ((c.tc : Thread Cert.AdamShardedIdeal.nD Cert.AdamShardedIdeal.τ).loc Cert.AdamShardedIdeal.main_v0_2) = v2 c
          ∧ r.2.mem ((c.tc : Thread Cert.AdamShardedIdeal.nD Cert.AdamShardedIdeal.τ).loc Cert.AdamShardedIdeal.main_v0_3) = v3 c
          ∧ r.2.mem ((c.tc : Thread Cert.AdamShardedIdeal.nD Cert.AdamShardedIdeal.τ).loc Cert.AdamShardedIdeal.main_arg0) = m ((c.tc : Thread Cert.AdamShardedIdeal.nD Cert.AdamShardedIdeal.τ).loc Cert.AdamShardedIdeal.main_arg0)
          ∧ r.2.mem ((c.tc : Thread Cert.AdamShardedIdeal.nD Cert.AdamShardedIdeal.τ).loc Cert.AdamShardedIdeal.main_arg1) = m ((c.tc : Thread Cert.AdamShardedIdeal.nD Cert.AdamShardedIdeal.τ).loc Cert.AdamShardedIdeal.main_arg1)
          ∧ r.2.mem ((c.tc : Thread Cert.AdamShardedIdeal.nD Cert.AdamShardedIdeal.τ).loc Cert.AdamShardedIdeal.main_arg2) = m ((c.tc : Thread Cert.AdamShardedIdeal.nD Cert.AdamShardedIdeal.τ).loc Cert.AdamShardedIdeal.main_arg2)
          ∧ r.2.mem ((c.tc : Thread Cert.AdamShardedIdeal.nD Cert.AdamShardedIdeal.τ).loc Cert.AdamShardedIdeal.main_arg3) = m ((c.tc : Thread Cert.AdamShardedIdeal.nD Cert.AdamShardedIdeal.τ).loc Cert.AdamShardedIdeal.main_arg3))
      ∧ θ_run (Cert.AdamShardedReferenceIdeal.defs (F := Ideal)) (onTc (τ := Cert.AdamShardedReferenceIdeal.τ) (Cert.AdamShardedReferenceIdeal.main (F := Ideal))) ⟨m', fun _ => 0, g'⟩ (fun r => ∀ c : Dev Cert.AdamShardedReferenceIdeal.nD,
          r.2.mem ((c.tc : Thread Cert.AdamShardedReferenceIdeal.nD Cert.AdamShardedReferenceIdeal.τ).loc Cert.AdamShardedReferenceIdeal.main_v1) = v0 c
          ∧ r.2.mem ((c.tc : Thread Cert.AdamShardedReferenceIdeal.nD Cert.AdamShardedReferenceIdeal.τ).loc Cert.AdamShardedReferenceIdeal.main_v25) = v1 c
          ∧ r.2.mem ((c.tc : Thread Cert.AdamShardedReferenceIdeal.nD Cert.AdamShardedReferenceIdeal.τ).loc Cert.AdamShardedReferenceIdeal.main_v6) = v2 c
          ∧ r.2.mem ((c.tc : Thread Cert.AdamShardedReferenceIdeal.nD Cert.AdamShardedReferenceIdeal.τ).loc Cert.AdamShardedReferenceIdeal.main_v12) = v3 c
          ∧ r.2.mem ((c.tc : Thread Cert.AdamShardedReferenceIdeal.nD Cert.AdamShardedReferenceIdeal.τ).loc Cert.AdamShardedReferenceIdeal.main_arg0) = m' ((c.tc : Thread Cert.AdamShardedReferenceIdeal.nD Cert.AdamShardedReferenceIdeal.τ).loc Cert.AdamShardedReferenceIdeal.main_arg0)
          ∧ r.2.mem ((c.tc : Thread Cert.AdamShardedReferenceIdeal.nD Cert.AdamShardedReferenceIdeal.τ).loc Cert.AdamShardedReferenceIdeal.main_arg1) = m' ((c.tc : Thread Cert.AdamShardedReferenceIdeal.nD Cert.AdamShardedReferenceIdeal.τ).loc Cert.AdamShardedReferenceIdeal.main_arg1)
          ∧ r.2.mem ((c.tc : Thread Cert.AdamShardedReferenceIdeal.nD Cert.AdamShardedReferenceIdeal.τ).loc Cert.AdamShardedReferenceIdeal.main_arg2) = m' ((c.tc : Thread Cert.AdamShardedReferenceIdeal.nD Cert.AdamShardedReferenceIdeal.τ).loc Cert.AdamShardedReferenceIdeal.main_arg2)
          ∧ r.2.mem ((c.tc : Thread Cert.AdamShardedReferenceIdeal.nD Cert.AdamShardedReferenceIdeal.τ).loc Cert.AdamShardedReferenceIdeal.main_arg3) = m' ((c.tc : Thread Cert.AdamShardedReferenceIdeal.nD Cert.AdamShardedReferenceIdeal.τ).loc Cert.AdamShardedReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v0) = v0 c
          ∧ r.2.mem ((c.tc : Thread Cert.AdamSmallReferenceIdeal.nD Cert.AdamSmallReferenceIdeal.τ).loc Cert.AdamSmallReferenceIdeal.main_v24) = v1 c
          ∧ r.2.mem ((c.tc : Thread Cert.AdamSmallReferenceIdeal.nD Cert.AdamSmallReferenceIdeal.τ).loc Cert.AdamSmallReferenceIdeal.main_v5) = v2 c
          ∧ r.2.mem ((c.tc : Thread Cert.AdamSmallReferenceIdeal.nD Cert.AdamSmallReferenceIdeal.τ).loc Cert.AdamSmallReferenceIdeal.main_v11) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_FfnAct_FfnActIdeal : Prop :=
  True

def algebraic_FfnActIdeal_FfnActReferenceIdeal [hFfnActIdeal : Cert.FfnActIdeal.Facts] [hFfnActReferenceIdeal : Cert.FfnActReferenceIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActReferenceIdeal.nD Cert.FfnActReferenceIdeal.τ Cert.FfnActReferenceIdeal.sig) → Buf (Elt Ideal) ℓ) (g' : Dev Cert.FfnActReferenceIdeal.nD → PrngReg), Pre_FfnActIdeal m →
    (∀ c : Dev Cert.FfnActIdeal.nD,
      m' ((c.tc : Thread Cert.FfnActReferenceIdeal.nD Cert.FfnActReferenceIdeal.τ).loc Cert.FfnActReferenceIdeal.main_arg0) = m ((c.tc : Thread Cert.FfnActIdeal.nD Cert.FfnActIdeal.τ).loc Cert.FfnActIdeal.main_arg0)) →
    ∃ (v0 : (c : Dev Cert.FfnActIdeal.nD) → Buf (Elt Ideal) ((c.tc : Thread Cert.FfnActIdeal.nD Cert.FfnActIdeal.τ).loc Cert.FfnActIdeal.main_v0)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v0) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0))
      ∧ θ_run (Cert.FfnActReferenceIdeal.defs (F := Ideal)) (onTc (τ := Cert.FfnActReferenceIdeal.τ) (Cert.FfnActReferenceIdeal.main (F := Ideal))) ⟨m', fun _ => 0, g'⟩ (fun r => ∀ c : Dev Cert.FfnActReferenceIdeal.nD,
          r.2.mem ((c.tc : Thread Cert.FfnActReferenceIdeal.nD Cert.FfnActReferenceIdeal.τ).loc Cert.FfnActReferenceIdeal.main_v5) = v0 c
          ∧ r.2.mem ((c.tc : Thread Cert.FfnActReferenceIdeal.nD Cert.FfnActReferenceIdeal.τ).loc Cert.FfnActReferenceIdeal.main_arg0) = m' ((c.tc : Thread Cert.FfnActReferenceIdeal.nD Cert.FfnActReferenceIdeal.τ).loc Cert.FfnActReferenceIdeal.main_arg0))

def preserves_FfnActBwd_FfnActBwdIdeal : Prop :=
  True

def algebraic_FfnActBwdIdeal_FfnActBwdReferenceIdeal [hFfnActBwdIdeal : Cert.FfnActBwdIdeal.Facts] [hFfnActBwdReferenceIdeal : Cert.FfnActBwdReferenceIdeal.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg)
    (m' : (ℓ : Loc Cert.FfnActBwdReferenceIdeal.nD Cert.FfnActBwdReferenceIdeal.τ Cert.FfnActBwdReferenceIdeal.sig) → Buf (Elt Ideal) ℓ) (g' : Dev Cert.FfnActBwdReferenceIdeal.nD → PrngReg), Pre_FfnActBwdIdeal m →
    (∀ c : Dev Cert.FfnActBwdIdeal.nD,
      m' ((c.tc : Thread Cert.FfnActBwdReferenceIdeal.nD Cert.FfnActBwdReferenceIdeal.τ).loc Cert.FfnActBwdReferenceIdeal.main_arg0) = m ((c.tc : Thread Cert.FfnActBwdIdeal.nD Cert.FfnActBwdIdeal.τ).loc Cert.FfnActBwdIdeal.main_arg0)
      ∧ m' ((c.tc : Thread Cert.FfnActBwdReferenceIdeal.nD Cert.FfnActBwdReferenceIdeal.τ).loc Cert.FfnActBwdReferenceIdeal.main_arg1) = m ((c.tc : Thread Cert.FfnActBwdIdeal.nD Cert.FfnActBwdIdeal.τ).loc Cert.FfnActBwdIdeal.main_arg1)) →
    ∃ (v0 : (c : Dev Cert.FfnActBwdIdeal.nD) → Buf (Elt Ideal) ((c.tc : Thread Cert.FfnActBwdIdeal.nD Cert.FfnActBwdIdeal.τ).loc Cert.FfnActBwdIdeal.main_v0)),
      θ_run (Cert.FfnActBwdIdeal.defs (F := Ideal)) (onTc (τ := Cert.FfnActBwdIdeal.τ) (Cert.FfnActBwdIdeal.main (F := Ideal))) ⟨m, fun _ => 0, g⟩ (fun r => ∀ c : Dev Cert.FfnActBwdIdeal.nD,
          r.2.mem ((c.tc : Thread Cert.FfnActBwdIdeal.nD Cert.FfnActBwdIdeal.τ).loc Cert.FfnActBwdIdeal.main_v0) = v0 c
          ∧ r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
          ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1))
      ∧ θ_run (Cert.FfnActBwdReferenceIdeal.defs (F := Ideal)) (onTc (τ := Cert.FfnActBwdReferenceIdeal.τ) (Cert.FfnActBwdReferenceIdeal.main (F := Ideal))) ⟨m', fun _ => 0, g'⟩ (fun r => ∀ c : Dev Cert.FfnActBwdReferenceIdeal.nD,
          r.2.mem ((c.tc : Thread Cert.FfnActBwdReferenceIdeal.nD Cert.FfnActBwdReferenceIdeal.τ).loc Cert.FfnActBwdReferenceIdeal.main_v10) = v0 c
          ∧ r.2.mem ((c.tc : Thread Cert.FfnActBwdReferenceIdeal.nD Cert.FfnActBwdReferenceIdeal.τ).loc Cert.FfnActBwdReferenceIdeal.main_arg0) = m' ((c.tc : Thread Cert.FfnActBwdReferenceIdeal.nD Cert.FfnActBwdReferenceIdeal.τ).loc Cert.FfnActBwdReferenceIdeal.main_arg0)
          ∧ r.2.mem ((c.tc : Thread Cert.FfnActBwdReferenceIdeal.nD Cert.FfnActBwdReferenceIdeal.τ).loc Cert.FfnActBwdReferenceIdeal.main_arg1) = m' ((c.tc : Thread Cert.FfnActBwdReferenceIdeal.nD Cert.FfnActBwdReferenceIdeal.τ).loc Cert.FfnActBwdReferenceIdeal.main_arg1))

def preserves_GluAct_GluActIdeal : Prop :=
  True

def algebraic_GluActIdeal_GluActReferenceIdeal [hGluActIdeal : Cert.GluActIdeal.Facts] [hGluActReferenceIdeal : Cert.GluActReferenceIdeal.Facts] : Prop :=
  ∀ (m : (ℓ : Loc Cert.GluActIdeal.nD Cert.GluActIdeal.τ Cert.GluActIdeal.sig) → Buf (Elt Ideal) ℓ) (g : Dev Cert.GluActIdeal.nD → PrngReg)
    (m' : (ℓ : Loc Cert.GluActReferenceIdeal.nD Cert.GluActReferenceIdeal.τ Cert.GluActReferenceIdeal.sig) → Buf (Elt Ideal) ℓ) (g' : Dev Cert.GluActReferenceIdeal.nD → PrngReg), Pre_GluActIdeal m →
    (∀ c : Dev Cert.GluActIdeal.nD,
      m' ((c.tc : Thread Cert.GluActReferenceIdeal.nD Cert.GluActReferenceIdeal.τ).loc Cert.GluActReferenceIdeal.main_arg0) = m ((c.tc : Thread Cert.GluActIdeal.nD Cert.GluActIdeal.τ).loc Cert.GluActIdeal.main_arg0)) →
    ∃ (v0 : (c : Dev Cert.GluActIdeal.nD) → Buf (Elt Ideal) ((c.tc : Thread Cert.GluActIdeal.nD Cert.GluActIdeal.τ).loc Cert.GluActIdeal.main_v0)),
      θ_run (Cert.GluActIdeal.defs (F := Ideal)) (onTc (τ := Cert.GluActIdeal.τ) (Cert.GluActIdeal.main (F := Ideal))) ⟨m, fun _ => 0, g⟩ (fun r => ∀ c : Dev Cert.GluActIdeal.nD,
          r.2.mem ((c.tc : Thread Cert.GluActIdeal.nD Cert.GluActIdeal.τ).loc Cert.GluActIdeal.main_v0) = v0 c
          ∧ r.2.mem ((c.tc : Thread Cert.GluActIdeal.nD Cert.GluActIdeal.τ).loc Cert.GluActIdeal.main_arg0) = m ((c.tc : Thread Cert.GluActIdeal.nD Cert.GluActIdeal.τ).loc Cert.GluActIdeal.main_arg0))
      ∧ θ_run (Cert.GluActReferenceIdeal.defs (F := Ideal)) (onTc (τ := Cert.GluActReferenceIdeal.τ) (Cert.GluActReferenceIdeal.main (F := Ideal))) ⟨m', fun _ => 0, g'⟩ (fun r => ∀ c : Dev Cert.GluActReferenceIdeal.nD,
          r.2.mem ((c.tc : Thread Cert.GluActReferenceIdeal.nD Cert.GluActReferenceIdeal.τ).loc Cert.GluActReferenceIdeal.main_v8) = v0 c
          ∧ r.2.mem ((c.tc : Thread Cert.GluActReferenceIdeal.nD Cert.GluActReferenceIdeal.τ).loc Cert.GluActReferenceIdeal.main_arg0) = m' ((c.tc : Thread Cert.GluActReferenceIdeal.nD Cert.GluActReferenceIdeal.τ).loc Cert.GluActReferenceIdeal.main_arg0))

def preserves_GluActBwd_GluActBwdIdeal : Prop :=
  True

def algebraic_GluActBwdIdeal_GluActBwdReferenceIdeal [hGluActBwdIdeal : Cert.GluActBwdIdeal.Facts] [hGluActBwdReferenceIdeal : Cert.GluActBwdReferenceIdeal.Facts] : Prop :=
  ∀ (m : (ℓ : Loc Cert.GluActBwdIdeal.nD Cert.GluActBwdIdeal.τ Cert.GluActBwdIdeal.sig) → Buf (Elt Ideal) ℓ) (g : Dev Cert.GluActBwdIdeal.nD → PrngReg)
    (m' : (ℓ : Loc Cert.GluActBwdReferenceIdeal.nD Cert.GluActBwdReferenceIdeal.τ Cert.GluActBwdReferenceIdeal.sig) → Buf (Elt Ideal) ℓ) (g' : Dev Cert.GluActBwdReferenceIdeal.nD → PrngReg), Pre_GluActBwdIdeal m →
    (∀ c : Dev Cert.GluActBwdIdeal.nD,
      m' ((c.tc : Thread Cert.GluActBwdReferenceIdeal.nD Cert.GluActBwdReferenceIdeal.τ).loc Cert.GluActBwdReferenceIdeal.main_arg0) = m ((c.tc : Thread Cert.GluActBwdIdeal.nD Cert.GluActBwdIdeal.τ).loc Cert.GluActBwdIdeal.main_arg0)
      ∧ m' ((c.tc : Thread Cert.GluActBwdReferenceIdeal.nD Cert.GluActBwdReferenceIdeal.τ).loc Cert.GluActBwdReferenceIdeal.main_arg1) = m ((c.tc : Thread Cert.GluActBwdIdeal.nD Cert.GluActBwdIdeal.τ).loc Cert.GluActBwdIdeal.main_arg1)) →
    ∃ (v0 : (c : Dev Cert.GluActBwdIdeal.nD) → Buf (Elt Ideal) ((c.tc : Thread Cert.GluActBwdIdeal.nD Cert.GluActBwdIdeal.τ).loc Cert.GluActBwdIdeal.main_v0)),
      θ_run (Cert.GluActBwdIdeal.defs (F := Ideal)) (onTc (τ := Cert.GluActBwdIdeal.τ) (Cert.GluActBwdIdeal.main (F := Ideal))) ⟨m, fun _ => 0, g⟩ (fun r => ∀ c : Dev Cert.GluActBwdIdeal.nD,
          r.2.mem ((c.tc : Thread Cert.GluActBwdIdeal.nD Cert.GluActBwdIdeal.τ).loc Cert.GluActBwdIdeal.main_v0) = v0 c
          ∧ r.2.mem ((c.tc : Thread Cert.GluActBwdIdeal.nD Cert.GluActBwdIdeal.τ).loc Cert.GluActBwdIdeal.main_arg0) = m ((c.tc : Thread Cert.GluActBwdIdeal.nD Cert.GluActBwdIdeal.τ).loc Cert.GluActBwdIdeal.main_arg0)
          ∧ r.2.mem ((c.tc : Thread Cert.GluActBwdIdeal.nD Cert.GluActBwdIdeal.τ).loc Cert.GluActBwdIdeal.main_arg1) = m ((c.tc : Thread Cert.GluActBwdIdeal.nD Cert.GluActBwdIdeal.τ).loc Cert.GluActBwdIdeal.main_arg1))
      ∧ θ_run (Cert.GluActBwdReferenceIdeal.defs (F := Ideal)) (onTc (τ := Cert.GluActBwdReferenceIdeal.τ) (Cert.GluActBwdReferenceIdeal.main (F := Ideal))) ⟨m', fun _ => 0, g'⟩ (fun r => ∀ c : Dev Cert.GluActBwdReferenceIdeal.nD,
          r.2.mem ((c.tc : Thread Cert.GluActBwdReferenceIdeal.nD Cert.GluActBwdReferenceIdeal.τ).loc Cert.GluActBwdReferenceIdeal.main_v17) = v0 c
          ∧ r.2.mem ((c.tc : Thread Cert.GluActBwdReferenceIdeal.nD Cert.GluActBwdReferenceIdeal.τ).loc Cert.GluActBwdReferenceIdeal.main_arg0) = m' ((c.tc : Thread Cert.GluActBwdReferenceIdeal.nD Cert.GluActBwdReferenceIdeal.τ).loc Cert.GluActBwdReferenceIdeal.main_arg0)
          ∧ r.2.mem ((c.tc : Thread Cert.GluActBwdReferenceIdeal.nD Cert.GluActBwdReferenceIdeal.τ).loc Cert.GluActBwdReferenceIdeal.main_arg1) = m' ((c.tc : Thread Cert.GluActBwdReferenceIdeal.nD Cert.GluActBwdReferenceIdeal.τ).loc Cert.GluActBwdReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v26) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_MergeBwd_MergeBwdIdeal : Prop :=
  True

def algebraic_MergeBwdIdeal_MergeBwdReferenceIdeal [hMergeBwdIdeal : Cert.MergeBwdIdeal.Facts] [hMergeBwdReferenceIdeal : Cert.MergeBwdReferenceIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdReferenceIdeal.nD Cert.MergeBwdReferenceIdeal.τ Cert.MergeBwdReferenceIdeal.sig) → Buf (Elt Ideal) ℓ) (g' : Dev Cert.MergeBwdReferenceIdeal.nD → PrngReg), Pre_MergeBwdIdeal m →
    (∀ c : Dev Cert.MergeBwdIdeal.nD,
      m' ((c.tc : Thread Cert.MergeBwdReferenceIdeal.nD Cert.MergeBwdReferenceIdeal.τ).loc Cert.MergeBwdReferenceIdeal.main_arg0) = m ((c.tc : Thread Cert.MergeBwdIdeal.nD Cert.MergeBwdIdeal.τ).loc Cert.MergeBwdIdeal.main_arg0)
      ∧ m' ((c.tc : Thread Cert.MergeBwdReferenceIdeal.nD Cert.MergeBwdReferenceIdeal.τ).loc Cert.MergeBwdReferenceIdeal.main_arg1) = m ((c.tc : Thread Cert.MergeBwdIdeal.nD Cert.MergeBwdIdeal.τ).loc Cert.MergeBwdIdeal.main_arg1)
      ∧ m' ((c.tc : Thread Cert.MergeBwdReferenceIdeal.nD Cert.MergeBwdReferenceIdeal.τ).loc Cert.MergeBwdReferenceIdeal.main_arg2) = m ((c.tc : Thread Cert.MergeBwdIdeal.nD Cert.MergeBwdIdeal.τ).loc Cert.MergeBwdIdeal.main_arg2)
      ∧ m' ((c.tc : Thread Cert.MergeBwdReferenceIdeal.nD Cert.MergeBwdReferenceIdeal.τ).loc Cert.MergeBwdReferenceIdeal.main_arg3) = m ((c.tc : Thread Cert.MergeBwdIdeal.nD Cert.MergeBwdIdeal.τ).loc Cert.MergeBwdIdeal.main_arg3)
      ∧ m' ((c.tc : Thread Cert.MergeBwdReferenceIdeal.nD Cert.MergeBwdReferenceIdeal.τ).loc Cert.MergeBwdReferenceIdeal.main_arg4) = m ((c.tc : Thread Cert.MergeBwdIdeal.nD Cert.MergeBwdIdeal.τ).loc Cert.MergeBwdIdeal.main_arg4)
      ∧ m' ((c.tc : Thread Cert.MergeBwdReferenceIdeal.nD Cert.MergeBwdReferenceIdeal.τ).loc Cert.MergeBwdReferenceIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.MergeBwdReferenceIdeal.defs (F := Ideal)) (onTc (τ := Cert.MergeBwdReferenceIdeal.τ) (Cert.MergeBwdReferenceIdeal.main (F := Ideal))) ⟨m', fun _ => 0, g'⟩ (fun r => ∀ c : Dev Cert.MergeBwdReferenceIdeal.nD,
          r.2.mem ((c.tc : Thread Cert.MergeBwdReferenceIdeal.nD Cert.MergeBwdReferenceIdeal.τ).loc Cert.MergeBwdReferenceIdeal.main_v57) = v0 c
          ∧ r.2.mem ((c.tc : Thread Cert.MergeBwdReferenceIdeal.nD Cert.MergeBwdReferenceIdeal.τ).loc Cert.MergeBwdReferenceIdeal.main_v51) = v1 c
          ∧ r.2.mem ((c.tc : Thread Cert.MergeBwdReferenceIdeal.nD Cert.MergeBwdReferenceIdeal.τ).loc Cert.MergeBwdReferenceIdeal.main_v45) = v2 c
          ∧ r.2.mem ((c.tc : Thread Cert.MergeBwdReferenceIdeal.nD Cert.MergeBwdReferenceIdeal.τ).loc Cert.MergeBwdReferenceIdeal.main_v39) = v3 c
          ∧ r.2.mem ((c.tc : Thread Cert.MergeBwdReferenceIdeal.nD Cert.MergeBwdReferenceIdeal.τ).loc Cert.MergeBwdReferenceIdeal.main_v34) = v4 c
          ∧ r.2.mem ((c.tc : Thread Cert.MergeBwdReferenceIdeal.nD Cert.MergeBwdReferenceIdeal.τ).loc Cert.MergeBwdReferenceIdeal.main_arg0) = m' ((c.tc : Thread Cert.MergeBwdReferenceIdeal.nD Cert.MergeBwdReferenceIdeal.τ).loc Cert.MergeBwdReferenceIdeal.main_arg0)
          ∧ r.2.mem ((c.tc : Thread Cert.MergeBwdReferenceIdeal.nD Cert.MergeBwdReferenceIdeal.τ).loc Cert.MergeBwdReferenceIdeal.main_arg1) = m' ((c.tc : Thread Cert.MergeBwdReferenceIdeal.nD Cert.MergeBwdReferenceIdeal.τ).loc Cert.MergeBwdReferenceIdeal.main_arg1)
          ∧ r.2.mem ((c.tc : Thread Cert.MergeBwdReferenceIdeal.nD Cert.MergeBwdReferenceIdeal.τ).loc Cert.MergeBwdReferenceIdeal.main_arg2) = m' ((c.tc : Thread Cert.MergeBwdReferenceIdeal.nD Cert.MergeBwdReferenceIdeal.τ).loc Cert.MergeBwdReferenceIdeal.main_arg2)
          ∧ r.2.mem ((c.tc : Thread Cert.MergeBwdReferenceIdeal.nD Cert.MergeBwdReferenceIdeal.τ).loc Cert.MergeBwdReferenceIdeal.main_arg3) = m' ((c.tc : Thread Cert.MergeBwdReferenceIdeal.nD Cert.MergeBwdReferenceIdeal.τ).loc Cert.MergeBwdReferenceIdeal.main_arg3)
          ∧ r.2.mem ((c.tc : Thread Cert.MergeBwdReferenceIdeal.nD Cert.MergeBwdReferenceIdeal.τ).loc Cert.MergeBwdReferenceIdeal.main_arg4) = m' ((c.tc : Thread Cert.MergeBwdReferenceIdeal.nD Cert.MergeBwdReferenceIdeal.τ).loc Cert.MergeBwdReferenceIdeal.main_arg4)
          ∧ r.2.mem ((c.tc : Thread Cert.MergeBwdReferenceIdeal.nD Cert.MergeBwdReferenceIdeal.τ).loc Cert.MergeBwdReferenceIdeal.main_arg5) = m' ((c.tc : Thread Cert.MergeBwdReferenceIdeal.nD Cert.MergeBwdReferenceIdeal.τ).loc Cert.MergeBwdReferenceIdeal.main_arg5))

def preserves_FfnNorm_FfnNormIdeal : Prop :=
  True

def algebraic_FfnNormIdeal_FfnNormReferenceIdeal [hFfnNormIdeal : Cert.FfnNormIdeal.Facts] [hFfnNormReferenceIdeal : Cert.FfnNormReferenceIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormReferenceIdeal.nD Cert.FfnNormReferenceIdeal.τ Cert.FfnNormReferenceIdeal.sig) → Buf (Elt Ideal) ℓ) (g' : Dev Cert.FfnNormReferenceIdeal.nD → PrngReg), Pre_FfnNormIdeal m →
    (∀ c : Dev Cert.FfnNormIdeal.nD,
      m' ((c.tc : Thread Cert.FfnNormReferenceIdeal.nD Cert.FfnNormReferenceIdeal.τ).loc Cert.FfnNormReferenceIdeal.main_arg0) = m ((c.tc : Thread Cert.FfnNormIdeal.nD Cert.FfnNormIdeal.τ).loc Cert.FfnNormIdeal.main_arg0)
      ∧ m' ((c.tc : Thread Cert.FfnNormReferenceIdeal.nD Cert.FfnNormReferenceIdeal.τ).loc Cert.FfnNormReferenceIdeal.main_arg1) = m ((c.tc : Thread Cert.FfnNormIdeal.nD Cert.FfnNormIdeal.τ).loc Cert.FfnNormIdeal.main_arg1)
      ∧ m' ((c.tc : Thread Cert.FfnNormReferenceIdeal.nD Cert.FfnNormReferenceIdeal.τ).loc Cert.FfnNormReferenceIdeal.main_arg2) = m ((c.tc : Thread Cert.FfnNormIdeal.nD Cert.FfnNormIdeal.τ).loc Cert.FfnNormIdeal.main_arg2)
      ∧ m' ((c.tc : Thread Cert.FfnNormReferenceIdeal.nD Cert.FfnNormReferenceIdeal.τ).loc Cert.FfnNormReferenceIdeal.main_arg3) = m ((c.tc : Thread Cert.FfnNormIdeal.nD Cert.FfnNormIdeal.τ).loc Cert.FfnNormIdeal.main_arg3)) →
    ∃ (v0 : (c : Dev Cert.FfnNormIdeal.nD) → Buf (Elt Ideal) ((c.tc : Thread Cert.FfnNormIdeal.nD Cert.FfnNormIdeal.τ).loc Cert.FfnNormIdeal.main_v0)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v0) = v0 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
          ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
          ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3))
      ∧ θ_run (Cert.FfnNormReferenceIdeal.defs (F := Ideal)) (onTc (τ := Cert.FfnNormReferenceIdeal.τ) (Cert.FfnNormReferenceIdeal.main (F := Ideal))) ⟨m', fun _ => 0, g'⟩ (fun r => ∀ c : Dev Cert.FfnNormReferenceIdeal.nD,
          r.2.mem ((c.tc : Thread Cert.FfnNormReferenceIdeal.nD Cert.FfnNormReferenceIdeal.τ).loc Cert.FfnNormReferenceIdeal.main_v18) = v0 c
          ∧ r.2.mem ((c.tc : Thread Cert.FfnNormReferenceIdeal.nD Cert.FfnNormReferenceIdeal.τ).loc Cert.FfnNormReferenceIdeal.main_arg0) = m' ((c.tc : Thread Cert.FfnNormReferenceIdeal.nD Cert.FfnNormReferenceIdeal.τ).loc Cert.FfnNormReferenceIdeal.main_arg0)
          ∧ r.2.mem ((c.tc : Thread Cert.FfnNormReferenceIdeal.nD Cert.FfnNormReferenceIdeal.τ).loc Cert.FfnNormReferenceIdeal.main_arg1) = m' ((c.tc : Thread Cert.FfnNormReferenceIdeal.nD Cert.FfnNormReferenceIdeal.τ).loc Cert.FfnNormReferenceIdeal.main_arg1)
          ∧ r.2.mem ((c.tc : Thread Cert.FfnNormReferenceIdeal.nD Cert.FfnNormReferenceIdeal.τ).loc Cert.FfnNormReferenceIdeal.main_arg2) = m' ((c.tc : Thread Cert.FfnNormReferenceIdeal.nD Cert.FfnNormReferenceIdeal.τ).loc Cert.FfnNormReferenceIdeal.main_arg2)
          ∧ r.2.mem ((c.tc : Thread Cert.FfnNormReferenceIdeal.nD Cert.FfnNormReferenceIdeal.τ).loc Cert.FfnNormReferenceIdeal.main_arg3) = m' ((c.tc : Thread Cert.FfnNormReferenceIdeal.nD Cert.FfnNormReferenceIdeal.τ).loc Cert.FfnNormReferenceIdeal.main_arg3))

def preserves_NormMod_NormModIdeal : Prop :=
  True

def algebraic_NormModIdeal_NormModReferenceIdeal [hNormModIdeal : Cert.NormModIdeal.Facts] [hNormModReferenceIdeal : Cert.NormModReferenceIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModReferenceIdeal.nD Cert.NormModReferenceIdeal.τ Cert.NormModReferenceIdeal.sig) → Buf (Elt Ideal) ℓ) (g' : Dev Cert.NormModReferenceIdeal.nD → PrngReg), Pre_NormModIdeal m →
    (∀ c : Dev Cert.NormModIdeal.nD,
      m' ((c.tc : Thread Cert.NormModReferenceIdeal.nD Cert.NormModReferenceIdeal.τ).loc Cert.NormModReferenceIdeal.main_arg0) = m ((c.tc : Thread Cert.NormModIdeal.nD Cert.NormModIdeal.τ).loc Cert.NormModIdeal.main_arg0)
      ∧ m' ((c.tc : Thread Cert.NormModReferenceIdeal.nD Cert.NormModReferenceIdeal.τ).loc Cert.NormModReferenceIdeal.main_arg1) = m ((c.tc : Thread Cert.NormModIdeal.nD Cert.NormModIdeal.τ).loc Cert.NormModIdeal.main_arg1)
      ∧ m' ((c.tc : Thread Cert.NormModReferenceIdeal.nD Cert.NormModReferenceIdeal.τ).loc Cert.NormModReferenceIdeal.main_arg2) = m ((c.tc : Thread Cert.NormModIdeal.nD Cert.NormModIdeal.τ).loc Cert.NormModIdeal.main_arg2)
      ∧ m' ((c.tc : Thread Cert.NormModReferenceIdeal.nD Cert.NormModReferenceIdeal.τ).loc Cert.NormModReferenceIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v0)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v0) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.NormModReferenceIdeal.defs (F := Ideal)) (onTc (τ := Cert.NormModReferenceIdeal.τ) (Cert.NormModReferenceIdeal.main (F := Ideal))) ⟨m', fun _ => 0, g'⟩ (fun r => ∀ c : Dev Cert.NormModReferenceIdeal.nD,
          r.2.mem ((c.tc : Thread Cert.NormModReferenceIdeal.nD Cert.NormModReferenceIdeal.τ).loc Cert.NormModReferenceIdeal.main_v17) = v0 c
          ∧ r.2.mem ((c.tc : Thread Cert.NormModReferenceIdeal.nD Cert.NormModReferenceIdeal.τ).loc Cert.NormModReferenceIdeal.main_arg0) = m' ((c.tc : Thread Cert.NormModReferenceIdeal.nD Cert.NormModReferenceIdeal.τ).loc Cert.NormModReferenceIdeal.main_arg0)
          ∧ r.2.mem ((c.tc : Thread Cert.NormModReferenceIdeal.nD Cert.NormModReferenceIdeal.τ).loc Cert.NormModReferenceIdeal.main_arg1) = m' ((c.tc : Thread Cert.NormModReferenceIdeal.nD Cert.NormModReferenceIdeal.τ).loc Cert.NormModReferenceIdeal.main_arg1)
          ∧ r.2.mem ((c.tc : Thread Cert.NormModReferenceIdeal.nD Cert.NormModReferenceIdeal.τ).loc Cert.NormModReferenceIdeal.main_arg2) = m' ((c.tc : Thread Cert.NormModReferenceIdeal.nD Cert.NormModReferenceIdeal.τ).loc Cert.NormModReferenceIdeal.main_arg2)
          ∧ r.2.mem ((c.tc : Thread Cert.NormModReferenceIdeal.nD Cert.NormModReferenceIdeal.τ).loc Cert.NormModReferenceIdeal.main_arg3) = m' ((c.tc : Thread Cert.NormModReferenceIdeal.nD Cert.NormModReferenceIdeal.τ).loc Cert.NormModReferenceIdeal.main_arg3))

def preserves_FfnResid_FfnResidIdeal : Prop :=
  True

def algebraic_FfnResidIdeal_FfnResidReferenceIdeal [hFfnResidIdeal : Cert.FfnResidIdeal.Facts] [hFfnResidReferenceIdeal : Cert.FfnResidReferenceIdeal.Facts] : Prop :=
  ∀ (m : (ℓ : Loc Cert.FfnResidIdeal.nD Cert.FfnResidIdeal.τ Cert.FfnResidIdeal.sig) → Buf (Elt Ideal) ℓ) (g : Dev Cert.FfnResidIdeal.nD → PrngReg)
    (m' : (ℓ : Loc Cert.FfnResidReferenceIdeal.nD Cert.FfnResidReferenceIdeal.τ Cert.FfnResidReferenceIdeal.sig) → Buf (Elt Ideal) ℓ) (g' : Dev Cert.FfnResidReferenceIdeal.nD → PrngReg), Pre_FfnResidIdeal m →
    (∀ c : Dev Cert.FfnResidIdeal.nD,
      m' ((c.tc : Thread Cert.FfnResidReferenceIdeal.nD Cert.FfnResidReferenceIdeal.τ).loc Cert.FfnResidReferenceIdeal.main_arg0) = m ((c.tc : Thread Cert.FfnResidIdeal.nD Cert.FfnResidIdeal.τ).loc Cert.FfnResidIdeal.main_arg0)
      ∧ m' ((c.tc : Thread Cert.FfnResidReferenceIdeal.nD Cert.FfnResidReferenceIdeal.τ).loc Cert.FfnResidReferenceIdeal.main_arg1) = m ((c.tc : Thread Cert.FfnResidIdeal.nD Cert.FfnResidIdeal.τ).loc Cert.FfnResidIdeal.main_arg1)
      ∧ m' ((c.tc : Thread Cert.FfnResidReferenceIdeal.nD Cert.FfnResidReferenceIdeal.τ).loc Cert.FfnResidReferenceIdeal.main_arg2) = m ((c.tc : Thread Cert.FfnResidIdeal.nD Cert.FfnResidIdeal.τ).loc Cert.FfnResidIdeal.main_arg2)) →
    ∃ (v0 : (c : Dev Cert.FfnResidIdeal.nD) → Buf (Elt Ideal) ((c.tc : Thread Cert.FfnResidIdeal.nD Cert.FfnResidIdeal.τ).loc Cert.FfnResidIdeal.main_v0)),
      θ_run (Cert.FfnResidIdeal.defs (F := Ideal)) (onTc (τ := Cert.FfnResidIdeal.τ) (Cert.FfnResidIdeal.main (F := Ideal))) ⟨m, fun _ => 0, g⟩ (fun r => ∀ c : Dev Cert.FfnResidIdeal.nD,
          r.2.mem ((c.tc : Thread Cert.FfnResidIdeal.nD Cert.FfnResidIdeal.τ).loc Cert.FfnResidIdeal.main_v0) = v0 c
          ∧ r.2.mem ((c.tc : Thread Cert.FfnResidIdeal.nD Cert.FfnResidIdeal.τ).loc Cert.FfnResidIdeal.main_arg0) = m ((c.tc : Thread Cert.FfnResidIdeal.nD Cert.FfnResidIdeal.τ).loc Cert.FfnResidIdeal.main_arg0)
          ∧ r.2.mem ((c.tc : Thread Cert.FfnResidIdeal.nD Cert.FfnResidIdeal.τ).loc Cert.FfnResidIdeal.main_arg1) = m ((c.tc : Thread Cert.FfnResidIdeal.nD Cert.FfnResidIdeal.τ).loc Cert.FfnResidIdeal.main_arg1)
          ∧ r.2.mem ((c.tc : Thread Cert.FfnResidIdeal.nD Cert.FfnResidIdeal.τ).loc Cert.FfnResidIdeal.main_arg2) = m ((c.tc : Thread Cert.FfnResidIdeal.nD Cert.FfnResidIdeal.τ).loc Cert.FfnResidIdeal.main_arg2))
      ∧ θ_run (Cert.FfnResidReferenceIdeal.defs (F := Ideal)) (onTc (τ := Cert.FfnResidReferenceIdeal.τ) (Cert.FfnResidReferenceIdeal.main (F := Ideal))) ⟨m', fun _ => 0, g'⟩ (fun r => ∀ c : Dev Cert.FfnResidReferenceIdeal.nD,
          r.2.mem ((c.tc : Thread Cert.FfnResidReferenceIdeal.nD Cert.FfnResidReferenceIdeal.τ).loc Cert.FfnResidReferenceIdeal.main_v4) = v0 c
          ∧ r.2.mem ((c.tc : Thread Cert.FfnResidReferenceIdeal.nD Cert.FfnResidReferenceIdeal.τ).loc Cert.FfnResidReferenceIdeal.main_arg0) = m' ((c.tc : Thread Cert.FfnResidReferenceIdeal.nD Cert.FfnResidReferenceIdeal.τ).loc Cert.FfnResidReferenceIdeal.main_arg0)
          ∧ r.2.mem ((c.tc : Thread Cert.FfnResidReferenceIdeal.nD Cert.FfnResidReferenceIdeal.τ).loc Cert.FfnResidReferenceIdeal.main_arg1) = m' ((c.tc : Thread Cert.FfnResidReferenceIdeal.nD Cert.FfnResidReferenceIdeal.τ).loc Cert.FfnResidReferenceIdeal.main_arg1)
          ∧ r.2.mem ((c.tc : Thread Cert.FfnResidReferenceIdeal.nD Cert.FfnResidReferenceIdeal.τ).loc Cert.FfnResidReferenceIdeal.main_arg2) = m' ((c.tc : Thread Cert.FfnResidReferenceIdeal.nD Cert.FfnResidReferenceIdeal.τ).loc Cert.FfnResidReferenceIdeal.main_arg2))

def preserves_ResidFull_ResidFullIdeal : Prop :=
  True

def algebraic_ResidFullIdeal_ResidFullReferenceIdeal [hResidFullIdeal : Cert.ResidFullIdeal.Facts] [hResidFullReferenceIdeal : Cert.ResidFullReferenceIdeal.Facts] : Prop :=
  ∀ (m : (ℓ : Loc Cert.ResidFullIdeal.nD Cert.ResidFullIdeal.τ Cert.ResidFullIdeal.sig) → Buf (Elt Ideal) ℓ) (g : Dev Cert.ResidFullIdeal.nD → PrngReg)
    (m' : (ℓ : Loc Cert.ResidFullReferenceIdeal.nD Cert.ResidFullReferenceIdeal.τ Cert.ResidFullReferenceIdeal.sig) → Buf (Elt Ideal) ℓ) (g' : Dev Cert.ResidFullReferenceIdeal.nD → PrngReg), Pre_ResidFullIdeal m →
    (∀ c : Dev Cert.ResidFullIdeal.nD,
      m' ((c.tc : Thread Cert.ResidFullReferenceIdeal.nD Cert.ResidFullReferenceIdeal.τ).loc Cert.ResidFullReferenceIdeal.main_arg0) = m ((c.tc : Thread Cert.ResidFullIdeal.nD Cert.ResidFullIdeal.τ).loc Cert.ResidFullIdeal.main_arg0)
      ∧ m' ((c.tc : Thread Cert.ResidFullReferenceIdeal.nD Cert.ResidFullReferenceIdeal.τ).loc Cert.ResidFullReferenceIdeal.main_arg1) = m ((c.tc : Thread Cert.ResidFullIdeal.nD Cert.ResidFullIdeal.τ).loc Cert.ResidFullIdeal.main_arg1)
      ∧ m' ((c.tc : Thread Cert.ResidFullReferenceIdeal.nD Cert.ResidFullReferenceIdeal.τ).loc Cert.ResidFullReferenceIdeal.main_arg2) = m ((c.tc : Thread Cert.ResidFullIdeal.nD Cert.ResidFullIdeal.τ).loc Cert.ResidFullIdeal.main_arg2)) →
    ∃ (v0 : (c : Dev Cert.ResidFullIdeal.nD) → Buf (Elt Ideal) ((c.tc : Thread Cert.ResidFullIdeal.nD Cert.ResidFullIdeal.τ).loc Cert.ResidFullIdeal.main_v0)),
      θ_run (Cert.ResidFullIdeal.defs (F := Ideal)) (onTc (τ := Cert.ResidFullIdeal.τ) (Cert.ResidFullIdeal.main (F := Ideal))) ⟨m, fun _ => 0, g⟩ (fun r => ∀ c : Dev Cert.ResidFullIdeal.nD,
          r.2.mem ((c.tc : Thread Cert.ResidFullIdeal.nD Cert.ResidFullIdeal.τ).loc Cert.ResidFullIdeal.main_v0) = v0 c
          ∧ r.2.mem ((c.tc : Thread Cert.ResidFullIdeal.nD Cert.ResidFullIdeal.τ).loc Cert.ResidFullIdeal.main_arg0) = m ((c.tc : Thread Cert.ResidFullIdeal.nD Cert.ResidFullIdeal.τ).loc Cert.ResidFullIdeal.main_arg0)
          ∧ r.2.mem ((c.tc : Thread Cert.ResidFullIdeal.nD Cert.ResidFullIdeal.τ).loc Cert.ResidFullIdeal.main_arg1) = m ((c.tc : Thread Cert.ResidFullIdeal.nD Cert.ResidFullIdeal.τ).loc Cert.ResidFullIdeal.main_arg1)
          ∧ r.2.mem ((c.tc : Thread Cert.ResidFullIdeal.nD Cert.ResidFullIdeal.τ).loc Cert.ResidFullIdeal.main_arg2) = m ((c.tc : Thread Cert.ResidFullIdeal.nD Cert.ResidFullIdeal.τ).loc Cert.ResidFullIdeal.main_arg2))
      ∧ θ_run (Cert.ResidFullReferenceIdeal.defs (F := Ideal)) (onTc (τ := Cert.ResidFullReferenceIdeal.τ) (Cert.ResidFullReferenceIdeal.main (F := Ideal))) ⟨m', fun _ => 0, g'⟩ (fun r => ∀ c : Dev Cert.ResidFullReferenceIdeal.nD,
          r.2.mem ((c.tc : Thread Cert.ResidFullReferenceIdeal.nD Cert.ResidFullReferenceIdeal.τ).loc Cert.ResidFullReferenceIdeal.main_v2) = v0 c
          ∧ r.2.mem ((c.tc : Thread Cert.ResidFullReferenceIdeal.nD Cert.ResidFullReferenceIdeal.τ).loc Cert.ResidFullReferenceIdeal.main_arg0) = m' ((c.tc : Thread Cert.ResidFullReferenceIdeal.nD Cert.ResidFullReferenceIdeal.τ).loc Cert.ResidFullReferenceIdeal.main_arg0)
          ∧ r.2.mem ((c.tc : Thread Cert.ResidFullReferenceIdeal.nD Cert.ResidFullReferenceIdeal.τ).loc Cert.ResidFullReferenceIdeal.main_arg1) = m' ((c.tc : Thread Cert.ResidFullReferenceIdeal.nD Cert.ResidFullReferenceIdeal.τ).loc Cert.ResidFullReferenceIdeal.main_arg1)
          ∧ r.2.mem ((c.tc : Thread Cert.ResidFullReferenceIdeal.nD Cert.ResidFullReferenceIdeal.τ).loc Cert.ResidFullReferenceIdeal.main_arg2) = m' ((c.tc : Thread Cert.ResidFullReferenceIdeal.nD Cert.ResidFullReferenceIdeal.τ).loc Cert.ResidFullReferenceIdeal.main_arg2))

def preserves_PoolScale_PoolScaleIdeal : Prop :=
  True

def algebraic_PoolScaleIdeal_PoolScaleReferenceIdeal [hPoolScaleIdeal : Cert.PoolScaleIdeal.Facts] [hPoolScaleReferenceIdeal : Cert.PoolScaleReferenceIdeal.Facts] : Prop :=
  ∀ (m : (ℓ : Loc Cert.PoolScaleIdeal.nD Cert.PoolScaleIdeal.τ Cert.PoolScaleIdeal.sig) → Buf (Elt Ideal) ℓ) (g : Dev Cert.PoolScaleIdeal.nD → PrngReg)
    (m' : (ℓ : Loc Cert.PoolScaleReferenceIdeal.nD Cert.PoolScaleReferenceIdeal.τ Cert.PoolScaleReferenceIdeal.sig) → Buf (Elt Ideal) ℓ) (g' : Dev Cert.PoolScaleReferenceIdeal.nD → PrngReg), Pre_PoolScaleIdeal m →
    (∀ c : Dev Cert.PoolScaleIdeal.nD,
      m' ((c.tc : Thread Cert.PoolScaleReferenceIdeal.nD Cert.PoolScaleReferenceIdeal.τ).loc Cert.PoolScaleReferenceIdeal.main_arg0) = m ((c.tc : Thread Cert.PoolScaleIdeal.nD Cert.PoolScaleIdeal.τ).loc Cert.PoolScaleIdeal.main_arg0)
      ∧ m' ((c.tc : Thread Cert.PoolScaleReferenceIdeal.nD Cert.PoolScaleReferenceIdeal.τ).loc Cert.PoolScaleReferenceIdeal.main_arg1) = m ((c.tc : Thread Cert.PoolScaleIdeal.nD Cert.PoolScaleIdeal.τ).loc Cert.PoolScaleIdeal.main_arg1)) →
    ∃ (v0 : (c : Dev Cert.PoolScaleIdeal.nD) → Buf (Elt Ideal) ((c.tc : Thread Cert.PoolScaleIdeal.nD Cert.PoolScaleIdeal.τ).loc Cert.PoolScaleIdeal.main_v0)),
      θ_run (Cert.PoolScaleIdeal.defs (F := Ideal)) (onTc (τ := Cert.PoolScaleIdeal.τ) (Cert.PoolScaleIdeal.main (F := Ideal))) ⟨m, fun _ => 0, g⟩ (fun r => ∀ c : Dev Cert.PoolScaleIdeal.nD,
          r.2.mem ((c.tc : Thread Cert.PoolScaleIdeal.nD Cert.PoolScaleIdeal.τ).loc Cert.PoolScaleIdeal.main_v0) = v0 c
          ∧ r.2.mem ((c.tc : Thread Cert.PoolScaleIdeal.nD Cert.PoolScaleIdeal.τ).loc Cert.PoolScaleIdeal.main_arg0) = m ((c.tc : Thread Cert.PoolScaleIdeal.nD Cert.PoolScaleIdeal.τ).loc Cert.PoolScaleIdeal.main_arg0)
          ∧ r.2.mem ((c.tc : Thread Cert.PoolScaleIdeal.nD Cert.PoolScaleIdeal.τ).loc Cert.PoolScaleIdeal.main_arg1) = m ((c.tc : Thread Cert.PoolScaleIdeal.nD Cert.PoolScaleIdeal.τ).loc Cert.PoolScaleIdeal.main_arg1))
      ∧ θ_run (Cert.PoolScaleReferenceIdeal.defs (F := Ideal)) (onTc (τ := Cert.PoolScaleReferenceIdeal.τ) (Cert.PoolScaleReferenceIdeal.main (F := Ideal))) ⟨m', fun _ => 0, g'⟩ (fun r => ∀ c : Dev Cert.PoolScaleReferenceIdeal.nD,
          r.2.mem ((c.tc : Thread Cert.PoolScaleReferenceIdeal.nD Cert.PoolScaleReferenceIdeal.τ).loc Cert.PoolScaleReferenceIdeal.main_v1) = v0 c
          ∧ r.2.mem ((c.tc : Thread Cert.PoolScaleReferenceIdeal.nD Cert.PoolScaleReferenceIdeal.τ).loc Cert.PoolScaleReferenceIdeal.main_arg0) = m' ((c.tc : Thread Cert.PoolScaleReferenceIdeal.nD Cert.PoolScaleReferenceIdeal.τ).loc Cert.PoolScaleReferenceIdeal.main_arg0)
          ∧ r.2.mem ((c.tc : Thread Cert.PoolScaleReferenceIdeal.nD Cert.PoolScaleReferenceIdeal.τ).loc Cert.PoolScaleReferenceIdeal.main_arg1) = m' ((c.tc : Thread Cert.PoolScaleReferenceIdeal.nD Cert.PoolScaleReferenceIdeal.τ).loc Cert.PoolScaleReferenceIdeal.main_arg1))

def preserves_LossRows_LossRowsIdeal : Prop :=
  True

def algebraic_LossRowsIdeal_LossRowsReferenceIdeal [hLossRowsIdeal : Cert.LossRowsIdeal.Facts] [hLossRowsReferenceIdeal : Cert.LossRowsReferenceIdeal.Facts] : Prop :=
  ∀ (m : (ℓ : Loc Cert.LossRowsIdeal.nD Cert.LossRowsIdeal.τ Cert.LossRowsIdeal.sig) → Buf (Elt Ideal) ℓ) (g : Dev Cert.LossRowsIdeal.nD → PrngReg)
    (m' : (ℓ : Loc Cert.LossRowsReferenceIdeal.nD Cert.LossRowsReferenceIdeal.τ Cert.LossRowsReferenceIdeal.sig) → Buf (Elt Ideal) ℓ) (g' : Dev Cert.LossRowsReferenceIdeal.nD → PrngReg), Pre_LossRowsIdeal m →
    (∀ c : Dev Cert.LossRowsIdeal.nD,
      m' ((c.tc : Thread Cert.LossRowsReferenceIdeal.nD Cert.LossRowsReferenceIdeal.τ).loc Cert.LossRowsReferenceIdeal.main_arg0) = m ((c.tc : Thread Cert.LossRowsIdeal.nD Cert.LossRowsIdeal.τ).loc Cert.LossRowsIdeal.main_arg0)
      ∧ m' ((c.tc : Thread Cert.LossRowsReferenceIdeal.nD Cert.LossRowsReferenceIdeal.τ).loc Cert.LossRowsReferenceIdeal.main_arg1) = m ((c.tc : Thread Cert.LossRowsIdeal.nD Cert.LossRowsIdeal.τ).loc Cert.LossRowsIdeal.main_arg1)
      ∧ m' ((c.tc : Thread Cert.LossRowsReferenceIdeal.nD Cert.LossRowsReferenceIdeal.τ).loc Cert.LossRowsReferenceIdeal.main_arg2) = m ((c.tc : Thread Cert.LossRowsIdeal.nD Cert.LossRowsIdeal.τ).loc Cert.LossRowsIdeal.main_arg2)) →
    ∃ (v0 : (c : Dev Cert.LossRowsIdeal.nD) → Buf (Elt Ideal) ((c.tc : Thread Cert.LossRowsIdeal.nD Cert.LossRowsIdeal.τ).loc Cert.LossRowsIdeal.main_v0)),
      θ_run (Cert.LossRowsIdeal.defs (F := Ideal)) (onTc (τ := Cert.LossRowsIdeal.τ) (Cert.LossRowsIdeal.main (F := Ideal))) ⟨m, fun _ => 0, g⟩ (fun r => ∀ c : Dev Cert.LossRowsIdeal.nD,
          r.2.mem ((c.tc : Thread Cert.LossRowsIdeal.nD Cert.LossRowsIdeal.τ).loc Cert.LossRowsIdeal.main_v0) = v0 c
          ∧ r.2.mem ((c.tc : Thread Cert.LossRowsIdeal.nD Cert.LossRowsIdeal.τ).loc Cert.LossRowsIdeal.main_arg0) = m ((c.tc : Thread Cert.LossRowsIdeal.nD Cert.LossRowsIdeal.τ).loc Cert.LossRowsIdeal.main_arg0)
          ∧ r.2.mem ((c.tc : Thread Cert.LossRowsIdeal.nD Cert.LossRowsIdeal.τ).loc Cert.LossRowsIdeal.main_arg1) = m ((c.tc : Thread Cert.LossRowsIdeal.nD Cert.LossRowsIdeal.τ).loc Cert.LossRowsIdeal.main_arg1)
          ∧ r.2.mem ((c.tc : Thread Cert.LossRowsIdeal.nD Cert.LossRowsIdeal.τ).loc Cert.LossRowsIdeal.main_arg2) = m ((c.tc : Thread Cert.LossRowsIdeal.nD Cert.LossRowsIdeal.τ).loc Cert.LossRowsIdeal.main_arg2))
      ∧ θ_run (Cert.LossRowsReferenceIdeal.defs (F := Ideal)) (onTc (τ := Cert.LossRowsReferenceIdeal.τ) (Cert.LossRowsReferenceIdeal.main (F := Ideal))) ⟨m', fun _ => 0, g'⟩ (fun r => ∀ c : Dev Cert.LossRowsReferenceIdeal.nD,
          r.2.mem ((c.tc : Thread Cert.LossRowsReferenceIdeal.nD Cert.LossRowsReferenceIdeal.τ).loc Cert.LossRowsReferenceIdeal.main_v19) = v0 c
          ∧ r.2.mem ((c.tc : Thread Cert.LossRowsReferenceIdeal.nD Cert.LossRowsReferenceIdeal.τ).loc Cert.LossRowsReferenceIdeal.main_arg0) = m' ((c.tc : Thread Cert.LossRowsReferenceIdeal.nD Cert.LossRowsReferenceIdeal.τ).loc Cert.LossRowsReferenceIdeal.main_arg0)
          ∧ r.2.mem ((c.tc : Thread Cert.LossRowsReferenceIdeal.nD Cert.LossRowsReferenceIdeal.τ).loc Cert.LossRowsReferenceIdeal.main_arg1) = m' ((c.tc : Thread Cert.LossRowsReferenceIdeal.nD Cert.LossRowsReferenceIdeal.τ).loc Cert.LossRowsReferenceIdeal.main_arg1)
          ∧ r.2.mem ((c.tc : Thread Cert.LossRowsReferenceIdeal.nD Cert.LossRowsReferenceIdeal.τ).loc Cert.LossRowsReferenceIdeal.main_arg2) = m' ((c.tc : Thread Cert.LossRowsReferenceIdeal.nD Cert.LossRowsReferenceIdeal.τ).loc Cert.LossRowsReferenceIdeal.main_arg2))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hFfnDownDx : Cert.FfnDownDx.Facts) (hFfnDownDxIdeal : Cert.FfnDownDxIdeal.Facts) (hFfnDownDxReferenceIdeal : Cert.FfnDownDxReferenceIdeal.Facts) (hFfnDownDw : Cert.FfnDownDw.Facts) (hFfnDownDwIdeal : Cert.FfnDownDwIdeal.Facts) (hFfnDownDwReferenceIdeal : Cert.FfnDownDwReferenceIdeal.Facts) (hFfnUpDx : Cert.FfnUpDx.Facts) (hFfnUpDxIdeal : Cert.FfnUpDxIdeal.Facts) (hFfnUpDxReferenceIdeal : Cert.FfnUpDxReferenceIdeal.Facts) (hFfnUpDw : Cert.FfnUpDw.Facts) (hFfnUpDwIdeal : Cert.FfnUpDwIdeal.Facts) (hFfnUpDwReferenceIdeal : Cert.FfnUpDwReferenceIdeal.Facts) (hGateFwd : Cert.GateFwd.Facts) (hGateFwdIdeal : Cert.GateFwdIdeal.Facts) (hGateFwdReferenceIdeal : Cert.GateFwdReferenceIdeal.Facts) (hGateDx : Cert.GateDx.Facts) (hGateDxIdeal : Cert.GateDxIdeal.Facts) (hGateDxReferenceIdeal : Cert.GateDxReferenceIdeal.Facts) (hGateDw : Cert.GateDw.Facts) (hGateDwIdeal : Cert.GateDwIdeal.Facts) (hGateDwReferenceIdeal : Cert.GateDwReferenceIdeal.Facts) (hBranchFwd : Cert.BranchFwd.Facts) (hBranchFwdIdeal : Cert.BranchFwdIdeal.Facts) (hBranchFwdReferenceIdeal : Cert.BranchFwdReferenceIdeal.Facts) (hBranchDx : Cert.BranchDx.Facts) (hBranchDxIdeal : Cert.BranchDxIdeal.Facts) (hBranchDxReferenceIdeal : Cert.BranchDxReferenceIdeal.Facts) (hBranchDw : Cert.BranchDw.Facts) (hBranchDwIdeal : Cert.BranchDwIdeal.Facts) (hBranchDwReferenceIdeal : Cert.BranchDwReferenceIdeal.Facts) (hOutFwd : Cert.OutFwd.Facts) (hOutFwdIdeal : Cert.OutFwdIdeal.Facts) (hOutFwdReferenceIdeal : Cert.OutFwdReferenceIdeal.Facts) (hOutDx : Cert.OutDx.Facts) (hOutDxIdeal : Cert.OutDxIdeal.Facts) (hOutDxReferenceIdeal : Cert.OutDxReferenceIdeal.Facts) (hOutDw : Cert.OutDw.Facts) (hOutDwIdeal : Cert.OutDwIdeal.Facts) (hOutDwReferenceIdeal : Cert.OutDwReferenceIdeal.Facts) (hGluFwd : Cert.GluFwd.Facts) (hGluFwdIdeal : Cert.GluFwdIdeal.Facts) (hGluFwdReferenceIdeal : Cert.GluFwdReferenceIdeal.Facts) (hGluDx : Cert.GluDx.Facts) (hGluDxIdeal : Cert.GluDxIdeal.Facts) (hGluDxReferenceIdeal : Cert.GluDxReferenceIdeal.Facts) (hGluDw : Cert.GluDw.Facts) (hGluDwIdeal : Cert.GluDwIdeal.Facts) (hGluDwReferenceIdeal : Cert.GluDwReferenceIdeal.Facts) (hSplitFwd : Cert.SplitFwd.Facts) (hSplitFwdIdeal : Cert.SplitFwdIdeal.Facts) (hSplitFwdReferenceIdeal : Cert.SplitFwdReferenceIdeal.Facts) (hSplitDx : Cert.SplitDx.Facts) (hSplitDxIdeal : Cert.SplitDxIdeal.Facts) (hSplitDxReferenceIdeal : Cert.SplitDxReferenceIdeal.Facts) (hSplitDw : Cert.SplitDw.Facts) (hSplitDwIdeal : Cert.SplitDwIdeal.Facts) (hSplitDwReferenceIdeal : Cert.SplitDwReferenceIdeal.Facts) (hAdamSharded : Cert.AdamSharded.Facts) (hAdamShardedIdeal : Cert.AdamShardedIdeal.Facts) (hAdamShardedReferenceIdeal : Cert.AdamShardedReferenceIdeal.Facts) (hAdamSmall : Cert.AdamSmall.Facts) (hAdamSmallIdeal : Cert.AdamSmallIdeal.Facts) (hAdamSmallReferenceIdeal : Cert.AdamSmallReferenceIdeal.Facts) (hFfnAct : Cert.FfnAct.Facts) (hFfnActIdeal : Cert.FfnActIdeal.Facts) (hFfnActReferenceIdeal : Cert.FfnActReferenceIdeal.Facts) (hFfnActBwd : Cert.FfnActBwd.Facts) (hFfnActBwdIdeal : Cert.FfnActBwdIdeal.Facts) (hFfnActBwdReferenceIdeal : Cert.FfnActBwdReferenceIdeal.Facts) (hGluAct : Cert.GluAct.Facts) (hGluActIdeal : Cert.GluActIdeal.Facts) (hGluActReferenceIdeal : Cert.GluActReferenceIdeal.Facts) (hGluActBwd : Cert.GluActBwd.Facts) (hGluActBwdIdeal : Cert.GluActBwdIdeal.Facts) (hGluActBwdReferenceIdeal : Cert.GluActBwdReferenceIdeal.Facts) (hMerge : Cert.Merge.Facts) (hMergeIdeal : Cert.MergeIdeal.Facts) (hMergeReferenceIdeal : Cert.MergeReferenceIdeal.Facts) (hMergeBwd : Cert.MergeBwd.Facts) (hMergeBwdIdeal : Cert.MergeBwdIdeal.Facts) (hMergeBwdReferenceIdeal : Cert.MergeBwdReferenceIdeal.Facts) (hFfnNorm : Cert.FfnNorm.Facts) (hFfnNormIdeal : Cert.FfnNormIdeal.Facts) (hFfnNormReferenceIdeal : Cert.FfnNormReferenceIdeal.Facts) (hNormMod : Cert.NormMod.Facts) (hNormModIdeal : Cert.NormModIdeal.Facts) (hNormModReferenceIdeal : Cert.NormModReferenceIdeal.Facts) (hFfnResid : Cert.FfnResid.Facts) (hFfnResidIdeal : Cert.FfnResidIdeal.Facts) (hFfnResidReferenceIdeal : Cert.FfnResidReferenceIdeal.Facts) (hResidFull : Cert.ResidFull.Facts) (hResidFullIdeal : Cert.ResidFullIdeal.Facts) (hResidFullReferenceIdeal : Cert.ResidFullReferenceIdeal.Facts) (hPoolScale : Cert.PoolScale.Facts) (hPoolScaleIdeal : Cert.PoolScaleIdeal.Facts) (hPoolScaleReferenceIdeal : Cert.PoolScaleReferenceIdeal.Facts) (hLossRows : Cert.LossRows.Facts) (hLossRowsIdeal : Cert.LossRowsIdeal.Facts) (hLossRowsReferenceIdeal : Cert.LossRowsReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_FfnDownDx (hFfnDownDx := hFfnDownDx)
    ∧ quiescent_FfnDownDxIdeal (hFfnDownDxIdeal := hFfnDownDxIdeal)
    ∧ quiescent_FfnDownDxReferenceIdeal (hFfnDownDxReferenceIdeal := hFfnDownDxReferenceIdeal)
    ∧ quiescent_FfnDownDw (hFfnDownDw := hFfnDownDw)
    ∧ quiescent_FfnDownDwIdeal (hFfnDownDwIdeal := hFfnDownDwIdeal)
    ∧ quiescent_FfnDownDwReferenceIdeal (hFfnDownDwReferenceIdeal := hFfnDownDwReferenceIdeal)
    ∧ quiescent_FfnUpDx (hFfnUpDx := hFfnUpDx)
    ∧ quiescent_FfnUpDxIdeal (hFfnUpDxIdeal := hFfnUpDxIdeal)
    ∧ quiescent_FfnUpDxReferenceIdeal (hFfnUpDxReferenceIdeal := hFfnUpDxReferenceIdeal)
    ∧ quiescent_FfnUpDw (hFfnUpDw := hFfnUpDw)
    ∧ quiescent_FfnUpDwIdeal (hFfnUpDwIdeal := hFfnUpDwIdeal)
    ∧ quiescent_FfnUpDwReferenceIdeal (hFfnUpDwReferenceIdeal := hFfnUpDwReferenceIdeal)
    ∧ quiescent_GateFwd (hGateFwd := hGateFwd)
    ∧ quiescent_GateFwdIdeal (hGateFwdIdeal := hGateFwdIdeal)
    ∧ quiescent_GateFwdReferenceIdeal (hGateFwdReferenceIdeal := hGateFwdReferenceIdeal)
    ∧ quiescent_GateDx (hGateDx := hGateDx)
    ∧ quiescent_GateDxIdeal (hGateDxIdeal := hGateDxIdeal)
    ∧ quiescent_GateDxReferenceIdeal (hGateDxReferenceIdeal := hGateDxReferenceIdeal)
    ∧ quiescent_GateDw (hGateDw := hGateDw)
    ∧ quiescent_GateDwIdeal (hGateDwIdeal := hGateDwIdeal)
    ∧ quiescent_GateDwReferenceIdeal (hGateDwReferenceIdeal := hGateDwReferenceIdeal)
    ∧ quiescent_BranchFwd (hBranchFwd := hBranchFwd)
    ∧ quiescent_BranchFwdIdeal (hBranchFwdIdeal := hBranchFwdIdeal)
    ∧ quiescent_BranchFwdReferenceIdeal (hBranchFwdReferenceIdeal := hBranchFwdReferenceIdeal)
    ∧ quiescent_BranchDx (hBranchDx := hBranchDx)
    ∧ quiescent_BranchDxIdeal (hBranchDxIdeal := hBranchDxIdeal)
    ∧ quiescent_BranchDxReferenceIdeal (hBranchDxReferenceIdeal := hBranchDxReferenceIdeal)
    ∧ quiescent_BranchDw (hBranchDw := hBranchDw)
    ∧ quiescent_BranchDwIdeal (hBranchDwIdeal := hBranchDwIdeal)
    ∧ quiescent_BranchDwReferenceIdeal (hBranchDwReferenceIdeal := hBranchDwReferenceIdeal)
    ∧ quiescent_OutFwd (hOutFwd := hOutFwd)
    ∧ quiescent_OutFwdIdeal (hOutFwdIdeal := hOutFwdIdeal)
    ∧ quiescent_OutFwdReferenceIdeal (hOutFwdReferenceIdeal := hOutFwdReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_GluFwd (hGluFwd := hGluFwd)
    ∧ quiescent_GluFwdIdeal (hGluFwdIdeal := hGluFwdIdeal)
    ∧ quiescent_GluFwdReferenceIdeal (hGluFwdReferenceIdeal := hGluFwdReferenceIdeal)
    ∧ quiescent_GluDx (hGluDx := hGluDx)
    ∧ quiescent_GluDxIdeal (hGluDxIdeal := hGluDxIdeal)
    ∧ quiescent_GluDxReferenceIdeal (hGluDxReferenceIdeal := hGluDxReferenceIdeal)
    ∧ quiescent_GluDw (hGluDw := hGluDw)
    ∧ quiescent_GluDwIdeal (hGluDwIdeal := hGluDwIdeal)
    ∧ quiescent_GluDwReferenceIdeal (hGluDwReferenceIdeal := hGluDwReferenceIdeal)
    ∧ quiescent_SplitFwd (hSplitFwd := hSplitFwd)
    ∧ quiescent_SplitFwdIdeal (hSplitFwdIdeal := hSplitFwdIdeal)
    ∧ quiescent_SplitFwdReferenceIdeal (hSplitFwdReferenceIdeal := hSplitFwdReferenceIdeal)
    ∧ quiescent_SplitDx (hSplitDx := hSplitDx)
    ∧ quiescent_SplitDxIdeal (hSplitDxIdeal := hSplitDxIdeal)
    ∧ quiescent_SplitDxReferenceIdeal (hSplitDxReferenceIdeal := hSplitDxReferenceIdeal)
    ∧ quiescent_SplitDw (hSplitDw := hSplitDw)
    ∧ quiescent_SplitDwIdeal (hSplitDwIdeal := hSplitDwIdeal)
    ∧ quiescent_SplitDwReferenceIdeal (hSplitDwReferenceIdeal := hSplitDwReferenceIdeal)
    ∧ quiescent_AdamSharded (hAdamSharded := hAdamSharded)
    ∧ quiescent_AdamShardedIdeal (hAdamShardedIdeal := hAdamShardedIdeal)
    ∧ quiescent_AdamShardedReferenceIdeal (hAdamShardedReferenceIdeal := hAdamShardedReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_FfnAct (hFfnAct := hFfnAct)
    ∧ quiescent_FfnActIdeal (hFfnActIdeal := hFfnActIdeal)
    ∧ quiescent_FfnActReferenceIdeal (hFfnActReferenceIdeal := hFfnActReferenceIdeal)
    ∧ quiescent_FfnActBwd (hFfnActBwd := hFfnActBwd)
    ∧ quiescent_FfnActBwdIdeal (hFfnActBwdIdeal := hFfnActBwdIdeal)
    ∧ quiescent_FfnActBwdReferenceIdeal (hFfnActBwdReferenceIdeal := hFfnActBwdReferenceIdeal)
    ∧ quiescent_GluAct (hGluAct := hGluAct)
    ∧ quiescent_GluActIdeal (hGluActIdeal := hGluActIdeal)
    ∧ quiescent_GluActReferenceIdeal (hGluActReferenceIdeal := hGluActReferenceIdeal)
    ∧ quiescent_GluActBwd (hGluActBwd := hGluActBwd)
    ∧ quiescent_GluActBwdIdeal (hGluActBwdIdeal := hGluActBwdIdeal)
    ∧ quiescent_GluActBwdReferenceIdeal (hGluActBwdReferenceIdeal := hGluActBwdReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_MergeBwd (hMergeBwd := hMergeBwd)
    ∧ quiescent_MergeBwdIdeal (hMergeBwdIdeal := hMergeBwdIdeal)
    ∧ quiescent_MergeBwdReferenceIdeal (hMergeBwdReferenceIdeal := hMergeBwdReferenceIdeal)
    ∧ quiescent_FfnNorm (hFfnNorm := hFfnNorm)
    ∧ quiescent_FfnNormIdeal (hFfnNormIdeal := hFfnNormIdeal)
    ∧ quiescent_FfnNormReferenceIdeal (hFfnNormReferenceIdeal := hFfnNormReferenceIdeal)
    ∧ quiescent_NormMod (hNormMod := hNormMod)
    ∧ quiescent_NormModIdeal (hNormModIdeal := hNormModIdeal)
    ∧ quiescent_NormModReferenceIdeal (hNormModReferenceIdeal := hNormModReferenceIdeal)
    ∧ quiescent_FfnResid (hFfnResid := hFfnResid)
    ∧ quiescent_FfnResidIdeal (hFfnResidIdeal := hFfnResidIdeal)
    ∧ quiescent_FfnResidReferenceIdeal (hFfnResidReferenceIdeal := hFfnResidReferenceIdeal)
    ∧ quiescent_ResidFull (hResidFull := hResidFull)
    ∧ quiescent_ResidFullIdeal (hResidFullIdeal := hResidFullIdeal)
    ∧ quiescent_ResidFullReferenceIdeal (hResidFullReferenceIdeal := hResidFullReferenceIdeal)
    ∧ quiescent_PoolScale (hPoolScale := hPoolScale)
    ∧ quiescent_PoolScaleIdeal (hPoolScaleIdeal := hPoolScaleIdeal)
    ∧ quiescent_PoolScaleReferenceIdeal (hPoolScaleReferenceIdeal := hPoolScaleReferenceIdeal)
    ∧ quiescent_LossRows (hLossRows := hLossRows)
    ∧ quiescent_LossRowsIdeal (hLossRowsIdeal := hLossRowsIdeal)
    ∧ quiescent_LossRowsReferenceIdeal (hLossRowsReferenceIdeal := hLossRowsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_FfnDownDx_FfnDownDxIdeal
    ∧ algebraic_FfnDownDxIdeal_FfnDownDxReferenceIdeal (hFfnDownDxIdeal := hFfnDownDxIdeal) (hFfnDownDxReferenceIdeal := hFfnDownDxReferenceIdeal)
    ∧ preserves_FfnDownDw_FfnDownDwIdeal
    ∧ algebraic_FfnDownDwIdeal_FfnDownDwReferenceIdeal (hFfnDownDwIdeal := hFfnDownDwIdeal) (hFfnDownDwReferenceIdeal := hFfnDownDwReferenceIdeal)
    ∧ preserves_FfnUpDx_FfnUpDxIdeal
    ∧ algebraic_FfnUpDxIdeal_FfnUpDxReferenceIdeal (hFfnUpDxIdeal := hFfnUpDxIdeal) (hFfnUpDxReferenceIdeal := hFfnUpDxReferenceIdeal)
    ∧ preserves_FfnUpDw_FfnUpDwIdeal
    ∧ algebraic_FfnUpDwIdeal_FfnUpDwReferenceIdeal (hFfnUpDwIdeal := hFfnUpDwIdeal) (hFfnUpDwReferenceIdeal := hFfnUpDwReferenceIdeal)
    ∧ preserves_GateFwd_GateFwdIdeal
    ∧ algebraic_GateFwdIdeal_GateFwdReferenceIdeal (hGateFwdIdeal := hGateFwdIdeal) (hGateFwdReferenceIdeal := hGateFwdReferenceIdeal)
    ∧ preserves_GateDx_GateDxIdeal
    ∧ algebraic_GateDxIdeal_GateDxReferenceIdeal (hGateDxIdeal := hGateDxIdeal) (hGateDxReferenceIdeal := hGateDxReferenceIdeal)
    ∧ preserves_GateDw_GateDwIdeal
    ∧ algebraic_GateDwIdeal_GateDwReferenceIdeal (hGateDwIdeal := hGateDwIdeal) (hGateDwReferenceIdeal := hGateDwReferenceIdeal)
    ∧ preserves_BranchFwd_BranchFwdIdeal
    ∧ algebraic_BranchFwdIdeal_BranchFwdReferenceIdeal (hBranchFwdIdeal := hBranchFwdIdeal) (hBranchFwdReferenceIdeal := hBranchFwdReferenceIdeal)
    ∧ preserves_BranchDx_BranchDxIdeal
    ∧ algebraic_BranchDxIdeal_BranchDxReferenceIdeal (hBranchDxIdeal := hBranchDxIdeal) (hBranchDxReferenceIdeal := hBranchDxReferenceIdeal)
    ∧ preserves_BranchDw_BranchDwIdeal
    ∧ algebraic_BranchDwIdeal_BranchDwReferenceIdeal (hBranchDwIdeal := hBranchDwIdeal) (hBranchDwReferenceIdeal := hBranchDwReferenceIdeal)
    ∧ preserves_OutFwd_OutFwdIdeal
    ∧ algebraic_OutFwdIdeal_OutFwdReferenceIdeal (hOutFwdIdeal := hOutFwdIdeal) (hOutFwdReferenceIdeal := hOutFwdReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutDw_OutDwIdeal
    ∧ algebraic_OutDwIdeal_OutDwReferenceIdeal (hOutDwIdeal := hOutDwIdeal) (hOutDwReferenceIdeal := hOutDwReferenceIdeal)
    ∧ preserves_GluFwd_GluFwdIdeal
    ∧ algebraic_GluFwdIdeal_GluFwdReferenceIdeal (hGluFwdIdeal := hGluFwdIdeal) (hGluFwdReferenceIdeal := hGluFwdReferenceIdeal)
    ∧ preserves_GluDx_GluDxIdeal
    ∧ algebraic_GluDxIdeal_GluDxReferenceIdeal (hGluDxIdeal := hGluDxIdeal) (hGluDxReferenceIdeal := hGluDxReferenceIdeal)
    ∧ preserves_GluDw_GluDwIdeal
    ∧ algebraic_GluDwIdeal_GluDwReferenceIdeal (hGluDwIdeal := hGluDwIdeal) (hGluDwReferenceIdeal := hGluDwReferenceIdeal)
    ∧ preserves_SplitFwd_SplitFwdIdeal
    ∧ algebraic_SplitFwdIdeal_SplitFwdReferenceIdeal (hSplitFwdIdeal := hSplitFwdIdeal) (hSplitFwdReferenceIdeal := hSplitFwdReferenceIdeal)
    ∧ preserves_SplitDx_SplitDxIdeal
    ∧ algebraic_SplitDxIdeal_SplitDxReferenceIdeal (hSplitDxIdeal := hSplitDxIdeal) (hSplitDxReferenceIdeal := hSplitDxReferenceIdeal)
    ∧ preserves_SplitDw_SplitDwIdeal
    ∧ algebraic_SplitDwIdeal_SplitDwReferenceIdeal (hSplitDwIdeal := hSplitDwIdeal) (hSplitDwReferenceIdeal := hSplitDwReferenceIdeal)
    ∧ preserves_AdamSharded_AdamShardedIdeal
    ∧ algebraic_AdamShardedIdeal_AdamShardedReferenceIdeal (hAdamShardedIdeal := hAdamShardedIdeal) (hAdamShardedReferenceIdeal := hAdamShardedReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_FfnAct_FfnActIdeal
    ∧ algebraic_FfnActIdeal_FfnActReferenceIdeal (hFfnActIdeal := hFfnActIdeal) (hFfnActReferenceIdeal := hFfnActReferenceIdeal)
    ∧ preserves_FfnActBwd_FfnActBwdIdeal
    ∧ algebraic_FfnActBwdIdeal_FfnActBwdReferenceIdeal (hFfnActBwdIdeal := hFfnActBwdIdeal) (hFfnActBwdReferenceIdeal := hFfnActBwdReferenceIdeal)
    ∧ preserves_GluAct_GluActIdeal
    ∧ algebraic_GluActIdeal_GluActReferenceIdeal (hGluActIdeal := hGluActIdeal) (hGluActReferenceIdeal := hGluActReferenceIdeal)
    ∧ preserves_GluActBwd_GluActBwdIdeal
    ∧ algebraic_GluActBwdIdeal_GluActBwdReferenceIdeal (hGluActBwdIdeal := hGluActBwdIdeal) (hGluActBwdReferenceIdeal := hGluActBwdReferenceIdeal)
    ∧ preserves_Merge_MergeIdeal
    ∧ algebraic_MergeIdeal_MergeReferenceIdeal (hMergeIdeal := hMergeIdeal) (hMergeReferenceIdeal := hMergeReferenceIdeal)
    ∧ preserves_MergeBwd_MergeBwdIdeal
    ∧ algebraic_MergeBwdIdeal_MergeBwdReferenceIdeal (hMergeBwdIdeal := hMergeBwdIdeal) (hMergeBwdReferenceIdeal := hMergeBwdReferenceIdeal)
    ∧ preserves_FfnNorm_FfnNormIdeal
    ∧ algebraic_FfnNormIdeal_FfnNormReferenceIdeal (hFfnNormIdeal := hFfnNormIdeal) (hFfnNormReferenceIdeal := hFfnNormReferenceIdeal)
    ∧ preserves_NormMod_NormModIdeal
    ∧ algebraic_NormModIdeal_NormModReferenceIdeal (hNormModIdeal := hNormModIdeal) (hNormModReferenceIdeal := hNormModReferenceIdeal)
    ∧ preserves_FfnResid_FfnResidIdeal
    ∧ algebraic_FfnResidIdeal_FfnResidReferenceIdeal (hFfnResidIdeal := hFfnResidIdeal) (hFfnResidReferenceIdeal := hFfnResidReferenceIdeal)
    ∧ preserves_ResidFull_ResidFullIdeal
    ∧ algebraic_ResidFullIdeal_ResidFullReferenceIdeal (hResidFullIdeal := hResidFullIdeal) (hResidFullReferenceIdeal := hResidFullReferenceIdeal)
    ∧ preserves_PoolScale_PoolScaleIdeal
    ∧ algebraic_PoolScaleIdeal_PoolScaleReferenceIdeal (hPoolScaleIdeal := hPoolScaleIdeal) (hPoolScaleReferenceIdeal := hPoolScaleReferenceIdeal)
    ∧ preserves_LossRows_LossRowsIdeal
    ∧ algebraic_LossRowsIdeal_LossRowsReferenceIdeal (hLossRowsIdeal := hLossRowsIdeal) (hLossRowsReferenceIdeal := hLossRowsReferenceIdeal)
-- ==== Pre_finite.lean ====
abbrev S16384x4x64 : Shape := ⟨3, ![16384, 4, 64]⟩
abbrev S256x2x64 : Shape := ⟨3, ![256, 2, 64]⟩
abbrev S16384x2x64 : Shape := ⟨3, ![16384, 2, 64]⟩
abbrev S_ : Shape := ⟨0, ![]⟩

class Facts : Prop where
  bcast_S_S16384x4x64 : S_.BroadcastsInDim S16384x4x64 (![] : Fin 0 → Fin S16384x4x64.rank)
  reducesTo_S16384x4x64_S_d0_1_2 : S16384x4x64.ReducesTo [0, 1, 2] S_
  h_S_ : 0 < S_.numel
  bcast_S_S256x2x64 : S_.BroadcastsInDim S256x2x64 (![] : Fin 0 → Fin S256x2x64.rank)
  reducesTo_S256x2x64_S_d0_1_2 : S256x2x64.ReducesTo [0, 1, 2] S_
  bcast_S_S16384x2x64 : S_.BroadcastsInDim S16384x2x64 (![] : Fin 0 → Fin S16384x2x64.rank)
  reducesTo_S16384x2x64_S_d0_1_2 : S16384x2x64.ReducesTo [0, 1, 2] S_

variable [Facts]

def fn_part1 {F : FTy → Type} [FloatOps F] (main_arg4 : FVec F S16384x2x64 .f32) (main_arg5 : FVec F S16384x4x64 .f32) (main_v14 : IVec S_ 1) (main_v15 : FVec F S16384x2x64 .f32) (main_cst_5 : FVec F S_ .f32) : IVec S_ 1 :=
  let main_v16 : FVec F S16384x2x64 .f32 := broadcastInDim S16384x2x64 ![] bcast_S_S16384x2x64 main_cst_5
  let main_v17 : IVec S16384x2x64 1 := cmpf .olt main_v15 main_v16
  let main_c_6 : IVec S_ 1 := constantI S_ 1 1#1
  let main_v18 : IVec S_ 1 := (fun x v => Host.reduce IntOp.andi x v reducesTo_S16384x2x64_S_d0_1_2 h_S_) main_v17 main_c_6
  let main_v19 : IVec S_ 1 := andi main_v14 main_v18
  let main_v20 : FVec F S16384x2x64 .f32 := Host.absf main_arg4
  let main_cst_7 : FVec F S_ .f32 := constant S_ .f32 0x7F800000#32
  let main_v21 : FVec F S16384x2x64 .f32 := broadcastInDim S16384x2x64 ![] bcast_S_S16384x2x64 main_cst_7
  let main_v22 : IVec S16384x2x64 1 := cmpf .olt main_v20 main_v21
  let main_c_8 : IVec S_ 1 := constantI S_ 1 1#1
  let main_v23 : IVec S_ 1 := (fun x v => Host.reduce IntOp.andi x v reducesTo_S16384x2x64_S_d0_1_2 h_S_) main_v22 main_c_8
  let main_v24 : IVec S_ 1 := andi main_v19 main_v23
  let main_v25 : FVec F S16384x4x64 .f32 := Host.absf main_arg5
  let main_cst_9 : FVec F S_ .f32 := constant S_ .f32 0x7F800000#32
  let main_v26 : FVec F S16384x4x64 .f32 := broadcastInDim S16384x4x64 ![] bcast_S_S16384x4x64 main_cst_9
  let main_v27 : IVec S16384x4x64 1 := cmpf .olt main_v25 main_v26
  let main_c_10 : IVec S_ 1 := constantI S_ 1 1#1
  let main_v28 : IVec S_ 1 := (fun x v => Host.reduce IntOp.andi x v reducesTo_S16384x4x64_S_d0_1_2 h_S_) main_v27 main_c_10
  let main_v29 : IVec S_ 1 := andi main_v24 main_v28
  main_v29

def fn {F : FTy → Type} [FloatOps F] (main_arg0 : FVec F S16384x4x64 .f32) (main_arg1 : FVec F S256x2x64 .f32) (main_arg2 : FVec F S256x2x64 .f32) (main_arg3 : FVec F S16384x2x64 .f32) (main_arg4 : FVec F S16384x2x64 .f32) (main_arg5 : FVec F S16384x4x64 .f32) : IVec S_ 1 :=
  let main_v0 : FVec F S16384x4x64 .f32 := Host.absf main_arg0
  let main_cst : FVec F S_ .f32 := constant S_ .f32 0x7F800000#32
  let main_v1 : FVec F S16384x4x64 .f32 := broadcastInDim S16384x4x64 ![] bcast_S_S16384x4x64 main_cst
  let main_v2 : IVec S16384x4x64 1 := cmpf .olt main_v0 main_v1
  let main_c : IVec S_ 1 := constantI S_ 1 1#1
  let main_v3 : IVec S_ 1 := (fun x v => Host.reduce IntOp.andi x v reducesTo_S16384x4x64_S_d0_1_2 h_S_) main_v2 main_c
  let main_c_0 : IVec S_ 1 := constantI S_ 1 1#1
  let main_v4 : IVec S_ 1 := andi main_c_0 main_v3
  let main_v5 : FVec F S256x2x64 .f32 := Host.absf main_arg1
  let main_cst_1 : FVec F S_ .f32 := constant S_ .f32 0x7F800000#32
  let main_v6 : FVec F S256x2x64 .f32 := broadcastInDim S256x2x64 ![] bcast_S_S256x2x64 main_cst_1
  let main_v7 : IVec S256x2x64 1 := cmpf .olt main_v5 main_v6
  let main_c_2 : IVec S_ 1 := constantI S_ 1 1#1
  let main_v8 : IVec S_ 1 := (fun x v => Host.reduce IntOp.andi x v reducesTo_S256x2x64_S_d0_1_2 h_S_) main_v7 main_c_2
  let main_v9 : IVec S_ 1 := andi main_v4 main_v8
  let main_v10 : FVec F S256x2x64 .f32 := Host.absf main_arg2
  let main_cst_3 : FVec F S_ .f32 := constant S_ .f32 0x7F800000#32
  let main_v11 : FVec F S256x2x64 .f32 := broadcastInDim S256x2x64 ![] bcast_S_S256x2x64 main_cst_3
  let main_v12 : IVec S256x2x64 1 := cmpf .olt main_v10 main_v11
  let main_c_4 : IVec S_ 1 := constantI S_ 1 1#1
  let main_v13 : IVec S_ 1 := (fun x v => Host.reduce IntOp.andi x v reducesTo_S256x2x64_S_d0_1_2 h_S_) main_v12 main_c_4
  let main_v14 : IVec S_ 1 := andi main_v9 main_v13
  let main_v15 : FVec F S16384x2x64 .f32 := Host.absf main_arg3
  let main_cst_5 : FVec F S_ .f32 := constant S_ .f32 0x7F800000#32
  fn_part1 (F := F) main_arg4 main_arg5 main_v14 main_v15 main_cst_5
-- ==== Kernel.lean ====
abbrev S16384x4x64 : Shape := ⟨3, ![16384, 4, 64]⟩
abbrev S256x2x64 : Shape := ⟨3, ![256, 2, 64]⟩
abbrev S16384x2x64 : Shape := ⟨3, ![16384, 2, 64]⟩
abbrev S16640x2x64 : Shape := ⟨3, ![16640, 2, 64]⟩
abbrev S16384x2x2x64 : Shape := ⟨4, ![16384, 2, 2, 64]⟩
abbrev S2x16640x16384x2 : Shape := ⟨4, ![2, 16640, 16384, 2]⟩
abbrev S2x2x16384x16640 : Shape := ⟨4, ![2, 2, 16384, 16640]⟩
abbrev S_ : Shape := ⟨0, ![]⟩
abbrev S2x2x16384 : Shape := ⟨3, ![2, 2, 16384]⟩
abbrev S2x2x16384x1 : Shape := ⟨4, ![2, 2, 16384, 1]⟩
abbrev S2x2x16384x64 : Shape := ⟨4, ![2, 2, 16384, 64]⟩
abbrev S2x256x64 : Shape := ⟨3, ![2, 256, 64]⟩
abbrev S2x16384x64 : Shape := ⟨3, ![2, 16384, 64]⟩
abbrev S2x64x16384 : Shape := ⟨3, ![2, 64, 16384]⟩
abbrev S2x64x256 : Shape := ⟨3, ![2, 64, 256]⟩
abbrev S1x2x512x64 : Shape := ⟨4, ![1, 2, 512, 64]⟩
abbrev S1x2x512x1 : Shape := ⟨4, ![1, 2, 512, 1]⟩
abbrev S1x256x64 : Shape := ⟨3, ![1, 256, 64]⟩
abbrev S1x64x256 : Shape := ⟨3, ![1, 64, 256]⟩
abbrev S1x1024x64 : Shape := ⟨3, ![1, 1024, 64]⟩
abbrev S1x64x1024 : Shape := ⟨3, ![1, 64, 1024]⟩
abbrev S1024x64 : Shape := ⟨2, ![1024, 64]⟩
abbrev S1024x1 : Shape := ⟨2, ![1024, 1]⟩
abbrev S16384x64 : Shape := ⟨2, ![16384, 64]⟩
abbrev S2x512x64 : Shape := ⟨3, ![2, 512, 64]⟩
abbrev S2x512x1 : Shape := ⟨3, ![2, 512, 1]⟩
abbrev S1024 : Shape := ⟨1, ![1024]⟩
abbrev S64x256 : Shape := ⟨2, ![64, 256]⟩
abbrev S1024x256 : Shape := ⟨2, ![1024, 256]⟩
abbrev S256x64 : Shape := ⟨2, ![256, 64]⟩
abbrev S64x1024 : Shape := ⟨2, ![64, 1024]⟩
abbrev S1024x1024 : Shape := ⟨2, ![1024, 1024]⟩
abbrev S1x16384x64 : Shape := ⟨3, ![1, 16384, 64]⟩

abbrev nBuf : Space → Nat
  | .hbm => 56
  | .vmem => 28
  | .smem => 0
  | _ => 0

abbrev bufTy : (tb : Table) → Fin (tcTables nBuf tb) → BufTy
  | .hbm, ⟨0, _⟩ => ⟨S16384x4x64, .f32⟩
  | .hbm, ⟨1, _⟩ => ⟨S256x2x64, .f32⟩
  | .hbm, ⟨2, _⟩ => ⟨S256x2x64, .f32⟩
  | .hbm, ⟨3, _⟩ => ⟨S16384x2x64, .f32⟩
  | .hbm, ⟨4, _⟩ => ⟨S16384x2x64, .f32⟩
  | .hbm, ⟨5, _⟩ => ⟨S16384x4x64, .f32⟩
  | .hbm, ⟨6, _⟩ => ⟨S16640x2x64, .f32⟩
  | .hbm, ⟨7, _⟩ => ⟨S16640x2x64, .f32⟩
  | .hbm, ⟨8, _⟩ => ⟨S16384x2x2x64, .f32⟩
  | .hbm, ⟨9, _⟩ => ⟨S2x16640x16384x2, .f32⟩
  | .hbm, ⟨10, _⟩ => ⟨S2x2x16384x16640, .f32⟩
  | .hbm, ⟨11, _⟩ => ⟨S_, .f32⟩
  | .hbm, ⟨12, _⟩ => ⟨S2x2x16384x16640, .f32⟩
  | .hbm, ⟨13, _⟩ => ⟨S2x2x16384x16640, .f32⟩
  | .hbm, ⟨14, _⟩ => ⟨S_, .f32⟩
  | .hbm, ⟨15, _⟩ => ⟨S2x2x16384, .f32⟩
  | .hbm, ⟨16, _⟩ => ⟨S2x2x16384x1, .f32⟩
  | .hbm, ⟨17, _⟩ => ⟨S2x2x16384x16640, .f32⟩
  | .hbm, ⟨18, _⟩ => ⟨S2x2x16384x16640, .f32⟩
  | .hbm, ⟨19, _⟩ => ⟨S2x2x16384x16640, .f32⟩
  | .hbm, ⟨20, _⟩ => ⟨S_, .f32⟩
  | .hbm, ⟨21, _⟩ => ⟨S2x2x16384, .f32⟩
  | .hbm, ⟨22, _⟩ => ⟨S2x2x16384x1, .f32⟩
  | .hbm, ⟨23, _⟩ => ⟨S2x2x16384x1, .f32⟩
  | .hbm, ⟨24, _⟩ => ⟨S2x2x16384x1, .f32⟩
  | .hbm, ⟨25, _⟩ => ⟨S_, .f32⟩
  | .hbm, ⟨26, _⟩ => ⟨S2x2x16384, .f32⟩
  | .hbm, ⟨27, _⟩ => ⟨S_, .f32⟩
  | .hbm, ⟨28, _⟩ => ⟨S2x2x16384, .f32⟩
  | .hbm, ⟨29, _⟩ => ⟨S2x2x16384, .f32⟩
  | .hbm, ⟨30, _⟩ => ⟨S2x2x16384x1, .f32⟩
  | .hbm, ⟨31, _⟩ => ⟨S2x2x16384x16640, .f32⟩
  | .hbm, ⟨32, _⟩ => ⟨S2x2x16384x16640, .f32⟩
  | .hbm, ⟨33, _⟩ => ⟨S2x2x16384x16640, .f32⟩
  | .hbm, ⟨34, _⟩ => ⟨S_, .f32⟩
  | .hbm, ⟨35, _⟩ => ⟨S2x2x16384, .f32⟩
  | .hbm, ⟨36, _⟩ => ⟨S2x2x16384x1, .f32⟩
  | .hbm, ⟨37, _⟩ => ⟨S2x2x16384x16640, .f32⟩
  | .hbm, ⟨38, _⟩ => ⟨S2x2x16384x16640, .f32⟩
  | .hbm, ⟨39, _⟩ => ⟨S2x2x16384x64, .f32⟩
  | .hbm, ⟨40, _⟩ => ⟨S2x256x64, .f32⟩
  | .hbm, ⟨41, _⟩ => ⟨S2x256x64, .f32⟩
  | .hbm, ⟨42, _⟩ => ⟨S2x16384x64, .f32⟩
  | .hbm, ⟨43, _⟩ => ⟨S2x16384x64, .f32⟩
  | .hbm, ⟨44, _⟩ => ⟨S16384x2x2x64, .f32⟩
  | .hbm, ⟨45, _⟩ => ⟨S2x2x16384x64, .f32⟩
  | .hbm, ⟨46, _⟩ => ⟨S16384x2x2x64, .f32⟩
  | .hbm, ⟨47, _⟩ => ⟨S2x2x16384x64, .f32⟩
  | .hbm, ⟨48, _⟩ => ⟨S2x64x16384, .f32⟩
  | .hbm, ⟨49, _⟩ => ⟨S2x64x16384, .f32⟩
  | .hbm, ⟨50, _⟩ => ⟨S2x64x256, .f32⟩
  | .hbm, ⟨51, _⟩ => ⟨S2x64x256, .f32⟩
  | .hbm, ⟨52, _⟩ => ⟨S2x2x16384x64, .f32⟩
  | .hbm, ⟨53, _⟩ => ⟨S2x2x16384x1, .f32⟩
  | .hbm, ⟨54, _⟩ => ⟨S2x16384x64, .f32⟩
  | .hbm, ⟨55, _⟩ => ⟨S2x16384x64, .f32⟩
  | .local _ .vmem, ⟨0, _⟩ => ⟨S1x2x512x64, .f32⟩
  | .local _ .vmem, ⟨1, _⟩ => ⟨S1x2x512x64, .f32⟩
  | .local _ .vmem, ⟨2, _⟩ => ⟨S1x2x512x64, .f32⟩
  | .local _ .vmem, ⟨3, _⟩ => ⟨S1x2x512x64, .f32⟩
  | .local _ .vmem, ⟨4, _⟩ => ⟨S1x2x512x64, .f32⟩
  | .local _ .vmem, ⟨5, _⟩ => ⟨S1x2x512x64, .f32⟩
  | .local _ .vmem, ⟨6, _⟩ => ⟨S1x2x512x1, .f32⟩
  | .local _ .vmem, ⟨7, _⟩ => ⟨S1x2x512x1, .f32⟩
  | .local _ .vmem, ⟨8, _⟩ => ⟨S1x256x64, .f32⟩
  | .local _ .vmem, ⟨9, _⟩ => ⟨S1x256x64, .f32⟩
  | .local _ .vmem, ⟨10, _⟩ => ⟨S1x64x256, .f32⟩
  | .local _ .vmem, ⟨11, _⟩ => ⟨S1x64x256, .f32⟩
  | .local _ .vmem, ⟨12, _⟩ => ⟨S1x64x256, .f32⟩
  | .local _ .vmem, ⟨13, _⟩ => ⟨S1x64x256, .f32⟩
  | .local _ .vmem, ⟨14, _⟩ => ⟨S1x1024x64, .f32⟩
  | .local _ .vmem, ⟨15, _⟩ => ⟨S1x1024x64, .f32⟩
  | .local _ .vmem, ⟨16, _⟩ => ⟨S1x64x1024, .f32⟩
  | .local _ .vmem, ⟨17, _⟩ => ⟨S1x64x1024, .f32⟩
  | .local _ .vmem, ⟨18, _⟩ => ⟨S1x64x1024, .f32⟩
  | .local _ .vmem, ⟨19, _⟩ => ⟨S1x64x1024, .f32⟩
  | .local _ .vmem, ⟨20, _⟩ => ⟨S1x2x512x64, .f32⟩
  | .local _ .vmem, ⟨21, _⟩ => ⟨S1x2x512x64, .f32⟩
  | .local _ .vmem, ⟨22, _⟩ => ⟨S1x2x512x1, .f32⟩
  | .local _ .vmem, ⟨23, _⟩ => ⟨S1x2x512x1, .f32⟩
  | .local _ .vmem, ⟨24, _⟩ => ⟨S1024x64, .f32⟩
  | .local _ .vmem, ⟨25, _⟩ => ⟨S1024x1, .f32⟩
  | .local _ .vmem, ⟨26, _⟩ => ⟨S16384x64, .f32⟩
  | .local _ .vmem, ⟨27, _⟩ => ⟨S16384x64, .f32⟩
  | _, _ => ⟨S16384x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40_0 : Ref sig .tc := ⟨.hbm, 52, rfl⟩
abbrev main_v40_1 : Ref sig .tc := ⟨.hbm, 53, rfl⟩
abbrev main_v40_2 : Ref sig .tc := ⟨.hbm, 54, rfl⟩
abbrev main_v40_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 32, 16], ![false, false, false]⟩

def k0_mult1 (i : grid0.Coords) : BitVec 32 :=
  let arg2 : BitVec 32 := BitVec.ofNat 32 (i 2).val
  let c1024_i32 : BitVec 32 := 1024#32
  let v50 : BitVec 32 := Scalar.muli arg2 c1024_i32
  v50
def k0_off1 (i : grid0.Coords) : Fin 2 → Nat :=
  let arg2 : BitVec 32 := BitVec.ofNat 32 (i 2).val
  let c1024_i32 : BitVec 32 := 1024#32
  let v50 : BitVec 32 := Scalar.muli arg2 c1024_i32
  let v51 : BitVec 32 := v50
  let v52 : Index := Scalar.indexCast v51
  let c0_37 : Index := 0#32
  ![v52.toNat, 0]
def k0_cond4 (i : grid0.Coords) : BitVec 1 :=
  let arg1 : BitVec 32 := BitVec.ofNat 32 (i 1).val
  let c31_i32 : BitVec 32 := 31#32
  let v72 : BitVec 1 := Scalar.cmpi .eq arg1 c31_i32
  let arg2 : BitVec 32 := BitVec.ofNat 32 (i 2).val
  let c15_i32_44 : BitVec 32 := 15#32
  let v73 : BitVec 1 := Scalar.cmpi .eq arg2 c15_i32_44
  let v74 : BitVec 1 := Scalar.andi v72 v73
  let v75 : BitVec 32 := Scalar.extui v74
  let c0_i32_45 : BitVec 32 := 0#32
  let v76 : BitVec 1 := Scalar.cmpi .ne v75 c0_i32_45
  v76

def k0_off2 (i : grid0.Coords) : Fin 3 → Nat :=
  let arg0 : BitVec 32 := BitVec.ofNat 32 (i 0).val
  let c0_i32_51_r0 : BitVec 32 := 0#32
  let c0_i32_52_r0 : BitVec 32 := 0#32
  ![arg0.toNat, 0, 0]
def k0_cond3 (i : grid0.Coords) : BitVec 1 :=
  let arg2 : BitVec 32 := BitVec.ofNat 32 (i 2).val
  let c15_i32 : BitVec 32 := 15#32
  let v69 : BitVec 1 := Scalar.cmpi .eq arg2 c15_i32
  let v70 : BitVec 32 := Scalar.extui v69
  let c0_i32_43 : BitVec 32 := 0#32
  let v71 : BitVec 1 := Scalar.cmpi .ne v70 c0_i32_43
  v71

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S1x2x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x2x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== ReferenceIdeal.lean ====
abbrev S16384x4x64 : Shape := ⟨3, ![16384, 4, 64]⟩
abbrev S256x2x64 : Shape := ⟨3, ![256, 2, 64]⟩
abbrev S16384x2x64 : Shape := ⟨3, ![16384, 2, 64]⟩
abbrev S16640x2x64 : Shape := ⟨3, ![16640, 2, 64]⟩
abbrev S16384x2x2x64 : Shape := ⟨4, ![16384, 2, 2, 64]⟩
abbrev S2x16640x16384x2 : Shape := ⟨4, ![2, 16640, 16384, 2]⟩
abbrev S2x2x16384x16640 : Shape := ⟨4, ![2, 2, 16384, 16640]⟩
abbrev S_ : Shape := ⟨0, ![]⟩
abbrev S2x2x16384 : Shape := ⟨3, ![2, 2, 16384]⟩
abbrev S2x2x16384x1 : Shape := ⟨4, ![2, 2, 16384, 1]⟩
abbrev S2x64x2x16384 : Shape := ⟨4, ![2, 64, 2, 16384]⟩
abbrev S16384x256 : Shape := ⟨2, ![16384, 256]⟩
abbrev S2x64x16640 : Shape := ⟨3, ![2, 64, 16640]⟩
abbrev S2x16384x2x64 : Shape := ⟨4, ![2, 16384, 2, 64]⟩
abbrev S2x16640x64 : Shape := ⟨3, ![2, 16640, 64]⟩
abbrev S2x2x16384x64 : Shape := ⟨4, ![2, 2, 16384, 64]⟩
abbrev S2x16384x64 : Shape := ⟨3, ![2, 16384, 64]⟩

abbrev nBuf : Space → Nat
  | .hbm => 92
  | .vmem => 0
  | .smem => 0
  | _ => 0

abbrev bufTy : (tb : Table) → Fin (tcTables nBuf tb) → BufTy
  | .hbm, ⟨0, _⟩ => ⟨S16384x4x64, .f32⟩
  | .hbm, ⟨1, _⟩ => ⟨S256x2x64, .f32⟩
  | .hbm, ⟨2, _⟩ => ⟨S256x2x64, .f32⟩
  | .hbm, ⟨3, _⟩ => ⟨S16384x2x64, .f32⟩
  | .hbm, ⟨4, _⟩ => ⟨S16384x2x64, .f32⟩
  | .hbm, ⟨5, _⟩ => ⟨S16384x4x64, .f32⟩
  | .hbm, ⟨6, _⟩ => ⟨S16640x2x64, .f32⟩
  | .hbm, ⟨7, _⟩ => ⟨S16640x2x64, .f32⟩
  | .hbm, ⟨8, _⟩ => ⟨S16384x2x2x64, .f32⟩
  | .hbm, ⟨9, _⟩ => ⟨S2x16640x16384x2, .f32⟩
  | .hbm, ⟨10, _⟩ => ⟨S2x2x16384x16640, .f32⟩
  | .hbm, ⟨11, _⟩ => ⟨S_, .f32⟩
  | .hbm, ⟨12, _⟩ => ⟨S2x2x16384x16640, .f32⟩
  | .hbm, ⟨13, _⟩ => ⟨S2x2x16384x16640, .f32⟩
  | .hbm, ⟨14, _⟩ => ⟨S_, .f32⟩
  | .hbm, ⟨15, _⟩ => ⟨S2x2x16384, .f32⟩
  | .hbm, ⟨16, _⟩ => ⟨S2x2x16384x1, .f32⟩
  | .hbm, ⟨17, _⟩ => ⟨S2x2x16384x16640, .f32⟩
  | .hbm, ⟨18, _⟩ => ⟨S2x2x16384x16640, .i1⟩
  | .hbm, ⟨19, _⟩ => ⟨S2x2x16384x16640, .f32⟩
  | .hbm, ⟨20, _⟩ => ⟨S_, .f32⟩
  | .hbm, ⟨21, _⟩ => ⟨S2x2x16384, .f32⟩
  | .hbm, ⟨22, _⟩ => ⟨S_, .f32⟩
  | .hbm, ⟨23, _⟩ => ⟨S2x2x16384, .f32⟩
  | .hbm, ⟨24, _⟩ => ⟨S2x2x16384, .f32⟩
  | .hbm, ⟨25, _⟩ => ⟨S_, .f32⟩
  | .hbm, ⟨26, _⟩ => ⟨S2x2x16384, .f32⟩
  | .hbm, ⟨27, _⟩ => ⟨S2x2x16384, .i1⟩
  | .hbm, ⟨28, _⟩ => ⟨S_, .f32⟩
  | .hbm, ⟨29, _⟩ => ⟨S2x2x16384, .f32⟩
  | .hbm, ⟨30, _⟩ => ⟨S2x2x16384, .i1⟩
  | .hbm, ⟨31, _⟩ => ⟨S_, .f32⟩
  | .hbm, ⟨32, _⟩ => ⟨S2x2x16384, .f32⟩
  | .hbm, ⟨33, _⟩ => ⟨S_, .f32⟩
  | .hbm, ⟨34, _⟩ => ⟨S2x2x16384, .f32⟩
  | .hbm, ⟨35, _⟩ => ⟨S_, .f32⟩
  | .hbm, ⟨36, _⟩ => ⟨S2x2x16384, .f32⟩
  | .hbm, ⟨37, _⟩ => ⟨S2x2x16384, .f32⟩
  | .hbm, ⟨38, _⟩ => ⟨S2x2x16384, .f32⟩
  | .hbm, ⟨39, _⟩ => ⟨S2x2x16384x1, .f32⟩
  | .hbm, ⟨40, _⟩ => ⟨S2x2x16384x16640, .f32⟩
  | .hbm, ⟨41, _⟩ => ⟨S2x2x16384x16640, .f32⟩
  | .hbm, ⟨42, _⟩ => ⟨S2x2x16384x16640, .f32⟩
  | .hbm, ⟨43, _⟩ => ⟨S_, .f32⟩
  | .hbm, ⟨44, _⟩ => ⟨S2x2x16384, .f32⟩
  | .hbm, ⟨45, _⟩ => ⟨S2x2x16384x1, .f32⟩
  | .hbm, ⟨46, _⟩ => ⟨S2x2x16384x16640, .f32⟩
  | .hbm, ⟨47, _⟩ => ⟨S2x2x16384x16640, .f32⟩
  | .hbm, ⟨48, _⟩ => ⟨S2x2x16384x1, .f32⟩
  | .hbm, ⟨49, _⟩ => ⟨S_, .f32⟩
  | .hbm, ⟨50, _⟩ => ⟨S2x2x16384x1, .f32⟩
  | .hbm, ⟨51, _⟩ => ⟨S2x2x16384x1, .f32⟩
  | .hbm, ⟨52, _⟩ => ⟨S2x64x2x16384, .f32⟩
  | .hbm, ⟨53, _⟩ => ⟨S16384x2x2x64, .f32⟩
  | .hbm, ⟨54, _⟩ => ⟨S16384x256, .f32⟩
  | .hbm, ⟨55, _⟩ => ⟨S16384x256, .f32⟩
  | .hbm, ⟨56, _⟩ => ⟨S16384x2x2x64, .f32⟩
  | .hbm, ⟨57, _⟩ => ⟨S2x64x2x16384, .f32⟩
  | .hbm, ⟨58, _⟩ => ⟨S2x2x16384x16640, .f32⟩
  | .hbm, ⟨59, _⟩ => ⟨S2x64x16640, .f32⟩
  | .hbm, ⟨60, _⟩ => ⟨S16640x2x64, .f32⟩
  | .hbm, ⟨61, _⟩ => ⟨S2x2x16384x16640, .f32⟩
  | .hbm, ⟨62, _⟩ => ⟨S2x2x16384x16640, .f32⟩
  | .hbm, ⟨63, _⟩ => ⟨S2x2x16384x16640, .f32⟩
  | .hbm, ⟨64, _⟩ => ⟨S_, .f32⟩
  | .hbm, ⟨65, _⟩ => ⟨S2x2x16384, .f32⟩
  | .hbm, ⟨66, _⟩ => ⟨S2x2x16384x1, .f32⟩
  | .hbm, ⟨67, _⟩ => ⟨S2x2x16384x1, .f32⟩
  | .hbm, ⟨68, _⟩ => ⟨S2x2x16384x16640, .f32⟩
  | .hbm, ⟨69, _⟩ => ⟨S2x2x16384x16640, .f32⟩
  | .hbm, ⟨70, _⟩ => ⟨S_, .f32⟩
  | .hbm, ⟨71, _⟩ => ⟨S2x2x16384, .f32⟩
  | .hbm, ⟨72, _⟩ => ⟨S2x2x16384x16640, .f32⟩
  | .hbm, ⟨73, _⟩ => ⟨S2x2x16384x16640, .f32⟩
  | .hbm, ⟨74, _⟩ => ⟨S2x2x16384x16640, .f32⟩
  | .hbm, ⟨75, _⟩ => ⟨S_, .f32⟩
  | .hbm, ⟨76, _⟩ => ⟨S2x2x16384x16640, .f32⟩
  | .hbm, ⟨77, _⟩ => ⟨S2x2x16384x16640, .f32⟩
  | .hbm, ⟨78, _⟩ => ⟨S2x16640x16384x2, .f32⟩
  | .hbm, ⟨79, _⟩ => ⟨S2x16384x2x64, .f32⟩
  | .hbm, ⟨80, _⟩ => ⟨S16384x2x2x64, .f32⟩
  | .hbm, ⟨81, _⟩ => ⟨S2x16640x64, .f32⟩
  | .hbm, ⟨82, _⟩ => ⟨S16640x2x64, .f32⟩
  | .hbm, ⟨83, _⟩ => ⟨S16384x4x64, .f32⟩
  | .hbm, ⟨84, _⟩ => ⟨S256x2x64, .f32⟩
  | .hbm, ⟨85, _⟩ => ⟨S16384x2x64, .f32⟩
  | .hbm, ⟨86, _⟩ => ⟨S256x2x64, .f32⟩
  | .hbm, ⟨87, _⟩ => ⟨S16384x2x64, .f32⟩
  | .hbm, ⟨88, _⟩ => ⟨S16384x2x2x64, .f32⟩
  | .hbm, ⟨89, _⟩ => ⟨S2x2x16384x64, .f32⟩
  | .hbm, ⟨90, _⟩ => ⟨S2x16384x64, .f32⟩
  | .hbm, ⟨91, _⟩ => ⟨S2x16384x64, .f32⟩
  | _, _ => ⟨S16384x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== FfnUp.lean ====
abbrev S16384x1024 : Shape := ⟨2, ![16384, 1024]⟩
abbrev S1024x5632 : Shape := ⟨2, ![1024, 5632]⟩
abbrev S16384x5632 : Shape := ⟨2, ![16384, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpReferenceIdeal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x1024, .f32⟩
  | .hbm, ⟨3, _⟩ => ⟨S1024x5632, .f32⟩
  | .hbm, ⟨4, _⟩ => ⟨S16384x5632, .f32⟩
  | .hbm, ⟨5, _⟩ => ⟨S16384x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnDown.lean ====
abbrev S16384x2816 : Shape := ⟨2, ![16384, 2816]⟩
abbrev S2816x1024 : Shape := ⟨2, ![2816, 1024]⟩
abbrev S16384x1024 : Shape := ⟨2, ![16384, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownReferenceIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x2816, .f32⟩
  | .hbm, ⟨3, _⟩ => ⟨S2816x1024, .f32⟩
  | .hbm, ⟨4, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDownDx.lean ====
abbrev S16384x1024 : Shape := ⟨2, ![16384, 1024]⟩
abbrev S2816x1024 : Shape := ⟨2, ![2816, 1024]⟩
abbrev S16384x2816 : Shape := ⟨2, ![16384, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDxReferenceIdeal.lean ====
abbrev S16384x1024 : Shape := ⟨2, ![16384, 1024]⟩
abbrev S2816x1024 : Shape := ⟨2, ![2816, 1024]⟩
abbrev S16384x2816 : Shape := ⟨2, ![16384, 2816]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S2816x1024, .f32⟩
  | .hbm, ⟨3, _⟩ => ⟨S16384x1024, .f32⟩
  | .hbm, ⟨4, _⟩ => ⟨S16384x2816, .f32⟩
  | .hbm, ⟨5, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnDownDw.lean ====
abbrev S16384x2816 : Shape := ⟨2, ![16384, 2816]⟩
abbrev S16384x1024 : Shape := ⟨2, ![16384, 1024]⟩
abbrev S2816x1024 : Shape := ⟨2, ![2816, 1024]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwReferenceIdeal.lean ====
abbrev S16384x2816 : Shape := ⟨2, ![16384, 2816]⟩
abbrev S16384x1024 : Shape := ⟨2, ![16384, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S16384x2816, .f32⟩
  | .hbm, ⟨3, _⟩ => ⟨S16384x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnUpDx.lean ====
abbrev S16384x5632 : Shape := ⟨2, ![16384, 5632]⟩
abbrev S1024x5632 : Shape := ⟨2, ![1024, 5632]⟩
abbrev S16384x1024 : Shape := ⟨2, ![16384, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .bf16⟩
  | .hbm, ⟨2, _⟩ => ⟨S16384x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDxReferenceIdeal.lean ====
abbrev S16384x5632 : Shape := ⟨2, ![16384, 5632]⟩
abbrev S1024x5632 : Shape := ⟨2, ![1024, 5632]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .bf16⟩
  | .hbm, ⟨2, _⟩ => ⟨S1024x5632, .f32⟩
  | .hbm, ⟨3, _⟩ => ⟨S16384x5632, .f32⟩
  | .hbm, ⟨4, _⟩ => ⟨S16384x1024, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnUpDw.lean ====
abbrev S16384x1024 : Shape := ⟨2, ![16384, 1024]⟩
abbrev S16384x5632 : Shape := ⟨2, ![16384, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDwReferenceIdeal.lean ====
abbrev S16384x1024 : Shape := ⟨2, ![16384, 1024]⟩
abbrev S16384x5632 : Shape := ⟨2, ![16384, 5632]⟩
abbrev S5632x1024 : Shape := ⟨2, ![5632, 1024]⟩
abbrev S1024x5632 : Shape := ⟨2, ![1024, 5632]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S16384x1024, .f32⟩
  | .hbm, ⟨3, _⟩ => ⟨S16384x5632, .f32⟩
  | .hbm, ⟨4, _⟩ => ⟨S5632x1024, .f32⟩
  | .hbm, ⟨5, _⟩ => ⟨S1024x5632, .f32⟩
  | .hbm, ⟨6, _⟩ => ⟨S1024x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GateFwd.lean ====
abbrev S16384x1024 : Shape := ⟨2, ![16384, 1024]⟩
abbrev S1024x4096 : Shape := ⟨2, ![1024, 4096]⟩
abbrev S16384x4096 : Shape := ⟨2, ![16384, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x4096, .bf16⟩
  | .hbm, ⟨2, _⟩ => ⟨S16384x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateFwdReferenceIdeal.lean ====
abbrev S16384x1024 : Shape := ⟨2, ![16384, 1024]⟩
abbrev S1024x4096 : Shape := ⟨2, ![1024, 4096]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .bf16⟩
  | .hbm, ⟨2, _⟩ => ⟨S1024x4096, .f32⟩
  | .hbm, ⟨3, _⟩ => ⟨S16384x4096, .f32⟩
  | .hbm, ⟨4, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateDx.lean ====
abbrev S16384x4096 : Shape := ⟨2, ![16384, 4096]⟩
abbrev S1024x4096 : Shape := ⟨2, ![1024, 4096]⟩
abbrev S16384x1024 : Shape := ⟨2, ![16384, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S16384x1024, .f32⟩
  | .hbm, ⟨3, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateDxReferenceIdeal.lean ====
abbrev S16384x4096 : Shape := ⟨2, ![16384, 4096]⟩
abbrev S1024x4096 : Shape := ⟨2, ![1024, 4096]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S16384x1024, .f32⟩
  | .hbm, ⟨3, _⟩ => ⟨S1024x4096, .f32⟩
  | .hbm, ⟨4, _⟩ => ⟨S16384x4096, .f32⟩
  | .hbm, ⟨5, _⟩ => ⟨S16384x1024, .f32⟩
  | .hbm, ⟨6, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateDw.lean ====
abbrev S16384x1024 : Shape := ⟨2, ![16384, 1024]⟩
abbrev S16384x4096 : Shape := ⟨2, ![16384, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x4096, .bf16⟩
  | .hbm, ⟨2, _⟩ => ⟨S1024x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwReferenceIdeal.lean ====
abbrev S16384x1024 : Shape := ⟨2, ![16384, 1024]⟩
abbrev S16384x4096 : Shape := ⟨2, ![16384, 4096]⟩
abbrev S4096x1024 : Shape := ⟨2, ![4096, 1024]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .bf16⟩
  | .hbm, ⟨2, _⟩ => ⟨S16384x4096, .f32⟩
  | .hbm, ⟨3, _⟩ => ⟨S4096x1024, .f32⟩
  | .hbm, ⟨4, _⟩ => ⟨S1024x4096, .f32⟩
  | .hbm, ⟨5, _⟩ => ⟨S1024x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchFwd.lean ====
abbrev S16384x256 : Shape := ⟨2, ![16384, 256]⟩
abbrev S256x1024 : Shape := ⟨2, ![256, 1024]⟩
abbrev S16384x1024 : Shape := ⟨2, ![16384, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S256x1024, .bf16⟩
  | .hbm, ⟨2, _⟩ => ⟨S16384x1024, .bf16⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchFwdReferenceIdeal.lean ====
abbrev S16384x256 : Shape := ⟨2, ![16384, 256]⟩
abbrev S256x1024 : Shape := ⟨2, ![256, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x1024, .bf16⟩
  | .hbm, ⟨2, _⟩ => ⟨S256x1024, .f32⟩
  | .hbm, ⟨3, _⟩ => ⟨S16384x1024, .f32⟩
  | .hbm, ⟨4, _⟩ => ⟨S16384x1024, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchDx.lean ====
abbrev S16384x1024 : Shape := ⟨2, ![16384, 1024]⟩
abbrev S256x1024 : Shape := ⟨2, ![256, 1024]⟩
abbrev S16384x256 : Shape := ⟨2, ![16384, 256]⟩
abbrev S1024x1024 : Shape := ⟨2, ![1024, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S256x1024, .bf16⟩
  | .hbm, ⟨2, _⟩ => ⟨S16384x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxIdeal.lean ====
abbrev S16384x1024 : Shape := ⟨2, ![16384, 1024]⟩
abbrev S256x1024 : Shape := ⟨2, ![256, 1024]⟩
abbrev S16384x256 : Shape := ⟨2, ![16384, 256]⟩
abbrev S1024x1024 : Shape := ⟨2, ![1024, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S256x1024, .bf16⟩
  | .hbm, ⟨2, _⟩ => ⟨S16384x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxReferenceIdeal.lean ====
abbrev S16384x1024 : Shape := ⟨2, ![16384, 1024]⟩
abbrev S256x1024 : Shape := ⟨2, ![256, 1024]⟩
abbrev S16384x256 : Shape := ⟨2, ![16384, 256]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S256x1024, .bf16⟩
  | .hbm, ⟨2, _⟩ => ⟨S256x1024, .f32⟩
  | .hbm, ⟨3, _⟩ => ⟨S16384x1024, .f32⟩
  | .hbm, ⟨4, _⟩ => ⟨S16384x256, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchDw.lean ====
abbrev S16384x256 : Shape := ⟨2, ![16384, 256]⟩
abbrev S16384x1024 : Shape := ⟨2, ![16384, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S256x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwIdeal.lean ====
abbrev S16384x256 : Shape := ⟨2, ![16384, 256]⟩
abbrev S16384x1024 : Shape := ⟨2, ![16384, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S256x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwReferenceIdeal.lean ====
abbrev S16384x256 : Shape := ⟨2, ![16384, 256]⟩
abbrev S16384x1024 : Shape := ⟨2, ![16384, 1024]⟩
abbrev S1024x256 : Shape := ⟨2, ![1024, 256]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S16384x1024, .f32⟩
  | .hbm, ⟨3, _⟩ => ⟨S1024x256, .f32⟩
  | .hbm, ⟨4, _⟩ => ⟨S256x1024, .f32⟩
  | .hbm, ⟨5, _⟩ => ⟨S256x1024, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutFwd.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdIdeal.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdReferenceIdeal.lean ====
abbrev S16384x1024 : Shape := ⟨2, ![16384, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S1024x1024, .f32⟩
  | .hbm, ⟨3, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDx.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxIdeal.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S16384x1024 : Shape := ⟨2, ![16384, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S1024x1024, .f32⟩
  | .hbm, ⟨3, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDw.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwIdeal.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwReferenceIdeal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GluFwd.lean ====
abbrev S16384x256 : Shape := ⟨2, ![16384, 256]⟩
abbrev S256x512 : Shape := ⟨2, ![256, 512]⟩
abbrev S16384x512 : Shape := ⟨2, ![16384, 512]⟩
abbrev S1024x256 : Shape := ⟨2, ![1024, 256]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S256x512, .bf16⟩
  | .hbm, ⟨2, _⟩ => ⟨S16384x512, .f32⟩
  | .local _ .vmem, ⟨0, _⟩ => ⟨S1024x256, .f32⟩
  | .local _ .vmem, ⟨1, _⟩ => ⟨S1024x256, .f32⟩
  | .local _ .vmem, ⟨2, _⟩ => ⟨S256x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluFwdReferenceIdeal.lean ====
abbrev S16384x256 : Shape := ⟨2, ![16384, 256]⟩
abbrev S256x512 : Shape := ⟨2, ![256, 512]⟩
abbrev S16384x512 : Shape := ⟨2, ![16384, 512]⟩

abbrev nBuf : Space → Nat
  | .hbm => 4
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x512, .bf16⟩
  | .hbm, ⟨2, _⟩ => ⟨S256x512, .f32⟩
  | .hbm, ⟨3, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GluDx.lean ====
abbrev S16384x512 : Shape := ⟨2, ![16384, 512]⟩
abbrev S256x512 : Shape := ⟨2, ![256, 512]⟩
abbrev S16384x256 : Shape := ⟨2, ![16384, 256]⟩
abbrev S1024x512 : Shape := ⟨2, ![1024, 512]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S256x512, .bf16⟩
  | .hbm, ⟨2, _⟩ => ⟨S16384x256, .f32⟩
  | .local _ .vmem, ⟨0, _⟩ => ⟨S1024x512, .f32⟩
  | .local _ .vmem, ⟨1, _⟩ => ⟨S1024x512, .f32⟩
  | .local _ .vmem, ⟨2, _⟩ => ⟨S256x512, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDxReferenceIdeal.lean ====
abbrev S16384x512 : Shape := ⟨2, ![16384, 512]⟩
abbrev S256x512 : Shape := ⟨2, ![256, 512]⟩
abbrev S16384x256 : Shape := ⟨2, ![16384, 256]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S256x512, .bf16⟩
  | .hbm, ⟨2, _⟩ => ⟨S256x512, .f32⟩
  | .hbm, ⟨3, _⟩ => ⟨S16384x256, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GluDw.lean ====
abbrev S16384x256 : Shape := ⟨2, ![16384, 256]⟩
abbrev S16384x512 : Shape := ⟨2, ![16384, 512]⟩
abbrev S256x512 : Shape := ⟨2, ![256, 512]⟩
abbrev S1024x256 : Shape := ⟨2, ![1024, 256]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S256x512, .bf16⟩
  | .local _ .vmem, ⟨0, _⟩ => ⟨S1024x256, .f32⟩
  | .local _ .vmem, ⟨1, _⟩ => ⟨S1024x256, .f32⟩
  | .local _ .vmem, ⟨2, _⟩ => ⟨S1024x512, .f32⟩
  | .local _ .vmem, ⟨3, _⟩ => ⟨S1024x512, .f32⟩
  | .local _ .vmem, ⟨4, _⟩ => ⟨S256x512, .bf16⟩
  | .local _ .vmem, ⟨5, _⟩ => ⟨S256x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluDwReferenceIdeal.lean ====
abbrev S16384x256 : Shape := ⟨2, ![16384, 256]⟩
abbrev S16384x512 : Shape := ⟨2, ![16384, 512]⟩
abbrev S512x256 : Shape := ⟨2, ![512, 256]⟩
abbrev S256x512 : Shape := ⟨2, ![256, 512]⟩

abbrev nBuf : Space → Nat
  | .hbm => 5
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S512x256, .f32⟩
  | .hbm, ⟨3, _⟩ => ⟨S256x512, .f32⟩
  | .hbm, ⟨4, _⟩ => ⟨S256x512, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SplitFwd.lean ====
abbrev S16384x1024 : Shape := ⟨2, ![16384, 1024]⟩
abbrev S1024x1536 : Shape := ⟨2, ![1024, 1536]⟩
abbrev S16384x128 : Shape := ⟨2, ![16384, 128]⟩
abbrev S16384x256 : Shape := ⟨2, ![16384, 256]⟩
abbrev S512x1024 : Shape := ⟨2, ![512, 1024]⟩
abbrev S512x128 : Shape := ⟨2, ![512, 128]⟩
abbrev S512x256 : Shape := ⟨2, ![512, 256]⟩
abbrev S512x1536 : Shape := ⟨2, ![512, 1536]⟩

abbrev nBuf : Space → Nat
  | .hbm => 10
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024x1536, .bf16⟩
  | .hbm, ⟨2, _⟩ => ⟨S16384x128, .f32⟩
  | .hbm, ⟨3, _⟩ => ⟨S16384x128, .f32⟩
  | .hbm, ⟨4, _⟩ => ⟨S16384x256, .f32⟩
  | .hbm, ⟨5, _⟩ => ⟨S16384x128, .f32⟩
  | .hbm, ⟨6, _⟩ => ⟨S16384x128, .f32⟩
  | .hbm, ⟨7, _⟩ => ⟨S16384x256, .f32⟩
  | .hbm, ⟨8, _⟩ => ⟨S16384x256, .f32⟩
  | .hbm, ⟨9, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1024x1536, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x256, .f32⟩
  | .local _ .vmem, ⟨8, _⟩ => ⟨S512x256, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev main_v0_7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SplitFwdReferenceIdeal.lean ====
abbrev S16384x1024 : Shape := ⟨2, ![16384, 1024]⟩
abbrev S1024x1536 : Shape := ⟨2, ![1024, 1536]⟩
abbrev S16384x1536 : Shape := ⟨2, ![16384, 1536]⟩
abbrev S16384x128 : Shape := ⟨2, ![16384, 128]⟩
abbrev S16384x256 : Shape := ⟨2, ![16384, 256]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1536, .bf16⟩
  | .hbm, ⟨2, _⟩ => ⟨S1024x1536, .f32⟩
  | .hbm, ⟨3, _⟩ => ⟨S16384x1536, .f32⟩
  | .hbm, ⟨4, _⟩ => ⟨S16384x128, .f32⟩
  | .hbm, ⟨5, _⟩ => ⟨S16384x128, .f32⟩
  | .hbm, ⟨6, _⟩ => ⟨S16384x256, .f32⟩
  | .hbm, ⟨7, _⟩ => ⟨S16384x128, .f32⟩
  | .hbm, ⟨8, _⟩ => ⟨S16384x128, .f32⟩
  | .hbm, ⟨9, _⟩ => ⟨S16384x256, .f32⟩
  | .hbm, ⟨10, _⟩ => ⟨S16384x256, .f32⟩
  | .hbm, ⟨11, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== SplitDx.lean ====
abbrev S16384x128 : Shape := ⟨2, ![16384, 128]⟩
abbrev S16384x256 : Shape := ⟨2, ![16384, 256]⟩
abbrev S1024x1536 : Shape := ⟨2, ![1024, 1536]⟩
abbrev S16384x1024 : Shape := ⟨2, ![16384, 1024]⟩
abbrev S512x128 : Shape := ⟨2, ![512, 128]⟩
abbrev S512x256 : Shape := ⟨2, ![512, 256]⟩
abbrev S512x1024 : Shape := ⟨2, ![512, 1024]⟩
abbrev S512x1536 : Shape := ⟨2, ![512, 1536]⟩

abbrev nBuf : Space → Nat
  | .hbm => 10
  | .vmem => 19
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x256, .f32⟩
  | .hbm, ⟨3, _⟩ => ⟨S16384x128, .f32⟩
  | .hbm, ⟨4, _⟩ => ⟨S16384x128, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S1024x1536, .bf16⟩
  | .hbm, ⟨9, _⟩ => ⟨S16384x1024, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x256, .f32⟩
  | .local _ .vmem, ⟨5, _⟩ => ⟨S512x256, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S1024x1536, .bf16⟩
  | .local _ .vmem, ⟨17, _⟩ => ⟨S512x1024, .f32⟩
  | .local _ .vmem, ⟨18, _⟩ => ⟨S512x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SplitDxReferenceIdeal.lean ====
abbrev S16384x128 : Shape := ⟨2, ![16384, 128]⟩
abbrev S16384x256 : Shape := ⟨2, ![16384, 256]⟩
abbrev S1024x1536 : Shape := ⟨2, ![1024, 1536]⟩
abbrev S16384x1536 : Shape := ⟨2, ![16384, 1536]⟩
abbrev S16384x1024 : Shape := ⟨2, ![16384, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x256, .f32⟩
  | .hbm, ⟨3, _⟩ => ⟨S16384x128, .f32⟩
  | .hbm, ⟨4, _⟩ => ⟨S16384x128, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S1024x1536, .bf16⟩
  | .hbm, ⟨9, _⟩ => ⟨S16384x1536, .f32⟩
  | .hbm, ⟨10, _⟩ => ⟨S1024x1536, .f32⟩
  | .hbm, ⟨11, _⟩ => ⟨S16384x1024, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩

abbrev nD : Nat := 1
abbrev τ : Topo := Topo.v7x

variable {F : FTy → Type} [FloatOps F]
-- ==== SplitDw.lean ====
abbrev S16384x1024 : Shape := ⟨2, ![16384, 1024]⟩
abbrev S16384x128 : Shape := ⟨2, ![16384, 128]⟩
abbrev S16384x256 : Shape := ⟨2, ![16384, 256]⟩
abbrev S1024x1536 : Shape := ⟨2, ![1024, 1536]⟩
abbrev S512x1024 : Shape := ⟨2, ![512, 1024]⟩
abbrev S512x128 : Shape := ⟨2, ![512, 128]⟩
abbrev S512x256 : Shape := ⟨2, ![512, 256]⟩
abbrev S512x1536 : Shape := ⟨2, ![512, 1536]⟩

abbrev nBuf : Space → Nat
  | .hbm => 10
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S16384x128, .f32⟩
  | .hbm, ⟨3, _⟩ => ⟨S16384x256, .f32⟩
  | .hbm, ⟨4, _⟩ => ⟨S16384x128, .f32⟩
  | .hbm, ⟨5, _⟩ => ⟨S16384x128, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S1024x1536, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x256, .f32⟩
  | .local _ .vmem, ⟨7, _⟩ => ⟨S512x256, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S1024x1536, .bf16⟩
  | .local _ .vmem, ⟨19, _⟩ => ⟨S1024x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v28 : BitVec 1 := Scalar.cmpi .eq arg0 c31_i32
  let v29 : BitVec 32 := Scalar.extui v28
  let c0_i32_22 : BitVec 32 := 0#32
  let v30 : BitVec 1 := Scalar.cmpi .ne v29 c0_i32_22
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== SplitDwReferenceIdeal.lean ====
abbrev S16384x1024 : Shape := ⟨2, ![16384, 1024]⟩
abbrev S16384x128 : Shape := ⟨2, ![16384, 128]⟩
abbrev S16384x256 : Shape := ⟨2, ![16384, 256]⟩
abbrev S16384x1536 : Shape := ⟨2, ![16384, 1536]⟩
abbrev S1536x1024 : Shape := ⟨2, ![1536, 1024]⟩
abbrev S1024x1536 : Shape := ⟨2, ![1024, 1536]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S16384x128, .f32⟩
  | .hbm, ⟨3, _⟩ => ⟨S16384x256, .f32⟩
  | .hbm, ⟨4, _⟩ => ⟨S16384x128, .f32⟩
  | .hbm, ⟨5, _⟩ => ⟨S16384x128, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S16384x1536, .f32⟩
  | .hbm, ⟨10, _⟩ => ⟨S1536x1024, .f32⟩
  | .hbm, ⟨11, _⟩ => ⟨S1024x1536, .f32⟩
  | .hbm, ⟨12, _⟩ => ⟨S1024x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩

abbrev nD : Nat := 1
abbrev τ : Topo := Topo.v7x

variable {F : FTy → Type} [FloatOps F]
-- ==== AdamSharded.lean ====
abbrev S4x8480x1024 : Shape := ⟨3, ![4, 8480, 1024]⟩
abbrev S8480x1024 : Shape := ⟨2, ![8480, 1024]⟩
abbrev S4x160x1024 : Shape := ⟨3, ![4, 160, 1024]⟩
abbrev S160x1024 : Shape := ⟨2, ![160, 1024]⟩
abbrev S1x160x1024 : Shape := ⟨3, ![1, 160, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x8480x1024, .bf16⟩
  | .hbm, ⟨1, _⟩ => ⟨S8480x1024, .f32⟩
  | .hbm, ⟨2, _⟩ => ⟨S8480x1024, .f32⟩
  | .hbm, ⟨3, _⟩ => ⟨S8480x1024, .f32⟩
  | .hbm, ⟨4, _⟩ => ⟨S8480x1024, .f32⟩
  | .hbm, ⟨5, _⟩ => ⟨S8480x1024, .f32⟩
  | .hbm, ⟨6, _⟩ => ⟨S8480x1024, .f32⟩
  | .hbm, ⟨7, _⟩ => ⟨S8480x1024, .f32⟩
  | .local _ .vmem, ⟨0, _⟩ => ⟨S4x160x1024, .bf16⟩
  | .local _ .vmem, ⟨1, _⟩ => ⟨S4x160x1024, .bf16⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | .local _ .vmem, ⟨8, _⟩ => ⟨S160x1024, .f32⟩
  | .local _ .vmem, ⟨9, _⟩ => ⟨S160x1024, .f32⟩
  | .local _ .vmem, ⟨10, _⟩ => ⟨S160x1024, .f32⟩
  | .local _ .vmem, ⟨11, _⟩ => ⟨S160x1024, .f32⟩
  | .local _ .vmem, ⟨12, _⟩ => ⟨S160x1024, .f32⟩
  | .local _ .vmem, ⟨13, _⟩ => ⟨S160x1024, .f32⟩
  | .local _ .vmem, ⟨14, _⟩ => ⟨S160x1024, .f32⟩
  | .local _ .vmem, ⟨15, _⟩ => ⟨S160x1024, .f32⟩
  | _, _ => ⟨S4x8480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![53], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamShardedReferenceIdeal.lean ====
abbrev S4x8480x1024 : Shape := ⟨3, ![4, 8480, 1024]⟩
abbrev S8480x1024 : Shape := ⟨2, ![8480, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8480x1024, .bf16⟩
  | .hbm, ⟨1, _⟩ => ⟨S8480x1024, .f32⟩
  | .hbm, ⟨2, _⟩ => ⟨S8480x1024, .f32⟩
  | .hbm, ⟨3, _⟩ => ⟨S8480x1024, .f32⟩
  | .hbm, ⟨4, _⟩ => ⟨S4x8480x1024, .f32⟩
  | .hbm, ⟨5, _⟩ => ⟨S_, .f32⟩
  | .hbm, ⟨6, _⟩ => ⟨S8480x1024, .f32⟩
  | .hbm, ⟨7, _⟩ => ⟨S_, .f32⟩
  | .hbm, ⟨8, _⟩ => ⟨S8480x1024, .f32⟩
  | .hbm, ⟨9, _⟩ => ⟨S8480x1024, .f32⟩
  | .hbm, ⟨10, _⟩ => ⟨S_, .f32⟩
  | .hbm, ⟨11, _⟩ => ⟨S8480x1024, .f32⟩
  | .hbm, ⟨12, _⟩ => ⟨S8480x1024, .f32⟩
  | .hbm, ⟨13, _⟩ => ⟨S8480x1024, .f32⟩
  | .hbm, ⟨14, _⟩ => ⟨S_, .f32⟩
  | .hbm, ⟨15, _⟩ => ⟨S8480x1024, .f32⟩
  | .hbm, ⟨16, _⟩ => ⟨S8480x1024, .f32⟩
  | .hbm, ⟨17, _⟩ => ⟨S8480x1024, .f32⟩
  | .hbm, ⟨18, _⟩ => ⟨S_, .f32⟩
  | .hbm, ⟨19, _⟩ => ⟨S8480x1024, .f32⟩
  | .hbm, ⟨20, _⟩ => ⟨S8480x1024, .f32⟩
  | .hbm, ⟨21, _⟩ => ⟨S8480x1024, .f32⟩
  | .hbm, ⟨22, _⟩ => ⟨S_, .f32⟩
  | .hbm, ⟨23, _⟩ => ⟨S8480x1024, .f32⟩
  | .hbm, ⟨24, _⟩ => ⟨S8480x1024, .f32⟩
  | .hbm, ⟨25, _⟩ => ⟨S_, .f32⟩
  | .hbm, ⟨26, _⟩ => ⟨S8480x1024, .f32⟩
  | .hbm, ⟨27, _⟩ => ⟨S8480x1024, .f32⟩
  | .hbm, ⟨28, _⟩ => ⟨S8480x1024, .f32⟩
  | .hbm, ⟨29, _⟩ => ⟨S_, .f32⟩
  | .hbm, ⟨30, _⟩ => ⟨S8480x1024, .f32⟩
  | .hbm, ⟨31, _⟩ => ⟨S8480x1024, .f32⟩
  | .hbm, ⟨32, _⟩ => ⟨S8480x1024, .f32⟩
  | .hbm, ⟨33, _⟩ => ⟨S_, .f32⟩
  | .hbm, ⟨34, _⟩ => ⟨S8480x1024, .f32⟩
  | .hbm, ⟨35, _⟩ => ⟨S8480x1024, .f32⟩
  | .hbm, ⟨36, _⟩ => ⟨S8480x1024, .f32⟩
  | .hbm, ⟨37, _⟩ => ⟨S_, .f32⟩
  | .hbm, ⟨38, _⟩ => ⟨S8480x1024, .f32⟩
  | .hbm, ⟨39, _⟩ => ⟨S8480x1024, .f32⟩
  | _, _ => ⟨S4x8480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x336x1024 : Shape := ⟨3, ![8, 336, 1024]⟩
abbrev S336x1024 : Shape := ⟨2, ![336, 1024]⟩
abbrev S8x168x1024 : Shape := ⟨3, ![8, 168, 1024]⟩
abbrev S168x1024 : Shape := ⟨2, ![168, 1024]⟩
abbrev S1x168x1024 : Shape := ⟨3, ![1, 168, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x336x1024, .f32⟩
  | .hbm, ⟨1, _⟩ => ⟨S336x1024, .f32⟩
  | .hbm, ⟨2, _⟩ => ⟨S336x1024, .f32⟩
  | .hbm, ⟨3, _⟩ => ⟨S336x1024, .f32⟩
  | .hbm, ⟨4, _⟩ => ⟨S336x1024, .f32⟩
  | .hbm, ⟨5, _⟩ => ⟨S336x1024, .f32⟩
  | .hbm, ⟨6, _⟩ => ⟨S336x1024, .f32⟩
  | .hbm, ⟨7, _⟩ => ⟨S336x1024, .f32⟩
  | .local _ .vmem, ⟨0, _⟩ => ⟨S8x168x1024, .f32⟩
  | .local _ .vmem, ⟨1, _⟩ => ⟨S8x168x1024, .f32⟩
  | .local _ .vmem, ⟨2, _⟩ => ⟨S168x1024, .f32⟩
  | .local _ .vmem, ⟨3, _⟩ => ⟨S168x1024, .f32⟩
  | .local _ .vmem, ⟨4, _⟩ => ⟨S168x1024, .f32⟩
  | .local _ .vmem, ⟨5, _⟩ => ⟨S168x1024, .f32⟩
  | .local _ .vmem, ⟨6, _⟩ => ⟨S168x1024, .f32⟩
  | .local _ .vmem, ⟨7, _⟩ => ⟨S168x1024, .f32⟩
  | .local _ .vmem, ⟨8, _⟩ => ⟨S168x1024, .f32⟩
  | .local _ .vmem, ⟨9, _⟩ => ⟨S168x1024, .f32⟩
  | .local _ .vmem, ⟨10, _⟩ => ⟨S168x1024, .f32⟩
  | .local _ .vmem, ⟨11, _⟩ => ⟨S168x1024, .f32⟩
  | .local _ .vmem, ⟨12, _⟩ => ⟨S168x1024, .f32⟩
  | .local _ .vmem, ⟨13, _⟩ => ⟨S168x1024, .f32⟩
  | .local _ .vmem, ⟨14, _⟩ => ⟨S168x1024, .f32⟩
  | .local _ .vmem, ⟨15, _⟩ => ⟨S168x1024, .f32⟩
  | _, _ => ⟨S8x336x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x168x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S168x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S168x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S168x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S168x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S168x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S168x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S168x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallReferenceIdeal.lean ====
abbrev S8x336x1024 : Shape := ⟨3, ![8, 336, 1024]⟩
abbrev S336x1024 : Shape := ⟨2, ![336, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x336x1024, .f32⟩
  | .hbm, ⟨1, _⟩ => ⟨S336x1024, .f32⟩
  | .hbm, ⟨2, _⟩ => ⟨S336x1024, .f32⟩
  | .hbm, ⟨3, _⟩ => ⟨S336x1024, .f32⟩
  | .hbm, ⟨4, _⟩ => ⟨S_, .f32⟩
  | .hbm, ⟨5, _⟩ => ⟨S336x1024, .f32⟩
  | .hbm, ⟨6, _⟩ => ⟨S_, .f32⟩
  | .hbm, ⟨7, _⟩ => ⟨S336x1024, .f32⟩
  | .hbm, ⟨8, _⟩ => ⟨S336x1024, .f32⟩
  | .hbm, ⟨9, _⟩ => ⟨S_, .f32⟩
  | .hbm, ⟨10, _⟩ => ⟨S336x1024, .f32⟩
  | .hbm, ⟨11, _⟩ => ⟨S336x1024, .f32⟩
  | .hbm, ⟨12, _⟩ => ⟨S336x1024, .f32⟩
  | .hbm, ⟨13, _⟩ => ⟨S_, .f32⟩
  | .hbm, ⟨14, _⟩ => ⟨S336x1024, .f32⟩
  | .hbm, ⟨15, _⟩ => ⟨S336x1024, .f32⟩
  | .hbm, ⟨16, _⟩ => ⟨S336x1024, .f32⟩
  | .hbm, ⟨17, _⟩ => ⟨S_, .f32⟩
  | .hbm, ⟨18, _⟩ => ⟨S336x1024, .f32⟩
  | .hbm, ⟨19, _⟩ => ⟨S336x1024, .f32⟩
  | .hbm, ⟨20, _⟩ => ⟨S336x1024, .f32⟩
  | .hbm, ⟨21, _⟩ => ⟨S_, .f32⟩
  | .hbm, ⟨22, _⟩ => ⟨S336x1024, .f32⟩
  | .hbm, ⟨23, _⟩ => ⟨S336x1024, .f32⟩
  | .hbm, ⟨24, _⟩ => ⟨S_, .f32⟩
  | .hbm, ⟨25, _⟩ => ⟨S336x1024, .f32⟩
  | .hbm, ⟨26, _⟩ => ⟨S336x1024, .f32⟩
  | .hbm, ⟨27, _⟩ => ⟨S336x1024, .f32⟩
  | .hbm, ⟨28, _⟩ => ⟨S_, .f32⟩
  | .hbm, ⟨29, _⟩ => ⟨S336x1024, .f32⟩
  | .hbm, ⟨30, _⟩ => ⟨S336x1024, .f32⟩
  | .hbm, ⟨31, _⟩ => ⟨S336x1024, .f32⟩
  | .hbm, ⟨32, _⟩ => ⟨S_, .f32⟩
  | .hbm, ⟨33, _⟩ => ⟨S336x1024, .f32⟩
  | .hbm, ⟨34, _⟩ => ⟨S336x1024, .f32⟩
  | .hbm, ⟨35, _⟩ => ⟨S336x1024, .f32⟩
  | .hbm, ⟨36, _⟩ => ⟨S_, .f32⟩
  | .hbm, ⟨37, _⟩ => ⟨S336x1024, .f32⟩
  | .hbm, ⟨38, _⟩ => ⟨S336x1024, .f32⟩
  | _, _ => ⟨S8x336x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== FfnAct.lean ====
abbrev S16384x5632 : Shape := ⟨2, ![16384, 5632]⟩
abbrev S16384x2816 : Shape := ⟨2, ![16384, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S16384x5632, .bf16⟩
  | .hbm, ⟨1, _⟩ => ⟨S16384x2816, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== FfnActReferenceIdeal.lean ====
abbrev S16384x5632 : Shape := ⟨2, ![16384, 5632]⟩
abbrev S16384x2816 : Shape := ⟨2, ![16384, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S16384x5632, .f32⟩
  | .hbm, ⟨2, _⟩ => ⟨S16384x2816, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== FfnActBwd.lean ====
abbrev S16384x5632 : Shape := ⟨2, ![16384, 5632]⟩
abbrev S16384x2816 : Shape := ⟨2, ![16384, 2816]⟩
abbrev S128x5632 : Shape := ⟨2, ![128, 5632]⟩
abbrev S128x2816 : Shape := ⟨2, ![128, 2816]⟩

abbrev nBuf : Space → Nat
  | .hbm => 3
  | .vmem => 6
  | .smem => 0
  | _ => 0

abbrev bufTy : (tb : Table) → Fin (tcTables nBuf tb) → BufTy
  | .hbm, ⟨0, _⟩ => ⟨S16384x5632, .bf16⟩
  | .hbm, ⟨1, _⟩ => ⟨S16384x2816, .bf16⟩
  | .hbm, ⟨2, _⟩ => ⟨S16384x5632, .bf16⟩
  | .local _ .vmem, ⟨0, _⟩ => ⟨S128x5632, .bf16⟩
  | .local _ .vmem, ⟨1, _⟩ => ⟨S128x5632, .bf16⟩
  | .local _ .vmem, ⟨2, _⟩ => ⟨S128x2816, .bf16⟩
  | .local _ .vmem, ⟨3, _⟩ => ⟨S128x2816, .bf16⟩
  | .local _ .vmem, ⟨4, _⟩ => ⟨S128x5632, .bf16⟩
  | .local _ .vmem, ⟨5, _⟩ => ⟨S128x5632, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnActBwdReferenceIdeal.lean ====
abbrev S16384x5632 : Shape := ⟨2, ![16384, 5632]⟩
abbrev S16384x2816 : Shape := ⟨2, ![16384, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S16384x2816, .bf16⟩
  | .hbm, ⟨2, _⟩ => ⟨S16384x5632, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x5632, .f32⟩
  | .hbm, ⟨27, _⟩ => ⟨S16384x5632, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== GluAct.lean ====
abbrev S16384x512 : Shape := ⟨2, ![16384, 512]⟩
abbrev S16384x256 : Shape := ⟨2, ![16384, 256]⟩
abbrev S1024x512 : Shape := ⟨2, ![1024, 512]⟩
abbrev S1024x256 : Shape := ⟨2, ![1024, 256]⟩

abbrev nBuf : Space → Nat
  | .hbm => 2
  | .vmem => 4
  | .smem => 0
  | _ => 0

abbrev bufTy : (tb : Table) → Fin (tcTables nBuf tb) → BufTy
  | .hbm, ⟨0, _⟩ => ⟨S16384x512, .f32⟩
  | .hbm, ⟨1, _⟩ => ⟨S16384x256, .f32⟩
  | .local _ .vmem, ⟨0, _⟩ => ⟨S1024x512, .f32⟩
  | .local _ .vmem, ⟨1, _⟩ => ⟨S1024x512, .f32⟩
  | .local _ .vmem, ⟨2, _⟩ => ⟨S1024x256, .f32⟩
  | .local _ .vmem, ⟨3, _⟩ => ⟨S1024x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GluActReferenceIdeal.lean ====
abbrev S16384x512 : Shape := ⟨2, ![16384, 512]⟩
abbrev S16384x256 : Shape := ⟨2, ![16384, 256]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384x256, .f32⟩
  | .hbm, ⟨7, _⟩ => ⟨S16384x256, .f32⟩
  | .hbm, ⟨8, _⟩ => ⟨S_, .f32⟩
  | .hbm, ⟨9, _⟩ => ⟨S16384x256, .f32⟩
  | .hbm, ⟨10, _⟩ => ⟨S16384x256, .f32⟩
  | .hbm, ⟨11, _⟩ => ⟨S16384x256, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GluActBwd.lean ====
abbrev S16384x512 : Shape := ⟨2, ![16384, 512]⟩
abbrev S16384x256 : Shape := ⟨2, ![16384, 256]⟩
abbrev S1024x512 : Shape := ⟨2, ![1024, 512]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x256, .f32⟩
  | .hbm, ⟨2, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x256, .f32⟩
  | .local _ .vmem, ⟨3, _⟩ => ⟨S1024x256, .f32⟩
  | .local _ .vmem, ⟨4, _⟩ => ⟨S1024x512, .f32⟩
  | .local _ .vmem, ⟨5, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluActBwdReferenceIdeal.lean ====
abbrev S16384x512 : Shape := ⟨2, ![16384, 512]⟩
abbrev S16384x256 : Shape := ⟨2, ![16384, 256]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S_, .f32⟩
  | .hbm, ⟨7, _⟩ => ⟨S16384x256, .f32⟩
  | .hbm, ⟨8, _⟩ => ⟨S16384x256, .f32⟩
  | .hbm, ⟨9, _⟩ => ⟨S_, .f32⟩
  | .hbm, ⟨10, _⟩ => ⟨S16384x256, .f32⟩
  | .hbm, ⟨11, _⟩ => ⟨S16384x256, .f32⟩
  | .hbm, ⟨12, _⟩ => ⟨S_, .f32⟩
  | .hbm, ⟨13, _⟩ => ⟨S16384x256, .f32⟩
  | .hbm, ⟨14, _⟩ => ⟨S16384x256, .f32⟩
  | .hbm, ⟨15, _⟩ => ⟨S16384x256, .f32⟩
  | .hbm, ⟨16, _⟩ => ⟨S16384x256, .f32⟩
  | .hbm, ⟨17, _⟩ => ⟨S16384x256, .f32⟩
  | .hbm, ⟨18, _⟩ => ⟨S16384x256, .f32⟩
  | .hbm, ⟨19, _⟩ => ⟨S16384x256, .f32⟩
  | .hbm, ⟨20, _⟩ => ⟨S_, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Merge.lean ====
abbrev S16384x4096 : Shape := ⟨2, ![16384, 4096]⟩
abbrev S16384x1024 : Shape := ⟨2, ![16384, 1024]⟩
abbrev S256x4096 : Shape := ⟨2, ![256, 4096]⟩
abbrev S256x1024 : Shape := ⟨2, ![256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .f32⟩
  | .local _ .vmem, ⟨0, _⟩ => ⟨S256x4096, .bf16⟩
  | .local _ .vmem, ⟨1, _⟩ => ⟨S256x4096, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MergeReferenceIdeal.lean ====
abbrev S16384x4096 : Shape := ⟨2, ![16384, 4096]⟩
abbrev S16384x1024 : Shape := ⟨2, ![16384, 1024]⟩
abbrev S16384x4x1024 : Shape := ⟨3, ![16384, 4, 1024]⟩
abbrev S_ : Shape := ⟨0, ![]⟩
abbrev S16384x1x1024 : Shape := ⟨3, ![16384, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x4096, .f32⟩
  | .hbm, ⟨6, _⟩ => ⟨S16384x4x1024, .f32⟩
  | .hbm, ⟨7, _⟩ => ⟨S16384x4x1024, .f32⟩
  | .hbm, ⟨8, _⟩ => ⟨S16384x4x1024, .f32⟩
  | .hbm, ⟨9, _⟩ => ⟨S_, .f32⟩
  | .hbm, ⟨10, _⟩ => ⟨S16384x4x1024, .f32⟩
  | .hbm, ⟨11, _⟩ => ⟨S16384x4x1024, .f32⟩
  | .hbm, ⟨12, _⟩ => ⟨S_, .f32⟩
  | .hbm, ⟨13, _⟩ => ⟨S16384x4x1024, .f32⟩
  | .hbm, ⟨14, _⟩ => ⟨S16384x4x1024, .f32⟩
  | .hbm, ⟨15, _⟩ => ⟨S16384x1x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== MergeBwd.lean ====
abbrev S16384x4096 : Shape := ⟨2, ![16384, 4096]⟩
abbrev S16384x1024 : Shape := ⟨2, ![16384, 1024]⟩
abbrev S128x4096 : Shape := ⟨2, ![128, 4096]⟩
abbrev S128x1024 : Shape := ⟨2, ![128, 1024]⟩
abbrev S128x3072 : Shape := ⟨2, ![128, 3072]⟩
abbrev S128x2048 : Shape := ⟨2, ![128, 2048]⟩

abbrev nBuf : Space → Nat
  | .hbm => 11
  | .vmem => 22
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .f32⟩
  | .hbm, ⟨6, _⟩ => ⟨S16384x4096, .bf16⟩
  | .hbm, ⟨7, _⟩ => ⟨S16384x1024, .bf16⟩
  | .hbm, ⟨8, _⟩ => ⟨S16384x1024, .bf16⟩
  | .hbm, ⟨9, _⟩ => ⟨S16384x1024, .bf16⟩
  | .hbm, ⟨10, _⟩ => ⟨S16384x1024, .bf16⟩
  | .local _ .vmem, ⟨0, _⟩ => ⟨S128x4096, .bf16⟩
  | .local _ .vmem, ⟨1, _⟩ => ⟨S128x4096, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S128x4096, .bf16⟩
  | .local _ .vmem, ⟨13, _⟩ => ⟨S128x4096, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeBwdReferenceIdeal.lean ====
abbrev S16384x4096 : Shape := ⟨2, ![16384, 4096]⟩
abbrev S16384x1024 : Shape := ⟨2, ![16384, 1024]⟩
abbrev S16384x4x1024 : Shape := ⟨3, ![16384, 4, 1024]⟩
abbrev S_ : Shape := ⟨0, ![]⟩
abbrev S16384x1x1024 : Shape := ⟨3, ![16384, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .f32⟩
  | .hbm, ⟨6, _⟩ => ⟨S16384x4096, .f32⟩
  | .hbm, ⟨7, _⟩ => ⟨S16384x4x1024, .f32⟩
  | .hbm, ⟨8, _⟩ => ⟨S16384x4x1024, .f32⟩
  | .hbm, ⟨9, _⟩ => ⟨S16384x4x1024, .f32⟩
  | .hbm, ⟨10, _⟩ => ⟨S_, .f32⟩
  | .hbm, ⟨11, _⟩ => ⟨S16384x4x1024, .f32⟩
  | .hbm, ⟨12, _⟩ => ⟨S16384x4x1024, .f32⟩
  | .hbm, ⟨13, _⟩ => ⟨S_, .f32⟩
  | .hbm, ⟨14, _⟩ => ⟨S16384x4x1024, .f32⟩
  | .hbm, ⟨15, _⟩ => ⟨S16384x4x1024, .f32⟩
  | .hbm, ⟨16, _⟩ => ⟨S_, .f32⟩
  | .hbm, ⟨17, _⟩ => ⟨S16384x4x1024, .f32⟩
  | .hbm, ⟨18, _⟩ => ⟨S16384x4x1024, .f32⟩
  | .hbm, ⟨19, _⟩ => ⟨S16384x4x1024, .f32⟩
  | .hbm, ⟨20, _⟩ => ⟨S16384x1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .bf16⟩
  | .hbm, ⟨44, _⟩ => ⟨S16384x1x1024, .f32⟩
  | .hbm, ⟨45, _⟩ => ⟨S_, .f32⟩
  | .hbm, ⟨46, _⟩ => ⟨S16384x4x1024, .f32⟩
  | .hbm, ⟨47, _⟩ => ⟨S16384x1024, .f32⟩
  | .hbm, ⟨48, _⟩ => ⟨S16384x1024, .f32⟩
  | .hbm, ⟨49, _⟩ => ⟨S16384x1024, .bf16⟩
  | .hbm, ⟨50, _⟩ => ⟨S16384x1x1024, .f32⟩
  | .hbm, ⟨51, _⟩ => ⟨S_, .f32⟩
  | .hbm, ⟨52, _⟩ => ⟨S16384x4x1024, .f32⟩
  | .hbm, ⟨53, _⟩ => ⟨S16384x4x1024, .f32⟩
  | .hbm, ⟨54, _⟩ => ⟨S16384x1024, .f32⟩
  | .hbm, ⟨55, _⟩ => ⟨S16384x1024, .f32⟩
  | .hbm, ⟨56, _⟩ => ⟨S16384x1024, .bf16⟩
  | .hbm, ⟨57, _⟩ => ⟨S16384x1x1024, .f32⟩
  | .hbm, ⟨58, _⟩ => ⟨S_, .f32⟩
  | .hbm, ⟨59, _⟩ => ⟨S16384x4x1024, .f32⟩
  | .hbm, ⟨60, _⟩ => ⟨S16384x4x1024, .f32⟩
  | .hbm, ⟨61, _⟩ => ⟨S16384x1024, .f32⟩
  | .hbm, ⟨62, _⟩ => ⟨S16384x1024, .f32⟩
  | .hbm, ⟨63, _⟩ => ⟨S16384x1024, .bf16⟩
  | .hbm, ⟨64, _⟩ => ⟨S16384x1x1024, .f32⟩
  | .hbm, ⟨65, _⟩ => ⟨S_, .f32⟩
  | .hbm, ⟨66, _⟩ => ⟨S16384x4x1024, .f32⟩
  | .hbm, ⟨67, _⟩ => ⟨S16384x4x1024, .f32⟩
  | .hbm, ⟨68, _⟩ => ⟨S16384x4x1024, .f32⟩
  | .hbm, ⟨69, _⟩ => ⟨S16384x4096, .f32⟩
  | .hbm, ⟨70, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== FfnNorm.lean ====
abbrev S16384x1024 : Shape := ⟨2, ![16384, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnNormReferenceIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== NormMod.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModReferenceIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== FfnResid.lean ====
abbrev S16384x1024 : Shape := ⟨2, ![16384, 1024]⟩
abbrev S1x1024 : Shape := ⟨2, ![1, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnResidReferenceIdeal.lean ====
abbrev S16384x1024 : Shape := ⟨2, ![16384, 1024]⟩
abbrev S1x1024 : Shape := ⟨2, ![1, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== ResidFull.lean ====
abbrev S16384x1024 : Shape := ⟨2, ![16384, 1024]⟩
abbrev S1x1024 : Shape := ⟨2, ![1, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidFullReferenceIdeal.lean ====
abbrev S16384x1024 : Shape := ⟨2, ![16384, 1024]⟩
abbrev S1x1024 : Shape := ⟨2, ![1, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PoolScale.lean ====
abbrev S16384x256 : Shape := ⟨2, ![16384, 256]⟩
abbrev S1x256 : Shape := ⟨2, ![1, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S1x256, .f32⟩
  | .hbm, ⟨2, _⟩ => ⟨S16384x256, .f32⟩
  | .local _ .vmem, ⟨0, _⟩ => ⟨S1024x256, .f32⟩
  | .local _ .vmem, ⟨1, _⟩ => ⟨S1024x256, .f32⟩
  | .local _ .vmem, ⟨2, _⟩ => ⟨S1x256, .f32⟩
  | .local _ .vmem, ⟨3, _⟩ => ⟨S1024x256, .f32⟩
  | .local _ .vmem, ⟨4, _⟩ => ⟨S1024x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolScaleReferenceIdeal.lean ====
abbrev S16384x256 : Shape := ⟨2, ![16384, 256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1x256, .f32⟩
  | .hbm, ⟨2, _⟩ => ⟨S16384x256, .f32⟩
  | .hbm, ⟨3, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== LossRows.lean ====
abbrev S16384x1024 : Shape := ⟨2, ![16384, 1024]⟩
abbrev S1x1024 : Shape := ⟨2, ![1, 1024]⟩
abbrev S16384x1 : Shape := ⟨2, ![16384, 1]⟩
abbrev S512x1024 : Shape := ⟨2, ![512, 1024]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1, .f32⟩
  | .local _ .vmem, ⟨6, _⟩ => ⟨S512x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRowsReferenceIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Mm.lean ====
/- Matrix products computed block by block: what a running sum over the blocks of the contracted axis amounts to. -/
module

public import Idealize.ShloMosaic.Lib.Pointwise
public import Idealize.ShloMosaic.Lib.Pointwise.Sums

@[expose] public section

noncomputable section

namespace Cert.Mm

open Idealize.ShloMosaic

/-- A matrix of extended reals. -/
abbrev Mat (p q : ℕ) : Type := (⟨2, ![p, q]⟩ : Shape).Idx → EReal

/-- The entry in row `i` and column `j`, zero outside the matrix. -/
def ent {p q : ℕ} (x : Mat p q) (i j : ℕ) : EReal := if h : i < p ∧ j < q then x (ix2 ⟨i, h.1⟩ ⟨j, h.2⟩) else 0

theorem ent_ix {p q : ℕ} (x : Mat p q) (i : Fin p) (j : Fin q) : ent x i.val j.val = x (ix2 i j) :=
  dif_pos ⟨i.isLt, j.isLt⟩

theorem ix_ent {p q : ℕ} (x : Mat p q) (y : (⟨2, ![p, q]⟩ : Shape).Idx) (i j : ℕ) (hi : (y 0).val = i) (hj : (y 1).val = j) :
    x y = ent x i j := by
  subst hi hj
  refine Eq.trans (congrArg x ?_) (ent_ix x (y 0) (y 1)).symm
  funext a
  match a with
  | ⟨0, _⟩ => rfl
  | ⟨1, _⟩ => rfl

theorem ix_eq {p q : ℕ} (y : (⟨2, ![p, q]⟩ : Shape).Idx) : y = ix2 (y 0) (y 1) := by
  funext a
  match a with
  | ⟨0, _⟩ => rfl
  | ⟨1, _⟩ => rfl

/-- The terms of the entry in row `I` and column `J` of the product of `x` and `w`. -/
def nn {p q r s : ℕ} (x : Mat p q) (w : Mat r s) (I J k : ℕ) : EReal := ent x I k * ent w k J
/-- The same of `x` and `w` transposed. -/
def nt {p q r s : ℕ} (x : Mat p q) (w : Mat r s) (I J k : ℕ) : EReal := ent x I k * ent w J k
/-- The same of `x` transposed and `w`. -/
def tn {p q r s : ℕ} (x : Mat p q) (w : Mat r s) (I J k : ℕ) : EReal := ent x k I * ent w k J

theorem nn_ix {p q s : ℕ} (x : Mat p q) (w : Mat q s) (i : Fin p) (j : Fin s) (k : Fin q) :
    nn x w i.val j.val k.val = x (ix2 i k) * w (ix2 k j) := congrArg₂ (· * ·) (ent_ix x i k) (ent_ix w k j)
theorem nt_ix {p q s : ℕ} (x : Mat p q) (w : Mat s q) (i : Fin p) (j : Fin s) (k : Fin q) :
    nt x w i.val j.val k.val = x (ix2 i k) * w (ix2 j k) := congrArg₂ (· * ·) (ent_ix x i k) (ent_ix w j k)
theorem tn_ix {p q s : ℕ} (x : Mat q p) (w : Mat q s) (i : Fin p) (j : Fin s) (k : Fin q) :
    tn x w i.val j.val k.val = x (ix2 k i) * w (ix2 k j) := congrArg₂ (· * ·) (ent_ix x k i) (ent_ix w k j)

/-- The part of a sum over the contracted axis that comes from its block `r`, of length `b`. -/
def part (f : ℕ → EReal) (b r : ℕ) : EReal := ∑ k : Fin b, f (b * r + k.val)

theorem congrArg₃ {α β γ δ : Type*} (f : α → β → γ → δ) {a a' : α} {b b' : β} {c c' : γ} (h₁ : a = a') (h₂ : b = b') (h₃ : c = c') :
    f a b c = f a' b' c' := by
  subst h₁ h₂ h₃
  rfl

/-- A sum over the whole contracted axis is the sum of its blocks' parts. -/
theorem sum_parts {N : ℕ} (nk b : ℕ) (h : nk * b = N) (f : ℕ → EReal) :
    ∑ r ∈ Finset.range nk, part f b r = ∑ k : Fin N, f k.val := by
  rw [Fin.sum_univ_tiles nk b h (fun k : Fin N => f k.val), Finset.sum_range]
  exact Finset.sum_congr rfl fun r _ => Finset.sum_congr rfl fun k _ => congrArg f (by rw [Nat.mul_comm])

/-- A running sum that restarts at every multiple of `nk`: what it holds after each point. -/
theorem running {N : ℕ} (nk : ℕ) (hk : 0 < nk) (f : (n : ℕ) → n < N → EReal) (D : ℕ → ℕ → EReal)
    (h0 : ∀ (n : ℕ) (h : n < N), n % nk = 0 → f n h = D (n / nk) 0)
    (h1 : ∀ (n : ℕ) (h : n < N), n % nk ≠ 0 → f n h = f (n - 1) (lt_of_le_of_lt (Nat.sub_le _ _) h) + D (n / nk) (n % nk))
    (n : ℕ) (h : n < N) : f n h = ∑ r ∈ Finset.range (n % nk + 1), D (n / nk) r := by
  induction n with
  | zero =>
    rw [h0 0 h (Nat.zero_mod _), Nat.zero_mod]
    exact (Finset.sum_range_one _).symm
  | succ n ih =>
    by_cases hz : (n + 1) % nk = 0
    · rw [h0 _ h hz, hz]
      exact (Finset.sum_range_one _).symm
    · have hm : n % nk + 1 = (n + 1) % nk ∧ (n + 1) / nk = n / nk := by
        have e := Nat.div_add_mod (n + 1) nk
        have hl := Nat.mod_lt (n + 1) hk
        have hn : n = ((n + 1) % nk - 1) + nk * ((n + 1) / nk) := by omega
        have hs : (n + 1) % nk - 1 < nk := lt_of_le_of_lt (Nat.sub_le _ _) hl
        have a : n / nk = (n + 1) / nk := by
          refine (congrArg (· / nk) hn).trans ?_
          show ((n + 1) % nk - 1 + nk * ((n + 1) / nk)) / nk = _
          rw [Nat.add_mul_div_left _ _ hk, Nat.div_eq_of_lt hs, Nat.zero_add]
        have b : n % nk = (n + 1) % nk - 1 := by
          refine (congrArg (· % nk) hn).trans ?_
          show ((n + 1) % nk - 1 + nk * ((n + 1) / nk)) % nk = _
          rw [Nat.add_mul_mod_self_left, Nat.mod_eq_of_lt hs]
        exact ⟨by omega, a.symm⟩
      have e := h1 _ h hz
      rw [e, Finset.sum_range_succ, ← hm.1, hm.2]
      exact congrArg (· + D (n / nk) (n % nk + 1)) (ih _)

/-- The product of `x` and `w`. -/
def prodNN {p q s : ℕ} (x : Mat p q) (w : Mat q s) : Mat p s := fun y => ∑ k : Fin q, nn x w (y 0).val (y 1).val k.val
/-- The product of `x` and `w` transposed. -/
def prodNT {p q s : ℕ} (x : Mat p q) (w : Mat s q) : Mat p s := fun y => ∑ k : Fin q, nt x w (y 0).val (y 1).val k.val
/-- The product of `x` transposed and `w`. -/
def prodTN {p q s : ℕ} (x : Mat q p) (w : Mat q s) : Mat p s := fun y => ∑ k : Fin q, tn x w (y 0).val (y 1).val k.val

/-- The sum of two matrices. -/
def plus {p q : ℕ} (x y : Mat p q) : Mat p q := fun i => x i + y i

theorem prodNN_at {p q s : ℕ} (x : Mat p q) (w : Mat q s) (i : Fin p) (j : Fin s) :
    prodNN x w (ix2 i j) = ∑ k : Fin q, x (ix2 i k) * w (ix2 k j) := Finset.sum_congr rfl fun k _ => nn_ix x w i j k
theorem prodNT_at {p q s : ℕ} (x : Mat p q) (w : Mat s q) (i : Fin p) (j : Fin s) :
    prodNT x w (ix2 i j) = ∑ k : Fin q, x (ix2 i k) * w (ix2 j k) := Finset.sum_congr rfl fun k _ => nt_ix x w i j k
/-- Its entries, with each term's factors the other way round. -/
theorem prodTN_at {p q s : ℕ} (x : Mat q p) (w : Mat q s) (i : Fin p) (j : Fin s) :
    prodTN x w (ix2 i j) = ∑ k : Fin q, w (ix2 k j) * x (ix2 k i) :=
  Finset.sum_congr rfl fun k _ => (tn_ix x w i j k).trans (mul_comm _ _)

/-- Two matrices with the same entries are equal. -/
theorem mat_ext {p q : ℕ} {x y : Mat p q} (h : ∀ i j, x (ix2 i j) = y (ix2 i j)) : x = y := by
  funext i
  rw [ix_eq i]
  exact h _ _

/-- An accumulator that a block's first point sets to the first part of a sum and to which every later point adds the next part:
    at the block's last point it holds the whole sum. `g I J` are the terms of the entry in row `I` and column `J`; the `q`-th block
    of entries begins in row `R q` and column `C q`. -/
theorem held {N a b : ℕ} (nk t K : ℕ) (hk : 0 < nk) (hK : nk * t = K) (S : (n : ℕ) → n < N → Mat a b) (g : ℕ → ℕ → ℕ → EReal) (R C : ℕ → ℕ)
    (h0 : ∀ (n : ℕ) (h : n < N), n % nk = 0 → ∀ i j, S n h (ix2 i j) = part (g (R (n / nk) + i.val) (C (n / nk) + j.val)) t (n % nk))
    (h1 : ∀ (n : ℕ) (h : n < N), n % nk ≠ 0 → ∀ i j, S n h (ix2 i j)
      = S (n - 1) (lt_of_le_of_lt (Nat.sub_le _ _) h) (ix2 i j) + part (g (R (n / nk) + i.val) (C (n / nk) + j.val)) t (n % nk))
    (n : ℕ) (h : n < N) (e : n % nk = nk - 1) (i : Fin a) (j : Fin b) :
    S n h (ix2 i j) = ∑ k : Fin K, g (R (n / nk) + i.val) (C (n / nk) + j.val) k.val := by
  have key := running nk hk (fun n h => S n h (ix2 i j)) (fun q r => part (g (R q + i.val) (C q + j.val)) t r)
    (fun n h e => (h0 n h e i j).trans (congrArg (part _ t) e)) (fun n h e => h1 n h e i j) n h
  rw [e, Nat.sub_add_cancel hk] at key
  exact key.trans (sum_parts nk t hK _)

end Cert.Mm
end
-- ==== Proof.FfnUp.lean ====
/- The feed-forward layer's first product: what the kernel computes block by block, and that the reference computes the same. -/
module

public import proofs.«01_k».proof.Proof.Mm
public import proofs.«01_k».proof.Defs
public import proofs.«01_k».proof.Proof.Gen.FfnUpIdeal
public import proofs.«01_k».proof.Proof.Gen.FfnUpIdeal.Frame
public import proofs.«01_k».proof.Proof.Gen.FfnUpReferenceIdeal
public import proofs.«01_k».proof.Proof.Gen.FfnUpReferenceIdeal.Run
public import Idealize.ShloMosaic.Lib.Pipeline.ValueKit
public import Idealize.ShloMosaic.Adequacy
public import Idealize.ShloMosaic.Init

@[expose] public section

noncomputable section

namespace Cert.FfnUpIdeal.Mm

open Cert.FfnUpIdeal Cert.FfnUpIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x1024 .bf16) (h3 : a3.IsWhole) (a4 : Memref sig .tc .vmem S1024x1408 .bf16) (h4 : a4.IsWhole) (a5 : Memref sig .tc .vmem S1024x1408 .bf16) (h5 : a5.IsWhole) (a6 : Memref sig .tc .vmem S1024x1408 .f32) (h6 : a6.IsWhole)
  (x : Vec Ideal S1024x1024 .bf16) (y : Vec Ideal S1024x1408 .bf16) (s : Vec Ideal S1024x1408 .f32)

theorem out (hc0 : cond0_0 i) (hc1 : cond0_1 i) :
    out0_A_2 c i a3 h3 a4 h4 a5 h5 a6 h6 hc0 hc1 x y = k0_pay3 (k0_pay2 x y (k0_pay1 (F := Ideal))) := by
  unfold out0_A_2
  rw [View.read_writes_eq_canon _ _ _ (cover0_A_2 c i a3 h3 a4 h4 a5 h5 a6 h6 hc0 hc1 x y)]
  unfold kernelRun0_A
  dsimp only
  sl_unfold_words
  simp only [View.canon_unit_zero (S := S1024x1408) offset_zero, View.readCov_unit_zero (S := S1024x1408) _ offset_zero,
    View.readAt_eq_ld, h3.read_unread, h4.read_unread, View.ld_unit_zero (S := S1024x1024) offset_zero, View.ld_unit_zero (S := S1024x1408) offset_zero, shapeCast_self]
  exact congrArg k0_pay3 (View.readCov_cons_unit_lit' (S := S1024x1408) a6.view _ _ _ _ (congrFun offset_zero) (congrFun offset_zero))

end Cases

theorem pay1_at (i : Fin 1024) (j : Fin 1408) : k0_pay1 (F := Ideal) (ix2 i j) = 0 := by
  pointwise [k0_pay1]

theorem pay2_at (x : Vec Ideal S1024x1024 .bf16) (y : Vec Ideal S1024x1408 .bf16) (s : Vec Ideal S1024x1408 .f32) (i : Fin 1024) (j : Fin 1408) :
    k0_pay2 (F := Ideal) x y s (ix2 i j) = s (ix2 i j) + ∑ k : Fin 1024, x (ix2 i k) * y (ix2 k j) := by
  pointwise [k0_pay2]

theorem pay3_at (s : Vec Ideal S1024x1408 .f32) (i : Fin 1024) (j : Fin 1408) : k0_pay3 (F := Ideal) s (ix2 i j) = s (ix2 i j) := by
  pointwise [k0_pay3]

/-! ## Where the blocks lie in their arrays -/

theorem index_0 : ∀ t : Fin cfg0.N, win0_0.index t = ![t.val / 4, 0] := (by decide +kernel : ∀ t : Fin grid0.N, _)
theorem index_1 : ∀ t : Fin cfg0.N, win0_1.index t = ![0, t.val % 4] := (by decide +kernel : ∀ t : Fin grid0.N, _)
theorem index_2 : ∀ t : Fin cfg0.N, win0_2.index t = ![t.val / 4, t.val % 4] := (by decide +kernel : ∀ t : Fin grid0.N, _)
theorem lt_N (t : Fin cfg0.N) : t.val < 64 := t.isLt

variable (m : (ℓ : Loc nD τ sig) → Buf (Elt Ideal) ℓ) (c : Dev nD)

abbrev lhs : Mat 16384 1024 := m ((c.tc : Thread nD τ).loc main_arg0)
abbrev rhs : Mat 1024 5632 := m ((c.tc : Thread nD τ).loc main_arg1)

theorem blk_0 (t : Fin cfg0.N) (i : Fin 1024) (k : Fin 1024) :
    iblk m c 0 t (ix2 i k) = ent (lhs m c) (1024 * (t.val / 4) + i.val) (0 + k.val) := by
  blk_simp [iblk]
  refine ix_ent (lhs m c) _ _ _ ?_ ?_
  all_goals simp [index_0, Nat.mul_comm]

theorem blk_1 (t : Fin cfg0.N) (i : Fin 1024) (k : Fin 1408) :
    iblk m c 1 t (ix2 i k) = ent (rhs m c) (0 + i.val) (1408 * (t.val % 4) + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x1024 .bf16) (y : Vec Ideal S1024x1408 .bf16) (hx : x = iblk m c 0 t) (hy : y = iblk m c 1 t)
    (i : Fin 1024) (j : Fin 1408) :
    ∑ k : Fin 1024, x (ix2 i k) * y (ix2 k j)
      = part (nn (lhs m c) (rhs m c) (1024 * (t.val / 4) + i.val) (1408 * (t.val % 4) + j.val)) 1024 (0) := by
  refine Finset.sum_congr rfl fun k _ => ?_
  rw [hx, hy, blk_0, blk_1]
  simp only [Nat.mul_zero, Nat.zero_add]
  rfl

/-- The result's block after its point. -/
theorem block (t : Fin cfg0.N) (i : Fin 1024) (j : Fin 1408) :
    outsAt0 m c t (ix2 i j) = ∑ k : Fin 1024, nn (lhs m c) (rhs m c) (1024 * (t.val / 4) + i.val) (1408 * (t.val % 4) + j.val) k.val := by
  unfold outsAt0
  rw [out, pay3_at, pay2_at, pay1_at, zero_add]
  refine (part_eq m c t _ _ rfl rfl i j).trans (Eq.trans ?_ (sum_parts 1 1024 rfl _))
  rw [Finset.sum_range_one]

theorem emb_out (t : Fin cfg0.N) (i : Fin 1024) (j : Fin 1408) :
    ((win0_2.blk t).view.emb (ix2 i j) 0).val = 1024 * (t.val / 4) + i.val ∧ ((win0_2.blk t).view.emb (ix2 i j) 1).val = 1408 * (t.val % 4) + j.val := by
  constructor
  all_goals blk_simp []
  all_goals simp [index_2, Nat.mul_comm]

/-- The result array after the last point. -/
theorem out_arr : (dats m 0 c).arrAt 2 cfg0.N = prodNN (lhs m c) (rhs m c) := by
  refine (dats m 0 c).arrAt_eq_of_covers 2 (prodNN (lhs m c) (rhs m c)) (by decide +kernel) fun t hf y => ?_
  blk_simp
  obtain ⟨i, j, rfl⟩ : ∃ (i : Fin 1024) (j : Fin 1408), y = ix2 i j := ⟨y 0, y 1, ix_eq y⟩
  rw [after0_2]
  obtain ⟨e0, e1⟩ := emb_out t i j
  refine (block m c t i j).trans ?_
  unfold prodNN
  rw [e0, e1]

end Cert.FfnUpIdeal.Mm

namespace Cert.FfnUpReferenceIdeal.Mm

open Cert.FfnUpReferenceIdeal Cert.FfnUpReferenceIdeal.Gen Cert.Mm
open Idealize.ShloMosaic Idealize.ShloMosaic.TcCoe Idealize.ShloMosaic.Tactic Idealize.SL.Sem

/-- The reference's result, as it computes it. -/
abbrev result (x : FVec Ideal S16384x1024 .bf16) (w : FVec Ideal S1024x5632 .bf16) : FVec Ideal S16384x5632 .bf16 :=
  truncf .bf16 (Host.dotGeneral dot_S16384x1024_S1024x5632_S16384x5632_1_0_0_1_n_n none (extf .f32 x bitsLt_bf16_f32) (extf .f32 w bitsLt_bf16_f32)) bitsLt_bf16_f32

theorem result_at (x : FVec Ideal S16384x1024 .bf16) (w : FVec Ideal S1024x5632 .bf16) (i : Fin 16384) (j : Fin 5632) :
    result x w (ix2 i j) = (∑ k : Fin 1024, x (ix2 i k) * w (ix2 k j)) := by
  pointwise [result]

theorem result_eq (x : FVec Ideal S16384x1024 .bf16) (w : FVec Ideal S1024x5632 .bf16) : result x w = prodNN x w :=
  mat_ext fun i j => (result_at x w i j).trans (prodNN_at x w i j).symm

/-- The reference ends with its arguments unchanged and no semaphore raised. -/
theorem frame : Cert.quiescent_FfnUpReferenceIdeal (hFfnUpReferenceIdeal := Cert.FfnUpReferenceIdeal.Gen.facts) := fun m ρ _ =>
  (θ_run Cert.FfnUpReferenceIdeal.defs _ _).mono (fun r h => ⟨fun c => (h c).2, sem_eq_zero_of_no_sems (by decide) r.2⟩) (Cert.FfnUpReferenceIdeal.Value.run (F := Ideal) m ρ)

/-- Kernel and reference end with the same product and unchanged arguments. -/
theorem algebraic : Cert.algebraic_FfnUpIdeal_FfnUpReferenceIdeal (hFfnUpIdeal := Cert.FfnUpIdeal.Gen.facts) (hFfnUpReferenceIdeal := Cert.FfnUpReferenceIdeal.Gen.facts) := by
  intro m g m' g' _ ha
  refine ⟨fun c => prodNN (Cert.FfnUpIdeal.Mm.lhs m c) (Cert.FfnUpIdeal.Mm.rhs m c), ?_, ?_⟩
  · exact (θ_run Cert.FfnUpIdeal.defs _ _).mono (fun r h c => ⟨((h.1 c).1 2).trans (Cert.FfnUpIdeal.Mm.out_arr m c), h.2.1 c⟩)
      (θ_run_and (Cert.FfnUpIdeal.Gen.run_main m g) (Cert.FfnUpIdeal.Gen.frame m g))
  · refine (θ_run Cert.FfnUpReferenceIdeal.defs _ _).mono (fun r h c => ?_) (Cert.FfnUpReferenceIdeal.Value.run (F := Ideal) m' g')
    obtain ⟨h0, h1⟩ := ha c
    obtain ⟨r0, rest⟩ := h c
    refine ⟨r0.trans ((result_eq _ _).trans ?_), rest⟩
    exact congrArg₂ prodNN h0 h1

end Cert.FfnUpReferenceIdeal.Mm
end
-- ==== Proof.FfnDown.lean ====
/- The feed-forward layer's second product: what the kernel computes block by block, and that the reference computes the same. -/
module

public import proofs.«01_k».proof.Proof.Mm
public import proofs.«01_k».proof.Defs
public import proofs.«01_k».proof.Proof.Gen.FfnDownIdeal
public import proofs.«01_k».proof.Proof.Gen.FfnDownIdeal.Frame
public import proofs.«01_k».proof.Proof.Gen.FfnDownReferenceIdeal
public import proofs.«01_k».proof.Proof.Gen.FfnDownReferenceIdeal.Run
public import Idealize.ShloMosaic.Lib.Pipeline.ValueKit
public import Idealize.ShloMosaic.Adequacy
public import Idealize.ShloMosaic.Init

@[expose] public section

noncomputable section

namespace Cert.FfnDownIdeal.Mm

open Cert.FfnDownIdeal Cert.FfnDownIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x1408 .bf16) (h3 : a3.IsWhole) (a4 : Memref sig .tc .vmem S1408x1024 .bf16) (h4 : a4.IsWhole) (a5 : Memref sig .tc .vmem S1024x1024 .f32) (h5 : a5.IsWhole) (a6 : Memref sig .tc .vmem S1024x1024 .f32) (h6 : a6.IsWhole)
  (x : Vec Ideal S1024x1408 .bf16) (y : Vec Ideal S1408x1024 .bf16) (s : Vec Ideal S1024x1024 .f32)

theorem first (hc0 : cond0_0 i) (hc1 : ¬cond0_1 i) :
    sout0_A_0 c i a3 h3 a4 h4 a5 h5 a6 h6 hc0 hc1 x y = k0_pay2 x y (k0_pay1 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  simp only [View.canon_unit_zero (S := S1024x1024) offset_zero, View.canon_cons_unit_zero (S := S1024x1024) offset_zero, View.readCov_unit_zero (S := S1024x1024) _ offset_zero,
    View.readAt_eq_ld, h3.read_unread, h4.read_unread, View.ld_unit_zero (S := S1024x1408) offset_zero, View.ld_unit_zero (S := S1408x1024) offset_zero, View.ld_unit_zero (S := S1024x1024) offset_zero, shapeCast_self]

theorem last (hc0 : ¬cond0_0 i) (hc1 : cond0_1 i) :
    sout0_B_0 c i a3 h3 a4 h4 a5 h5 a6 h6 hc0 hc1 x y s = k0_pay2 x y s := by
  unfold sout0_B_0
  rw [View.read_writes_eq_canon _ _ _ (scover0_B_0 c i a3 h3 a4 h4 a5 h5 a6 h6 hc0 hc1 x y s)]
  unfold kernelRun0_B
  dsimp only
  sl_unfold_words
  simp only [View.canon_unit_zero (S := S1024x1024) offset_zero, View.canon_cons_unit_zero (S := S1024x1024) offset_zero, View.readCov_unit_zero (S := S1024x1024) _ offset_zero,
    View.readAt_eq_ld, h3.read_unread, h4.read_unread, h6.read_unread, View.ld_unit_zero (S := S1024x1408) offset_zero, View.ld_unit_zero (S := S1408x1024) offset_zero, View.ld_unit_zero (S := S1024x1024) offset_zero, shapeCast_self]

theorem out (hc0 : ¬cond0_0 i) (hc1 : cond0_1 i) :
    out0_B_2 c i a3 h3 a4 h4 a5 h5 a6 h6 hc0 hc1 x y s = k0_pay2 x y s := by
  unfold out0_B_2
  rw [View.read_writes_eq_canon _ _ _ (cover0_B_2 c i a3 h3 a4 h4 a5 h5 a6 h6 hc0 hc1 x y s)]
  unfold kernelRun0_B
  dsimp only
  sl_unfold_words
  simp only [View.canon_unit_zero (S := S1024x1024) offset_zero, View.readCov_unit_zero (S := S1024x1024) _ offset_zero,
    View.readAt_eq_ld, h3.read_unread, h4.read_unread, h6.read_unread, View.ld_unit_zero (S := S1024x1408) offset_zero, View.ld_unit_zero (S := S1408x1024) offset_zero, View.ld_unit_zero (S := S1024x1024) offset_zero, shapeCast_self]

end Cases

theorem pay1_at (i : Fin 1024) (j : Fin 1024) : k0_pay1 (F := Ideal) (ix2 i j) = 0 := by
  pointwise [k0_pay1]

theorem pay2_at (x : Vec Ideal S1024x1408 .bf16) (y : Vec Ideal S1408x1024 .bf16) (s : Vec Ideal S1024x1024 .f32) (i : Fin 1024) (j : Fin 1024) :
    k0_pay2 (F := Ideal) x y s (ix2 i j) = s (ix2 i j) + ∑ k : Fin 1408, x (ix2 i k) * y (ix2 k j) := by
  pointwise [k0_pay2]

/-! ## Where the blocks lie in their arrays -/

theorem index_0 : ∀ t : Fin cfg0.N, win0_0.index t = ![t.val / 2, t.val % 2] := (by decide +kernel : ∀ t : Fin grid0.N, _)
theorem index_1 : ∀ t : Fin cfg0.N, win0_1.index t = ![t.val % 2, 0] := (by decide +kernel : ∀ t : Fin grid0.N, _)
theorem index_2 : ∀ t : Fin cfg0.N, win0_2.index t = ![t.val / 2, 0] := (by decide +kernel : ∀ t : Fin grid0.N, _)
theorem lt_N (t : Fin cfg0.N) : t.val < 32 := t.isLt

variable (m : (ℓ : Loc nD τ sig) → Buf (Elt Ideal) ℓ) (c : Dev nD)

abbrev lhs : Mat 16384 2816 := m ((c.tc : Thread nD τ).loc main_arg0)
abbrev rhs : Mat 2816 1024 := m ((c.tc : Thread nD τ).loc main_arg1)

theorem blk_0 (t : Fin cfg0.N) (i : Fin 1024) (k : Fin 1408) :
    iblk m c 0 t (ix2 i k) = ent (lhs m c) (1024 * (t.val / 2) + i.val) (1408 * (t.val % 2) + k.val) := by
  blk_simp [iblk]
  refine ix_ent (lhs m c) _ _ _ ?_ ?_
  all_goals simp [index_0, Nat.mul_comm]

theorem blk_1 (t : Fin cfg0.N) (i : Fin 1408) (k : Fin 1024) :
    iblk m c 1 t (ix2 i k) = ent (rhs m c) (1408 * (t.val % 2) + i.val) (0 + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x1408 .bf16) (y : Vec Ideal S1408x1024 .bf16) (hx : x = iblk m c 0 t) (hy : y = iblk m c 1 t)
    (i : Fin 1024) (j : Fin 1024) :
    ∑ k : Fin 1408, x (ix2 i k) * y (ix2 k j)
      = part (nn (lhs m c) (rhs m c) (1024 * (t.val / 2) + i.val) (0 + j.val)) 1408 (t.val % 2) := by
  refine Finset.sum_congr rfl fun k _ => ?_
  rw [hx, hy, blk_0, blk_1]
  rfl

/-- What a block's first point leaves in the running sum. -/
theorem step_first (t : Fin cfg0.N) (h : t.val % 2 = 0) (i : Fin 1024) (j : Fin 1024) :
    (outsAt0 m c t.val t.isLt).2 (ix2 i j) = part (nn (lhs m c) (rhs m c) (1024 * (t.val / 2) + i.val) (0 + j.val)) 1408 (t.val % 2) := by
  rw [outsAt0_A m c t h (by omega)]
  dsimp only
  rw [first, pay2_at, pay1_at, zero_add]
  exact part_eq m c t _ _ rfl rfl i j

/-- What a later point adds to the running sum. -/
theorem step_next (t : Fin cfg0.N) (h : t.val % 2 ≠ 0) (i : Fin 1024) (j : Fin 1024) :
    (outsAt0 m c t.val t.isLt).2 (ix2 i j) = (outsAt0 m c (t.val - 1) (lt_of_le_of_lt (Nat.sub_le _ _) t.isLt)).2 (ix2 i j)
      + part (nn (lhs m c) (rhs m c) (1024 * (t.val / 2) + i.val) (0 + j.val)) 1408 (t.val % 2) := by
  rw [outsAt0_B m c t h (by omega)]
  dsimp only
  rw [last, pay2_at]
  exact congrArg (_ + ·) (part_eq m c t _ _ rfl rfl i j)

/-- The result's block at the point that writes it back. -/
theorem block (t : Fin cfg0.N) (h : t.val % 2 = 1) (i : Fin 1024) (j : Fin 1024) :
    (outsAt0 m c t.val t.isLt).1 (ix2 i j) = (∑ k : Fin 2816, nn (lhs m c) (rhs m c) (1024 * (t.val / 2) + i.val) (0 + j.val) k.val) := by
  have e : (outsAt0 m c t.val t.isLt).1 = (outsAt0 m c t.val t.isLt).2 := by
    rw [outsAt0_B m c t (by omega) h]
    dsimp only
    rw [out, last]
  rw [e]
  exact held 2 1408 2816 (by norm_num) rfl (fun n h => (outsAt0 m c n h).2) (nn (lhs m c) (rhs m c)) (fun q => 1024 * (q)) (fun _ => 0)
    (fun n h e => step_first m c ⟨n, h⟩ e) (fun n h e => step_next m c ⟨n, h⟩ e) t.val t.isLt h i j

theorem emb_out (t : Fin cfg0.N) (i : Fin 1024) (j : Fin 1024) :
    ((win0_2.blk t).view.emb (ix2 i j) 0).val = 1024 * (t.val / 2) + i.val ∧ ((win0_2.blk t).view.emb (ix2 i j) 1).val = 0 + j.val := by
  constructor
  all_goals blk_simp []
  all_goals simp [index_2, Nat.mul_comm]

/-- The result array after the last point. -/
theorem out_arr : (dats m 0 c).arrAt 2 cfg0.N = prodNN (lhs m c) (rhs m c) := by
  refine (dats m 0 c).arrAt_eq_of_covers 2 (prodNN (lhs m c) (rhs m c)) (by decide +kernel) fun t hf y => ?_
  blk_simp
  obtain ⟨i, j, rfl⟩ : ∃ (i : Fin 1024) (j : Fin 1024), y = ix2 i j := ⟨y 0, y 1, ix_eq y⟩
  rw [after0_2]
  obtain ⟨e0, e1⟩ := emb_out t i j
  refine (block m c t ((flush0_2 t).mp hf) i j).trans ?_
  unfold prodNN
  rw [e0, e1]

end Cert.FfnDownIdeal.Mm

namespace Cert.FfnDownReferenceIdeal.Mm

open Cert.FfnDownReferenceIdeal Cert.FfnDownReferenceIdeal.Gen Cert.Mm
open Idealize.ShloMosaic Idealize.ShloMosaic.TcCoe Idealize.ShloMosaic.Tactic Idealize.SL.Sem

/-- The reference's result, as it computes it. -/
abbrev result (x : FVec Ideal S16384x2816 .bf16) (w : FVec Ideal S2816x1024 .bf16) : FVec Ideal S16384x1024 .f32 :=
  Host.dotGeneral dot_S16384x2816_S2816x1024_S16384x1024_1_0_0_1_n_n none (extf .f32 x bitsLt_bf16_f32) (extf .f32 w bitsLt_bf16_f32)

theorem result_at (x : FVec Ideal S16384x2816 .bf16) (w : FVec Ideal S2816x1024 .bf16) (i : Fin 16384) (j : Fin 1024) :
    result x w (ix2 i j) = (∑ k : Fin 2816, x (ix2 i k) * w (ix2 k j)) := by
  pointwise [result]

theorem result_eq (x : FVec Ideal S16384x2816 .bf16) (w : FVec Ideal S2816x1024 .bf16) : result x w = prodNN x w :=
  mat_ext fun i j => (result_at x w i j).trans (prodNN_at x w i j).symm

/-- The reference ends with its arguments unchanged and no semaphore raised. -/
theorem frame : Cert.quiescent_FfnDownReferenceIdeal (hFfnDownReferenceIdeal := Cert.FfnDownReferenceIdeal.Gen.facts) := fun m ρ _ =>
  (θ_run Cert.FfnDownReferenceIdeal.defs _ _).mono (fun r h => ⟨fun c => (h c).2, sem_eq_zero_of_no_sems (by decide) r.2⟩) (Cert.FfnDownReferenceIdeal.Value.run (F := Ideal) m ρ)

/-- Kernel and reference end with the same product and unchanged arguments. -/
theorem algebraic : Cert.algebraic_FfnDownIdeal_FfnDownReferenceIdeal (hFfnDownIdeal := Cert.FfnDownIdeal.Gen.facts) (hFfnDownReferenceIdeal := Cert.FfnDownReferenceIdeal.Gen.facts) := by
  intro m g m' g' _ ha
  refine ⟨fun c => prodNN (Cert.FfnDownIdeal.Mm.lhs m c) (Cert.FfnDownIdeal.Mm.rhs m c), ?_, ?_⟩
  · exact (θ_run Cert.FfnDownIdeal.defs _ _).mono (fun r h c => ⟨((h.1 c).1 2).trans (Cert.FfnDownIdeal.Mm.out_arr m c), h.2.1 c⟩)
      (θ_run_and (Cert.FfnDownIdeal.Gen.run_main m g) (Cert.FfnDownIdeal.Gen.frame m g))
  · refine (θ_run Cert.FfnDownReferenceIdeal.defs _ _).mono (fun r h c => ?_) (Cert.FfnDownReferenceIdeal.Value.run (F := Ideal) m' g')
    obtain ⟨h0, h1⟩ := ha c
    obtain ⟨r0, rest⟩ := h c
    refine ⟨r0.trans ((result_eq _ _).trans ?_), rest⟩
    exact congrArg₂ prodNN h0 h1

end Cert.FfnDownReferenceIdeal.Mm
end
-- ==== Proof.FfnDownDx.lean ====
/- The gradient of the second product's input: what the kernel computes block by block, and that the reference computes the same. -/
module

public import proofs.«01_k».proof.Proof.Mm
public import proofs.«01_k».proof.Defs
public import proofs.«01_k».proof.Proof.Gen.FfnDownDxIdeal
public import proofs.«01_k».proof.Proof.Gen.FfnDownDxIdeal.Frame
public import proofs.«01_k».proof.Proof.Gen.FfnDownDxReferenceIdeal
public import proofs.«01_k».proof.Proof.Gen.FfnDownDxReferenceIdeal.Run
public import Idealize.ShloMosaic.Lib.Pipeline.ValueKit
public import Idealize.ShloMosaic.Adequacy
public import Idealize.ShloMosaic.Init

@[expose] public section

noncomputable section

namespace Cert.FfnDownDxIdeal.Mm

open Cert.FfnDownDxIdeal Cert.FfnDownDxIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x1024 .bf16) (h3 : a3.IsWhole) (a4 : Memref sig .tc .vmem S1408x1024 .bf16) (h4 : a4.IsWhole) (a5 : Memref sig .tc .vmem S1024x1408 .bf16) (h5 : a5.IsWhole) (a6 : Memref sig .tc .vmem S1024x1408 .f32) (h6 : a6.IsWhole)
  (x : Vec Ideal S1024x1024 .bf16) (y : Vec Ideal S1408x1024 .bf16) (s : Vec Ideal S1024x1408 .f32)

theorem out (hc0 : cond0_0 i) (hc1 : cond0_1 i) :
    out0_A_2 c i a3 h3 a4 h4 a5 h5 a6 h6 hc0 hc1 x y = k0_pay3 (k0_pay2 x y (k0_pay1 (F := Ideal))) := by
  unfold out0_A_2
  rw [View.read_writes_eq_canon _ _ _ (cover0_A_2 c i a3 h3 a4 h4 a5 h5 a6 h6 hc0 hc1 x y)]
  unfold kernelRun0_A
  dsimp only
  sl_unfold_words
  simp only [View.canon_unit_zero (S := S1024x1408) offset_zero, View.readCov_unit_zero (S := S1024x1408) _ offset_zero,
    View.readAt_eq_ld, h3.read_unread, h4.read_unread, View.ld_unit_zero (S := S1024x1024) offset_zero, View.ld_unit_zero (S := S1408x1024) offset_zero, View.ld_unit_zero (S := S1024x1408) offset_zero, shapeCast_self]
  exact congrArg k0_pay3 (View.readCov_cons_unit_lit' (S := S1024x1408) a6.view _ _ _ _ (congrFun offset_zero) (congrFun offset_zero))

end Cases

theorem pay1_at (i : Fin 1024) (j : Fin 1408) : k0_pay1 (F := Ideal) (ix2 i j) = 0 := by
  pointwise [k0_pay1]

theorem pay2_at (x : Vec Ideal S1024x1024 .bf16) (y : Vec Ideal S1408x1024 .bf16) (s : Vec Ideal S1024x1408 .f32) (i : Fin 1024) (j : Fin 1408) :
    k0_pay2 (F := Ideal) x y s (ix2 i j) = s (ix2 i j) + ∑ k : Fin 1024, x (ix2 i k) * y (ix2 j k) := by
  pointwise [k0_pay2]

theorem pay3_at (s : Vec Ideal S1024x1408 .f32) (i : Fin 1024) (j : Fin 1408) : k0_pay3 (F := Ideal) s (ix2 i j) = s (ix2 i j) := by
  pointwise [k0_pay3]

/-! ## Where the blocks lie in their arrays -/

theorem index_0 : ∀ t : Fin cfg0.N, win0_0.index t = ![t.val / 2, 0] := (by decide +kernel : ∀ t : Fin grid0.N, _)
theorem index_1 : ∀ t : Fin cfg0.N, win0_1.index t = ![t.val % 2, 0] := (by decide +kernel : ∀ t : Fin grid0.N, _)
theorem index_2 : ∀ t : Fin cfg0.N, win0_2.index t = ![t.val / 2, t.val % 2] := (by decide +kernel : ∀ t : Fin grid0.N, _)
theorem lt_N (t : Fin cfg0.N) : t.val < 32 := t.isLt

variable (m : (ℓ : Loc nD τ sig) → Buf (Elt Ideal) ℓ) (c : Dev nD)

abbrev lhs : Mat 16384 1024 := m ((c.tc : Thread nD τ).loc main_arg0)
abbrev rhs : Mat 2816 1024 := m ((c.tc : Thread nD τ).loc main_arg1)

theorem blk_0 (t : Fin cfg0.N) (i : Fin 1024) (k : Fin 1024) :
    iblk m c 0 t (ix2 i k) = ent (lhs m c) (1024 * (t.val / 2) + i.val) (0 + k.val) := by
  blk_simp [iblk]
  refine ix_ent (lhs m c) _ _ _ ?_ ?_
  all_goals simp [index_0, Nat.mul_comm]

theorem blk_1 (t : Fin cfg0.N) (i : Fin 1408) (k : Fin 1024) :
    iblk m c 1 t (ix2 i k) = ent (rhs m c) (1408 * (t.val % 2) + i.val) (0 + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x1024 .bf16) (y : Vec Ideal S1408x1024 .bf16) (hx : x = iblk m c 0 t) (hy : y = iblk m c 1 t)
    (i : Fin 1024) (j : Fin 1408) :
    ∑ k : Fin 1024, x (ix2 i k) * y (ix2 j k)
      = part (nt (lhs m c) (rhs m c) (1024 * (t.val / 2) + i.val) (1408 * (t.val % 2) + j.val)) 1024 (0) := by
  refine Finset.sum_congr rfl fun k _ => ?_
  rw [hx, hy, blk_0, blk_1]
  simp only [Nat.mul_zero, Nat.zero_add]
  rfl

/-- The result's block after its point. -/
theorem block (t : Fin cfg0.N) (i : Fin 1024) (j : Fin 1408) :
    outsAt0 m c t (ix2 i j) = ∑ k : Fin 1024, nt (lhs m c) (rhs m c) (1024 * (t.val / 2) + i.val) (1408 * (t.val % 2) + j.val) k.val := by
  unfold outsAt0
  rw [out, pay3_at, pay2_at, pay1_at, zero_add]
  refine (part_eq m c t _ _ rfl rfl i j).trans (Eq.trans ?_ (sum_parts 1 1024 rfl _))
  rw [Finset.sum_range_one]

theorem emb_out (t : Fin cfg0.N) (i : Fin 1024) (j : Fin 1408) :
    ((win0_2.blk t).view.emb (ix2 i j) 0).val = 1024 * (t.val / 2) + i.val ∧ ((win0_2.blk t).view.emb (ix2 i j) 1).val = 1408 * (t.val % 2) + j.val := by
  constructor
  all_goals blk_simp []
  all_goals simp [index_2, Nat.mul_comm]

/-- The result array after the last point. -/
theorem out_arr : (dats m 0 c).arrAt 2 cfg0.N = prodNT (lhs m c) (rhs m c) := by
  refine (dats m 0 c).arrAt_eq_of_covers 2 (prodNT (lhs m c) (rhs m c)) (by decide +kernel) fun t hf y => ?_
  blk_simp
  obtain ⟨i, j, rfl⟩ : ∃ (i : Fin 1024) (j : Fin 1408), y = ix2 i j := ⟨y 0, y 1, ix_eq y⟩
  rw [after0_2]
  obtain ⟨e0, e1⟩ := emb_out t i j
  refine (block m c t i j).trans ?_
  unfold prodNT
  rw [e0, e1]

end Cert.FfnDownDxIdeal.Mm

namespace Cert.FfnDownDxReferenceIdeal.Mm

open Cert.FfnDownDxReferenceIdeal Cert.FfnDownDxReferenceIdeal.Gen Cert.Mm
open Idealize.ShloMosaic Idealize.ShloMosaic.TcCoe Idealize.ShloMosaic.Tactic Idealize.SL.Sem

/-- The reference's result, as it computes it. -/
abbrev result (x : FVec Ideal S16384x1024 .bf16) (w : FVec Ideal S2816x1024 .bf16) : FVec Ideal S16384x2816 .bf16 :=
  truncf .bf16 (Host.dotGeneral dot_S16384x1024_S2816x1024_S16384x2816_1_1_0_0_n_n none (extf .f32 x bitsLt_bf16_f32) (extf .f32 w bitsLt_bf16_f32)) bitsLt_bf16_f32

theorem result_at (x : FVec Ideal S16384x1024 .bf16) (w : FVec Ideal S2816x1024 .bf16) (i : Fin 16384) (j : Fin 2816) :
    result x w (ix2 i j) = (∑ k : Fin 1024, x (ix2 i k) * w (ix2 j k)) := by
  pointwise [result]

theorem result_eq (x : FVec Ideal S16384x1024 .bf16) (w : FVec Ideal S2816x1024 .bf16) : result x w = prodNT x w :=
  mat_ext fun i j => (result_at x w i j).trans (prodNT_at x w i j).symm

/-- The reference ends with its arguments unchanged and no semaphore raised. -/
theorem frame : Cert.quiescent_FfnDownDxReferenceIdeal (hFfnDownDxReferenceIdeal := Cert.FfnDownDxReferenceIdeal.Gen.facts) := fun m ρ _ =>
  (θ_run Cert.FfnDownDxReferenceIdeal.defs _ _).mono (fun r h => ⟨fun c => (h c).2, sem_eq_zero_of_no_sems (by decide) r.2⟩) (Cert.FfnDownDxReferenceIdeal.Value.run (F := Ideal) m ρ)

/-- Kernel and reference end with the same product and unchanged arguments. -/
theorem algebraic : Cert.algebraic_FfnDownDxIdeal_FfnDownDxReferenceIdeal (hFfnDownDxIdeal := Cert.FfnDownDxIdeal.Gen.facts) (hFfnDownDxReferenceIdeal := Cert.FfnDownDxReferenceIdeal.Gen.facts) := by
  intro m g m' g' _ ha
  refine ⟨fun c => prodNT (Cert.FfnDownDxIdeal.Mm.lhs m c) (Cert.FfnDownDxIdeal.Mm.rhs m c), ?_, ?_⟩
  · exact (θ_run Cert.FfnDownDxIdeal.defs _ _).mono (fun r h c => ⟨((h.1 c).1 2).trans (Cert.FfnDownDxIdeal.Mm.out_arr m c), h.2.1 c⟩)
      (θ_run_and (Cert.FfnDownDxIdeal.Gen.run_main m g) (Cert.FfnDownDxIdeal.Gen.frame m g))
  · refine (θ_run Cert.FfnDownDxReferenceIdeal.defs _ _).mono (fun r h c => ?_) (Cert.FfnDownDxReferenceIdeal.Value.run (F := Ideal) m' g')
    obtain ⟨h0, h1⟩ := ha c
    obtain ⟨r0, rest⟩ := h c
    refine ⟨r0.trans ((result_eq _ _).trans ?_), rest⟩
    exact congrArg₂ prodNT h0 h1

end Cert.FfnDownDxReferenceIdeal.Mm
end
-- ==== Proof.FfnDownDw.lean ====
/- The gradient of the second product's weights: what the kernel computes block by block, and that the reference computes the same. -/
module

public import proofs.«01_k».proof.Proof.Mm
public import proofs.«01_k».proof.Defs
public import proofs.«01_k».proof.Proof.Gen.FfnDownDwIdeal
public import proofs.«01_k».proof.Proof.Gen.FfnDownDwIdeal.Frame
public import proofs.«01_k».proof.Proof.Gen.FfnDownDwReferenceIdeal
public import proofs.«01_k».proof.Proof.Gen.FfnDownDwReferenceIdeal.Run
public import Idealize.ShloMosaic.Lib.Pipeline.ValueKit
public import Idealize.ShloMosaic.Adequacy
public import Idealize.ShloMosaic.Init

@[expose] public section

noncomputable section

namespace Cert.FfnDownDwIdeal.Mm

open Cert.FfnDownDwIdeal Cert.FfnDownDwIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x256 .bf16) (h3 : a3.IsWhole) (a4 : Memref sig .tc .vmem S1024x1024 .bf16) (h4 : a4.IsWhole) (a5 : Memref sig .tc .vmem S256x1024 .bf16) (h5 : a5.IsWhole) (a6 : Memref sig .tc .vmem S256x1024 .f32) (h6 : a6.IsWhole)
  (x : Vec Ideal S1024x256 .bf16) (y : Vec Ideal S1024x1024 .bf16) (s : Vec Ideal S256x1024 .f32)

theorem first (hc0 : cond0_0 i) (hc1 : ¬cond0_1 i) :
    sout0_A_0 c i a3 h3 a4 h4 a5 h5 a6 h6 hc0 hc1 x y = k0_pay2 x y (k0_pay1 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  simp only [View.canon_unit_zero (S := S256x1024) offset_zero, View.canon_cons_unit_zero (S := S256x1024) offset_zero, View.readCov_unit_zero (S := S256x1024) _ offset_zero,
    View.readAt_eq_ld, h3.read_unread, h4.read_unread, View.ld_unit_zero (S := S1024x256) offset_zero, View.ld_unit_zero (S := S1024x1024) offset_zero, View.ld_unit_zero (S := S256x1024) offset_zero, shapeCast_self]

theorem next (hc0 : ¬cond0_0 i) (hc1 : ¬cond0_1 i) :
    sout0_B_0 c i a3 h3 a4 h4 a5 h5 a6 h6 hc0 hc1 x y s = k0_pay2 x y s := by
  unfold sout0_B_0
  rw [View.read_writes_eq_canon _ _ _ (scover0_B_0 c i a3 h3 a4 h4 a5 h5 a6 h6 hc0 hc1 x y s)]
  unfold kernelRun0_B
  dsimp only
  simp only [View.canon_unit_zero (S := S256x1024) offset_zero, View.canon_cons_unit_zero (S := S256x1024) offset_zero, View.readCov_unit_zero (S := S256x1024) _ offset_zero,
    View.readAt_eq_ld, h3.read_unread, h4.read_unread, h6.read_unread, View.ld_unit_zero (S := S1024x256) offset_zero, View.ld_unit_zero (S := S1024x1024) offset_zero, View.ld_unit_zero (S := S256x1024) offset_zero, shapeCast_self]

theorem last (hc0 : ¬cond0_0 i) (hc1 : cond0_1 i) :
    sout0_C_0 c i a3 h3 a4 h4 a5 h5 a6 h6 hc0 hc1 x y s = k0_pay2 x y s := by
  unfold sout0_C_0
  rw [View.read_writes_eq_canon _ _ _ (scover0_C_0 c i a3 h3 a4 h4 a5 h5 a6 h6 hc0 hc1 x y s)]
  unfold kernelRun0_C
  dsimp only
  sl_unfold_words
  simp only [View.canon_unit_zero (S := S256x1024) offset_zero, View.canon_cons_unit_zero (S := S256x1024) offset_zero, View.readCov_unit_zero (S := S256x1024) _ offset_zero,
    View.readAt_eq_ld, h3.read_unread, h4.read_unread, h6.read_unread, View.ld_unit_zero (S := S1024x256) offset_zero, View.ld_unit_zero (S := S1024x1024) offset_zero, View.ld_unit_zero (S := S256x1024) offset_zero, shapeCast_self]

theorem out (hc0 : ¬cond0_0 i) (hc1 : cond0_1 i) :
    out0_C_2 c i a3 h3 a4 h4 a5 h5 a6 h6 hc0 hc1 x y s = k0_pay3 (k0_pay2 x y s) := by
  unfold out0_C_2
  rw [View.read_writes_eq_canon _ _ _ (cover0_C_2 c i a3 h3 a4 h4 a5 h5 a6 h6 hc0 hc1 x y s)]
  unfold kernelRun0_C
  dsimp only
  sl_unfold_words
  simp only [View.canon_unit_zero (S := S256x1024) offset_zero, View.readCov_unit_zero (S := S256x1024) _ offset_zero,
    View.readAt_eq_ld, h3.read_unread, h4.read_unread, h6.read_unread, View.ld_unit_zero (S := S1024x256) offset_zero, View.ld_unit_zero (S := S1024x1024) offset_zero, View.ld_unit_zero (S := S256x1024) offset_zero, shapeCast_self]

end Cases

theorem pay1_at (i : Fin 256) (j : Fin 1024) : k0_pay1 (F := Ideal) (ix2 i j) = 0 := by
  pointwise [k0_pay1]

theorem pay2_at (x : Vec Ideal S1024x256 .bf16) (y : Vec Ideal S1024x1024 .bf16) (s : Vec Ideal S256x1024 .f32) (i : Fin 256) (j : Fin 1024) :
    k0_pay2 (F := Ideal) x y s (ix2 i j) = s (ix2 i j) + ∑ k : Fin 1024, x (ix2 k i) * y (ix2 k j) := by
  pointwise [k0_pay2]

theorem pay3_at (s : Vec Ideal S256x1024 .f32) (i : Fin 256) (j : Fin 1024) : k0_pay3 (F := Ideal) s (ix2 i j) = s (ix2 i j) := by
  pointwise [k0_pay3]

/-! ## Where the blocks lie in their arrays -/

theorem index_0 : ∀ t : Fin cfg0.N, win0_0.index t = ![t.val % 16, t.val / 16] := (by decide +kernel : ∀ t : Fin grid0.N, _)
theorem index_1 : ∀ t : Fin cfg0.N, win0_1.index t = ![t.val % 16, 0] := (by decide +kernel : ∀ t : Fin grid0.N, _)
theorem index_2 : ∀ t : Fin cfg0.N, win0_2.index t = ![t.val / 16, 0] := (by decide +kernel : ∀ t : Fin grid0.N, _)
theorem lt_N (t : Fin cfg0.N) : t.val < 176 := t.isLt

variable (m : (ℓ : Loc nD τ sig) → Buf (Elt Ideal) ℓ) (c : Dev nD)

abbrev lhs : Mat 16384 2816 := m ((c.tc : Thread nD τ).loc main_arg0)
abbrev rhs : Mat 16384 1024 := m ((c.tc : Thread nD τ).loc main_arg1)

theorem blk_0 (t : Fin cfg0.N) (i : Fin 1024) (k : Fin 256) :
    iblk m c 0 t (ix2 i k) = ent (lhs m c) (1024 * (t.val % 16) + i.val) (256 * (t.val / 16) + k.val) := by
  blk_simp [iblk]
  refine ix_ent (lhs m c) _ _ _ ?_ ?_
  all_goals simp [index_0, Nat.mul_comm]

theorem blk_1 (t : Fin cfg0.N) (i : Fin 1024) (k : Fin 1024) :
    iblk m c 1 t (ix2 i k) = ent (rhs m c) (1024 * (t.val % 16) + i.val) (0 + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x256 .bf16) (y : Vec Ideal S1024x1024 .bf16) (hx : x = iblk m c 0 t) (hy : y = iblk m c 1 t)
    (i : Fin 256) (j : Fin 1024) :
    ∑ k : Fin 1024, x (ix2 k i) * y (ix2 k j)
      = part (tn (lhs m c) (rhs m c) (256 * (t.val / 16) + i.val) (0 + j.val)) 1024 (t.val % 16) := by
  refine Finset.sum_congr rfl fun k _ => ?_
  rw [hx, hy, blk_0, blk_1]
  rfl

/-- What a block's first point leaves in the running sum. -/
theorem step_first (t : Fin cfg0.N) (h : t.val % 16 = 0) (i : Fin 256) (j : Fin 1024) :
    (outsAt0 m c t.val t.isLt).2 (ix2 i j) = part (tn (lhs m c) (rhs m c) (256 * (t.val / 16) + i.val) (0 + j.val)) 1024 (t.val % 16) := by
  rw [outsAt0_A m c t h (by omega)]
  dsimp only
  rw [first, pay2_at, pay1_at, zero_add]
  exact part_eq m c t _ _ rfl rfl i j

/-- What a later point adds to the running sum. -/
theorem step_next (t : Fin cfg0.N) (h : t.val % 16 ≠ 0) (i : Fin 256) (j : Fin 1024) :
    (outsAt0 m c t.val t.isLt).2 (ix2 i j) = (outsAt0 m c (t.val - 1) (lt_of_le_of_lt (Nat.sub_le _ _) t.isLt)).2 (ix2 i j)
      + part (tn (lhs m c) (rhs m c) (256 * (t.val / 16) + i.val) (0 + j.val)) 1024 (t.val % 16) := by
  refine Eq.trans ?_ (congrArg (_ + ·) (part_eq m c t _ _ rfl rfl i j))
  by_cases hl : t.val % 16 = 15
  · rw [outsAt0_C m c t h hl]
    dsimp only
    rw [last, pay2_at]
  · rw [outsAt0_B m c t h hl]
    dsimp only
    rw [next, pay2_at]

/-- The result's block at the point that writes it back. -/
theorem block (t : Fin cfg0.N) (h : t.val % 16 = 15) (i : Fin 256) (j : Fin 1024) :
    (outsAt0 m c t.val t.isLt).1 (ix2 i j) = (∑ k : Fin 16384, tn (lhs m c) (rhs m c) (256 * (t.val / 16) + i.val) (0 + j.val) k.val) := by
  have e : (outsAt0 m c t.val t.isLt).1 = k0_pay3 ((outsAt0 m c t.val t.isLt).2) := by
    rw [outsAt0_C m c t (by omega) h]
    dsimp only
    rw [out, last]
  rw [e, pay3_at]
  exact held 16 1024 16384 (by norm_num) rfl (fun n h => (outsAt0 m c n h).2) (tn (lhs m c) (rhs m c)) (fun q => 256 * (q)) (fun _ => 0)
    (fun n h e => step_first m c ⟨n, h⟩ e) (fun n h e => step_next m c ⟨n, h⟩ e) t.val t.isLt h i j

theorem emb_out (t : Fin cfg0.N) (i : Fin 256) (j : Fin 1024) :
    ((win0_2.blk t).view.emb (ix2 i j) 0).val = 256 * (t.val / 16) + i.val ∧ ((win0_2.blk t).view.emb (ix2 i j) 1).val = 0 + j.val := by
  constructor
  all_goals blk_simp []
  all_goals simp [index_2, Nat.mul_comm]

/-- The result array after the last point. -/
theorem out_arr : (dats m 0 c).arrAt 2 cfg0.N = prodTN (lhs m c) (rhs m c) := by
  refine (dats m 0 c).arrAt_eq_of_covers 2 (prodTN (lhs m c) (rhs m c)) (by decide +kernel) fun t hf y => ?_
  blk_simp
  obtain ⟨i, j, rfl⟩ : ∃ (i : Fin 256) (j : Fin 1024), y = ix2 i j := ⟨y 0, y 1, ix_eq y⟩
  rw [after0_2]
  obtain ⟨e0, e1⟩ := emb_out t i j
  refine (block m c t ((flush0_2 t).mp hf) i j).trans ?_
  unfold prodTN
  rw [e0, e1]

end Cert.FfnDownDwIdeal.Mm

namespace Cert.FfnDownDwReferenceIdeal.Mm

open Cert.FfnDownDwReferenceIdeal Cert.FfnDownDwReferenceIdeal.Gen Cert.Mm
open Idealize.ShloMosaic Idealize.ShloMosaic.TcCoe Idealize.ShloMosaic.Tactic Idealize.SL.Sem

/-- The reference's result, as it computes it. -/
abbrev result (x : FVec Ideal S16384x2816 .bf16) (w : FVec Ideal S16384x1024 .bf16) : FVec Ideal S2816x1024 .bf16 :=
  truncf .bf16 (transpose S2816x1024 [1, 0] (Host.dotGeneral dot_S16384x1024_S16384x2816_S1024x2816_0_0_1_1_n_n none (extf .f32 w bitsLt_bf16_f32) (extf .f32 x bitsLt_bf16_f32)) transposes_S1024x2816_S2816x1024_1_0) bitsLt_bf16_f32

theorem result_at (x : FVec Ideal S16384x2816 .bf16) (w : FVec Ideal S16384x1024 .bf16) (i : Fin 2816) (j : Fin 1024) :
    result x w (ix2 i j) = (∑ k : Fin 16384, w (ix2 k j) * x (ix2 k i)) := by
  pointwise [result]

theorem result_eq (x : FVec Ideal S16384x2816 .bf16) (w : FVec Ideal S16384x1024 .bf16) : result x w = prodTN x w :=
  mat_ext fun i j => (result_at x w i j).trans (prodTN_at x w i j).symm

/-- The reference ends with its arguments unchanged and no semaphore raised. -/
theorem frame : Cert.quiescent_FfnDownDwReferenceIdeal (hFfnDownDwReferenceIdeal := Cert.FfnDownDwReferenceIdeal.Gen.facts) := fun m ρ _ =>
  (θ_run Cert.FfnDownDwReferenceIdeal.defs _ _).mono (fun r h => ⟨fun c => (h c).2, sem_eq_zero_of_no_sems (by decide) r.2⟩) (Cert.FfnDownDwReferenceIdeal.Value.run (F := Ideal) m ρ)

/-- Kernel and reference end with the same product and unchanged arguments. -/
theorem algebraic : Cert.algebraic_FfnDownDwIdeal_FfnDownDwReferenceIdeal (hFfnDownDwIdeal := Cert.FfnDownDwIdeal.Gen.facts) (hFfnDownDwReferenceIdeal := Cert.FfnDownDwReferenceIdeal.Gen.facts) := by
  intro m g m' g' _ ha
  refine ⟨fun c => prodTN (Cert.FfnDownDwIdeal.Mm.lhs m c) (Cert.FfnDownDwIdeal.Mm.rhs m c), ?_, ?_⟩
  · exact (θ_run Cert.FfnDownDwIdeal.defs _ _).mono (fun r h c => ⟨((h.1 c).1 2).trans (Cert.FfnDownDwIdeal.Mm.out_arr m c), h.2.1 c⟩)
      (θ_run_and (Cert.FfnDownDwIdeal.Gen.run_main m g) (Cert.FfnDownDwIdeal.Gen.frame m g))
  · refine (θ_run Cert.FfnDownDwReferenceIdeal.defs _ _).mono (fun r h c => ?_) (Cert.FfnDownDwReferenceIdeal.Value.run (F := Ideal) m' g')
    obtain ⟨h0, h1⟩ := ha c
    obtain ⟨r0, rest⟩ := h c
    refine ⟨r0.trans ((result_eq _ _).trans ?_), rest⟩
    exact congrArg₂ prodTN h0 h1

end Cert.FfnDownDwReferenceIdeal.Mm
end
-- ==== Proof.FfnUpDx.lean ====
/- The gradient of the first product's input: what the kernel computes block by block, and that the reference computes the same. -/
module

public import proofs.«01_k».proof.Proof.Mm
public import proofs.«01_k».proof.Defs
public import proofs.«01_k».proof.Proof.Gen.FfnUpDxIdeal
public import proofs.«01_k».proof.Proof.Gen.FfnUpDxIdeal.Frame
public import proofs.«01_k».proof.Proof.Gen.FfnUpDxReferenceIdeal
public import proofs.«01_k».proof.Proof.Gen.FfnUpDxReferenceIdeal.Run
public import Idealize.ShloMosaic.Lib.Pipeline.ValueKit
public import Idealize.ShloMosaic.Adequacy
public import Idealize.ShloMosaic.Init

@[expose] public section

noncomputable section

namespace Cert.FfnUpDxIdeal.Mm

open Cert.FfnUpDxIdeal Cert.FfnUpDxIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x1408 .bf16) (h3 : a3.IsWhole) (a4 : Memref sig .tc .vmem S1024x1408 .bf16) (h4 : a4.IsWhole) (a5 : Memref sig .tc .vmem S1024x1024 .f32) (h5 : a5.IsWhole) (a6 : Memref sig .tc .vmem S1024x1024 .f32) (h6 : a6.IsWhole)
  (x : Vec Ideal S1024x1408 .bf16) (y : Vec Ideal S1024x1408 .bf16) (s : Vec Ideal S1024x1024 .f32)

theorem first (hc0 : cond0_0 i) (hc1 : ¬cond0_1 i) :
    sout0_A_0 c i a3 h3 a4 h4 a5 h5 a6 h6 hc0 hc1 x y = k0_pay2 x y (k0_pay1 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  simp only [View.canon_unit_zero (S := S1024x1024) offset_zero, View.canon_cons_unit_zero (S := S1024x1024) offset_zero, View.readCov_unit_zero (S := S1024x1024) _ offset_zero,
    View.readAt_eq_ld, h3.read_unread, h4.read_unread, View.ld_unit_zero (S := S1024x1408) offset_zero, View.ld_unit_zero (S := S1024x1024) offset_zero, shapeCast_self]

theorem next (hc0 : ¬cond0_0 i) (hc1 : ¬cond0_1 i) :
    sout0_B_0 c i a3 h3 a4 h4 a5 h5 a6 h6 hc0 hc1 x y s = k0_pay2 x y s := by
  unfold sout0_B_0
  rw [View.read_writes_eq_canon _ _ _ (scover0_B_0 c i a3 h3 a4 h4 a5 h5 a6 h6 hc0 hc1 x y s)]
  unfold kernelRun0_B
  dsimp only
  simp only [View.canon_unit_zero (S := S1024x1024) offset_zero, View.canon_cons_unit_zero (S := S1024x1024) offset_zero, View.readCov_unit_zero (S := S1024x1024) _ offset_zero,
    View.readAt_eq_ld, h3.read_unread, h4.read_unread, h6.read_unread, View.ld_unit_zero (S := S1024x1408) offset_zero, View.ld_unit_zero (S := S1024x1024) offset_zero, shapeCast_self]

theorem last (hc0 : ¬cond0_0 i) (hc1 : cond0_1 i) :
    sout0_C_0 c i a3 h3 a4 h4 a5 h5 a6 h6 hc0 hc1 x y s = k0_pay2 x y s := by
  unfold sout0_C_0
  rw [View.read_writes_eq_canon _ _ _ (scover0_C_0 c i a3 h3 a4 h4 a5 h5 a6 h6 hc0 hc1 x y s)]
  unfold kernelRun0_C
  dsimp only
  sl_unfold_words
  simp only [View.canon_unit_zero (S := S1024x1024) offset_zero, View.canon_cons_unit_zero (S := S1024x1024) offset_zero, View.readCov_unit_zero (S := S1024x1024) _ offset_zero,
    View.readAt_eq_ld, h3.read_unread, h4.read_unread, h6.read_unread, View.ld_unit_zero (S := S1024x1408) offset_zero, View.ld_unit_zero (S := S1024x1024) offset_zero, shapeCast_self]

theorem out (hc0 : ¬cond0_0 i) (hc1 : cond0_1 i) :
    out0_C_2 c i a3 h3 a4 h4 a5 h5 a6 h6 hc0 hc1 x y s = k0_pay2 x y s := by
  unfold out0_C_2
  rw [View.read_writes_eq_canon _ _ _ (cover0_C_2 c i a3 h3 a4 h4 a5 h5 a6 h6 hc0 hc1 x y s)]
  unfold kernelRun0_C
  dsimp only
  sl_unfold_words
  simp only [View.canon_unit_zero (S := S1024x1024) offset_zero, View.readCov_unit_zero (S := S1024x1024) _ offset_zero,
    View.readAt_eq_ld, h3.read_unread, h4.read_unread, h6.read_unread, View.ld_unit_zero (S := S1024x1408) offset_zero, View.ld_unit_zero (S := S1024x1024) offset_zero, shapeCast_self]

end Cases

theorem pay1_at (i : Fin 1024) (j : Fin 1024) : k0_pay1 (F := Ideal) (ix2 i j) = 0 := by
  pointwise [k0_pay1]

theorem pay2_at (x : Vec Ideal S1024x1408 .bf16) (y : Vec Ideal S1024x1408 .bf16) (s : Vec Ideal S1024x1024 .f32) (i : Fin 1024) (j : Fin 1024) :
    k0_pay2 (F := Ideal) x y s (ix2 i j) = s (ix2 i j) + ∑ k : Fin 1408, x (ix2 i k) * y (ix2 j k) := by
  pointwise [k0_pay2]

/-! ## Where the blocks lie in their arrays -/

theorem index_0 : ∀ t : Fin cfg0.N, win0_0.index t = ![t.val / 4, t.val % 4] := (by decide +kernel : ∀ t : Fin grid0.N, _)
theorem index_1 : ∀ t : Fin cfg0.N, win0_1.index t = ![0, t.val % 4] := (by decide +kernel : ∀ t : Fin grid0.N, _)
theorem index_2 : ∀ t : Fin cfg0.N, win0_2.index t = ![t.val / 4, 0] := (by decide +kernel : ∀ t : Fin grid0.N, _)
theorem lt_N (t : Fin cfg0.N) : t.val < 64 := t.isLt

variable (m : (ℓ : Loc nD τ sig) → Buf (Elt Ideal) ℓ) (c : Dev nD)

abbrev lhs : Mat 16384 5632 := m ((c.tc : Thread nD τ).loc main_arg0)
abbrev rhs : Mat 1024 5632 := m ((c.tc : Thread nD τ).loc main_arg1)

theorem blk_0 (t : Fin cfg0.N) (i : Fin 1024) (k : Fin 1408) :
    iblk m c 0 t (ix2 i k) = ent (lhs m c) (1024 * (t.val / 4) + i.val) (1408 * (t.val % 4) + k.val) := by
  blk_simp [iblk]
  refine ix_ent (lhs m c) _ _ _ ?_ ?_
  all_goals simp [index_0, Nat.mul_comm]

theorem blk_1 (t : Fin cfg0.N) (i : Fin 1024) (k : Fin 1408) :
    iblk m c 1 t (ix2 i k) = ent (rhs m c) (0 + i.val) (1408 * (t.val % 4) + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x1408 .bf16) (y : Vec Ideal S1024x1408 .bf16) (hx : x = iblk m c 0 t) (hy : y = iblk m c 1 t)
    (i : Fin 1024) (j : Fin 1024) :
    ∑ k : Fin 1408, x (ix2 i k) * y (ix2 j k)
      = part (nt (lhs m c) (rhs m c) (1024 * (t.val / 4) + i.val) (0 + j.val)) 1408 (t.val % 4) := by
  refine Finset.sum_congr rfl fun k _ => ?_
  rw [hx, hy, blk_0, blk_1]
  rfl

/-- What a block's first point leaves in the running sum. -/
theorem step_first (t : Fin cfg0.N) (h : t.val % 4 = 0) (i : Fin 1024) (j : Fin 1024) :
    (outsAt0 m c t.val t.isLt).2 (ix2 i j) = part (nt (lhs m c) (rhs m c) (1024 * (t.val / 4) + i.val) (0 + j.val)) 1408 (t.val % 4) := by
  rw [outsAt0_A m c t h (by omega)]
  dsimp only
  rw [first, pay2_at, pay1_at, zero_add]
  exact part_eq m c t _ _ rfl rfl i j

/-- What a later point adds to the running sum. -/
theorem step_next (t : Fin cfg0.N) (h : t.val % 4 ≠ 0) (i : Fin 1024) (j : Fin 1024) :
    (outsAt0 m c t.val t.isLt).2 (ix2 i j) = (outsAt0 m c (t.val - 1) (lt_of_le_of_lt (Nat.sub_le _ _) t.isLt)).2 (ix2 i j)
      + part (nt (lhs m c) (rhs m c) (1024 * (t.val / 4) + i.val) (0 + j.val)) 1408 (t.val % 4) := by
  refine Eq.trans ?_ (congrArg (_ + ·) (part_eq m c t _ _ rfl rfl i j))
  by_cases hl : t.val % 4 = 3
  · rw [outsAt0_C m c t h hl]
    dsimp only
    rw [last, pay2_at]
  · rw [outsAt0_B m c t h hl]
    dsimp only
    rw [next, pay2_at]

/-- The result's block at the point that writes it back. -/
theorem block (t : Fin cfg0.N) (h : t.val % 4 = 3) (i : Fin 1024) (j : Fin 1024) :
    (outsAt0 m c t.val t.isLt).1 (ix2 i j) = (∑ k : Fin 5632, nt (lhs m c) (rhs m c) (1024 * (t.val / 4) + i.val) (0 + j.val) k.val) := by
  have e : (outsAt0 m c t.val t.isLt).1 = (outsAt0 m c t.val t.isLt).2 := by
    rw [outsAt0_C m c t (by omega) h]
    dsimp only
    rw [out, last]
  rw [e]
  exact held 4 1408 5632 (by norm_num) rfl (fun n h => (outsAt0 m c n h).2) (nt (lhs m c) (rhs m c)) (fun q => 1024 * (q)) (fun _ => 0)
    (fun n h e => step_first m c ⟨n, h⟩ e) (fun n h e => step_next m c ⟨n, h⟩ e) t.val t.isLt h i j

theorem emb_out (t : Fin cfg0.N) (i : Fin 1024) (j : Fin 1024) :
    ((win0_2.blk t).view.emb (ix2 i j) 0).val = 1024 * (t.val / 4) + i.val ∧ ((win0_2.blk t).view.emb (ix2 i j) 1).val = 0 + j.val := by
  constructor
  all_goals blk_simp []
  all_goals simp [index_2, Nat.mul_comm]

/-- The result array after the last point. -/
theorem out_arr : (dats m 0 c).arrAt 2 cfg0.N = prodNT (lhs m c) (rhs m c) := by
  refine (dats m 0 c).arrAt_eq_of_covers 2 (prodNT (lhs m c) (rhs m c)) (by decide +kernel) fun t hf y => ?_
  blk_simp
  obtain ⟨i, j, rfl⟩ : ∃ (i : Fin 1024) (j : Fin 1024), y = ix2 i j := ⟨y 0, y 1, ix_eq y⟩
  rw [after0_2]
  obtain ⟨e0, e1⟩ := emb_out t i j
  refine (block m c t ((flush0_2 t).mp hf) i j).trans ?_
  unfold prodNT
  rw [e0, e1]

end Cert.FfnUpDxIdeal.Mm

namespace Cert.FfnUpDxReferenceIdeal.Mm

open Cert.FfnUpDxReferenceIdeal Cert.FfnUpDxReferenceIdeal.Gen Cert.Mm
open Idealize.ShloMosaic Idealize.ShloMosaic.TcCoe Idealize.ShloMosaic.Tactic Idealize.SL.Sem

/-- The reference's result, as it computes it. -/
abbrev result (x : FVec Ideal S16384x5632 .bf16) (w : FVec Ideal S1024x5632 .bf16) : FVec Ideal S16384x1024 .f32 :=
  Host.dotGeneral dot_S16384x5632_S1024x5632_S16384x1024_1_1_0_0_n_n none (extf .f32 x bitsLt_bf16_f32) (extf .f32 w bitsLt_bf16_f32)

theorem result_at (x : FVec Ideal S16384x5632 .bf16) (w : FVec Ideal S1024x5632 .bf16) (i : Fin 16384) (j : Fin 1024) :
    result x w (ix2 i j) = (∑ k : Fin 5632, x (ix2 i k) * w (ix2 j k)) := by
  pointwise [result]

theorem result_eq (x : FVec Ideal S16384x5632 .bf16) (w : FVec Ideal S1024x5632 .bf16) : result x w = prodNT x w :=
  mat_ext fun i j => (result_at x w i j).trans (prodNT_at x w i j).symm

/-- The reference ends with its arguments unchanged and no semaphore raised. -/
theorem frame : Cert.quiescent_FfnUpDxReferenceIdeal (hFfnUpDxReferenceIdeal := Cert.FfnUpDxReferenceIdeal.Gen.facts) := fun m ρ _ =>
  (θ_run Cert.FfnUpDxReferenceIdeal.defs _ _).mono (fun r h => ⟨fun c => (h c).2, sem_eq_zero_of_no_sems (by decide) r.2⟩) (Cert.FfnUpDxReferenceIdeal.Value.run (F := Ideal) m ρ)

/-- Kernel and reference end with the same product and unchanged arguments. -/
theorem algebraic : Cert.algebraic_FfnUpDxIdeal_FfnUpDxReferenceIdeal (hFfnUpDxIdeal := Cert.FfnUpDxIdeal.Gen.facts) (hFfnUpDxReferenceIdeal := Cert.FfnUpDxReferenceIdeal.Gen.facts) := by
  intro m g m' g' _ ha
  refine ⟨fun c => prodNT (Cert.FfnUpDxIdeal.Mm.lhs m c) (Cert.FfnUpDxIdeal.Mm.rhs m c), ?_, ?_⟩
  · exact (θ_run Cert.FfnUpDxIdeal.defs _ _).mono (fun r h c => ⟨((h.1 c).1 2).trans (Cert.FfnUpDxIdeal.Mm.out_arr m c), h.2.1 c⟩)
      (θ_run_and (Cert.FfnUpDxIdeal.Gen.run_main m g) (Cert.FfnUpDxIdeal.Gen.frame m g))
  · refine (θ_run Cert.FfnUpDxReferenceIdeal.defs _ _).mono (fun r h c => ?_) (Cert.FfnUpDxReferenceIdeal.Value.run (F := Ideal) m' g')
    obtain ⟨h0, h1⟩ := ha c
    obtain ⟨r0, rest⟩ := h c
    refine ⟨r0.trans ((result_eq _ _).trans ?_), rest⟩
    exact congrArg₂ prodNT h0 h1

end Cert.FfnUpDxReferenceIdeal.Mm
end
-- ==== Proof.FfnUpDw.lean ====
/- The gradient of the first product's weights: what the kernel computes block by block, and that the reference computes the same. -/
module

public import proofs.«01_k».proof.Proof.Mm
public import proofs.«01_k».proof.Defs
public import proofs.«01_k».proof.Proof.Gen.FfnUpDwIdeal
public import proofs.«01_k».proof.Proof.Gen.FfnUpDwIdeal.Frame
public import proofs.«01_k».proof.Proof.Gen.FfnUpDwReferenceIdeal
public import proofs.«01_k».proof.Proof.Gen.FfnUpDwReferenceIdeal.Run
public import Idealize.ShloMosaic.Lib.Pipeline.ValueKit
public import Idealize.ShloMosaic.Adequacy
public import Idealize.ShloMosaic.Init

@[expose] public section

noncomputable section

namespace Cert.FfnUpDwIdeal.Mm

open Cert.FfnUpDwIdeal Cert.FfnUpDwIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x1024 .bf16) (h3 : a3.IsWhole) (a4 : Memref sig .tc .vmem S1024x1408 .bf16) (h4 : a4.IsWhole) (a5 : Memref sig .tc .vmem S1024x1408 .bf16) (h5 : a5.IsWhole) (a6 : Memref sig .tc .vmem S1024x1408 .f32) (h6 : a6.IsWhole)
  (x : Vec Ideal S1024x1024 .bf16) (y : Vec Ideal S1024x1408 .bf16) (s : Vec Ideal S1024x1408 .f32)

theorem first (hc0 : cond0_0 i) (hc1 : ¬cond0_1 i) :
    sout0_A_0 c i a3 h3 a4 h4 a5 h5 a6 h6 hc0 hc1 x y = k0_pay2 x y (k0_pay1 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  simp only [View.canon_unit_zero (S := S1024x1408) offset_zero, View.canon_cons_unit_zero (S := S1024x1408) offset_zero, View.readCov_unit_zero (S := S1024x1408) _ offset_zero,
    View.readAt_eq_ld, h3.read_unread, h4.read_unread, View.ld_unit_zero (S := S1024x1024) offset_zero, View.ld_unit_zero (S := S1024x1408) offset_zero, shapeCast_self]

theorem next (hc0 : ¬cond0_0 i) (hc1 : ¬cond0_1 i) :
    sout0_B_0 c i a3 h3 a4 h4 a5 h5 a6 h6 hc0 hc1 x y s = k0_pay2 x y s := by
  unfold sout0_B_0
  rw [View.read_writes_eq_canon _ _ _ (scover0_B_0 c i a3 h3 a4 h4 a5 h5 a6 h6 hc0 hc1 x y s)]
  unfold kernelRun0_B
  dsimp only
  simp only [View.canon_unit_zero (S := S1024x1408) offset_zero, View.canon_cons_unit_zero (S := S1024x1408) offset_zero, View.readCov_unit_zero (S := S1024x1408) _ offset_zero,
    View.readAt_eq_ld, h3.read_unread, h4.read_unread, h6.read_unread, View.ld_unit_zero (S := S1024x1024) offset_zero, View.ld_unit_zero (S := S1024x1408) offset_zero, shapeCast_self]

theorem last (hc0 : ¬cond0_0 i) (hc1 : cond0_1 i) :
    sout0_C_0 c i a3 h3 a4 h4 a5 h5 a6 h6 hc0 hc1 x y s = k0_pay2 x y s := by
  unfold sout0_C_0
  rw [View.read_writes_eq_canon _ _ _ (scover0_C_0 c i a3 h3 a4 h4 a5 h5 a6 h6 hc0 hc1 x y s)]
  unfold kernelRun0_C
  dsimp only
  sl_unfold_words
  simp only [View.canon_unit_zero (S := S1024x1408) offset_zero, View.canon_cons_unit_zero (S := S1024x1408) offset_zero, View.readCov_unit_zero (S := S1024x1408) _ offset_zero,
    View.readAt_eq_ld, h3.read_unread, h4.read_unread, h6.read_unread, View.ld_unit_zero (S := S1024x1024) offset_zero, View.ld_unit_zero (S := S1024x1408) offset_zero, shapeCast_self]

theorem out (hc0 : ¬cond0_0 i) (hc1 : cond0_1 i) :
    out0_C_2 c i a3 h3 a4 h4 a5 h5 a6 h6 hc0 hc1 x y s = k0_pay3 (k0_pay2 x y s) := by
  unfold out0_C_2
  rw [View.read_writes_eq_canon _ _ _ (cover0_C_2 c i a3 h3 a4 h4 a5 h5 a6 h6 hc0 hc1 x y s)]
  unfold kernelRun0_C
  dsimp only
  sl_unfold_words
  simp only [View.canon_unit_zero (S := S1024x1408) offset_zero, View.readCov_unit_zero (S := S1024x1408) _ offset_zero,
    View.readAt_eq_ld, h3.read_unread, h4.read_unread, h6.read_unread, View.ld_unit_zero (S := S1024x1024) offset_zero, View.ld_unit_zero (S := S1024x1408) offset_zero, shapeCast_self]

end Cases

theorem pay1_at (i : Fin 1024) (j : Fin 1408) : k0_pay1 (F := Ideal) (ix2 i j) = 0 := by
  pointwise [k0_pay1]

theorem pay2_at (x : Vec Ideal S1024x1024 .bf16) (y : Vec Ideal S1024x1408 .bf16) (s : Vec Ideal S1024x1408 .f32) (i : Fin 1024) (j : Fin 1408) :
    k0_pay2 (F := Ideal) x y s (ix2 i j) = s (ix2 i j) + ∑ k : Fin 1024, x (ix2 k i) * y (ix2 k j) := by
  pointwise [k0_pay2]

theorem pay3_at (s : Vec Ideal S1024x1408 .f32) (i : Fin 1024) (j : Fin 1408) : k0_pay3 (F := Ideal) s (ix2 i j) = s (ix2 i j) := by
  pointwise [k0_pay3]

/-! ## Where the blocks lie in their arrays -/

theorem index_0 : ∀ t : Fin cfg0.N, win0_0.index t = ![t.val % 16, 0] := (by decide +kernel : ∀ t : Fin grid0.N, _)
theorem index_1 : ∀ t : Fin cfg0.N, win0_1.index t = ![t.val % 16, t.val / 16] := (by decide +kernel : ∀ t : Fin grid0.N, _)
theorem index_2 : ∀ t : Fin cfg0.N, win0_2.index t = ![0, t.val / 16] := (by decide +kernel : ∀ t : Fin grid0.N, _)
theorem lt_N (t : Fin cfg0.N) : t.val < 64 := t.isLt

variable (m : (ℓ : Loc nD τ sig) → Buf (Elt Ideal) ℓ) (c : Dev nD)

abbrev lhs : Mat 16384 1024 := m ((c.tc : Thread nD τ).loc main_arg0)
abbrev rhs : Mat 16384 5632 := m ((c.tc : Thread nD τ).loc main_arg1)

theorem blk_0 (t : Fin cfg0.N) (i : Fin 1024) (k : Fin 1024) :
    iblk m c 0 t (ix2 i k) = ent (lhs m c) (1024 * (t.val % 16) + i.val) (0 + k.val) := by
  blk_simp [iblk]
  refine ix_ent (lhs m c) _ _ _ ?_ ?_
  all_goals simp [index_0, Nat.mul_comm]

theorem blk_1 (t : Fin cfg0.N) (i : Fin 1024) (k : Fin 1408) :
    iblk m c 1 t (ix2 i k) = ent (rhs m c) (1024 * (t.val % 16) + i.val) (1408 * (t.val / 16) + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x1024 .bf16) (y : Vec Ideal S1024x1408 .bf16) (hx : x = iblk m c 0 t) (hy : y = iblk m c 1 t)
    (i : Fin 1024) (j : Fin 1408) :
    ∑ k : Fin 1024, x (ix2 k i) * y (ix2 k j)
      = part (tn (lhs m c) (rhs m c) (0 + i.val) (1408 * (t.val / 16) + j.val)) 1024 (t.val % 16) := by
  refine Finset.sum_congr rfl fun k _ => ?_
  rw [hx, hy, blk_0, blk_1]
  rfl

/-- What a block's first point leaves in the running sum. -/
theorem step_first (t : Fin cfg0.N) (h : t.val % 16 = 0) (i : Fin 1024) (j : Fin 1408) :
    (outsAt0 m c t.val t.isLt).2 (ix2 i j) = part (tn (lhs m c) (rhs m c) (0 + i.val) (1408 * (t.val / 16) + j.val)) 1024 (t.val % 16) := by
  rw [outsAt0_A m c t h (by omega)]
  dsimp only
  rw [first, pay2_at, pay1_at, zero_add]
  exact part_eq m c t _ _ rfl rfl i j

/-- What a later point adds to the running sum. -/
theorem step_next (t : Fin cfg0.N) (h : t.val % 16 ≠ 0) (i : Fin 1024) (j : Fin 1408) :
    (outsAt0 m c t.val t.isLt).2 (ix2 i j) = (outsAt0 m c (t.val - 1) (lt_of_le_of_lt (Nat.sub_le _ _) t.isLt)).2 (ix2 i j)
      + part (tn (lhs m c) (rhs m c) (0 + i.val) (1408 * (t.val / 16) + j.val)) 1024 (t.val % 16) := by
  refine Eq.trans ?_ (congrArg (_ + ·) (part_eq m c t _ _ rfl rfl i j))
  by_cases hl : t.val % 16 = 15
  · rw [outsAt0_C m c t h hl]
    dsimp only
    rw [last, pay2_at]
  · rw [outsAt0_B m c t h hl]
    dsimp only
    rw [next, pay2_at]

/-- The result's block at the point that writes it back. -/
theorem block (t : Fin cfg0.N) (h : t.val % 16 = 15) (i : Fin 1024) (j : Fin 1408) :
    (outsAt0 m c t.val t.isLt).1 (ix2 i j) = (∑ k : Fin 16384, tn (lhs m c) (rhs m c) (0 + i.val) (1408 * (t.val / 16) + j.val) k.val) := by
  have e : (outsAt0 m c t.val t.isLt).1 = k0_pay3 ((outsAt0 m c t.val t.isLt).2) := by
    rw [outsAt0_C m c t (by omega) h]
    dsimp only
    rw [out, last]
  rw [e, pay3_at]
  exact held 16 1024 16384 (by norm_num) rfl (fun n h => (outsAt0 m c n h).2) (tn (lhs m c) (rhs m c)) (fun _ => 0) (fun q => 1408 * (q))
    (fun n h e => step_first m c ⟨n, h⟩ e) (fun n h e => step_next m c ⟨n, h⟩ e) t.val t.isLt h i j

theorem emb_out (t : Fin cfg0.N) (i : Fin 1024) (j : Fin 1408) :
    ((win0_2.blk t).view.emb (ix2 i j) 0).val = 0 + i.val ∧ ((win0_2.blk t).view.emb (ix2 i j) 1).val = 1408 * (t.val / 16) + j.val := by
  constructor
  all_goals blk_simp []
  all_goals simp [index_2, Nat.mul_comm]

/-- The result array after the last point. -/
theorem out_arr : (dats m 0 c).arrAt 2 cfg0.N = prodTN (lhs m c) (rhs m c) := by
  refine (dats m 0 c).arrAt_eq_of_covers 2 (prodTN (lhs m c) (rhs m c)) (by decide +kernel) fun t hf y => ?_
  blk_simp
  obtain ⟨i, j, rfl⟩ : ∃ (i : Fin 1024) (j : Fin 1408), y = ix2 i j := ⟨y 0, y 1, ix_eq y⟩
  rw [after0_2]
  obtain ⟨e0, e1⟩ := emb_out t i j
  refine (block m c t ((flush0_2 t).mp hf) i j).trans ?_
  unfold prodTN
  rw [e0, e1]

end Cert.FfnUpDwIdeal.Mm

namespace Cert.FfnUpDwReferenceIdeal.Mm

open Cert.FfnUpDwReferenceIdeal Cert.FfnUpDwReferenceIdeal.Gen Cert.Mm
open Idealize.ShloMosaic Idealize.ShloMosaic.TcCoe Idealize.ShloMosaic.Tactic Idealize.SL.Sem

/-- The reference's result, as it computes it. -/
abbrev result (x : FVec Ideal S16384x1024 .bf16) (w : FVec Ideal S16384x5632 .bf16) : FVec Ideal S1024x5632 .bf16 :=
  truncf .bf16 (transpose S1024x5632 [1, 0] (Host.dotGeneral dot_S16384x5632_S16384x1024_S5632x1024_0_0_1_1_n_n none (extf .f32 w bitsLt_bf16_f32) (extf .f32 x bitsLt_bf16_f32)) transposes_S5632x1024_S1024x5632_1_0) bitsLt_bf16_f32

theorem result_at (x : FVec Ideal S16384x1024 .bf16) (w : FVec Ideal S16384x5632 .bf16) (i : Fin 1024) (j : Fin 5632) :
    result x w (ix2 i j) = (∑ k : Fin 16384, w (ix2 k j) * x (ix2 k i)) := by
  pointwise [result]

theorem result_eq (x : FVec Ideal S16384x1024 .bf16) (w : FVec Ideal S16384x5632 .bf16) : result x w = prodTN x w :=
  mat_ext fun i j => (result_at x w i j).trans (prodTN_at x w i j).symm

/-- The reference ends with its arguments unchanged and no semaphore raised. -/
theorem frame : Cert.quiescent_FfnUpDwReferenceIdeal (hFfnUpDwReferenceIdeal := Cert.FfnUpDwReferenceIdeal.Gen.facts) := fun m ρ _ =>
  (θ_run Cert.FfnUpDwReferenceIdeal.defs _ _).mono (fun r h => ⟨fun c => (h c).2, sem_eq_zero_of_no_sems (by decide) r.2⟩) (Cert.FfnUpDwReferenceIdeal.Value.run (F := Ideal) m ρ)

/-- Kernel and reference end with the same product and unchanged arguments. -/
theorem algebraic : Cert.algebraic_FfnUpDwIdeal_FfnUpDwReferenceIdeal (hFfnUpDwIdeal := Cert.FfnUpDwIdeal.Gen.facts) (hFfnUpDwReferenceIdeal := Cert.FfnUpDwReferenceIdeal.Gen.facts) := by
  intro m g m' g' _ ha
  refine ⟨fun c => prodTN (Cert.FfnUpDwIdeal.Mm.lhs m c) (Cert.FfnUpDwIdeal.Mm.rhs m c), ?_, ?_⟩
  · exact (θ_run Cert.FfnUpDwIdeal.defs _ _).mono (fun r h c => ⟨((h.1 c).1 2).trans (Cert.FfnUpDwIdeal.Mm.out_arr m c), h.2.1 c⟩)
      (θ_run_and (Cert.FfnUpDwIdeal.Gen.run_main m g) (Cert.FfnUpDwIdeal.Gen.frame m g))
  · refine (θ_run Cert.FfnUpDwReferenceIdeal.defs _ _).mono (fun r h c => ?_) (Cert.FfnUpDwReferenceIdeal.Value.run (F := Ideal) m' g')
    obtain ⟨h0, h1⟩ := ha c
    obtain ⟨r0, rest⟩ := h c
    refine ⟨r0.trans ((result_eq _ _).trans ?_), rest⟩
    exact congrArg₂ prodTN h0 h1

end Cert.FfnUpDwReferenceIdeal.Mm
end
-- ==== Proof.GateFwd.lean ====
/- The gates' product: what the kernel computes block by block, and that the reference computes the same. -/
module

public import proofs.«01_k».proof.Proof.Mm
public import proofs.«01_k».proof.Defs
public import proofs.«01_k».proof.Proof.Gen.GateFwdIdeal
public import proofs.«01_k».proof.Proof.Gen.GateFwdIdeal.Frame
public import proofs.«01_k».proof.Proof.Gen.GateFwdReferenceIdeal
public import proofs.«01_k».proof.Proof.Gen.GateFwdReferenceIdeal.Run
public import Idealize.ShloMosaic.Lib.Pipeline.ValueKit
public import Idealize.ShloMosaic.Adequacy
public import Idealize.ShloMosaic.Init

@[expose] public section

noncomputable section

namespace Cert.GateFwdIdeal.Mm

open Cert.GateFwdIdeal Cert.GateFwdIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole)
  (x : Vec Ideal S1024x1024 .f32) (y : Vec Ideal S1024x1024 .bf16) (s : Vec Ideal S1024x1024 .f32)

theorem out (hc0 : cond0_0 i) (hc1 : cond0_1 i) :
    out0_A_2 c i a3 h3 a4 h4 a5 h5 a6 h6 hc0 hc1 x y = k0_pay3 (k0_pay2 x y (k0_pay1 (F := Ideal))) := by
  unfold out0_A_2
  rw [View.read_writes_eq_canon _ _ _ (cover0_A_2 c i a3 h3 a4 h4 a5 h5 a6 h6 hc0 hc1 x y)]
  unfold kernelRun0_A
  dsimp only
  sl_unfold_words
  simp only [View.canon_unit_zero (S := S1024x1024) offset_zero, View.readCov_unit_zero (S := S1024x1024) _ offset_zero,
    View.readAt_eq_ld, h3.read_unread, h4.read_unread, View.ld_unit_zero (S := S1024x1024) offset_zero, shapeCast_self]
  exact congrArg k0_pay3 (View.readCov_cons_unit_lit' (S := S1024x1024) a6.view _ _ _ _ (congrFun offset_zero) (congrFun offset_zero))

end Cases

theorem pay1_at (i : Fin 1024) (j : Fin 1024) : k0_pay1 (F := Ideal) (ix2 i j) = 0 := by
  pointwise [k0_pay1]

theorem pay2_at (x : Vec Ideal S1024x1024 .f32) (y : Vec Ideal S1024x1024 .bf16) (s : Vec Ideal S1024x1024 .f32) (i : Fin 1024) (j : Fin 1024) :
    k0_pay2 (F := Ideal) x y s (ix2 i j) = s (ix2 i j) + ∑ k : Fin 1024, x (ix2 i k) * y (ix2 k j) := by
  pointwise [k0_pay2]

theorem pay3_at (s : Vec Ideal S1024x1024 .f32) (i : Fin 1024) (j : Fin 1024) : k0_pay3 (F := Ideal) s (ix2 i j) = s (ix2 i j) := by
  pointwise [k0_pay3]

/-! ## Where the blocks lie in their arrays -/

theorem index_0 : ∀ t : Fin cfg0.N, win0_0.index t = ![t.val / 4, 0] := (by decide +kernel : ∀ t : Fin grid0.N, _)
theorem index_1 : ∀ t : Fin cfg0.N, win0_1.index t = ![0, t.val % 4] := (by decide +kernel : ∀ t : Fin grid0.N, _)
theorem index_2 : ∀ t : Fin cfg0.N, win0_2.index t = ![t.val / 4, t.val % 4] := (by decide +kernel : ∀ t : Fin grid0.N, _)
theorem lt_N (t : Fin cfg0.N) : t.val < 64 := t.isLt

variable (m : (ℓ : Loc nD τ sig) → Buf (Elt Ideal) ℓ) (c : Dev nD)

abbrev lhs : Mat 16384 1024 := m ((c.tc : Thread nD τ).loc main_arg0)
abbrev rhs : Mat 1024 4096 := m ((c.tc : Thread nD τ).loc main_arg1)

theorem blk_0 (t : Fin cfg0.N) (i : Fin 1024) (k : Fin 1024) :
    iblk m c 0 t (ix2 i k) = ent (lhs m c) (1024 * (t.val / 4) + i.val) (0 + k.val) := by
  blk_simp [iblk]
  refine ix_ent (lhs m c) _ _ _ ?_ ?_
  all_goals simp [index_0, Nat.mul_comm]

theorem blk_1 (t : Fin cfg0.N) (i : Fin 1024) (k : Fin 1024) :
    iblk m c 1 t (ix2 i k) = ent (rhs m c) (0 + i.val) (1024 * (t.val % 4) + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x1024 .f32) (y : Vec Ideal S1024x1024 .bf16) (hx : x = iblk m c 0 t) (hy : y = iblk m c 1 t)
    (i : Fin 1024) (j : Fin 1024) :
    ∑ k : Fin 1024, x (ix2 i k) * y (ix2 k j)
      = part (nn (lhs m c) (rhs m c) (1024 * (t.val / 4) + i.val) (1024 * (t.val % 4) + j.val)) 1024 (0) := by
  refine Finset.sum_congr rfl fun k _ => ?_
  rw [hx, hy, blk_0, blk_1]
  simp only [Nat.mul_zero, Nat.zero_add]
  rfl

/-- The result's block after its point. -/
theorem block (t : Fin cfg0.N) (i : Fin 1024) (j : Fin 1024) :
    outsAt0 m c t (ix2 i j) = ∑ k : Fin 1024, nn (lhs m c) (rhs m c) (1024 * (t.val / 4) + i.val) (1024 * (t.val % 4) + j.val) k.val := by
  unfold outsAt0
  rw [out, pay3_at, pay2_at, pay1_at, zero_add]
  refine (part_eq m c t _ _ rfl rfl i j).trans (Eq.trans ?_ (sum_parts 1 1024 rfl _))
  rw [Finset.sum_range_one]

theorem emb_out (t : Fin cfg0.N) (i : Fin 1024) (j : Fin 1024) :
    ((win0_2.blk t).view.emb (ix2 i j) 0).val = 1024 * (t.val / 4) + i.val ∧ ((win0_2.blk t).view.emb (ix2 i j) 1).val = 1024 * (t.val % 4) + j.val := by
  constructor
  all_goals blk_simp []
  all_goals simp [index_2, Nat.mul_comm]

/-- The result array after the last point. -/
theorem out_arr : (dats m 0 c).arrAt 2 cfg0.N = prodNN (lhs m c) (rhs m c) := by
  refine (dats m 0 c).arrAt_eq_of_covers 2 (prodNN (lhs m c) (rhs m c)) (by decide +kernel) fun t hf y => ?_
  blk_simp
  obtain ⟨i, j, rfl⟩ : ∃ (i : Fin 1024) (j : Fin 1024), y = ix2 i j := ⟨y 0, y 1, ix_eq y⟩
  rw [after0_2]
  obtain ⟨e0, e1⟩ := emb_out t i j
  refine (block m c t i j).trans ?_
  unfold prodNN
  rw [e0, e1]

end Cert.GateFwdIdeal.Mm

namespace Cert.GateFwdReferenceIdeal.Mm

open Cert.GateFwdReferenceIdeal Cert.GateFwdReferenceIdeal.Gen Cert.Mm
open Idealize.ShloMosaic Idealize.ShloMosaic.TcCoe Idealize.ShloMosaic.Tactic Idealize.SL.Sem

/-- The reference's result, as it computes it. -/
abbrev result (x : FVec Ideal S16384x1024 .f32) (w : FVec Ideal S1024x4096 .bf16) : FVec Ideal S16384x4096 .bf16 :=
  truncf .bf16 (Host.dotGeneral dot_S16384x1024_S1024x4096_S16384x4096_1_0_0_1_n_n none x (extf .f32 w bitsLt_bf16_f32)) bitsLt_bf16_f32

theorem result_at (x : FVec Ideal S16384x1024 .f32) (w : FVec Ideal S1024x4096 .bf16) (i : Fin 16384) (j : Fin 4096) :
    result x w (ix2 i j) = (∑ k : Fin 1024, x (ix2 i k) * w (ix2 k j)) := by
  pointwise [result]

theorem result_eq (x : FVec Ideal S16384x1024 .f32) (w : FVec Ideal S1024x4096 .bf16) : result x w = prodNN x w :=
  mat_ext fun i j => (result_at x w i j).trans (prodNN_at x w i j).symm

/-- The reference ends with its arguments unchanged and no semaphore raised. -/
theorem frame : Cert.quiescent_GateFwdReferenceIdeal (hGateFwdReferenceIdeal := Cert.GateFwdReferenceIdeal.Gen.facts) := fun m ρ _ =>
  (θ_run Cert.GateFwdReferenceIdeal.defs _ _).mono (fun r h => ⟨fun c => (h c).2, sem_eq_zero_of_no_sems (by decide) r.2⟩) (Cert.GateFwdReferenceIdeal.Value.run (F := Ideal) m ρ)

/-- Kernel and reference end with the same product and unchanged arguments. -/
theorem algebraic : Cert.algebraic_GateFwdIdeal_GateFwdReferenceIdeal (hGateFwdIdeal := Cert.GateFwdIdeal.Gen.facts) (hGateFwdReferenceIdeal := Cert.GateFwdReferenceIdeal.Gen.facts) := by
  intro m g m' g' _ ha
  refine ⟨fun c => prodNN (Cert.GateFwdIdeal.Mm.lhs m c) (Cert.GateFwdIdeal.Mm.rhs m c), ?_, ?_⟩
  · exact (θ_run Cert.GateFwdIdeal.defs _ _).mono (fun r h c => ⟨((h.1 c).1 2).trans (Cert.GateFwdIdeal.Mm.out_arr m c), h.2.1 c⟩)
      (θ_run_and (Cert.GateFwdIdeal.Gen.run_main m g) (Cert.GateFwdIdeal.Gen.frame m g))
  · refine (θ_run Cert.GateFwdReferenceIdeal.defs _ _).mono (fun r h c => ?_) (Cert.GateFwdReferenceIdeal.Value.run (F := Ideal) m' g')
    obtain ⟨h0, h1⟩ := ha c
    obtain ⟨r0, rest⟩ := h c
    refine ⟨r0.trans ((result_eq _ _).trans ?_), rest⟩
    exact congrArg₂ prodNN h0 h1

end Cert.GateFwdReferenceIdeal.Mm
end
-- ==== Proof.GateDx.lean ====
/- The gradient of the gates' input, added to what reached it another way: what the kernel computes block by block, and that the reference computes the same. -/
module

public import proofs.«01_k».proof.Proof.Mm
public import proofs.«01_k».proof.Defs
public import proofs.«01_k».proof.Proof.Gen.GateDxIdeal
public import proofs.«01_k».proof.Proof.Gen.GateDxIdeal.Frame
public import proofs.«01_k».proof.Proof.Gen.GateDxReferenceIdeal
public import proofs.«01_k».proof.Proof.Gen.GateDxReferenceIdeal.Run
public import Idealize.ShloMosaic.Lib.Pipeline.ValueKit
public import Idealize.ShloMosaic.Adequacy
public import Idealize.ShloMosaic.Init

@[expose] public section

noncomputable section

namespace Cert.GateDxIdeal.Mm

open Cert.GateDxIdeal Cert.GateDxIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x : Vec Ideal S1024x1024 .bf16) (y : Vec Ideal S1024x1024 .bf16) (z : Vec Ideal S1024x1024 .f32) (s : Vec Ideal S1024x1024 .f32)

theorem first (hc0 : cond0_0 i) (hc1 : ¬cond0_1 i) :
    sout0_A_0 c i a3 h3 a4 h4 a5 h5 a6 h6 a7 h7 hc0 hc1 x y z = k0_pay2 x y (k0_pay1 (F := Ideal)) := by
  unfold sout0_A_0
  rw [View.read_writes_eq_canon _ _ _ (scover0_A_0 c i a3 h3 a4 h4 a5 h5 a6 h6 a7 h7 hc0 hc1 x y z)]
  unfold kernelRun0_A
  dsimp only
  sl_unfold_words
  simp only [View.canon_unit_zero (S := S1024x1024) offset_zero, View.canon_cons_unit_zero (S := S1024x1024) offset_zero, View.readCov_unit_zero (S := S1024x1024) _ offset_zero,
    View.readAt_eq_ld, h3.read_unread, h4.read_unread, h5.read_unread, View.ld_unit_zero (S := S1024x1024) offset_zero, shapeCast_self]

theorem next (hc0 : ¬cond0_0 i) (hc1 : ¬cond0_1 i) :
    sout0_B_0 c i a3 h3 a4 h4 a5 h5 a6 h6 a7 h7 hc0 hc1 x y z s = k0_pay2 x y s := by
  unfold sout0_B_0
  rw [View.read_writes_eq_canon _ _ _ (scover0_B_0 c i a3 h3 a4 h4 a5 h5 a6 h6 a7 h7 hc0 hc1 x y z s)]
  unfold kernelRun0_B
  dsimp only
  simp only [View.canon_unit_zero (S := S1024x1024) offset_zero, View.canon_cons_unit_zero (S := S1024x1024) offset_zero, View.readCov_unit_zero (S := S1024x1024) _ offset_zero,
    View.readAt_eq_ld, h3.read_unread, h4.read_unread, h5.read_unread, h7.read_unread, View.ld_unit_zero (S := S1024x1024) offset_zero, shapeCast_self]

theorem last (hc0 : ¬cond0_0 i) (hc1 : cond0_1 i) :
    sout0_C_0 c i a3 h3 a4 h4 a5 h5 a6 h6 a7 h7 hc0 hc1 x y z s = k0_pay2 x y s := by
  unfold sout0_C_0
  rw [View.read_writes_eq_canon _ _ _ (scover0_C_0 c i a3 h3 a4 h4 a5 h5 a6 h6 a7 h7 hc0 hc1 x y z s)]
  unfold kernelRun0_C
  dsimp only
  sl_unfold_words
  simp only [View.canon_unit_zero (S := S1024x1024) offset_zero, View.canon_cons_unit_zero (S := S1024x1024) offset_zero, View.readCov_unit_zero (S := S1024x1024) _ offset_zero,
    View.readAt_eq_ld, h3.read_unread, h4.read_unread, h5.read_unread, h7.read_unread, View.ld_unit_zero (S := S1024x1024) offset_zero, shapeCast_self]

theorem out (hc0 : ¬cond0_0 i) (hc1 : cond0_1 i) :
    out0_C_3 c i a3 h3 a4 h4 a5 h5 a6 h6 a7 h7 hc0 hc1 x y z s = k0_pay3 (k0_pay2 x y s) z := by
  unfold out0_C_3
  rw [View.read_writes_eq_canon _ _ _ (cover0_C_3 c i a3 h3 a4 h4 a5 h5 a6 h6 a7 h7 hc0 hc1 x y z s)]
  unfold kernelRun0_C
  dsimp only
  sl_unfold_words
  simp only [View.canon_unit_zero (S := S1024x1024) offset_zero, View.readCov_unit_zero (S := S1024x1024) _ offset_zero,
    View.readAt_eq_ld, h3.read_unread, h4.read_unread, h5.read_unread, h7.read_unread, View.ld_unit_zero (S := S1024x1024) offset_zero, shapeCast_self]

end Cases

theorem pay1_at (i : Fin 1024) (j : Fin 1024) : k0_pay1 (F := Ideal) (ix2 i j) = 0 := by
  pointwise [k0_pay1]

theorem pay2_at (x : Vec Ideal S1024x1024 .bf16) (y : Vec Ideal S1024x1024 .bf16) (s : Vec Ideal S1024x1024 .f32) (i : Fin 1024) (j : Fin 1024) :
    k0_pay2 (F := Ideal) x y s (ix2 i j) = s (ix2 i j) + ∑ k : Fin 1024, x (ix2 i k) * y (ix2 j k) := by
  pointwise [k0_pay2]

theorem pay3_at (s z : Vec Ideal S1024x1024 .f32) (i : Fin 1024) (j : Fin 1024) : k0_pay3 (F := Ideal) s z (ix2 i j) = s (ix2 i j) + z (ix2 i j) := by
  pointwise [k0_pay3]

/-! ## Where the blocks lie in their arrays -/

theorem index_0 : ∀ t : Fin cfg0.N, win0_0.index t = ![t.val / 4, t.val % 4] := (by decide +kernel : ∀ t : Fin grid0.N, _)
theorem index_1 : ∀ t : Fin cfg0.N, win0_1.index t = ![0, t.val % 4] := (by decide +kernel : ∀ t : Fin grid0.N, _)
theorem index_2 : ∀ t : Fin cfg0.N, win0_2.index t = ![t.val / 4, 0] := (by decide +kernel : ∀ t : Fin grid0.N, _)
theorem index_3 : ∀ t : Fin cfg0.N, win0_3.index t = ![t.val / 4, 0] := (by decide +kernel : ∀ t : Fin grid0.N, _)
theorem lt_N (t : Fin cfg0.N) : t.val < 64 := t.isLt

variable (m : (ℓ : Loc nD τ sig) → Buf (Elt Ideal) ℓ) (c : Dev nD)

abbrev lhs : Mat 16384 4096 := m ((c.tc : Thread nD τ).loc main_arg0)
abbrev rhs : Mat 1024 4096 := m ((c.tc : Thread nD τ).loc main_arg1)
abbrev rest : Mat 16384 1024 := m ((c.tc : Thread nD τ).loc main_arg2)

theorem blk_0 (t : Fin cfg0.N) (i : Fin 1024) (k : Fin 1024) :
    iblk m c 0 t (ix2 i k) = ent (lhs m c) (1024 * (t.val / 4) + i.val) (1024 * (t.val % 4) + k.val) := by
  blk_simp [iblk]
  refine ix_ent (lhs m c) _ _ _ ?_ ?_
  all_goals simp [index_0, Nat.mul_comm]

theorem blk_1 (t : Fin cfg0.N) (i : Fin 1024) (k : Fin 1024) :
    iblk m c 1 t (ix2 i k) = ent (rhs m c) (0 + i.val) (1024 * (t.val % 4) + k.val) := by
  blk_simp [iblk]
  refine ix_ent (rhs m c) _ _ _ ?_ ?_
  all_goals simp [index_1, Nat.mul_comm]

theorem blk_2 (t : Fin cfg0.N) (i : Fin 1024) (k : Fin 1024) :
    iblk m c 2 t (ix2 i k) = ent (rest m c) (1024 * (t.val / 4) + i.val) (0 + k.val) := by
  blk_simp [iblk]
  refine ix_ent (rest m c) _ _ _ ?_ ?_
  all_goals simp [index_2, Nat.mul_comm]

/-- What a point adds to the running sum: one block's part of an entry of the product. -/
theorem part_eq (t : Fin cfg0.N) (x : Vec Ideal S1024x1024 .bf16) (y : Vec Ideal S1024x1024 .bf16) (hx : x = iblk m c 0 t) (hy : y = iblk m c 1 t)
    (i : Fin 1024) (j : Fin 1024) :
    ∑ k : Fin 1024, x (ix2 i k) * y (ix2 j k)
      = part (nt (lhs m c) (rhs m c) (1024 * (t.val / 4) + i.val) (0 + j.val)) 1024 (t.val % 4) := by
  refine Finset.sum_congr rfl fun k _ => ?_
  rw [hx, hy, blk_0, blk_1]
  rfl

/-- What a block's first point leaves in the running sum. -/
theorem step_first (t : Fin cfg0.N) (h : t.val % 4 = 0) (i : Fin 1024) (j : Fin 1024) :
    (outsAt0 m c t.val t.isLt).2 (ix2 i j) = part (nt (lhs m c) (rhs m c) (1024 * (t.val / 4) + i.val) (0 + j.val)) 1024 (t.val % 4) := by
  rw [outsAt0_A m c t h (by omega)]
  dsimp only
  rw [first, pay2_at, pay1_at, zero_add]
  exact part_eq m c t _ _ rfl rfl i j

/-- What a later point adds to the running sum. -/
theorem step_next (t : Fin cfg0.N) (h : t.val % 4 ≠ 0) (i : Fin 1024) (j : Fin 1024) :
    (outsAt0 m c t.val t.isLt).2 (ix2 i j) = (outsAt0 m c (t.val - 1) (lt_of_le_of_lt (Nat.sub_le _ _) t.isLt)).2 (ix2 i j)
      + part (nt (lhs m c) (rhs m c) (1024 * (t.val / 4) + i.val) (0 + j.val)) 1024 (t.val % 4) := by
  refine Eq.trans ?_ (congrArg (_ + ·) (part_eq m c t _ _ rfl rfl i j))
  by_cases hl : t.val % 4 = 3
  · rw [outsAt0_C m c t h hl]
    dsimp only
    rw [last, pay2_at]
  · rw [outsAt0_B m c t h hl]
    dsimp only
    rw [next, pay2_at]

/-- The result's block at the point that writes it back. -/
theorem block (t : Fin cfg0.N) (h : t.val % 4 = 3) (i : Fin 1024) (j : Fin 1024) :
    (outsAt0 m c t.val t.isLt).1 (ix2 i j) = (∑ k : Fin 4096, nt (lhs m c) (rhs m c) (1024 * (t.val / 4) + i.val) (0 + j.val) k.val) + iblk m c 2 t (ix2 i j) := by
  have e : (outsAt0 m c t.val t.isLt).1 = k0_pay3 ((outsAt0 m c t.val t.isLt).2) (iblk m c 2 t) := by
    rw [outsAt0_C m c t (by omega) h]
    dsimp only
    rw [out, last]
  rw [e, pay3_at]
  exact congrArg (· + _) (held 4 1024 4096 (by norm_num) rfl (fun n h => (outsAt0 m c n h).2) (nt (lhs m c) (rhs m c)) (fun q => 1024 * (q)) (fun _ => 0)
    (fun n h e => step_first m c ⟨n, h⟩ e) (fun n h e => step_next m c ⟨n, h⟩ e) t.val t.isLt h i j)

theorem emb_out (t : Fin cfg0.N) (i : Fin 1024) (j : Fin 1024) :
    ((win0_3.blk t).view.emb (ix2 i j) 0).val = 1024 * (t.val / 4) + i.val ∧ ((win0_3.blk t).view.emb (ix2 i j) 1).val = 0 + j.val := by
  constructor
  all_goals blk_simp []
  all_goals simp [index_3, Nat.mul_comm]

/-- The result array after the last point. -/
theorem out_arr : (dats m 0 c).arrAt 3 cfg0.N = plus (prodNT (lhs m c) (rhs m c)) (rest m c) := by
  refine (dats m 0 c).arrAt_eq_of_covers 3 (plus (prodNT (lhs m c) (rhs m c)) (rest m c)) (by decide +kernel) fun t hf y => ?_
  blk_simp
  obtain ⟨i, j, rfl⟩ : ∃ (i : Fin 1024) (j : Fin 1024), y = ix2 i j := ⟨y 0, y 1, ix_eq y⟩
  rw [after0_3]
  obtain ⟨e0, e1⟩ := emb_out t i j
  refine (block m c t ((flush0_3 t).mp hf) i j).trans ?_
  unfold plus prodNT
  rw [e0, e1, blk_2]
  exact congrArg (_ + ·) (ix_ent (rest m c) _ _ _ e0 e1).symm

end Cert.GateDxIdeal.Mm

namespace Cert.GateDxReferenceIdeal.Mm

open Cert.GateDxReferenceIdeal Cert.GateDxReferenceIdeal.Gen Cert.Mm
open Idealize.ShloMosaic Idealize.ShloMosaic.TcCoe Idealize.ShloMosaic.Tactic Idealize.SL.Sem

/-- The reference's result, as it computes it. -/
abbrev result (x : FVec Ideal S16384x4096 .bf16) (w : FVec Ideal S1024x4096 .bf16) (z : FVec Ideal S16384x1024 .f32) : FVec Ideal S16384x1024 .f32 :=
  addf (Host.dotGeneral dot_S16384x4096_S1024x4096_S16384x1024_1_1_0_0_n_n none (extf .f32 x bitsLt_bf16_f32) (extf .f32 w bitsLt_bf16_f32)) z

theorem result_at (x : FVec Ideal S16384x4096 .bf16) (w : FVec Ideal S1024x4096 .bf16) (z : FVec Ideal S16384x1024 .f32) (i : Fin 16384) (j : Fin 1024) :
    result x w z (ix2 i j) = (∑ k : Fin 4096, x (ix2 i k) * w (ix2 j k)) + z (ix2 i j) := by
  pointwise [result]

theorem result_eq (x : FVec Ideal S16384x4096 .bf16) (w : FVec Ideal S1024x4096 .bf16) (z : FVec Ideal S16384x1024 .f32) : result x w z = plus (prodNT x w) z :=
  mat_ext fun i j => (result_at x w z i j).trans (congrArg (· + _) (prodNT_at x w i j).symm)

/-- The reference ends with its arguments unchanged and no semaphore raised. -/
theorem frame : Cert.quiescent_GateDxReferenceIdeal (hGateDxReferenceIdeal := Cert.GateDxReferenceIdeal.Gen.facts) := fun m ρ _ =>
  (θ_run Cert.GateDxReferenceIdeal.defs _ _).mono (fun r h => ⟨fun c => (h c).2, sem_eq_zero_of_no_sems (by decide) r.2⟩) (Cert.GateDxReferenceIdeal.Value.run (F := Ideal) m ρ)

/-- Kernel and reference end with the same product and unchanged arguments. -/
theorem algebraic : Cert.algebraic_GateDxIdeal_GateDxReferenceIdeal (hGateDxIdeal := Cert.GateDxIdeal.Gen.facts) (hGateDxReferenceIdeal := Cert.GateDxReferenceIdeal.Gen.facts) := by
  intro m g m' g' _ ha
  refine ⟨fun c => plus (prodNT (Cert.GateDxIdeal.Mm.lhs m c) (Cert.GateDxIdeal.Mm.rhs m c)) (Cert.GateDxIdeal.Mm.rest m c), ?_, ?_⟩
  · exact (θ_run Cert.GateDxIdeal.defs _ _).mono (fun r h c => ⟨((h.1 c).1 3).trans (Cert.GateDxIdeal.Mm.out_arr m c), h.2.1 c⟩)
      (θ_run_and (Cert.GateDxIdeal.Gen.run_main m g) (Cert.GateDxIdeal.Gen.frame m g))
  · refine (θ_run Cert.GateDxReferenceIdeal.defs _ _).mono (fun r h c => ?_) (Cert.GateDxReferenceIdeal.Value.run (F := Ideal) m' g')
    obtain ⟨h0, h1, h2⟩ := ha c
    obtain ⟨r0, rest⟩ := h c
    refine ⟨r0.trans ((result_eq _ _ _).trans ?_), rest⟩
    exact congrArg₃ (fun x w z => plus (prodNT x w) z) h0 h1 h2

end Cert.GateDxReferenceIdeal.Mm
end
-- ==== Proof.GateDw.lean ====
/- The gradient of the gates' weights: what the kernel computes block by block, and that the reference computes the same. -/
module

public import proofs.«01_k».proof.Proof.Mm
public import proofs.«01_k».proof.Defs
public import proofs.«01_k».proof.Proof.Gen.GateDwIdeal
public import proofs.«01_k».proof.Proof.Gen.GateDwIdeal.Frame
public import proofs.«01_k».proof.Proof.Gen.GateDwReferenceIdeal
public import proofs.«01_k».proof.Proof.Gen.GateDwReferenceIdeal.Run
public import Idealize.ShloMosaic.Lib.Pipeline.ValueKit
public import Idealize.ShloMosaic.Adequacy
public import Idealize.ShloMosaic.Init

@[expose] public section

noncomputable section

namespace Cert.GateDwIdeal.Mm

open Cert.GateDwIdeal Cert.GateDwIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole)
  (x : Vec Ideal S1024x1024 .f32) (y : Vec Ideal S1024x1024 .bf16) (s : Vec Ideal S1024x1024 .f32)

theorem first (hc0 : cond0_0 i) (hc1 : ¬cond0_1 i) :
    sout0_A_0 c i a3 h3 a4 h4 a5 h5 a6 h6 hc0 hc1 x y = k0_pay2 x y (k0_pay1 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  simp only [View.canon_unit_zero (S := S1024x1024) offset_zero, View.canon_cons_unit_zero (S := S1024x1024) offset_zero, View.readCov_unit_zero (S := S1024x1024) _ offset_zero,
    View.readAt_eq_ld, h3.read_unread, h4.read_unread, View.ld_unit_zero (S := S1024x1024) offset_zero, shapeCast_self]

theorem next (hc0 : ¬cond0_0 i) (hc1 : ¬cond0_1 i) :
    sout0_B_0 c i a3 h3 a4 h4 a5 h5 a6 h6 hc0 hc1 x y s = k0_pay2 x y s := by
  unfold sout0_B_0
  rw [View.read_writes_eq_canon _ _ _ (scover0_B_0 c i a3 h3 a4 h4 a5 h5 a6 h6 hc0 hc1 x y s)]
  unfold kernelRun0_B
  dsimp only
  simp only [View.canon_unit_zero (S := S1024x1024) offset_zero, View.canon_cons_unit_zero (S := S1024x1024) offset_zero, View.readCov_unit_zero (S := S1024x1024) _ offset_zero,
    View.readAt_eq_ld, h3.read_unread, h4.read_unread, h6.read_unread, View.ld_unit_zero (S := S1024x1024) offset_zero, shapeCast_self]

theorem last (hc0 : ¬cond0_0 i) (hc1 : cond0_1 i) :
    sout0_C_0 c i a3 h3 a4 h4 a5 h5 a6 h6 hc0 hc1 x y s = k0_pay2 x y s := by
  unfold sout0_C_0
  rw [View.read_writes_eq_canon _ _ _ (scover0_C_0 c i a3 h3 a4 h4 a5 h5 a6 h6 hc0 hc1 x y s)]
  unfold kernelRun0_C
  dsimp only
  sl_unfold_words
  simp only [View.canon_unit_zero (S := S1024x1024) offset_zero, View.canon_cons_unit_zero (S := S1024x1024) offset_zero, View.readCov_unit_zero (S := S1024x1024) _ offset_zero,
    View.readAt_eq_ld, h3.read_unread, h4.read_unread, h6.read_unread, View.ld_unit_zero (S := S1024x1024) offset_zero, shapeCast_self]

theorem out (hc0 : ¬cond0_0 i) (hc1 : cond0_1 i) :
    out0_C_2 c i a3 h3 a4 h4 a5 h5 a6 h6 hc0 hc1 x y s = k0_pay3 (k0_pay2 x y s) := by
  unfold out0_C_2
  rw [View.read_writes_eq_canon _ _ _ (cover0_C_2 c i a3 h3 a4 h4 a5 h5 a6 h6 hc0 hc1 x y s)]
  unfold kernelRun0_C
  dsimp only
  sl_unfold_words
  simp only [View.canon_unit_zero (S := S1024x1024) offset_zero, View.readCov_unit_zero (S := S1024x1024) _ offset_zero,
    View.readAt_eq_ld, h3.read_unread, h4.read_unread, h6.read_unread, View.ld_unit_zero (S := S1024x1024) offset_zero, shapeCast_self]

end Cases

theorem pay1_at (i : Fin 1024) (j : Fin 1024) : k0_pay1 (F := Ideal) (ix2 i j) = 0 := by
  pointwise [k0_pay1]

theorem pay2_at (x : Vec Ideal S1024x1024 .f32) (y : Vec Ideal S1024x1024 .bf16) (s : Vec Ideal S1024x1024 .f32) (i : Fin 1024) (j : Fin 1024) :
    k0_pay2 (F := Ideal) x y s (ix2 i j) = s (ix2 i j) + ∑ k : Fin 1024, x (ix2 k i) * y (ix2 k j) := by
  pointwise [k0_pay2]

theorem pay3_at (s : Vec Ideal S1024x1024 .f32) (i : Fin 1024) (j : Fin 1024) : k0_pay3 (F := Ideal) s (ix2 i j) = s (ix2 i j) := by
  pointwise [k0_pay3]

/-! ## Where the blocks lie in their arrays -/

theorem index_0 : ∀ t : Fin cfg0.N, win0_0.index t = ![t.val % 16, 0] := (by decide +kernel : ∀ t : Fin grid0.N, _)
theorem index_1 : ∀ t : Fin cfg0.N, win0_1.index t = ![t.val % 16, t.val / 16] := (by decide +kernel : ∀ t : Fin grid0.N, _)
theorem index_2 : ∀ t : Fin cfg0.N, win0_2.index t = ![0, t.val / 16] := (by decide +kernel : ∀ t : Fin grid0.N, _)
theorem lt_N (t : Fin cfg0.N) : t.val < 64 := t.isLt

variable (m : (ℓ : Loc nD τ sig) → Buf (Elt Ideal) ℓ) (c : Dev nD)

abbrev lhs : Mat 16384 1024 := m ((c.tc : Thread nD τ).loc main_arg0)
abbrev rhs : Mat 16384 4096 := m ((c.tc : Thread nD τ).loc main_arg1)

theorem blk_0 (t : Fin cfg0.N) (i : Fin 1024) (k : Fin 1024) :
    iblk m c 0 t (ix2 i k) = ent (lhs m c) (1024 * (t.val % 16) + i.val) (0 + k.val) := by
  blk_simp [iblk]
  refine ix_ent (lhs m c) _ _ _ ?_ ?_
  all_goals simp [index_0, Nat.mul_comm]

theorem blk_1 (t : Fin cfg0.N) (i : Fin 1024) (k : Fin 1024) :
    iblk m c 1 t (ix2 i k) = ent (rhs m c) (1024 * (t.val % 16) + i.val) (1024 * (t.val / 16) + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x1024 .f32) (y : Vec Ideal S1024x1024 .bf16) (hx : x = iblk m c 0 t) (hy : y = iblk m c 1 t)
    (i : Fin 1024) (j : Fin 1024) :
    ∑ k : Fin 1024, x (ix2 k i) * y (ix2 k j)
      = part (tn (lhs m c) (rhs m c) (0 + i.val) (1024 * (t.val / 16) + j.val)) 1024 (t.val % 16) := by
  refine Finset.sum_congr rfl fun k _ => ?_
  rw [hx, hy, blk_0, blk_1]
  rfl

/-- What a block's first point leaves in the running sum. -/
theorem step_first (t : Fin cfg0.N) (h : t.val % 16 = 0) (i : Fin 1024) (j : Fin 1024) :
    (outsAt0 m c t.val t.isLt).2 (ix2 i j) = part (tn (lhs m c) (rhs m c) (0 + i.val) (1024 * (t.val / 16) + j.val)) 1024 (t.val % 16) := by
  rw [outsAt0_A m c t h (by omega)]
  dsimp only
  rw [first, pay2_at, pay1_at, zero_add]
  exact part_eq m c t _ _ rfl rfl i j

/-- What a later point adds to the running sum. -/
theorem step_next (t : Fin cfg0.N) (h : t.val % 16 ≠ 0) (i : Fin 1024) (j : Fin 1024) :
    (outsAt0 m c t.val t.isLt).2 (ix2 i j) = (outsAt0 m c (t.val - 1) (lt_of_le_of_lt (Nat.sub_le _ _) t.isLt)).2 (ix2 i j)
      + part (tn (lhs m c) (rhs m c) (0 + i.val) (1024 * (t.val / 16) + j.val)) 1024 (t.val % 16) := by
  refine Eq.trans ?_ (congrArg (_ + ·) (part_eq m c t _ _ rfl rfl i j))
  by_cases hl : t.val % 16 = 15
  · rw [outsAt0_C m c t h hl]
    dsimp only
    rw [last, pay2_at]
  · rw [outsAt0_B m c t h hl]
    dsimp only
    rw [next, pay2_at]

/-- The result's block at the point that writes it back. -/
theorem block (t : Fin cfg0.N) (h : t.val % 16 = 15) (i : Fin 1024) (j : Fin 1024) :
    (outsAt0 m c t.val t.isLt).1 (ix2 i j) = (∑ k : Fin 16384, tn (lhs m c) (rhs m c) (0 + i.val) (1024 * (t.val / 16) + j.val) k.val) := by
  have e : (outsAt0 m c t.val t.isLt).1 = k0_pay3 ((outsAt0 m c t.val t.isLt).2) := by
    rw [outsAt0_C m c t (by omega) h]
    dsimp only
    rw [out, last]
  rw [e, pay3_at]
  exact held 16 1024 16384 (by norm_num) rfl (fun n h => (outsAt0 m c n h).2) (tn (lhs m c) (rhs m c)) (fun _ => 0) (fun q => 1024 * (q))
    (fun n h e => step_first m c ⟨n, h⟩ e) (fun n h e => step_next m c ⟨n, h⟩ e) t.val t.isLt h i j

theorem emb_out (t : Fin cfg0.N) (i : Fin 1024) (j : Fin 1024) :
    ((win0_2.blk t).view.emb (ix2 i j) 0).val = 0 + i.val ∧ ((win0_2.blk t).view.emb (ix2 i j) 1).val = 1024 * (t.val / 16) + j.val := by
  constructor
  all_goals blk_simp []
  all_goals simp [index_2, Nat.mul_comm]

/-- The result array after the last point. -/
theorem out_arr : (dats m 0 c).arrAt 2 cfg0.N = prodTN (lhs m c) (rhs m c) := by
  refine (dats m 0 c).arrAt_eq_of_covers 2 (prodTN (lhs m c) (rhs m c)) (by decide +kernel) fun t hf y => ?_
  blk_simp
  obtain ⟨i, j, rfl⟩ : ∃ (i : Fin 1024) (j : Fin 1024), y = ix2 i j := ⟨y 0, y 1, ix_eq y⟩
  rw [after0_2]
  obtain ⟨e0, e1⟩ := emb_out t i j
  refine (block m c t ((flush0_2 t).mp hf) i j).trans ?_
  unfold prodTN
  rw [e0, e1]

end Cert.GateDwIdeal.Mm

namespace Cert.GateDwReferenceIdeal.Mm

open Cert.GateDwReferenceIdeal Cert.GateDwReferenceIdeal.Gen Cert.Mm
open Idealize.ShloMosaic Idealize.ShloMosaic.TcCoe Idealize.ShloMosaic.Tactic Idealize.SL.Sem

/-- The reference's result, as it computes it. -/
abbrev result (x : FVec Ideal S16384x1024 .f32) (w : FVec Ideal S16384x4096 .bf16) : FVec Ideal S1024x4096 .bf16 :=
  truncf .bf16 (transpose S1024x4096 [1, 0] (Host.dotGeneral dot_S16384x4096_S16384x1024_S4096x1024_0_0_1_1_n_n none (extf .f32 w bitsLt_bf16_f32) x) transposes_S4096x1024_S1024x4096_1_0) bitsLt_bf16_f32

theorem result_at (x : FVec Ideal S16384x1024 .f32) (w : FVec Ideal S16384x4096 .bf16) (i : Fin 1024) (j : Fin 4096) :
    result x w (ix2 i j) = (∑ k : Fin 16384, w (ix2 k j) * x (ix2 k i)) := by
  pointwise [result]

theorem result_eq (x : FVec Ideal S16384x1024 .f32) (w : FVec Ideal S16384x4096 .bf16) : result x w = prodTN x w :=
  mat_ext fun i j => (result_at x w i j).trans (prodTN_at x w i j).symm

/-- The reference ends with its arguments unchanged and no semaphore raised. -/
theorem frame : Cert.quiescent_GateDwReferenceIdeal (hGateDwReferenceIdeal := Cert.GateDwReferenceIdeal.Gen.facts) := fun m ρ _ =>
  (θ_run Cert.GateDwReferenceIdeal.defs _ _).mono (fun r h => ⟨fun c => (h c).2, sem_eq_zero_of_no_sems (by decide) r.2⟩) (Cert.GateDwReferenceIdeal.Value.run (F := Ideal) m ρ)

/-- Kernel and reference end with the same product and unchanged arguments. -/
theorem algebraic : Cert.algebraic_GateDwIdeal_GateDwReferenceIdeal (hGateDwIdeal := Cert.GateDwIdeal.Gen.facts) (hGateDwReferenceIdeal := Cert.GateDwReferenceIdeal.Gen.facts) := by
  intro m g m' g' _ ha
  refine ⟨fun c => prodTN (Cert.GateDwIdeal.Mm.lhs m c) (Cert.GateDwIdeal.Mm.rhs m c), ?_, ?_⟩
  · exact (θ_run Cert.GateDwIdeal.defs _ _).mono (fun r h c => ⟨((h.1 c).1 2).trans (Cert.GateDwIdeal.Mm.out_arr m c), h.2.1 c⟩)
      (θ_run_and (Cert.GateDwIdeal.Gen.run_main m g) (Cert.GateDwIdeal.Gen.frame m g))
  · refine (θ_run Cert.GateDwReferenceIdeal.defs _ _).mono (fun r h c => ?_) (Cert.GateDwReferenceIdeal.Value.run (F := Ideal) m' g')
    obtain ⟨h0, h1⟩ := ha c
    obtain ⟨r0, rest⟩ := h c
    refine ⟨r0.trans ((result_eq _ _).trans ?_), rest⟩
    exact congrArg₂ prodTN h0 h1

end Cert.GateDwReferenceIdeal.Mm
end
-- ==== Proof.BranchFwd.lean ====
/- A branch's product: what the kernel computes block by block, and that the reference computes the same. -/
module

public import proofs.«01_k».proof.Proof.Mm
public import proofs.«01_k».proof.Defs
public import proofs.«01_k».proof.Proof.Gen.BranchFwdIdeal
public import proofs.«01_k».proof.Proof.Gen.BranchFwdIdeal.Frame
public import proofs.«01_k».proof.Proof.Gen.BranchFwdReferenceIdeal
public import proofs.«01_k».proof.Proof.Gen.BranchFwdReferenceIdeal.Run
public import Idealize.ShloMosaic.Lib.Pipeline.ValueKit
public import Idealize.ShloMosaic.Adequacy
public import Idealize.ShloMosaic.Init

@[expose] public section

noncomputable section

namespace Cert.BranchFwdIdeal.Mm

open Cert.BranchFwdIdeal Cert.BranchFwdIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x256 .f32) (h3 : a3.IsWhole) (a4 : Memref sig .tc .vmem S256x1024 .bf16) (h4 : a4.IsWhole) (a5 : Memref sig .tc .vmem S1024x1024 .bf16) (h5 : a5.IsWhole) (a6 : Memref sig .tc .vmem S1024x1024 .f32) (h6 : a6.IsWhole)
  (x : Vec Ideal S1024x256 .f32) (y : Vec Ideal S256x1024 .bf16) (s : Vec Ideal S1024x1024 .f32)

theorem out (hc0 : cond0_0 i) (hc1 : cond0_1 i) :
    out0_A_2 c i a3 h3 a4 h4 a5 h5 a6 h6 hc0 hc1 x y = k0_pay3 (k0_pay2 x y (k0_pay1 (F := Ideal))) := by
  unfold out0_A_2
  rw [View.read_writes_eq_canon _ _ _ (cover0_A_2 c i a3 h3 a4 h4 a5 h5 a6 h6 hc0 hc1 x y)]
  unfold kernelRun0_A
  dsimp only
  sl_unfold_words
  simp only [View.canon_unit_zero (S := S1024x1024) offset_zero, View.readCov_unit_zero (S := S1024x1024) _ offset_zero,
    View.readAt_eq_ld, h3.read_unread, h4.read_unread, View.ld_unit_zero (S := S1024x256) offset_zero, View.ld_unit_zero (S := S256x1024) offset_zero, View.ld_unit_zero (S := S1024x1024) offset_zero, shapeCast_self]
  exact congrArg k0_pay3 (View.readCov_cons_unit_lit' (S := S1024x1024) a6.view _ _ _ _ (congrFun offset_zero) (congrFun offset_zero))

end Cases

theorem pay1_at (i : Fin 1024) (j : Fin 1024) : k0_pay1 (F := Ideal) (ix2 i j) = 0 := by
  pointwise [k0_pay1]

theorem pay2_at (x : Vec Ideal S1024x256 .f32) (y : Vec Ideal S256x1024 .bf16) (s : Vec Ideal S1024x1024 .f32) (i : Fin 1024) (j : Fin 1024) :
    k0_pay2 (F := Ideal) x y s (ix2 i j) = s (ix2 i j) + ∑ k : Fin 256, x (ix2 i k) * y (ix2 k j) := by
  pointwise [k0_pay2]

theorem pay3_at (s : Vec Ideal S1024x1024 .f32) (i : Fin 1024) (j : Fin 1024) : k0_pay3 (F := Ideal) s (ix2 i j) = s (ix2 i j) := by
  pointwise [k0_pay3]

/-! ## Where the blocks lie in their arrays -/

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem lt_N (t : Fin cfg0.N) : t.val < 16 := t.isLt

variable (m : (ℓ : Loc nD τ sig) → Buf (Elt Ideal) ℓ) (c : Dev nD)

abbrev lhs : Mat 16384 256 := m ((c.tc : Thread nD τ).loc main_arg0)
abbrev rhs : Mat 256 1024 := m ((c.tc : Thread nD τ).loc main_arg1)

theorem blk_0 (t : Fin cfg0.N) (i : Fin 1024) (k : Fin 256) :
    iblk m c 0 t (ix2 i k) = ent (lhs m c) (1024 * (t.val) + i.val) (0 + k.val) := by
  blk_simp [iblk]
  refine ix_ent (lhs m c) _ _ _ ?_ ?_
  all_goals simp [index_0, Nat.mul_comm]

theorem blk_1 (t : Fin cfg0.N) (i : Fin 256) (k : Fin 1024) :
    iblk m c 1 t (ix2 i k) = ent (rhs m c) (0 + i.val) (0 + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x256 .f32) (y : Vec Ideal S256x1024 .bf16) (hx : x = iblk m c 0 t) (hy : y = iblk m c 1 t)
    (i : Fin 1024) (j : Fin 1024) :
    ∑ k : Fin 256, x (ix2 i k) * y (ix2 k j)
      = part (nn (lhs m c) (rhs m c) (1024 * (t.val) + i.val) (0 + j.val)) 256 (0) := by
  refine Finset.sum_congr rfl fun k _ => ?_
  rw [hx, hy, blk_0, blk_1]
  simp only [Nat.mul_zero, Nat.zero_add]
  rfl

/-- The result's block after its point. -/
theorem block (t : Fin cfg0.N) (i : Fin 1024) (j : Fin 1024) :
    outsAt0 m c t (ix2 i j) = ∑ k : Fin 256, nn (lhs m c) (rhs m c) (1024 * (t.val) + i.val) (0 + j.val) k.val := by
  unfold outsAt0
  rw [out, pay3_at, pay2_at, pay1_at, zero_add]
  refine (part_eq m c t _ _ rfl rfl i j).trans (Eq.trans ?_ (sum_parts 1 256 rfl _))
  rw [Finset.sum_range_one]

theorem emb_out (t : Fin cfg0.N) (i : Fin 1024) (j : Fin 1024) :
    ((win0_2.blk t).view.emb (ix2 i j) 0).val = 1024 * (t.val) + i.val ∧ ((win0_2.blk t).view.emb (ix2 i j) 1).val = 0 + j.val := by
  constructor
  all_goals blk_simp []
  all_goals simp [index_2, Nat.mul_comm]

/-- The result array after the last point. -/
theorem out_arr : (dats m 0 c).arrAt 2 cfg0.N = prodNN (lhs m c) (rhs m c) := by
  refine (dats m 0 c).arrAt_eq_of_covers 2 (prodNN (lhs m c) (rhs m c)) (by decide +kernel) fun t hf y => ?_
  blk_simp
  obtain ⟨i, j, rfl⟩ : ∃ (i : Fin 1024) (j : Fin 1024), y = ix2 i j := ⟨y 0, y 1, ix_eq y⟩
  rw [after0_2]
  obtain ⟨e0, e1⟩ := emb_out t i j
  refine (block m c t i j).trans ?_
  unfold prodNN
  rw [e0, e1]

end Cert.BranchFwdIdeal.Mm

namespace Cert.BranchFwdReferenceIdeal.Mm

open Cert.BranchFwdReferenceIdeal Cert.BranchFwdReferenceIdeal.Gen Cert.Mm
open Idealize.ShloMosaic Idealize.ShloMosaic.TcCoe Idealize.ShloMosaic.Tactic Idealize.SL.Sem

/-- The reference's result, as it computes it. -/
abbrev result (x : FVec Ideal S16384x256 .f32) (w : FVec Ideal S256x1024 .bf16) : FVec Ideal S16384x1024 .bf16 :=
  truncf .bf16 (Host.dotGeneral dot_S16384x256_S256x1024_S16384x1024_1_0_0_1_n_n none x (extf .f32 w bitsLt_bf16_f32)) bitsLt_bf16_f32

theorem result_at (x : FVec Ideal S16384x256 .f32) (w : FVec Ideal S256x1024 .bf16) (i : Fin 16384) (j : Fin 1024) :
    result x w (ix2 i j) = (∑ k : Fin 256, x (ix2 i k) * w (ix2 k j)) := by
  pointwise [result]

theorem result_eq (x : FVec Ideal S16384x256 .f32) (w : FVec Ideal S256x1024 .bf16) : result x w = prodNN x w :=
  mat_ext fun i j => (result_at x w i j).trans (prodNN_at x w i j).symm

/-- The reference ends with its arguments unchanged and no semaphore raised. -/
theorem frame : Cert.quiescent_BranchFwdReferenceIdeal (hBranchFwdReferenceIdeal := Cert.BranchFwdReferenceIdeal.Gen.facts) := fun m ρ _ =>
  (θ_run Cert.BranchFwdReferenceIdeal.defs _ _).mono (fun r h => ⟨fun c => (h c).2, sem_eq_zero_of_no_sems (by decide) r.2⟩) (Cert.BranchFwdReferenceIdeal.Value.run (F := Ideal) m ρ)

/-- Kernel and reference end with the same product and unchanged arguments. -/
theorem algebraic : Cert.algebraic_BranchFwdIdeal_BranchFwdReferenceIdeal (hBranchFwdIdeal := Cert.BranchFwdIdeal.Gen.facts) (hBranchFwdReferenceIdeal := Cert.BranchFwdReferenceIdeal.Gen.facts) := by
  intro m g m' g' _ ha
  refine ⟨fun c => prodNN (Cert.BranchFwdIdeal.Mm.lhs m c) (Cert.BranchFwdIdeal.Mm.rhs m c), ?_, ?_⟩
  · exact (θ_run Cert.BranchFwdIdeal.defs _ _).mono (fun r h c => ⟨((h.1 c).1 2).trans (Cert.BranchFwdIdeal.Mm.out_arr m c), h.2.1 c⟩)
      (θ_run_and (Cert.BranchFwdIdeal.Gen.run_main m g) (Cert.BranchFwdIdeal.Gen.frame m g))
  · refine (θ_run Cert.BranchFwdReferenceIdeal.defs _ _).mono (fun r h c => ?_) (Cert.BranchFwdReferenceIdeal.Value.run (F := Ideal) m' g')
    obtain ⟨h0, h1⟩ := ha c
    obtain ⟨r0, rest⟩ := h c
    refine ⟨r0.trans ((result_eq _ _).trans ?_), rest⟩
    exact congrArg₂ prodNN h0 h1

end Cert.BranchFwdReferenceIdeal.Mm
end
-- ==== Proof.BranchDx.lean ====
/- The gradient of a branch's product's input: what the kernel computes block by block, and that the reference computes the same. -/
module

public import proofs.«01_k».proof.Proof.Mm
public import proofs.«01_k».proof.Defs
public import proofs.«01_k».proof.Proof.Gen.BranchDxIdeal
public import proofs.«01_k».proof.Proof.Gen.BranchDxIdeal.Frame
public import proofs.«01_k».proof.Proof.Gen.BranchDxReferenceIdeal
public import proofs.«01_k».proof.Proof.Gen.BranchDxReferenceIdeal.Run
public import Idealize.ShloMosaic.Lib.Pipeline.ValueKit
public import Idealize.ShloMosaic.Adequacy
public import Idealize.ShloMosaic.Init

@[expose] public section

noncomputable section

namespace Cert.BranchDxIdeal.Mm

open Cert.BranchDxIdeal Cert.BranchDxIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x1024 .bf16) (h3 : a3.IsWhole) (a4 : Memref sig .tc .vmem S256x1024 .bf16) (h4 : a4.IsWhole) (a5 : Memref sig .tc .vmem S1024x256 .f32) (h5 : a5.IsWhole) (a6 : Memref sig .tc .vmem S1024x256 .f32) (h6 : a6.IsWhole)
  (x : Vec Ideal S1024x1024 .bf16) (y : Vec Ideal S256x1024 .bf16) (s : Vec Ideal S1024x256 .f32)

theorem out (hc0 : cond0_0 i) (hc1 : cond0_1 i) :
    out0_A_2 c i a3 h3 a4 h4 a5 h5 a6 h6 hc0 hc1 x y = k0_pay2 x y (k0_pay1 (F := Ideal)) := by
  unfold out0_A_2
  rw [View.read_writes_eq_canon _ _ _ (cover0_A_2 c i a3 h3 a4 h4 a5 h5 a6 h6 hc0 hc1 x y)]
  unfold kernelRun0_A
  dsimp only
  sl_unfold_words
  simp only [View.canon_unit_zero (S := S1024x256) offset_zero, View.readCov_unit_zero (S := S1024x256) _ offset_zero,
    View.readAt_eq_ld, h3.read_unread, h4.read_unread, View.ld_unit_zero (S := S1024x1024) offset_zero, View.ld_unit_zero (S := S256x1024) offset_zero, View.ld_unit_zero (S := S1024x256) offset_zero, shapeCast_self]
  exact (View.readCov_cons_unit_lit' (S := S1024x256) a6.view _ _ _ _ (congrFun offset_zero) (congrFun offset_zero))

end Cases

theorem pay1_at (i : Fin 1024) (j : Fin 256) : k0_pay1 (F := Ideal) (ix2 i j) = 0 := by
  pointwise [k0_pay1]

theorem pay2_at (x : Vec Ideal S1024x1024 .bf16) (y : Vec Ideal S256x1024 .bf16) (s : Vec Ideal S1024x256 .f32) (i : Fin 1024) (j : Fin 256) :
    k0_pay2 (F := Ideal) x y s (ix2 i j) = s (ix2 i j) + ∑ k : Fin 1024, x (ix2 i k) * y (ix2 j k) := by
  pointwise [k0_pay2]

/-! ## Where the blocks lie in their arrays -/

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem lt_N (t : Fin cfg0.N) : t.val < 16 := t.isLt

variable (m : (ℓ : Loc nD τ sig) → Buf (Elt Ideal) ℓ) (c : Dev nD)

abbrev lhs : Mat 16384 1024 := m ((c.tc : Thread nD τ).loc main_arg0)
abbrev rhs : Mat 256 1024 := m ((c.tc : Thread nD τ).loc main_arg1)

theorem blk_0 (t : Fin cfg0.N) (i : Fin 1024) (k : Fin 1024) :
    iblk m c 0 t (ix2 i k) = ent (lhs m c) (1024 * (t.val) + i.val) (0 + k.val) := by
  blk_simp [iblk]
  refine ix_ent (lhs m c) _ _ _ ?_ ?_
  all_goals simp [index_0, Nat.mul_comm]

theorem blk_1 (t : Fin cfg0.N) (i : Fin 256) (k : Fin 1024) :
    iblk m c 1 t (ix2 i k) = ent (rhs m c) (0 + i.val) (0 + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x1024 .bf16) (y : Vec Ideal S256x1024 .bf16) (hx : x = iblk m c 0 t) (hy : y = iblk m c 1 t)
    (i : Fin 1024) (j : Fin 256) :
    ∑ k : Fin 1024, x (ix2 i k) * y (ix2 j k)
      = part (nt (lhs m c) (rhs m c) (1024 * (t.val) + i.val) (0 + j.val)) 1024 (0) := by
  refine Finset.sum_congr rfl fun k _ => ?_
  rw [hx, hy, blk_0, blk_1]
  simp only [Nat.mul_zero, Nat.zero_add]
  rfl

/-- The result's block after its point. -/
theorem block (t : Fin cfg0.N) (i : Fin 1024) (j : Fin 256) :
    outsAt0 m c t (ix2 i j) = ∑ k : Fin 1024, nt (lhs m c) (rhs m c) (1024 * (t.val) + i.val) (0 + j.val) k.val := by
  unfold outsAt0
  rw [out, pay2_at, pay1_at, zero_add]
  refine (part_eq m c t _ _ rfl rfl i j).trans (Eq.trans ?_ (sum_parts 1 1024 rfl _))
  rw [Finset.sum_range_one]

theorem emb_out (t : Fin cfg0.N) (i : Fin 1024) (j : Fin 256) :
    ((win0_2.blk t).view.emb (ix2 i j) 0).val = 1024 * (t.val) + i.val ∧ ((win0_2.blk t).view.emb (ix2 i j) 1).val = 0 + j.val := by
  constructor
  all_goals blk_simp []
  all_goals simp [index_2, Nat.mul_comm]

/-- The result array after the last point. -/
theorem out_arr : (dats m 0 c).arrAt 2 cfg0.N = prodNT (lhs m c) (rhs m c) := by
  refine (dats m 0 c).arrAt_eq_of_covers 2 (prodNT (lhs m c) (rhs m c)) (by decide +kernel) fun t hf y => ?_
  blk_simp
  obtain ⟨i, j, rfl⟩ : ∃ (i : Fin 1024) (j : Fin 256), y = ix2 i j := ⟨y 0, y 1, ix_eq y⟩
  rw [after0_2]
  obtain ⟨e0, e1⟩ := emb_out t i j
  refine (block m c t i j).trans ?_
  unfold prodNT
  rw [e0, e1]

end Cert.BranchDxIdeal.Mm

namespace Cert.BranchDxReferenceIdeal.Mm

open Cert.BranchDxReferenceIdeal Cert.BranchDxReferenceIdeal.Gen Cert.Mm
open Idealize.ShloMosaic Idealize.ShloMosaic.TcCoe Idealize.ShloMosaic.Tactic Idealize.SL.Sem

/-- The reference's result, as it computes it. -/
abbrev result (x : FVec Ideal S16384x1024 .bf16) (w : FVec Ideal S256x1024 .bf16) : FVec Ideal S16384x256 .f32 :=
  Host.dotGeneral dot_S16384x1024_S256x1024_S16384x256_1_1_0_0_n_n none (extf .f32 x bitsLt_bf16_f32) (extf .f32 w bitsLt_bf16_f32)

theorem result_at (x : FVec Ideal S16384x1024 .bf16) (w : FVec Ideal S256x1024 .bf16) (i : Fin 16384) (j : Fin 256) :
    result x w (ix2 i j) = (∑ k : Fin 1024, x (ix2 i k) * w (ix2 j k)) := by
  pointwise [result]

theorem result_eq (x : FVec Ideal S16384x1024 .bf16) (w : FVec Ideal S256x1024 .bf16) : result x w = prodNT x w :=
  mat_ext fun i j => (result_at x w i j).trans (prodNT_at x w i j).symm

/-- The reference ends with its arguments unchanged and no semaphore raised. -/
theorem frame : Cert.quiescent_BranchDxReferenceIdeal (hBranchDxReferenceIdeal := Cert.BranchDxReferenceIdeal.Gen.facts) := fun m ρ _ =>
  (θ_run Cert.BranchDxReferenceIdeal.defs _ _).mono (fun r h => ⟨fun c => (h c).2, sem_eq_zero_of_no_sems (by decide) r.2⟩) (Cert.BranchDxReferenceIdeal.Value.run (F := Ideal) m ρ)

/-- Kernel and reference end with the same product and unchanged arguments. -/
theorem algebraic : Cert.algebraic_BranchDxIdeal_BranchDxReferenceIdeal (hBranchDxIdeal := Cert.BranchDxIdeal.Gen.facts) (hBranchDxReferenceIdeal := Cert.BranchDxReferenceIdeal.Gen.facts) := by
  intro m g m' g' _ ha
  refine ⟨fun c => prodNT (Cert.BranchDxIdeal.Mm.lhs m c) (Cert.BranchDxIdeal.Mm.rhs m c), ?_, ?_⟩
  · exact (θ_run Cert.BranchDxIdeal.defs _ _).mono (fun r h c => ⟨((h.1 c).1 2).trans (Cert.BranchDxIdeal.Mm.out_arr m c), h.2.1 c⟩)
      (θ_run_and (Cert.BranchDxIdeal.Gen.run_main m g) (Cert.BranchDxIdeal.Gen.frame m g))
  · refine (θ_run Cert.BranchDxReferenceIdeal.defs _ _).mono (fun r h c => ?_) (Cert.BranchDxReferenceIdeal.Value.run (F := Ideal) m' g')
    obtain ⟨h0, h1⟩ := ha c
    obtain ⟨r0, rest⟩ := h c
    refine ⟨r0.trans ((result_eq _ _).trans ?_), rest⟩
    exact congrArg₂ prodNT h0 h1

end Cert.BranchDxReferenceIdeal.Mm
end
-- ==== Proof.BranchDw.lean ====
/- The gradient of a branch's product's weights: what the kernel computes block by block, and that the reference computes the same. -/
module

public import proofs.«01_k».proof.Proof.Mm
public import proofs.«01_k».proof.Defs
public import proofs.«01_k».proof.Proof.Gen.BranchDwIdeal
public import proofs.«01_k».proof.Proof.Gen.BranchDwIdeal.Frame
public import proofs.«01_k».proof.Proof.Gen.BranchDwReferenceIdeal
public import proofs.«01_k».proof.Proof.Gen.BranchDwReferenceIdeal.Run
public import Idealize.ShloMosaic.Lib.Pipeline.ValueKit
public import Idealize.ShloMosaic.Adequacy
public import Idealize.ShloMosaic.Init

@[expose] public section

noncomputable section

namespace Cert.BranchDwIdeal.Mm

open Cert.BranchDwIdeal Cert.BranchDwIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x256 .f32) (h3 : a3.IsWhole) (a4 : Memref sig .tc .vmem S1024x1024 .bf16) (h4 : a4.IsWhole) (a5 : Memref sig .tc .vmem S256x1024 .bf16) (h5 : a5.IsWhole) (a6 : Memref sig .tc .vmem S256x1024 .f32) (h6 : a6.IsWhole)
  (x : Vec Ideal S1024x256 .f32) (y : Vec Ideal S1024x1024 .bf16) (s : Vec Ideal S256x1024 .f32)

theorem first (hc0 : cond0_0 i) (hc1 : ¬cond0_1 i) :
    sout0_A_0 c i a3 h3 a4 h4 a5 h5 a6 h6 hc0 hc1 x y = k0_pay2 x y (k0_pay1 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  simp only [View.canon_unit_zero (S := S256x1024) offset_zero, View.canon_cons_unit_zero (S := S256x1024) offset_zero, View.readCov_unit_zero (S := S256x1024) _ offset_zero,
    View.readAt_eq_ld, h3.read_unread, h4.read_unread, View.ld_unit_zero (S := S1024x256) offset_zero, View.ld_unit_zero (S := S1024x1024) offset_zero, View.ld_unit_zero (S := S256x1024) offset_zero, shapeCast_self]

theorem next (hc0 : ¬cond0_0 i) (hc1 : ¬cond0_1 i) :
    sout0_B_0 c i a3 h3 a4 h4 a5 h5 a6 h6 hc0 hc1 x y s = k0_pay2 x y s := by
  unfold sout0_B_0
  rw [View.read_writes_eq_canon _ _ _ (scover0_B_0 c i a3 h3 a4 h4 a5 h5 a6 h6 hc0 hc1 x y s)]
  unfold kernelRun0_B
  dsimp only
  simp only [View.canon_unit_zero (S := S256x1024) offset_zero, View.canon_cons_unit_zero (S := S256x1024) offset_zero, View.readCov_unit_zero (S := S256x1024) _ offset_zero,
    View.readAt_eq_ld, h3.read_unread, h4.read_unread, h6.read_unread, View.ld_unit_zero (S := S1024x256) offset_zero, View.ld_unit_zero (S := S1024x1024) offset_zero, View.ld_unit_zero (S := S256x1024) offset_zero, shapeCast_self]

theorem last (hc0 : ¬cond0_0 i) (hc1 : cond0_1 i) :
    sout0_C_0 c i a3 h3 a4 h4 a5 h5 a6 h6 hc0 hc1 x y s = k0_pay2 x y s := by
  unfold sout0_C_0
  rw [View.read_writes_eq_canon _ _ _ (scover0_C_0 c i a3 h3 a4 h4 a5 h5 a6 h6 hc0 hc1 x y s)]
  unfold kernelRun0_C
  dsimp only
  sl_unfold_words
  simp only [View.canon_unit_zero (S := S256x1024) offset_zero, View.canon_cons_unit_zero (S := S256x1024) offset_zero, View.readCov_unit_zero (S := S256x1024) _ offset_zero,
    View.readAt_eq_ld, h3.read_unread, h4.read_unread, h6.read_unread, View.ld_unit_zero (S := S1024x256) offset_zero, View.ld_unit_zero (S := S1024x1024) offset_zero, View.ld_unit_zero (S := S256x1024) offset_zero, shapeCast_self]

theorem out (hc0 : ¬cond0_0 i) (hc1 : cond0_1 i) :
    out0_C_2 c i a3 h3 a4 h4 a5 h5 a6 h6 hc0 hc1 x y s = k0_pay3 (k0_pay2 x y s) := by
  unfold out0_C_2
  rw [View.read_writes_eq_canon _ _ _ (cover0_C_2 c i a3 h3 a4 h4 a5 h5 a6 h6 hc0 hc1 x y s)]
  unfold kernelRun0_C
  dsimp only
  sl_unfold_words
  simp only [View.canon_unit_zero (S := S256x1024) offset_zero, View.readCov_unit_zero (S := S256x1024) _ offset_zero,
    View.readAt_eq_ld, h3.read_unread, h4.read_unread, h6.read_unread, View.ld_unit_zero (S := S1024x256) offset_zero, View.ld_unit_zero (S := S1024x1024) offset_zero, View.ld_unit_zero (S := S256x1024) offset_zero, shapeCast_self]

end Cases

theorem pay1_at (i : Fin 256) (j : Fin 1024) : k0_pay1 (F := Ideal) (ix2 i j) = 0 := by
  pointwise [k0_pay1]

theorem pay2_at (x : Vec Ideal S1024x256 .f32) (y : Vec Ideal S1024x1024 .bf16) (s : Vec Ideal S256x1024 .f32) (i : Fin 256) (j : Fin 1024) :
    k0_pay2 (F := Ideal) x y s (ix2 i j) = s (ix2 i j) + ∑ k : Fin 1024, x (ix2 k i) * y (ix2 k j) := by
  pointwise [k0_pay2]

theorem pay3_at (s : Vec Ideal S256x1024 .f32) (i : Fin 256) (j : Fin 1024) : k0_pay3 (F := Ideal) s (ix2 i j) = s (ix2 i j) := by
  pointwise [k0_pay3]

/-! ## Where the blocks lie in their arrays -/

theorem index_0 : ∀ t : Fin cfg0.N, win0_0.index t = ![t.val % 16, 0] := (by decide +kernel : ∀ t : Fin grid0.N, _)
theorem index_1 : ∀ t : Fin cfg0.N, win0_1.index t = ![t.val % 16, 0] := (by decide +kernel : ∀ t : Fin grid0.N, _)
theorem index_2 : ∀ t : Fin cfg0.N, win0_2.index t = ![0, 0] := (by decide +kernel : ∀ t : Fin grid0.N, _)
theorem lt_N (t : Fin cfg0.N) : t.val < 16 := t.isLt

variable (m : (ℓ : Loc nD τ sig) → Buf (Elt Ideal) ℓ) (c : Dev nD)

abbrev lhs : Mat 16384 256 := m ((c.tc : Thread nD τ).loc main_arg0)
abbrev rhs : Mat 16384 1024 := m ((c.tc : Thread nD τ).loc main_arg1)

theorem blk_0 (t : Fin cfg0.N) (i : Fin 1024) (k : Fin 256) :
    iblk m c 0 t (ix2 i k) = ent (lhs m c) (1024 * (t.val % 16) + i.val) (0 + k.val) := by
  blk_simp [iblk]
  refine ix_ent (lhs m c) _ _ _ ?_ ?_
  all_goals simp [index_0, Nat.mul_comm]

theorem blk_1 (t : Fin cfg0.N) (i : Fin 1024) (k : Fin 1024) :
    iblk m c 1 t (ix2 i k) = ent (rhs m c) (1024 * (t.val % 16) + i.val) (0 + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x256 .f32) (y : Vec Ideal S1024x1024 .bf16) (hx : x = iblk m c 0 t) (hy : y = iblk m c 1 t)
    (i : Fin 256) (j : Fin 1024) :
    ∑ k : Fin 1024, x (ix2 k i) * y (ix2 k j)
      = part (tn (lhs m c) (rhs m c) (0 + i.val) (0 + j.val)) 1024 (t.val % 16) := by
  refine Finset.sum_congr rfl fun k _ => ?_
  rw [hx, hy, blk_0, blk_1]
  rfl

/-- What a block's first point leaves in the running sum. -/
theorem step_first (t : Fin cfg0.N) (h : t.val % 16 = 0) (i : Fin 256) (j : Fin 1024) :
    (outsAt0 m c t.val t.isLt).2 (ix2 i j) = part (tn (lhs m c) (rhs m c) (0 + i.val) (0 + j.val)) 1024 (t.val % 16) := by
  rw [outsAt0_A m c t h (by omega)]
  dsimp only
  rw [first, pay2_at, pay1_at, zero_add]
  exact part_eq m c t _ _ rfl rfl i j

/-- What a later point adds to the running sum. -/
theorem step_next (t : Fin cfg0.N) (h : t.val % 16 ≠ 0) (i : Fin 256) (j : Fin 1024) :
    (outsAt0 m c t.val t.isLt).2 (ix2 i j) = (outsAt0 m c (t.val - 1) (lt_of_le_of_lt (Nat.sub_le _ _) t.isLt)).2 (ix2 i j)
      + part (tn (lhs m c) (rhs m c) (0 + i.val) (0 + j.val)) 1024 (t.val % 16) := by
  refine Eq.trans ?_ (congrArg (_ + ·) (part_eq m c t _ _ rfl rfl i j))
  by_cases hl : t.val % 16 = 15
  · rw [outsAt0_C m c t h hl]
    dsimp only
    rw [last, pay2_at]
  · rw [outsAt0_B m c t h hl]
    dsimp only
    rw [next, pay2_at]

/-- The result's block at the point that writes it back. -/
theorem block (t : Fin cfg0.N) (h : t.val % 16 = 15) (i : Fin 256) (j : Fin 1024) :
    (outsAt0 m c t.val t.isLt).1 (ix2 i j) = (∑ k : Fin 16384, tn (lhs m c) (rhs m c) (0 + i.val) (0 + j.val) k.val) := by
  have e : (outsAt0 m c t.val t.isLt).1 = k0_pay3 ((outsAt0 m c t.val t.isLt).2) := by
    rw [outsAt0_C m c t (by omega) h]
    dsimp only
    rw [out, last]
  rw [e, pay3_at]
  exact held 16 1024 16384 (by norm_num) rfl (fun n h => (outsAt0 m c n h).2) (tn (lhs m c) (rhs m c)) (fun _ => 0) (fun _ => 0)
    (fun n h e => step_first m c ⟨n, h⟩ e) (fun n h e => step_next m c ⟨n, h⟩ e) t.val t.isLt h i j

theorem emb_out (t : Fin cfg0.N) (i : Fin 256) (j : Fin 1024) :
    ((win0_2.blk t).view.emb (ix2 i j) 0).val = 0 + i.val ∧ ((win0_2.blk t).view.emb (ix2 i j) 1).val = 0 + j.val := by
  constructor
  all_goals blk_simp []
  all_goals simp [index_2, Nat.mul_comm]

/-- The result array after the last point. -/
theorem out_arr : (dats m 0 c).arrAt 2 cfg0.N = prodTN (lhs m c) (rhs m c) := by
  refine (dats m 0 c).arrAt_eq_of_covers 2 (prodTN (lhs m c) (rhs m c)) (by decide +kernel) fun t hf y => ?_
  blk_simp
  obtain ⟨i, j, rfl⟩ : ∃ (i : Fin 256) (j : Fin 1024), y = ix2 i j := ⟨y 0, y 1, ix_eq y⟩
  rw [after0_2]
  obtain ⟨e0, e1⟩ := emb_out t i j
  refine (block m c t ((flush0_2 t).mp hf) i j).trans ?_
  unfold prodTN
  rw [e0, e1]

end Cert.BranchDwIdeal.Mm

namespace Cert.BranchDwReferenceIdeal.Mm

open Cert.BranchDwReferenceIdeal Cert.BranchDwReferenceIdeal.Gen Cert.Mm
open Idealize.ShloMosaic Idealize.ShloMosaic.TcCoe Idealize.ShloMosaic.Tactic Idealize.SL.Sem

/-- The reference's result, as it computes it. -/
abbrev result (x : FVec Ideal S16384x256 .f32) (w : FVec Ideal S16384x1024 .bf16) : FVec Ideal S256x1024 .bf16 :=
  truncf .bf16 (transpose S256x1024 [1, 0] (Host.dotGeneral dot_S16384x1024_S16384x256_S1024x256_0_0_1_1_n_n none (extf .f32 w bitsLt_bf16_f32) x) transposes_S1024x256_S256x1024_1_0) bitsLt_bf16_f32

theorem result_at (x : FVec Ideal S16384x256 .f32) (w : FVec Ideal S16384x1024 .bf16) (i : Fin 256) (j : Fin 1024) :
    result x w (ix2 i j) = (∑ k : Fin 16384, w (ix2 k j) * x (ix2 k i)) := by
  pointwise [result]

theorem result_eq (x : FVec Ideal S16384x256 .f32) (w : FVec Ideal S16384x1024 .bf16) : result x w = prodTN x w :=
  mat_ext fun i j => (result_at x w i j).trans (prodTN_at x w i j).symm

/-- The reference ends with its arguments unchanged and no semaphore raised. -/
theorem frame : Cert.quiescent_BranchDwReferenceIdeal (hBranchDwReferenceIdeal := Cert.BranchDwReferenceIdeal.Gen.facts) := fun m ρ _ =>
  (θ_run Cert.BranchDwReferenceIdeal.defs _ _).mono (fun r h => ⟨fun c => (h c).2, sem_eq_zero_of_no_sems (by decide) r.2⟩) (Cert.BranchDwReferenceIdeal.Value.run (F := Ideal) m ρ)

/-- Kernel and reference end with the same product and unchanged arguments. -/
theorem algebraic : Cert.algebraic_BranchDwIdeal_BranchDwReferenceIdeal (hBranchDwIdeal := Cert.BranchDwIdeal.Gen.facts) (hBranchDwReferenceIdeal := Cert.BranchDwReferenceIdeal.Gen.facts) := by
  intro m g m' g' _ ha
  refine ⟨fun c => prodTN (Cert.BranchDwIdeal.Mm.lhs m c) (Cert.BranchDwIdeal.Mm.rhs m c), ?_, ?_⟩
  · exact (θ_run Cert.BranchDwIdeal.defs _ _).mono (fun r h c => ⟨((h.1 c).1 2).trans (Cert.BranchDwIdeal.Mm.out_arr m c), h.2.1 c⟩)
      (θ_run_and (Cert.BranchDwIdeal.Gen.run_main m g) (Cert.BranchDwIdeal.Gen.frame m g))
  · refine (θ_run Cert.BranchDwReferenceIdeal.defs _ _).mono (fun r h c => ?_) (Cert.BranchDwReferenceIdeal.Value.run (F := Ideal) m' g')
    obtain ⟨h0, h1⟩ := ha c
    obtain ⟨r0, rest⟩ := h c
    refine ⟨r0.trans ((result_eq _ _).trans ?_), rest⟩
    exact congrArg₂ prodTN h0 h1

end Cert.BranchDwReferenceIdeal.Mm
end
-- ==== Proof.OutFwd.lean ====
/- The output product: what the kernel computes block by block, and that the reference computes the same. -/
module

public import proofs.«01_k».proof.Proof.Mm
public import proofs.«01_k».proof.Defs
public import proofs.«01_k».proof.Proof.Gen.OutFwdIdeal
public import proofs.«01_k».proof.Proof.Gen.OutFwdIdeal.Frame
public import proofs.«01_k».proof.Proof.Gen.OutFwdReferenceIdeal
public import proofs.«01_k».proof.Proof.Gen.OutFwdReferenceIdeal.Run
public import Idealize.ShloMosaic.Lib.Pipeline.ValueKit
public import Idealize.ShloMosaic.Adequacy
public import Idealize.ShloMosaic.Init

@[expose] public section

noncomputable section

namespace Cert.OutFwdIdeal.Mm

open Cert.OutFwdIdeal Cert.OutFwdIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x1024 .f32) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
  (x : Vec Ideal S1024x1024 .f32) (y : Vec Ideal S1024x1024 .bf16) (s : Vec Ideal S1024x1024 .f32)

theorem out (hc0 : cond0_0 i) (hc1 : cond0_1 i) :
    out0_A_2 c i a3 h3 a4 h4 a5 h5 a6 h6 hc0 hc1 x y = k0_pay2 x y (k0_pay1 (F := Ideal)) := by
  unfold out0_A_2
  rw [View.read_writes_eq_canon _ _ _ (cover0_A_2 c i a3 h3 a4 h4 a5 h5 a6 h6 hc0 hc1 x y)]
  unfold kernelRun0_A
  dsimp only
  sl_unfold_words
  simp only [View.canon_unit_zero (S := S1024x1024) offset_zero, View.readCov_unit_zero (S := S1024x1024) _ offset_zero,
    View.readAt_eq_ld, h3.read_unread, h4.read_unread, View.ld_unit_zero (S := S1024x1024) offset_zero, shapeCast_self]
  exact (View.readCov_cons_unit_lit' (S := S1024x1024) a6.view _ _ _ _ (congrFun offset_zero) (congrFun offset_zero))

end Cases

theorem pay1_at (i : Fin 1024) (j : Fin 1024) : k0_pay1 (F := Ideal) (ix2 i j) = 0 := by
  pointwise [k0_pay1]

theorem pay2_at (x : Vec Ideal S1024x1024 .f32) (y : Vec Ideal S1024x1024 .bf16) (s : Vec Ideal S1024x1024 .f32) (i : Fin 1024) (j : Fin 1024) :
    k0_pay2 (F := Ideal) x y s (ix2 i j) = s (ix2 i j) + ∑ k : Fin 1024, x (ix2 i k) * y (ix2 k j) := by
  pointwise [k0_pay2]

/-! ## Where the blocks lie in their arrays -/

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem lt_N (t : Fin cfg0.N) : t.val < 16 := t.isLt

variable (m : (ℓ : Loc nD τ sig) → Buf (Elt Ideal) ℓ) (c : Dev nD)

abbrev lhs : Mat 16384 1024 := m ((c.tc : Thread nD τ).loc main_arg0)
abbrev rhs : Mat 1024 1024 := m ((c.tc : Thread nD τ).loc main_arg1)

theorem blk_0 (t : Fin cfg0.N) (i : Fin 1024) (k : Fin 1024) :
    iblk m c 0 t (ix2 i k) = ent (lhs m c) (1024 * (t.val) + i.val) (0 + k.val) := by
  blk_simp [iblk]
  refine ix_ent (lhs m c) _ _ _ ?_ ?_
  all_goals simp [index_0, Nat.mul_comm]

theorem blk_1 (t : Fin cfg0.N) (i : Fin 1024) (k : Fin 1024) :
    iblk m c 1 t (ix2 i k) = ent (rhs m c) (0 + i.val) (0 + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x1024 .f32) (y : Vec Ideal S1024x1024 .bf16) (hx : x = iblk m c 0 t) (hy : y = iblk m c 1 t)
    (i : Fin 1024) (j : Fin 1024) :
    ∑ k : Fin 1024, x (ix2 i k) * y (ix2 k j)
      = part (nn (lhs m c) (rhs m c) (1024 * (t.val) + i.val) (0 + j.val)) 1024 (0) := by
  refine Finset.sum_congr rfl fun k _ => ?_
  rw [hx, hy, blk_0, blk_1]
  simp only [Nat.mul_zero, Nat.zero_add]
  rfl

/-- The result's block after its point. -/
theorem block (t : Fin cfg0.N) (i : Fin 1024) (j : Fin 1024) :
    outsAt0 m c t (ix2 i j) = ∑ k : Fin 1024, nn (lhs m c) (rhs m c) (1024 * (t.val) + i.val) (0 + j.val) k.val := by
  unfold outsAt0
  rw [out, pay2_at, pay1_at, zero_add]
  refine (part_eq m c t _ _ rfl rfl i j).trans (Eq.trans ?_ (sum_parts 1 1024 rfl _))
  rw [Finset.sum_range_one]

theorem emb_out (t : Fin cfg0.N) (i : Fin 1024) (j : Fin 1024) :
    ((win0_2.blk t).view.emb (ix2 i j) 0).val = 1024 * (t.val) + i.val ∧ ((win0_2.blk t).view.emb (ix2 i j) 1).val = 0 + j.val := by
  constructor
  all_goals blk_simp []
  all_goals simp [index_2, Nat.mul_comm]

/-- The result array after the last point. -/
theorem out_arr : (dats m 0 c).arrAt 2 cfg0.N = prodNN (lhs m c) (rhs m c) := by
  refine (dats m 0 c).arrAt_eq_of_covers 2 (prodNN (lhs m c) (rhs m c)) (by decide +kernel) fun t hf y => ?_
  blk_simp
  obtain ⟨i, j, rfl⟩ : ∃ (i : Fin 1024) (j : Fin 1024), y = ix2 i j := ⟨y 0, y 1, ix_eq y⟩
  rw [after0_2]
  obtain ⟨e0, e1⟩ := emb_out t i j
  refine (block m c t i j).trans ?_
  unfold prodNN
  rw [e0, e1]

end Cert.OutFwdIdeal.Mm

namespace Cert.OutFwdReferenceIdeal.Mm

open Cert.OutFwdReferenceIdeal Cert.OutFwdReferenceIdeal.Gen Cert.Mm
open Idealize.ShloMosaic Idealize.ShloMosaic.TcCoe Idealize.ShloMosaic.Tactic Idealize.SL.Sem

/-- The reference's result, as it computes it. -/
abbrev result (x : FVec Ideal S16384x1024 .f32) (w : FVec Ideal S1024x1024 .bf16) : FVec Ideal S16384x1024 .f32 :=
  Host.dotGeneral dot_S16384x1024_S1024x1024_S16384x1024_1_0_0_1_n_n none x (extf .f32 w bitsLt_bf16_f32)

theorem result_at (x : FVec Ideal S16384x1024 .f32) (w : FVec Ideal S1024x1024 .bf16) (i : Fin 16384) (j : Fin 1024) :
    result x w (ix2 i j) = (∑ k : Fin 1024, x (ix2 i k) * w (ix2 k j)) := by
  pointwise [result]

theorem result_eq (x : FVec Ideal S16384x1024 .f32) (w : FVec Ideal S1024x1024 .bf16) : result x w = prodNN x w :=
  mat_ext fun i j => (result_at x w i j).trans (prodNN_at x w i j).symm

/-- The reference ends with its arguments unchanged and no semaphore raised. -/
theorem frame : Cert.quiescent_OutFwdReferenceIdeal (hOutFwdReferenceIdeal := Cert.OutFwdReferenceIdeal.Gen.facts) := fun m ρ _ =>
  (θ_run Cert.OutFwdReferenceIdeal.defs _ _).mono (fun r h => ⟨fun c => (h c).2, sem_eq_zero_of_no_sems (by decide) r.2⟩) (Cert.OutFwdReferenceIdeal.Value.run (F := Ideal) m ρ)

/-- Kernel and reference end with the same product and unchanged arguments. -/
theorem algebraic : Cert.algebraic_OutFwdIdeal_OutFwdReferenceIdeal (hOutFwdIdeal := Cert.OutFwdIdeal.Gen.facts) (hOutFwdReferenceIdeal := Cert.OutFwdReferenceIdeal.Gen.facts) := by
  intro m g m' g' _ ha
  refine ⟨fun c => prodNN (Cert.OutFwdIdeal.Mm.lhs m c) (Cert.OutFwdIdeal.Mm.rhs m c), ?_, ?_⟩
  · exact (θ_run Cert.OutFwdIdeal.defs _ _).mono (fun r h c => ⟨((h.1 c).1 2).trans (Cert.OutFwdIdeal.Mm.out_arr m c), h.2.1 c⟩)
      (θ_run_and (Cert.OutFwdIdeal.Gen.run_main m g) (Cert.OutFwdIdeal.Gen.frame m g))
  · refine (θ_run Cert.OutFwdReferenceIdeal.defs _ _).mono (fun r h c => ?_) (Cert.OutFwdReferenceIdeal.Value.run (F := Ideal) m' g')
    obtain ⟨h0, h1⟩ := ha c
    obtain ⟨r0, rest⟩ := h c
    refine ⟨r0.trans ((result_eq _ _).trans ?_), rest⟩
    exact congrArg₂ prodNN h0 h1

end Cert.OutFwdReferenceIdeal.Mm
end
-- ==== Proof.OutDx.lean ====
/- The gradient of the output product's input: what the kernel computes block by block, and that the reference computes the same. -/
module

public import proofs.«01_k».proof.Proof.Mm
public import proofs.«01_k».proof.Defs
public import proofs.«01_k».proof.Proof.Gen.OutDxIdeal
public import proofs.«01_k».proof.Proof.Gen.OutDxIdeal.Frame
public import proofs.«01_k».proof.Proof.Gen.OutDxReferenceIdeal
public import proofs.«01_k».proof.Proof.Gen.OutDxReferenceIdeal.Run
public import Idealize.ShloMosaic.Lib.Pipeline.ValueKit
public import Idealize.ShloMosaic.Adequacy
public import Idealize.ShloMosaic.Init

@[expose] public section

noncomputable section

namespace Cert.OutDxIdeal.Mm

open Cert.OutDxIdeal Cert.OutDxIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x1024 .f32) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
  (x : Vec Ideal S1024x1024 .f32) (y : Vec Ideal S1024x1024 .bf16) (s : Vec Ideal S1024x1024 .f32)

theorem out (hc0 : cond0_0 i) (hc1 : cond0_1 i) :
    out0_A_2 c i a3 h3 a4 h4 a5 h5 a6 h6 hc0 hc1 x y = k0_pay2 x y (k0_pay1 (F := Ideal)) := by
  unfold out0_A_2
  rw [View.read_writes_eq_canon _ _ _ (cover0_A_2 c i a3 h3 a4 h4 a5 h5 a6 h6 hc0 hc1 x y)]
  unfold kernelRun0_A
  dsimp only
  sl_unfold_words
  simp only [View.canon_unit_zero (S := S1024x1024) offset_zero, View.readCov_unit_zero (S := S1024x1024) _ offset_zero,
    View.readAt_eq_ld, h3.read_unread, h4.read_unread, View.ld_unit_zero (S := S1024x1024) offset_zero, shapeCast_self]
  exact (View.readCov_cons_unit_lit' (S := S1024x1024) a6.view _ _ _ _ (congrFun offset_zero) (congrFun offset_zero))

end Cases

theorem pay1_at (i : Fin 1024) (j : Fin 1024) : k0_pay1 (F := Ideal) (ix2 i j) = 0 := by
  pointwise [k0_pay1]

theorem pay2_at (x : Vec Ideal S1024x1024 .f32) (y : Vec Ideal S1024x1024 .bf16) (s : Vec Ideal S1024x1024 .f32) (i : Fin 1024) (j : Fin 1024) :
    k0_pay2 (F := Ideal) x y s (ix2 i j) = s (ix2 i j) + ∑ k : Fin 1024, x (ix2 i k) * y (ix2 j k) := by
  pointwise [k0_pay2]

/-! ## Where the blocks lie in their arrays -/

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem lt_N (t : Fin cfg0.N) : t.val < 16 := t.isLt

variable (m : (ℓ : Loc nD τ sig) → Buf (Elt Ideal) ℓ) (c : Dev nD)

abbrev lhs : Mat 16384 1024 := m ((c.tc : Thread nD τ).loc main_arg0)
abbrev rhs : Mat 1024 1024 := m ((c.tc : Thread nD τ).loc main_arg1)

theorem blk_0 (t : Fin cfg0.N) (i : Fin 1024) (k : Fin 1024) :
    iblk m c 0 t (ix2 i k) = ent (lhs m c) (1024 * (t.val) + i.val) (0 + k.val) := by
  blk_simp [iblk]
  refine ix_ent (lhs m c) _ _ _ ?_ ?_
  all_goals simp [index_0, Nat.mul_comm]

theorem blk_1 (t : Fin cfg0.N) (i : Fin 1024) (k : Fin 1024) :
    iblk m c 1 t (ix2 i k) = ent (rhs m c) (0 + i.val) (0 + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x1024 .f32) (y : Vec Ideal S1024x1024 .bf16) (hx : x = iblk m c 0 t) (hy : y = iblk m c 1 t)
    (i : Fin 1024) (j : Fin 1024) :
    ∑ k : Fin 1024, x (ix2 i k) * y (ix2 j k)
      = part (nt (lhs m c) (rhs m c) (1024 * (t.val) + i.val) (0 + j.val)) 1024 (0) := by
  refine Finset.sum_congr rfl fun k _ => ?_
  rw [hx, hy, blk_0, blk_1]
  simp only [Nat.mul_zero, Nat.zero_add]
  rfl

/-- The result's block after its point. -/
theorem block (t : Fin cfg0.N) (i : Fin 1024) (j : Fin 1024) :
    outsAt0 m c t (ix2 i j) = ∑ k : Fin 1024, nt (lhs m c) (rhs m c) (1024 * (t.val) + i.val) (0 + j.val) k.val := by
  unfold outsAt0
  rw [out, pay2_at, pay1_at, zero_add]
  refine (part_eq m c t _ _ rfl rfl i j).trans (Eq.trans ?_ (sum_parts 1 1024 rfl _))
  rw [Finset.sum_range_one]

theorem emb_out (t : Fin cfg0.N) (i : Fin 1024) (j : Fin 1024) :
    ((win0_2.blk t).view.emb (ix2 i j) 0).val = 1024 * (t.val) + i.val ∧ ((win0_2.blk t).view.emb (ix2 i j) 1).val = 0 + j.val := by
  constructor
  all_goals blk_simp []
  all_goals simp [index_2, Nat.mul_comm]

/-- The result array after the last point. -/
theorem out_arr : (dats m 0 c).arrAt 2 cfg0.N = prodNT (lhs m c) (rhs m c) := by
  refine (dats m 0 c).arrAt_eq_of_covers 2 (prodNT (lhs m c) (rhs m c)) (by decide +kernel) fun t hf y => ?_
  blk_simp
  obtain ⟨i, j, rfl⟩ : ∃ (i : Fin 1024) (j : Fin 1024), y = ix2 i j := ⟨y 0, y 1, ix_eq y⟩
  rw [after0_2]
  obtain ⟨e0, e1⟩ := emb_out t i j
  refine (block m c t i j).trans ?_
  unfold prodNT
  rw [e0, e1]

end Cert.OutDxIdeal.Mm

namespace Cert.OutDxReferenceIdeal.Mm

open Cert.OutDxReferenceIdeal Cert.OutDxReferenceIdeal.Gen Cert.Mm
open Idealize.ShloMosaic Idealize.ShloMosaic.TcCoe Idealize.ShloMosaic.Tactic Idealize.SL.Sem

/-- The reference's result, as it computes it. -/
abbrev result (x : FVec Ideal S16384x1024 .f32) (w : FVec Ideal S1024x1024 .bf16) : FVec Ideal S16384x1024 .f32 :=
  Host.dotGeneral dot_S16384x1024_S1024x1024_S16384x1024_1_1_0_0_n_n none x (extf .f32 w bitsLt_bf16_f32)

theorem result_at (x : FVec Ideal S16384x1024 .f32) (w : FVec Ideal S1024x1024 .bf16) (i : Fin 16384) (j : Fin 1024) :
    result x w (ix2 i j) = (∑ k : Fin 1024, x (ix2 i k) * w (ix2 j k)) := by
  pointwise [result]

theorem result_eq (x : FVec Ideal S16384x1024 .f32) (w : FVec Ideal S1024x1024 .bf16) : result x w = prodNT x w :=
  mat_ext fun i j => (result_at x w i j).trans (prodNT_at x w i j).symm

/-- The reference ends with its arguments unchanged and no semaphore raised. -/
theorem frame : Cert.quiescent_OutDxReferenceIdeal (hOutDxReferenceIdeal := Cert.OutDxReferenceIdeal.Gen.facts) := fun m ρ _ =>
  (θ_run Cert.OutDxReferenceIdeal.defs _ _).mono (fun r h => ⟨fun c => (h c).2, sem_eq_zero_of_no_sems (by decide) r.2⟩) (Cert.OutDxReferenceIdeal.Value.run (F := Ideal) m ρ)

/-- Kernel and reference end with the same product and unchanged arguments. -/
theorem algebraic : Cert.algebraic_OutDxIdeal_OutDxReferenceIdeal (hOutDxIdeal := Cert.OutDxIdeal.Gen.facts) (hOutDxReferenceIdeal := Cert.OutDxReferenceIdeal.Gen.facts) := by
  intro m g m' g' _ ha
  refine ⟨fun c => prodNT (Cert.OutDxIdeal.Mm.lhs m c) (Cert.OutDxIdeal.Mm.rhs m c), ?_, ?_⟩
  · exact (θ_run Cert.OutDxIdeal.defs _ _).mono (fun r h c => ⟨((h.1 c).1 2).trans (Cert.OutDxIdeal.Mm.out_arr m c), h.2.1 c⟩)
      (θ_run_and (Cert.OutDxIdeal.Gen.run_main m g) (Cert.OutDxIdeal.Gen.frame m g))
  · refine (θ_run Cert.OutDxReferenceIdeal.defs _ _).mono (fun r h c => ?_) (Cert.OutDxReferenceIdeal.Value.run (F := Ideal) m' g')
    obtain ⟨h0, h1⟩ := ha c
    obtain ⟨r0, rest⟩ := h c
    refine ⟨r0.trans ((result_eq _ _).trans ?_), rest⟩
    exact congrArg₂ prodNT h0 h1

end Cert.OutDxReferenceIdeal.Mm
end
-- ==== Proof.OutDw.lean ====
/- The gradient of the output product's weights: what the kernel computes block by block, and that the reference computes the same. -/
module

public import proofs.«01_k».proof.Proof.Mm
public import proofs.«01_k».proof.Defs
public import proofs.«01_k».proof.Proof.Gen.OutDwIdeal
public import proofs.«01_k».proof.Proof.Gen.OutDwIdeal.Frame
public import proofs.«01_k».proof.Proof.Gen.OutDwReferenceIdeal
public import proofs.«01_k».proof.Proof.Gen.OutDwReferenceIdeal.Run
public import Idealize.ShloMosaic.Lib.Pipeline.ValueKit
public import Idealize.ShloMosaic.Adequacy
public import Idealize.ShloMosaic.Init

@[expose] public section

noncomputable section

namespace Cert.OutDwIdeal.Mm

open Cert.OutDwIdeal Cert.OutDwIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .bf16) (h5 : a5.IsWhole) (a6 : Memref sig .tc .vmem S1024x1024 .f32) (h6 : a6.IsWhole)
  (x : Vec Ideal S1024x1024 .f32) (y : Vec Ideal S1024x1024 .f32) (s : Vec Ideal S1024x1024 .f32)

theorem first (hc0 : cond0_0 i) (hc1 : ¬cond0_1 i) :
    sout0_A_0 c i a3 h3 a4 h4 a5 h5 a6 h6 hc0 hc1 x y = k0_pay2 x y (k0_pay1 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  simp only [View.canon_unit_zero (S := S1024x1024) offset_zero, View.canon_cons_unit_zero (S := S1024x1024) offset_zero, View.readCov_unit_zero (S := S1024x1024) _ offset_zero,
    View.readAt_eq_ld, h3.read_unread, h4.read_unread, View.ld_unit_zero (S := S1024x1024) offset_zero, shapeCast_self]

theorem next (hc0 : ¬cond0_0 i) (hc1 : ¬cond0_1 i) :
    sout0_B_0 c i a3 h3 a4 h4 a5 h5 a6 h6 hc0 hc1 x y s = k0_pay2 x y s := by
  unfold sout0_B_0
  rw [View.read_writes_eq_canon _ _ _ (scover0_B_0 c i a3 h3 a4 h4 a5 h5 a6 h6 hc0 hc1 x y s)]
  unfold kernelRun0_B
  dsimp only
  simp only [View.canon_unit_zero (S := S1024x1024) offset_zero, View.canon_cons_unit_zero (S := S1024x1024) offset_zero, View.readCov_unit_zero (S := S1024x1024) _ offset_zero,
    View.readAt_eq_ld, h3.read_unread, h4.read_unread, h6.read_unread, View.ld_unit_zero (S := S1024x1024) offset_zero, shapeCast_self]

theorem last (hc0 : ¬cond0_0 i) (hc1 : cond0_1 i) :
    sout0_C_0 c i a3 h3 a4 h4 a5 h5 a6 h6 hc0 hc1 x y s = k0_pay2 x y s := by
  unfold sout0_C_0
  rw [View.read_writes_eq_canon _ _ _ (scover0_C_0 c i a3 h3 a4 h4 a5 h5 a6 h6 hc0 hc1 x y s)]
  unfold kernelRun0_C
  dsimp only
  sl_unfold_words
  simp only [View.canon_unit_zero (S := S1024x1024) offset_zero, View.canon_cons_unit_zero (S := S1024x1024) offset_zero, View.readCov_unit_zero (S := S1024x1024) _ offset_zero,
    View.readAt_eq_ld, h3.read_unread, h4.read_unread, h6.read_unread, View.ld_unit_zero (S := S1024x1024) offset_zero, shapeCast_self]

theorem out (hc0 : ¬cond0_0 i) (hc1 : cond0_1 i) :
    out0_C_2 c i a3 h3 a4 h4 a5 h5 a6 h6 hc0 hc1 x y s = k0_pay3 (k0_pay2 x y s) := by
  unfold out0_C_2
  rw [View.read_writes_eq_canon _ _ _ (cover0_C_2 c i a3 h3 a4 h4 a5 h5 a6 h6 hc0 hc1 x y s)]
  unfold kernelRun0_C
  dsimp only
  sl_unfold_words
  simp only [View.canon_unit_zero (S := S1024x1024) offset_zero, View.readCov_unit_zero (S := S1024x1024) _ offset_zero,
    View.readAt_eq_ld, h3.read_unread, h4.read_unread, h6.read_unread, View.ld_unit_zero (S := S1024x1024) offset_zero, shapeCast_self]

end Cases

theorem pay1_at (i : Fin 1024) (j : Fin 1024) : k0_pay1 (F := Ideal) (ix2 i j) = 0 := by
  pointwise [k0_pay1]

theorem pay2_at (x : Vec Ideal S1024x1024 .f32) (y : Vec Ideal S1024x1024 .f32) (s : Vec Ideal S1024x1024 .f32) (i : Fin 1024) (j : Fin 1024) :
    k0_pay2 (F := Ideal) x y s (ix2 i j) = s (ix2 i j) + ∑ k : Fin 1024, x (ix2 k i) * y (ix2 k j) := by
  pointwise [k0_pay2]

theorem pay3_at (s : Vec Ideal S1024x1024 .f32) (i : Fin 1024) (j : Fin 1024) : k0_pay3 (F := Ideal) s (ix2 i j) = s (ix2 i j) := by
  pointwise [k0_pay3]

/-! ## Where the blocks lie in their arrays -/

theorem index_0 : ∀ t : Fin cfg0.N, win0_0.index t = ![t.val % 16, 0] := (by decide +kernel : ∀ t : Fin grid0.N, _)
theorem index_1 : ∀ t : Fin cfg0.N, win0_1.index t = ![t.val % 16, 0] := (by decide +kernel : ∀ t : Fin grid0.N, _)
theorem index_2 : ∀ t : Fin cfg0.N, win0_2.index t = ![0, 0] := (by decide +kernel : ∀ t : Fin grid0.N, _)
theorem lt_N (t : Fin cfg0.N) : t.val < 16 := t.isLt

variable (m : (ℓ : Loc nD τ sig) → Buf (Elt Ideal) ℓ) (c : Dev nD)

abbrev lhs : Mat 16384 1024 := m ((c.tc : Thread nD τ).loc main_arg0)
abbrev rhs : Mat 16384 1024 := m ((c.tc : Thread nD τ).loc main_arg1)

theorem blk_0 (t : Fin cfg0.N) (i : Fin 1024) (k : Fin 1024) :
    iblk m c 0 t (ix2 i k) = ent (lhs m c) (1024 * (t.val % 16) + i.val) (0 + k.val) := by
  blk_simp [iblk]
  refine ix_ent (lhs m c) _ _ _ ?_ ?_
  all_goals simp [index_0, Nat.mul_comm]

theorem blk_1 (t : Fin cfg0.N) (i : Fin 1024) (k : Fin 1024) :
    iblk m c 1 t (ix2 i k) = ent (rhs m c) (1024 * (t.val % 16) + i.val) (0 + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x1024 .f32) (y : Vec Ideal S1024x1024 .f32) (hx : x = iblk m c 0 t) (hy : y = iblk m c 1 t)
    (i : Fin 1024) (j : Fin 1024) :
    ∑ k : Fin 1024, x (ix2 k i) * y (ix2 k j)
      = part (tn (lhs m c) (rhs m c) (0 + i.val) (0 + j.val)) 1024 (t.val % 16) := by
  refine Finset.sum_congr rfl fun k _ => ?_
  rw [hx, hy, blk_0, blk_1]
  rfl

/-- What a block's first point leaves in the running sum. -/
theorem step_first (t : Fin cfg0.N) (h : t.val % 16 = 0) (i : Fin 1024) (j : Fin 1024) :
    (outsAt0 m c t.val t.isLt).2 (ix2 i j) = part (tn (lhs m c) (rhs m c) (0 + i.val) (0 + j.val)) 1024 (t.val % 16) := by
  rw [outsAt0_A m c t h (by omega)]
  dsimp only
  rw [first, pay2_at, pay1_at, zero_add]
  exact part_eq m c t _ _ rfl rfl i j

/-- What a later point adds to the running sum. -/
theorem step_next (t : Fin cfg0.N) (h : t.val % 16 ≠ 0) (i : Fin 1024) (j : Fin 1024) :
    (outsAt0 m c t.val t.isLt).2 (ix2 i j) = (outsAt0 m c (t.val - 1) (lt_of_le_of_lt (Nat.sub_le _ _) t.isLt)).2 (ix2 i j)
      + part (tn (lhs m c) (rhs m c) (0 + i.val) (0 + j.val)) 1024 (t.val % 16) := by
  refine Eq.trans ?_ (congrArg (_ + ·) (part_eq m c t _ _ rfl rfl i j))
  by_cases hl : t.val % 16 = 15
  · rw [outsAt0_C m c t h hl]
    dsimp only
    rw [last, pay2_at]
  · rw [outsAt0_B m c t h hl]
    dsimp only
    rw [next, pay2_at]

/-- The result's block at the point that writes it back. -/
theorem block (t : Fin cfg0.N) (h : t.val % 16 = 15) (i : Fin 1024) (j : Fin 1024) :
    (outsAt0 m c t.val t.isLt).1 (ix2 i j) = (∑ k : Fin 16384, tn (lhs m c) (rhs m c) (0 + i.val) (0 + j.val) k.val) := by
  have e : (outsAt0 m c t.val t.isLt).1 = k0_pay3 ((outsAt0 m c t.val t.isLt).2) := by
    rw [outsAt0_C m c t (by omega) h]
    dsimp only
    rw [out, last]
  rw [e, pay3_at]
  exact held 16 1024 16384 (by norm_num) rfl (fun n h => (outsAt0 m c n h).2) (tn (lhs m c) (rhs m c)) (fun _ => 0) (fun _ => 0)
    (fun n h e => step_first m c ⟨n, h⟩ e) (fun n h e => step_next m c ⟨n, h⟩ e) t.val t.isLt h i j

theorem emb_out (t : Fin cfg0.N) (i : Fin 1024) (j : Fin 1024) :
    ((win0_2.blk t).view.emb (ix2 i j) 0).val = 0 + i.val ∧ ((win0_2.blk t).view.emb (ix2 i j) 1).val = 0 + j.val := by
  constructor
  all_goals blk_simp []
  all_goals simp [index_2, Nat.mul_comm]

/-- The result array after the last point. -/
theorem out_arr : (dats m 0 c).arrAt 2 cfg0.N = prodTN (lhs m c) (rhs m c) := by
  refine (dats m 0 c).arrAt_eq_of_covers 2 (prodTN (lhs m c) (rhs m c)) (by decide +kernel) fun t hf y => ?_
  blk_simp
  obtain ⟨i, j, rfl⟩ : ∃ (i : Fin 1024) (j : Fin 1024), y = ix2 i j := ⟨y 0, y 1, ix_eq y⟩
  rw [after0_2]
  obtain ⟨e0, e1⟩ := emb_out t i j
  refine (block m c t ((flush0_2 t).mp hf) i j).trans ?_
  unfold prodTN
  rw [e0, e1]

end Cert.OutDwIdeal.Mm

namespace Cert.OutDwReferenceIdeal.Mm

open Cert.OutDwReferenceIdeal Cert.OutDwReferenceIdeal.Gen Cert.Mm
open Idealize.ShloMosaic Idealize.ShloMosaic.TcCoe Idealize.ShloMosaic.Tactic Idealize.SL.Sem

/-- The reference's result, as it computes it. -/
abbrev result (x : FVec Ideal S16384x1024 .f32) (w : FVec Ideal S16384x1024 .f32) : FVec Ideal S1024x1024 .bf16 :=
  truncf .bf16 (transpose S1024x1024 [1, 0] (Host.dotGeneral dot_S16384x1024_S16384x1024_S1024x1024_0_0_1_1_n_n none w x) transposes_S1024x1024_S1024x1024_1_0) bitsLt_bf16_f32

theorem result_at (x : FVec Ideal S16384x1024 .f32) (w : FVec Ideal S16384x1024 .f32) (i : Fin 1024) (j : Fin 1024) :
    result x w (ix2 i j) = (∑ k : Fin 16384, w (ix2 k j) * x (ix2 k i)) := by
  pointwise [result]

theorem result_eq (x : FVec Ideal S16384x1024 .f32) (w : FVec Ideal S16384x1024 .f32) : result x w = prodTN x w :=
  mat_ext fun i j => (result_at x w i j).trans (prodTN_at x w i j).symm

/-- The reference ends with its arguments unchanged and no semaphore raised. -/
theorem frame : Cert.quiescent_OutDwReferenceIdeal (hOutDwReferenceIdeal := Cert.OutDwReferenceIdeal.Gen.facts) := fun m ρ _ =>
  (θ_run Cert.OutDwReferenceIdeal.defs _ _).mono (fun r h => ⟨fun c => (h c).2, sem_eq_zero_of_no_sems (by decide) r.2⟩) (Cert.OutDwReferenceIdeal.Value.run (F := Ideal) m ρ)

/-- Kernel and reference end with the same product and unchanged arguments. -/
theorem algebraic : Cert.algebraic_OutDwIdeal_OutDwReferenceIdeal (hOutDwIdeal := Cert.OutDwIdeal.Gen.facts) (hOutDwReferenceIdeal := Cert.OutDwReferenceIdeal.Gen.facts) := by
  intro m g m' g' _ ha
  refine ⟨fun c => prodTN (Cert.OutDwIdeal.Mm.lhs m c) (Cert.OutDwIdeal.Mm.rhs m c), ?_, ?_⟩
  · exact (θ_run Cert.OutDwIdeal.defs _ _).mono (fun r h c => ⟨((h.1 c).1 2).trans (Cert.OutDwIdeal.Mm.out_arr m c), h.2.1 c⟩)
      (θ_run_and (Cert.OutDwIdeal.Gen.run_main m g) (Cert.OutDwIdeal.Gen.frame m g))
  · refine (θ_run Cert.OutDwReferenceIdeal.defs _ _).mono (fun r h c => ?_) (Cert.OutDwReferenceIdeal.Value.run (F := Ideal) m' g')
    obtain ⟨h0, h1⟩ := ha c
    obtain ⟨r0, rest⟩ := h c
    refine ⟨r0.trans ((result_eq _ _).trans ?_), rest⟩
    exact congrArg₂ prodTN h0 h1

end Cert.OutDwReferenceIdeal.Mm
end
-- ==== Proof.GluFwd.lean ====
/- The product before the gated linear unit: what the kernel computes block by block, and that the reference computes the same. -/
module

public import proofs.«01_k».proof.Proof.Mm
public import proofs.«01_k».proof.Defs
public import proofs.«01_k».proof.Proof.Gen.GluFwdIdeal
public import proofs.«01_k».proof.Proof.Gen.GluFwdIdeal.Frame
public import proofs.«01_k».proof.Proof.Gen.GluFwdReferenceIdeal
public import proofs.«01_k».proof.Proof.Gen.GluFwdReferenceIdeal.Run
public import Idealize.ShloMosaic.Lib.Pipeline.ValueKit
public import Idealize.ShloMosaic.Adequacy
public import Idealize.ShloMosaic.Init

@[expose] public section

noncomputable section

namespace Cert.GluFwdIdeal.Mm

open Cert.GluFwdIdeal Cert.GluFwdIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x256 .f32) (h3 : a3.IsWhole) (a4 : Memref sig .tc .vmem S256x512 .bf16) (h4 : a4.IsWhole) (a5 : Memref sig .tc .vmem S1024x512 .f32) (h5 : a5.IsWhole) (a6 : Memref sig .tc .vmem S1024x512 .f32) (h6 : a6.IsWhole)
  (x : Vec Ideal S1024x256 .f32) (y : Vec Ideal S256x512 .bf16) (s : Vec Ideal S1024x512 .f32)

theorem out (hc0 : cond0_0 i) (hc1 : cond0_1 i) :
    out0_A_2 c i a3 h3 a4 h4 a5 h5 a6 h6 hc0 hc1 x y = k0_pay2 x y (k0_pay1 (F := Ideal)) := by
  unfold out0_A_2
  rw [View.read_writes_eq_canon _ _ _ (cover0_A_2 c i a3 h3 a4 h4 a5 h5 a6 h6 hc0 hc1 x y)]
  unfold kernelRun0_A
  dsimp only
  sl_unfold_words
  simp only [View.canon_unit_zero (S := S1024x512) offset_zero, View.readCov_unit_zero (S := S1024x512) _ offset_zero,
    View.readAt_eq_ld, h3.read_unread, h4.read_unread, View.ld_unit_zero (S := S1024x256) offset_zero, View.ld_unit_zero (S := S256x512) offset_zero, View.ld_unit_zero (S := S1024x512) offset_zero, shapeCast_self]
  exact (View.readCov_cons_unit_lit' (S := S1024x512) a6.view _ _ _ _ (congrFun offset_zero) (congrFun offset_zero))

end Cases

theorem pay1_at (i : Fin 1024) (j : Fin 512) : k0_pay1 (F := Ideal) (ix2 i j) = 0 := by
  pointwise [k0_pay1]

theorem pay2_at (x : Vec Ideal S1024x256 .f32) (y : Vec Ideal S256x512 .bf16) (s : Vec Ideal S1024x512 .f32) (i : Fin 1024) (j : Fin 512) :
    k0_pay2 (F := Ideal) x y s (ix2 i j) = s (ix2 i j) + ∑ k : Fin 256, x (ix2 i k) * y (ix2 k j) := by
  pointwise [k0_pay2]

/-! ## Where the blocks lie in their arrays -/

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem lt_N (t : Fin cfg0.N) : t.val < 16 := t.isLt

variable (m : (ℓ : Loc nD τ sig) → Buf (Elt Ideal) ℓ) (c : Dev nD)

abbrev lhs : Mat 16384 256 := m ((c.tc : Thread nD τ).loc main_arg0)
abbrev rhs : Mat 256 512 := m ((c.tc : Thread nD τ).loc main_arg1)

theorem blk_0 (t : Fin cfg0.N) (i : Fin 1024) (k : Fin 256) :
    iblk m c 0 t (ix2 i k) = ent (lhs m c) (1024 * (t.val) + i.val) (0 + k.val) := by
  blk_simp [iblk]
  refine ix_ent (lhs m c) _ _ _ ?_ ?_
  all_goals simp [index_0, Nat.mul_comm]

theorem blk_1 (t : Fin cfg0.N) (i : Fin 256) (k : Fin 512) :
    iblk m c 1 t (ix2 i k) = ent (rhs m c) (0 + i.val) (0 + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x256 .f32) (y : Vec Ideal S256x512 .bf16) (hx : x = iblk m c 0 t) (hy : y = iblk m c 1 t)
    (i : Fin 1024) (j : Fin 512) :
    ∑ k : Fin 256, x (ix2 i k) * y (ix2 k j)
      = part (nn (lhs m c) (rhs m c) (1024 * (t.val) + i.val) (0 + j.val)) 256 (0) := by
  refine Finset.sum_congr rfl fun k _ => ?_
  rw [hx, hy, blk_0, blk_1]
  simp only [Nat.mul_zero, Nat.zero_add]
  rfl

/-- The result's block after its point. -/
theorem block (t : Fin cfg0.N) (i : Fin 1024) (j : Fin 512) :
    outsAt0 m c t (ix2 i j) = ∑ k : Fin 256, nn (lhs m c) (rhs m c) (1024 * (t.val) + i.val) (0 + j.val) k.val := by
  unfold outsAt0
  rw [out, pay2_at, pay1_at, zero_add]
  refine (part_eq m c t _ _ rfl rfl i j).trans (Eq.trans ?_ (sum_parts 1 256 rfl _))
  rw [Finset.sum_range_one]

theorem emb_out (t : Fin cfg0.N) (i : Fin 1024) (j : Fin 512) :
    ((win0_2.blk t).view.emb (ix2 i j) 0).val = 1024 * (t.val) + i.val ∧ ((win0_2.blk t).view.emb (ix2 i j) 1).val = 0 + j.val := by
  constructor
  all_goals blk_simp []
  all_goals simp [index_2, Nat.mul_comm]

/-- The result array after the last point. -/
theorem out_arr : (dats m 0 c).arrAt 2 cfg0.N = prodNN (lhs m c) (rhs m c) := by
  refine (dats m 0 c).arrAt_eq_of_covers 2 (prodNN (lhs m c) (rhs m c)) (by decide +kernel) fun t hf y => ?_
  blk_simp
  obtain ⟨i, j, rfl⟩ : ∃ (i : Fin 1024) (j : Fin 512), y = ix2 i j := ⟨y 0, y 1, ix_eq y⟩
  rw [after0_2]
  obtain ⟨e0, e1⟩ := emb_out t i j
  refine (block m c t i j).trans ?_
  unfold prodNN
  rw [e0, e1]

end Cert.GluFwdIdeal.Mm

namespace Cert.GluFwdReferenceIdeal.Mm

open Cert.GluFwdReferenceIdeal Cert.GluFwdReferenceIdeal.Gen Cert.Mm
open Idealize.ShloMosaic Idealize.ShloMosaic.TcCoe Idealize.ShloMosaic.Tactic Idealize.SL.Sem

/-- The reference's result, as it computes it. -/
abbrev result (x : FVec Ideal S16384x256 .f32) (w : FVec Ideal S256x512 .bf16) : FVec Ideal S16384x512 .f32 :=
  Host.dotGeneral dot_S16384x256_S256x512_S16384x512_1_0_0_1_n_n none x (extf .f32 w bitsLt_bf16_f32)

theorem result_at (x : FVec Ideal S16384x256 .f32) (w : FVec Ideal S256x512 .bf16) (i : Fin 16384) (j : Fin 512) :
    result x w (ix2 i j) = (∑ k : Fin 256, x (ix2 i k) * w (ix2 k j)) := by
  pointwise [result]

theorem result_eq (x : FVec Ideal S16384x256 .f32) (w : FVec Ideal S256x512 .bf16) : result x w = prodNN x w :=
  mat_ext fun i j => (result_at x w i j).trans (prodNN_at x w i j).symm

/-- The reference ends with its arguments unchanged and no semaphore raised. -/
theorem frame : Cert.quiescent_GluFwdReferenceIdeal (hGluFwdReferenceIdeal := Cert.GluFwdReferenceIdeal.Gen.facts) := fun m ρ _ =>
  (θ_run Cert.GluFwdReferenceIdeal.defs _ _).mono (fun r h => ⟨fun c => (h c).2, sem_eq_zero_of_no_sems (by decide) r.2⟩) (Cert.GluFwdReferenceIdeal.Value.run (F := Ideal) m ρ)

/-- Kernel and reference end with the same product and unchanged arguments. -/
theorem algebraic : Cert.algebraic_GluFwdIdeal_GluFwdReferenceIdeal (hGluFwdIdeal := Cert.GluFwdIdeal.Gen.facts) (hGluFwdReferenceIdeal := Cert.GluFwdReferenceIdeal.Gen.facts) := by
  intro m g m' g' _ ha
  refine ⟨fun c => prodNN (Cert.GluFwdIdeal.Mm.lhs m c) (Cert.GluFwdIdeal.Mm.rhs m c), ?_, ?_⟩
  · exact (θ_run Cert.GluFwdIdeal.defs _ _).mono (fun r h c => ⟨((h.1 c).1 2).trans (Cert.GluFwdIdeal.Mm.out_arr m c), h.2.1 c⟩)
      (θ_run_and (Cert.GluFwdIdeal.Gen.run_main m g) (Cert.GluFwdIdeal.Gen.frame m g))
  · refine (θ_run Cert.GluFwdReferenceIdeal.defs _ _).mono (fun r h c => ?_) (Cert.GluFwdReferenceIdeal.Value.run (F := Ideal) m' g')
    obtain ⟨h0, h1⟩ := ha c
    obtain ⟨r0, rest⟩ := h c
    refine ⟨r0.trans ((result_eq _ _).trans ?_), rest⟩
    exact congrArg₂ prodNN h0 h1

end Cert.GluFwdReferenceIdeal.Mm
end
-- ==== Proof.GluDx.lean ====
/- The gradient of its input: what the kernel computes block by block, and that the reference computes the same. -/
module

public import proofs.«01_k».proof.Proof.Mm
public import proofs.«01_k».proof.Defs
public import proofs.«01_k».proof.Proof.Gen.GluDxIdeal
public import proofs.«01_k».proof.Proof.Gen.GluDxIdeal.Frame
public import proofs.«01_k».proof.Proof.Gen.GluDxReferenceIdeal
public import proofs.«01_k».proof.Proof.Gen.GluDxReferenceIdeal.Run
public import Idealize.ShloMosaic.Lib.Pipeline.ValueKit
public import Idealize.ShloMosaic.Adequacy
public import Idealize.ShloMosaic.Init

@[expose] public section

noncomputable section

namespace Cert.GluDxIdeal.Mm

open Cert.GluDxIdeal Cert.GluDxIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x512 .f32) (h3 : a3.IsWhole) (a4 : Memref sig .tc .vmem S256x512 .bf16) (h4 : a4.IsWhole) (a5 : Memref sig .tc .vmem S1024x256 .f32) (h5 : a5.IsWhole) (a6 : Memref sig .tc .vmem S1024x256 .f32) (h6 : a6.IsWhole)
  (x : Vec Ideal S1024x512 .f32) (y : Vec Ideal S256x512 .bf16) (s : Vec Ideal S1024x256 .f32)

theorem out (hc0 : cond0_0 i) (hc1 : cond0_1 i) :
    out0_A_2 c i a3 h3 a4 h4 a5 h5 a6 h6 hc0 hc1 x y = k0_pay2 x y (k0_pay1 (F := Ideal)) := by
  unfold out0_A_2
  rw [View.read_writes_eq_canon _ _ _ (cover0_A_2 c i a3 h3 a4 h4 a5 h5 a6 h6 hc0 hc1 x y)]
  unfold kernelRun0_A
  dsimp only
  sl_unfold_words
  simp only [View.canon_unit_zero (S := S1024x256) offset_zero, View.readCov_unit_zero (S := S1024x256) _ offset_zero,
    View.readAt_eq_ld, h3.read_unread, h4.read_unread, View.ld_unit_zero (S := S1024x512) offset_zero, View.ld_unit_zero (S := S256x512) offset_zero, View.ld_unit_zero (S := S1024x256) offset_zero, shapeCast_self]
  exact (View.readCov_cons_unit_lit' (S := S1024x256) a6.view _ _ _ _ (congrFun offset_zero) (congrFun offset_zero))

end Cases

theorem pay1_at (i : Fin 1024) (j : Fin 256) : k0_pay1 (F := Ideal) (ix2 i j) = 0 := by
  pointwise [k0_pay1]

theorem pay2_at (x : Vec Ideal S1024x512 .f32) (y : Vec Ideal S256x512 .bf16) (s : Vec Ideal S1024x256 .f32) (i : Fin 1024) (j : Fin 256) :
    k0_pay2 (F := Ideal) x y s (ix2 i j) = s (ix2 i j) + ∑ k : Fin 512, x (ix2 i k) * y (ix2 j k) := by
  pointwise [k0_pay2]

/-! ## Where the blocks lie in their arrays -/

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem lt_N (t : Fin cfg0.N) : t.val < 16 := t.isLt

variable (m : (ℓ : Loc nD τ sig) → Buf (Elt Ideal) ℓ) (c : Dev nD)

abbrev lhs : Mat 16384 512 := m ((c.tc : Thread nD τ).loc main_arg0)
abbrev rhs : Mat 256 512 := m ((c.tc : Thread nD τ).loc main_arg1)

theorem blk_0 (t : Fin cfg0.N) (i : Fin 1024) (k : Fin 512) :
    iblk m c 0 t (ix2 i k) = ent (lhs m c) (1024 * (t.val) + i.val) (0 + k.val) := by
  blk_simp [iblk]
  refine ix_ent (lhs m c) _ _ _ ?_ ?_
  all_goals simp [index_0, Nat.mul_comm]

theorem blk_1 (t : Fin cfg0.N) (i : Fin 256) (k : Fin 512) :
    iblk m c 1 t (ix2 i k) = ent (rhs m c) (0 + i.val) (0 + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x512 .f32) (y : Vec Ideal S256x512 .bf16) (hx : x = iblk m c 0 t) (hy : y = iblk m c 1 t)
    (i : Fin 1024) (j : Fin 256) :
    ∑ k : Fin 512, x (ix2 i k) * y (ix2 j k)
      = part (nt (lhs m c) (rhs m c) (1024 * (t.val) + i.val) (0 + j.val)) 512 (0) := by
  refine Finset.sum_congr rfl fun k _ => ?_
  rw [hx, hy, blk_0, blk_1]
  simp only [Nat.mul_zero, Nat.zero_add]
  rfl

/-- The result's block after its point. -/
theorem block (t : Fin cfg0.N) (i : Fin 1024) (j : Fin 256) :
    outsAt0 m c t (ix2 i j) = ∑ k : Fin 512, nt (lhs m c) (rhs m c) (1024 * (t.val) + i.val) (0 + j.val) k.val := by
  unfold outsAt0
  rw [out, pay2_at, pay1_at, zero_add]
  refine (part_eq m c t _ _ rfl rfl i j).trans (Eq.trans ?_ (sum_parts 1 512 rfl _))
  rw [Finset.sum_range_one]

theorem emb_out (t : Fin cfg0.N) (i : Fin 1024) (j : Fin 256) :
    ((win0_2.blk t).view.emb (ix2 i j) 0).val = 1024 * (t.val) + i.val ∧ ((win0_2.blk t).view.emb (ix2 i j) 1).val = 0 + j.val := by
  constructor
  all_goals blk_simp []
  all_goals simp [index_2, Nat.mul_comm]

/-- The result array after the last point. -/
theorem out_arr : (dats m 0 c).arrAt 2 cfg0.N = prodNT (lhs m c) (rhs m c) := by
  refine (dats m 0 c).arrAt_eq_of_covers 2 (prodNT (lhs m c) (rhs m c)) (by decide +kernel) fun t hf y => ?_
  blk_simp
  obtain ⟨i, j, rfl⟩ : ∃ (i : Fin 1024) (j : Fin 256), y = ix2 i j := ⟨y 0, y 1, ix_eq y⟩
  rw [after0_2]
  obtain ⟨e0, e1⟩ := emb_out t i j
  refine (block m c t i j).trans ?_
  unfold prodNT
  rw [e0, e1]

end Cert.GluDxIdeal.Mm

namespace Cert.GluDxReferenceIdeal.Mm

open Cert.GluDxReferenceIdeal Cert.GluDxReferenceIdeal.Gen Cert.Mm
open Idealize.ShloMosaic Idealize.ShloMosaic.TcCoe Idealize.ShloMosaic.Tactic Idealize.SL.Sem

/-- The reference's result, as it computes it. -/
abbrev result (x : FVec Ideal S16384x512 .f32) (w : FVec Ideal S256x512 .bf16) : FVec Ideal S16384x256 .f32 :=
  Host.dotGeneral dot_S16384x512_S256x512_S16384x256_1_1_0_0_n_n none x (extf .f32 w bitsLt_bf16_f32)

theorem result_at (x : FVec Ideal S16384x512 .f32) (w : FVec Ideal S256x512 .bf16) (i : Fin 16384) (j : Fin 256) :
    result x w (ix2 i j) = (∑ k : Fin 512, x (ix2 i k) * w (ix2 j k)) := by
  pointwise [result]

theorem result_eq (x : FVec Ideal S16384x512 .f32) (w : FVec Ideal S256x512 .bf16) : result x w = prodNT x w :=
  mat_ext fun i j => (result_at x w i j).trans (prodNT_at x w i j).symm

/-- The reference ends with its arguments unchanged and no semaphore raised. -/
theorem frame : Cert.quiescent_GluDxReferenceIdeal (hGluDxReferenceIdeal := Cert.GluDxReferenceIdeal.Gen.facts) := fun m ρ _ =>
  (θ_run Cert.GluDxReferenceIdeal.defs _ _).mono (fun r h => ⟨fun c => (h c).2, sem_eq_zero_of_no_sems (by decide) r.2⟩) (Cert.GluDxReferenceIdeal.Value.run (F := Ideal) m ρ)

/-- Kernel and reference end with the same product and unchanged arguments. -/
theorem algebraic : Cert.algebraic_GluDxIdeal_GluDxReferenceIdeal (hGluDxIdeal := Cert.GluDxIdeal.Gen.facts) (hGluDxReferenceIdeal := Cert.GluDxReferenceIdeal.Gen.facts) := by
  intro m g m' g' _ ha
  refine ⟨fun c => prodNT (Cert.GluDxIdeal.Mm.lhs m c) (Cert.GluDxIdeal.Mm.rhs m c), ?_, ?_⟩
  · exact (θ_run Cert.GluDxIdeal.defs _ _).mono (fun r h c => ⟨((h.1 c).1 2).trans (Cert.GluDxIdeal.Mm.out_arr m c), h.2.1 c⟩)
      (θ_run_and (Cert.GluDxIdeal.Gen.run_main m g) (Cert.GluDxIdeal.Gen.frame m g))
  · refine (θ_run Cert.GluDxReferenceIdeal.defs _ _).mono (fun r h c => ?_) (Cert.GluDxReferenceIdeal.Value.run (F := Ideal) m' g')
    obtain ⟨h0, h1⟩ := ha c
    obtain ⟨r0, rest⟩ := h c
    refine ⟨r0.trans ((result_eq _ _).trans ?_), rest⟩
    exact congrArg₂ prodNT h0 h1

end Cert.GluDxReferenceIdeal.Mm
end
-- ==== Proof.GluDw.lean ====
/- The gradient of its weights: what the kernel computes block by block, and that the reference computes the same. -/
module

public import proofs.«01_k».proof.Proof.Mm
public import proofs.«01_k».proof.Defs
public import proofs.«01_k».proof.Proof.Gen.GluDwIdeal
public import proofs.«01_k».proof.Proof.Gen.GluDwIdeal.Frame
public import proofs.«01_k».proof.Proof.Gen.GluDwReferenceIdeal
public import proofs.«01_k».proof.Proof.Gen.GluDwReferenceIdeal.Run
public import Idealize.ShloMosaic.Lib.Pipeline.ValueKit
public import Idealize.ShloMosaic.Adequacy
public import Idealize.ShloMosaic.Init

@[expose] public section

noncomputable section

namespace Cert.GluDwIdeal.Mm

open Cert.GluDwIdeal Cert.GluDwIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a3 : Memref sig .tc .vmem S1024x256 .f32) (h3 : a3.IsWhole) (a4 : Memref sig .tc .vmem S1024x512 .f32) (h4 : a4.IsWhole) (a5 : Memref sig .tc .vmem S256x512 .bf16) (h5 : a5.IsWhole) (a6 : Memref sig .tc .vmem S256x512 .f32) (h6 : a6.IsWhole)
  (x : Vec Ideal S1024x256 .f32) (y : Vec Ideal S1024x512 .f32) (s : Vec Ideal S256x512 .f32)

theorem first (hc0 : cond0_0 i) (hc1 : ¬cond0_1 i) :
    sout0_A_0 c i a3 h3 a4 h4 a5 h5 a6 h6 hc0 hc1 x y = k0_pay2 x y (k0_pay1 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  simp only [View.canon_unit_zero (S := S256x512) offset_zero, View.canon_cons_unit_zero (S := S256x512) offset_zero, View.readCov_unit_zero (S := S256x512) _ offset_zero,
    View.readAt_eq_ld, h3.read_unread, h4.read_unread, View.ld_unit_zero (S := S1024x256) offset_zero, View.ld_unit_zero (S := S1024x512) offset_zero, View.ld_unit_zero (S := S256x512) offset_zero, shapeCast_self]

theorem next (hc0 : ¬cond0_0 i) (hc1 : ¬cond0_1 i) :
    sout0_B_0 c i a3 h3 a4 h4 a5 h5 a6 h6 hc0 hc1 x y s = k0_pay2 x y s := by
  unfold sout0_B_0
  rw [View.read_writes_eq_canon _ _ _ (scover0_B_0 c i a3 h3 a4 h4 a5 h5 a6 h6 hc0 hc1 x y s)]
  unfold kernelRun0_B
  dsimp only
  simp only [View.canon_unit_zero (S := S256x512) offset_zero, View.canon_cons_unit_zero (S := S256x512) offset_zero, View.readCov_unit_zero (S := S256x512) _ offset_zero,
    View.readAt_eq_ld, h3.read_unread, h4.read_unread, h6.read_unread, View.ld_unit_zero (S := S1024x256) offset_zero, View.ld_unit_zero (S := S1024x512) offset_zero, View.ld_unit_zero (S := S256x512) offset_zero, shapeCast_self]

theorem last (hc0 : ¬cond0_0 i) (hc1 : cond0_1 i) :
    sout0_C_0 c i a3 h3 a4 h4 a5 h5 a6 h6 hc0 hc1 x y s = k0_pay2 x y s := by
  unfold sout0_C_0
  rw [View.read_writes_eq_canon _ _ _ (scover0_C_0 c i a3 h3 a4 h4 a5 h5 a6 h6 hc0 hc1 x y s)]
  unfold kernelRun0_C
  dsimp only
  sl_unfold_words
  simp only [View.canon_unit_zero (S := S256x512) offset_zero, View.canon_cons_unit_zero (S := S256x512) offset_zero, View.readCov_unit_zero (S := S256x512) _ offset_zero,
    View.readAt_eq_ld, h3.read_unread, h4.read_unread, h6.read_unread, View.ld_unit_zero (S := S1024x256) offset_zero, View.ld_unit_zero (S := S1024x512) offset_zero, View.ld_unit_zero (S := S256x512) offset_zero, shapeCast_self]

theorem out (hc0 : ¬cond0_0 i) (hc1 : cond0_1 i) :
    out0_C_2 c i a3 h3 a4 h4 a5 h5 a6 h6 hc0 hc1 x y s = k0_pay3 (k0_pay2 x y s) := by
  unfold out0_C_2
  rw [View.read_writes_eq_canon _ _ _ (cover0_C_2 c i a3 h3 a4 h4 a5 h5 a6 h6 hc0 hc1 x y s)]
  unfold kernelRun0_C
  dsimp only
  sl_unfold_words
  simp only [View.canon_unit_zero (S := S256x512) offset_zero, View.readCov_unit_zero (S := S256x512) _ offset_zero,
    View.readAt_eq_ld, h3.read_unread, h4.read_unread, h6.read_unread, View.ld_unit_zero (S := S1024x256) offset_zero, View.ld_unit_zero (S := S1024x512) offset_zero, View.ld_unit_zero (S := S256x512) offset_zero, shapeCast_self]

end Cases

theorem pay1_at (i : Fin 256) (j : Fin 512) : k0_pay1 (F := Ideal) (ix2 i j) = 0 := by
  pointwise [k0_pay1]

theorem pay2_at (x : Vec Ideal S1024x256 .f32) (y : Vec Ideal S1024x512 .f32) (s : Vec Ideal S256x512 .f32) (i : Fin 256) (j : Fin 512) :
    k0_pay2 (F := Ideal) x y s (ix2 i j) = s (ix2 i j) + ∑ k : Fin 1024, x (ix2 k i) * y (ix2 k j) := by
  pointwise [k0_pay2]

theorem pay3_at (s : Vec Ideal S256x512 .f32) (i : Fin 256) (j : Fin 512) : k0_pay3 (F := Ideal) s (ix2 i j) = s (ix2 i j) := by
  pointwise [k0_pay3]

/-! ## Where the blocks lie in their arrays -/

theorem index_0 : ∀ t : Fin cfg0.N, win0_0.index t = ![t.val % 16, 0] := (by decide +kernel : ∀ t : Fin grid0.N, _)
theorem index_1 : ∀ t : Fin cfg0.N, win0_1.index t = ![t.val % 16, 0] := (by decide +kernel : ∀ t : Fin grid0.N, _)
theorem index_2 : ∀ t : Fin cfg0.N, win0_2.index t = ![0, 0] := (by decide +kernel : ∀ t : Fin grid0.N, _)
theorem lt_N (t : Fin cfg0.N) : t.val < 16 := t.isLt

variable (m : (ℓ : Loc nD τ sig) → Buf (Elt Ideal) ℓ) (c : Dev nD)

abbrev lhs : Mat 16384 256 := m ((c.tc : Thread nD τ).loc main_arg0)
abbrev rhs : Mat 16384 512 := m ((c.tc : Thread nD τ).loc main_arg1)

theorem blk_0 (t : Fin cfg0.N) (i : Fin 1024) (k : Fin 256) :
    iblk m c 0 t (ix2 i k) = ent (lhs m c) (1024 * (t.val % 16) + i.val) (0 + k.val) := by
  blk_simp [iblk]
  refine ix_ent (lhs m c) _ _ _ ?_ ?_
  all_goals simp [index_0, Nat.mul_comm]

theorem blk_1 (t : Fin cfg0.N) (i : Fin 1024) (k : Fin 512) :
    iblk m c 1 t (ix2 i k) = ent (rhs m c) (1024 * (t.val % 16) + i.val) (0 + k.val) := by
  blk_simp [iblk]
  refine ix_ent (rhs m c) _ _ _ ?_ ?_
  all_goals simp [index_1, Nat.mul_comm]

/-- What a point adds to the running sum: one block's part of an entry of the product. -/
theorem part_eq (t : Fin cfg0.N) (x : Vec Ideal S1024x256 .f32) (y : Vec Ideal S1024x512 .f32) (hx : x = iblk m c 0 t) (hy : y = iblk m c 1 t)
    (i : Fin 256) (j : Fin 512) :
    ∑ k : Fin 1024, x (ix2 k i) * y (ix2 k j)
      = part (tn (lhs m c) (rhs m c) (0 + i.val) (0 + j.val)) 1024 (t.val % 16) := by
  refine Finset.sum_congr rfl fun k _ => ?_
  rw [hx, hy, blk_0, blk_1]
  rfl

/-- What a block's first point leaves in the running sum. -/
theorem step_first (t : Fin cfg0.N) (h : t.val % 16 = 0) (i : Fin 256) (j : Fin 512) :
    (outsAt0 m c t.val t.isLt).2 (ix2 i j) = part (tn (lhs m c) (rhs m c) (0 + i.val) (0 + j.val)) 1024 (t.val % 16) := by
  rw [outsAt0_A m c t h (by omega)]
  dsimp only
  rw [first, pay2_at, pay1_at, zero_add]
  exact part_eq m c t _ _ rfl rfl i j

/-- What a later point adds to the running sum. -/
theorem step_next (t : Fin cfg0.N) (h : t.val % 16 ≠ 0) (i : Fin 256) (j : Fin 512) :
    (outsAt0 m c t.val t.isLt).2 (ix2 i j) = (outsAt0 m c (t.val - 1) (lt_of_le_of_lt (Nat.sub_le _ _) t.isLt)).2 (ix2 i j)
      + part (tn (lhs m c) (rhs m c) (0 + i.val) (0 + j.val)) 1024 (t.val % 16) := by
  refine Eq.trans ?_ (congrArg (_ + ·) (part_eq m c t _ _ rfl rfl i j))
  by_cases hl : t.val % 16 = 15
  · rw [outsAt0_C m c t h hl]
    dsimp only
    rw [last, pay2_at]
  · rw [outsAt0_B m c t h hl]
    dsimp only
    rw [next, pay2_at]

/-- The result's block at the point that writes it back. -/
theorem block (t : Fin cfg0.N) (h : t.val % 16 = 15) (i : Fin 256) (j : Fin 512) :
    (outsAt0 m c t.val t.isLt).1 (ix2 i j) = (∑ k : Fin 16384, tn (lhs m c) (rhs m c) (0 + i.val) (0 + j.val) k.val) := by
  have e : (outsAt0 m c t.val t.isLt).1 = k0_pay3 ((outsAt0 m c t.val t.isLt).2) := by
    rw [outsAt0_C m c t (by omega) h]
    dsimp only
    rw [out, last]
  rw [e, pay3_at]
  exact held 16 1024 16384 (by norm_num) rfl (fun n h => (outsAt0 m c n h).2) (tn (lhs m c) (rhs m c)) (fun _ => 0) (fun _ => 0)
    (fun n h e => step_first m c ⟨n, h⟩ e) (fun n h e => step_next m c ⟨n, h⟩ e) t.val t.isLt h i j

theorem emb_out (t : Fin cfg0.N) (i : Fin 256) (j : Fin 512) :
    ((win0_2.blk t).view.emb (ix2 i j) 0).val = 0 + i.val ∧ ((win0_2.blk t).view.emb (ix2 i j) 1).val = 0 + j.val := by
  constructor
  all_goals blk_simp []
  all_goals simp [index_2, Nat.mul_comm]

/-- The result array after the last point. -/
theorem out_arr : (dats m 0 c).arrAt 2 cfg0.N = prodTN (lhs m c) (rhs m c) := by
  refine (dats m 0 c).arrAt_eq_of_covers 2 (prodTN (lhs m c) (rhs m c)) (by decide +kernel) fun t hf y => ?_
  blk_simp
  obtain ⟨i, j, rfl⟩ : ∃ (i : Fin 256) (j : Fin 512), y = ix2 i j := ⟨y 0, y 1, ix_eq y⟩
  rw [after0_2]
  obtain ⟨e0, e1⟩ := emb_out t i j
  refine (block m c t ((flush0_2 t).mp hf) i j).trans ?_
  unfold prodTN
  rw [e0, e1]

end Cert.GluDwIdeal.Mm

namespace Cert.GluDwReferenceIdeal.Mm

open Cert.GluDwReferenceIdeal Cert.GluDwReferenceIdeal.Gen Cert.Mm
open Idealize.ShloMosaic Idealize.ShloMosaic.TcCoe Idealize.ShloMosaic.Tactic Idealize.SL.Sem

/-- The reference's result, as it computes it. -/
abbrev result (x : FVec Ideal S16384x256 .f32) (w : FVec Ideal S16384x512 .f32) : FVec Ideal S256x512 .bf16 :=
  truncf .bf16 (transpose S256x512 [1, 0] (Host.dotGeneral dot_S16384x512_S16384x256_S512x256_0_0_1_1_n_n none w x) transposes_S512x256_S256x512_1_0) bitsLt_bf16_f32

theorem result_at (x : FVec Ideal S16384x256 .f32) (w : FVec Ideal S16384x512 .f32) (i : Fin 256) (j : Fin 512) :
    result x w (ix2 i j) = (∑ k : Fin 16384, w (ix2 k j) * x (ix2 k i)) := by
  pointwise [result]

theorem result_eq (x : FVec Ideal S16384x256 .f32) (w : FVec Ideal S16384x512 .f32) : result x w = prodTN x w :=
  mat_ext fun i j => (result_at x w i j).trans (prodTN_at x w i j).symm

/-- The reference ends with its arguments unchanged and no semaphore raised. -/
theorem frame : Cert.quiescent_GluDwReferenceIdeal (hGluDwReferenceIdeal := Cert.GluDwReferenceIdeal.Gen.facts) := fun m ρ _ =>
  (θ_run Cert.GluDwReferenceIdeal.defs _ _).mono (fun r h => ⟨fun c => (h c).2, sem_eq_zero_of_no_sems (by decide) r.2⟩) (Cert.GluDwReferenceIdeal.Value.run (F := Ideal) m ρ)

/-- Kernel and reference end with the same product and unchanged arguments. -/
theorem algebraic : Cert.algebraic_GluDwIdeal_GluDwReferenceIdeal (hGluDwIdeal := Cert.GluDwIdeal.Gen.facts) (hGluDwReferenceIdeal := Cert.GluDwReferenceIdeal.Gen.facts) := by
  intro m g m' g' _ ha
  refine ⟨fun c => prodTN (Cert.GluDwIdeal.Mm.lhs m c) (Cert.GluDwIdeal.Mm.rhs m c), ?_, ?_⟩
  · exact (θ_run Cert.GluDwIdeal.defs _ _).mono (fun r h c => ⟨((h.1 c).1 2).trans (Cert.GluDwIdeal.Mm.out_arr m c), h.2.1 c⟩)
      (θ_run_and (Cert.GluDwIdeal.Gen.run_main m g) (Cert.GluDwIdeal.Gen.frame m g))
  · refine (θ_run Cert.GluDwReferenceIdeal.defs _ _).mono (fun r h c => ?_) (Cert.GluDwReferenceIdeal.Value.run (F := Ideal) m' g')
    obtain ⟨h0, h1⟩ := ha c
    obtain ⟨r0, rest⟩ := h c
    refine ⟨r0.trans ((result_eq _ _).trans ?_), rest⟩
    exact congrArg₂ prodTN h0 h1

end Cert.GluDwReferenceIdeal.Mm
end
-- ==== Proof.Cat.lean ====
/- Eight matrices laid side by side, of the widths of the projection's column groups, and the columns of a product. -/
module

public import proofs.«01_k».proof.Proof.Mm

@[expose] public section

noncomputable section

namespace Cert.Mm

open Idealize.ShloMosaic

/-- The entry in row `i` and column `k` of eight matrices laid side by side. -/
def cat (a0 a1 a2 a3 a4 a5 a6 a7 : ℕ → ℕ → EReal) (i k : ℕ) : EReal :=
  if k < 128 then a0 i k
  else if k - 128 < 128 then a1 i (k - 128)
  else if k - 128 - 128 < 256 then a2 i (k - 128 - 128)
  else if k - 128 - 128 - 256 < 128 then a3 i (k - 128 - 128 - 256)
  else if k - 128 - 128 - 256 - 128 < 128 then a4 i (k - 128 - 128 - 256 - 128)
  else if k - 128 - 128 - 256 - 128 - 128 < 256 then a5 i (k - 128 - 128 - 256 - 128 - 128)
  else if k - 128 - 128 - 256 - 128 - 128 - 256 < 256 then a6 i (k - 128 - 128 - 256 - 128 - 128 - 256)
  else a7 i (k - 128 - 128 - 256 - 128 - 128 - 256 - 256)

/-- The matrix so made. -/
def side {p : ℕ} (a0 a1 : Mat p 128) (a2 : Mat p 256) (a3 a4 : Mat p 128) (a5 a6 a7 : Mat p 256) : Mat p 1536 :=
  fun y => cat (ent a0) (ent a1) (ent a2) (ent a3) (ent a4) (ent a5) (ent a6) (ent a7) (y 0).val (y 1).val

theorem side_congr {p : ℕ} {x0 x1 y0 y1 : Mat p 128} {x2 y2 : Mat p 256} {x3 x4 y3 y4 : Mat p 128} {x5 x6 x7 y5 y6 y7 : Mat p 256}
    (h0 : x0 = y0) (h1 : x1 = y1) (h2 : x2 = y2) (h3 : x3 = y3) (h4 : x4 = y4) (h5 : x5 = y5) (h6 : x6 = y6) (h7 : x7 = y7) :
    side x0 x1 x2 x3 x4 x5 x6 x7 = side y0 y1 y2 y3 y4 y5 y6 y7 := by
  subst h0 h1 h2 h3 h4 h5 h6 h7
  rfl

/-- `concatenate` makes that matrix. -/
theorem concat_eq {p : ℕ} (a0 a1 : Mat p 128) (a2 : Mat p 256) (a3 a4 : Mat p 128) (a5 a6 a7 : Mat p 256)
    (h : Shape.Concatenates [⟨2, ![p, 128]⟩, ⟨2, ![p, 128]⟩, ⟨2, ![p, 256]⟩, ⟨2, ![p, 128]⟩, ⟨2, ![p, 128]⟩, ⟨2, ![p, 256]⟩, ⟨2, ![p, 256]⟩, ⟨2, ![p, 256]⟩]
      ⟨2, ![p, 1536]⟩ 1) :
    concatenate ⟨2, ![p, 1536]⟩ 1 [⟨⟨2, ![p, 128]⟩, a0⟩, ⟨⟨2, ![p, 128]⟩, a1⟩, ⟨⟨2, ![p, 256]⟩, a2⟩, ⟨⟨2, ![p, 128]⟩, a3⟩,
      ⟨⟨2, ![p, 128]⟩, a4⟩, ⟨⟨2, ![p, 256]⟩, a5⟩, ⟨⟨2, ![p, 256]⟩, a6⟩, ⟨⟨2, ![p, 256]⟩, a7⟩] h
      = side a0 a1 a2 a3 a4 a5 a6 a7 := by
  refine mat_ext fun i k => ?_
  pointwise [side, cat]
  split_ifs <;> exact ix_ent _ _ _ _ rfl rfl

/-- A block of rows: if a block's entries are those of a matrix from row `R` on, then so is it outside the columns too, where both are zero. -/
theorem ent_block {a p q : ℕ} {x : Mat a q} {X : Mat p q} {R : ℕ} (h : ∀ i k, x (ix2 i k) = ent X (R + i.val) k.val) (i : Fin a) (k : ℕ) :
    ent x i.val k = ent X (R + i.val) k := by
  by_cases hk : k < q
  · exact (ent_ix x i ⟨k, hk⟩).trans (h i ⟨k, hk⟩)
  · unfold ent
    rw [dif_neg fun e => hk e.2, dif_neg fun e => hk e.2]

/-- Blocks of rows laid side by side are a block of rows of the matrices laid side by side. -/
theorem side_block {a p : ℕ} {x0 x1 : Mat a 128} {x2 : Mat a 256} {x3 x4 : Mat a 128} {x5 x6 x7 : Mat a 256}
    {X0 X1 : Mat p 128} {X2 : Mat p 256} {X3 X4 : Mat p 128} {X5 X6 X7 : Mat p 256} {R : ℕ} (hR : ∀ i : Fin a, R + i.val < p)
    (h0 : ∀ i k, x0 (ix2 i k) = ent X0 (R + i.val) k.val) (h1 : ∀ i k, x1 (ix2 i k) = ent X1 (R + i.val) k.val)
    (h2 : ∀ i k, x2 (ix2 i k) = ent X2 (R + i.val) k.val) (h3 : ∀ i k, x3 (ix2 i k) = ent X3 (R + i.val) k.val)
    (h4 : ∀ i k, x4 (ix2 i k) = ent X4 (R + i.val) k.val) (h5 : ∀ i k, x5 (ix2 i k) = ent X5 (R + i.val) k.val)
    (h6 : ∀ i k, x6 (ix2 i k) = ent X6 (R + i.val) k.val) (h7 : ∀ i k, x7 (ix2 i k) = ent X7 (R + i.val) k.val)
    (i : Fin a) (k : Fin 1536) :
    side x0 x1 x2 x3 x4 x5 x6 x7 (ix2 i k) = ent (side X0 X1 X2 X3 X4 X5 X6 X7) (R + i.val) k.val := by
  refine Eq.trans ?_ (ent_ix (side X0 X1 X2 X3 X4 X5 X6 X7) ⟨R + i.val, hR i⟩ k).symm
  show cat _ _ _ _ _ _ _ _ i.val k.val = cat _ _ _ _ _ _ _ _ (R + i.val) k.val
  simp only [cat, ent_block h0, ent_block h1, ent_block h2, ent_block h3, ent_block h4, ent_block h5, ent_block h6, ent_block h7]

/-- The columns from `o` on of the product of `x` and `w`. -/
def prodCols {p q s r : ℕ} (o : ℕ) (x : Mat p q) (w : Mat q s) : Mat p r := fun y => ∑ k : Fin q, nn x w (y 0).val (o + (y 1).val) k.val

/-- An entry of a matrix's columns from `o` on. -/
theorem slice_ent {p s r : ℕ} (o : ℕ) (v : Mat p s) (h : (⟨2, ![p, s]⟩ : Shape).Slices ![0, o] ⟨2, ![p, r]⟩) (i : Fin p) (j : Fin r) :
    extractStridedSlice ⟨2, ![p, r]⟩ ![0, o] v h (ix2 i j) = ent v i.val (o + j.val) :=
  ix_ent v _ _ _ (Nat.zero_add _) rfl

/-- Cutting these columns out of the product leaves `prodCols`. -/
theorem cols_eq {p q s r : ℕ} (o : ℕ) {v : Mat p s} {x x' : Mat p q} {w w' : Mat q s} (hv : v = prodNN x w) (hx : x = x') (hw : w = w')
    (h : (⟨2, ![p, s]⟩ : Shape).Slices ![0, o] ⟨2, ![p, r]⟩) :
    extractStridedSlice ⟨2, ![p, r]⟩ ![0, o] v h = prodCols o x' w' := by
  subst hv hx hw
  refine mat_ext fun i j => ?_
  show (∑ k : Fin q, nn x w (0 + i.val) (o + j.val) k.val) = ∑ k : Fin q, nn x w i.val (o + j.val) k.val
  rw [Nat.zero_add]

end Cert.Mm
end
-- ==== Proof.SplitFwd.lean ====
/- The projection of the latents into eight column groups: what the kernel computes for each group, and that the reference computes the same. -/
module

public import proofs.«01_k».proof.Proof.Cat
public import proofs.«01_k».proof.Defs
public import proofs.«01_k».proof.Proof.Gen.SplitFwdIdeal
public import proofs.«01_k».proof.Proof.Gen.SplitFwdIdeal.Frame
public import proofs.«01_k».proof.Proof.Gen.SplitFwdReferenceIdeal
public import proofs.«01_k».proof.Proof.Gen.SplitFwdReferenceIdeal.Run
public import Idealize.ShloMosaic.Lib.Pipeline.ValueKit
public import Idealize.ShloMosaic.Adequacy
public import Idealize.ShloMosaic.Init

@[expose] public section

noncomputable section

namespace Cert.SplitFwdIdeal.Mm

open Cert.SplitFwdIdeal Cert.SplitFwdIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

theorem pay1_at (x : Vec Ideal S512x1024 .f32) (w : Vec Ideal S1024x1536 .bf16) (i : Fin 512) (j : Fin 1536) :
    k0_pay1 (F := Ideal) x w (ix2 i j) = ∑ k : Fin 1024, x (ix2 i k) * w (ix2 k j) := by
  pointwise [k0_pay1]

/-! ## Where the blocks lie in their arrays -/

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![t.val, 0] := (by decide +kernel : ∀ t : Fin grid0.N, _)
theorem lt_N (t : Fin cfg0.N) : t.val < 32 := t.isLt

variable (m : (ℓ : Loc nD τ sig) → Buf (Elt Ideal) ℓ) (c : Dev nD)

abbrev lhs : Mat 16384 1024 := m ((c.tc : Thread nD τ).loc main_arg0)
abbrev rhs : Mat 1024 1536 := m ((c.tc : Thread nD τ).loc main_arg1)

theorem blk_0 (t : Fin cfg0.N) (i : Fin 512) (k : Fin 1024) : iblk m c 0 t (ix2 i k) = ent (lhs m c) (512 * t.val + i.val) k.val := by
  blk_simp [iblk]
  refine ix_ent (lhs m c) _ _ _ ?_ ?_
  all_goals simp [index_0, Nat.mul_comm]

theorem blk_1 (t : Fin cfg0.N) (i : Fin 1024) (k : Fin 1536) : iblk m c 1 t (ix2 i k) = ent (rhs m c) i.val k.val := by
  blk_simp [iblk]
  refine ix_ent (rhs m c) _ _ _ ?_ ?_
  all_goals simp [index_1]

/-- An entry of a block's product is the entry of the whole product. -/
theorem sum_eq (t : Fin cfg0.N) (x : Vec Ideal S512x1024 .f32) (w : Vec Ideal S1024x1536 .bf16) (hx : x = iblk m c 0 t) (hw : w = iblk m c 1 t)
    (i : Fin 512) (J : ℕ) (hJ : J < 1536) :
    ent (k0_pay1 (F := Ideal) x w) i.val J = ∑ k : Fin 1024, nn (lhs m c) (rhs m c) (512 * t.val + i.val) J k.val := by
  refine (ent_ix (k0_pay1 (F := Ideal) x w) i ⟨J, hJ⟩).trans ((pay1_at x w i ⟨J, hJ⟩).trans (Finset.sum_congr rfl fun k _ => congrArg₂ (· * ·) ?_ ?_))
  · exact (congrFun hx _).trans (blk_0 m c t i k)
  · exact (congrFun hw _).trans (blk_1 m c t k ⟨J, hJ⟩)

/-! ## Each group's array after the last point -/

theorem out_0 (x : Vec Ideal S512x1024 .f32) (w : Vec Ideal S1024x1536 .bf16) (i : Fin 512) (j : Fin 128) :
    out0_2 x w (ix2 i j) = ent (k0_pay1 (F := Ideal) x w) i.val (0 + j.val) := by
  refine Eq.trans (congrFun ?_ _) (slice_ent 0 (k0_pay1 (F := Ideal) x w) slices_S512x1536_o0_0_S512x128 i j)
  unfold out0_2
  simp only [View.canon_unit_zero (S := S512x128) offset_zero, View.ld_unit_zero (S := S512x1024) offset_zero, View.ld_unit_zero (S := S1024x1536) offset_zero]
  rfl

theorem emb_0 (t : Fin cfg0.N) (i : Fin 512) (j : Fin 128) :
    ((win0_2.blk t).view.emb (ix2 i j) 0).val = 512 * t.val + i.val ∧ ((win0_2.blk t).view.emb (ix2 i j) 1).val = j.val := by
  constructor
  all_goals blk_simp []
  all_goals simp [index_2, Nat.mul_comm]

theorem arr_0 : (dats m 0 c).arrAt 2 cfg0.N = prodCols 0 (lhs m c) (rhs m c) (r := 128) := by
  refine (dats m 0 c).arrAt_eq_of_covers 2 (prodCols 0 (lhs m c) (rhs m c)) (by decide +kernel) fun t hf y => ?_
  blk_simp
  obtain ⟨i, j, rfl⟩ : ∃ (i : Fin 512) (j : Fin 128), y = ix2 i j := ⟨y 0, y 1, ix_eq y⟩
  rw [after0_2, out_0]
  obtain ⟨e0, e1⟩ := emb_0 t i j
  refine (sum_eq m c t _ _ rfl rfl i _ (by have := j.isLt; omega)).trans ?_
  unfold prodCols
  rw [e0, e1]

theorem out_1 (x : Vec Ideal S512x1024 .f32) (w : Vec Ideal S1024x1536 .bf16) (i : Fin 512) (j : Fin 128) :
    out0_3 x w (ix2 i j) = ent (k0_pay1 (F := Ideal) x w) i.val (128 + j.val) := by
  refine Eq.trans (congrFun ?_ _) (slice_ent 128 (k0_pay1 (F := Ideal) x w) slices_S512x1536_o0_128_S512x128 i j)
  unfold out0_3
  simp only [View.canon_unit_zero (S := S512x128) offset_zero, View.ld_unit_zero (S := S512x1024) offset_zero, View.ld_unit_zero (S := S1024x1536) offset_zero]
  rfl

theorem emb_1 (t : Fin cfg0.N) (i : Fin 512) (j : Fin 128) :
    ((win0_3.blk t).view.emb (ix2 i j) 0).val = 512 * t.val + i.val ∧ ((win0_3.blk t).view.emb (ix2 i j) 1).val = j.val := by
  constructor
  all_goals blk_simp []
  all_goals simp [index_3, Nat.mul_comm]

theorem arr_1 : (dats m 0 c).arrAt 3 cfg0.N = prodCols 128 (lhs m c) (rhs m c) (r := 128) := by
  refine (dats m 0 c).arrAt_eq_of_covers 3 (prodCols 128 (lhs m c) (rhs m c)) (by decide +kernel) fun t hf y => ?_
  blk_simp
  obtain ⟨i, j, rfl⟩ : ∃ (i : Fin 512) (j : Fin 128), y = ix2 i j := ⟨y 0, y 1, ix_eq y⟩
  rw [after0_3, out_1]
  obtain ⟨e0, e1⟩ := emb_1 t i j
  refine (sum_eq m c t _ _ rfl rfl i _ (by have := j.isLt; omega)).trans ?_
  unfold prodCols
  rw [e0, e1]

theorem out_2 (x : Vec Ideal S512x1024 .f32) (w : Vec Ideal S1024x1536 .bf16) (i : Fin 512) (j : Fin 256) :
    out0_4 x w (ix2 i j) = ent (k0_pay1 (F := Ideal) x w) i.val (256 + j.val) := by
  refine Eq.trans (congrFun ?_ _) (slice_ent 256 (k0_pay1 (F := Ideal) x w) slices_S512x1536_o0_256_S512x256 i j)
  unfold out0_4
  simp only [View.canon_unit_zero (S := S512x256) offset_zero, View.ld_unit_zero (S := S512x1024) offset_zero, View.ld_unit_zero (S := S1024x1536) offset_zero]
  rfl

theorem emb_2 (t : Fin cfg0.N) (i : Fin 512) (j : Fin 256) :
    ((win0_4.blk t).view.emb (ix2 i j) 0).val = 512 * t.val + i.val ∧ ((win0_4.blk t).view.emb (ix2 i j) 1).val = j.val := by
  constructor
  all_goals blk_simp []
  all_goals simp [index_4, Nat.mul_comm]

theorem arr_2 : (dats m 0 c).arrAt 4 cfg0.N = prodCols 256 (lhs m c) (rhs m c) (r := 256) := by
  refine (dats m 0 c).arrAt_eq_of_covers 4 (prodCols 256 (lhs m c) (rhs m c)) (by decide +kernel) fun t hf y => ?_
  blk_simp
  obtain ⟨i, j, rfl⟩ : ∃ (i : Fin 512) (j : Fin 256), y = ix2 i j := ⟨y 0, y 1, ix_eq y⟩
  rw [after0_4, out_2]
  obtain ⟨e0, e1⟩ := emb_2 t i j
  refine (sum_eq m c t _ _ rfl rfl i _ (by have := j.isLt; omega)).trans ?_
  unfold prodCols
  rw [e0, e1]

theorem out_3 (x : Vec Ideal S512x1024 .f32) (w : Vec Ideal S1024x1536 .bf16) (i : Fin 512) (j : Fin 128) :
    out0_5 x w (ix2 i j) = ent (k0_pay1 (F := Ideal) x w) i.val (512 + j.val) := by
  refine Eq.trans (congrFun ?_ _) (slice_ent 512 (k0_pay1 (F := Ideal) x w) slices_S512x1536_o0_512_S512x128 i j)
  unfold out0_5
  simp only [View.canon_unit_zero (S := S512x128) offset_zero, View.ld_unit_zero (S := S512x1024) offset_zero, View.ld_unit_zero (S := S1024x1536) offset_zero]
  rfl

theorem emb_3 (t : Fin cfg0.N) (i : Fin 512) (j : Fin 128) :
    ((win0_5.blk t).view.emb (ix2 i j) 0).val = 512 * t.val + i.val ∧ ((win0_5.blk t).view.emb (ix2 i j) 1).val = j.val := by
  constructor
  all_goals blk_simp []
  all_goals simp [index_5, Nat.mul_comm]

theorem arr_3 : (dats m 0 c).arrAt 5 cfg0.N = prodCols 512 (lhs m c) (rhs m c) (r := 128) := by
  refine (dats m 0 c).arrAt_eq_of_covers 5 (prodCols 512 (lhs m c) (rhs m c)) (by decide +kernel) fun t hf y => ?_
  blk_simp
  obtain ⟨i, j, rfl⟩ : ∃ (i : Fin 512) (j : Fin 128), y = ix2 i j := ⟨y 0, y 1, ix_eq y⟩
  rw [after0_5, out_3]
  obtain ⟨e0, e1⟩ := emb_3 t i j
  refine (sum_eq m c t _ _ rfl rfl i _ (by have := j.isLt; omega)).trans ?_
  unfold prodCols
  rw [e0, e1]

theorem out_4 (x : Vec Ideal S512x1024 .f32) (w : Vec Ideal S1024x1536 .bf16) (i : Fin 512) (j : Fin 128) :
    out0_6 x w (ix2 i j) = ent (k0_pay1 (F := Ideal) x w) i.val (640 + j.val) := by
  refine Eq.trans (congrFun ?_ _) (slice_ent 640 (k0_pay1 (F := Ideal) x w) slices_S512x1536_o0_640_S512x128 i j)
  unfold out0_6
  simp only [View.canon_unit_zero (S := S512x128) offset_zero, View.ld_unit_zero (S := S512x1024) offset_zero, View.ld_unit_zero (S := S1024x1536) offset_zero]
  rfl

theorem emb_4 (t : Fin cfg0.N) (i : Fin 512) (j : Fin 128) :
    ((win0_6.blk t).view.emb (ix2 i j) 0).val = 512 * t.val + i.val ∧ ((win0_6.blk t).view.emb (ix2 i j) 1).val = j.val := by
  constructor
  all_goals blk_simp []
  all_goals simp [index_6, Nat.mul_comm]

theorem arr_4 : (dats m 0 c).arrAt 6 cfg0.N = prodCols 640 (lhs m c) (rhs m c) (r := 128) := by
  refine (dats m 0 c).arrAt_eq_of_covers 6 (prodCols 640 (lhs m c) (rhs m c)) (by decide +kernel) fun t hf y => ?_
  blk_simp
  obtain ⟨i, j, rfl⟩ : ∃ (i : Fin 512) (j : Fin 128), y = ix2 i j := ⟨y 0, y 1, ix_eq y⟩
  rw [after0_6, out_4]
  obtain ⟨e0, e1⟩ := emb_4 t i j
  refine (sum_eq m c t _ _ rfl rfl i _ (by have := j.isLt; omega)).trans ?_
  unfold prodCols
  rw [e0, e1]

theorem out_5 (x : Vec Ideal S512x1024 .f32) (w : Vec Ideal S1024x1536 .bf16) (i : Fin 512) (j : Fin 256) :
    out0_7 x w (ix2 i j) = ent (k0_pay1 (F := Ideal) x w) i.val (768 + j.val) := by
  refine Eq.trans (congrFun ?_ _) (slice_ent 768 (k0_pay1 (F := Ideal) x w) slices_S512x1536_o0_768_S512x256 i j)
  unfold out0_7
  simp only [View.canon_unit_zero (S := S512x256) offset_zero, View.ld_unit_zero (S := S512x1024) offset_zero, View.ld_unit_zero (S := S1024x1536) offset_zero]
  rfl

theorem emb_5 (t : Fin cfg0.N) (i : Fin 512) (j : Fin 256) :
    ((win0_7.blk t).view.emb (ix2 i j) 0).val = 512 * t.val + i.val ∧ ((win0_7.blk t).view.emb (ix2 i j) 1).val = j.val := by
  constructor
  all_goals blk_simp []
  all_goals simp [index_7, Nat.mul_comm]

theorem arr_5 : (dats m 0 c).arrAt 7 cfg0.N = prodCols 768 (lhs m c) (rhs m c) (r := 256) := by
  refine (dats m 0 c).arrAt_eq_of_covers 7 (prodCols 768 (lhs m c) (rhs m c)) (by decide +kernel) fun t hf y => ?_
  blk_simp
  obtain ⟨i, j, rfl⟩ : ∃ (i : Fin 512) (j : Fin 256), y = ix2 i j := ⟨y 0, y 1, ix_eq y⟩
  rw [after0_7, out_5]
  obtain ⟨e0, e1⟩ := emb_5 t i j
  refine (sum_eq m c t _ _ rfl rfl i _ (by have := j.isLt; omega)).trans ?_
  unfold prodCols
  rw [e0, e1]

theorem out_6 (x : Vec Ideal S512x1024 .f32) (w : Vec Ideal S1024x1536 .bf16) (i : Fin 512) (j : Fin 256) :
    out0_8 x w (ix2 i j) = ent (k0_pay1 (F := Ideal) x w) i.val (1024 + j.val) := by
  refine Eq.trans (congrFun ?_ _) (slice_ent 1024 (k0_pay1 (F := Ideal) x w) slices_S512x1536_o0_1024_S512x256 i j)
  unfold out0_8
  simp only [View.canon_unit_zero (S := S512x256) offset_zero, View.ld_unit_zero (S := S512x1024) offset_zero, View.ld_unit_zero (S := S1024x1536) offset_zero]
  rfl

theorem emb_6 (t : Fin cfg0.N) (i : Fin 512) (j : Fin 256) :
    ((win0_8.blk t).view.emb (ix2 i j) 0).val = 512 * t.val + i.val ∧ ((win0_8.blk t).view.emb (ix2 i j) 1).val = j.val := by
  constructor
  all_goals blk_simp []
  all_goals simp [index_8, Nat.mul_comm]

theorem arr_6 : (dats m 0 c).arrAt 8 cfg0.N = prodCols 1024 (lhs m c) (rhs m c) (r := 256) := by
  refine (dats m 0 c).arrAt_eq_of_covers 8 (prodCols 1024 (lhs m c) (rhs m c)) (by decide +kernel) fun t hf y => ?_
  blk_simp
  obtain ⟨i, j, rfl⟩ : ∃ (i : Fin 512) (j : Fin 256), y = ix2 i j := ⟨y 0, y 1, ix_eq y⟩
  rw [after0_8, out_6]
  obtain ⟨e0, e1⟩ := emb_6 t i j
  refine (sum_eq m c t _ _ rfl rfl i _ (by have := j.isLt; omega)).trans ?_
  unfold prodCols
  rw [e0, e1]

theorem out_7 (x : Vec Ideal S512x1024 .f32) (w : Vec Ideal S1024x1536 .bf16) (i : Fin 512) (j : Fin 256) :
    out0_9 x w (ix2 i j) = ent (k0_pay1 (F := Ideal) x w) i.val (1280 + j.val) := by
  refine Eq.trans (congrFun ?_ _) (slice_ent 1280 (k0_pay1 (F := Ideal) x w) slices_S512x1536_o0_1280_S512x256 i j)
  unfold out0_9
  simp only [View.canon_unit_zero (S := S512x256) offset_zero, View.ld_unit_zero (S := S512x1024) offset_zero, View.ld_unit_zero (S := S1024x1536) offset_zero]
  rfl

theorem emb_7 (t : Fin cfg0.N) (i : Fin 512) (j : Fin 256) :
    ((win0_9.blk t).view.emb (ix2 i j) 0).val = 512 * t.val + i.val ∧ ((win0_9.blk t).view.emb (ix2 i j) 1).val = j.val := by
  constructor
  all_goals blk_simp []
  all_goals simp [index_9, Nat.mul_comm]

theorem arr_7 : (dats m 0 c).arrAt 9 cfg0.N = prodCols 1280 (lhs m c) (rhs m c) (r := 256) := by
  refine (dats m 0 c).arrAt_eq_of_covers 9 (prodCols 1280 (lhs m c) (rhs m c)) (by decide +kernel) fun t hf y => ?_
  blk_simp
  obtain ⟨i, j, rfl⟩ : ∃ (i : Fin 512) (j : Fin 256), y = ix2 i j := ⟨y 0, y 1, ix_eq y⟩
  rw [after0_9, out_7]
  obtain ⟨e0, e1⟩ := emb_7 t i j
  refine (sum_eq m c t _ _ rfl rfl i _ (by have := j.isLt; omega)).trans ?_
  unfold prodCols
  rw [e0, e1]

end Cert.SplitFwdIdeal.Mm

namespace Cert.SplitFwdReferenceIdeal.Mm

open Cert.SplitFwdReferenceIdeal Cert.SplitFwdReferenceIdeal.Gen Cert.Mm
open Idealize.ShloMosaic Idealize.ShloMosaic.TcCoe Idealize.ShloMosaic.Tactic Idealize.SL.Sem

/-- The reference's product, before it is cut into groups. -/
abbrev result (x : FVec Ideal S16384x1024 .f32) (w : FVec Ideal S1024x1536 .bf16) : FVec Ideal S16384x1536 .f32 :=
  Host.dotGeneral dot_S16384x1024_S1024x1536_S16384x1536_1_0_0_1_n_n none x (extf .f32 w bitsLt_bf16_f32)

theorem result_at (x : FVec Ideal S16384x1024 .f32) (w : FVec Ideal S1024x1536 .bf16) (i : Fin 16384) (j : Fin 1536) :
    result x w (ix2 i j) = ∑ k : Fin 1024, x (ix2 i k) * w (ix2 k j) := by
  pointwise [result]

theorem result_eq (x : FVec Ideal S16384x1024 .f32) (w : FVec Ideal S1024x1536 .bf16) : result x w = prodNN x w :=
  mat_ext fun i j => (result_at x w i j).trans (prodNN_at x w i j).symm

/-- The reference ends with its arguments unchanged and no semaphore raised. -/
theorem frame : Cert.quiescent_SplitFwdReferenceIdeal (hSplitFwdReferenceIdeal := Cert.SplitFwdReferenceIdeal.Gen.facts) := fun m ρ _ =>
  (θ_run Cert.SplitFwdReferenceIdeal.defs _ _).mono (fun r h => ⟨fun c => (h c).2.2.2.2.2.2.2.2, sem_eq_zero_of_no_sems (by decide) r.2⟩) (Cert.SplitFwdReferenceIdeal.Value.run (F := Ideal) m ρ)

/-- Kernel and reference end with the same groups and unchanged arguments. -/
theorem algebraic : Cert.algebraic_SplitFwdIdeal_SplitFwdReferenceIdeal (hSplitFwdIdeal := Cert.SplitFwdIdeal.Gen.facts) (hSplitFwdReferenceIdeal := Cert.SplitFwdReferenceIdeal.Gen.facts) := by
  intro m g m' g' _ ha
  refine ⟨fun c => prodCols 0 (Cert.SplitFwdIdeal.Mm.lhs m c) (Cert.SplitFwdIdeal.Mm.rhs m c), fun c => prodCols 128 (Cert.SplitFwdIdeal.Mm.lhs m c) (Cert.SplitFwdIdeal.Mm.rhs m c), fun c => prodCols 256 (Cert.SplitFwdIdeal.Mm.lhs m c) (Cert.SplitFwdIdeal.Mm.rhs m c), fun c => prodCols 512 (Cert.SplitFwdIdeal.Mm.lhs m c) (Cert.SplitFwdIdeal.Mm.rhs m c), fun c => prodCols 640 (Cert.SplitFwdIdeal.Mm.lhs m c) (Cert.SplitFwdIdeal.Mm.rhs m c), fun c => prodCols 768 (Cert.SplitFwdIdeal.Mm.lhs m c) (Cert.SplitFwdIdeal.Mm.rhs m c), fun c => prodCols 1024 (Cert.SplitFwdIdeal.Mm.lhs m c) (Cert.SplitFwdIdeal.Mm.rhs m c), fun c => prodCols 1280 (Cert.SplitFwdIdeal.Mm.lhs m c) (Cert.SplitFwdIdeal.Mm.rhs m c), ?_, ?_⟩
  · exact (θ_run Cert.SplitFwdIdeal.defs _ _).mono (fun r h c => ⟨((h.1 c).1 2).trans (Cert.SplitFwdIdeal.Mm.arr_0 m c), ((h.1 c).1 3).trans (Cert.SplitFwdIdeal.Mm.arr_1 m c), ((h.1 c).1 4).trans (Cert.SplitFwdIdeal.Mm.arr_2 m c), ((h.1 c).1 5).trans (Cert.SplitFwdIdeal.Mm.arr_3 m c), ((h.1 c).1 6).trans (Cert.SplitFwdIdeal.Mm.arr_4 m c), ((h.1 c).1 7).trans (Cert.SplitFwdIdeal.Mm.arr_5 m c), ((h.1 c).1 8).trans (Cert.SplitFwdIdeal.Mm.arr_6 m c), ((h.1 c).1 9).trans (Cert.SplitFwdIdeal.Mm.arr_7 m c), h.2.1 c⟩)
      (θ_run_and (Cert.SplitFwdIdeal.Gen.run_main m g) (Cert.SplitFwdIdeal.Gen.frame m g))
  · refine (θ_run Cert.SplitFwdReferenceIdeal.defs _ _).mono (fun r h c => ?_) (Cert.SplitFwdReferenceIdeal.Value.run (F := Ideal) m' g')
    obtain ⟨h0, h1⟩ := ha c
    obtain ⟨r0, r1, r2, r3, r4, r5, r6, r7, rest⟩ := h c
    exact ⟨r0.trans (cols_eq 0 (result_eq _ _) h0 h1 _), r1.trans (cols_eq 128 (result_eq _ _) h0 h1 _), r2.trans (cols_eq 256 (result_eq _ _) h0 h1 _), r3.trans (cols_eq 512 (result_eq _ _) h0 h1 _), r4.trans (cols_eq 640 (result_eq _ _) h0 h1 _), r5.trans (cols_eq 768 (result_eq _ _) h0 h1 _), r6.trans (cols_eq 1024 (result_eq _ _) h0 h1 _), r7.trans (cols_eq 1280 (result_eq _ _) h0 h1 _), rest⟩

end Cert.SplitFwdReferenceIdeal.Mm
end
-- ==== Proof.SplitDx.lean ====
/- The gradient of the projection's input from the gradients of its eight column groups: what the kernel computes, and that the reference computes the same. -/
module

public import proofs.«01_k».proof.Proof.Cat
public import proofs.«01_k».proof.Defs
public import proofs.«01_k».proof.Proof.Gen.SplitDxIdeal
public import proofs.«01_k».proof.Proof.Gen.SplitDxIdeal.Frame
public import proofs.«01_k».proof.Proof.Gen.SplitDxReferenceIdeal
public import proofs.«01_k».proof.Proof.Gen.SplitDxReferenceIdeal.Run
public import Idealize.ShloMosaic.Lib.Pipeline.ValueKit
public import Idealize.ShloMosaic.Adequacy
public import Idealize.ShloMosaic.Init

@[expose] public section

noncomputable section

namespace Cert.SplitDxIdeal.Mm

open Cert.SplitDxIdeal Cert.SplitDxIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-- The product of a block of rows with the weights transposed. -/
abbrev dot (v : FVec Ideal S512x1536 .bf16) (w : FVec Ideal S1024x1536 .bf16) : FVec Ideal S512x1024 .f32 :=
  matmul dot_S512x1536_S1024x1536_S512x1024_1_1_0_0_n_n none v w (constant S512x1024 .f32 0x00000000#32)

theorem dot_at (v : FVec Ideal S512x1536 .bf16) (w : FVec Ideal S1024x1536 .bf16) (i : Fin 512) (j : Fin 1024) :
    dot v w (ix2 i j) = ∑ k : Fin 1536, v (ix2 i k) * w (ix2 j k) := by
  pointwise [dot]

/-- The body's result: the groups' blocks side by side, times the weights transposed. -/
theorem pay1_eq (x0 x1 : Vec Ideal S512x128 .f32) (x2 : Vec Ideal S512x256 .f32) (x3 x4 : Vec Ideal S512x128 .f32) (x5 x6 x7 : Vec Ideal S512x256 .f32) (w : Vec Ideal S1024x1536 .bf16) :
    k0_pay1 (F := Ideal) x0 x1 x2 x3 x4 x5 x6 x7 w = dot (side x0 x1 x2 x3 x4 x5 x6 x7) w :=
  congrArg (dot · w) (concat_eq x0 x1 x2 x3 x4 x5 x6 x7 concatenates_S512x128_S512x128_S512x256_S512x128_S512x128_S512x256_S512x256_S512x256_S512x1536_d1)

theorem out_eq (x0 x1 : Vec Ideal S512x128 .f32) (x2 : Vec Ideal S512x256 .f32) (x3 x4 : Vec Ideal S512x128 .f32) (x5 x6 x7 : Vec Ideal S512x256 .f32) (w : Vec Ideal S1024x1536 .bf16) :
    out0_9 x0 x1 x2 x3 x4 x5 x6 x7 w = dot (side x0 x1 x2 x3 x4 x5 x6 x7) w := by
  unfold out0_9
  refine Eq.trans ?_ (pay1_eq x0 x1 x2 x3 x4 x5 x6 x7 w)
  simp only [View.canon_unit_zero (S := S512x1024) offset_zero, View.ld_unit_zero (S := S512x128) offset_zero, View.ld_unit_zero (S := S512x256) offset_zero,
    View.ld_unit_zero (S := S1024x1536) offset_zero]

/-! ## Where the blocks lie in their arrays -/

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![t.val, 0] := (by decide +kernel : ∀ t : Fin grid0.N, _)
theorem lt_N (t : Fin cfg0.N) : t.val < 32 := t.isLt

variable (m : (ℓ : Loc nD τ sig) → Buf (Elt Ideal) ℓ) (c : Dev nD)

abbrev group0 : Mat 16384 128 := m ((c.tc : Thread nD τ).loc main_arg0)
abbrev group1 : Mat 16384 128 := m ((c.tc : Thread nD τ).loc main_arg1)
abbrev group2 : Mat 16384 256 := m ((c.tc : Thread nD τ).loc main_arg2)
abbrev group3 : Mat 16384 128 := m ((c.tc : Thread nD τ).loc main_arg3)
abbrev group4 : Mat 16384 128 := m ((c.tc : Thread nD τ).loc main_arg4)
abbrev group5 : Mat 16384 256 := m ((c.tc : Thread nD τ).loc main_arg5)
abbrev group6 : Mat 16384 256 := m ((c.tc : Thread nD τ).loc main_arg6)
abbrev group7 : Mat 16384 256 := m ((c.tc : Thread nD τ).loc main_arg7)
/-- The groups side by side. -/
abbrev groups : Mat 16384 1536 := side (group0 m c) (group1 m c) (group2 m c) (group3 m c) (group4 m c) (group5 m c) (group6 m c) (group7 m c)

abbrev rhs : Mat 1024 1536 := m ((c.tc : Thread nD τ).loc main_arg8)

theorem blk_0 (t : Fin cfg0.N) (i : Fin 512) (k : Fin 128) : iblk m c 0 t (ix2 i k) = ent (group0 m c) (512 * t.val + i.val) k.val := by
  blk_simp [iblk]
  refine ix_ent (group0 m c) _ _ _ ?_ ?_
  all_goals simp [index_0, Nat.mul_comm]

theorem blk_1 (t : Fin cfg0.N) (i : Fin 512) (k : Fin 128) : iblk m c 1 t (ix2 i k) = ent (group1 m c) (512 * t.val + i.val) k.val := by
  blk_simp [iblk]
  refine ix_ent (group1 m c) _ _ _ ?_ ?_
  all_goals simp [index_1, Nat.mul_comm]

theorem blk_2 (t : Fin cfg0.N) (i : Fin 512) (k : Fin 256) : iblk m c 2 t (ix2 i k) = ent (group2 m c) (512 * t.val + i.val) k.val := by
  blk_simp [iblk]
  refine ix_ent (group2 m c) _ _ _ ?_ ?_
  all_goals simp [index_2, Nat.mul_comm]

theorem blk_3 (t : Fin cfg0.N) (i : Fin 512) (k : Fin 128) : iblk m c 3 t (ix2 i k) = ent (group3 m c) (512 * t.val + i.val) k.val := by
  blk_simp [iblk]
  refine ix_ent (group3 m c) _ _ _ ?_ ?_
  all_goals simp [index_3, Nat.mul_comm]

theorem blk_4 (t : Fin cfg0.N) (i : Fin 512) (k : Fin 128) : iblk m c 4 t (ix2 i k) = ent (group4 m c) (512 * t.val + i.val) k.val := by
  blk_simp [iblk]
  refine ix_ent (group4 m c) _ _ _ ?_ ?_
  all_goals simp [index_4, Nat.mul_comm]

theorem blk_5 (t : Fin cfg0.N) (i : Fin 512) (k : Fin 256) : iblk m c 5 t (ix2 i k) = ent (group5 m c) (512 * t.val + i.val) k.val := by
  blk_simp [iblk]
  refine ix_ent (group5 m c) _ _ _ ?_ ?_
  all_goals simp [index_5, Nat.mul_comm]

theorem blk_6 (t : Fin cfg0.N) (i : Fin 512) (k : Fin 256) : iblk m c 6 t (ix2 i k) = ent (group6 m c) (512 * t.val + i.val) k.val := by
  blk_simp [iblk]
  refine ix_ent (group6 m c) _ _ _ ?_ ?_
  all_goals simp [index_6, Nat.mul_comm]

theorem blk_7 (t : Fin cfg0.N) (i : Fin 512) (k : Fin 256) : iblk m c 7 t (ix2 i k) = ent (group7 m c) (512 * t.val + i.val) k.val := by
  blk_simp [iblk]
  refine ix_ent (group7 m c) _ _ _ ?_ ?_
  all_goals simp [index_7, Nat.mul_comm]

theorem blk_8 (t : Fin cfg0.N) (i : Fin 1024) (k : Fin 1536) : iblk m c 8 t (ix2 i k) = ent (rhs m c) i.val k.val := by
  blk_simp [iblk]
  refine ix_ent (rhs m c) _ _ _ ?_ ?_
  all_goals simp [index_8]

/-- An entry of a block's product is the entry of the whole product. -/
theorem sum_eq (t : Fin cfg0.N) (x0 x1 : Vec Ideal S512x128 .f32) (x2 : Vec Ideal S512x256 .f32) (x3 x4 : Vec Ideal S512x128 .f32) (x5 x6 x7 : Vec Ideal S512x256 .f32) (w : Vec Ideal S1024x1536 .bf16)
    (h0 : x0 = iblk m c 0 t)
    (h1 : x1 = iblk m c 1 t)
    (h2 : x2 = iblk m c 2 t)
    (h3 : x3 = iblk m c 3 t)
    (h4 : x4 = iblk m c 4 t)
    (h5 : x5 = iblk m c 5 t)
    (h6 : x6 = iblk m c 6 t)
    (h7 : x7 = iblk m c 7 t)
    (hw : w = iblk m c 8 t) (i : Fin 512) (j : Fin 1024) :
    dot (side x0 x1 x2 x3 x4 x5 x6 x7) w (ix2 i j) = ∑ k : Fin 1536, nt (groups m c) (rhs m c) (512 * t.val + i.val) j.val k.val := by
  refine (dot_at _ w i j).trans (Finset.sum_congr rfl fun k _ => congrArg₂ (· * ·) ?_ ?_)
  · refine side_block (R := 512 * t.val) (fun i => ?_) ?_ ?_ ?_ ?_ ?_ ?_ ?_ ?_ i k
    · have := lt_N t
      have := i.isLt
      omega
    · exact fun i k => (congrFun h0 _).trans (blk_0 m c t i k)
    · exact fun i k => (congrFun h1 _).trans (blk_1 m c t i k)
    · exact fun i k => (congrFun h2 _).trans (blk_2 m c t i k)
    · exact fun i k => (congrFun h3 _).trans (blk_3 m c t i k)
    · exact fun i k => (congrFun h4 _).trans (blk_4 m c t i k)
    · exact fun i k => (congrFun h5 _).trans (blk_5 m c t i k)
    · exact fun i k => (congrFun h6 _).trans (blk_6 m c t i k)
    · exact fun i k => (congrFun h7 _).trans (blk_7 m c t i k)
  · exact (congrFun hw _).trans (blk_8 m c t j k)

theorem emb_out (t : Fin cfg0.N) (i : Fin 512) (j : Fin 1024) :
    ((win0_9.blk t).view.emb (ix2 i j) 0).val = 512 * t.val + i.val ∧ ((win0_9.blk t).view.emb (ix2 i j) 1).val = j.val := by
  constructor
  all_goals blk_simp []
  all_goals simp [index_9, Nat.mul_comm]

/-- The result array after the last point. -/
theorem out_arr : (dats m 0 c).arrAt 9 cfg0.N = prodNT (groups m c) (rhs m c) := by
  refine (dats m 0 c).arrAt_eq_of_covers 9 (prodNT (groups m c) (rhs m c)) (by decide +kernel) fun t hf y => ?_
  blk_simp
  obtain ⟨i, j, rfl⟩ : ∃ (i : Fin 512) (j : Fin 1024), y = ix2 i j := ⟨y 0, y 1, ix_eq y⟩
  rw [after0_9, out_eq]
  obtain ⟨e0, e1⟩ := emb_out t i j
  refine (sum_eq m c t _ _ _ _ _ _ _ _ _ rfl rfl rfl rfl rfl rfl rfl rfl rfl i j).trans ?_
  unfold prodNT
  rw [e0, e1]

end Cert.SplitDxIdeal.Mm

namespace Cert.SplitDxReferenceIdeal.Mm

open Cert.SplitDxReferenceIdeal Cert.SplitDxReferenceIdeal.Gen Cert.Mm
open Idealize.ShloMosaic Idealize.ShloMosaic.TcCoe Idealize.ShloMosaic.Tactic Idealize.SL.Sem

/-- The reference's product, for the concatenated groups. -/
abbrev result (v : FVec Ideal S16384x1536 .f32) (w : FVec Ideal S1024x1536 .bf16) : FVec Ideal S16384x1024 .f32 :=
  Host.dotGeneral dot_S16384x1536_S1024x1536_S16384x1024_1_1_0_0_n_n none v (extf .f32 w bitsLt_bf16_f32)

theorem result_at (v : FVec Ideal S16384x1536 .f32) (w : FVec Ideal S1024x1536 .bf16) (i : Fin 16384) (j : Fin 1024) :
    result v w (ix2 i j) = ∑ k : Fin 1536, v (ix2 i k) * w (ix2 j k) := by
  pointwise [result]

theorem result_eq (v : FVec Ideal S16384x1536 .f32) (w : FVec Ideal S1024x1536 .bf16) : result v w = prodNT v w :=
  mat_ext fun i j => (result_at v w i j).trans (prodNT_at v w i j).symm

/-- The reference ends with its arguments unchanged and no semaphore raised. -/
theorem frame : Cert.quiescent_SplitDxReferenceIdeal (hSplitDxReferenceIdeal := Cert.SplitDxReferenceIdeal.Gen.facts) := fun m ρ _ =>
  (θ_run Cert.SplitDxReferenceIdeal.defs _ _).mono (fun r h => ⟨fun c => (h c).2, sem_eq_zero_of_no_sems (by decide) r.2⟩) (Cert.SplitDxReferenceIdeal.Value.run (F := Ideal) m ρ)

/-- Kernel and reference end with the same gradient and unchanged arguments. -/
theorem algebraic : Cert.algebraic_SplitDxIdeal_SplitDxReferenceIdeal (hSplitDxIdeal := Cert.SplitDxIdeal.Gen.facts) (hSplitDxReferenceIdeal := Cert.SplitDxReferenceIdeal.Gen.facts) := by
  intro m g m' g' _ ha
  refine ⟨fun c => prodNT (Cert.SplitDxIdeal.Mm.groups m c) (Cert.SplitDxIdeal.Mm.rhs m c), ?_, ?_⟩
  · exact (θ_run Cert.SplitDxIdeal.defs _ _).mono (fun r h c => ⟨((h.1 c).1 9).trans (Cert.SplitDxIdeal.Mm.out_arr m c), h.2.1 c⟩)
      (θ_run_and (Cert.SplitDxIdeal.Gen.run_main m g) (Cert.SplitDxIdeal.Gen.frame m g))
  · refine (θ_run Cert.SplitDxReferenceIdeal.defs _ _).mono (fun r h c => ?_) (Cert.SplitDxReferenceIdeal.Value.run (F := Ideal) m' g')
    obtain ⟨h0, h1, h2, h3, h4, h5, h6, h7, h8⟩ := ha c
    obtain ⟨r0, rest⟩ := h c
    refine ⟨r0.trans ((congrArg (result · _) (concat_eq _ _ _ _ _ _ _ _ _)).trans ((result_eq _ _).trans ?_)), rest⟩
    exact congrArg₂ prodNT (side_congr h0 h1 h2 h3 h4 h5 h6 h7) h8

end Cert.SplitDxReferenceIdeal.Mm
end
-- ==== Proof.SplitDw.lean ====
/- The gradient of the projection's weights from the gradients of its eight column groups: what the kernel computes block by block, and that the reference computes the same. -/
module

public import proofs.«01_k».proof.Proof.Cat
public import proofs.«01_k».proof.Defs
public import proofs.«01_k».proof.Proof.Gen.SplitDwIdeal
public import proofs.«01_k».proof.Proof.Gen.SplitDwIdeal.Frame
public import proofs.«01_k».proof.Proof.Gen.SplitDwReferenceIdeal
public import proofs.«01_k».proof.Proof.Gen.SplitDwReferenceIdeal.Run
public import Idealize.ShloMosaic.Lib.Pipeline.ValueKit
public import Idealize.ShloMosaic.Adequacy
public import Idealize.ShloMosaic.Init

@[expose] public section

noncomputable section

namespace Cert.SplitDwIdeal.Mm

open Cert.SplitDwIdeal Cert.SplitDwIdeal.Gen Cert.Mm
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What one point leaves in the running sum and in the result's block -/

section Cases

variable (c : Dev nD) (i : grid0.Coords) (a1 : Memref sig .tc .vmem S512x1024 .f32) (h1 : a1.IsWhole) (a2 : Memref sig .tc .vmem S512x128 .f32) (h2 : a2.IsWhole) (a3 : Memref sig .tc .vmem S512x128 .f32) (h3 : a3.IsWhole) (a4 : Memref sig .tc .vmem S512x256 .f32) (h4 : a4.IsWhole) (a5 : Memref sig .tc .vmem S512x128 .f32) (h5 : a5.IsWhole) (a6 : Memref sig .tc .vmem S512x128 .f32) (h6 : a6.IsWhole) (a7 : Memref sig .tc .vmem S512x256 .f32) (h7 : a7.IsWhole) (a8 : Memref sig .tc .vmem S512x256 .f32) (h8 : a8.IsWhole) (a9 : Memref sig .tc .vmem S512x256 .f32) (h9 : a9.IsWhole) (a10 : Memref sig .tc .vmem S1024x1536 .bf16) (h10 : a10.IsWhole) (a11 : Memref sig .tc .vmem S1024x1536 .f32) (h11 : a11.IsWhole)
  (y : Vec Ideal S512x1024 .f32) (x0 x1 : Vec Ideal S512x128 .f32) (x2 : Vec Ideal S512x256 .f32) (x3 x4 : Vec Ideal S512x128 .f32) (x5 x6 x7 : Vec Ideal S512x256 .f32) (s : Vec Ideal S1024x1536 .f32)

theorem first (hc0 : cond0_0 i) (hc1 : ¬cond0_1 i) :
    sout0_A_0 c i a1 h1 a2 h2 a3 h3 a4 h4 a5 h5 a6 h6 a7 h7 a8 h8 a9 h9 a10 h10 a11 h11 hc0 hc1 y x0 x1 x2 x3 x4 x5 x6 x7 = k0_pay3 x0 x1 x2 x3 x4 x5 x6 x7 (k0_pay2 (F := Ideal)) y := by
  unfold sout0_A_0
  rw [View.read_writes_eq_canon _ _ _ (scover0_A_0 c i a1 h1 a2 h2 a3 h3 a4 h4 a5 h5 a6 h6 a7 h7 a8 h8 a9 h9 a10 h10 a11 h11 hc0 hc1 y x0 x1 x2 x3 x4 x5 x6 x7)]
  unfold kernelRun0_A
  dsimp only
  sl_unfold_words
  simp only [View.canon_unit_zero (S := S1024x1536) offset_zero, View.canon_cons_unit_zero (S := S1024x1536) offset_zero, View.readCov_unit_zero (S := S1024x1536) _ offset_zero,
    View.readAt_eq_ld, h1.read_unread, h2.read_unread, h3.read_unread, h4.read_unread, h5.read_unread, h6.read_unread, h7.read_unread, h8.read_unread, h9.read_unread, View.ld_unit_zero (S := S1024x1536) offset_zero, View.ld_unit_zero (S := S512x1024) offset_zero,
    View.ld_unit_zero (S := S512x128) offset_zero, View.ld_unit_zero (S := S512x256) offset_zero, shapeCast_self]

theorem next (hc0 : ¬cond0_0 i) (hc1 : ¬cond0_1 i) :
    sout0_B_0 c i a1 h1 a2 h2 a3 h3 a4 h4 a5 h5 a6 h6 a7 h7 a8 h8 a9 h9 a10 h10 a11 h11 hc0 hc1 y x0 x1 x2 x3 x4 x5 x6 x7 s = k0_pay3 x0 x1 x2 x3 x4 x5 x6 x7 s y := by
  unfold sout0_B_0
  rw [View.read_writes_eq_canon _ _ _ (scover0_B_0 c i a1 h1 a2 h2 a3 h3 a4 h4 a5 h5 a6 h6 a7 h7 a8 h8 a9 h9 a10 h10 a11 h11 hc0 hc1 y x0 x1 x2 x3 x4 x5 x6 x7 s)]
  unfold kernelRun0_B
  dsimp only
  simp only [View.canon_unit_zero (S := S1024x1536) offset_zero, View.canon_cons_unit_zero (S := S1024x1536) offset_zero, View.readCov_unit_zero (S := S1024x1536) _ offset_zero,
    View.readAt_eq_ld, h1.read_unread, h2.read_unread, h3.read_unread, h4.read_unread, h5.read_unread, h6.read_unread, h7.read_unread, h8.read_unread, h9.read_unread, h11.read_unread, View.ld_unit_zero (S := S1024x1536) offset_zero, View.ld_unit_zero (S := S512x1024) offset_zero,
    View.ld_unit_zero (S := S512x128) offset_zero, View.ld_unit_zero (S := S512x256) offset_zero, shapeCast_self]

theorem last (hc0 : ¬cond0_0 i) (hc1 : cond0_1 i) :
    sout0_C_0 c i a1 h1 a2 h2 a3 h3 a4 h4 a5 h5 a6 h6 a7 h7 a8 h8 a9 h9 a10 h10 a11 h11 hc0 hc1 y x0 x1 x2 x3 x4 x5 x6 x7 s = k0_pay3 x0 x1 x2 x3 x4 x5 x6 x7 s y := by
  unfold sout0_C_0
  rw [View.read_writes_eq_canon _ _ _ (scover0_C_0 c i a1 h1 a2 h2 a3 h3 a4 h4 a5 h5 a6 h6 a7 h7 a8 h8 a9 h9 a10 h10 a11 h11 hc0 hc1 y x0 x1 x2 x3 x4 x5 x6 x7 s)]
  unfold kernelRun0_C
  dsimp only
  sl_unfold_words
  simp only [View.canon_unit_zero (S := S1024x1536) offset_zero, View.canon_cons_unit_zero (S := S1024x1536) offset_zero, View.readCov_unit_zero (S := S1024x1536) _ offset_zero,
    View.readAt_eq_ld, h1.read_unread, h2.read_unread, h3.read_unread, h4.read_unread, h5.read_unread, h6.read_unread, h7.read_unread, h8.read_unread, h9.read_unread, h11.read_unread, View.ld_unit_zero (S := S1024x1536) offset_zero, View.ld_unit_zero (S := S512x1024) offset_zero,
    View.ld_unit_zero (S := S512x128) offset_zero, View.ld_unit_zero (S := S512x256) offset_zero, shapeCast_self]

theorem out (hc0 : ¬cond0_0 i) (hc1 : cond0_1 i) :
    out0_C_9 c i a1 h1 a2 h2 a3 h3 a4 h4 a5 h5 a6 h6 a7 h7 a8 h8 a9 h9 a10 h10 a11 h11 hc0 hc1 y x0 x1 x2 x3 x4 x5 x6 x7 s = k0_pay1 (k0_pay3 x0 x1 x2 x3 x4 x5 x6 x7 s y) := by
  unfold out0_C_9
  rw [View.read_writes_eq_canon _ _ _ (cover0_C_9 c i a1 h1 a2 h2 a3 h3 a4 h4 a5 h5 a6 h6 a7 h7 a8 h8 a9 h9 a10 h10 a11 h11 hc0 hc1 y x0 x1 x2 x3 x4 x5 x6 x7 s)]
  unfold kernelRun0_C
  dsimp only
  sl_unfold_words
  simp only [View.canon_unit_zero (S := S1024x1536) offset_zero, View.readCov_unit_zero (S := S1024x1536) _ offset_zero,
    View.readAt_eq_ld, h1.read_unread, h2.read_unread, h3.read_unread, h4.read_unread, h5.read_unread, h6.read_unread, h7.read_unread, h8.read_unread, h9.read_unread, h11.read_unread, View.ld_unit_zero (S := S1024x1536) offset_zero, View.ld_unit_zero (S := S512x1024) offset_zero,
    View.ld_unit_zero (S := S512x128) offset_zero, View.ld_unit_zero (S := S512x256) offset_zero, shapeCast_self]

end Cases

theorem pay1_at (s : Vec Ideal S1024x1536 .f32) (i : Fin 1024) (j : Fin 1536) : k0_pay1 (F := Ideal) s (ix2 i j) = s (ix2 i j) := by
  pointwise [k0_pay1]

theorem pay2_at (i : Fin 1024) (j : Fin 1536) : k0_pay2 (F := Ideal) (ix2 i j) = 0 := by
  pointwise [k0_pay2]

/-- The running sum and the product of a block of rows transposed with another. -/
abbrev add (y : FVec Ideal S512x1024 .f32) (v : FVec Ideal S512x1536 .bf16) (s : FVec Ideal S1024x1536 .f32) : FVec Ideal S1024x1536 .f32 :=
  shapeCast S1024x1536 (addf s (matmul dot_S512x1024_S512x1536_S1024x1536_0_0_1_1_n_n none (truncf .bf16 y bitsLt_bf16_f32) v
    (constant S1024x1536 .f32 0x00000000#32))) shapeCasts_S1024x1536_S1024x1536

theorem add_at (y : FVec Ideal S512x1024 .f32) (v : FVec Ideal S512x1536 .bf16) (s : FVec Ideal S1024x1536 .f32) (i : Fin 1024) (j : Fin 1536) :
    add y v s (ix2 i j) = s (ix2 i j) + ∑ k : Fin 512, y (ix2 k i) * v (ix2 k j) := by
  pointwise [add]

theorem pay3_eq (y : Vec Ideal S512x1024 .f32) (x0 x1 : Vec Ideal S512x128 .f32) (x2 : Vec Ideal S512x256 .f32) (x3 x4 : Vec Ideal S512x128 .f32) (x5 x6 x7 : Vec Ideal S512x256 .f32) (s : Vec Ideal S1024x1536 .f32) :
    k0_pay3 (F := Ideal) x0 x1 x2 x3 x4 x5 x6 x7 s y = add y (side x0 x1 x2 x3 x4 x5 x6 x7) s :=
  congrArg (add y · s) (concat_eq x0 x1 x2 x3 x4 x5 x6 x7 concatenates_S512x128_S512x128_S512x256_S512x128_S512x128_S512x256_S512x256_S512x256_S512x1536_d1)

/-! ## Where the blocks lie in their arrays -/

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![0, 0] := (by decide +kernel : ∀ t : Fin grid0.N, _)
theorem lt_N (t : Fin cfg0.N) : t.val < 32 := t.isLt

variable (m : (ℓ : Loc nD τ sig) → Buf (Elt Ideal) ℓ) (c : Dev nD)

abbrev lhs : Mat 16384 1024 := m ((c.tc : Thread nD τ).loc main_arg0)
abbrev group0 : Mat 16384 128 := m ((c.tc : Thread nD τ).loc main_arg1)
abbrev group1 : Mat 16384 128 := m ((c.tc : Thread nD τ).loc main_arg2)
abbrev group2 : Mat 16384 256 := m ((c.tc : Thread nD τ).loc main_arg3)
abbrev group3 : Mat 16384 128 := m ((c.tc : Thread nD τ).loc main_arg4)
abbrev group4 : Mat 16384 128 := m ((c.tc : Thread nD τ).loc main_arg5)
abbrev group5 : Mat 16384 256 := m ((c.tc : Thread nD τ).loc main_arg6)
abbrev group6 : Mat 16384 256 := m ((c.tc : Thread nD τ).loc main_arg7)
abbrev group7 : Mat 16384 256 := m ((c.tc : Thread nD τ).loc main_arg8)
/-- The groups side by side. -/
abbrev groups : Mat 16384 1536 := side (group0 m c) (group1 m c) (group2 m c) (group3 m c) (group4 m c) (group5 m c) (group6 m c) (group7 m c)

theorem blk_0 (t : Fin cfg0.N) (i : Fin 512) (k : Fin 1024) : iblk m c 0 t (ix2 i k) = ent (lhs m c) (512 * t.val + i.val) k.val := by
  blk_simp [iblk]
  refine ix_ent (lhs m c) _ _ _ ?_ ?_
  all_goals simp [index_0, Nat.mul_comm]

theorem blk_1 (t : Fin cfg0.N) (i : Fin 512) (k : Fin 128) : iblk m c 1 t (ix2 i k) = ent (group0 m c) (512 * t.val + i.val) k.val := by
  blk_simp [iblk]
  refine ix_ent (group0 m c) _ _ _ ?_ ?_
  all_goals simp [index_1, Nat.mul_comm]

theorem blk_2 (t : Fin cfg0.N) (i : Fin 512) (k : Fin 128) : iblk m c 2 t (ix2 i k) = ent (group1 m c) (512 * t.val + i.val) k.val := by
  blk_simp [iblk]
  refine ix_ent (group1 m c) _ _ _ ?_ ?_
  all_goals simp [index_2, Nat.mul_comm]

theorem blk_3 (t : Fin cfg0.N) (i : Fin 512) (k : Fin 256) : iblk m c 3 t (ix2 i k) = ent (group2 m c) (512 * t.val + i.val) k.val := by
  blk_simp [iblk]
  refine ix_ent (group2 m c) _ _ _ ?_ ?_
  all_goals simp [index_3, Nat.mul_comm]

theorem blk_4 (t : Fin cfg0.N) (i : Fin 512) (k : Fin 128) : iblk m c 4 t (ix2 i k) = ent (group3 m c) (512 * t.val + i.val) k.val := by
  blk_simp [iblk]
  refine ix_ent (group3 m c) _ _ _ ?_ ?_
  all_goals simp [index_4, Nat.mul_comm]

theorem blk_5 (t : Fin cfg0.N) (i : Fin 512) (k : Fin 128) : iblk m c 5 t (ix2 i k) = ent (group4 m c) (512 * t.val + i.val) k.val := by
  blk_simp [iblk]
  refine ix_ent (group4 m c) _ _ _ ?_ ?_
  all_goals simp [index_5, Nat.mul_comm]

theorem blk_6 (t : Fin cfg0.N) (i : Fin 512) (k : Fin 256) : iblk m c 6 t (ix2 i k) = ent (group5 m c) (512 * t.val + i.val) k.val := by
  blk_simp [iblk]
  refine ix_ent (group5 m c) _ _ _ ?_ ?_
  all_goals simp [index_6, Nat.mul_comm]

theorem blk_7 (t : Fin cfg0.N) (i : Fin 512) (k : Fin 256) : iblk m c 7 t (ix2 i k) = ent (group6 m c) (512 * t.val + i.val) k.val := by
  blk_simp [iblk]
  refine ix_ent (group6 m c) _ _ _ ?_ ?_
  all_goals simp [index_7, Nat.mul_comm]

theorem blk_8 (t : Fin cfg0.N) (i : Fin 512) (k : Fin 256) : iblk m c 8 t (ix2 i k) = ent (group7 m c) (512 * t.val + i.val) k.val := by
  blk_simp [iblk]
  refine ix_ent (group7 m c) _ _ _ ?_ ?_
  all_goals simp [index_8, Nat.mul_comm]

/-- What a point adds to the running sum: one block's part of an entry of the product. -/
theorem part_eq (t : Fin cfg0.N) (y : Vec Ideal S512x1024 .f32) (x0 x1 : Vec Ideal S512x128 .f32) (x2 : Vec Ideal S512x256 .f32) (x3 x4 : Vec Ideal S512x128 .f32) (x5 x6 x7 : Vec Ideal S512x256 .f32) (hy : y = iblk m c 0 t)
    (h0 : x0 = iblk m c 1 t)
    (h1 : x1 = iblk m c 2 t)
    (h2 : x2 = iblk m c 3 t)
    (h3 : x3 = iblk m c 4 t)
    (h4 : x4 = iblk m c 5 t)
    (h5 : x5 = iblk m c 6 t)
    (h6 : x6 = iblk m c 7 t)
    (h7 : x7 = iblk m c 8 t)
    (i : Fin 1024) (j : Fin 1536) :
    ∑ k : Fin 512, y (ix2 k i) * side x0 x1 x2 x3 x4 x5 x6 x7 (ix2 k j) = part (tn (lhs m c) (groups m c) (0 + i.val) (0 + j.val)) 512 (t.val % 32) := by
  rw [Nat.zero_add, Nat.zero_add, Nat.mod_eq_of_lt (lt_N t)]
  refine Finset.sum_congr rfl fun k _ => congrArg₂ (· * ·) ?_ ?_
  · exact (congrFun hy _).trans (blk_0 m c t k i)
  · refine side_block (R := 512 * t.val) (fun i => ?_) ?_ ?_ ?_ ?_ ?_ ?_ ?_ ?_ k j
    · have := lt_N t
      have := i.isLt
      omega
    · exact fun i k => (congrFun h0 _).trans (blk_1 m c t i k)
    · exact fun i k => (congrFun h1 _).trans (blk_2 m c t i k)
    · exact fun i k => (congrFun h2 _).trans (blk_3 m c t i k)
    · exact fun i k => (congrFun h3 _).trans (blk_4 m c t i k)
    · exact fun i k => (congrFun h4 _).trans (blk_5 m c t i k)
    · exact fun i k => (congrFun h5 _).trans (blk_6 m c t i k)
    · exact fun i k => (congrFun h6 _).trans (blk_7 m c t i k)
    · exact fun i k => (congrFun h7 _).trans (blk_8 m c t i k)

/-- What the first point leaves in the running sum. -/
theorem step_first (t : Fin cfg0.N) (h : t.val % 32 = 0) (i : Fin 1024) (j : Fin 1536) :
    (outsAt0 m c t.val t.isLt).2 (ix2 i j) = part (tn (lhs m c) (groups m c) (0 + i.val) (0 + j.val)) 512 (t.val % 32) := by
  rw [outsAt0_A m c t h (by omega)]
  dsimp only
  rw [first, pay3_eq, add_at, pay2_at, zero_add]
  exact part_eq m c t _ _ _ _ _ _ _ _ _ rfl rfl rfl rfl rfl rfl rfl rfl rfl i j

/-- What a later point adds to the running sum. -/
theorem step_next (t : Fin cfg0.N) (h : t.val % 32 ≠ 0) (i : Fin 1024) (j : Fin 1536) :
    (outsAt0 m c t.val t.isLt).2 (ix2 i j) = (outsAt0 m c (t.val - 1) (lt_of_le_of_lt (Nat.sub_le _ _) t.isLt)).2 (ix2 i j)
      + part (tn (lhs m c) (groups m c) (0 + i.val) (0 + j.val)) 512 (t.val % 32) := by
  refine Eq.trans ?_ (congrArg (_ + ·) (part_eq m c t _ _ _ _ _ _ _ _ _ rfl rfl rfl rfl rfl rfl rfl rfl rfl i j))
  by_cases hl : t.val % 32 = 31
  · rw [outsAt0_C m c t h hl]
    dsimp only
    rw [last, pay3_eq, add_at]
  · rw [outsAt0_B m c t h hl]
    dsimp only
    rw [next, pay3_eq, add_at]

/-- The result's block at the point that writes it back. -/
theorem block (t : Fin cfg0.N) (h : t.val % 32 = 31) (i : Fin 1024) (j : Fin 1536) :
    (outsAt0 m c t.val t.isLt).1 (ix2 i j) = ∑ k : Fin 16384, tn (lhs m c) (groups m c) (0 + i.val) (0 + j.val) k.val := by
  have e : (outsAt0 m c t.val t.isLt).1 = k0_pay1 ((outsAt0 m c t.val t.isLt).2) := by
    rw [outsAt0_C m c t (by omega) h]
    dsimp only
    rw [out, last]
  rw [e, pay1_at]
  exact held 32 512 16384 (by norm_num) rfl (fun n h => (outsAt0 m c n h).2) (tn (lhs m c) (groups m c)) (fun _ => 0) (fun _ => 0)
    (fun n h e => step_first m c ⟨n, h⟩ e) (fun n h e => step_next m c ⟨n, h⟩ e) t.val t.isLt h i j

theorem emb_out (t : Fin cfg0.N) (i : Fin 1024) (j : Fin 1536) :
    ((win0_9.blk t).view.emb (ix2 i j) 0).val = 0 + i.val ∧ ((win0_9.blk t).view.emb (ix2 i j) 1).val = 0 + j.val := by
  constructor
  all_goals blk_simp []
  all_goals simp [index_9]

/-- The result array after the last point. -/
theorem out_arr : (dats m 0 c).arrAt 9 cfg0.N = prodTN (lhs m c) (groups m c) := by
  refine (dats m 0 c).arrAt_eq_of_covers 9 (prodTN (lhs m c) (groups m c)) (by decide +kernel) fun t hf y => ?_
  blk_simp
  obtain ⟨i, j, rfl⟩ : ∃ (i : Fin 1024) (j : Fin 1536), y = ix2 i j := ⟨y 0, y 1, ix_eq y⟩
  rw [after0_9]
  obtain ⟨e0, e1⟩ := emb_out t i j
  refine (block m c t ((flush0_9 t).mp hf) i j).trans ?_
  unfold prodTN
  rw [e0, e1]

end Cert.SplitDwIdeal.Mm

namespace Cert.SplitDwReferenceIdeal.Mm

open Cert.SplitDwReferenceIdeal Cert.SplitDwReferenceIdeal.Gen Cert.Mm
open Idealize.ShloMosaic Idealize.ShloMosaic.TcCoe Idealize.ShloMosaic.Tactic Idealize.SL.Sem

/-- The reference's product, for the concatenated groups. -/
abbrev result (x : FVec Ideal S16384x1024 .f32) (v : FVec Ideal S16384x1536 .f32) : FVec Ideal S1024x1536 .bf16 :=
  truncf .bf16 (transpose S1024x1536 [1, 0] (Host.dotGeneral dot_S16384x1536_S16384x1024_S1536x1024_0_0_1_1_n_n none v x) transposes_S1536x1024_S1024x1536_1_0) bitsLt_bf16_f32

theorem result_at (x : FVec Ideal S16384x1024 .f32) (v : FVec Ideal S16384x1536 .f32) (i : Fin 1024) (j : Fin 1536) :
    result x v (ix2 i j) = ∑ k : Fin 16384, v (ix2 k j) * x (ix2 k i) := by
  pointwise [result]

theorem result_eq (x : FVec Ideal S16384x1024 .f32) (v : FVec Ideal S16384x1536 .f32) : result x v = prodTN x v :=
  mat_ext fun i j => (result_at x v i j).trans (prodTN_at x v i j).symm

/-- The reference ends with its arguments unchanged and no semaphore raised. -/
theorem frame : Cert.quiescent_SplitDwReferenceIdeal (hSplitDwReferenceIdeal := Cert.SplitDwReferenceIdeal.Gen.facts) := fun m ρ _ =>
  (θ_run Cert.SplitDwReferenceIdeal.defs _ _).mono (fun r h => ⟨fun c => (h c).2, sem_eq_zero_of_no_sems (by decide) r.2⟩) (Cert.SplitDwReferenceIdeal.Value.run (F := Ideal) m ρ)

/-- Kernel and reference end with the same gradient and unchanged arguments. -/
theorem algebraic : Cert.algebraic_SplitDwIdeal_SplitDwReferenceIdeal (hSplitDwIdeal := Cert.SplitDwIdeal.Gen.facts) (hSplitDwReferenceIdeal := Cert.SplitDwReferenceIdeal.Gen.facts) := by
  intro m g m' g' _ ha
  refine ⟨fun c => prodTN (Cert.SplitDwIdeal.Mm.lhs m c) (Cert.SplitDwIdeal.Mm.groups m c), ?_, ?_⟩
  · exact (θ_run Cert.SplitDwIdeal.defs _ _).mono (fun r h c => ⟨((h.1 c).1 9).trans (Cert.SplitDwIdeal.Mm.out_arr m c), h.2.1 c⟩)
      (θ_run_and (Cert.SplitDwIdeal.Gen.run_main m g) (Cert.SplitDwIdeal.Gen.frame m g))
  · refine (θ_run Cert.SplitDwReferenceIdeal.defs _ _).mono (fun r h c => ?_) (Cert.SplitDwReferenceIdeal.Value.run (F := Ideal) m' g')
    obtain ⟨h0, h1, h2, h3, h4, h5, h6, h7, h8⟩ := ha c
    obtain ⟨r0, rest⟩ := h c
    refine ⟨r0.trans ((congrArg (result _ ·) (concat_eq _ _ _ _ _ _ _ _ _)).trans ((result_eq _ _).trans ?_)), rest⟩
    exact congrArg₂ prodTN h0 (side_congr h1 h2 h3 h4 h5 h6 h7 h8)

end Cert.SplitDwReferenceIdeal.Mm
end
-- ==== Proof.Adam.lean ====
/- One AdamW step on packed weights: the parts of a gradient added up, the two moments and the change of the weights, entry by entry. -/
module

public import proofs.«01_k».proof.Proof.Mm
public import Idealize.ShloMosaic.Lib.Pipeline.ValueKit

@[expose] public section

noncomputable section

namespace Cert.Adam

open Cert.Mm Idealize.ShloMosaic

/-- Parts of a matrix, one above the other. -/
abbrev Parts (n p q : ℕ) : Type := (⟨3, ![n, p, q]⟩ : Shape).Idx → EReal

/-- The first moment from the old one and the gradient. -/
def first (m g : EReal) : EReal := Ideal.ofBits FTy.f32 0x3F666666#32 * m + Ideal.ofBits FTy.f32 0x3DCCCCCD#32 * g

/-- The second moment from the old one and the gradient. -/
def second (v g : EReal) : EReal := Ideal.ofBits FTy.f32 0x3F7FBE77#32 * v + Ideal.ofBits FTy.f32 0x3A83126F#32 * (g * g)

/-- The change of a weight from the two new moments. -/
def change (w m v : EReal) : EReal :=
  Ideal.ofBits FTy.f32 0xBA83126F#32 *
    (Ideal.div (Ideal.div m (Ideal.ofBits FTy.f32 0x3F26BD02#32))
        (Ideal.sqrt (Ideal.div v (Ideal.ofBits FTy.f32 0x3C231ACC#32)) + Ideal.ofBits FTy.f32 0x322BCC77#32)
      + Ideal.ofBits FTy.f32 0x3C23D70A#32 * w)

/-- The gradient: the sum of its parts. -/
def total {n p q : ℕ} (x : Parts n p q) : Mat p q := fun y => ∑ s : Fin n, x (ix3 s (y 0) (y 1))

def firsts {p q : ℕ} (m g : Mat p q) : Mat p q := fun y => first (m y) (g y)
def seconds {p q : ℕ} (v g : Mat p q) : Mat p q := fun y => second (v y) (g y)
def changes {p q : ℕ} (w m v : Mat p q) : Mat p q := fun y => change (w y) (m y) (v y)

theorem total_at {n p q : ℕ} (x : Parts n p q) (i : Fin p) (j : Fin q) : total x (ix2 i j) = ∑ s : Fin n, x (ix3 s i j) := rfl

theorem total_four {p q : ℕ} (x : Parts 4 p q) (i : Fin p) (j : Fin q) :
    total x (ix2 i j) = x (ix3 0 i j) + x (ix3 1 i j) + x (ix3 2 i j) + x (ix3 3 i j) :=
  (total_at x i j).trans (Fin.sum_univ_four _)

theorem total_eight {p q : ℕ} (x : Parts 8 p q) (i : Fin p) (j : Fin q) :
    total x (ix2 i j) = x (ix3 0 i j) + x (ix3 1 i j) + x (ix3 2 i j) + x (ix3 3 i j) + x (ix3 4 i j) + x (ix3 5 i j) + x (ix3 6 i j) + x (ix3 7 i j) :=
  (total_at x i j).trans (Fin.sum_univ_eight _)

/-! ## The step of a block of rows is the block of the step -/

/-- The matrix `b` holds the rows `R`, `R + 1`, … of `X`. -/
def Rows {p P q : ℕ} (R : ℕ) (b : Mat p q) (X : Mat P q) : Prop := ∀ i j (I : Fin P), I.val = R + i.val → b (ix2 i j) = X (ix2 I j)

theorem rows_total {n p P q : ℕ} {R : ℕ} {b : Parts n p q} {X : Parts n P q}
    (h : ∀ s i j (I : Fin P), I.val = R + i.val → b (ix3 s i j) = X (ix3 s I j)) : Rows R (total b) (total X) := fun i j I hI =>
  (total_at b i j).trans ((Finset.sum_congr rfl fun s _ => h s i j I hI).trans (total_at X I j).symm)

theorem rows_firsts {p P q : ℕ} {R : ℕ} {m g : Mat p q} {M G : Mat P q} (hm : Rows R m M) (hg : Rows R g G) :
    Rows R (firsts m g) (firsts M G) := fun i j I hI => congrArg₂ first (hm i j I hI) (hg i j I hI)

theorem rows_seconds {p P q : ℕ} {R : ℕ} {v g : Mat p q} {V G : Mat P q} (hv : Rows R v V) (hg : Rows R g G) :
    Rows R (seconds v g) (seconds V G) := fun i j I hI => congrArg₂ second (hv i j I hI) (hg i j I hI)

theorem rows_changes {p P q : ℕ} {R : ℕ} {w m v : Mat p q} {W M V : Mat P q} (hw : Rows R w W) (hm : Rows R m M) (hv : Rows R v V) :
    Rows R (changes w m v) (changes W M V) := fun i j I hI => congrArg₃ change (hw i j I hI) (hm i j I hI) (hv i j I hI)

theorem rows_at {p P q : ℕ} {R : ℕ} {b : Mat p q} {X : Mat P q} (h : Rows R b X) (i : Fin p) (j : Fin q) (y : (⟨2, ![P, q]⟩ : Shape).Idx)
    (h0 : (y 0).val = R + i.val) (h1 : (y 1).val = j.val) : b (ix2 i j) = X y := by
  refine (h i j (y 0) h0).trans (congrArg X ?_)
  refine Eq.trans ?_ (ix_eq y).symm
  exact congrArg (ix2 (y 0)) (Fin.ext h1.symm)

theorem ix3_eq {n p q : ℕ} (x : Parts n p q) (y : (⟨3, ![n, p, q]⟩ : Shape).Idx) (s : Fin n) (i : Fin p) (j : Fin q)
    (h0 : (y 0).val = s.val) (h1 : (y 1).val = i.val) (h2 : (y 2).val = j.val) : x y = x (ix3 s i j) := by
  refine congrArg x (funext fun a => ?_)
  match a with
  | ⟨0, _⟩ => exact Fin.ext h0
  | ⟨1, _⟩ => exact Fin.ext h1
  | ⟨2, _⟩ => exact Fin.ext h2

theorem ix2_eq {p q : ℕ} (x : Mat p q) (y : (⟨2, ![p, q]⟩ : Shape).Idx) (i : Fin p) (j : Fin q)
    (h0 : (y 0).val = i.val) (h1 : (y 1).val = j.val) : x y = x (ix2 i j) := by
  refine congrArg x (funext fun a => ?_)
  match a with
  | ⟨0, _⟩ => exact Fin.ext h0
  | ⟨1, _⟩ => exact Fin.ext h1

end Cert.Adam
end
-- ==== Proof.AdamSharded.lean ====
/- AdamW on the sharded weights, whose gradients come in four parts: what the kernel computes, and that the reference computes the same. -/
module

public import proofs.«01_k».proof.Proof.Adam
public import proofs.«01_k».proof.Defs
public import proofs.«01_k».proof.Proof.Gen.AdamShardedIdeal
public import proofs.«01_k».proof.Proof.Gen.AdamShardedIdeal.Frame
public import proofs.«01_k».proof.Proof.Gen.AdamShardedReferenceIdeal
public import proofs.«01_k».proof.Proof.Gen.AdamShardedReferenceIdeal.Run
public import Idealize.ShloMosaic.Adequacy
public import Idealize.ShloMosaic.Init

@[expose] public section

noncomputable section

namespace Cert.AdamShardedIdeal.Mm

open Cert.AdamShardedIdeal Cert.AdamShardedIdeal.Gen Cert.Mm Cert.Adam
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What the body leaves in its blocks -/

theorem sum_at (a b c d : Vec Ideal S1x160x1024 .bf16) (i : Fin 160) (j : Fin 1024) :
    k0_pay2 a b c d (ix2 i j) = a (ix3 0 i j) + b (ix3 0 i j) + c (ix3 0 i j) + d (ix3 0 i j) := by
  pointwise [k0_pay2]

theorem first_at (a b c d : Vec Ideal S1x160x1024 .bf16) (m : Vec Ideal S160x1024 .f32) (i : Fin 160) (j : Fin 1024) :
    k0_pay3 a b c d m (ix2 i j) = first (m (ix2 i j)) (k0_pay2 a b c d (ix2 i j)) := by
  pointwise [k0_pay3, first]

theorem second_at (a b c d : Vec Ideal S1x160x1024 .bf16) (v : Vec Ideal S160x1024 .f32) (i : Fin 160) (j : Fin 1024) :
    k0_pay4 a b c d v (ix2 i j) = second (v (ix2 i j)) (k0_pay2 a b c d (ix2 i j)) := by
  pointwise [k0_pay4, second]

theorem change_at (m v w : Vec Ideal S160x1024 .f32) (i : Fin 160) (j : Fin 1024) :
    k0_pay1 m v w (ix2 i j) = change (w (ix2 i j)) (m (ix2 i j)) (v (ix2 i j)) := by
  pointwise [k0_pay1, change]

theorem sum_eq (x : Vec Ideal S4x160x1024 .bf16) : k0_pay2 (View.ld x r0_0) (View.ld x r0_1) (View.ld x r0_2) (View.ld x r0_3) = total x := by
  refine mat_ext fun i j => (sum_at _ _ _ _ i j).trans (Eq.trans ?_ (total_four x i j).symm)
  refine congrArg₂ (· + ·) (congrArg₂ (· + ·) (congrArg₂ (· + ·) ?_ ?_) ?_) ?_
  all_goals refine ix3_eq x _ _ _ _ ?_ ?_ ?_ <;> simp [Rect.idx_unit_val]

theorem first_eq (x : Vec Ideal S4x160x1024 .bf16) (m : Vec Ideal S160x1024 .f32) :
    k0_pay3 (View.ld x r0_0) (View.ld x r0_1) (View.ld x r0_2) (View.ld x r0_3) m = firsts m (total x) :=
  mat_ext fun i j => (first_at _ _ _ _ m i j).trans (congrArg (first _) (congrFun (sum_eq x) _))

theorem second_eq (x : Vec Ideal S4x160x1024 .bf16) (v : Vec Ideal S160x1024 .f32) :
    k0_pay4 (View.ld x r0_0) (View.ld x r0_1) (View.ld x r0_2) (View.ld x r0_3) v = seconds v (total x) :=
  mat_ext fun i j => (second_at _ _ _ _ v i j).trans (congrArg (second _) (congrFun (sum_eq x) _))

theorem change_eq (m v w : Vec Ideal S160x1024 .f32) : k0_pay1 m v w = changes w m v := mat_ext fun i j => change_at m v w i j

variable (x : Vec Ideal S4x160x1024 .bf16) (w m v : Vec Ideal S160x1024 .f32)

theorem out_4 : out0_4 x w m v = total x := by
  unfold out0_4
  refine Eq.trans ?_ (sum_eq x)
  simp only [View.canon_unit_zero (S := S160x1024) offset_zero]

theorem out_6 : out0_6 x w m v = firsts m (total x) := by
  unfold out0_6
  refine Eq.trans ?_ (first_eq x m)
  simp only [View.canon_unit_zero (S := S160x1024) offset_zero, View.ld_unit_zero (S := S160x1024) offset_zero]

theorem pay_5 : k0_pay5 x w m v = seconds v (total x) := by
  unfold k0_pay5
  refine Eq.trans ?_ (second_eq x v)
  simp only [View.ld_unit_zero (S := S160x1024) offset_zero]

theorem out_7 : out0_7 x w m v = seconds v (total x) := by
  unfold out0_7
  refine Eq.trans ?_ (pay_5 x w m v)
  simp only [View.canon_unit_zero (S := S160x1024) offset_zero]

theorem out_5 : out0_5 x w m v = changes w (firsts m (total x)) (seconds v (total x)) := by
  unfold out0_5
  refine Eq.trans ?_ (change_eq (firsts m (total x)) (seconds v (total x)) w)
  simp only [View.canon_unit_zero (S := S160x1024) offset_zero, View.ld_unit_zero (S := S160x1024) offset_zero]
  rw [first_eq, pay_5]

/-! ## Where the blocks lie in their arrays -/

theorem index_0 : ∀ t : Fin cfg0.N, win0_0.index t = ![0, t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)

section Arrays
variable (m : (ℓ : Loc nD τ sig) → Buf (Elt Ideal) ℓ) (c : Dev nD)

abbrev parts : Parts 4 8480 1024 := m ((c.tc : Thread nD τ).loc main_arg0)
abbrev weights : Mat 8480 1024 := m ((c.tc : Thread nD τ).loc main_arg1)
abbrev moment1 : Mat 8480 1024 := m ((c.tc : Thread nD τ).loc main_arg2)
abbrev moment2 : Mat 8480 1024 := m ((c.tc : Thread nD τ).loc main_arg3)

theorem blk_0 (t : Fin cfg0.N) (s : Fin 4) (i : Fin 160) (j : Fin 1024) (I : Fin 8480) (hI : I.val = 160 * t.val + i.val) :
    iblk m c 0 t (ix3 s i j) = parts m c (ix3 s I j) := by
  blk_simp [iblk]
  refine ix3_eq (parts m c) _ _ _ _ ?_ ?_ ?_
  all_goals simp [index_0, Nat.mul_comm, hI]

theorem blk_1 (t : Fin cfg0.N) : Rows (160 * t.val) (p := 160) (iblk m c 1 t) (weights m c) := fun i j I hI => by
  blk_simp [iblk]
  refine ix2_eq (weights m c) _ _ _ ?_ ?_
  all_goals simp [index_1, Nat.mul_comm, hI]

theorem blk_2 (t : Fin cfg0.N) : Rows (160 * t.val) (p := 160) (iblk m c 2 t) (moment1 m c) := fun i j I hI => by
  blk_simp [iblk]
  refine ix2_eq (moment1 m c) _ _ _ ?_ ?_
  all_goals simp [index_2, Nat.mul_comm, hI]

theorem blk_3 (t : Fin cfg0.N) : Rows (160 * t.val) (p := 160) (iblk m c 3 t) (moment2 m c) := fun i j I hI => by
  blk_simp [iblk]
  refine ix2_eq (moment2 m c) _ _ _ ?_ ?_
  all_goals simp [index_3, Nat.mul_comm, hI]

theorem rows_grad (t : Fin cfg0.N) : Rows (160 * t.val) (p := 160) (total (iblk m c 0 t : Parts 4 160 1024)) (total (parts m c)) :=
  rows_total (blk_0 m c t)
theorem rows_first (t : Fin cfg0.N) : Rows (160 * t.val) (p := 160) (firsts (iblk m c 2 t) (total (iblk m c 0 t : Parts 4 160 1024))) (firsts (moment1 m c) (total (parts m c))) :=
  rows_firsts (blk_2 m c t) (rows_grad m c t)
theorem rows_second (t : Fin cfg0.N) : Rows (160 * t.val) (p := 160) (seconds (iblk m c 3 t) (total (iblk m c 0 t : Parts 4 160 1024))) (seconds (moment2 m c) (total (parts m c))) :=
  rows_seconds (blk_3 m c t) (rows_grad m c t)

/-! ## The result arrays after the last point -/

theorem arr_4 : (dats m 0 c).arrAt 4 cfg0.N = total (parts m c) := by
  refine (dats m 0 c).arrAt_eq_of_covers 4 (total (parts m c)) (by decide +kernel) fun t hf y => ?_
  blk_simp
  obtain ⟨i, j, rfl⟩ : ∃ (i : Fin 160) (j : Fin 1024), y = ix2 i j := ⟨y 0, y 1, ix_eq y⟩
  rw [after0_4, out_4]
  refine rows_at (rows_grad m c t) i j _ ?_ ?_
  all_goals blk_simp []
  all_goals simp [index_4, Nat.mul_comm]

theorem arr_5 : (dats m 0 c).arrAt 5 cfg0.N = changes (weights m c) (firsts (moment1 m c) (total (parts m c))) (seconds (moment2 m c) (total (parts m c))) := by
  refine (dats m 0 c).arrAt_eq_of_covers 5 (changes (weights m c) (firsts (moment1 m c) (total (parts m c))) (seconds (moment2 m c) (total (parts m c)))) (by decide +kernel) fun t hf y => ?_
  blk_simp
  obtain ⟨i, j, rfl⟩ : ∃ (i : Fin 160) (j : Fin 1024), y = ix2 i j := ⟨y 0, y 1, ix_eq y⟩
  rw [after0_5, out_5]
  refine rows_at (rows_changes (blk_1 m c t) (rows_first m c t) (rows_second m c t)) i j _ ?_ ?_
  all_goals blk_simp []
  all_goals simp [index_5, Nat.mul_comm]

theorem arr_6 : (dats m 0 c).arrAt 6 cfg0.N = firsts (moment1 m c) (total (parts m c)) := by
  refine (dats m 0 c).arrAt_eq_of_covers 6 (firsts (moment1 m c) (total (parts m c))) (by decide +kernel) fun t hf y => ?_
  blk_simp
  obtain ⟨i, j, rfl⟩ : ∃ (i : Fin 160) (j : Fin 1024), y = ix2 i j := ⟨y 0, y 1, ix_eq y⟩
  rw [after0_6, out_6]
  refine rows_at (rows_first m c t) i j _ ?_ ?_
  all_goals blk_simp []
  all_goals simp [index_6, Nat.mul_comm]

theorem arr_7 : (dats m 0 c).arrAt 7 cfg0.N = seconds (moment2 m c) (total (parts m c)) := by
  refine (dats m 0 c).arrAt_eq_of_covers 7 (seconds (moment2 m c) (total (parts m c))) (by decide +kernel) fun t hf y => ?_
  blk_simp
  obtain ⟨i, j, rfl⟩ : ∃ (i : Fin 160) (j : Fin 1024), y = ix2 i j := ⟨y 0, y 1, ix_eq y⟩
  rw [after0_7, out_7]
  refine rows_at (rows_second m c t) i j _ ?_ ?_
  all_goals blk_simp []
  all_goals simp [index_7, Nat.mul_comm]

end Arrays

end Cert.AdamShardedIdeal.Mm

namespace Cert.AdamShardedReferenceIdeal.Mm

open Cert.AdamShardedReferenceIdeal Cert.AdamShardedReferenceIdeal.Gen Cert.Mm Cert.Adam
open Idealize.ShloMosaic Idealize.ShloMosaic.TcCoe Idealize.ShloMosaic.Tactic Idealize.SL.Sem

/-- The number `b` in every entry. -/
abbrev all (b : BitVec 32) : FVec Ideal S8480x1024 .f32 := broadcastInDim S8480x1024 ![] bcast_S_S8480x1024 (constant S_ .f32 b)

/-- The reference's four results, each from the ones before it. -/
abbrev grad (x : FVec Ideal S4x8480x1024 .bf16) : FVec Ideal S8480x1024 .f32 :=
  Host.reduceAdd (extf .f32 x bitsLt_bf16_f32) (constant S_ .f32 0x00000000#32) reducesTo_S4x8480x1024_S8480x1024_d0 h_S_
abbrev mom1 (m g : FVec Ideal S8480x1024 .f32) : FVec Ideal S8480x1024 .f32 := addf (mulf (all 0x3F666666#32) m) (mulf (all 0x3DCCCCCD#32) g)
abbrev mom2 (v g : FVec Ideal S8480x1024 .f32) : FVec Ideal S8480x1024 .f32 := addf (mulf (all 0x3F7FBE77#32) v) (mulf (all 0x3A83126F#32) (mulf g g))
abbrev delta (w m v : FVec Ideal S8480x1024 .f32) : FVec Ideal S8480x1024 .f32 :=
  mulf (all 0xBA83126F#32) (addf (Host.divf (Host.divf m (all 0x3F26BD02#32))
    (addf (Host.sqrt (Host.divf v (all 0x3C231ACC#32))) (all 0x322BCC77#32))) (mulf (all 0x3C23D70A#32) w))

theorem grad_at (x : FVec Ideal S4x8480x1024 .bf16) (i : Fin 8480) (j : Fin 1024) : grad x (ix2 i j) = ∑ s : Fin 4, x (ix3 s i j) := by
  pointwise [grad]
theorem mom1_at (m g : FVec Ideal S8480x1024 .f32) (i : Fin 8480) (j : Fin 1024) : mom1 m g (ix2 i j) = first (m (ix2 i j)) (g (ix2 i j)) := by
  pointwise [mom1, all, first]
theorem mom2_at (v g : FVec Ideal S8480x1024 .f32) (i : Fin 8480) (j : Fin 1024) : mom2 v g (ix2 i j) = second (v (ix2 i j)) (g (ix2 i j)) := by
  pointwise [mom2, all, second]
theorem delta_at (w m v : FVec Ideal S8480x1024 .f32) (i : Fin 8480) (j : Fin 1024) :
    delta w m v (ix2 i j) = change (w (ix2 i j)) (m (ix2 i j)) (v (ix2 i j)) := by
  pointwise [delta, all, change]

theorem grad_eq (x : FVec Ideal S4x8480x1024 .bf16) : grad x = total x := mat_ext fun i j => (grad_at x i j).trans (total_at x i j).symm
theorem mom1_eq (m g : FVec Ideal S8480x1024 .f32) : mom1 m g = firsts m g := mat_ext fun i j => mom1_at m g i j
theorem mom2_eq (v g : FVec Ideal S8480x1024 .f32) : mom2 v g = seconds v g := mat_ext fun i j => mom2_at v g i j
theorem delta_eq (w m v : FVec Ideal S8480x1024 .f32) : delta w m v = changes w m v := mat_ext fun i j => delta_at w m v i j

theorem first_eq {x X : FVec Ideal S4x8480x1024 .bf16} {m M : FVec Ideal S8480x1024 .f32} (hx : x = X) (hm : m = M) :
    mom1 m (grad x) = firsts M (total X) := by
  subst hx hm
  exact (mom1_eq _ _).trans (congrArg (firsts m) (grad_eq x))
theorem second_eq {x X : FVec Ideal S4x8480x1024 .bf16} {v V : FVec Ideal S8480x1024 .f32} (hx : x = X) (hv : v = V) :
    mom2 v (grad x) = seconds V (total X) := by
  subst hx hv
  exact (mom2_eq _ _).trans (congrArg (seconds v) (grad_eq x))
theorem change_eq {x X : FVec Ideal S4x8480x1024 .bf16} {w W m M v V : FVec Ideal S8480x1024 .f32} (hx : x = X) (hw : w = W) (hm : m = M) (hv : v = V) :
    delta w (mom1 m (grad x)) (mom2 v (grad x)) = changes W (firsts M (total X)) (seconds V (total X)) :=
  (delta_eq _ _ _).trans (congrArg₃ changes hw (first_eq hx hm) (second_eq hx hv))

/-- The reference ends with its arguments unchanged and no semaphore raised. -/
theorem frame : Cert.quiescent_AdamShardedReferenceIdeal (hAdamShardedReferenceIdeal := Cert.AdamShardedReferenceIdeal.Gen.facts) := fun m ρ _ =>
  (θ_run Cert.AdamShardedReferenceIdeal.defs _ _).mono (fun r h => ⟨fun c => (h c).2.2.2.2, sem_eq_zero_of_no_sems (by decide) r.2⟩) (Cert.AdamShardedReferenceIdeal.Value.run (F := Ideal) m ρ)

/-- Kernel and reference end with the same gradient, change of the weights and moments, and unchanged arguments. -/
theorem algebraic : Cert.algebraic_AdamShardedIdeal_AdamShardedReferenceIdeal (hAdamShardedIdeal := Cert.AdamShardedIdeal.Gen.facts) (hAdamShardedReferenceIdeal := Cert.AdamShardedReferenceIdeal.Gen.facts) := by
  intro m g m' g' _ ha
  refine ⟨fun c => total (Cert.AdamShardedIdeal.Mm.parts m c),
    fun c => changes (Cert.AdamShardedIdeal.Mm.weights m c) (firsts (Cert.AdamShardedIdeal.Mm.moment1 m c) (total (Cert.AdamShardedIdeal.Mm.parts m c)))
      (seconds (Cert.AdamShardedIdeal.Mm.moment2 m c) (total (Cert.AdamShardedIdeal.Mm.parts m c))),
    fun c => firsts (Cert.AdamShardedIdeal.Mm.moment1 m c) (total (Cert.AdamShardedIdeal.Mm.parts m c)),
    fun c => seconds (Cert.AdamShardedIdeal.Mm.moment2 m c) (total (Cert.AdamShardedIdeal.Mm.parts m c)), ?_, ?_⟩
  · exact (θ_run Cert.AdamShardedIdeal.defs _ _).mono (fun r h c => ⟨((h.1 c).1 4).trans (Cert.AdamShardedIdeal.Mm.arr_4 m c),
        ((h.1 c).1 5).trans (Cert.AdamShardedIdeal.Mm.arr_5 m c), ((h.1 c).1 6).trans (Cert.AdamShardedIdeal.Mm.arr_6 m c),
        ((h.1 c).1 7).trans (Cert.AdamShardedIdeal.Mm.arr_7 m c), h.2.1 c⟩)
      (θ_run_and (Cert.AdamShardedIdeal.Gen.run_main m g) (Cert.AdamShardedIdeal.Gen.frame m g))
  · refine (θ_run Cert.AdamShardedReferenceIdeal.defs _ _).mono (fun r h c => ?_) (Cert.AdamShardedReferenceIdeal.Value.run (F := Ideal) m' g')
    obtain ⟨h0, h1, h2, h3⟩ := ha c
    obtain ⟨r0, r1, r2, r3, rest⟩ := h c
    exact ⟨r0.trans ((grad_eq _).trans (congrArg total h0)), r1.trans (change_eq h0 h1 h2 h3), r2.trans (first_eq h0 h2), r3.trans (second_eq h0 h3), rest⟩

end Cert.AdamShardedReferenceIdeal.Mm
end
-- ==== Proof.AdamSmall.lean ====
/- AdamW on the small weights, whose gradients come in eight parts: what the kernel computes, and that the reference computes the same. -/
module

public import proofs.«01_k».proof.Proof.Adam
public import proofs.«01_k».proof.Defs
public import proofs.«01_k».proof.Proof.Gen.AdamSmallIdeal
public import proofs.«01_k».proof.Proof.Gen.AdamSmallIdeal.Frame
public import proofs.«01_k».proof.Proof.Gen.AdamSmallReferenceIdeal
public import proofs.«01_k».proof.Proof.Gen.AdamSmallReferenceIdeal.Run
public import Idealize.ShloMosaic.Adequacy
public import Idealize.ShloMosaic.Init

@[expose] public section

noncomputable section

namespace Cert.AdamSmallIdeal.Mm

open Cert.AdamSmallIdeal Cert.AdamSmallIdeal.Gen Cert.Mm Cert.Adam
open Idealize.ShloMosaic Idealize.ShloMosaic.TcCoe Idealize.ShloMosaic.Tactic Idealize.SL.Sem

theorem offset_zero : (![0, 0] : Fin 2 → ℕ) = fun _ => 0 := funext fun a => by fin_cases a <;> rfl

/-! ## What the body leaves in its blocks -/

theorem sum_at (a b c d e f g h : Vec Ideal S1x168x1024 .f32) (i : Fin 168) (j : Fin 1024) :
    k0_pay3 a b c d e f g h (ix2 i j) = a (ix3 0 i j) + b (ix3 0 i j) + c (ix3 0 i j) + d (ix3 0 i j) + e (ix3 0 i j) + f (ix3 0 i j) + g (ix3 0 i j) + h (ix3 0 i j) := by
  pointwise [k0_pay3]

theorem first_at (a b c d e f g h : Vec Ideal S1x168x1024 .f32) (m : Vec Ideal S168x1024 .f32) (i : Fin 168) (j : Fin 1024) :
    k0_pay4 a b c d e f g h m (ix2 i j) = first (m (ix2 i j)) (k0_pay3 a b c d e f g h (ix2 i j)) := by
  pointwise [k0_pay4, first]

theorem second_at (g v : Vec Ideal S168x1024 .f32) (i : Fin 168) (j : Fin 1024) :
    k0_pay1 g v (ix2 i j) = second (v (ix2 i j)) (g (ix2 i j)) := by
  pointwise [k0_pay1, second]

theorem change_at (g m v w : Vec Ideal S168x1024 .f32) (i : Fin 168) (j : Fin 1024) :
    k0_pay2 g m v w (ix2 i j) = change (w (ix2 i j)) (m (ix2 i j)) (k0_pay1 g v (ix2 i j)) := by
  pointwise [k0_pay2, change]

variable (x : Vec Ideal S8x168x1024 .f32) (w m v : Vec Ideal S168x1024 .f32)

theorem pay_5 : k0_pay5 x w m v = total x := by
  unfold k0_pay5
  refine mat_ext fun i j => (sum_at _ _ _ _ _ _ _ _ i j).trans (Eq.trans ?_ (total_eight x i j).symm)
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals refine ix3_eq x _ _ _ _ ?_ ?_ ?_ <;> simp [Rect.idx_unit_val]

theorem pay_6 : k0_pay6 x w m v = firsts m (total x) := by
  unfold k0_pay6
  refine mat_ext fun i j => (first_at _ _ _ _ _ _ _ _ _ i j).trans (congrArg₂ first ?_ (congrFun (pay_5 x w m v) _))
  rw [View.ld_unit_zero (S := S168x1024) offset_zero]

theorem second_eq (g : Vec Ideal S168x1024 .f32) : k0_pay1 g v = seconds v g := mat_ext fun i j => second_at g v i j

theorem change_eq (g : Vec Ideal S168x1024 .f32) : k0_pay2 g m v w = changes w m (seconds v g) :=
  mat_ext fun i j => (change_at g m v w i j).trans (congrArg (change _ _) (congrFun (second_eq v g) _))

theorem out_4 : out0_4 x w m v = total x := by
  unfold out0_4
  refine Eq.trans ?_ (pay_5 x w m v)
  simp only [View.canon_unit_zero (S := S168x1024) offset_zero]

theorem out_6 : out0_6 x w m v = firsts m (total x) := by
  unfold out0_6
  refine Eq.trans ?_ (pay_6 x w m v)
  simp only [View.canon_unit_zero (S := S168x1024) offset_zero]

theorem out_7 : out0_7 x w m v = seconds v (total x) := by
  unfold out0_7
  refine Eq.trans ?_ (second_eq v (total x))
  simp only [View.canon_unit_zero (S := S168x1024) offset_zero, View.ld_unit_zero (S := S168x1024) offset_zero]
  rw [pay_5]

theorem out_5 : out0_5 x w m v = changes w (firsts m (total x)) (seconds v (total x)) := by
  unfold out0_5
  refine Eq.trans ?_ (change_eq w (firsts m (total x)) v (total x))
  simp only [View.canon_unit_zero (S := S168x1024) offset_zero, View.ld_unit_zero (S := S168x1024) offset_zero]
  rw [pay_5, pay_6]

/-! ## Where the blocks lie in their arrays -/

theorem index_0 : ∀ t : Fin cfg0.N, win0_0.index t = ![0, t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)

section Arrays
variable (m : (ℓ : Loc nD τ sig) → Buf (Elt Ideal) ℓ) (c : Dev nD)

abbrev parts : Parts 8 336 1024 := m ((c.tc : Thread nD τ).loc main_arg0)
abbrev weights : Mat 336 1024 := m ((c.tc : Thread nD τ).loc main_arg1)
abbrev moment1 : Mat 336 1024 := m ((c.tc : Thread nD τ).loc main_arg2)
abbrev moment2 : Mat 336 1024 := m ((c.tc : Thread nD τ).loc main_arg3)

theorem blk_0 (t : Fin cfg0.N) (s : Fin 8) (i : Fin 168) (j : Fin 1024) (I : Fin 336) (hI : I.val = 168 * t.val + i.val) :
    iblk m c 0 t (ix3 s i j) = parts m c (ix3 s I j) := by
  blk_simp [iblk]
  refine ix3_eq (parts m c) _ _ _ _ ?_ ?_ ?_
  all_goals simp [index_0, Nat.mul_comm, hI]

theorem blk_1 (t : Fin cfg0.N) : Rows (168 * t.val) (p := 168) (iblk m c 1 t) (weights m c) := fun i j I hI => by
  blk_simp [iblk]
  refine ix2_eq (weights m c) _ _ _ ?_ ?_
  all_goals simp [index_1, Nat.mul_comm, hI]

theorem blk_2 (t : Fin cfg0.N) : Rows (168 * t.val) (p := 168) (iblk m c 2 t) (moment1 m c) := fun i j I hI => by
  blk_simp [iblk]
  refine ix2_eq (moment1 m c) _ _ _ ?_ ?_
  all_goals simp [index_2, Nat.mul_comm, hI]

theorem blk_3 (t : Fin cfg0.N) : Rows (168 * t.val) (p := 168) (iblk m c 3 t) (moment2 m c) := fun i j I hI => by
  blk_simp [iblk]
  refine ix2_eq (moment2 m c) _ _ _ ?_ ?_
  all_goals simp [index_3, Nat.mul_comm, hI]

theorem rows_grad (t : Fin cfg0.N) : Rows (168 * t.val) (p := 168) (total (iblk m c 0 t : Parts 8 168 1024)) (total (parts m c)) :=
  rows_total (blk_0 m c t)
theorem rows_first (t : Fin cfg0.N) : Rows (168 * t.val) (p := 168) (firsts (iblk m c 2 t) (total (iblk m c 0 t : Parts 8 168 1024))) (firsts (moment1 m c) (total (parts m c))) :=
  rows_firsts (blk_2 m c t) (rows_grad m c t)
theorem rows_second (t : Fin cfg0.N) : Rows (168 * t.val) (p := 168) (seconds (iblk m c 3 t) (total (iblk m c 0 t : Parts 8 168 1024))) (seconds (moment2 m c) (total (parts m c))) :=
  rows_seconds (blk_3 m c t) (rows_grad m c t)

/-! ## The result arrays after the last point -/

theorem arr_4 : (dats m 0 c).arrAt 4 cfg0.N = total (parts m c) := by
  refine (dats m 0 c).arrAt_eq_of_covers 4 (total (parts m c)) (by decide +kernel) fun t hf y => ?_
  blk_simp
  obtain ⟨i, j, rfl⟩ : ∃ (i : Fin 168) (j : Fin 1024), y = ix2 i j := ⟨y 0, y 1, ix_eq y⟩
  rw [after0_4, out_4]
  refine rows_at (rows_grad m c t) i j _ ?_ ?_
  all_goals blk_simp []
  all_goals simp [index_4, Nat.mul_comm]

theorem arr_5 : (dats m 0 c).arrAt 5 cfg0.N = changes (weights m c) (firsts (moment1 m c) (total (parts m c))) (seconds (moment2 m c) (total (parts m c))) := by
  refine (dats m 0 c).arrAt_eq_of_covers 5 (changes (weights m c) (firsts (moment1 m c) (total (parts m c))) (seconds (moment2 m c) (total (parts m c)))) (by decide +kernel) fun t hf y => ?_
  blk_simp
  obtain ⟨i, j, rfl⟩ : ∃ (i : Fin 168) (j : Fin 1024), y = ix2 i j := ⟨y 0, y 1, ix_eq y⟩
  rw [after0_5, out_5]
  refine rows_at (rows_changes (blk_1 m c t) (rows_first m c t) (rows_second m c t)) i j _ ?_ ?_
  all_goals blk_simp []
  all_goals simp [index_5, Nat.mul_comm]

theorem arr_6 : (dats m 0 c).arrAt 6 cfg0.N = firsts (moment1 m c) (total (parts m c)) := by
  refine (dats m 0 c).arrAt_eq_of_covers 6 (firsts (moment1 m c) (total (parts m c))) (by decide +kernel) fun t hf y => ?_
  blk_simp
  obtain ⟨i, j, rfl⟩ : ∃ (i : Fin 168) (j : Fin 1024), y = ix2 i j := ⟨y 0, y 1, ix_eq y⟩
  rw [after0_6, out_6]
  refine rows_at (rows_first m c t) i j _ ?_ ?_
  all_goals blk_simp []
  all_goals simp [index_6, Nat.mul_comm]

theorem arr_7 : (dats m 0 c).arrAt 7 cfg0.N = seconds (moment2 m c) (total (parts m c)) := by
  refine (dats m 0 c).arrAt_eq_of_covers 7 (seconds (moment2 m c) (total (parts m c))) (by decide +kernel) fun t hf y => ?_
  blk_simp
  obtain ⟨i, j, rfl⟩ : ∃ (i : Fin 168) (j : Fin 1024), y = ix2 i j := ⟨y 0, y 1, ix_eq y⟩
  rw [after0_7, out_7]
  refine rows_at (rows_second m c t) i j _ ?_ ?_
  all_goals blk_simp []
  all_goals simp [index_7, Nat.mul_comm]

end Arrays

end Cert.AdamSmallIdeal.Mm

namespace Cert.AdamSmallReferenceIdeal.Mm

open Cert.AdamSmallReferenceIdeal Cert.AdamSmallReferenceIdeal.Gen Cert.Mm Cert.Adam
open Idealize.ShloMosaic Idealize.ShloMosaic.TcCoe Idealize.ShloMosaic.Tactic Idealize.SL.Sem

/-- The number `b` in every entry. -/
abbrev all (b : BitVec 32) : FVec Ideal S336x1024 .f32 := broadcastInDim S336x1024 ![] bcast_S_S336x1024 (constant S_ .f32 b)

/-- The reference's four results, each from the ones before it. -/
abbrev grad (x : FVec Ideal S8x336x1024 .f32) : FVec Ideal S336x1024 .f32 :=
  Host.reduceAdd x (constant S_ .f32 0x00000000#32) reducesTo_S8x336x1024_S336x1024_d0 h_S_
abbrev mom1 (m g : FVec Ideal S336x1024 .f32) : FVec Ideal S336x1024 .f32 := addf (mulf (all 0x3F666666#32) m) (mulf (all 0x3DCCCCCD#32) g)
abbrev mom2 (v g : FVec Ideal S336x1024 .f32) : FVec Ideal S336x1024 .f32 := addf (mulf (all 0x3F7FBE77#32) v) (mulf (all 0x3A83126F#32) (mulf g g))
abbrev delta (w m v : FVec Ideal S336x1024 .f32) : FVec Ideal S336x1024 .f32 :=
  mulf (all 0xBA83126F#32) (addf (Host.divf (Host.divf m (all 0x3F26BD02#32))
    (addf (Host.sqrt (Host.divf v (all 0x3C231ACC#32))) (all 0x322BCC77#32))) (mulf (all 0x3C23D70A#32) w))

theorem grad_at (x : FVec Ideal S8x336x1024 .f32) (i : Fin 336) (j : Fin 1024) : grad x (ix2 i j) = ∑ s : Fin 8, x (ix3 s i j) := by
  pointwise [grad]
theorem mom1_at (m g : FVec Ideal S336x1024 .f32) (i : Fin 336) (j : Fin 1024) : mom1 m g (ix2 i j) = first (m (ix2 i j)) (g (ix2 i j)) := by
  pointwise [mom1, all, first]
theorem mom2_at (v g : FVec Ideal S336x1024 .f32) (i : Fin 336) (j : Fin 1024) : mom2 v g (ix2 i j) = second (v (ix2 i j)) (g (ix2 i j)) := by
  pointwise [mom2, all, second]
theorem delta_at (w m v : FVec Ideal S336x1024 .f32) (i : Fin 336) (j : Fin 1024) :
    delta w m v (ix2 i j) = change (w (ix2 i j)) (m (ix2 i j)) (v (ix2 i j)) := by
  pointwise [delta, all, change]

theorem grad_eq (x : FVec Ideal S8x336x1024 .f32) : grad x = total x := mat_ext fun i j => (grad_at x i j).trans (total_at x i j).symm
theorem mom1_eq (m g : FVec Ideal S336x1024 .f32) : mom1 m g = firsts m g := mat_ext fun i j => mom1_at m g i j
theorem mom2_eq (v g : FVec Ideal S336x1024 .f32) : mom2 v g = seconds v g := mat_ext fun i j => mom2_at v g i j
theorem delta_eq (w m v : FVec Ideal S336x1024 .f32) : delta w m v = changes w m v := mat_ext fun i j => delta_at w m v i j

theorem first_eq {x X : FVec Ideal S8x336x1024 .f32} {m M : FVec Ideal S336x1024 .f32} (hx : x = X) (hm : m = M) :
    mom1 m (grad x) = firsts M (total X) := by
  subst hx hm
  exact (mom1_eq _ _).trans (congrArg (firsts m) (grad_eq x))
theorem second_eq {x X : FVec Ideal S8x336x1024 .f32} {v V : FVec Ideal S336x1024 .f32} (hx : x = X) (hv : v = V) :
    mom2 v (grad x) = seconds V (total X) := by
  subst hx hv
  exact (mom2_eq _ _).trans (congrArg (seconds v) (grad_eq x))
theorem change_eq {x X : FVec Ideal S8x336x1024 .f32} {w W m M v V : FVec Ideal S336x1024 .f32} (hx : x = X) (hw : w = W) (hm : m = M) (hv : v = V) :
    delta w (mom1 m (grad x)) (mom2 v (grad x)) = changes W (firsts M (total X)) (seconds V (total X)) :=
  (delta_eq _ _ _).trans (congrArg₃ changes hw (first_eq hx hm) (second_eq hx hv))

/-- The reference ends with its arguments unchanged and no semaphore raised. -/
theorem frame : Cert.quiescent_AdamSmallReferenceIdeal (hAdamSmallReferenceIdeal := Cert.AdamSmallReferenceIdeal.Gen.facts) := fun m ρ _ =>
  (θ_run Cert.AdamSmallReferenceIdeal.defs _ _).mono (fun r h => ⟨fun c => (h c).2.2.2.2, sem_eq_zero_of_no_sems (by decide) r.2⟩) (Cert.AdamSmallReferenceIdeal.Value.run (F := Ideal) m ρ)

/-- Kernel and reference end with the same gradient, change of the weights and moments, and unchanged arguments. -/
theorem algebraic : Cert.algebraic_AdamSmallIdeal_AdamSmallReferenceIdeal (hAdamSmallIdeal := Cert.AdamSmallIdeal.Gen.facts) (hAdamSmallReferenceIdeal := Cert.AdamSmallReferenceIdeal.Gen.facts) := by
  intro m g m' g' _ ha
  refine ⟨fun c => total (Cert.AdamSmallIdeal.Mm.parts m c),
    fun c => changes (Cert.AdamSmallIdeal.Mm.weights m c) (firsts (Cert.AdamSmallIdeal.Mm.moment1 m c) (total (Cert.AdamSmallIdeal.Mm.parts m c)))
      (seconds (Cert.AdamSmallIdeal.Mm.moment2 m c) (total (Cert.AdamSmallIdeal.Mm.parts m c))),
    fun c => firsts (Cert.AdamSmallIdeal.Mm.moment1 m c) (total (Cert.AdamSmallIdeal.Mm.parts m c)),
    fun c => seconds (Cert.AdamSmallIdeal.Mm.moment2 m c) (total (Cert.AdamSmallIdeal.Mm.parts m c)), ?_, ?_⟩
  · exact (θ_run Cert.AdamSmallIdeal.defs _ _).mono (fun r h c => ⟨((h.1 c).1 4).trans (Cert.AdamSmallIdeal.Mm.arr_4 m c),
        ((h.1 c).1 5).trans (Cert.AdamSmallIdeal.Mm.arr_5 m c), ((h.1 c).1 6).trans (Cert.AdamSmallIdeal.Mm.arr_6 m c),
        ((h.1 c).1 7).trans (Cert.AdamSmallIdeal.Mm.arr_7 m c), h.2.1 c⟩)
      (θ_run_and (Cert.AdamSmallIdeal.Gen.run_main m g) (Cert.AdamSmallIdeal.Gen.frame m g))
  · refine (θ_run Cert.AdamSmallReferenceIdeal.defs _ _).mono (fun r h c => ?_) (Cert.AdamSmallReferenceIdeal.Value.run (F := Ideal) m' g')
    obtain ⟨h0, h1, h2, h3⟩ := ha c
    obtain ⟨r0, r1, r2, r3, rest⟩ := h c
    exact ⟨r0.trans ((grad_eq _).trans (congrArg total h0)), r1.trans (change_eq h0 h1 h2 h3), r2.trans (first_eq h0 h2), r3.trans (second_eq h0 h3), rest⟩

end Cert.AdamSmallReferenceIdeal.Mm
end
-- ==== Proof.RowWise.lean ====
/- Calls that work row by row on column groups: the activation of the feed-forward half-step and the gated linear unit, forward and backward. -/
module

public import proofs.«01_k».proof.Proof.Adam

@[expose] public section

noncomputable section

namespace Cert.RowWise

open Cert.Mm Cert.Adam Idealize.ShloMosaic

/-- The first `n` columns. -/
def left {p q : ℕ} (n : ℕ) (h : n + n = q) (u : Mat p q) : Mat p n := fun y => u (ix2 (y 0) ⟨(y 1).val, by have : (y 1).val < n := (y 1).isLt; omega⟩)
/-- The `n` columns after the first `n`. -/
def right {p q : ℕ} (n : ℕ) (h : n + n = q) (u : Mat p q) : Mat p n := fun y => u (ix2 (y 0) ⟨n + (y 1).val, by have : (y 1).val < n := (y 1).isLt; omega⟩)
/-- Two matrices side by side. -/
def beside {p q : ℕ} (n : ℕ) (h : n + n = q) (a b : Mat p n) : Mat p q := fun y =>
  if hlt : (y 1).val < n then a (ix2 (y 0) ⟨(y 1).val, hlt⟩) else b (ix2 (y 0) ⟨(y 1).val - n, by have : (y 1).val < q := (y 1).isLt; omega⟩)

theorem beside_lt {p q n : ℕ} (h : n + n = q) (a b : Mat p n) (i : Fin p) (j : Fin q) (hj : j.val < n) :
    beside n h a b (ix2 i j) = a (ix2 i ⟨j.val, hj⟩) := dif_pos hj
theorem beside_ge {p q n : ℕ} (h : n + n = q) (a b : Mat p n) (i : Fin p) (j : Fin q) (hj : ¬j.val < n) :
    beside n h a b (ix2 i j) = b (ix2 i ⟨j.val - n, by omega⟩) := dif_neg hj

/-- A function of two or of three numbers, entry by entry. -/
def map₂ {p n : ℕ} (f : EReal → EReal → EReal) (a b : Mat p n) : Mat p n := fun y => f (a y) (b y)
def map₃ {p n : ℕ} (f : EReal → EReal → EReal → EReal) (a b c : Mat p n) : Mat p n := fun y => f (a y) (b y) (c y)

/-- The feed-forward half-step's activation of a gate and a value. -/
def swish (g h : EReal) : EReal := g * Ideal.logistic g * h
/-- Its derivatives in the gate and in the value, times `d`. -/
def swishGate (g h d : EReal) : EReal := d * h * Ideal.logistic g + g * (d * h) * (Ideal.logistic g * (1 - Ideal.logistic g))
def swishValue (g _ d : EReal) : EReal := g * Ideal.logistic g * d
/-- The gated linear unit of a value and a gate. -/
def unit (a b : EReal) : EReal := a * Ideal.logistic b
/-- Its derivatives in the value and in the gate, times `d`. -/
def unitValue (_ b d : EReal) : EReal := d * Ideal.logistic b
def unitGate (a b d : EReal) : EReal := a * d * (Ideal.logistic b * (1 - Ideal.logistic b))

section
variable {p q : ℕ} (n : ℕ) (h : n + n = q)

def act (u : Mat p q) : Mat p n := map₂ swish (left n h u) (right n h u)
def actBwd (u : Mat p q) (d : Mat p n) : Mat p q :=
  beside n h (map₃ swishGate (left n h u) (right n h u) d) (map₃ swishValue (left n h u) (right n h u) d)
def glu (u : Mat p q) : Mat p n := map₂ unit (left n h u) (right n h u)
def gluBwd (u : Mat p q) (d : Mat p n) : Mat p q :=
  beside n h (map₃ unitValue (left n h u) (right n h u) d) (map₃ unitGate (left n h u) (right n h u) d)

end

/-! ## Of a block of rows it is the block of the whole -/

section
variable {p P q n : ℕ} {R : ℕ} (h : n + n = q) {u : Mat p q} {U : Mat P q} {a b c : Mat p n} {A B C : Mat P n}

theorem rows_left (hu : Rows R u U) : Rows R (left n h u) (left n h U) := fun i _ I hI => hu i _ I hI
theorem rows_right (hu : Rows R u U) : Rows R (right n h u) (right n h U) := fun i _ I hI => hu i _ I hI
theorem rows_map₂ (f : EReal → EReal → EReal) (ha : Rows R a A) (hb : Rows R b B) : Rows R (map₂ f a b) (map₂ f A B) := fun i j I hI =>
  congrArg₂ f (ha i j I hI) (hb i j I hI)
theorem rows_map₃ (f : EReal → EReal → EReal → EReal) (ha : Rows R a A) (hb : Rows R b B) (hc : Rows R c C) :
    Rows R (map₃ f a b c) (map₃ f A B C) := fun i j I hI => congrArg₃ f (ha i j I hI) (hb i j I hI) (hc i j I hI)
theorem rows_beside (ha : Rows R a A) (hb : Rows R b B) : Rows R (beside n h a b) (beside n h A B) := fun i j I hI => by
  by_cases hj : j.val < n
  · exact (beside_lt h a b i j hj).trans ((ha i _ I hI).trans (beside_lt h A B I j hj).symm)
  · exact (beside_ge h a b i j hj).trans ((hb i _ I hI).trans (beside_ge h A B I j hj).symm)

theorem rows_act (hu : Rows R u U) : Rows R (act n h u) (act n h U) := rows_map₂ _ (rows_left h hu) (rows_right h hu)
theorem rows_glu (hu : Rows R u U) : Rows R (glu n h u) (glu n h U) := rows_map₂ _ (rows_left h hu) (rows_right h hu)
theorem rows_actBwd (hu : Rows R u U) (ha : Rows R a A) : Rows R (actBwd n h u a) (actBwd n h U A) :=
  rows_beside h (rows_map₃ _ (rows_left h hu) (rows_right h hu) ha) (rows_map₃ _ (rows_left h hu) (rows_right h hu) ha)
theorem rows_gluBwd (hu : Rows R u U) (ha : Rows R a A) : Rows R (gluBwd n h u a) (gluBwd n h U A) :=
  rows_beside h (rows_map₃ _ (rows_left h hu) (rows_right h hu) ha) (rows_map₃ _ (rows_left h hu) (rows_right h hu) ha)

end

end Cert.RowWise
end
-- ==== Proof.FfnAct.lean ====
/- The activation of the feed-forward half-step: what the kernel computes, and that the reference computes the same. -/
module

public import proofs.«01_k».proof.Proof.RowWise
public import proofs.«01_k».proof.Defs
public import proofs.«01_k».proof.Proof.Gen.FfnActIdeal
public import proofs.«01_k».proof.Proof.Gen.FfnActIdeal.Frame
public import proofs.«01_k».proof.Proof.Gen.FfnActReferenceIdeal
public import proofs.«01_k».proof.Proof.Gen.FfnActReferenceIdeal.Run
public import Idealize.ShloMosaic.Adequacy
public import Idealize.ShloMosaic.Init

@[expose] public section

noncomputable section

namespace Cert.FfnActIdeal.Mm

open Cert.FfnActIdeal Cert.FfnActIdeal.Gen Cert.Mm Cert.Adam Cert.RowWise
open Idealize.ShloMosaic Idealize.ShloMosaic.TcCoe Idealize.ShloMosaic.Tactic Idealize.SL.Sem

theorem offset_zero : (![0, 0] : Fin 2 → ℕ) = fun _ => 0 := funext fun a => by fin_cases a <;> rfl

theorem pay_eq (u : Vec Ideal S256x5632 .bf16) : k0_pay1 u = act 2816 rfl u := mat_ext fun i j => by
  pointwise [k0_pay1, act, map₂, swish, left, right]

theorem out (u : Vec Ideal S256x5632 .bf16) : out0_1 u = act 2816 rfl u := by
  unfold out0_1
  refine Eq.trans ?_ (pay_eq u)
  simp only [View.canon_unit_zero (S := S256x2816) offset_zero, View.ld_unit_zero (S := S256x5632) offset_zero]

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)

section Arrays
variable (m : (ℓ : Loc nD τ sig) → Buf (Elt Ideal) ℓ) (c : Dev nD)

abbrev arg0 : Mat 16384 5632 := m ((c.tc : Thread nD τ).loc main_arg0)

theorem blk_0 (t : Fin cfg0.N) : Rows (256 * t.val) (p := 256) (iblk m c 0 t) (arg0 m c) := fun i j I hI => by
  blk_simp [iblk]
  refine ix2_eq (arg0 m c) _ _ _ ?_ ?_
  all_goals simp [index_0, Nat.mul_comm, hI]

theorem arr : (dats m 0 c).arrAt 1 cfg0.N = act 2816 rfl (arg0 m c) := by
  refine (dats m 0 c).arrAt_eq_of_covers 1 (act 2816 rfl (arg0 m c)) (by decide +kernel) fun t hf y => ?_
  blk_simp
  obtain ⟨i, j, rfl⟩ : ∃ (i : Fin 256) (j : Fin 2816), y = ix2 i j := ⟨y 0, y 1, ix_eq y⟩
  rw [after0_1, out]
  refine rows_at (rows_act rfl (blk_0 m c t)) i j _ ?_ ?_
  all_goals blk_simp []
  all_goals simp [index_1, Nat.mul_comm]

end Arrays

end Cert.FfnActIdeal.Mm

namespace Cert.FfnActReferenceIdeal.Mm

open Cert.FfnActReferenceIdeal Cert.FfnActReferenceIdeal.Gen Cert.Mm Cert.Adam Cert.RowWise
open Idealize.ShloMosaic Idealize.ShloMosaic.TcCoe Idealize.ShloMosaic.Tactic Idealize.SL.Sem

/-- The logistic function of each entry, as the reference writes it. -/
abbrev sigmoid (x : FVec Ideal S16384x2816 .f32) : FVec Ideal S16384x2816 .f32 :=
  Host.divf (broadcastInDim S16384x2816 ![] bcast_S_S16384x2816 (constant S_ .f32 0x3F800000#32))
    (addf (broadcastInDim S16384x2816 ![] bcast_S_S16384x2816 (constant S_ .f32 0x3F800000#32)) (Host.exp (Host.negf x)))
/-- The first and the second half of the columns. -/
abbrev first (u : FVec Ideal S16384x5632 .bf16) : FVec Ideal S16384x2816 .f32 := extractStridedSlice S16384x2816 ![0, 0] (extf .f32 u bitsLt_bf16_f32) slices_S16384x5632_S16384x2816_0_0
abbrev second (u : FVec Ideal S16384x5632 .bf16) : FVec Ideal S16384x2816 .f32 := extractStridedSlice S16384x2816 ![0, 2816] (extf .f32 u bitsLt_bf16_f32) slices_S16384x5632_S16384x2816_0_2816
/-- The reference's result. -/
abbrev result (u : FVec Ideal S16384x5632 .bf16) : FVec Ideal S16384x2816 .bf16 :=
  truncf .bf16 (mulf (mulf (first u) (sigmoid (first u))) (second u)) bitsLt_bf16_f32

theorem result_eq (u : FVec Ideal S16384x5632 .bf16) : result u = act 2816 rfl u := mat_ext fun i j => by
  pointwise [result, act, map₂, swish, left, right]
  rfl

/-- The reference ends with its arguments unchanged and no semaphore raised. -/
theorem frame : Cert.quiescent_FfnActReferenceIdeal (hFfnActReferenceIdeal := Cert.FfnActReferenceIdeal.Gen.facts) := fun m ρ _ =>
  (θ_run Cert.FfnActReferenceIdeal.defs _ _).mono (fun r h => ⟨fun c => (h c).2, sem_eq_zero_of_no_sems (by decide) r.2⟩) (Cert.FfnActReferenceIdeal.Value.run (F := Ideal) m ρ)

/-- Kernel and reference end with the same activation and unchanged arguments. -/
theorem algebraic : Cert.algebraic_FfnActIdeal_FfnActReferenceIdeal (hFfnActIdeal := Cert.FfnActIdeal.Gen.facts) (hFfnActReferenceIdeal := Cert.FfnActReferenceIdeal.Gen.facts) := by
  intro m g m' g' _ ha
  refine ⟨fun c => act 2816 rfl (Cert.FfnActIdeal.Mm.arg0 m c), ?_, ?_⟩
  · exact (θ_run Cert.FfnActIdeal.defs _ _).mono (fun r h c => ⟨((h.1 c).1 1).trans (Cert.FfnActIdeal.Mm.arr m c), h.2.1 c⟩)
      (θ_run_and (Cert.FfnActIdeal.Gen.run_main m g) (Cert.FfnActIdeal.Gen.frame m g))
  · refine (θ_run Cert.FfnActReferenceIdeal.defs _ _).mono (fun r h c => ⟨(h c).1.trans ((result_eq _).trans ?_), (h c).2⟩) (Cert.FfnActReferenceIdeal.Value.run (F := Ideal) m' g')
    exact congrArg (act 2816 rfl) (ha c)

end Cert.FfnActReferenceIdeal.Mm
end
-- ==== Proof.FfnActBwd.lean ====
/- The gradient through the activation of the feed-forward half-step: what the kernel computes, and that the reference computes the same. -/
module

public import proofs.«01_k».proof.Proof.RowWise
public import proofs.«01_k».proof.Defs
public import proofs.«01_k».proof.Proof.Gen.FfnActBwdIdeal
public import proofs.«01_k».proof.Proof.Gen.FfnActBwdIdeal.Frame
public import proofs.«01_k».proof.Proof.Gen.FfnActBwdReferenceIdeal
public import proofs.«01_k».proof.Proof.Gen.FfnActBwdReferenceIdeal.Run
public import Idealize.ShloMosaic.Adequacy
public import Idealize.ShloMosaic.Init

@[expose] public section

noncomputable section

namespace Cert.FfnActBwdIdeal.Mm

open Cert.FfnActBwdIdeal Cert.FfnActBwdIdeal.Gen Cert.Mm Cert.Adam Cert.RowWise
open Idealize.ShloMosaic Idealize.ShloMosaic.TcCoe Idealize.ShloMosaic.Tactic Idealize.SL.Sem

theorem offset_zero : (![0, 0] : Fin 2 → ℕ) = fun _ => 0 := funext fun a => by fin_cases a <;> rfl

theorem pay_eq (u : Vec Ideal S128x5632 .bf16) (d : Vec Ideal S128x2816 .bf16) : k0_pay1 u d = actBwd 2816 rfl u d := mat_ext fun i j => by
  pointwise [k0_pay1]
  unfold actBwd beside
  by_cases hj : j.val < 2816
  · simp [hj, map₃, swishGate, swishValue, left, right]
  · simp [hj, map₃, swishGate, swishValue, left, right]

theorem out (u : Vec Ideal S128x5632 .bf16) (d : Vec Ideal S128x2816 .bf16) : out0_2 u d = actBwd 2816 rfl u d := by
  unfold out0_2
  refine Eq.trans ?_ (pay_eq u d)
  simp only [View.canon_unit_zero (S := S128x5632) offset_zero, View.ld_unit_zero (S := S128x5632) offset_zero, View.ld_unit_zero (S := S128x2816) offset_zero]

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)

section Arrays
variable (m : (ℓ : Loc nD τ sig) → Buf (Elt Ideal) ℓ) (c : Dev nD)

abbrev arg0 : Mat 16384 5632 := m ((c.tc : Thread nD τ).loc main_arg0)
abbrev arg1 : Mat 16384 2816 := m ((c.tc : Thread nD τ).loc main_arg1)

theorem blk_0 (t : Fin cfg0.N) : Rows (128 * t.val) (p := 128) (iblk m c 0 t) (arg0 m c) := fun i j I hI => by
  blk_simp [iblk]
  refine ix2_eq (arg0 m c) _ _ _ ?_ ?_
  all_goals simp [index_0, Nat.mul_comm, hI]

theorem blk_1 (t : Fin cfg0.N) : Rows (128 * t.val) (p := 128) (iblk m c 1 t) (arg1 m c) := fun i j I hI => by
  blk_simp [iblk]
  refine ix2_eq (arg1 m c) _ _ _ ?_ ?_
  all_goals simp [index_1, Nat.mul_comm, hI]

theorem arr : (dats m 0 c).arrAt 2 cfg0.N = actBwd 2816 rfl (arg0 m c) (arg1 m c) := by
  refine (dats m 0 c).arrAt_eq_of_covers 2 (actBwd 2816 rfl (arg0 m c) (arg1 m c)) (by decide +kernel) fun t hf y => ?_
  blk_simp
  obtain ⟨i, j, rfl⟩ : ∃ (i : Fin 128) (j : Fin 5632), y = ix2 i j := ⟨y 0, y 1, ix_eq y⟩
  rw [after0_2, out]
  refine rows_at (rows_actBwd rfl (blk_0 m c t) (blk_1 m c t)) i j _ ?_ ?_
  all_goals blk_simp []
  all_goals simp [index_2, Nat.mul_comm]

end Arrays

end Cert.FfnActBwdIdeal.Mm

namespace Cert.FfnActBwdReferenceIdeal.Mm

open Cert.FfnActBwdReferenceIdeal Cert.FfnActBwdReferenceIdeal.Gen Cert.Mm Cert.Adam Cert.RowWise
open Idealize.ShloMosaic Idealize.ShloMosaic.TcCoe Idealize.ShloMosaic.Tactic Idealize.SL.Sem

/-- The logistic function of each entry, as the reference writes it. -/
abbrev sigmoid (x : FVec Ideal S16384x2816 .f32) : FVec Ideal S16384x2816 .f32 :=
  Host.divf (broadcastInDim S16384x2816 ![] bcast_S_S16384x2816 (constant S_ .f32 0x3F800000#32))
    (addf (broadcastInDim S16384x2816 ![] bcast_S_S16384x2816 (constant S_ .f32 0x3F800000#32)) (Host.exp (Host.negf x)))
/-- The first and the second half of the columns. -/
abbrev first (u : FVec Ideal S16384x5632 .bf16) : FVec Ideal S16384x2816 .f32 := extractStridedSlice S16384x2816 ![0, 0] (extf .f32 u bitsLt_bf16_f32) slices_S16384x5632_S16384x2816_0_0
abbrev second (u : FVec Ideal S16384x5632 .bf16) : FVec Ideal S16384x2816 .f32 := extractStridedSlice S16384x2816 ![0, 2816] (extf .f32 u bitsLt_bf16_f32) slices_S16384x5632_S16384x2816_0_2816
/-- The reference's result. -/
abbrev result (u : FVec Ideal S16384x5632 .bf16) (d : FVec Ideal S16384x2816 .bf16) : FVec Ideal S16384x5632 .bf16 :=
  truncf .bf16 (concatenate S16384x5632 1 [⟨S16384x2816, (addf (mulf (mulf (extf .f32 d bitsLt_bf16_f32) (second u)) (sigmoid (first u))) (mulf (mulf (first u) (mulf (extf .f32 d bitsLt_bf16_f32) (second u))) (mulf (sigmoid (first u)) (subf (broadcastInDim S16384x2816 ![] bcast_S_S16384x2816 (constant S_ .f32 0x3F800000#32)) (sigmoid (first u))))))⟩, ⟨S16384x2816, (mulf (mulf (first u) (sigmoid (first u))) (extf .f32 d bitsLt_bf16_f32))⟩] concatenates_S16384x2816_S16384x2816_S16384x5632_d1) bitsLt_bf16_f32

theorem result_eq (u : FVec Ideal S16384x5632 .bf16) (d : FVec Ideal S16384x2816 .bf16) : result u d = actBwd 2816 rfl u d := mat_ext fun i j => by
  pointwise [result]
  unfold actBwd beside
  by_cases hj : j.val < 2816
  · simp [hj, map₃, swishGate, swishValue, left, right, Ideal.logistic]
  · simp [hj, map₃, swishGate, swishValue, left, right, Ideal.logistic]

/-- The reference ends with its arguments unchanged and no semaphore raised. -/
theorem frame : Cert.quiescent_FfnActBwdReferenceIdeal (hFfnActBwdReferenceIdeal := Cert.FfnActBwdReferenceIdeal.Gen.facts) := fun m ρ _ =>
  (θ_run Cert.FfnActBwdReferenceIdeal.defs _ _).mono (fun r h => ⟨fun c => (h c).2, sem_eq_zero_of_no_sems (by decide) r.2⟩) (Cert.FfnActBwdReferenceIdeal.Value.run (F := Ideal) m ρ)

/-- Kernel and reference end with the same gradient and unchanged arguments. -/
theorem algebraic : Cert.algebraic_FfnActBwdIdeal_FfnActBwdReferenceIdeal (hFfnActBwdIdeal := Cert.FfnActBwdIdeal.Gen.facts) (hFfnActBwdReferenceIdeal := Cert.FfnActBwdReferenceIdeal.Gen.facts) := by
  intro m g m' g' _ ha
  refine ⟨fun c => actBwd 2816 rfl (Cert.FfnActBwdIdeal.Mm.arg0 m c) (Cert.FfnActBwdIdeal.Mm.arg1 m c), ?_, ?_⟩
  · exact (θ_run Cert.FfnActBwdIdeal.defs _ _).mono (fun r h c => ⟨((h.1 c).1 2).trans (Cert.FfnActBwdIdeal.Mm.arr m c), h.2.1 c⟩)
      (θ_run_and (Cert.FfnActBwdIdeal.Gen.run_main m g) (Cert.FfnActBwdIdeal.Gen.frame m g))
  · refine (θ_run Cert.FfnActBwdReferenceIdeal.defs _ _).mono (fun r h c => ⟨(h c).1.trans ((result_eq _ _).trans ?_), (h c).2⟩) (Cert.FfnActBwdReferenceIdeal.Value.run (F := Ideal) m' g')
    exact congrArg₂ (actBwd 2816 rfl) (ha c).1 (ha c).2

end Cert.FfnActBwdReferenceIdeal.Mm
end
-- ==== Proof.GluAct.lean ====
/- The gated linear unit of the scan branch: what the kernel computes, and that the reference computes the same. -/
module

public import proofs.«01_k».proof.Proof.RowWise
public import proofs.«01_k».proof.Defs
public import proofs.«01_k».proof.Proof.Gen.GluActIdeal
public import proofs.«01_k».proof.Proof.Gen.GluActIdeal.Frame
public import proofs.«01_k».proof.Proof.Gen.GluActReferenceIdeal
public import proofs.«01_k».proof.Proof.Gen.GluActReferenceIdeal.Run
public import Idealize.ShloMosaic.Adequacy
public import Idealize.ShloMosaic.Init

@[expose] public section

noncomputable section

namespace Cert.GluActIdeal.Mm

open Cert.GluActIdeal Cert.GluActIdeal.Gen Cert.Mm Cert.Adam Cert.RowWise
open Idealize.ShloMosaic Idealize.ShloMosaic.TcCoe Idealize.ShloMosaic.Tactic Idealize.SL.Sem

theorem offset_zero : (![0, 0] : Fin 2 → ℕ) = fun _ => 0 := funext fun a => by fin_cases a <;> rfl

theorem pay_eq (u : Vec Ideal S1024x512 .f32) : k0_pay1 u = glu 256 rfl u := mat_ext fun i j => by
  pointwise [k0_pay1, glu, map₂, unit, left, right]

theorem out (u : Vec Ideal S1024x512 .f32) : out0_1 u = glu 256 rfl u := by
  unfold out0_1
  refine Eq.trans ?_ (pay_eq u)
  simp only [View.canon_unit_zero (S := S1024x256) offset_zero, View.ld_unit_zero (S := S1024x512) offset_zero]

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)

section Arrays
variable (m : (ℓ : Loc nD τ sig) → Buf (Elt Ideal) ℓ) (c : Dev nD)

abbrev arg0 : Mat 16384 512 := m ((c.tc : Thread nD τ).loc main_arg0)

theorem blk_0 (t : Fin cfg0.N) : Rows (1024 * t.val) (p := 1024) (iblk m c 0 t) (arg0 m c) := fun i j I hI => by
  blk_simp [iblk]
  refine ix2_eq (arg0 m c) _ _ _ ?_ ?_
  all_goals simp [index_0, Nat.mul_comm, hI]

theorem arr : (dats m 0 c).arrAt 1 cfg0.N = glu 256 rfl (arg0 m c) := by
  refine (dats m 0 c).arrAt_eq_of_covers 1 (glu 256 rfl (arg0 m c)) (by decide +kernel) fun t hf y => ?_
  blk_simp
  obtain ⟨i, j, rfl⟩ : ∃ (i : Fin 1024) (j : Fin 256), y = ix2 i j := ⟨y 0, y 1, ix_eq y⟩
  rw [after0_1, out]
  refine rows_at (rows_glu rfl (blk_0 m c t)) i j _ ?_ ?_
  all_goals blk_simp []
  all_goals simp [index_1, Nat.mul_comm]

end Arrays

end Cert.GluActIdeal.Mm

namespace Cert.GluActReferenceIdeal.Mm

open Cert.GluActReferenceIdeal Cert.GluActReferenceIdeal.Gen Cert.Mm Cert.Adam Cert.RowWise
open Idealize.ShloMosaic Idealize.ShloMosaic.TcCoe Idealize.ShloMosaic.Tactic Idealize.SL.Sem

/-- The logistic function of each entry, as the reference writes it. -/
abbrev sigmoid (x : FVec Ideal S16384x256 .f32) : FVec Ideal S16384x256 .f32 :=
  Host.divf (broadcastInDim S16384x256 ![] bcast_S_S16384x256 (constant S_ .f32 0x3F800000#32))
    (addf (broadcastInDim S16384x256 ![] bcast_S_S16384x256 (constant S_ .f32 0x3F800000#32)) (Host.exp (Host.negf x)))
/-- The first and the second half of the columns. -/
abbrev first (u : FVec Ideal S16384x512 .f32) : FVec Ideal S16384x256 .f32 := extractStridedSlice S16384x256 ![0, 0] u slices_S16384x512_S16384x256_0_0
abbrev second (u : FVec Ideal S16384x512 .f32) : FVec Ideal S16384x256 .f32 := extractStridedSlice S16384x256 ![0, 256] u slices_S16384x512_S16384x256_0_256
/-- The reference's result. -/
abbrev result (u : FVec Ideal S16384x512 .f32) : FVec Ideal S16384x256 .f32 :=
  mulf (first u) (sigmoid (second u))

theorem result_eq (u : FVec Ideal S16384x512 .f32) : result u = glu 256 rfl u := mat_ext fun i j => by
  pointwise [result, glu, map₂, unit, left, right]
  rfl

/-- The reference ends with its arguments unchanged and no semaphore raised. -/
theorem frame : Cert.quiescent_GluActReferenceIdeal (hGluActReferenceIdeal := Cert.GluActReferenceIdeal.Gen.facts) := fun m ρ _ =>
  (θ_run Cert.GluActReferenceIdeal.defs _ _).mono (fun r h => ⟨fun c => (h c).2, sem_eq_zero_of_no_sems (by decide) r.2⟩) (Cert.GluActReferenceIdeal.Value.run (F := Ideal) m ρ)

/-- Kernel and reference end with the same gated values and unchanged arguments. -/
theorem algebraic : Cert.algebraic_GluActIdeal_GluActReferenceIdeal (hGluActIdeal := Cert.GluActIdeal.Gen.facts) (hGluActReferenceIdeal := Cert.GluActReferenceIdeal.Gen.facts) := by
  intro m g m' g' _ ha
  refine ⟨fun c => glu 256 rfl (Cert.GluActIdeal.Mm.arg0 m c), ?_, ?_⟩
  · exact (θ_run Cert.GluActIdeal.defs _ _).mono (fun r h c => ⟨((h.1 c).1 1).trans (Cert.GluActIdeal.Mm.arr m c), h.2.1 c⟩)
      (θ_run_and (Cert.GluActIdeal.Gen.run_main m g) (Cert.GluActIdeal.Gen.frame m g))
  · refine (θ_run Cert.GluActReferenceIdeal.defs _ _).mono (fun r h c => ⟨(h c).1.trans ((result_eq _).trans ?_), (h c).2⟩) (Cert.GluActReferenceIdeal.Value.run (F := Ideal) m' g')
    exact congrArg (glu 256 rfl) (ha c)

end Cert.GluActReferenceIdeal.Mm
end
-- ==== Proof.GluActBwd.lean ====
/- The gradient through the gated linear unit of the scan branch: what the kernel computes, and that the reference computes the same. -/
module

public import proofs.«01_k».proof.Proof.RowWise
public import proofs.«01_k».proof.Defs
public import proofs.«01_k».proof.Proof.Gen.GluActBwdIdeal
public import proofs.«01_k».proof.Proof.Gen.GluActBwdIdeal.Frame
public import proofs.«01_k».proof.Proof.Gen.GluActBwdReferenceIdeal
public import proofs.«01_k».proof.Proof.Gen.GluActBwdReferenceIdeal.Run
public import Idealize.ShloMosaic.Adequacy
public import Idealize.ShloMosaic.Init

@[expose] public section

noncomputable section

namespace Cert.GluActBwdIdeal.Mm

open Cert.GluActBwdIdeal Cert.GluActBwdIdeal.Gen Cert.Mm Cert.Adam Cert.RowWise
open Idealize.ShloMosaic Idealize.ShloMosaic.TcCoe Idealize.ShloMosaic.Tactic Idealize.SL.Sem

theorem offset_zero : (![0, 0] : Fin 2 → ℕ) = fun _ => 0 := funext fun a => by fin_cases a <;> rfl

theorem pay_eq (u : Vec Ideal S1024x512 .f32) (d : Vec Ideal S1024x256 .f32) : k0_pay1 u d = gluBwd 256 rfl u d := mat_ext fun i j => by
  pointwise [k0_pay1]
  unfold gluBwd beside
  by_cases hj : j.val < 256
  · simp [hj, map₃, unitValue, unitGate, left, right]
  · simp [hj, map₃, unitValue, unitGate, left, right]

theorem out (u : Vec Ideal S1024x512 .f32) (d : Vec Ideal S1024x256 .f32) : out0_2 u d = gluBwd 256 rfl u d := by
  unfold out0_2
  refine Eq.trans ?_ (pay_eq u d)
  simp only [View.canon_unit_zero (S := S1024x512) offset_zero, View.ld_unit_zero (S := S1024x512) offset_zero, View.ld_unit_zero (S := S1024x256) offset_zero]

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)

section Arrays
variable (m : (ℓ : Loc nD τ sig) → Buf (Elt Ideal) ℓ) (c : Dev nD)

abbrev arg0 : Mat 16384 512 := m ((c.tc : Thread nD τ).loc main_arg0)
abbrev arg1 : Mat 16384 256 := m ((c.tc : Thread nD τ).loc main_arg1)

theorem blk_0 (t : Fin cfg0.N) : Rows (1024 * t.val) (p := 1024) (iblk m c 0 t) (arg0 m c) := fun i j I hI => by
  blk_simp [iblk]
  refine ix2_eq (arg0 m c) _ _ _ ?_ ?_
  all_goals simp [index_0, Nat.mul_comm, hI]

theorem blk_1 (t : Fin cfg0.N) : Rows (1024 * t.val) (p := 1024) (iblk m c 1 t) (arg1 m c) := fun i j I hI => by
  blk_simp [iblk]
  refine ix2_eq (arg1 m c) _ _ _ ?_ ?_
  all_goals simp [index_1, Nat.mul_comm, hI]

theorem arr : (dats m 0 c).arrAt 2 cfg0.N = gluBwd 256 rfl (arg0 m c) (arg1 m c) := by
  refine (dats m 0 c).arrAt_eq_of_covers 2 (gluBwd 256 rfl (arg0 m c) (arg1 m c)) (by decide +kernel) fun t hf y => ?_
  blk_simp
  obtain ⟨i, j, rfl⟩ : ∃ (i : Fin 1024) (j : Fin 512), y = ix2 i j := ⟨y 0, y 1, ix_eq y⟩
  rw [after0_2, out]
  refine rows_at (rows_gluBwd rfl (blk_0 m c t) (blk_1 m c t)) i j _ ?_ ?_
  all_goals blk_simp []
  all_goals simp [index_2, Nat.mul_comm]

end Arrays

end Cert.GluActBwdIdeal.Mm

namespace Cert.GluActBwdReferenceIdeal.Mm

open Cert.GluActBwdReferenceIdeal Cert.GluActBwdReferenceIdeal.Gen Cert.Mm Cert.Adam Cert.RowWise
open Idealize.ShloMosaic Idealize.ShloMosaic.TcCoe Idealize.ShloMosaic.Tactic Idealize.SL.Sem

/-- The logistic function of each entry, as the reference writes it. -/
abbrev sigmoid (x : FVec Ideal S16384x256 .f32) : FVec Ideal S16384x256 .f32 :=
  Host.divf (broadcastInDim S16384x256 ![] bcast_S_S16384x256 (constant S_ .f32 0x3F800000#32))
    (addf (broadcastInDim S16384x256 ![] bcast_S_S16384x256 (constant S_ .f32 0x3F800000#32)) (Host.exp (Host.negf x)))
/-- The first and the second half of the columns. -/
abbrev first (u : FVec Ideal S16384x512 .f32) : FVec Ideal S16384x256 .f32 := extractStridedSlice S16384x256 ![0, 0] u slices_S16384x512_S16384x256_0_0
abbrev second (u : FVec Ideal S16384x512 .f32) : FVec Ideal S16384x256 .f32 := extractStridedSlice S16384x256 ![0, 256] u slices_S16384x512_S16384x256_0_256
/-- The reference's result. -/
abbrev result (u : FVec Ideal S16384x512 .f32) (d : FVec Ideal S16384x256 .f32) : FVec Ideal S16384x512 .f32 :=
  addf (pad S16384x512 ![0, 256] ![0, 0] ![0, 0] (mulf (mulf (first u) d) (mulf (sigmoid (second u)) (subf (broadcastInDim S16384x256 ![] bcast_S_S16384x256 (constant S_ .f32 0x3F800000#32)) (sigmoid (second u))))) (constant S_ .f32 0x00000000#32) pads_S16384x256_S16384x512_000_25600 h_S_) (pad S16384x512 ![0, 0] ![0, 256] ![0, 0] (mulf d (sigmoid (second u))) (constant S_ .f32 0x00000000#32) pads_S16384x256_S16384x512_000_02560 h_S_)

theorem result_eq (u : FVec Ideal S16384x512 .f32) (d : FVec Ideal S16384x256 .f32) : result u d = gluBwd 256 rfl u d := mat_ext fun i j => by
  pointwise [result]
  unfold gluBwd beside
  by_cases hj : j.val < 256
  · have hk : ¬(256 ≤ j.val ∧ j.val - 256 < 256) := by omega
    simp [hj, hk, map₃, unitValue, unitGate, left, right, Ideal.logistic]
  · have hk : 256 ≤ j.val ∧ j.val - 256 < 256 := by omega
    simp [hj, hk, map₃, unitValue, unitGate, left, right, Ideal.logistic]

/-- The reference ends with its arguments unchanged and no semaphore raised. -/
theorem frame : Cert.quiescent_GluActBwdReferenceIdeal (hGluActBwdReferenceIdeal := Cert.GluActBwdReferenceIdeal.Gen.facts) := fun m ρ _ =>
  (θ_run Cert.GluActBwdReferenceIdeal.defs _ _).mono (fun r h => ⟨fun c => (h c).2, sem_eq_zero_of_no_sems (by decide) r.2⟩) (Cert.GluActBwdReferenceIdeal.Value.run (F := Ideal) m ρ)

/-- Kernel and reference end with the same gradient and unchanged arguments. -/
theorem algebraic : Cert.algebraic_GluActBwdIdeal_GluActBwdReferenceIdeal (hGluActBwdIdeal := Cert.GluActBwdIdeal.Gen.facts) (hGluActBwdReferenceIdeal := Cert.GluActBwdReferenceIdeal.Gen.facts) := by
  intro m g m' g' _ ha
  refine ⟨fun c => gluBwd 256 rfl (Cert.GluActBwdIdeal.Mm.arg0 m c) (Cert.GluActBwdIdeal.Mm.arg1 m c), ?_, ?_⟩
  · exact (θ_run Cert.GluActBwdIdeal.defs _ _).mono (fun r h c => ⟨((h.1 c).1 2).trans (Cert.GluActBwdIdeal.Mm.arr m c), h.2.1 c⟩)
      (θ_run_and (Cert.GluActBwdIdeal.Gen.run_main m g) (Cert.GluActBwdIdeal.Gen.frame m g))
  · refine (θ_run Cert.GluActBwdReferenceIdeal.defs _ _).mono (fun r h c => ⟨(h c).1.trans ((result_eq _ _).trans ?_), (h c).2⟩) (Cert.GluActBwdReferenceIdeal.Value.run (F := Ideal) m' g')
    exact congrArg₂ (gluBwd 256 rfl) (ha c).1 (ha c).2

end Cert.GluActBwdReferenceIdeal.Mm
end
-- ==== Proof.Branches.lean ====
/- The merge of the four branches through their gates, and the gradients through it, on the four column groups of the gates' array. -/
module

public import proofs.«01_k».proof.Proof.RowWise

@[expose] public section

noncomputable section

namespace Cert.Branches

open Cert.Mm Cert.Adam Cert.RowWise Idealize.ShloMosaic

/-- The `n` columns from column `k` on. -/
def group {p q : ℕ} (n k : ℕ) (h : k + n ≤ q) (u : Mat p q) : Mat p n := fun y => u (ix2 (y 0) ⟨k + (y 1).val, by have : (y 1).val < n := (y 1).isLt; omega⟩)

/-- Four matrices of 1024 columns side by side. -/
def four {p : ℕ} (a b c d : Mat p 1024) : Mat p 4096 := fun y =>
  if h₁ : (y 1).val < 1024 then a (ix2 (y 0) ⟨(y 1).val, h₁⟩)
  else if h₂ : (y 1).val < 2048 then b (ix2 (y 0) ⟨(y 1).val - 1024, by omega⟩)
  else if h₃ : (y 1).val < 3072 then c (ix2 (y 0) ⟨(y 1).val - 2048, by omega⟩)
  else d (ix2 (y 0) ⟨(y 1).val - 3072, by have : (y 1).val < 4096 := (y 1).isLt; omega⟩)

section
variable {p : ℕ} (a b c d : Mat p 1024) (i : Fin p) (j : Fin 4096)

theorem four_first (h : j.val < 1024) : four a b c d (ix2 i j) = a (ix2 i ⟨j.val, h⟩) := dif_pos h
theorem four_second (h : ¬j.val < 1024) (h' : j.val < 2048) : four a b c d (ix2 i j) = b (ix2 i ⟨j.val - 1024, by omega⟩) :=
  (dif_neg h).trans (dif_pos h')
theorem four_third (h : ¬j.val < 2048) (h' : j.val < 3072) : four a b c d (ix2 i j) = c (ix2 i ⟨j.val - 2048, by omega⟩) :=
  (dif_neg (show ¬j.val < 1024 by omega)).trans ((dif_neg h).trans (dif_pos h'))
theorem four_last (h : ¬j.val < 3072) : four a b c d (ix2 i j) = d (ix2 i ⟨j.val - 3072, by omega⟩) :=
  (dif_neg (show ¬j.val < 1024 by omega)).trans ((dif_neg (show ¬j.val < 2048 by omega)).trans (dif_neg h))

end

/-- A branch's entry through its gate. -/
def gated (g z : EReal) : EReal := Ideal.logistic g * z
/-- The derivative in the gate of `gated`, times `e`. -/
def gateSlope (e z g : EReal) : EReal := e * z * (Ideal.logistic g * (1 - Ideal.logistic g))

section
variable {p : ℕ} (u : Mat p 4096) (a b c d e : Mat p 1024)

/-- Column group `k` of the gates applied to `z`. -/
def through (k : ℕ) (h : k + 1024 ≤ 4096) (z : Mat p 1024) : Mat p 1024 := map₂ gated (group 1024 k h u) z
/-- The four branches through their gates, added up. -/
def merged : Mat p 1024 := fun y =>
  through u 0 (by decide) a y + through u 1024 (by decide) b y + through u 2048 (by decide) c y + through u 3072 (by decide) d y
/-- The gradient in the gates' array. -/
def gatesBwd : Mat p 4096 := map₃ gateSlope (four e e e e) (four a b c d) u

end

/-! ## Of a block of rows it is the block of the whole -/

section
variable {p P : ℕ} {R : ℕ} {u : Mat p 4096} {U : Mat P 4096} {a b c d e : Mat p 1024} {A B C D E : Mat P 1024}

theorem rows_four (ha : Rows R a A) (hb : Rows R b B) (hc : Rows R c C) (hd : Rows R d D) : Rows R (four a b c d) (four A B C D) := fun i j I hI => by
  by_cases h₁ : j.val < 1024
  · exact (four_first _ _ _ _ i j h₁).trans ((ha i _ I hI).trans (four_first _ _ _ _ I j h₁).symm)
  by_cases h₂ : j.val < 2048
  · exact (four_second _ _ _ _ i j h₁ h₂).trans ((hb i _ I hI).trans (four_second _ _ _ _ I j h₁ h₂).symm)
  by_cases h₃ : j.val < 3072
  · exact (four_third _ _ _ _ i j h₂ h₃).trans ((hc i _ I hI).trans (four_third _ _ _ _ I j h₂ h₃).symm)
  · exact (four_last _ _ _ _ i j h₃).trans ((hd i _ I hI).trans (four_last _ _ _ _ I j h₃).symm)

theorem rows_through (k : ℕ) (h : k + 1024 ≤ 4096) (hu : Rows R u U) (ha : Rows R a A) : Rows R (through u k h a) (through U k h A) :=
  rows_map₂ _ (fun i _ I hI => hu i _ I hI) ha

theorem rows_merged (hu : Rows R u U) (ha : Rows R a A) (hb : Rows R b B) (hc : Rows R c C) (hd : Rows R d D) :
    Rows R (merged u a b c d) (merged U A B C D) := fun i j I hI =>
  congrArg₂ (· + ·) (congrArg₂ (· + ·) (congrArg₂ (· + ·) (rows_through 0 _ hu ha i j I hI) (rows_through 1024 _ hu hb i j I hI))
    (rows_through 2048 _ hu hc i j I hI)) (rows_through 3072 _ hu hd i j I hI)

theorem rows_gatesBwd (hu : Rows R u U) (ha : Rows R a A) (hb : Rows R b B) (hc : Rows R c C) (hd : Rows R d D) (he : Rows R e E) :
    Rows R (gatesBwd u a b c d e) (gatesBwd U A B C D E) := rows_map₃ _ (rows_four he he he he) (rows_four ha hb hc hd) hu

end

end Cert.Branches
end
-- ==== Proof.Merge.lean ====
/- The merge of the branches through their gates: what the kernel computes, and that the reference computes the same. -/
module

public import proofs.«01_k».proof.Proof.Branches
public import proofs.«01_k».proof.Defs
public import proofs.«01_k».proof.Proof.Gen.MergeIdeal
public import proofs.«01_k».proof.Proof.Gen.MergeIdeal.Frame
public import proofs.«01_k».proof.Proof.Gen.MergeReferenceIdeal
public import proofs.«01_k».proof.Proof.Gen.MergeReferenceIdeal.Run
public import Idealize.ShloMosaic.Adequacy
public import Idealize.ShloMosaic.Init

@[expose] public section

noncomputable section

namespace Cert.MergeIdeal.Mm

open Cert.MergeIdeal Cert.MergeIdeal.Gen Cert.Mm Cert.Adam Cert.RowWise Cert.Branches
open Idealize.ShloMosaic Idealize.ShloMosaic.TcCoe Idealize.ShloMosaic.Tactic Idealize.SL.Sem

theorem offset_zero : (![0, 0] : Fin 2 → ℕ) = fun _ => 0 := funext fun a => by fin_cases a <;> rfl

section
variable (u : Vec Ideal S256x4096 .bf16) (a b d e : Vec Ideal S256x1024 .bf16)

theorem pay_eq : k0_pay1 u a b d e = merged u a b d e := mat_ext fun i j => by
  pointwise [k0_pay1, merged, through, gated, group, map₂]

theorem out_5 : out0_5 u a b d e = merged u a b d e := by
  unfold out0_5
  refine Eq.trans ?_ (pay_eq u a b d e)
  simp only [View.canon_unit_zero (S := S256x1024) offset_zero, View.ld_unit_zero (S := S256x4096) offset_zero, View.ld_unit_zero (S := S256x1024) offset_zero]

end

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)

section Arrays
variable (m : (ℓ : Loc nD τ sig) → Buf (Elt Ideal) ℓ) (c : Dev nD)

abbrev gates : Mat 16384 4096 := m ((c.tc : Thread nD τ).loc main_arg0)
abbrev branch0 : Mat 16384 1024 := m ((c.tc : Thread nD τ).loc main_arg1)
abbrev branch1 : Mat 16384 1024 := m ((c.tc : Thread nD τ).loc main_arg2)
abbrev branch2 : Mat 16384 1024 := m ((c.tc : Thread nD τ).loc main_arg3)
abbrev branch3 : Mat 16384 1024 := m ((c.tc : Thread nD τ).loc main_arg4)

theorem blk_0 (t : Fin cfg0.N) : Rows (256 * t.val) (p := 256) (iblk m c 0 t) (gates m c) := fun i j I hI => by
  blk_simp [iblk]
  refine ix2_eq (gates m c) _ _ _ ?_ ?_
  all_goals simp [index_0, Nat.mul_comm, hI]

theorem blk_1 (t : Fin cfg0.N) : Rows (256 * t.val) (p := 256) (iblk m c 1 t) (branch0 m c) := fun i j I hI => by
  blk_simp [iblk]
  refine ix2_eq (branch0 m c) _ _ _ ?_ ?_
  all_goals simp [index_1, Nat.mul_comm, hI]

theorem blk_2 (t : Fin cfg0.N) : Rows (256 * t.val) (p := 256) (iblk m c 2 t) (branch1 m c) := fun i j I hI => by
  blk_simp [iblk]
  refine ix2_eq (branch1 m c) _ _ _ ?_ ?_
  all_goals simp [index_2, Nat.mul_comm, hI]

theorem blk_3 (t : Fin cfg0.N) : Rows (256 * t.val) (p := 256) (iblk m c 3 t) (branch2 m c) := fun i j I hI => by
  blk_simp [iblk]
  refine ix2_eq (branch2 m c) _ _ _ ?_ ?_
  all_goals simp [index_3, Nat.mul_comm, hI]

theorem blk_4 (t : Fin cfg0.N) : Rows (256 * t.val) (p := 256) (iblk m c 4 t) (branch3 m c) := fun i j I hI => by
  blk_simp [iblk]
  refine ix2_eq (branch3 m c) _ _ _ ?_ ?_
  all_goals simp [index_4, Nat.mul_comm, hI]

theorem arr_5 : (dats m 0 c).arrAt 5 cfg0.N = merged (gates m c) (branch0 m c) (branch1 m c) (branch2 m c) (branch3 m c) := by
  refine (dats m 0 c).arrAt_eq_of_covers 5 (merged (gates m c) (branch0 m c) (branch1 m c) (branch2 m c) (branch3 m c)) (by decide +kernel) fun t hf y => ?_
  blk_simp
  obtain ⟨i, j, rfl⟩ : ∃ (i : Fin 256) (j : Fin 1024), y = ix2 i j := ⟨y 0, y 1, ix_eq y⟩
  rw [after0_5, out_5]
  refine rows_at (rows_merged (blk_0 m c t) (blk_1 m c t) (blk_2 m c t) (blk_3 m c t) (blk_4 m c t)) i j _ ?_ ?_
  all_goals blk_simp []
  all_goals simp [index_5, Nat.mul_comm]

end Arrays

end Cert.MergeIdeal.Mm

namespace Cert.MergeReferenceIdeal.Mm

open Cert.MergeReferenceIdeal Cert.MergeReferenceIdeal.Gen Cert.Mm Cert.Adam Cert.RowWise Cert.Branches
open Idealize.ShloMosaic Idealize.ShloMosaic.TcCoe Idealize.ShloMosaic.Tactic Idealize.SL.Sem

/-- The number one in every entry, and the gates: the logistic function of each entry, as the reference writes it. -/
abbrev one : FVec Ideal S16384x4x1024 .f32 := broadcastInDim S16384x4x1024 ![] bcast_S_S16384x4x1024 (constant S_ .f32 0x3F800000#32)
abbrev gates (u : FVec Ideal S16384x4096 .bf16) : FVec Ideal S16384x4x1024 .f32 :=
  Host.divf one (addf one (Host.exp (Host.negf (shapeCast S16384x4x1024 (extf .f32 u bitsLt_bf16_f32) shapeCasts_S16384x4096_S16384x4x1024))))

section
variable (u : FVec Ideal S16384x4096 .bf16) (a b d e : FVec Ideal S16384x1024 .bf16)

/-- The reference's result. -/
abbrev result : FVec Ideal S16384x1024 .f32 :=
  addf (addf (addf
    (mulf (shapeCast S16384x1024 (extractStridedSlice S16384x1x1024 ![0, 0, 0] (gates u) slices_S16384x4x1024_S16384x1x1024_0_0_0) shapeCasts_S16384x1x1024_S16384x1024) (extf .f32 a bitsLt_bf16_f32))
    (mulf (shapeCast S16384x1024 (extractStridedSlice S16384x1x1024 ![0, 1, 0] (gates u) slices_S16384x4x1024_S16384x1x1024_0_1_0) shapeCasts_S16384x1x1024_S16384x1024) (extf .f32 b bitsLt_bf16_f32)))
    (mulf (shapeCast S16384x1024 (extractStridedSlice S16384x1x1024 ![0, 2, 0] (gates u) slices_S16384x4x1024_S16384x1x1024_0_2_0) shapeCasts_S16384x1x1024_S16384x1024) (extf .f32 d bitsLt_bf16_f32)))
    (mulf (shapeCast S16384x1024 (extractStridedSlice S16384x1x1024 ![0, 3, 0] (gates u) slices_S16384x4x1024_S16384x1x1024_0_3_0) shapeCasts_S16384x1x1024_S16384x1024) (extf .f32 e bitsLt_bf16_f32))

theorem result_eq : result u a b d e = merged u a b d e := mat_ext fun i j => by
  pointwise [result, gates, one, merged, through, gated, group, map₂]
  simp only [Nat.zero_add, Ideal.logistic]

end

theorem result_of {u U : FVec Ideal S16384x4096 .bf16} {a A b B d D e E : FVec Ideal S16384x1024 .bf16} (hu : u = U) (ha : a = A) (hb : b = B)
    (hd : d = D) (he : e = E) : result u a b d e = merged U A B D E := by
  subst hu ha hb hd he
  exact result_eq u a b d e

/-- The reference ends with its arguments unchanged and no semaphore raised. -/
theorem frame : Cert.quiescent_MergeReferenceIdeal (hMergeReferenceIdeal := Cert.MergeReferenceIdeal.Gen.facts) := fun m ρ _ =>
  (θ_run Cert.MergeReferenceIdeal.defs _ _).mono (fun r h => ⟨fun c => (h c).2, sem_eq_zero_of_no_sems (by decide) r.2⟩) (Cert.MergeReferenceIdeal.Value.run (F := Ideal) m ρ)

/-- Kernel and reference end with the same merged branches and unchanged arguments. -/
theorem algebraic : Cert.algebraic_MergeIdeal_MergeReferenceIdeal (hMergeIdeal := Cert.MergeIdeal.Gen.facts) (hMergeReferenceIdeal := Cert.MergeReferenceIdeal.Gen.facts) := by
  intro m g m' g' _ ha
  refine ⟨fun c => merged (Cert.MergeIdeal.Mm.gates m c) (Cert.MergeIdeal.Mm.branch0 m c) (Cert.MergeIdeal.Mm.branch1 m c) (Cert.MergeIdeal.Mm.branch2 m c) (Cert.MergeIdeal.Mm.branch3 m c), ?_, ?_⟩
  · exact (θ_run Cert.MergeIdeal.defs _ _).mono (fun r h c => ⟨((h.1 c).1 5).trans (Cert.MergeIdeal.Mm.arr_5 m c), h.2.1 c⟩)
      (θ_run_and (Cert.MergeIdeal.Gen.run_main m g) (Cert.MergeIdeal.Gen.frame m g))
  · refine (θ_run Cert.MergeReferenceIdeal.defs _ _).mono (fun r h c => ?_) (Cert.MergeReferenceIdeal.Value.run (F := Ideal) m' g')
    obtain ⟨h0, h1, h2, h3, h4⟩ := ha c
    exact ⟨(h c).1.trans (result_of h0 h1 h2 h3 h4), (h c).2⟩

end Cert.MergeReferenceIdeal.Mm
end
-- ==== Proof.MergeBwd.lean ====
/- The gradients through the merge of the branches: what the kernel computes, and that the reference computes the same. -/
module

public import proofs.«01_k».proof.Proof.Branches
public import proofs.«01_k».proof.Defs
public import proofs.«01_k».proof.Proof.Gen.MergeBwdIdeal
public import proofs.«01_k».proof.Proof.Gen.MergeBwdIdeal.Frame
public import proofs.«01_k».proof.Proof.Gen.MergeBwdReferenceIdeal
public import proofs.«01_k».proof.Proof.Gen.MergeBwdReferenceIdeal.Run
public import Idealize.ShloMosaic.Adequacy
public import Idealize.ShloMosaic.Init

@[expose] public section

noncomputable section

namespace Cert.MergeBwdIdeal.Mm

open Cert.MergeBwdIdeal Cert.MergeBwdIdeal.Gen Cert.Mm Cert.Adam Cert.RowWise Cert.Branches
open Idealize.ShloMosaic Idealize.ShloMosaic.TcCoe Idealize.ShloMosaic.Tactic Idealize.SL.Sem

theorem offset_zero : (![0, 0] : Fin 2 → ℕ) = fun _ => 0 := funext fun a => by fin_cases a <;> rfl

section
variable (u : Vec Ideal S128x4096 .bf16) (a b d e : Vec Ideal S128x1024 .bf16) (g : Vec Ideal S128x1024 .f32)

/-- The body's gradient in the gates, from its pieces. -/
abbrev gatesPay : Vec Ideal S128x4096 .bf16 :=
  k0_pay4 (k0_pay6 u) (k0_pay7 a) (k0_pay9 u) (k0_pay10 b) (k0_pay12 u) (k0_pay13 d) (k0_pay15 g) (k0_pay18 u e g) k0_pay19

theorem gatesPay_eq : gatesPay u a b d e g = gatesBwd u a b d e g := mat_ext fun i j => by
  pointwise [gatesPay, k0_pay4, k0_pay5, k0_pay6, k0_pay7, k0_pay8, k0_pay9, k0_pay10, k0_pay11, k0_pay12, k0_pay13, k0_pay14, k0_pay15, k0_pay16, k0_pay18, k0_pay19, gatesBwd, map₃, gateSlope]
  by_cases h₁ : j.val < 1024
  · have h₂ : j.val < 2048 := by omega
    have h₃ : j.val < 3072 := by omega
    simp [h₁, h₂, h₃, four_first]
  by_cases h₂ : j.val < 2048
  · have h₃ : j.val < 3072 := by omega
    have e : 1024 + (j.val - 1024) = j.val := by omega
    simp [h₁, h₂, h₃, e, four_second]
  by_cases h₃ : j.val < 3072
  · have e : 2048 + (j.val - 2048) = j.val := by omega
    simp [h₁, h₂, h₃, e, four_third]
  · have e : 3072 + (j.val - 3072) = j.val := by omega
    simp [h₁, h₂, h₃, e, four_last]

theorem pay_0 : k0_pay3 (k0_pay5 u) (k0_pay15 g) = through u 0 (by decide) g := mat_ext fun i j => by
  pointwise [k0_pay3, k0_pay5, k0_pay15, through, gated, group, map₂]
theorem pay_1 : k0_pay2 (k0_pay8 u) (k0_pay15 g) = through u 1024 (by decide) g := mat_ext fun i j => by
  pointwise [k0_pay2, k0_pay8, k0_pay15, through, gated, group, map₂]
theorem pay_2 : k0_pay1 (k0_pay11 u) (k0_pay15 g) = through u 2048 (by decide) g := mat_ext fun i j => by
  pointwise [k0_pay1, k0_pay11, k0_pay15, through, gated, group, map₂]
theorem pay_3 : k0_pay17 u g = through u 3072 (by decide) g := mat_ext fun i j => by
  pointwise [k0_pay17, k0_pay14, k0_pay16, through, gated, group, map₂]

theorem out_6 : out0_6 u a b d e g = gatesBwd u a b d e g := by
  unfold out0_6 k0_pay20
  refine Eq.trans ?_ (gatesPay_eq u a b d e g)
  simp only [View.canon_unit_zero (S := S128x4096) offset_zero, View.ld_unit_zero (S := S128x4096) offset_zero, View.ld_unit_zero (S := S128x1024) offset_zero]

theorem out_7 : out0_7 u a b d e g = through u 0 (by decide) g := by
  unfold out0_7 k0_pay20
  refine Eq.trans ?_ (pay_0 u g)
  simp only [View.canon_unit_zero (S := S128x1024) offset_zero, View.ld_unit_zero (S := S128x4096) offset_zero, View.ld_unit_zero (S := S128x1024) offset_zero]

theorem out_8 : out0_8 u a b d e g = through u 1024 (by decide) g := by
  unfold out0_8 k0_pay20
  refine Eq.trans ?_ (pay_1 u g)
  simp only [View.canon_unit_zero (S := S128x1024) offset_zero, View.ld_unit_zero (S := S128x4096) offset_zero, View.ld_unit_zero (S := S128x1024) offset_zero]

theorem out_9 : out0_9 u a b d e g = through u 2048 (by decide) g := by
  unfold out0_9 k0_pay20
  refine Eq.trans ?_ (pay_2 u g)
  simp only [View.canon_unit_zero (S := S128x1024) offset_zero, View.ld_unit_zero (S := S128x4096) offset_zero, View.ld_unit_zero (S := S128x1024) offset_zero]

theorem out_10 : out0_10 u a b d e g = through u 3072 (by decide) g := by
  unfold out0_10
  refine Eq.trans ?_ (pay_3 u g)
  simp only [View.canon_unit_zero (S := S128x1024) offset_zero, View.ld_unit_zero (S := S128x4096) offset_zero, View.ld_unit_zero (S := S128x1024) offset_zero]

end

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![t.val, 0] := (by decide +kernel : ∀ t : Fin grid0.N, _)
theorem index_10 : ∀ t : Fin cfg0.N, win0_10.index t = ![t.val, 0] := (by decide +kernel : ∀ t : Fin grid0.N, _)

section Arrays
variable (m : (ℓ : Loc nD τ sig) → Buf (Elt Ideal) ℓ) (c : Dev nD)

abbrev gates : Mat 16384 4096 := m ((c.tc : Thread nD τ).loc main_arg0)
abbrev branch0 : Mat 16384 1024 := m ((c.tc : Thread nD τ).loc main_arg1)
abbrev branch1 : Mat 16384 1024 := m ((c.tc : Thread nD τ).loc main_arg2)
abbrev branch2 : Mat 16384 1024 := m ((c.tc : Thread nD τ).loc main_arg3)
abbrev branch3 : Mat 16384 1024 := m ((c.tc : Thread nD τ).loc main_arg4)
abbrev grad : Mat 16384 1024 := m ((c.tc : Thread nD τ).loc main_arg5)

theorem blk_0 (t : Fin cfg0.N) : Rows (128 * t.val) (p := 128) (iblk m c 0 t) (gates m c) := fun i j I hI => by
  blk_simp [iblk]
  refine ix2_eq (gates m c) _ _ _ ?_ ?_
  all_goals simp [index_0, Nat.mul_comm, hI]

theorem blk_1 (t : Fin cfg0.N) : Rows (128 * t.val) (p := 128) (iblk m c 1 t) (branch0 m c) := fun i j I hI => by
  blk_simp [iblk]
  refine ix2_eq (branch0 m c) _ _ _ ?_ ?_
  all_goals simp [index_1, Nat.mul_comm, hI]

theorem blk_2 (t : Fin cfg0.N) : Rows (128 * t.val) (p := 128) (iblk m c 2 t) (branch1 m c) := fun i j I hI => by
  blk_simp [iblk]
  refine ix2_eq (branch1 m c) _ _ _ ?_ ?_
  all_goals simp [index_2, Nat.mul_comm, hI]

theorem blk_3 (t : Fin cfg0.N) : Rows (128 * t.val) (p := 128) (iblk m c 3 t) (branch2 m c) := fun i j I hI => by
  blk_simp [iblk]
  refine ix2_eq (branch2 m c) _ _ _ ?_ ?_
  all_goals simp [index_3, Nat.mul_comm, hI]

theorem blk_4 (t : Fin cfg0.N) : Rows (128 * t.val) (p := 128) (iblk m c 4 t) (branch3 m c) := fun i j I hI => by
  blk_simp [iblk]
  refine ix2_eq (branch3 m c) _ _ _ ?_ ?_
  all_goals simp [index_4, Nat.mul_comm, hI]

theorem blk_5 (t : Fin cfg0.N) : Rows (128 * t.val) (p := 128) (iblk m c 5 t) (grad m c) := fun i j I hI => by
  blk_simp [iblk]
  refine ix2_eq (grad m c) _ _ _ ?_ ?_
  all_goals simp [index_5, Nat.mul_comm, hI]

theorem arr_6 : (dats m 0 c).arrAt 6 cfg0.N = gatesBwd (gates m c) (branch0 m c) (branch1 m c) (branch2 m c) (branch3 m c) (grad m c) := by
  refine (dats m 0 c).arrAt_eq_of_covers 6 (gatesBwd (gates m c) (branch0 m c) (branch1 m c) (branch2 m c) (branch3 m c) (grad m c)) (by decide +kernel) fun t hf y => ?_
  blk_simp
  obtain ⟨i, j, rfl⟩ : ∃ (i : Fin 128) (j : Fin 4096), y = ix2 i j := ⟨y 0, y 1, ix_eq y⟩
  rw [after0_6, out_6]
  refine rows_at (rows_gatesBwd (blk_0 m c t) (blk_1 m c t) (blk_2 m c t) (blk_3 m c t) (blk_4 m c t) (blk_5 m c t)) i j _ ?_ ?_
  all_goals blk_simp []
  all_goals simp [index_6, Nat.mul_comm]

theorem arr_7 : (dats m 0 c).arrAt 7 cfg0.N = through (gates m c) 0 (by decide) (grad m c) := by
  refine (dats m 0 c).arrAt_eq_of_covers 7 (through (gates m c) 0 (by decide) (grad m c)) (by decide +kernel) fun t hf y => ?_
  blk_simp
  obtain ⟨i, j, rfl⟩ : ∃ (i : Fin 128) (j : Fin 1024), y = ix2 i j := ⟨y 0, y 1, ix_eq y⟩
  rw [after0_7, out_7]
  refine rows_at (rows_through 0 _ (blk_0 m c t) (blk_5 m c t)) i j _ ?_ ?_
  all_goals blk_simp []
  all_goals simp [index_7, Nat.mul_comm]

theorem arr_8 : (dats m 0 c).arrAt 8 cfg0.N = through (gates m c) 1024 (by decide) (grad m c) := by
  refine (dats m 0 c).arrAt_eq_of_covers 8 (through (gates m c) 1024 (by decide) (grad m c)) (by decide +kernel) fun t hf y => ?_
  blk_simp
  obtain ⟨i, j, rfl⟩ : ∃ (i : Fin 128) (j : Fin 1024), y = ix2 i j := ⟨y 0, y 1, ix_eq y⟩
  rw [after0_8, out_8]
  refine rows_at (rows_through 1024 _ (blk_0 m c t) (blk_5 m c t)) i j _ ?_ ?_
  all_goals blk_simp []
  all_goals simp [index_8, Nat.mul_comm]

theorem arr_9 : (dats m 0 c).arrAt 9 cfg0.N = through (gates m c) 2048 (by decide) (grad m c) := by
  refine (dats m 0 c).arrAt_eq_of_covers 9 (through (gates m c) 2048 (by decide) (grad m c)) (by decide +kernel) fun t hf y => ?_
  blk_simp
  obtain ⟨i, j, rfl⟩ : ∃ (i : Fin 128) (j : Fin 1024), y = ix2 i j := ⟨y 0, y 1, ix_eq y⟩
  rw [after0_9, out_9]
  refine rows_at (rows_through 2048 _ (blk_0 m c t) (blk_5 m c t)) i j _ ?_ ?_
  all_goals blk_simp []
  all_goals simp [index_9, Nat.mul_comm]

theorem arr_10 : (dats m 0 c).arrAt 10 cfg0.N = through (gates m c) 3072 (by decide) (grad m c) := by
  refine (dats m 0 c).arrAt_eq_of_covers 10 (through (gates m c) 3072 (by decide) (grad m c)) (by decide +kernel) fun t hf y => ?_
  blk_simp
  obtain ⟨i, j, rfl⟩ : ∃ (i : Fin 128) (j : Fin 1024), y = ix2 i j := ⟨y 0, y 1, ix_eq y⟩
  rw [after0_10, out_10]
  refine rows_at (rows_through 3072 _ (blk_0 m c t) (blk_5 m c t)) i j _ ?_ ?_
  all_goals blk_simp []
  all_goals simp [index_10, Nat.mul_comm]

end Arrays

end Cert.MergeBwdIdeal.Mm

namespace Cert.MergeBwdReferenceIdeal.Mm

open Cert.MergeBwdReferenceIdeal Cert.MergeBwdReferenceIdeal.Gen Cert.Mm Cert.Adam Cert.RowWise Cert.Branches
open Idealize.ShloMosaic Idealize.ShloMosaic.TcCoe Idealize.ShloMosaic.Tactic Idealize.SL.Sem

/-- The number one in every entry, and the gates: the logistic function of each entry, as the reference writes it. -/
abbrev one : FVec Ideal S16384x4x1024 .f32 := broadcastInDim S16384x4x1024 ![] bcast_S_S16384x4x1024 (constant S_ .f32 0x3F800000#32)
abbrev gates (u : FVec Ideal S16384x4096 .bf16) : FVec Ideal S16384x4x1024 .f32 :=
  Host.divf one (addf one (Host.exp (Host.negf (shapeCast S16384x4x1024 (extf .f32 u bitsLt_bf16_f32) shapeCasts_S16384x4096_S16384x4x1024))))

section
variable (u : FVec Ideal S16384x4096 .bf16) (a b d e : FVec Ideal S16384x1024 .bf16) (g : FVec Ideal S16384x1024 .f32)

/-- The reference's five results. -/
abbrev gatesGrad : FVec Ideal S16384x4096 .bf16 :=
  truncf .bf16 (shapeCast S16384x4096 (mulf (addf (addf (addf
    (pad S16384x4x1024 ![0, 3, 0] ![0, 0, 0] ![0, 0, 0] (broadcastInDim S16384x1x1024 ![0, 2] bcast_S16384x1024_S16384x1x1024_0_2 (mulf (shapeCast S16384x1024 g shapeCasts_S16384x1024_S16384x1024) (extf .f32 e bitsLt_bf16_f32))) (constant S_ .f32 0x00000000#32) pads_S16384x1x1024_S16384x4x1024_000_300_000 h_S_)
    (pad S16384x4x1024 ![0, 2, 0] ![0, 1, 0] ![0, 0, 0] (broadcastInDim S16384x1x1024 ![0, 2] bcast_S16384x1024_S16384x1x1024_0_2 (mulf (shapeCast S16384x1024 g shapeCasts_S16384x1024_S16384x1024) (extf .f32 d bitsLt_bf16_f32))) (constant S_ .f32 0x00000000#32) pads_S16384x1x1024_S16384x4x1024_000_210_000 h_S_))
    (pad S16384x4x1024 ![0, 1, 0] ![0, 2, 0] ![0, 0, 0] (broadcastInDim S16384x1x1024 ![0, 2] bcast_S16384x1024_S16384x1x1024_0_2 (mulf (shapeCast S16384x1024 g shapeCasts_S16384x1024_S16384x1024) (extf .f32 b bitsLt_bf16_f32))) (constant S_ .f32 0x00000000#32) pads_S16384x1x1024_S16384x4x1024_000_120_000 h_S_))
    (pad S16384x4x1024 ![0, 0, 0] ![0, 3, 0] ![0, 0, 0] (broadcastInDim S16384x1x1024 ![0, 2] bcast_S16384x1024_S16384x1x1024_0_2 (mulf (shapeCast S16384x1024 g shapeCasts_S16384x1024_S16384x1024) (extf .f32 a bitsLt_bf16_f32))) (constant S_ .f32 0x00000000#32) pads_S16384x1x1024_S16384x4x1024_000_030_000 h_S_))
    (mulf (gates u) (subf one (gates u)))) shapeCasts_S16384x4x1024_S16384x4096) bitsLt_bf16_f32
abbrev branchGrad0 : FVec Ideal S16384x1024 .bf16 := truncf .bf16 (mulf (shapeCast S16384x1024 (extractStridedSlice S16384x1x1024 ![0, 0, 0] (gates u) slices_S16384x4x1024_S16384x1x1024_0_0_0) shapeCasts_S16384x1x1024_S16384x1024) (shapeCast S16384x1024 g shapeCasts_S16384x1024_S16384x1024)) bitsLt_bf16_f32
abbrev branchGrad1 : FVec Ideal S16384x1024 .bf16 := truncf .bf16 (mulf (shapeCast S16384x1024 (extractStridedSlice S16384x1x1024 ![0, 1, 0] (gates u) slices_S16384x4x1024_S16384x1x1024_0_1_0) shapeCasts_S16384x1x1024_S16384x1024) (shapeCast S16384x1024 g shapeCasts_S16384x1024_S16384x1024)) bitsLt_bf16_f32
abbrev branchGrad2 : FVec Ideal S16384x1024 .bf16 := truncf .bf16 (mulf (shapeCast S16384x1024 (extractStridedSlice S16384x1x1024 ![0, 2, 0] (gates u) slices_S16384x4x1024_S16384x1x1024_0_2_0) shapeCasts_S16384x1x1024_S16384x1024) (shapeCast S16384x1024 g shapeCasts_S16384x1024_S16384x1024)) bitsLt_bf16_f32
abbrev branchGrad3 : FVec Ideal S16384x1024 .bf16 := truncf .bf16 (mulf (shapeCast S16384x1024 (extractStridedSlice S16384x1x1024 ![0, 3, 0] (gates u) slices_S16384x4x1024_S16384x1x1024_0_3_0) shapeCasts_S16384x1x1024_S16384x1024) (shapeCast S16384x1024 g shapeCasts_S16384x1024_S16384x1024)) bitsLt_bf16_f32

theorem gatesGrad_eq : gatesGrad u a b d e g = gatesBwd u a b d e g := mat_ext fun i j => by
  pointwise [gatesGrad, gates, one, gatesBwd, map₃, gateSlope, Ideal.logistic]
  by_cases h₁ : j.val < 1024
  · have q : j.val / 1024 = 0 := by omega
    have r : j.val % 1024 = j.val := by omega
    simp [q, r, h₁, four_first, Ideal.logistic]
  by_cases h₂ : j.val < 2048
  · have q : j.val / 1024 = 1 := by omega
    have r : j.val % 1024 = j.val - 1024 := by omega
    have l : j.val - 1024 < 1024 := by omega
    simp [q, r, l, h₁, h₂, four_second, Ideal.logistic]
  by_cases h₃ : j.val < 3072
  · have q : j.val / 1024 = 2 := by omega
    have r : j.val % 1024 = j.val - 2048 := by omega
    have l : j.val - 2048 < 1024 := by omega
    simp [q, r, l, h₂, h₃, four_third, Ideal.logistic]
  · have q : j.val / 1024 = 3 := by omega
    have r : j.val % 1024 = j.val - 3072 := by omega
    have l : j.val - 3072 < 1024 := by omega
    simp [q, r, l, h₃, four_last, Ideal.logistic]

theorem branchGrad0_eq : branchGrad0 u g = through u 0 (by decide) g := mat_ext fun i j => by
  pointwise [branchGrad0, gates, one, through, gated, group, map₂]
  simp only [Nat.zero_add, Ideal.logistic]
theorem branchGrad1_eq : branchGrad1 u g = through u 1024 (by decide) g := mat_ext fun i j => by
  pointwise [branchGrad1, gates, one, through, gated, group, map₂]
  simp only [Ideal.logistic]
theorem branchGrad2_eq : branchGrad2 u g = through u 2048 (by decide) g := mat_ext fun i j => by
  pointwise [branchGrad2, gates, one, through, gated, group, map₂]
  simp only [Ideal.logistic]
theorem branchGrad3_eq : branchGrad3 u g = through u 3072 (by decide) g := mat_ext fun i j => by
  pointwise [branchGrad3, gates, one, through, gated, group, map₂]
  simp only [Ideal.logistic]

end

theorem gatesGrad_of {u U : FVec Ideal S16384x4096 .bf16} {a A b B d D e E : FVec Ideal S16384x1024 .bf16} {g G : FVec Ideal S16384x1024 .f32} (hu : u = U) (ha : a = A) (hb : b = B)
    (hd : d = D) (he : e = E) (hg : g = G) : gatesGrad u a b d e g = gatesBwd U A B D E G := by
  subst hu ha hb hd he hg
  exact gatesGrad_eq u a b d e g
theorem through_of {u U : Mat 16384 4096} {g G : Mat 16384 1024} (k : ℕ) (h : k + 1024 ≤ 4096) (hu : u = U) (hg : g = G) :
    through u k h g = through U k h G := congrArg₂ (fun u g => through u k h g) hu hg

/-- The reference ends with its arguments unchanged and no semaphore raised. -/
theorem frame : Cert.quiescent_MergeBwdReferenceIdeal (hMergeBwdReferenceIdeal := Cert.MergeBwdReferenceIdeal.Gen.facts) := fun m ρ _ =>
  (θ_run Cert.MergeBwdReferenceIdeal.defs _ _).mono (fun r h => ⟨fun c => (h c).2.2.2.2.2, sem_eq_zero_of_no_sems (by decide) r.2⟩) (Cert.MergeBwdReferenceIdeal.Value.run (F := Ideal) m ρ)

/-- Kernel and reference end with the same gradients in the gates and in the branches, and unchanged arguments. -/
theorem algebraic : Cert.algebraic_MergeBwdIdeal_MergeBwdReferenceIdeal (hMergeBwdIdeal := Cert.MergeBwdIdeal.Gen.facts) (hMergeBwdReferenceIdeal := Cert.MergeBwdReferenceIdeal.Gen.facts) := by
  intro m g m' g' _ ha
  refine ⟨fun c => gatesBwd (Cert.MergeBwdIdeal.Mm.gates m c) (Cert.MergeBwdIdeal.Mm.branch0 m c) (Cert.MergeBwdIdeal.Mm.branch1 m c) (Cert.MergeBwdIdeal.Mm.branch2 m c) (Cert.MergeBwdIdeal.Mm.branch3 m c) (Cert.MergeBwdIdeal.Mm.grad m c),
    fun c => through (Cert.MergeBwdIdeal.Mm.gates m c) 0 (by decide) (Cert.MergeBwdIdeal.Mm.grad m c),
    fun c => through (Cert.MergeBwdIdeal.Mm.gates m c) 1024 (by decide) (Cert.MergeBwdIdeal.Mm.grad m c),
    fun c => through (Cert.MergeBwdIdeal.Mm.gates m c) 2048 (by decide) (Cert.MergeBwdIdeal.Mm.grad m c),
    fun c => through (Cert.MergeBwdIdeal.Mm.gates m c) 3072 (by decide) (Cert.MergeBwdIdeal.Mm.grad m c), ?_, ?_⟩
  · exact (θ_run Cert.MergeBwdIdeal.defs _ _).mono (fun r h c => ⟨((h.1 c).1 6).trans (Cert.MergeBwdIdeal.Mm.arr_6 m c),
        ((h.1 c).1 7).trans (Cert.MergeBwdIdeal.Mm.arr_7 m c),
        ((h.1 c).1 8).trans (Cert.MergeBwdIdeal.Mm.arr_8 m c),
        ((h.1 c).1 9).trans (Cert.MergeBwdIdeal.Mm.arr_9 m c),
        ((h.1 c).1 10).trans (Cert.MergeBwdIdeal.Mm.arr_10 m c), h.2.1 c⟩)
      (θ_run_and (Cert.MergeBwdIdeal.Gen.run_main m g) (Cert.MergeBwdIdeal.Gen.frame m g))
  · refine (θ_run Cert.MergeBwdReferenceIdeal.defs _ _).mono (fun r h c => ?_) (Cert.MergeBwdReferenceIdeal.Value.run (F := Ideal) m' g')
    obtain ⟨h0, h1, h2, h3, h4, h5⟩ := ha c
    obtain ⟨r0, r1, r2, r3, r4, rest⟩ := h c
    exact ⟨r0.trans (gatesGrad_of h0 h1 h2 h3 h4 h5), r1.trans ((branchGrad0_eq _ _).trans (through_of 0 _ h0 h5)),
      r2.trans ((branchGrad1_eq _ _).trans (through_of 1024 _ h0 h5)),
      r3.trans ((branchGrad2_eq _ _).trans (through_of 2048 _ h0 h5)),
      r4.trans ((branchGrad3_eq _ _).trans (through_of 3072 _ h0 h5)), rest⟩

end Cert.MergeBwdReferenceIdeal.Mm
end
-- ==== Proof.Stream.lean ====
/- Calls that work row by row on the latent stream: its normalisation and modulation, the gated residual sums, and the loss of each token. -/
module

public import proofs.«01_k».proof.Proof.RowWise

@[expose] public section

noncomputable section

namespace Cert.Stream

open Cert.Mm Cert.Adam Cert.RowWise Idealize.ShloMosaic

/-- The mean of a row's 1024 entries. -/
def mean {p n : ℕ} (x : Mat p n) (i : Fin p) : EReal := Ideal.div (∑ k : Fin n, x (ix2 i k)) (Ideal.ofBits FTy.f32 0x44800000#32)
/-- The squares of the entries. -/
def squares {p n : ℕ} (x : Mat p n) : Mat p n := fun y => x y * x y
/-- One over the root of a row's mean square and a small number. -/
def inverse {p n : ℕ} (x : Mat p n) (i : Fin p) : EReal := Ideal.rsqrt (mean (squares x) i + Ideal.ofBits FTy.f32 0x358637BD#32)
/-- The rows normalised, times a weight for each column. -/
def normal {p n : ℕ} (x : Mat p n) (g : Mat 1 n) : Mat p n := fun y => x y * inverse x (y 0) * g (ix2 0 (y 1))
/-- The normalised rows scaled and shifted. -/
def normMod {p n : ℕ} (x : Mat p n) (g shift scale : Mat 1 n) : Mat p n := fun y => normal x g y * (1 + scale (ix2 0 (y 1))) + shift (ix2 0 (y 1))
/-- The stream and a result, which a gate scales. -/
def resid {p n : ℕ} (k : EReal) (x z : Mat p n) (gate : Mat 1 n) : Mat p n := fun y => x y + k * gate (ix2 0 (y 1)) * z y
/-- A weight for each column. -/
def scaled {p n : ℕ} (x : Mat p n) (s : Mat 1 n) : Mat p n := fun y => x y * s (ix2 0 (y 1))
/-- The difference of the normalised rows from their targets. -/
def miss {p n : ℕ} (x t : Mat p n) (g : Mat 1 n) : Mat p n := fun y => normal x g y - t y
/-- Half the mean squared difference of each row. -/
def loss {p n : ℕ} (x t : Mat p n) (g : Mat 1 n) : Mat p 1 := fun y => Ideal.ofBits FTy.f32 0x3F000000#32 * mean (squares (miss x t g)) (y 0)

/-! ## Of a block of rows it is the block of the whole -/

section
variable {p P n : ℕ} {R : ℕ} {x z : Mat p n} {X Z : Mat P n} {g s t : Mat 1 n}

theorem rows_mean (hx : Rows R x X) (i : Fin p) (I : Fin P) (hI : I.val = R + i.val) : mean x i = mean X I :=
  congrArg (fun e => Ideal.div e (Ideal.ofBits FTy.f32 0x44800000#32)) (Finset.sum_congr rfl fun k _ => hx i k I hI)
theorem rows_squares (hx : Rows R x X) : Rows R (squares x) (squares X) := fun i j I hI => congrArg (fun e : EReal => e * e) (hx i j I hI)
theorem rows_inverse (hx : Rows R x X) (i : Fin p) (I : Fin P) (hI : I.val = R + i.val) : inverse x i = inverse X I :=
  congrArg (fun e => Ideal.rsqrt (e + Ideal.ofBits FTy.f32 0x358637BD#32)) (rows_mean (rows_squares hx) i I hI)
theorem rows_normal (hx : Rows R x X) : Rows R (normal x g) (normal X g) := fun i j I hI =>
  congrArg₂ (fun a b : EReal => a * b * g (ix2 0 j)) (hx i j I hI) (rows_inverse hx i I hI)
theorem rows_normMod (hx : Rows R x X) : Rows R (normMod x g s t) (normMod X g s t) := fun i j I hI =>
  congrArg (fun a : EReal => a * (1 + t (ix2 0 j)) + s (ix2 0 j)) (rows_normal hx i j I hI)
theorem rows_resid (k : EReal) (hx : Rows R x X) (hz : Rows R z Z) : Rows R (resid k x z g) (resid k X Z g) := fun i j I hI =>
  congrArg₂ (fun a b : EReal => a + k * g (ix2 0 j) * b) (hx i j I hI) (hz i j I hI)
theorem rows_scaled (hx : Rows R x X) : Rows R (scaled x g) (scaled X g) := fun i j I hI => congrArg (fun a : EReal => a * g (ix2 0 j)) (hx i j I hI)
theorem rows_miss (hx : Rows R x X) (hz : Rows R z Z) : Rows R (miss x z g) (miss X Z g) := fun i j I hI =>
  congrArg₂ (fun a b : EReal => a - b) (rows_normal hx i j I hI) (hz i j I hI)
theorem rows_loss (hx : Rows R x X) (hz : Rows R z Z) : Rows R (loss x z g) (loss X Z g) := fun i _ I hI =>
  congrArg (fun a : EReal => Ideal.ofBits FTy.f32 0x3F000000#32 * a) (rows_mean (rows_squares (rows_miss hx hz)) i I hI)

end

end Cert.Stream
end
-- ==== Proof.FfnNorm.lean ====
/- The normalisation and modulation before the feed-forward half-step: what the kernel computes, and that the reference computes the same. -/
module

public import proofs.«01_k».proof.Proof.Stream
public import proofs.«01_k».proof.Defs
public import proofs.«01_k».proof.Proof.Gen.FfnNormIdeal
public import proofs.«01_k».proof.Proof.Gen.FfnNormIdeal.Frame
public import proofs.«01_k».proof.Proof.Gen.FfnNormReferenceIdeal
public import proofs.«01_k».proof.Proof.Gen.FfnNormReferenceIdeal.Run
public import Idealize.ShloMosaic.Adequacy
public import Idealize.ShloMosaic.Init

@[expose] public section

noncomputable section

namespace Cert.FfnNormIdeal.Mm

open Cert.FfnNormIdeal Cert.FfnNormIdeal.Gen Cert.Mm Cert.Adam Cert.RowWise Cert.Stream
open Idealize.ShloMosaic Idealize.ShloMosaic.TcCoe Idealize.ShloMosaic.Tactic Idealize.SL.Sem

theorem offset_zero : (![0, 0] : Fin 2 → ℕ) = fun _ => 0 := funext fun a => by fin_cases a <;> rfl

theorem pay_eq (x : Vec Ideal S1024x1024 .f32) (g : Vec Ideal S1x1024 .f32) (d : Vec Ideal S1x1024 .f32) (s : Vec Ideal S1x1024 .f32) : k0_pay1 x g d s = normMod x g d s := mat_ext fun i j => by
  pointwise [k0_pay1, normMod, normal, inverse, mean, squares]

theorem out (x : Vec Ideal S1024x1024 .f32) (g : Vec Ideal S1x1024 .f32) (d : Vec Ideal S1x1024 .f32) (s : Vec Ideal S1x1024 .f32) : out0_4 x g d s = normMod x g d s := by
  unfold out0_4
  refine Eq.trans ?_ (pay_eq x g d s)
  simp only [View.canon_unit_zero (S := S1024x1024) offset_zero, View.ld_unit_zero (S := S1024x1024) offset_zero, View.ld_unit_zero (S := S1x1024) offset_zero]

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![t.val, 0] := (by decide +kernel : ∀ t : Fin grid0.N, _)

section Arrays
variable (m : (ℓ : Loc nD τ sig) → Buf (Elt Ideal) ℓ) (c : Dev nD)

abbrev arg0 : Mat 16384 1024 := m ((c.tc : Thread nD τ).loc main_arg0)
abbrev arg1 : Mat 1 1024 := m ((c.tc : Thread nD τ).loc main_arg1)
abbrev arg2 : Mat 1 1024 := m ((c.tc : Thread nD τ).loc main_arg2)
abbrev arg3 : Mat 1 1024 := m ((c.tc : Thread nD τ).loc main_arg3)

theorem blk_0 (t : Fin cfg0.N) : Rows (1024 * t.val) (p := 1024) (iblk m c 0 t) (arg0 m c) := fun i j I hI => by
  blk_simp [iblk]
  refine ix2_eq (arg0 m c) _ _ _ ?_ ?_
  all_goals simp [index_0, Nat.mul_comm, hI]

theorem blk_1 (t : Fin cfg0.N) : iblk m c 1 t = arg1 m c := mat_ext (p := 1) fun i j => by
  blk_simp [iblk]
  refine ix2_eq (arg1 m c) _ _ _ ?_ ?_
  all_goals simp [index_1]

theorem blk_2 (t : Fin cfg0.N) : iblk m c 2 t = arg2 m c := mat_ext (p := 1) fun i j => by
  blk_simp [iblk]
  refine ix2_eq (arg2 m c) _ _ _ ?_ ?_
  all_goals simp [index_2]

theorem blk_3 (t : Fin cfg0.N) : iblk m c 3 t = arg3 m c := mat_ext (p := 1) fun i j => by
  blk_simp [iblk]
  refine ix2_eq (arg3 m c) _ _ _ ?_ ?_
  all_goals simp [index_3]

theorem arr : (dats m 0 c).arrAt 4 cfg0.N = normMod (arg0 m c) (arg1 m c) (arg2 m c) (arg3 m c) := by
  refine (dats m 0 c).arrAt_eq_of_covers 4 (normMod (arg0 m c) (arg1 m c) (arg2 m c) (arg3 m c)) (by decide +kernel) fun t hf y => ?_
  blk_simp
  obtain ⟨i, j, rfl⟩ : ∃ (i : Fin 1024) (j : Fin 1024), y = ix2 i j := ⟨y 0, y 1, ix_eq y⟩
  rw [after0_4, out, blk_1, blk_2, blk_3]
  refine rows_at (rows_normMod (blk_0 m c t)) i j _ ?_ ?_
  all_goals blk_simp []
  all_goals simp [index_4, Nat.mul_comm]

end Arrays

end Cert.FfnNormIdeal.Mm

namespace Cert.FfnNormReferenceIdeal.Mm

open Cert.FfnNormReferenceIdeal Cert.FfnNormReferenceIdeal.Gen Cert.Mm Cert.Adam Cert.RowWise Cert.Stream
open Idealize.ShloMosaic Idealize.ShloMosaic.TcCoe Idealize.ShloMosaic.Tactic Idealize.SL.Sem

/-- The mean of each row, as the reference writes it. -/
abbrev means (x : FVec Ideal S16384x1024 .f32) : FVec Ideal S16384x1 .f32 :=
  Host.divf (broadcastInDim S16384x1 ![0] bcast_S16384_S16384x1_0 (Host.reduceAdd x (constant S_ .f32 0x00000000#32) reducesTo_S16384x1024_S16384_d1 h_S_))
    (broadcastInDim S16384x1 ![] bcast_S_S16384x1 (constant S_ .f32 0x44800000#32))
/-- A row for each token. -/
abbrev each (g : FVec Ideal S1x1024 .f32) : FVec Ideal S16384x1024 .f32 := broadcastInDim S16384x1024 ![0, 1] bcast_S1x1024_S16384x1024_0_1 g
/-- The normalised rows. -/
abbrev rms (x : FVec Ideal S16384x1024 .f32) (g : FVec Ideal S1x1024 .f32) : FVec Ideal S16384x1024 .f32 :=
  mulf (mulf x (broadcastInDim S16384x1024 ![0, 1] bcast_S16384x1_S16384x1024_0_1
    (Host.rsqrt (addf (means (mulf x x)) (broadcastInDim S16384x1 ![] bcast_S_S16384x1 (constant S_ .f32 0x358637BD#32)))))) (each g)
/-- The reference's result. -/
abbrev result (x : FVec Ideal S16384x1024 .f32) (g : FVec Ideal S1x1024 .f32) (d : FVec Ideal S1x1024 .f32) (s : FVec Ideal S1x1024 .f32) : FVec Ideal S16384x1024 .bf16 :=
  truncf .bf16 (addf (mulf (rms x g) (each (addf (broadcastInDim S1x1024 ![] bcast_S_S1x1024 (constant S_ .f32 0x3F800000#32)) s))) (each d)) bitsLt_bf16_f32

theorem result_eq (x : FVec Ideal S16384x1024 .f32) (g : FVec Ideal S1x1024 .f32) (d : FVec Ideal S1x1024 .f32) (s : FVec Ideal S1x1024 .f32) : result x g d s = normMod x g d s := mat_ext fun i j => by
  pointwise [result, rms, means, each, normMod, normal, inverse, mean, squares]

theorem same {x x' : FVec Ideal S16384x1024 .f32} {g g' : FVec Ideal S1x1024 .f32} {d d' : FVec Ideal S1x1024 .f32} {s s' : FVec Ideal S1x1024 .f32}
    (h0 : x = x') (h1 : g = g') (h2 : d = d') (h3 : s = s') : normMod x g d s = normMod x' g' d' s' := by
  subst h0 h1 h2 h3
  rfl

/-- The reference ends with its arguments unchanged and no semaphore raised. -/
theorem frame : Cert.quiescent_FfnNormReferenceIdeal (hFfnNormReferenceIdeal := Cert.FfnNormReferenceIdeal.Gen.facts) := fun m ρ _ =>
  (θ_run Cert.FfnNormReferenceIdeal.defs _ _).mono (fun r h => ⟨fun c => (h c).2, sem_eq_zero_of_no_sems (by decide) r.2⟩) (Cert.FfnNormReferenceIdeal.Value.run (F := Ideal) m ρ)

/-- Kernel and reference end with the same modulated rows and unchanged arguments. -/
theorem algebraic : Cert.algebraic_FfnNormIdeal_FfnNormReferenceIdeal (hFfnNormIdeal := Cert.FfnNormIdeal.Gen.facts) (hFfnNormReferenceIdeal := Cert.FfnNormReferenceIdeal.Gen.facts) := by
  intro m g m' g' _ ha
  refine ⟨fun c => normMod (Cert.FfnNormIdeal.Mm.arg0 m c) (Cert.FfnNormIdeal.Mm.arg1 m c) (Cert.FfnNormIdeal.Mm.arg2 m c) (Cert.FfnNormIdeal.Mm.arg3 m c), ?_, ?_⟩
  · exact (θ_run Cert.FfnNormIdeal.defs _ _).mono (fun r h c => ⟨((h.1 c).1 4).trans (Cert.FfnNormIdeal.Mm.arr m c), h.2.1 c⟩)
      (θ_run_and (Cert.FfnNormIdeal.Gen.run_main m g) (Cert.FfnNormIdeal.Gen.frame m g))
  · refine (θ_run Cert.FfnNormReferenceIdeal.defs _ _).mono (fun r h c => ⟨(h c).1.trans ((result_eq _ _ _ _).trans ?_), (h c).2⟩) (Cert.FfnNormReferenceIdeal.Value.run (F := Ideal) m' g')
    obtain ⟨h0, h1, h2, h3⟩ := ha c
    exact same h0 h1 h2 h3

end Cert.FfnNormReferenceIdeal.Mm
end
-- ==== Proof.NormMod.lean ====
/- The normalisation and modulation before the token mixer: what the kernel computes, and that the reference computes the same. -/
module

public import proofs.«01_k».proof.Proof.Stream
public import proofs.«01_k».proof.Defs
public import proofs.«01_k».proof.Proof.Gen.NormModIdeal
public import proofs.«01_k».proof.Proof.Gen.NormModIdeal.Frame
public import proofs.«01_k».proof.Proof.Gen.NormModReferenceIdeal
public import proofs.«01_k».proof.Proof.Gen.NormModReferenceIdeal.Run
public import Idealize.ShloMosaic.Adequacy
public import Idealize.ShloMosaic.Init

@[expose] public section

noncomputable section

namespace Cert.NormModIdeal.Mm

open Cert.NormModIdeal Cert.NormModIdeal.Gen Cert.Mm Cert.Adam Cert.RowWise Cert.Stream
open Idealize.ShloMosaic Idealize.ShloMosaic.TcCoe Idealize.ShloMosaic.Tactic Idealize.SL.Sem

theorem offset_zero : (![0, 0] : Fin 2 → ℕ) = fun _ => 0 := funext fun a => by fin_cases a <;> rfl

theorem pay_eq (x : Vec Ideal S512x1024 .f32) (g : Vec Ideal S1x1024 .f32) (d : Vec Ideal S1x1024 .f32) (s : Vec Ideal S1x1024 .f32) : k0_pay1 x g d s = normMod x g d s := mat_ext fun i j => by
  pointwise [k0_pay1, normMod, normal, inverse, mean, squares]

theorem out (x : Vec Ideal S512x1024 .f32) (g : Vec Ideal S1x1024 .f32) (d : Vec Ideal S1x1024 .f32) (s : Vec Ideal S1x1024 .f32) : out0_4 x g d s = normMod x g d s := by
  unfold out0_4
  refine Eq.trans ?_ (pay_eq x g d s)
  simp only [View.canon_unit_zero (S := S512x1024) offset_zero, View.ld_unit_zero (S := S512x1024) offset_zero, View.ld_unit_zero (S := S1x1024) offset_zero]

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![t.val, 0] := (by decide +kernel : ∀ t : Fin grid0.N, _)

section Arrays
variable (m : (ℓ : Loc nD τ sig) → Buf (Elt Ideal) ℓ) (c : Dev nD)

abbrev arg0 : Mat 16384 1024 := m ((c.tc : Thread nD τ).loc main_arg0)
abbrev arg1 : Mat 1 1024 := m ((c.tc : Thread nD τ).loc main_arg1)
abbrev arg2 : Mat 1 1024 := m ((c.tc : Thread nD τ).loc main_arg2)
abbrev arg3 : Mat 1 1024 := m ((c.tc : Thread nD τ).loc main_arg3)

theorem blk_0 (t : Fin cfg0.N) : Rows (512 * t.val) (p := 512) (iblk m c 0 t) (arg0 m c) := fun i j I hI => by
  blk_simp [iblk]
  refine ix2_eq (arg0 m c) _ _ _ ?_ ?_
  all_goals simp [index_0, Nat.mul_comm, hI]

theorem blk_1 (t : Fin cfg0.N) : iblk m c 1 t = arg1 m c := mat_ext (p := 1) fun i j => by
  blk_simp [iblk]
  refine ix2_eq (arg1 m c) _ _ _ ?_ ?_
  all_goals simp [index_1]

theorem blk_2 (t : Fin cfg0.N) : iblk m c 2 t = arg2 m c := mat_ext (p := 1) fun i j => by
  blk_simp [iblk]
  refine ix2_eq (arg2 m c) _ _ _ ?_ ?_
  all_goals simp [index_2]

theorem blk_3 (t : Fin cfg0.N) : iblk m c 3 t = arg3 m c := mat_ext (p := 1) fun i j => by
  blk_simp [iblk]
  refine ix2_eq (arg3 m c) _ _ _ ?_ ?_
  all_goals simp [index_3]

theorem arr : (dats m 0 c).arrAt 4 cfg0.N = normMod (arg0 m c) (arg1 m c) (arg2 m c) (arg3 m c) := by
  refine (dats m 0 c).arrAt_eq_of_covers 4 (normMod (arg0 m c) (arg1 m c) (arg2 m c) (arg3 m c)) (by decide +kernel) fun t hf y => ?_
  blk_simp
  obtain ⟨i, j, rfl⟩ : ∃ (i : Fin 512) (j : Fin 1024), y = ix2 i j := ⟨y 0, y 1, ix_eq y⟩
  rw [after0_4, out, blk_1, blk_2, blk_3]
  refine rows_at (rows_normMod (blk_0 m c t)) i j _ ?_ ?_
  all_goals blk_simp []
  all_goals simp [index_4, Nat.mul_comm]

end Arrays

end Cert.NormModIdeal.Mm

namespace Cert.NormModReferenceIdeal.Mm

open Cert.NormModReferenceIdeal Cert.NormModReferenceIdeal.Gen Cert.Mm Cert.Adam Cert.RowWise Cert.Stream
open Idealize.ShloMosaic Idealize.ShloMosaic.TcCoe Idealize.ShloMosaic.Tactic Idealize.SL.Sem

/-- The mean of each row, as the reference writes it. -/
abbrev means (x : FVec Ideal S16384x1024 .f32) : FVec Ideal S16384x1 .f32 :=
  Host.divf (broadcastInDim S16384x1 ![0] bcast_S16384_S16384x1_0 (Host.reduceAdd x (constant S_ .f32 0x00000000#32) reducesTo_S16384x1024_S16384_d1 h_S_))
    (broadcastInDim S16384x1 ![] bcast_S_S16384x1 (constant S_ .f32 0x44800000#32))
/-- A row for each token. -/
abbrev each (g : FVec Ideal S1x1024 .f32) : FVec Ideal S16384x1024 .f32 := broadcastInDim S16384x1024 ![0, 1] bcast_S1x1024_S16384x1024_0_1 g
/-- The normalised rows. -/
abbrev rms (x : FVec Ideal S16384x1024 .f32) (g : FVec Ideal S1x1024 .f32) : FVec Ideal S16384x1024 .f32 :=
  mulf (mulf x (broadcastInDim S16384x1024 ![0, 1] bcast_S16384x1_S16384x1024_0_1
    (Host.rsqrt (addf (means (mulf x x)) (broadcastInDim S16384x1 ![] bcast_S_S16384x1 (constant S_ .f32 0x358637BD#32)))))) (each g)
/-- The reference's result. -/
abbrev result (x : FVec Ideal S16384x1024 .f32) (g : FVec Ideal S1x1024 .f32) (d : FVec Ideal S1x1024 .f32) (s : FVec Ideal S1x1024 .f32) : FVec Ideal S16384x1024 .f32 :=
  addf (mulf (rms x g) (each (addf (broadcastInDim S1x1024 ![] bcast_S_S1x1024 (constant S_ .f32 0x3F800000#32)) s))) (each d)

theorem result_eq (x : FVec Ideal S16384x1024 .f32) (g : FVec Ideal S1x1024 .f32) (d : FVec Ideal S1x1024 .f32) (s : FVec Ideal S1x1024 .f32) : result x g d s = normMod x g d s := mat_ext fun i j => by
  pointwise [result, rms, means, each, normMod, normal, inverse, mean, squares]

theorem same {x x' : FVec Ideal S16384x1024 .f32} {g g' : FVec Ideal S1x1024 .f32} {d d' : FVec Ideal S1x1024 .f32} {s s' : FVec Ideal S1x1024 .f32}
    (h0 : x = x') (h1 : g = g') (h2 : d = d') (h3 : s = s') : normMod x g d s = normMod x' g' d' s' := by
  subst h0 h1 h2 h3
  rfl

/-- The reference ends with its arguments unchanged and no semaphore raised. -/
theorem frame : Cert.quiescent_NormModReferenceIdeal (hNormModReferenceIdeal := Cert.NormModReferenceIdeal.Gen.facts) := fun m ρ _ =>
  (θ_run Cert.NormModReferenceIdeal.defs _ _).mono (fun r h => ⟨fun c => (h c).2, sem_eq_zero_of_no_sems (by decide) r.2⟩) (Cert.NormModReferenceIdeal.Value.run (F := Ideal) m ρ)

/-- Kernel and reference end with the same modulated rows and unchanged arguments. -/
theorem algebraic : Cert.algebraic_NormModIdeal_NormModReferenceIdeal (hNormModIdeal := Cert.NormModIdeal.Gen.facts) (hNormModReferenceIdeal := Cert.NormModReferenceIdeal.Gen.facts) := by
  intro m g m' g' _ ha
  refine ⟨fun c => normMod (Cert.NormModIdeal.Mm.arg0 m c) (Cert.NormModIdeal.Mm.arg1 m c) (Cert.NormModIdeal.Mm.arg2 m c) (Cert.NormModIdeal.Mm.arg3 m c), ?_, ?_⟩
  · exact (θ_run Cert.NormModIdeal.defs _ _).mono (fun r h c => ⟨((h.1 c).1 4).trans (Cert.NormModIdeal.Mm.arr m c), h.2.1 c⟩)
      (θ_run_and (Cert.NormModIdeal.Gen.run_main m g) (Cert.NormModIdeal.Gen.frame m g))
  · refine (θ_run Cert.NormModReferenceIdeal.defs _ _).mono (fun r h c => ⟨(h c).1.trans ((result_eq _ _ _ _).trans ?_), (h c).2⟩) (Cert.NormModReferenceIdeal.Value.run (F := Ideal) m' g')
    obtain ⟨h0, h1, h2, h3⟩ := ha c
    exact same h0 h1 h2 h3

end Cert.NormModReferenceIdeal.Mm
end
-- ==== Proof.FfnResid.lean ====
/- The stream after the feed-forward half-step: what the kernel computes, and that the reference computes the same. -/
module

public import proofs.«01_k».proof.Proof.Stream
public import proofs.«01_k».proof.Defs
public import proofs.«01_k».proof.Proof.Gen.FfnResidIdeal
public import proofs.«01_k».proof.Proof.Gen.FfnResidIdeal.Frame
public import proofs.«01_k».proof.Proof.Gen.FfnResidReferenceIdeal
public import proofs.«01_k».proof.Proof.Gen.FfnResidReferenceIdeal.Run
public import Idealize.ShloMosaic.Adequacy
public import Idealize.ShloMosaic.Init

@[expose] public section

noncomputable section

namespace Cert.FfnResidIdeal.Mm

open Cert.FfnResidIdeal Cert.FfnResidIdeal.Gen Cert.Mm Cert.Adam Cert.RowWise Cert.Stream
open Idealize.ShloMosaic Idealize.ShloMosaic.TcCoe Idealize.ShloMosaic.Tactic Idealize.SL.Sem

theorem offset_zero : (![0, 0] : Fin 2 → ℕ) = fun _ => 0 := funext fun a => by fin_cases a <;> rfl

theorem pay_eq (x : Vec Ideal S512x1024 .f32) (z : Vec Ideal S512x1024 .f32) (g : Vec Ideal S1x1024 .f32) : k0_pay1 x z g = resid (Ideal.ofBits FTy.f32 0x3F000000#32) x z g := mat_ext fun i j => by
  pointwise [k0_pay1, resid]

theorem out (x : Vec Ideal S512x1024 .f32) (z : Vec Ideal S512x1024 .f32) (g : Vec Ideal S1x1024 .f32) : out0_3 x z g = resid (Ideal.ofBits FTy.f32 0x3F000000#32) x z g := by
  unfold out0_3
  refine Eq.trans ?_ (pay_eq x z g)
  simp only [View.canon_unit_zero (S := S512x1024) offset_zero, View.ld_unit_zero (S := S512x1024) offset_zero, View.ld_unit_zero (S := S1x1024) offset_zero]

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)

section Arrays
variable (m : (ℓ : Loc nD τ sig) → Buf (Elt Ideal) ℓ) (c : Dev nD)

abbrev arg0 : Mat 16384 1024 := m ((c.tc : Thread nD τ).loc main_arg0)
abbrev arg1 : Mat 16384 1024 := m ((c.tc : Thread nD τ).loc main_arg1)
abbrev arg2 : Mat 1 1024 := m ((c.tc : Thread nD τ).loc main_arg2)

theorem blk_0 (t : Fin cfg0.N) : Rows (512 * t.val) (p := 512) (iblk m c 0 t) (arg0 m c) := fun i j I hI => by
  blk_simp [iblk]
  refine ix2_eq (arg0 m c) _ _ _ ?_ ?_
  all_goals simp [index_0, Nat.mul_comm, hI]

theorem blk_1 (t : Fin cfg0.N) : Rows (512 * t.val) (p := 512) (iblk m c 1 t) (arg1 m c) := fun i j I hI => by
  blk_simp [iblk]
  refine ix2_eq (arg1 m c) _ _ _ ?_ ?_
  all_goals simp [index_1, Nat.mul_comm, hI]

theorem blk_2 (t : Fin cfg0.N) : iblk m c 2 t = arg2 m c := mat_ext (p := 1) fun i j => by
  blk_simp [iblk]
  refine ix2_eq (arg2 m c) _ _ _ ?_ ?_
  all_goals simp [index_2]

theorem arr : (dats m 0 c).arrAt 3 cfg0.N = resid (Ideal.ofBits FTy.f32 0x3F000000#32) (arg0 m c) (arg1 m c) (arg2 m c) := by
  refine (dats m 0 c).arrAt_eq_of_covers 3 (resid (Ideal.ofBits FTy.f32 0x3F000000#32) (arg0 m c) (arg1 m c) (arg2 m c)) (by decide +kernel) fun t hf y => ?_
  blk_simp
  obtain ⟨i, j, rfl⟩ : ∃ (i : Fin 512) (j : Fin 1024), y = ix2 i j := ⟨y 0, y 1, ix_eq y⟩
  rw [after0_3, out, blk_2]
  refine rows_at (rows_resid _ (blk_0 m c t) (blk_1 m c t)) i j _ ?_ ?_
  all_goals blk_simp []
  all_goals simp [index_3, Nat.mul_comm]

end Arrays

end Cert.FfnResidIdeal.Mm

namespace Cert.FfnResidReferenceIdeal.Mm

open Cert.FfnResidReferenceIdeal Cert.FfnResidReferenceIdeal.Gen Cert.Mm Cert.Adam Cert.RowWise Cert.Stream
open Idealize.ShloMosaic Idealize.ShloMosaic.TcCoe Idealize.ShloMosaic.Tactic Idealize.SL.Sem

/-- The reference's result. -/
abbrev result (x : FVec Ideal S16384x1024 .f32) (z : FVec Ideal S16384x1024 .f32) (g : FVec Ideal S1x1024 .f32) : FVec Ideal S16384x1024 .f32 :=
  addf x (mulf (broadcastInDim S16384x1024 ![0, 1] bcast_S1x1024_S16384x1024_0_1 (mulf (broadcastInDim S1x1024 ![] bcast_S_S1x1024 (constant S_ .f32 0x3F000000#32)) g)) z)

theorem result_eq (x : FVec Ideal S16384x1024 .f32) (z : FVec Ideal S16384x1024 .f32) (g : FVec Ideal S1x1024 .f32) : result x z g = resid (Ideal.ofBits FTy.f32 0x3F000000#32) x z g := mat_ext fun i j => by
  pointwise [result, resid]

theorem same {x x' : FVec Ideal S16384x1024 .f32} {z z' : FVec Ideal S16384x1024 .f32} {g g' : FVec Ideal S1x1024 .f32}
    (h0 : x = x') (h1 : z = z') (h2 : g = g') : resid (Ideal.ofBits FTy.f32 0x3F000000#32) x z g = resid (Ideal.ofBits FTy.f32 0x3F000000#32) x' z' g' := by
  subst h0 h1 h2
  rfl

/-- The reference ends with its arguments unchanged and no semaphore raised. -/
theorem frame : Cert.quiescent_FfnResidReferenceIdeal (hFfnResidReferenceIdeal := Cert.FfnResidReferenceIdeal.Gen.facts) := fun m ρ _ =>
  (θ_run Cert.FfnResidReferenceIdeal.defs _ _).mono (fun r h => ⟨fun c => (h c).2, sem_eq_zero_of_no_sems (by decide) r.2⟩) (Cert.FfnResidReferenceIdeal.Value.run (F := Ideal) m ρ)

/-- Kernel and reference end with the same sums and unchanged arguments. -/
theorem algebraic : Cert.algebraic_FfnResidIdeal_FfnResidReferenceIdeal (hFfnResidIdeal := Cert.FfnResidIdeal.Gen.facts) (hFfnResidReferenceIdeal := Cert.FfnResidReferenceIdeal.Gen.facts) := by
  intro m g m' g' _ ha
  refine ⟨fun c => resid (Ideal.ofBits FTy.f32 0x3F000000#32) (Cert.FfnResidIdeal.Mm.arg0 m c) (Cert.FfnResidIdeal.Mm.arg1 m c) (Cert.FfnResidIdeal.Mm.arg2 m c), ?_, ?_⟩
  · exact (θ_run Cert.FfnResidIdeal.defs _ _).mono (fun r h c => ⟨((h.1 c).1 3).trans (Cert.FfnResidIdeal.Mm.arr m c), h.2.1 c⟩)
      (θ_run_and (Cert.FfnResidIdeal.Gen.run_main m g) (Cert.FfnResidIdeal.Gen.frame m g))
  · refine (θ_run Cert.FfnResidReferenceIdeal.defs _ _).mono (fun r h c => ⟨(h c).1.trans ((result_eq _ _ _).trans ?_), (h c).2⟩) (Cert.FfnResidReferenceIdeal.Value.run (F := Ideal) m' g')
    obtain ⟨h0, h1, h2⟩ := ha c
    exact same h0 h1 h2

end Cert.FfnResidReferenceIdeal.Mm
end
-- ==== Proof.ResidFull.lean ====
/- The stream after the token mixer: what the kernel computes, and that the reference computes the same. -/
module

public import proofs.«01_k».proof.Proof.Stream
public import proofs.«01_k».proof.Defs
public import proofs.«01_k».proof.Proof.Gen.ResidFullIdeal
public import proofs.«01_k».proof.Proof.Gen.ResidFullIdeal.Frame
public import proofs.«01_k».proof.Proof.Gen.ResidFullReferenceIdeal
public import proofs.«01_k».proof.Proof.Gen.ResidFullReferenceIdeal.Run
public import Idealize.ShloMosaic.Adequacy
public import Idealize.ShloMosaic.Init

@[expose] public section

noncomputable section

namespace Cert.ResidFullIdeal.Mm

open Cert.ResidFullIdeal Cert.ResidFullIdeal.Gen Cert.Mm Cert.Adam Cert.RowWise Cert.Stream
open Idealize.ShloMosaic Idealize.ShloMosaic.TcCoe Idealize.ShloMosaic.Tactic Idealize.SL.Sem

theorem offset_zero : (![0, 0] : Fin 2 → ℕ) = fun _ => 0 := funext fun a => by fin_cases a <;> rfl

theorem pay_eq (x : Vec Ideal S512x1024 .f32) (z : Vec Ideal S512x1024 .f32) (g : Vec Ideal S1x1024 .f32) : k0_pay1 x z g = resid 1 x z g := mat_ext fun i j => by
  pointwise [k0_pay1, resid]

theorem out (x : Vec Ideal S512x1024 .f32) (z : Vec Ideal S512x1024 .f32) (g : Vec Ideal S1x1024 .f32) : out0_3 x z g = resid 1 x z g := by
  unfold out0_3
  refine Eq.trans ?_ (pay_eq x z g)
  simp only [View.canon_unit_zero (S := S512x1024) offset_zero, View.ld_unit_zero (S := S512x1024) offset_zero, View.ld_unit_zero (S := S1x1024) offset_zero]

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)

section Arrays
variable (m : (ℓ : Loc nD τ sig) → Buf (Elt Ideal) ℓ) (c : Dev nD)

abbrev arg0 : Mat 16384 1024 := m ((c.tc : Thread nD τ).loc main_arg0)
abbrev arg1 : Mat 16384 1024 := m ((c.tc : Thread nD τ).loc main_arg1)
abbrev arg2 : Mat 1 1024 := m ((c.tc : Thread nD τ).loc main_arg2)

theorem blk_0 (t : Fin cfg0.N) : Rows (512 * t.val) (p := 512) (iblk m c 0 t) (arg0 m c) := fun i j I hI => by
  blk_simp [iblk]
  refine ix2_eq (arg0 m c) _ _ _ ?_ ?_
  all_goals simp [index_0, Nat.mul_comm, hI]

theorem blk_1 (t : Fin cfg0.N) : Rows (512 * t.val) (p := 512) (iblk m c 1 t) (arg1 m c) := fun i j I hI => by
  blk_simp [iblk]
  refine ix2_eq (arg1 m c) _ _ _ ?_ ?_
  all_goals simp [index_1, Nat.mul_comm, hI]

theorem blk_2 (t : Fin cfg0.N) : iblk m c 2 t = arg2 m c := mat_ext (p := 1) fun i j => by
  blk_simp [iblk]
  refine ix2_eq (arg2 m c) _ _ _ ?_ ?_
  all_goals simp [index_2]

theorem arr : (dats m 0 c).arrAt 3 cfg0.N = resid 1 (arg0 m c) (arg1 m c) (arg2 m c) := by
  refine (dats m 0 c).arrAt_eq_of_covers 3 (resid 1 (arg0 m c) (arg1 m c) (arg2 m c)) (by decide +kernel) fun t hf y => ?_
  blk_simp
  obtain ⟨i, j, rfl⟩ : ∃ (i : Fin 512) (j : Fin 1024), y = ix2 i j := ⟨y 0, y 1, ix_eq y⟩
  rw [after0_3, out, blk_2]
  refine rows_at (rows_resid _ (blk_0 m c t) (blk_1 m c t)) i j _ ?_ ?_
  all_goals blk_simp []
  all_goals simp [index_3, Nat.mul_comm]

end Arrays

end Cert.ResidFullIdeal.Mm

namespace Cert.ResidFullReferenceIdeal.Mm

open Cert.ResidFullReferenceIdeal Cert.ResidFullReferenceIdeal.Gen Cert.Mm Cert.Adam Cert.RowWise Cert.Stream
open Idealize.ShloMosaic Idealize.ShloMosaic.TcCoe Idealize.ShloMosaic.Tactic Idealize.SL.Sem

/-- The reference's result. -/
abbrev result (x : FVec Ideal S16384x1024 .f32) (z : FVec Ideal S16384x1024 .f32) (g : FVec Ideal S1x1024 .f32) : FVec Ideal S16384x1024 .f32 :=
  addf x (mulf (broadcastInDim S16384x1024 ![0, 1] bcast_S1x1024_S16384x1024_0_1 g) z)

theorem result_eq (x : FVec Ideal S16384x1024 .f32) (z : FVec Ideal S16384x1024 .f32) (g : FVec Ideal S1x1024 .f32) : result x z g = resid 1 x z g := mat_ext fun i j => by
  pointwise [result, resid]

theorem same {x x' : FVec Ideal S16384x1024 .f32} {z z' : FVec Ideal S16384x1024 .f32} {g g' : FVec Ideal S1x1024 .f32}
    (h0 : x = x') (h1 : z = z') (h2 : g = g') : resid 1 x z g = resid 1 x' z' g' := by
  subst h0 h1 h2
  rfl

/-- The reference ends with its arguments unchanged and no semaphore raised. -/
theorem frame : Cert.quiescent_ResidFullReferenceIdeal (hResidFullReferenceIdeal := Cert.ResidFullReferenceIdeal.Gen.facts) := fun m ρ _ =>
  (θ_run Cert.ResidFullReferenceIdeal.defs _ _).mono (fun r h => ⟨fun c => (h c).2, sem_eq_zero_of_no_sems (by decide) r.2⟩) (Cert.ResidFullReferenceIdeal.Value.run (F := Ideal) m ρ)

/-- Kernel and reference end with the same sums and unchanged arguments. -/
theorem algebraic : Cert.algebraic_ResidFullIdeal_ResidFullReferenceIdeal (hResidFullIdeal := Cert.ResidFullIdeal.Gen.facts) (hResidFullReferenceIdeal := Cert.ResidFullReferenceIdeal.Gen.facts) := by
  intro m g m' g' _ ha
  refine ⟨fun c => resid 1 (Cert.ResidFullIdeal.Mm.arg0 m c) (Cert.ResidFullIdeal.Mm.arg1 m c) (Cert.ResidFullIdeal.Mm.arg2 m c), ?_, ?_⟩
  · exact (θ_run Cert.ResidFullIdeal.defs _ _).mono (fun r h c => ⟨((h.1 c).1 3).trans (Cert.ResidFullIdeal.Mm.arr m c), h.2.1 c⟩)
      (θ_run_and (Cert.ResidFullIdeal.Gen.run_main m g) (Cert.ResidFullIdeal.Gen.frame m g))
  · refine (θ_run Cert.ResidFullReferenceIdeal.defs _ _).mono (fun r h c => ⟨(h c).1.trans ((result_eq _ _ _).trans ?_), (h c).2⟩) (Cert.ResidFullReferenceIdeal.Value.run (F := Ideal) m' g')
    obtain ⟨h0, h1, h2⟩ := ha c
    exact same h0 h1 h2

end Cert.ResidFullReferenceIdeal.Mm
end
-- ==== Proof.PoolScale.lean ====
/- The scaling of the pooled features: what the kernel computes, and that the reference computes the same. -/
module

public import proofs.«01_k».proof.Proof.Stream
public import proofs.«01_k».proof.Defs
public import proofs.«01_k».proof.Proof.Gen.PoolScaleIdeal
public import proofs.«01_k».proof.Proof.Gen.PoolScaleIdeal.Frame
public import proofs.«01_k».proof.Proof.Gen.PoolScaleReferenceIdeal
public import proofs.«01_k».proof.Proof.Gen.PoolScaleReferenceIdeal.Run
public import Idealize.ShloMosaic.Adequacy
public import Idealize.ShloMosaic.Init

@[expose] public section

noncomputable section

namespace Cert.PoolScaleIdeal.Mm

open Cert.PoolScaleIdeal Cert.PoolScaleIdeal.Gen Cert.Mm Cert.Adam Cert.RowWise Cert.Stream
open Idealize.ShloMosaic Idealize.ShloMosaic.TcCoe Idealize.ShloMosaic.Tactic Idealize.SL.Sem

theorem offset_zero : (![0, 0] : Fin 2 → ℕ) = fun _ => 0 := funext fun a => by fin_cases a <;> rfl

theorem pay_eq (x : Vec Ideal S1024x256 .f32) (s : Vec Ideal S1x256 .f32) : k0_pay1 x s = scaled x s := mat_ext fun i j => by
  pointwise [k0_pay1, scaled]

theorem out (x : Vec Ideal S1024x256 .f32) (s : Vec Ideal S1x256 .f32) : out0_2 x s = scaled x s := by
  unfold out0_2
  refine Eq.trans ?_ (pay_eq x s)
  simp only [View.canon_unit_zero (S := S1024x256) offset_zero, View.ld_unit_zero (S := S1024x256) offset_zero, View.ld_unit_zero (S := S1x256) offset_zero]

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

section Arrays
variable (m : (ℓ : Loc nD τ sig) → Buf (Elt Ideal) ℓ) (c : Dev nD)

abbrev arg0 : Mat 16384 256 := m ((c.tc : Thread nD τ).loc main_arg0)
abbrev arg1 : Mat 1 256 := m ((c.tc : Thread nD τ).loc main_arg1)

theorem blk_0 (t : Fin cfg0.N) : Rows (1024 * t.val) (p := 1024) (iblk m c 0 t) (arg0 m c) := fun i j I hI => by
  blk_simp [iblk]
  refine ix2_eq (arg0 m c) _ _ _ ?_ ?_
  all_goals simp [index_0, Nat.mul_comm, hI]

theorem blk_1 (t : Fin cfg0.N) : iblk m c 1 t = arg1 m c := mat_ext (p := 1) fun i j => by
  blk_simp [iblk]
  refine ix2_eq (arg1 m c) _ _ _ ?_ ?_
  all_goals simp [index_1]

theorem arr : (dats m 0 c).arrAt 2 cfg0.N = scaled (arg0 m c) (arg1 m c) := by
  refine (dats m 0 c).arrAt_eq_of_covers 2 (scaled (arg0 m c) (arg1 m c)) (by decide +kernel) fun t hf y => ?_
  blk_simp
  obtain ⟨i, j, rfl⟩ : ∃ (i : Fin 1024) (j : Fin 256), y = ix2 i j := ⟨y 0, y 1, ix_eq y⟩
  rw [after0_2, out, blk_1]
  refine rows_at (rows_scaled (blk_0 m c t)) i j _ ?_ ?_
  all_goals blk_simp []
  all_goals simp [index_2, Nat.mul_comm]

end Arrays

end Cert.PoolScaleIdeal.Mm

namespace Cert.PoolScaleReferenceIdeal.Mm

open Cert.PoolScaleReferenceIdeal Cert.PoolScaleReferenceIdeal.Gen Cert.Mm Cert.Adam Cert.RowWise Cert.Stream
open Idealize.ShloMosaic Idealize.ShloMosaic.TcCoe Idealize.ShloMosaic.Tactic Idealize.SL.Sem

/-- The reference's result. -/
abbrev result (x : FVec Ideal S16384x256 .f32) (s : FVec Ideal S1x256 .f32) : FVec Ideal S16384x256 .f32 :=
  mulf x (broadcastInDim S16384x256 ![0, 1] bcast_S1x256_S16384x256_0_1 s)

theorem result_eq (x : FVec Ideal S16384x256 .f32) (s : FVec Ideal S1x256 .f32) : result x s = scaled x s := mat_ext fun i j => by
  pointwise [result, scaled]

theorem same {x x' : FVec Ideal S16384x256 .f32} {s s' : FVec Ideal S1x256 .f32}
    (h0 : x = x') (h1 : s = s') : scaled x s = scaled x' s' := by
  subst h0 h1
  rfl

/-- The reference ends with its arguments unchanged and no semaphore raised. -/
theorem frame : Cert.quiescent_PoolScaleReferenceIdeal (hPoolScaleReferenceIdeal := Cert.PoolScaleReferenceIdeal.Gen.facts) := fun m ρ _ =>
  (θ_run Cert.PoolScaleReferenceIdeal.defs _ _).mono (fun r h => ⟨fun c => (h c).2, sem_eq_zero_of_no_sems (by decide) r.2⟩) (Cert.PoolScaleReferenceIdeal.Value.run (F := Ideal) m ρ)

/-- Kernel and reference end with the same scaled rows and unchanged arguments. -/
theorem algebraic : Cert.algebraic_PoolScaleIdeal_PoolScaleReferenceIdeal (hPoolScaleIdeal := Cert.PoolScaleIdeal.Gen.facts) (hPoolScaleReferenceIdeal := Cert.PoolScaleReferenceIdeal.Gen.facts) := by
  intro m g m' g' _ ha
  refine ⟨fun c => scaled (Cert.PoolScaleIdeal.Mm.arg0 m c) (Cert.PoolScaleIdeal.Mm.arg1 m c), ?_, ?_⟩
  · exact (θ_run Cert.PoolScaleIdeal.defs _ _).mono (fun r h c => ⟨((h.1 c).1 2).trans (Cert.PoolScaleIdeal.Mm.arr m c), h.2.1 c⟩)
      (θ_run_and (Cert.PoolScaleIdeal.Gen.run_main m g) (Cert.PoolScaleIdeal.Gen.frame m g))
  · refine (θ_run Cert.PoolScaleReferenceIdeal.defs _ _).mono (fun r h c => ⟨(h c).1.trans ((result_eq _ _).trans ?_), (h c).2⟩) (Cert.PoolScaleReferenceIdeal.Value.run (F := Ideal) m' g')
    obtain ⟨h0, h1⟩ := ha c
    exact same h0 h1

end Cert.PoolScaleReferenceIdeal.Mm
end
-- ==== Proof.LossRows.lean ====
/- The loss of each token: what the kernel computes, and that the reference computes the same. -/
module

public import proofs.«01_k».proof.Proof.Stream
public import proofs.«01_k».proof.Defs
public import proofs.«01_k».proof.Proof.Gen.LossRowsIdeal
public import proofs.«01_k».proof.Proof.Gen.LossRowsIdeal.Frame
public import proofs.«01_k».proof.Proof.Gen.LossRowsReferenceIdeal
public import proofs.«01_k».proof.Proof.Gen.LossRowsReferenceIdeal.Run
public import Idealize.ShloMosaic.Adequacy
public import Idealize.ShloMosaic.Init

@[expose] public section

noncomputable section

namespace Cert.LossRowsIdeal.Mm

open Cert.LossRowsIdeal Cert.LossRowsIdeal.Gen Cert.Mm Cert.Adam Cert.RowWise Cert.Stream
open Idealize.ShloMosaic Idealize.ShloMosaic.TcCoe Idealize.ShloMosaic.Tactic Idealize.SL.Sem

theorem offset_zero : (![0, 0] : Fin 2 → ℕ) = fun _ => 0 := funext fun a => by fin_cases a <;> rfl

theorem pay_eq (x : Vec Ideal S512x1024 .f32) (z : Vec Ideal S512x1024 .f32) (g : Vec Ideal S1x1024 .f32) : k0_pay1 x z g = loss x z g := mat_ext fun i j => by
  pointwise [k0_pay1, loss, miss, normal, inverse, mean, squares]

theorem out (x : Vec Ideal S512x1024 .f32) (z : Vec Ideal S512x1024 .f32) (g : Vec Ideal S1x1024 .f32) : out0_3 x z g = loss x z g := by
  unfold out0_3
  refine Eq.trans ?_ (pay_eq x z g)
  simp only [View.canon_unit_zero (S := S512x1) offset_zero, View.ld_unit_zero (S := S512x1024) offset_zero, View.ld_unit_zero (S := S1x1024) offset_zero]

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)

section Arrays
variable (m : (ℓ : Loc nD τ sig) → Buf (Elt Ideal) ℓ) (c : Dev nD)

abbrev arg0 : Mat 16384 1024 := m ((c.tc : Thread nD τ).loc main_arg0)
abbrev arg1 : Mat 16384 1024 := m ((c.tc : Thread nD τ).loc main_arg1)
abbrev arg2 : Mat 1 1024 := m ((c.tc : Thread nD τ).loc main_arg2)

theorem blk_0 (t : Fin cfg0.N) : Rows (512 * t.val) (p := 512) (iblk m c 0 t) (arg0 m c) := fun i j I hI => by
  blk_simp [iblk]
  refine ix2_eq (arg0 m c) _ _ _ ?_ ?_
  all_goals simp [index_0, Nat.mul_comm, hI]

theorem blk_1 (t : Fin cfg0.N) : Rows (512 * t.val) (p := 512) (iblk m c 1 t) (arg1 m c) := fun i j I hI => by
  blk_simp [iblk]
  refine ix2_eq (arg1 m c) _ _ _ ?_ ?_
  all_goals simp [index_1, Nat.mul_comm, hI]

theorem blk_2 (t : Fin cfg0.N) : iblk m c 2 t = arg2 m c := mat_ext (p := 1) fun i j => by
  blk_simp [iblk]
  refine ix2_eq (arg2 m c) _ _ _ ?_ ?_
  all_goals simp [index_2]

theorem arr : (dats m 0 c).arrAt 3 cfg0.N = loss (arg0 m c) (arg1 m c) (arg2 m c) := by
  refine (dats m 0 c).arrAt_eq_of_covers 3 (loss (arg0 m c) (arg1 m c) (arg2 m c)) (by decide +kernel) fun t hf y => ?_
  blk_simp
  obtain ⟨i, j, rfl⟩ : ∃ (i : Fin 512) (j : Fin 1), y = ix2 i j := ⟨y 0, y 1, ix_eq y⟩
  rw [after0_3, out, blk_2]
  refine rows_at (rows_loss (blk_0 m c t) (blk_1 m c t)) i j _ ?_ ?_
  all_goals blk_simp []
  all_goals simp [index_3, Nat.mul_comm]

end Arrays

end Cert.LossRowsIdeal.Mm

namespace Cert.LossRowsReferenceIdeal.Mm

open Cert.LossRowsReferenceIdeal Cert.LossRowsReferenceIdeal.Gen Cert.Mm Cert.Adam Cert.RowWise Cert.Stream
open Idealize.ShloMosaic Idealize.ShloMosaic.TcCoe Idealize.ShloMosaic.Tactic Idealize.SL.Sem

/-- The mean of each row, as the reference writes it. -/
abbrev means (x : FVec Ideal S16384x1024 .f32) : FVec Ideal S16384x1 .f32 :=
  Host.divf (broadcastInDim S16384x1 ![0] bcast_S16384_S16384x1_0 (Host.reduceAdd x (constant S_ .f32 0x00000000#32) reducesTo_S16384x1024_S16384_d1 h_S_))
    (broadcastInDim S16384x1 ![] bcast_S_S16384x1 (constant S_ .f32 0x44800000#32))
/-- A row for each token. -/
abbrev each (g : FVec Ideal S1x1024 .f32) : FVec Ideal S16384x1024 .f32 := broadcastInDim S16384x1024 ![0, 1] bcast_S1x1024_S16384x1024_0_1 g
/-- The normalised rows. -/
abbrev rms (x : FVec Ideal S16384x1024 .f32) (g : FVec Ideal S1x1024 .f32) : FVec Ideal S16384x1024 .f32 :=
  mulf (mulf x (broadcastInDim S16384x1024 ![0, 1] bcast_S16384x1_S16384x1024_0_1
    (Host.rsqrt (addf (means (mulf x x)) (broadcastInDim S16384x1 ![] bcast_S_S16384x1 (constant S_ .f32 0x358637BD#32)))))) (each g)
/-- The reference's result. -/
abbrev result (x : FVec Ideal S16384x1024 .f32) (z : FVec Ideal S16384x1024 .f32) (g : FVec Ideal S1x1024 .f32) : FVec Ideal S16384x1 .f32 :=
  mulf (broadcastInDim S16384x1 ![] bcast_S_S16384x1 (constant S_ .f32 0x3F000000#32)) (means (mulf (subf (rms x g) z) (subf (rms x g) z)))

theorem result_eq (x : FVec Ideal S16384x1024 .f32) (z : FVec Ideal S16384x1024 .f32) (g : FVec Ideal S1x1024 .f32) : result x z g = loss x z g := mat_ext fun i j => by
  pointwise [result, rms, means, each, loss, miss, normal, inverse, mean, squares]

theorem same {x x' : FVec Ideal S16384x1024 .f32} {z z' : FVec Ideal S16384x1024 .f32} {g g' : FVec Ideal S1x1024 .f32}
    (h0 : x = x') (h1 : z = z') (h2 : g = g') : loss x z g = loss x' z' g' := by
  subst h0 h1 h2
  rfl

/-- The reference ends with its arguments unchanged and no semaphore raised. -/
theorem frame : Cert.quiescent_LossRowsReferenceIdeal (hLossRowsReferenceIdeal := Cert.LossRowsReferenceIdeal.Gen.facts) := fun m ρ _ =>
  (θ_run Cert.LossRowsReferenceIdeal.defs _ _).mono (fun r h => ⟨fun c => (h c).2, sem_eq_zero_of_no_sems (by decide) r.2⟩) (Cert.LossRowsReferenceIdeal.Value.run (F := Ideal) m ρ)

/-- Kernel and reference end with the same losses and unchanged arguments. -/
theorem algebraic : Cert.algebraic_LossRowsIdeal_LossRowsReferenceIdeal (hLossRowsIdeal := Cert.LossRowsIdeal.Gen.facts) (hLossRowsReferenceIdeal := Cert.LossRowsReferenceIdeal.Gen.facts) := by
  intro m g m' g' _ ha
  refine ⟨fun c => loss (Cert.LossRowsIdeal.Mm.arg0 m c) (Cert.LossRowsIdeal.Mm.arg1 m c) (Cert.LossRowsIdeal.Mm.arg2 m c), ?_, ?_⟩
  · exact (θ_run Cert.LossRowsIdeal.defs _ _).mono (fun r h c => ⟨((h.1 c).1 3).trans (Cert.LossRowsIdeal.Mm.arr m c), h.2.1 c⟩)
      (θ_run_and (Cert.LossRowsIdeal.Gen.run_main m g) (Cert.LossRowsIdeal.Gen.frame m g))
  · refine (θ_run Cert.LossRowsReferenceIdeal.defs _ _).mono (fun r h c => ⟨(h c).1.trans ((result_eq _ _ _).trans ?_), (h c).2⟩) (Cert.LossRowsReferenceIdeal.Value.run (F := Ideal) m' g')
    obtain ⟨h0, h1, h2⟩ := ha c
    exact same h0 h1 h2

end Cert.LossRowsReferenceIdeal.Mm
end
-- ==== Proof.Host.lean ====
/- The launch's operands as the host lines before it compute them, read element by element. -/
module

public import proofs.«01_k».proof.Proof.Gen.KernelIdeal.Frame.Runs
public import Idealize.ShloMosaic.Lib.Pointwise
public import Idealize.ShloMosaic.Lib.StableHlo.Run

@[expose] public section

noncomputable section

namespace Cert.KernelIdeal.Att

open Cert.KernelIdeal Cert.KernelIdeal.Gen
open Idealize.ShloMosaic Idealize.ShloMosaic.TcCoe Idealize.ShloMosaic.StableHlo

/-- The scaled scores. -/
def hostS (x0 : FVec Ideal S16384x4x64 .f32) (x1 : FVec Ideal S256x2x64 .f32) (x3 : FVec Ideal S16384x2x64 .f32) :
    FVec Ideal S2x2x16384x16640 .f32 :=
  mulf (transpose S2x2x16384x16640 [0, 3, 2, 1]
      (Host.dotGeneral dot_S16640x2x64_S16384x2x2x64_S2x16640x16384x2_2_3_0_02_1_1 none
        (concatenate S16640x2x64 0 [⟨S256x2x64, x1⟩, ⟨S16384x2x64, x3⟩] concatenates_S256x2x64_S16384x2x64_S16640x2x64_d0)
        (shapeCast S16384x2x2x64 x0 shapeCasts_S16384x4x64_S16384x2x2x64))
      transposes_S2x16640x16384x2_S2x2x16384x16640_0_3_2_1)
    (broadcastInDim S2x2x16384x16640 ![] bcast_S_S2x2x16384x16640 (constant S_ FTy.f32 0x3E000000#32))

/-- The rows' maxima. -/
def hostM (s : FVec Ideal S2x2x16384x16640 .f32) : FVec Ideal S2x2x16384 .f32 :=
  Host.reduce FloatOps.maximumf s (constant S_ FTy.f32 0xFF800000#32) reducesTo_S2x2x16384x16640_S2x2x16384_d3 h_S_

/-- The exponentials of the scores less a row's number. -/
def hostE (s : FVec Ideal S2x2x16384x16640 .f32) (b : FVec Ideal S2x2x16384 .f32) : FVec Ideal S2x2x16384x16640 .f32 :=
  Host.exp (subf s (broadcastInDim S2x2x16384x16640 ![0, 1, 2, 3] bcast_S2x2x16384x1_S2x2x16384x16640_0_1_2_3
    (broadcastInDim S2x2x16384x1 ![0, 1, 2] bcast_S2x2x16384_S2x2x16384x1_0_1_2 b)))

/-- The rows' sums. -/
def hostZ (e : FVec Ideal S2x2x16384x16640 .f32) : FVec Ideal S2x2x16384 .f32 :=
  Host.reduceAdd e (constant S_ FTy.f32 0x00000000#32) reducesTo_S2x2x16384x16640_S2x2x16384_d3 h_S_

/-- The rows' logarithmic sums from their maxima and sums. -/
def hostL (b z : FVec Ideal S2x2x16384 .f32) : FVec Ideal S2x2x16384x1 .f32 :=
  addf (broadcastInDim S2x2x16384x1 ![0, 1, 2] bcast_S2x2x16384_S2x2x16384x1_0_1_2 b)
    (Host.log (broadcastInDim S2x2x16384x1 ![0, 1, 2] bcast_S2x2x16384_S2x2x16384x1_0_1_2 z))

/-- The larger of −∞ and a row's maximum. -/
def hostN (b : FVec Ideal S2x2x16384 .f32) : FVec Ideal S2x2x16384 .f32 :=
  maximumf (broadcastInDim S2x2x16384 ![] bcast_S_S2x2x16384 (constant S_ FTy.f32 0xFF800000#32)) b

/-- The attention's output from exponentials, their sums and the values. -/
def hostO (e : FVec Ideal S2x2x16384x16640 .f32) (z : FVec Ideal S2x2x16384 .f32) (x2 : FVec Ideal S256x2x64 .f32)
    (x4 : FVec Ideal S16384x2x64 .f32) : FVec Ideal S2x2x16384x64 .f32 :=
  Host.dotGeneral dot_S2x2x16384x16640_S16640x2x64_S2x2x16384x64_3_0_12_2_0_1 none
    (Host.divf e (broadcastInDim S2x2x16384x16640 ![0, 1, 2, 3] bcast_S2x2x16384x1_S2x2x16384x16640_0_1_2_3
      (broadcastInDim S2x2x16384x1 ![0, 1, 2] bcast_S2x2x16384_S2x2x16384x1_0_1_2 z)))
    (concatenate S16640x2x64 0 [⟨S256x2x64, x2⟩, ⟨S16384x2x64, x4⟩] concatenates_S256x2x64_S16384x2x64_S16640x2x64_d0)

/-- A per-query array laid out by head. -/
def hostQ (x : FVec Ideal S16384x4x64 .f32) : FVec Ideal S2x2x16384x64 .f32 :=
  transpose S2x2x16384x64 [1, 2, 0, 3] (shapeCast S16384x2x2x64 x shapeCasts_S16384x4x64_S16384x2x2x64)
    transposes_S16384x2x2x64_S2x2x16384x64_1_2_0_3

/-- The context's keys or values laid out by head. -/
def hostC (x : FVec Ideal S256x2x64 .f32) : FVec Ideal S2x256x64 .f32 :=
  transpose S2x256x64 [1, 0, 2] x transposes_S256x2x64_S2x256x64_1_0_2
/-- Their transposes. -/
def hostCt (x : FVec Ideal S2x256x64 .f32) : FVec Ideal S2x64x256 .f32 :=
  transpose S2x64x256 [0, 2, 1] x transposes_S2x256x64_S2x64x256_0_2_1
/-- The latents' keys or values laid out by head. -/
def hostK (x : FVec Ideal S16384x2x64 .f32) : FVec Ideal S2x16384x64 .f32 :=
  transpose S2x16384x64 [1, 0, 2] x transposes_S16384x2x64_S2x16384x64_1_0_2
/-- Their transposes. -/
def hostKt (x : FVec Ideal S2x16384x64 .f32) : FVec Ideal S2x64x16384 .f32 :=
  transpose S2x64x16384 [0, 2, 1] x transposes_S2x16384x64_S2x64x16384_0_2_1

/-- The pattern the maxima start from is −∞. -/
theorem ofBits_ninf : Ideal.ofBits .f32 0xFF800000#32 = ⊥ := by
  simp [Ideal.ofBits, Ideal.ieee]

theorem hostM_at (s : FVec Ideal S2x2x16384x16640 .f32) (h g : Fin 2) (t : Fin 16384) :
    hostM s (ix3 h g t) = Finset.univ.fold max (⊥ : EReal) fun k : Fin 16640 => s (ix4 h g t k) := by
  pointwise [hostM]
  rw [ofBits_ninf]

theorem hostE_at (s : FVec Ideal S2x2x16384x16640 .f32) (b : FVec Ideal S2x2x16384 .f32) (h g : Fin 2) (t : Fin 16384) (k : Fin 16640) :
    hostE s b (ix4 h g t k) = Ideal.exp (s (ix4 h g t k) - b (ix3 h g t)) := by
  pointwise [hostE]

theorem hostZ_at (e : FVec Ideal S2x2x16384x16640 .f32) (h g : Fin 2) (t : Fin 16384) :
    hostZ e (ix3 h g t) = ∑ k : Fin 16640, e (ix4 h g t k) := by
  pointwise [hostZ]

theorem hostL_at (b z : FVec Ideal S2x2x16384 .f32) (h g : Fin 2) (t : Fin 16384) :
    hostL b z (ix4 h g t 0) = b (ix3 h g t) + Ideal.log (z (ix3 h g t)) := by
  pointwise [hostL]

theorem hostN_at (b : FVec Ideal S2x2x16384 .f32) (h g : Fin 2) (t : Fin 16384) :
    hostN b (ix3 h g t) = b (ix3 h g t) := by
  pointwise [hostN]
  rw [ofBits_ninf]
  exact max_bot_left _

theorem hostO_at (e : FVec Ideal S2x2x16384x16640 .f32) (z : FVec Ideal S2x2x16384 .f32) (x2 : FVec Ideal S256x2x64 .f32)
    (x4 : FVec Ideal S16384x2x64 .f32) (h g : Fin 2) (t : Fin 16384) (d : Fin 64) :
    hostO e z x2 x4 (ix4 h g t d)
      = ∑ k : Fin 256, Ideal.div (e (ix4 h g t ⟨k.val, by omega⟩)) (z (ix3 h g t)) * x2 (ix3 k h d)
        + ∑ k : Fin 16384, Ideal.div (e (ix4 h g t ⟨256 + k.val, by omega⟩)) (z (ix3 h g t)) * x4 (ix3 k h d) := by
  pointwise [hostO]

theorem hostQ_at (x : FVec Ideal S16384x4x64 .f32) (h g : Fin 2) (t : Fin 16384) (d : Fin 64) :
    hostQ x (ix4 h g t d) = x (ix3 t ⟨h.val * 2 + g.val, by omega⟩ d) := by
  pointwise [hostQ]
theorem hostC_at (x : FVec Ideal S256x2x64 .f32) (h : Fin 2) (k : Fin 256) (d : Fin 64) : hostC x (ix3 h k d) = x (ix3 k h d) := by
  pointwise [hostC]
theorem hostCt_at (x : FVec Ideal S2x256x64 .f32) (h : Fin 2) (k : Fin 256) (d : Fin 64) : hostCt x (ix3 h d k) = x (ix3 h k d) := by
  pointwise [hostCt]
theorem hostK_at (x : FVec Ideal S16384x2x64 .f32) (h : Fin 2) (k : Fin 16384) (d : Fin 64) : hostK x (ix3 h k d) = x (ix3 k h d) := by
  pointwise [hostK]
theorem hostKt_at (x : FVec Ideal S2x16384x64 .f32) (h : Fin 2) (k : Fin 16384) (d : Fin 64) : hostKt x (ix3 h d k) = x (ix3 h k d) := by
  pointwise [hostKt]

theorem hostS_at (x0 : FVec Ideal S16384x4x64 .f32) (x1 : FVec Ideal S256x2x64 .f32) (x3 : FVec Ideal S16384x2x64 .f32)
    (h g : Fin 2) (t : Fin 16384) (k : Fin 16640) :
    hostS x0 x1 x3 (ix4 h g t k)
      = (∑ d : Fin 64, (if hk : k.val < 256 then x1 (ix3 ⟨k.val, hk⟩ h d) else x3 (ix3 ⟨k.val - 256, by omega⟩ h d))
          * x0 (ix3 t ⟨h.val * 2 + g.val, by omega⟩ d)) * Ideal.ofBits .f32 0x3E000000#32 := by
  pointwise [hostS]

section Operands

variable (m : (ℓ : Loc nD τ sig) → Buf (Elt Ideal) ℓ) (c : Dev nD)

/-- The six arrays the program is given. -/
abbrev arg0 : FVec Ideal S16384x4x64 .f32 := m ((c.tc : Thread nD τ).loc main_arg0)
abbrev arg1 : FVec Ideal S256x2x64 .f32 := m ((c.tc : Thread nD τ).loc main_arg1)
abbrev arg2 : FVec Ideal S256x2x64 .f32 := m ((c.tc : Thread nD τ).loc main_arg2)
abbrev arg3 : FVec Ideal S16384x2x64 .f32 := m ((c.tc : Thread nD τ).loc main_arg3)
abbrev arg4 : FVec Ideal S16384x2x64 .f32 := m ((c.tc : Thread nD τ).loc main_arg4)
abbrev arg5 : FVec Ideal S16384x4x64 .f32 := m ((c.tc : Thread nD τ).loc main_arg5)

/-- The scaled scores of the arguments. -/
def scores : FVec Ideal S2x2x16384x16640 .f32 := hostS (arg0 m c) (arg1 m c) (arg3 m c)

/-- The attention's output, as the host lines compute it. -/
def outOf : FVec Ideal S2x2x16384x64 .f32 :=
  hostO (hostE (scores m c) (hostN (hostM (scores m c)))) (hostZ (hostE (scores m c) (hostN (hostM (scores m c))))) (arg2 m c) (arg4 m c)

/-- The rows' logarithmic sums, as the host lines compute them. -/
def lseOf : FVec Ideal S2x2x16384x1 .f32 :=
  hostL (hostM (scores m c)) (hostZ (hostE (scores m c) (hostM (scores m c))))

/-! What each window's array holds when the launch starts. -/

theorem V_q : V m c main_v33 = hostQ (arg0 m c) := by
  show StableHlo.after hostOps0 _ (Proc.devRef .tc main_v33) = _
  after_results_simp; rfl
theorem V_o : V m c main_v27 = outOf m c := by
  show StableHlo.after hostOps0 _ (Proc.devRef .tc main_v27) = _
  after_results_simp; rfl
theorem V_dy : V m c main_v35 = hostQ (arg5 m c) := by
  show StableHlo.after hostOps0 _ (Proc.devRef .tc main_v35) = _
  after_results_simp; rfl
theorem V_lse : V m c main_v15 = lseOf m c := by
  show StableHlo.after hostOps0 _ (Proc.devRef .tc main_v15) = _
  after_results_simp; rfl
theorem V_kc : V m c main_v28 = hostC (arg1 m c) := by
  show StableHlo.after hostOps0 _ (Proc.devRef .tc main_v28) = _
  after_results_simp; rfl
theorem V_kct : V m c main_v38 = hostCt (hostC (arg1 m c)) := by
  show StableHlo.after hostOps0 _ (Proc.devRef .tc main_v38) = _
  after_results_simp; rfl
theorem V_vct : V m c main_v39 = hostCt (hostC (arg2 m c)) := by
  show StableHlo.after hostOps0 _ (Proc.devRef .tc main_v39) = _
  after_results_simp; rfl
theorem V_kl : V m c main_v30 = hostK (arg3 m c) := by
  show StableHlo.after hostOps0 _ (Proc.devRef .tc main_v30) = _
  after_results_simp; rfl
theorem V_klt : V m c main_v36 = hostKt (hostK (arg3 m c)) := by
  show StableHlo.after hostOps0 _ (Proc.devRef .tc main_v36) = _
  after_results_simp; rfl
theorem V_vlt : V m c main_v37 = hostKt (hostK (arg4 m c)) := by
  show StableHlo.after hostOps0 _ (Proc.devRef .tc main_v37) = _
  after_results_simp; rfl

end Operands

end Cert.KernelIdeal.Att
end
-- ==== Proof.Step.lean ====
/- What one grid point of the attention gradient's kernel does to its scratch, as plain functions of the blocks it is
   given and of what the scratch held before. -/
module

public import proofs.«01_k».proof.Proof.Gen.KernelIdeal.Frame.Runs
public import Idealize.ShloMosaic.Lib.VecWindow
public import Idealize.ShloMosaic.Lib.ValueIdx
public import Idealize.ShloMosaic.Lib.ValueLayout

@[expose] public section

noncomputable section

namespace Cert.KernelIdeal.Att

open Cert.KernelIdeal Cert.KernelIdeal.Gen
open Idealize.ShloMosaic Idealize.ShloMosaic.TcCoe

variable {F : FTy → Type} [FloatOps F]

/-- The ten blocks a grid point is given. -/
structure Ins (F : FTy → Type) [FloatOps F] where
  q : Vec F S1x2x512x64 .f32
  o : Vec F S1x2x512x64 .f32
  dy : Vec F S1x2x512x64 .f32
  lse : Vec F S1x2x512x1 .f32
  kc : Vec F S1x256x64 .f32
  kct : Vec F S1x64x256 .f32
  vct : Vec F S1x64x256 .f32
  kl : Vec F S1x1024x64 .f32
  klt : Vec F S1x64x1024 .f32
  vlt : Vec F S1x64x1024 .f32

/-- The four scratch buffers: the gradient of q of one query block, its row sums, the gradients of k and of v of one head. -/
structure St (F : FTy → Type) [FloatOps F] where
  dq : Vec F S1024x64 .f32
  dl : Vec F S1024x1 .f32
  dk : Vec F S16384x64 .f32
  dv : Vec F S16384x64 .f32

/-- The first row of the key block a point works on. -/
abbrev rowOff (i : grid0.Coords) : Fin 2 → ℕ := ![1024 * (i 2).val, 0]

theorem rowOff_inb (i : grid0.Coords) : ∀ a, rowOff i a + S1024x64.size a ≤ S16384x64.size a := by
  have h := k0_off1_inb i
  rw [k0_off1_eq i] at h; exact h

/-- The 1024 rows of the key block. -/
abbrev rowsOf (i : grid0.Coords) (x : Vec F S16384x64 .f32) : Vec F S1024x64 .f32 :=
  VecWindow.window (s := S16384x64) x (rowOff i) S1024x64.size (rowOff_inb i)

/-- A load of the key block's rows, of a buffer that holds `x`. -/
theorem readAt_rows {sp : Space} (v : View sig .tc sp S16384x64 .f32) (f : v.ty.Contents (Elt F)) (i : grid0.Coords) (x : Vec F S16384x64 .f32)
    (h : v.read (Elt F) f = x) :
    v.readAt (Elt F) (Rect.unit (s := S16384x64) (k0_off1 i) S1024x64.size (k0_off1_inb i)).toLoadRect f = rowsOf i x := by
  subst h; exact View.readAt_unit v f (k0_off1_inb i) (k0_off1_eq i) (rowOff_inb i)

/-- The row sums a query block starts with: o against the cotangent. -/
abbrev rowSums (X : Ins F) : Vec F S1024x1 .f32 := k0_pay5 X.o X.dy

/-- The context keys' part of the gradient of q, which a query block starts with. -/
abbrev ctxPart (X : Ins F) : Vec F S1024x64 .f32 :=
  k0_pay13 (k0_pay6 (k0_pay8 X.q) (k0_pay9 X.dy) (k0_pay10 X.lse) X.kct X.vct (rowSums X) X.kc)

/-- The work every point does, on the scratch it finds. -/
def stepB (i : grid0.Coords) (X : Ins F) (s : St F) : St F where
  dq := k0_pay17 (k0_pay8 X.q) (k0_pay9 X.dy) (k0_pay10 X.lse) (k0_pay14 X.klt) X.vlt s.dl s.dq X.kl
  dl := s.dl
  dk := VecWindow.put (s := S16384x64) s.dk (rowOff i) S1024x64.size
    (k0_pay1 (k0_pay19 (k0_pay7 X.q) (k0_pay8 X.q) (k0_pay9 X.dy) (k0_pay10 X.lse) (k0_pay14 X.klt) X.vlt s.dl (rowsOf i s.dk)))
  dv := VecWindow.put (s := S16384x64) s.dv (rowOff i) S1024x64.size
    (k0_pay18 (k0_pay8 X.q) (k0_pay9 X.dy) (k0_pay10 X.lse) (k0_pay14 X.klt) (rowsOf i s.dv))

/-- The same at a query block's first point: the row sums and the context keys' part are computed first. -/
def stepD (i : grid0.Coords) (X : Ins F) (s : St F) : St F :=
  stepB i X ⟨ctxPart X, rowSums X, s.dk, s.dv⟩

/-- The same at a head's first point: the gradients of k and v start at zero. -/
def stepA (i : grid0.Coords) (X : Ins F) : St F :=
  stepB i X ⟨ctxPart X, rowSums X, k0_pay11, k0_pay12⟩

/-- The same at a head's last point: the gradient of k is scaled at the end. -/
def stepE (i : grid0.Coords) (X : Ins F) (s : St F) : St F :=
  { stepB i X s with dk := k0_pay4 (stepB i X s).dk }

/-- Head `h` of a result replaced by `x`, the other head as it was. -/
def slab (h : ℕ) (w : Vec F S2x16384x64 .f32) (x : Vec F S16384x64 .f32) : Vec F S2x16384x64 .f32 :=
  fun j => if (j 0).val = h then x (ValueIdx.ix2 (j 1) (j 2)) else w j

/-- Where an element of the slab a head's last point writes lies in the whole result. -/
theorem slab_emb (i : grid0.Coords) (r : Fin 16384) (d : Fin 64) (z : S16384x64.Idx)
    (hz : z = ValueIdx.ix2 r d) (h4 : k0_cond4 i = 1#1) :
    (Rect.unit (s := S2x16384x64) (k0_off2 i) S1x16384x64.size (k0_off2_inb i h4)).emb
        (Shape.reshapeEquiv squeezes_S1x16384x64_S16384x64.numel_eq z) = ValueIdx.ix3 (i 0) r d := by
  subst hz
  rw [ValueIdx.reshapeEquiv_ix2_1ab]
  funext a
  apply Fin.ext
  have e := congrFun (k0_off2_eq i) a
  show k0_off2 i a + 1 * _ = _
  rw [e]
  fin_cases a
  · show (i 0).val + 1 * 0 = (i 0).val
    omega
  · show 0 + 1 * r.val = r.val
    omega
  · show 0 + 1 * d.val = d.val
    omega

/-- The first copy of a head's last point, of a whole head: the head's slab of the result is replaced. -/
theorem slab_write0 (i : grid0.Coords) (h4 : k0_cond4 i = 1#1) (w : Vec F S2x16384x64 .f32) (x : Vec F S16384x64 .f32) :
    (((Memref.whole main_v40_2 : Memref sig .tc .hbm S2x16384x64 .f32).slice (Rect.unit (s := S2x16384x64) (k0_off2 i) S1x16384x64.size (k0_off2_inb i h4)) (fun _ => rfl)).squeeze
        S16384x64 squeezes_S1x16384x64_S16384x64).view.write (Elt F) w x Finset.univ = slab (i 0).val w x := by
  refine funext fun (j : S2x16384x64.Idx) => ?_
  by_cases hj : (j 0).val = (i 0).val
  · have e : j = ValueIdx.ix3 (i 0) (j 1) (j 2) := (ValueIdx.eq_ix3 j).trans (congrArg (fun q => ValueIdx.ix3 q (j 1) (j 2)) (Fin.ext hj))
    have h1 : slab (i 0).val w x j = x (ValueIdx.ix2 (j 1) (j 2)) := if_pos hj
    exact ((congrArg _ (e.trans (slab_emb i (j 1) (j 2) _ rfl h4).symm)).trans (View.write_emb_of_mem _ _ (Finset.mem_univ _))).trans h1.symm
  · have h1 : slab (i 0).val w x j = w j := if_neg hj
    refine (View.write_of_not_mem _ _ _ fun hm => hj ?_).trans h1.symm
    obtain ⟨z, -, hz⟩ := Finset.mem_map.mp hm
    have e := (slab_emb i (z 0) (z 1) z (ValueIdx.eq_ix2 z) h4).symm.trans hz
    exact congrArg (fun q : S2x16384x64.Idx => (q 0).val) e.symm

/-- The second copy of a head's last point, of a whole head: the head's slab of the result is replaced. -/
theorem slab_write1 (i : grid0.Coords) (h4 : k0_cond4 i = 1#1) (w : Vec F S2x16384x64 .f32) (x : Vec F S16384x64 .f32) :
    (((Memref.whole main_v40_3 : Memref sig .tc .hbm S2x16384x64 .f32).slice (Rect.unit (s := S2x16384x64) (k0_off2 i) S1x16384x64.size (k0_off2_inb i h4)) (fun _ => rfl)).squeeze
        S16384x64 squeezes_S1x16384x64_S16384x64).view.write (Elt F) w x Finset.univ = slab (i 0).val w x := by
  refine funext fun (j : S2x16384x64.Idx) => ?_
  by_cases hj : (j 0).val = (i 0).val
  · have e : j = ValueIdx.ix3 (i 0) (j 1) (j 2) := (ValueIdx.eq_ix3 j).trans (congrArg (fun q => ValueIdx.ix3 q (j 1) (j 2)) (Fin.ext hj))
    have h1 : slab (i 0).val w x j = x (ValueIdx.ix2 (j 1) (j 2)) := if_pos hj
    exact ((congrArg _ (e.trans (slab_emb i (j 1) (j 2) _ rfl h4).symm)).trans (View.write_emb_of_mem _ _ (Finset.mem_univ _))).trans h1.symm
  · have h1 : slab (i 0).val w x j = w j := if_neg hj
    refine (View.write_of_not_mem _ _ _ fun hm => hj ?_).trans h1.symm
    obtain ⟨z, -, hz⟩ := Finset.mem_map.mp hm
    have e := (slab_emb i (z 0) (z 1) z (ValueIdx.eq_ix2 z) h4).symm.trans hz
    exact congrArg (fun q : S2x16384x64.Idx => (q 0).val) e.symm

end Cert.KernelIdeal.Att

end
-- ==== Proof.Pay.lean ====
/- One grid point's work on the scratch, read element by element over the extended reals. -/
module

public import proofs.«01_k».proof.Proof.Step
public import Idealize.ShloMosaic.Lib.Pointwise

@[expose] public section

noncomputable section

namespace Cert.KernelIdeal.Att

open Cert.KernelIdeal Cert.KernelIdeal.Gen
open Idealize.ShloMosaic

/-- The scale of the scores, one over the square root of the head dimension. -/
abbrev scl : EReal := Ideal.ofBits .f32 0x3E000000#32

/-- Which of the two query heads row `R` of a flattened query block belongs to. -/
abbrev gOf (R : Fin 1024) : Fin 2 := ⟨R.val / 512, by omega⟩
/-- Which position within the query block row `R` of the flattened block is. -/
abbrev rOf (R : Fin 1024) : Fin 512 := ⟨R.val % 512, by omega⟩

/-- The probability of key `b` for row `R`, from the saved log-sum-exp. -/
def prob1 (X : Ins Ideal) (R b : Fin 1024) : EReal :=
  Ideal.exp (∑ d : Fin 64, X.q (ix4 0 (gOf R) (rOf R) d) * scl * X.klt (ix3 0 d b) - X.lse (ix4 0 (gOf R) (rOf R) 0))

/-- The gradient of the (unscaled) score of key `b` for row `R`, from the row sum `dl`. -/
def ds1 (X : Ins Ideal) (dl : EReal) (R b : Fin 1024) : EReal :=
  prob1 X R b * (∑ d : Fin 64, X.dy (ix4 0 (gOf R) (rOf R) d) * X.vlt (ix3 0 d b) - dl)

theorem pay15_at (X : Ins Ideal) (R b : Fin 1024) :
    k0_pay15 (F := Ideal) (k0_pay8 X.q) (k0_pay10 X.lse) (k0_pay14 X.klt) (ix2 R b) = prob1 X R b := by
  pointwise [k0_pay15, k0_pay8, k0_pay10, k0_pay14, prob1]

theorem pay16_at (X : Ins Ideal) (dl : Vec Ideal S1024x1 .f32) (R b : Fin 1024) :
    k0_pay16 (F := Ideal) (k0_pay8 X.q) (k0_pay9 X.dy) (k0_pay10 X.lse) (k0_pay14 X.klt) X.vlt dl (ix2 R b) = ds1 X (dl (ix2 R 0)) R b := by
  unfold k0_pay16
  pointwise [k0_pay9, ds1]
  rw [pay15_at]

/-- The row sums, at a row: o against the cotangent. -/
theorem rowSums_at (X : Ins Ideal) (R : Fin 1024) :
    rowSums X (ix2 R 0) = ∑ d : Fin 64, X.o (ix4 0 (gOf R) (rOf R) d) * X.dy (ix4 0 (gOf R) (rOf R) d) := by
  pointwise [rowSums, k0_pay5]

/-- The context keys' part of the gradient of q, at an element. -/
theorem ctxPart_at (X : Ins Ideal) (R : Fin 1024) (d : Fin 64) :
    ctxPart X (ix2 R d) = ∑ k : Fin 256,
      Ideal.exp (∑ e : Fin 64, X.q (ix4 0 (gOf R) (rOf R) e) * scl * X.kct (ix3 0 e k) - X.lse (ix4 0 (gOf R) (rOf R) 0))
        * (∑ e : Fin 64, X.dy (ix4 0 (gOf R) (rOf R) e) * X.vct (ix3 0 e k)
          - ∑ e : Fin 64, X.o (ix4 0 (gOf R) (rOf R) e) * X.dy (ix4 0 (gOf R) (rOf R) e)) * X.kc (ix3 0 k d) := by
  pointwise [ctxPart, k0_pay13, k0_pay6, k0_pay8, k0_pay9, k0_pay10, rowSums, k0_pay5]

/-- The gradient of q after a point: what it held plus the key block's part. -/
theorem stepB_dq (i : grid0.Coords) (X : Ins Ideal) (s : St Ideal) (R : Fin 1024) (d : Fin 64) :
    (stepB i X s).dq (ix2 R d) = s.dq (ix2 R d) + ∑ b : Fin 1024, ds1 X (s.dl (ix2 R 0)) R b * X.kl (ix3 0 b d) := by
  show k0_pay17 _ _ _ _ _ _ _ _ _ = _
  unfold k0_pay17
  pointwise []
  simp only [pay16_at]

/-- The key block's rows of an accumulator that had the query block's part added, at an element. -/
theorem pay19_at (X : Ins Ideal) (dl : Vec Ideal S1024x1 .f32) (x : Vec Ideal S1024x64 .f32) (b : Fin 1024) (d : Fin 64) :
    k0_pay1 (k0_pay19 (F := Ideal) (k0_pay7 X.q) (k0_pay8 X.q) (k0_pay9 X.dy) (k0_pay10 X.lse) (k0_pay14 X.klt) X.vlt dl x) (ix2 b d)
      = x (ix2 b d) + ∑ R : Fin 1024, ds1 X (dl (ix2 R 0)) R b * X.q (ix4 0 (gOf R) (rOf R) d) := by
  unfold k0_pay1 k0_pay19
  pointwise [k0_pay7]
  simp only [pay16_at]

theorem pay18_at (X : Ins Ideal) (x : Vec Ideal S1024x64 .f32) (b : Fin 1024) (d : Fin 64) :
    k0_pay18 (F := Ideal) (k0_pay8 X.q) (k0_pay9 X.dy) (k0_pay10 X.lse) (k0_pay14 X.klt) x (ix2 b d)
      = x (ix2 b d) + ∑ R : Fin 1024, prob1 X R b * X.dy (ix4 0 (gOf R) (rOf R) d) := by
  unfold k0_pay18
  pointwise [k0_pay9]
  simp only [pay15_at]

/-- The rows of a key block, at an element. -/
theorem rowsOf_at (i : grid0.Coords) (x : Vec Ideal S16384x64 .f32) (k : Fin 16384) (b : Fin 1024) (d : Fin 64)
    (hk : k.val = 1024 * (i 2).val + b.val) : rowsOf i x (ix2 b d) = x (ix2 k d) := by
  refine congrArg x (funext fun a => Fin.ext ?_)
  fin_cases a
  · show 1024 * (i 2).val + 1 * b.val = k.val
    omega
  · show 0 + 1 * d.val = d.val
    omega

/-- Rows put back: a row of the block is the row put there. -/
theorem put_at_in (i : grid0.Coords) (x : Vec Ideal S16384x64 .f32) (w : Vec Ideal S1024x64 .f32) (k : Fin 16384) (b : Fin 1024) (d : Fin 64)
    (hk : k.val = 1024 * (i 2).val + b.val) :
    VecWindow.put (s := S16384x64) x (rowOff i) S1024x64.size w (ix2 k d) = w (ix2 b d) := by
  have h : ∀ a, rowOff i a ≤ ((ix2 k d : S16384x64.Idx) a).val ∧ ((ix2 k d : S16384x64.Idx) a).val < rowOff i a + S1024x64.size a := fun a => by
    fin_cases a
    · show 1024 * (i 2).val ≤ k.val ∧ k.val < 1024 * (i 2).val + 1024
      omega
    · show 0 ≤ d.val ∧ d.val < 0 + 64
      omega
  refine (dif_pos h).trans (congrArg w (funext fun a => Fin.ext ?_))
  fin_cases a
  · show k.val - 1024 * (i 2).val = b.val
    omega
  · show d.val - 0 = d.val
    omega

/-- Rows put back: a row outside the block is as it was. -/
theorem put_at_out (i : grid0.Coords) (x : Vec Ideal S16384x64 .f32) (w : Vec Ideal S1024x64 .f32) (k : Fin 16384) (d : Fin 64)
    (hk : k.val / 1024 ≠ (i 2).val) :
    VecWindow.put (s := S16384x64) x (rowOff i) S1024x64.size w (ix2 k d) = x (ix2 k d) := by
  refine dif_neg fun h => hk ?_
  have h0 : 1024 * (i 2).val ≤ k.val ∧ k.val < 1024 * (i 2).val + 1024 := h 0
  omega

/-- Which row of its block key `k` is. -/
abbrev bOf (k : Fin 16384) : Fin 1024 := ⟨k.val % 1024, by omega⟩

/-- The gradient of k after a point, at a key of the point's block. -/
theorem stepB_dk_in (i : grid0.Coords) (X : Ins Ideal) (s : St Ideal) (k : Fin 16384) (d : Fin 64) (hk : k.val / 1024 = (i 2).val) :
    (stepB i X s).dk (ix2 k d) = s.dk (ix2 k d) + ∑ R : Fin 1024, ds1 X (s.dl (ix2 R 0)) R (bOf k) * X.q (ix4 0 (gOf R) (rOf R) d) := by
  have hk' : k.val = 1024 * (i 2).val + (bOf k).val := by show k.val = _ + k.val % 1024; omega
  exact (put_at_in i _ _ k (bOf k) d hk').trans ((pay19_at X s.dl _ (bOf k) d).trans (by rw [rowsOf_at i s.dk k (bOf k) d hk']))

/-- The gradient of k after a point, at any other key. -/
theorem stepB_dk_out (i : grid0.Coords) (X : Ins Ideal) (s : St Ideal) (k : Fin 16384) (d : Fin 64) (hk : k.val / 1024 ≠ (i 2).val) :
    (stepB i X s).dk (ix2 k d) = s.dk (ix2 k d) := put_at_out i _ _ k d hk

/-- The gradient of v after a point, at a key of the point's block. -/
theorem stepB_dv_in (i : grid0.Coords) (X : Ins Ideal) (s : St Ideal) (k : Fin 16384) (d : Fin 64) (hk : k.val / 1024 = (i 2).val) :
    (stepB i X s).dv (ix2 k d) = s.dv (ix2 k d) + ∑ R : Fin 1024, prob1 X R (bOf k) * X.dy (ix4 0 (gOf R) (rOf R) d) := by
  have hk' : k.val = 1024 * (i 2).val + (bOf k).val := by show k.val = _ + k.val % 1024; omega
  exact (put_at_in i _ _ k (bOf k) d hk').trans ((pay18_at X _ (bOf k) d).trans (by rw [rowsOf_at i s.dv k (bOf k) d hk']))

/-- The gradient of v after a point, at any other key. -/
theorem stepB_dv_out (i : grid0.Coords) (X : Ins Ideal) (s : St Ideal) (k : Fin 16384) (d : Fin 64) (hk : k.val / 1024 ≠ (i 2).val) :
    (stepB i X s).dv (ix2 k d) = s.dv (ix2 k d) := put_at_out i _ _ k d hk

theorem pay4_at (x : Vec Ideal S16384x64 .f32) (k : Fin 16384) (d : Fin 64) : k0_pay4 (F := Ideal) x (ix2 k d) = x (ix2 k d) * scl := by
  pointwise [k0_pay4]

theorem pay11_at (k : Fin 16384) (d : Fin 64) : k0_pay11 (F := Ideal) (ix2 k d) = 0 := by
  pointwise [k0_pay11]

theorem pay12_at (k : Fin 16384) (d : Fin 64) : k0_pay12 (F := Ideal) (ix2 k d) = 0 := by
  pointwise [k0_pay12]

theorem pay2_at (x : Vec Ideal S1024x64 .f32) (R : Fin 1024) (d : Fin 64) :
    k0_pay2 (F := Ideal) x (ix4 0 (gOf R) (rOf R) d) = x (ix2 R d) * scl := by
  have e : ∀ (h : R.val / 512 * 512 + R.val % 512 < 1024), (⟨R.val / 512 * 512 + R.val % 512, h⟩ : Fin 1024) = R := fun h => Fin.ext (by show R.val / 512 * 512 + R.val % 512 = R.val; omega)
  pointwise [k0_pay2, e]

end Cert.KernelIdeal.Att

end
-- ==== Proof.RunB.lean ====
/- The body of the attention gradient's kernel run at the points of one kind (B), from named contents to named contents. -/
module

public import proofs.«01_k».proof.Proof.Step

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 3200000 in
/-- The body at a point that is neither the first nor the last key block of its query block. -/
theorem runB (c : Dev nD) (i : grid0.Coords) (arg3 : Memref sig .tc .vmem S1x2x512x64 .f32) (harg3 : arg3.IsWhole) (arg4 : Memref sig .tc .vmem S1x2x512x64 .f32) (harg4 : arg4.IsWhole) (arg5 : Memref sig .tc .vmem S1x2x512x64 .f32) (harg5 : arg5.IsWhole) (arg6 : Memref sig .tc .vmem S1x2x512x1 .f32) (harg6 : arg6.IsWhole) (arg7 : Memref sig .tc .vmem S1x256x64 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x1024x64 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x2x512x64 .f32) (harg13 : arg13.IsWhole) (arg14 : Memref sig .tc .vmem S1x2x512x1 .f32) (harg14 : arg14.IsWhole) (arg17 : Memref sig .tc .vmem S1024x64 .f32) (harg17 : arg17.IsWhole) (arg18 : Memref sig .tc .vmem S1024x1 .f32) (harg18 : arg18.IsWhole) (arg19 : Memref sig .tc .vmem S16384x64 .f32) (harg19 : arg19.IsWhole) (arg20 : Memref sig .tc .vmem S16384x64 .f32) (harg20 : arg20.IsWhole) (hc0 : ¬cond0_0 i) (hc1 : ¬cond0_1 i) (hc2 : ¬cond0_2 i) (hc3 : ¬cond0_3 i)
    (X : Ins F) (s : St F) (d10 : Vec F S1x2x512x64 .f32) (d11 : Vec F S1x2x512x1 .f32) (w0 : HbBuf0 (F := F) c hbM0_0) (w1 : HbBuf0 (F := F) c hbM0_1) (W : Waits sig Unit) (K : PUnit → sProp 𝕄) :
    iprop(owns (c : Thread nD τ) arg3 fullShare X.q ∗ owns (c : Thread nD τ) arg4 fullShare X.o ∗ owns (c : Thread nD τ) arg5 fullShare X.dy ∗ owns (c : Thread nD τ) arg6 fullShare X.lse ∗ owns (c : Thread nD τ) arg7 fullShare X.kc ∗ owns (c : Thread nD τ) arg8 fullShare X.kct ∗ owns (c : Thread nD τ) arg9 fullShare X.vct ∗ owns (c : Thread nD τ) arg10 fullShare X.kl ∗ owns (c : Thread nD τ) arg11 fullShare X.klt ∗ owns (c : Thread nD τ) arg12 fullShare X.vlt ∗ owns (c : Thread nD τ) arg13 fullShare d10 ∗ owns (c : Thread nD τ) arg14 fullShare d11 ∗ owns (c : Thread nD τ) arg17 fullShare s.dq ∗ owns (c : Thread nD τ) arg18 fullShare s.dl ∗ owns (c : Thread nD τ) arg19 fullShare s.dk ∗ owns (c : Thread nD τ) arg20 fullShare s.dv ∗ semVal ((c : Thread nD τ), SemLoc.dma 24) 0 ∗ semVal ((c : Thread nD τ), SemLoc.dma 25) 0 ∗ hbPt0 c hbM0_0 w0 ∗ hbPt0 c hbM0_1 w1 ∗ owes (c : Thread nD τ) 0 W
        ∗ (iprop(owns (c : Thread nD τ) arg3 fullShare X.q ∗ owns (c : Thread nD τ) arg4 fullShare X.o ∗ owns (c : Thread nD τ) arg5 fullShare X.dy ∗ owns (c : Thread nD τ) arg6 fullShare X.lse ∗ owns (c : Thread nD τ) arg7 fullShare X.kc ∗ owns (c : Thread nD τ) arg8 fullShare X.kct ∗ owns (c : Thread nD τ) arg9 fullShare X.vct ∗ owns (c : Thread nD τ) arg10 fullShare X.kl ∗ owns (c : Thread nD τ) arg11 fullShare X.klt ∗ owns (c : Thread nD τ) arg12 fullShare X.vlt ∗ owns (c : Thread nD τ) arg13 fullShare d10 ∗ owns (c : Thread nD τ) arg14 fullShare d11 ∗ owns (c : Thread nD τ) arg17 fullShare (stepB i X s).dq ∗ owns (c : Thread nD τ) arg18 fullShare (stepB i X s).dl ∗ owns (c : Thread nD τ) arg19 fullShare (stepB i X s).dk ∗ owns (c : Thread nD τ) arg20 fullShare (stepB i X s).dv ∗ semVal ((c : Thread nD τ), SemLoc.dma 24) 0 ∗ semVal ((c : Thread nD τ), SemLoc.dma 25) 0 ∗ hbPt0 c hbM0_0 w0 ∗ hbPt0 c hbM0_1 w1 ∗ (∃ W', owes (c : Thread nD τ) 0 W')) -∗ K ⟨⟩))
      ⊢ wp frame (wpE (defs₀ (F := F)) Variants.none c none) Set.univ (cc0_attn_bwd_full i arg3 harg3 arg4 harg4 arg5 harg5 arg6 harg6 arg7 harg7 arg8 harg8 arg9 harg9 arg10 harg10 arg11 harg11 arg12 harg12 arg13 harg13 arg14 harg14 (Memref.whole main_v40_2) (Memref.isWhole_whole _) (Memref.whole main_v40_3) (Memref.isWhole_whole _) arg17 harg17 arg18 harg18 arg19 harg19 arg20 harg20 cc0_scoped0 cc0_scoped1) K := by
  simp only [cc0_attn_bwd_full_eq_skeleton]; unfold cc0_attn_bwd_full_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, Hq0, Hq1, Hh0, Hh1, HW, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg17.eq_unread hfs0; obtain rfl := harg18.eq_unread hfs1; obtain rfl := harg19.eq_unread hfs2; obtain rfl := harg20.eq_unread hfs3
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [HS0]
  · iexists _; isplitr; swap; · iexact HS0
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    first | done | rfl
  isplitl [HS1]
  · iexists _; isplitr; · ipureintro; exact harg18.read_unread _
    iexact HS1
  isplitl [HS2]
  · iexists _; isplitr; swap; · iexact HS2
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    exact (congrArg (fun z => VecWindow.put (s := S16384x64) s.dk (rowOff i) S1024x64.size (k0_pay1 (k0_pay19 (k0_pay7 X.q) (k0_pay8 X.q) (k0_pay9 X.dy) (k0_pay10 X.lse) (k0_pay14 X.klt) X.vlt s.dl z))) (readAt_rows arg19.view _ i _ hfs2))
  isplitl [HS3]
  · iexists _; isplitr; swap; · iexact HS3
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    exact (congrArg (fun z => VecWindow.put (s := S16384x64) s.dv (rowOff i) S1024x64.size (k0_pay18 (k0_pay8 X.q) (k0_pay9 X.dy) (k0_pay10 X.lse) (k0_pay14 X.klt) z)) (readAt_rows arg20.view _ i _ hfs3))
  isplitl [Hq0]; · iexact Hq0
  isplitl [Hq1]; · iexact Hq1
  isplitl [Hh0]; · iexact Hh0
  isplitl [Hh1]; · iexact Hh1
  iexists _; iexact HW

end Cert.KernelIdeal.Att

end
-- ==== Proof.RunC.lean ====
/- The body of the attention gradient's kernel run at the points of one kind (C), from named contents to named contents. -/
module

public import proofs.«01_k».proof.Proof.RunB

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 3200000 in
/-- The body at the last key block of a query block that is not the last: the gradient of q and the row sums are stored. -/
theorem runC (c : Dev nD) (i : grid0.Coords) (arg3 : Memref sig .tc .vmem S1x2x512x64 .f32) (harg3 : arg3.IsWhole) (arg4 : Memref sig .tc .vmem S1x2x512x64 .f32) (harg4 : arg4.IsWhole) (arg5 : Memref sig .tc .vmem S1x2x512x64 .f32) (harg5 : arg5.IsWhole) (arg6 : Memref sig .tc .vmem S1x2x512x1 .f32) (harg6 : arg6.IsWhole) (arg7 : Memref sig .tc .vmem S1x256x64 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x1024x64 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x2x512x64 .f32) (harg13 : arg13.IsWhole) (arg14 : Memref sig .tc .vmem S1x2x512x1 .f32) (harg14 : arg14.IsWhole) (arg17 : Memref sig .tc .vmem S1024x64 .f32) (harg17 : arg17.IsWhole) (arg18 : Memref sig .tc .vmem S1024x1 .f32) (harg18 : arg18.IsWhole) (arg19 : Memref sig .tc .vmem S16384x64 .f32) (harg19 : arg19.IsWhole) (arg20 : Memref sig .tc .vmem S16384x64 .f32) (harg20 : arg20.IsWhole) (hc0 : ¬cond0_0 i) (hc1 : ¬cond0_1 i) (hc2 : cond0_2 i) (hc3 : ¬cond0_3 i)
    (X : Ins F) (s : St F) (d10 : Vec F S1x2x512x64 .f32) (d11 : Vec F S1x2x512x1 .f32) (w0 : HbBuf0 (F := F) c hbM0_0) (w1 : HbBuf0 (F := F) c hbM0_1) (W : Waits sig Unit) (K : PUnit → sProp 𝕄) :
    iprop(owns (c : Thread nD τ) arg3 fullShare X.q ∗ owns (c : Thread nD τ) arg4 fullShare X.o ∗ owns (c : Thread nD τ) arg5 fullShare X.dy ∗ owns (c : Thread nD τ) arg6 fullShare X.lse ∗ owns (c : Thread nD τ) arg7 fullShare X.kc ∗ owns (c : Thread nD τ) arg8 fullShare X.kct ∗ owns (c : Thread nD τ) arg9 fullShare X.vct ∗ owns (c : Thread nD τ) arg10 fullShare X.kl ∗ owns (c : Thread nD τ) arg11 fullShare X.klt ∗ owns (c : Thread nD τ) arg12 fullShare X.vlt ∗ owns (c : Thread nD τ) arg13 fullShare d10 ∗ owns (c : Thread nD τ) arg14 fullShare d11 ∗ owns (c : Thread nD τ) arg17 fullShare s.dq ∗ owns (c : Thread nD τ) arg18 fullShare s.dl ∗ owns (c : Thread nD τ) arg19 fullShare s.dk ∗ owns (c : Thread nD τ) arg20 fullShare s.dv ∗ semVal ((c : Thread nD τ), SemLoc.dma 24) 0 ∗ semVal ((c : Thread nD τ), SemLoc.dma 25) 0 ∗ hbPt0 c hbM0_0 w0 ∗ hbPt0 c hbM0_1 w1 ∗ owes (c : Thread nD τ) 0 W
        ∗ (iprop(owns (c : Thread nD τ) arg3 fullShare X.q ∗ owns (c : Thread nD τ) arg4 fullShare X.o ∗ owns (c : Thread nD τ) arg5 fullShare X.dy ∗ owns (c : Thread nD τ) arg6 fullShare X.lse ∗ owns (c : Thread nD τ) arg7 fullShare X.kc ∗ owns (c : Thread nD τ) arg8 fullShare X.kct ∗ owns (c : Thread nD τ) arg9 fullShare X.vct ∗ owns (c : Thread nD τ) arg10 fullShare X.kl ∗ owns (c : Thread nD τ) arg11 fullShare X.klt ∗ owns (c : Thread nD τ) arg12 fullShare X.vlt ∗ owns (c : Thread nD τ) arg13 fullShare (k0_pay2 (stepB i X s).dq) ∗ owns (c : Thread nD τ) arg14 fullShare (k0_pay3 (stepB i X s).dl) ∗ owns (c : Thread nD τ) arg17 fullShare (stepB i X s).dq ∗ owns (c : Thread nD τ) arg18 fullShare (stepB i X s).dl ∗ owns (c : Thread nD τ) arg19 fullShare (stepB i X s).dk ∗ owns (c : Thread nD τ) arg20 fullShare (stepB i X s).dv ∗ semVal ((c : Thread nD τ), SemLoc.dma 24) 0 ∗ semVal ((c : Thread nD τ), SemLoc.dma 25) 0 ∗ hbPt0 c hbM0_0 w0 ∗ hbPt0 c hbM0_1 w1 ∗ (∃ W', owes (c : Thread nD τ) 0 W')) -∗ K ⟨⟩))
      ⊢ wp frame (wpE (defs₀ (F := F)) Variants.none c none) Set.univ (cc0_attn_bwd_full i arg3 harg3 arg4 harg4 arg5 harg5 arg6 harg6 arg7 harg7 arg8 harg8 arg9 harg9 arg10 harg10 arg11 harg11 arg12 harg12 arg13 harg13 arg14 harg14 (Memref.whole main_v40_2) (Memref.isWhole_whole _) (Memref.whole main_v40_3) (Memref.isWhole_whole _) arg17 harg17 arg18 harg18 arg19 harg19 arg20 harg20 cc0_scoped0 cc0_scoped1) K := by
  simp only [cc0_attn_bwd_full_eq_skeleton]; unfold cc0_attn_bwd_full_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, Hq0, Hq1, Hh0, Hh1, HW, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg17.eq_unread hfs0; obtain rfl := harg18.eq_unread hfs1; obtain rfl := harg19.eq_unread hfs2; obtain rfl := harg20.eq_unread hfs3
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; swap; · iexact H10
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    first | done | rfl
  isplitl [H11]
  · iexists _; isplitr; swap; · iexact H11
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    first | done | rfl
  isplitl [HS0]
  · iexists _; isplitr; swap; · iexact HS0
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    first | done | rfl
  isplitl [HS1]
  · iexists _; isplitr; · ipureintro; exact harg18.read_unread _
    iexact HS1
  isplitl [HS2]
  · iexists _; isplitr; swap; · iexact HS2
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    exact (congrArg (fun z => VecWindow.put (s := S16384x64) s.dk (rowOff i) S1024x64.size (k0_pay1 (k0_pay19 (k0_pay7 X.q) (k0_pay8 X.q) (k0_pay9 X.dy) (k0_pay10 X.lse) (k0_pay14 X.klt) X.vlt s.dl z))) (readAt_rows arg19.view _ i _ hfs2))
  isplitl [HS3]
  · iexists _; isplitr; swap; · iexact HS3
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    exact (congrArg (fun z => VecWindow.put (s := S16384x64) s.dv (rowOff i) S1024x64.size (k0_pay18 (k0_pay8 X.q) (k0_pay9 X.dy) (k0_pay10 X.lse) (k0_pay14 X.klt) z)) (readAt_rows arg20.view _ i _ hfs3))
  isplitl [Hq0]; · iexact Hq0
  isplitl [Hq1]; · iexact Hq1
  isplitl [Hh0]; · iexact Hh0
  isplitl [Hh1]; · iexact Hh1
  iexists _; iexact HW

end Cert.KernelIdeal.Att

end
-- ==== Proof.RunD.lean ====
/- The body of the attention gradient's kernel run at the points of one kind (D), from named contents to named contents. -/
module

public import proofs.«01_k».proof.Proof.RunC

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 3200000 in
/-- The body at the first key block of a query block that is not the first. -/
theorem runD (c : Dev nD) (i : grid0.Coords) (arg3 : Memref sig .tc .vmem S1x2x512x64 .f32) (harg3 : arg3.IsWhole) (arg4 : Memref sig .tc .vmem S1x2x512x64 .f32) (harg4 : arg4.IsWhole) (arg5 : Memref sig .tc .vmem S1x2x512x64 .f32) (harg5 : arg5.IsWhole) (arg6 : Memref sig .tc .vmem S1x2x512x1 .f32) (harg6 : arg6.IsWhole) (arg7 : Memref sig .tc .vmem S1x256x64 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x1024x64 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x2x512x64 .f32) (harg13 : arg13.IsWhole) (arg14 : Memref sig .tc .vmem S1x2x512x1 .f32) (harg14 : arg14.IsWhole) (arg17 : Memref sig .tc .vmem S1024x64 .f32) (harg17 : arg17.IsWhole) (arg18 : Memref sig .tc .vmem S1024x1 .f32) (harg18 : arg18.IsWhole) (arg19 : Memref sig .tc .vmem S16384x64 .f32) (harg19 : arg19.IsWhole) (arg20 : Memref sig .tc .vmem S16384x64 .f32) (harg20 : arg20.IsWhole) (hc0 : ¬cond0_0 i) (hc1 : cond0_1 i) (hc2 : ¬cond0_2 i) (hc3 : ¬cond0_3 i)
    (X : Ins F) (s : St F) (d10 : Vec F S1x2x512x64 .f32) (d11 : Vec F S1x2x512x1 .f32) (w0 : HbBuf0 (F := F) c hbM0_0) (w1 : HbBuf0 (F := F) c hbM0_1) (W : Waits sig Unit) (K : PUnit → sProp 𝕄) :
    iprop(owns (c : Thread nD τ) arg3 fullShare X.q ∗ owns (c : Thread nD τ) arg4 fullShare X.o ∗ owns (c : Thread nD τ) arg5 fullShare X.dy ∗ owns (c : Thread nD τ) arg6 fullShare X.lse ∗ owns (c : Thread nD τ) arg7 fullShare X.kc ∗ owns (c : Thread nD τ) arg8 fullShare X.kct ∗ owns (c : Thread nD τ) arg9 fullShare X.vct ∗ owns (c : Thread nD τ) arg10 fullShare X.kl ∗ owns (c : Thread nD τ) arg11 fullShare X.klt ∗ owns (c : Thread nD τ) arg12 fullShare X.vlt ∗ owns (c : Thread nD τ) arg13 fullShare d10 ∗ owns (c : Thread nD τ) arg14 fullShare d11 ∗ owns (c : Thread nD τ) arg17 fullShare s.dq ∗ owns (c : Thread nD τ) arg18 fullShare s.dl ∗ owns (c : Thread nD τ) arg19 fullShare s.dk ∗ owns (c : Thread nD τ) arg20 fullShare s.dv ∗ semVal ((c : Thread nD τ), SemLoc.dma 24) 0 ∗ semVal ((c : Thread nD τ), SemLoc.dma 25) 0 ∗ hbPt0 c hbM0_0 w0 ∗ hbPt0 c hbM0_1 w1 ∗ owes (c : Thread nD τ) 0 W
        ∗ (iprop(owns (c : Thread nD τ) arg3 fullShare X.q ∗ owns (c : Thread nD τ) arg4 fullShare X.o ∗ owns (c : Thread nD τ) arg5 fullShare X.dy ∗ owns (c : Thread nD τ) arg6 fullShare X.lse ∗ owns (c : Thread nD τ) arg7 fullShare X.kc ∗ owns (c : Thread nD τ) arg8 fullShare X.kct ∗ owns (c : Thread nD τ) arg9 fullShare X.vct ∗ owns (c : Thread nD τ) arg10 fullShare X.kl ∗ owns (c : Thread nD τ) arg11 fullShare X.klt ∗ owns (c : Thread nD τ) arg12 fullShare X.vlt ∗ owns (c : Thread nD τ) arg13 fullShare d10 ∗ owns (c : Thread nD τ) arg14 fullShare d11 ∗ owns (c : Thread nD τ) arg17 fullShare (stepD i X s).dq ∗ owns (c : Thread nD τ) arg18 fullShare (stepD i X s).dl ∗ owns (c : Thread nD τ) arg19 fullShare (stepD i X s).dk ∗ owns (c : Thread nD τ) arg20 fullShare (stepD i X s).dv ∗ semVal ((c : Thread nD τ), SemLoc.dma 24) 0 ∗ semVal ((c : Thread nD τ), SemLoc.dma 25) 0 ∗ hbPt0 c hbM0_0 w0 ∗ hbPt0 c hbM0_1 w1 ∗ (∃ W', owes (c : Thread nD τ) 0 W')) -∗ K ⟨⟩))
      ⊢ wp frame (wpE (defs₀ (F := F)) Variants.none c none) Set.univ (cc0_attn_bwd_full i arg3 harg3 arg4 harg4 arg5 harg5 arg6 harg6 arg7 harg7 arg8 harg8 arg9 harg9 arg10 harg10 arg11 harg11 arg12 harg12 arg13 harg13 arg14 harg14 (Memref.whole main_v40_2) (Memref.isWhole_whole _) (Memref.whole main_v40_3) (Memref.isWhole_whole _) arg17 harg17 arg18 harg18 arg19 harg19 arg20 harg20 cc0_scoped0 cc0_scoped1) K := by
  simp only [cc0_attn_bwd_full_eq_skeleton]; unfold cc0_attn_bwd_full_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, Hq0, Hq1, Hh0, Hh1, HW, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg17.eq_unread hfs0; obtain rfl := harg18.eq_unread hfs1; obtain rfl := harg19.eq_unread hfs2; obtain rfl := harg20.eq_unread hfs3
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [HS0]
  · iexists _; isplitr; swap; · iexact HS0
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    first | done | rfl
  isplitl [HS1]
  · iexists _; isplitr; swap; · iexact HS1
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    first | done | rfl
  isplitl [HS2]
  · iexists _; isplitr; swap; · iexact HS2
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    exact (congrArg (fun z => VecWindow.put (s := S16384x64) s.dk (rowOff i) S1024x64.size (k0_pay1 (k0_pay19 (k0_pay7 X.q) (k0_pay8 X.q) (k0_pay9 X.dy) (k0_pay10 X.lse) (k0_pay14 X.klt) X.vlt (rowSums X) z))) (readAt_rows arg19.view _ i _ hfs2))
  isplitl [HS3]
  · iexists _; isplitr; swap; · iexact HS3
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    exact (congrArg (fun z => VecWindow.put (s := S16384x64) s.dv (rowOff i) S1024x64.size (k0_pay18 (k0_pay8 X.q) (k0_pay9 X.dy) (k0_pay10 X.lse) (k0_pay14 X.klt) z)) (readAt_rows arg20.view _ i _ hfs3))
  isplitl [Hq0]; · iexact Hq0
  isplitl [Hq1]; · iexact Hq1
  isplitl [Hh0]; · iexact Hh0
  isplitl [Hh1]; · iexact Hh1
  iexists _; iexact HW

end Cert.KernelIdeal.Att

end
-- ==== Proof.RunA.lean ====
/- The body of the attention gradient's kernel run at the points of one kind (A), from named contents to named contents. -/
module

public import proofs.«01_k».proof.Proof.RunD

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 3200000 in
/-- The body at a head's first point (first query block, first key block): every scratch is written from nothing. -/
theorem runA (c : Dev nD) (i : grid0.Coords) (arg3 : Memref sig .tc .vmem S1x2x512x64 .f32) (harg3 : arg3.IsWhole) (arg4 : Memref sig .tc .vmem S1x2x512x64 .f32) (harg4 : arg4.IsWhole) (arg5 : Memref sig .tc .vmem S1x2x512x64 .f32) (harg5 : arg5.IsWhole) (arg6 : Memref sig .tc .vmem S1x2x512x1 .f32) (harg6 : arg6.IsWhole) (arg7 : Memref sig .tc .vmem S1x256x64 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x1024x64 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x2x512x64 .f32) (harg13 : arg13.IsWhole) (arg14 : Memref sig .tc .vmem S1x2x512x1 .f32) (harg14 : arg14.IsWhole) (arg17 : Memref sig .tc .vmem S1024x64 .f32) (harg17 : arg17.IsWhole) (arg18 : Memref sig .tc .vmem S1024x1 .f32) (harg18 : arg18.IsWhole) (arg19 : Memref sig .tc .vmem S16384x64 .f32) (harg19 : arg19.IsWhole) (arg20 : Memref sig .tc .vmem S16384x64 .f32) (harg20 : arg20.IsWhole) (hc0 : cond0_0 i) (hc1 : cond0_1 i) (hc2 : ¬cond0_2 i) (hc3 : ¬cond0_3 i)
    (X : Ins F) (s : St F) (d10 : Vec F S1x2x512x64 .f32) (d11 : Vec F S1x2x512x1 .f32) (w0 : HbBuf0 (F := F) c hbM0_0) (w1 : HbBuf0 (F := F) c hbM0_1) (W : Waits sig Unit) (K : PUnit → sProp 𝕄) :
    iprop(owns (c : Thread nD τ) arg3 fullShare X.q ∗ owns (c : Thread nD τ) arg4 fullShare X.o ∗ owns (c : Thread nD τ) arg5 fullShare X.dy ∗ owns (c : Thread nD τ) arg6 fullShare X.lse ∗ owns (c : Thread nD τ) arg7 fullShare X.kc ∗ owns (c : Thread nD τ) arg8 fullShare X.kct ∗ owns (c : Thread nD τ) arg9 fullShare X.vct ∗ owns (c : Thread nD τ) arg10 fullShare X.kl ∗ owns (c : Thread nD τ) arg11 fullShare X.klt ∗ owns (c : Thread nD τ) arg12 fullShare X.vlt ∗ owns (c : Thread nD τ) arg13 fullShare d10 ∗ owns (c : Thread nD τ) arg14 fullShare d11 ∗ owns (c : Thread nD τ) arg17 fullShare s.dq ∗ owns (c : Thread nD τ) arg18 fullShare s.dl ∗ owns (c : Thread nD τ) arg19 fullShare s.dk ∗ owns (c : Thread nD τ) arg20 fullShare s.dv ∗ semVal ((c : Thread nD τ), SemLoc.dma 24) 0 ∗ semVal ((c : Thread nD τ), SemLoc.dma 25) 0 ∗ hbPt0 c hbM0_0 w0 ∗ hbPt0 c hbM0_1 w1 ∗ owes (c : Thread nD τ) 0 W
        ∗ (iprop(owns (c : Thread nD τ) arg3 fullShare X.q ∗ owns (c : Thread nD τ) arg4 fullShare X.o ∗ owns (c : Thread nD τ) arg5 fullShare X.dy ∗ owns (c : Thread nD τ) arg6 fullShare X.lse ∗ owns (c : Thread nD τ) arg7 fullShare X.kc ∗ owns (c : Thread nD τ) arg8 fullShare X.kct ∗ owns (c : Thread nD τ) arg9 fullShare X.vct ∗ owns (c : Thread nD τ) arg10 fullShare X.kl ∗ owns (c : Thread nD τ) arg11 fullShare X.klt ∗ owns (c : Thread nD τ) arg12 fullShare X.vlt ∗ owns (c : Thread nD τ) arg13 fullShare d10 ∗ owns (c : Thread nD τ) arg14 fullShare d11 ∗ owns (c : Thread nD τ) arg17 fullShare (stepA i X).dq ∗ owns (c : Thread nD τ) arg18 fullShare (stepA i X).dl ∗ owns (c : Thread nD τ) arg19 fullShare (stepA i X).dk ∗ owns (c : Thread nD τ) arg20 fullShare (stepA i X).dv ∗ semVal ((c : Thread nD τ), SemLoc.dma 24) 0 ∗ semVal ((c : Thread nD τ), SemLoc.dma 25) 0 ∗ hbPt0 c hbM0_0 w0 ∗ hbPt0 c hbM0_1 w1 ∗ (∃ W', owes (c : Thread nD τ) 0 W')) -∗ K ⟨⟩))
      ⊢ wp frame (wpE (defs₀ (F := F)) Variants.none c none) Set.univ (cc0_attn_bwd_full i arg3 harg3 arg4 harg4 arg5 harg5 arg6 harg6 arg7 harg7 arg8 harg8 arg9 harg9 arg10 harg10 arg11 harg11 arg12 harg12 arg13 harg13 arg14 harg14 (Memref.whole main_v40_2) (Memref.isWhole_whole _) (Memref.whole main_v40_3) (Memref.isWhole_whole _) arg17 harg17 arg18 harg18 arg19 harg19 arg20 harg20 cc0_scoped0 cc0_scoped1) K := by
  simp only [cc0_attn_bwd_full_eq_skeleton]; unfold cc0_attn_bwd_full_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, Hq0, Hq1, Hh0, Hh1, HW, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg17.eq_unread hfs0; obtain rfl := harg18.eq_unread hfs1; obtain rfl := harg19.eq_unread hfs2; obtain rfl := harg20.eq_unread hfs3
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [HS0]
  · iexists _; isplitr; swap; · iexact HS0
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    first | done | rfl
  isplitl [HS1]
  · iexists _; isplitr; swap; · iexact HS1
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    first | done | rfl
  isplitl [HS2]
  · iexists _; isplitr; swap; · iexact HS2
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    exact (congrArg (fun z => VecWindow.put (s := S16384x64) k0_pay11 (rowOff i) S1024x64.size (k0_pay1 (k0_pay19 (k0_pay7 X.q) (k0_pay8 X.q) (k0_pay9 X.dy) (k0_pay10 X.lse) (k0_pay14 X.klt) X.vlt (rowSums X) z))) (readAt_rows arg19.view _ i _ (View.read_writes_full arg19.view _ _ _ _)))
  isplitl [HS3]
  · iexists _; isplitr; swap; · iexact HS3
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    exact (congrArg (fun z => VecWindow.put (s := S16384x64) k0_pay12 (rowOff i) S1024x64.size (k0_pay18 (k0_pay8 X.q) (k0_pay9 X.dy) (k0_pay10 X.lse) (k0_pay14 X.klt) z)) (readAt_rows arg20.view _ i _ (View.read_writes_full arg20.view _ _ _ _)))
  isplitl [Hq0]; · iexact Hq0
  isplitl [Hq1]; · iexact Hq1
  isplitl [Hh0]; · iexact Hh0
  isplitl [Hh1]; · iexact Hh1
  iexists _; iexact HW

end Cert.KernelIdeal.Att

end
-- ==== Proof.RunE.lean ====
/- The body of the attention gradient's kernel run at the points of one kind (E), from named contents to named contents. -/
module

public import proofs.«01_k».proof.Proof.RunA

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 3200000 in
/-- The body at a head's last point: besides, the gradient of k is scaled and both slabs are copied out. -/
theorem runE (c : Dev nD) (i : grid0.Coords) (arg3 : Memref sig .tc .vmem S1x2x512x64 .f32) (harg3 : arg3.IsWhole) (arg4 : Memref sig .tc .vmem S1x2x512x64 .f32) (harg4 : arg4.IsWhole) (arg5 : Memref sig .tc .vmem S1x2x512x64 .f32) (harg5 : arg5.IsWhole) (arg6 : Memref sig .tc .vmem S1x2x512x1 .f32) (harg6 : arg6.IsWhole) (arg7 : Memref sig .tc .vmem S1x256x64 .f32) (harg7 : arg7.IsWhole) (arg8 : Memref sig .tc .vmem S1x64x256 .f32) (harg8 : arg8.IsWhole) (arg9 : Memref sig .tc .vmem S1x64x256 .f32) (harg9 : arg9.IsWhole) (arg10 : Memref sig .tc .vmem S1x1024x64 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x2x512x64 .f32) (harg13 : arg13.IsWhole) (arg14 : Memref sig .tc .vmem S1x2x512x1 .f32) (harg14 : arg14.IsWhole) (arg17 : Memref sig .tc .vmem S1024x64 .f32) (harg17 : arg17.IsWhole) (arg18 : Memref sig .tc .vmem S1024x1 .f32) (harg18 : arg18.IsWhole) (arg19 : Memref sig .tc .vmem S16384x64 .f32) (harg19 : arg19.IsWhole) (arg20 : Memref sig .tc .vmem S16384x64 .f32) (harg20 : arg20.IsWhole) (hc0 : ¬cond0_0 i) (hc1 : ¬cond0_1 i) (hc2 : cond0_2 i) (hc3 : cond0_3 i)
    (X : Ins F) (s : St F) (d10 : Vec F S1x2x512x64 .f32) (d11 : Vec F S1x2x512x1 .f32) (w0 : HbBuf0 (F := F) c hbM0_0) (w1 : HbBuf0 (F := F) c hbM0_1) (W : Waits sig Unit) (K : PUnit → sProp 𝕄) :
    iprop(owns (c : Thread nD τ) arg3 fullShare X.q ∗ owns (c : Thread nD τ) arg4 fullShare X.o ∗ owns (c : Thread nD τ) arg5 fullShare X.dy ∗ owns (c : Thread nD τ) arg6 fullShare X.lse ∗ owns (c : Thread nD τ) arg7 fullShare X.kc ∗ owns (c : Thread nD τ) arg8 fullShare X.kct ∗ owns (c : Thread nD τ) arg9 fullShare X.vct ∗ owns (c : Thread nD τ) arg10 fullShare X.kl ∗ owns (c : Thread nD τ) arg11 fullShare X.klt ∗ owns (c : Thread nD τ) arg12 fullShare X.vlt ∗ owns (c : Thread nD τ) arg13 fullShare d10 ∗ owns (c : Thread nD τ) arg14 fullShare d11 ∗ owns (c : Thread nD τ) arg17 fullShare s.dq ∗ owns (c : Thread nD τ) arg18 fullShare s.dl ∗ owns (c : Thread nD τ) arg19 fullShare s.dk ∗ owns (c : Thread nD τ) arg20 fullShare s.dv ∗ semVal ((c : Thread nD τ), SemLoc.dma 24) 0 ∗ semVal ((c : Thread nD τ), SemLoc.dma 25) 0 ∗ hbPt0 c hbM0_0 w0 ∗ hbPt0 c hbM0_1 w1 ∗ owes (c : Thread nD τ) 0 W
        ∗ (iprop(owns (c : Thread nD τ) arg3 fullShare X.q ∗ owns (c : Thread nD τ) arg4 fullShare X.o ∗ owns (c : Thread nD τ) arg5 fullShare X.dy ∗ owns (c : Thread nD τ) arg6 fullShare X.lse ∗ owns (c : Thread nD τ) arg7 fullShare X.kc ∗ owns (c : Thread nD τ) arg8 fullShare X.kct ∗ owns (c : Thread nD τ) arg9 fullShare X.vct ∗ owns (c : Thread nD τ) arg10 fullShare X.kl ∗ owns (c : Thread nD τ) arg11 fullShare X.klt ∗ owns (c : Thread nD τ) arg12 fullShare X.vlt ∗ owns (c : Thread nD τ) arg13 fullShare (k0_pay2 (stepE i X s).dq) ∗ owns (c : Thread nD τ) arg14 fullShare (k0_pay3 (stepE i X s).dl) ∗ owns (c : Thread nD τ) arg17 fullShare (stepE i X s).dq ∗ owns (c : Thread nD τ) arg18 fullShare (stepE i X s).dl ∗ owns (c : Thread nD τ) arg19 fullShare (stepE i X s).dk ∗ owns (c : Thread nD τ) arg20 fullShare (stepE i X s).dv ∗ semVal ((c : Thread nD τ), SemLoc.dma 24) 0 ∗ semVal ((c : Thread nD τ), SemLoc.dma 25) 0 ∗ hbPt0 c hbM0_0 (slab (i 0).val w0 (stepE i X s).dk) ∗ hbPt0 c hbM0_1 (slab (i 0).val w1 (stepE i X s).dv) ∗ (∃ W', owes (c : Thread nD τ) 0 W')) -∗ K ⟨⟩))
      ⊢ wp frame (wpE (defs₀ (F := F)) Variants.none c none) Set.univ (cc0_attn_bwd_full i arg3 harg3 arg4 harg4 arg5 harg5 arg6 harg6 arg7 harg7 arg8 harg8 arg9 harg9 arg10 harg10 arg11 harg11 arg12 harg12 arg13 harg13 arg14 harg14 (Memref.whole main_v40_2) (Memref.isWhole_whole _) (Memref.whole main_v40_3) (Memref.isWhole_whole _) arg17 harg17 arg18 harg18 arg19 harg19 arg20 harg20 cc0_scoped0 cc0_scoped1) K := by
  simp only [cc0_attn_bwd_full_eq_skeleton]; unfold cc0_attn_bwd_full_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, Hq0, Hq1, Hh0, Hh1, HW, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg17.eq_unread hfs0; obtain rfl := harg18.eq_unread hfs1; obtain rfl := harg19.eq_unread hfs2; obtain rfl := harg20.eq_unread hfs3
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; swap; · iexact H10
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    first | done | rfl
  isplitl [H11]
  · iexists _; isplitr; swap; · iexact H11
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    first | done | rfl
  isplitl [HS0]
  · iexists _; isplitr; swap; · iexact HS0
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    first | done | rfl
  isplitl [HS1]
  · iexists _; isplitr; · ipureintro; exact harg18.read_unread _
    iexact HS1
  isplitl [HS2]
  · iexists _; isplitr; swap; · iexact HS2
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    exact congrArg k0_pay4 ((View.read_writes_cons_put arg19.view _ _ _ [] (k0_off1_eq i)).trans
      ((congrArg (fun z => VecWindow.put (s := S16384x64) z (rowOff i) S1024x64.size _) ((congrArg (View.read (Elt F) arg19.view) (View.writes_nil _ _)).trans hfs2)).trans (congrArg (fun z => VecWindow.put (s := S16384x64) s.dk (rowOff i) S1024x64.size (k0_pay1 (k0_pay19 (k0_pay7 X.q) (k0_pay8 X.q) (k0_pay9 X.dy) (k0_pay10 X.lse) (k0_pay14 X.klt) X.vlt s.dl z))) (readAt_rows arg19.view _ i _ hfs2))))
  isplitl [HS3]
  · iexists _; isplitr; swap; · iexact HS3
    ipureintro;
    sl_unfold_words
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    exact (congrArg (fun z => VecWindow.put (s := S16384x64) s.dv (rowOff i) S1024x64.size (k0_pay18 (k0_pay8 X.q) (k0_pay9 X.dy) (k0_pay10 X.lse) (k0_pay14 X.klt) z)) (readAt_rows arg20.view _ i _ hfs3))
  isplitl [Hq0]; · iexact Hq0
  isplitl [Hq1]; · iexact Hq1
  isplitl [Hh0]
  · istop
    refine BIBase.Entails.of_eq (congrArg (fun f => iprop((Memref.whole main_v40_2 : Memref sig .tc .hbm S2x16384x64 .f32).view.loc (c : Thread nD τ) ↦{fullShare} f)) ?_)
    sl_unfold_words
    refine (slab_write0 i hc3 w0 _).trans (congrArg (slab (i 0).val w0) ?_)
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    exact congrArg k0_pay4 ((View.read_writes_cons_put arg19.view _ _ _ [] (k0_off1_eq i)).trans
      ((congrArg (fun z => VecWindow.put (s := S16384x64) z (rowOff i) S1024x64.size _) ((congrArg (View.read (Elt F) arg19.view) (View.writes_nil _ _)).trans hfs2)).trans (congrArg (fun z => VecWindow.put (s := S16384x64) s.dk (rowOff i) S1024x64.size (k0_pay1 (k0_pay19 (k0_pay7 X.q) (k0_pay8 X.q) (k0_pay9 X.dy) (k0_pay10 X.lse) (k0_pay14 X.klt) X.vlt s.dl z))) (readAt_rows arg19.view _ i _ hfs2))))
  isplitl [Hh1]
  · istop
    refine BIBase.Entails.of_eq (congrArg (fun f => iprop((Memref.whole main_v40_3 : Memref sig .tc .hbm S2x16384x64 .f32).view.loc (c : Thread nD τ) ↦{fullShare} f)) ?_)
    sl_unfold_words
    refine (slab_write1 i hc3 w1 _).trans (congrArg (slab (i 0).val w1) ?_)
    first
      | refine (View.read_writes_full _ _ _ _ _).trans ?_
      | refine (View.read_writes_cons_put _ _ _ _ _ (k0_off1_eq i)).trans ?_
    (repeat first
      | rw [View.readCov_full]
      | rw [View.readAt_writes_full]
      | rw [View.readAt_full]
      | rw [View.read_writes_full]
      | rw [View.writes_nil])
    simp only [hf0, hf1, hf2, hf3, hf4, hf5, hf6, hf7, hf8, hf9, hfs0, hfs1, hfs2, hfs3]
    exact (congrArg (fun z => VecWindow.put (s := S16384x64) s.dv (rowOff i) S1024x64.size (k0_pay18 (k0_pay8 X.q) (k0_pay9 X.dy) (k0_pay10 X.lse) (k0_pay14 X.klt) z)) (readAt_rows arg20.view _ i _ hfs3))
  iexists _; iexact HW

end Cert.KernelIdeal.Att

end
-- ==== Proof.Cert.lean ====
/- The certificate of the attention gradient's region: what every grid point leaves in the scratch, in the two windowed results and in the two results the body copies out itself, and the launch with these named. -/
module

public import proofs.«01_k».proof.Proof.RunE
public import Idealize.ShloMosaic.Lib.Pipeline.FrameValue
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One point, of whichever kind -/

/-- What point `t` leaves in the scratch. -/
def stepAt (t : Fin cfg0.N) (X : Ins F) (s : St F) : St F :=
  if t.val % 512 = 0 then stepA (grid0.coords t) X
  else if t.val % 16 = 0 then stepD (grid0.coords t) X s
  else if t.val % 512 = 511 then stepE (grid0.coords t) X s
  else stepB (grid0.coords t) X s

/-- What point `t` leaves in a result of one slab per head: at a head's last point the head's slab is replaced. -/
def slabAt (t : Fin cfg0.N) (w : Vec F S2x16384x64 .f32) (x : Vec F S16384x64 .f32) : Vec F S2x16384x64 .f32 :=
  if t.val % 512 = 511 then slab (grid0.coords t 0).val w x else w

set_option maxHeartbeats 1600000 in
/-- The body at any point that is not the last key block of its query block: the scratch stepped, the two windowed results untouched. -/
theorem run_idle (c : Dev nD) (t : Fin cfg0.N) (h2 : ¬t.val % 16 = 15) (X : Ins F) (s : St F) (d10 : Vec F S1x2x512x64 .f32) (d11 : Vec F S1x2x512x1 .f32)
    (w0 : HbBuf0 (F := F) c hbM0_0) (w1 : HbBuf0 (F := F) c hbM0_1) (W : Waits sig Unit) (K : PUnit → sProp 𝕄) :
    iprop(owns (c : Thread nD τ) (ms0_0 t) fullShare X.q ∗ owns (c : Thread nD τ) (ms0_1 t) fullShare X.o ∗ owns (c : Thread nD τ) (ms0_2 t) fullShare X.dy ∗ owns (c : Thread nD τ) (ms0_3 t) fullShare X.lse ∗ owns (c : Thread nD τ) (ms0_4 t) fullShare X.kc ∗ owns (c : Thread nD τ) (ms0_5 t) fullShare X.kct ∗ owns (c : Thread nD τ) (ms0_6 t) fullShare X.vct ∗ owns (c : Thread nD τ) (ms0_7 t) fullShare X.kl ∗ owns (c : Thread nD τ) (ms0_8 t) fullShare X.klt ∗ owns (c : Thread nD τ) (ms0_9 t) fullShare X.vlt ∗ owns (c : Thread nD τ) (ms0_10 t) fullShare d10 ∗ owns (c : Thread nD τ) (ms0_11 t) fullShare d11 ∗ owns (c : Thread nD τ) scM0_0 fullShare s.dq ∗ owns (c : Thread nD τ) scM0_1 fullShare s.dl ∗ owns (c : Thread nD τ) scM0_2 fullShare s.dk ∗ owns (c : Thread nD τ) scM0_3 fullShare s.dv ∗ semVal ((c : Thread nD τ), SemLoc.dma 24) 0 ∗ semVal ((c : Thread nD τ), SemLoc.dma 25) 0 ∗ hbPt0 c hbM0_0 w0 ∗ hbPt0 c hbM0_1 w1 ∗ owes (c : Thread nD τ) 0 W
        ∗ (iprop(owns (c : Thread nD τ) (ms0_0 t) fullShare X.q ∗ owns (c : Thread nD τ) (ms0_1 t) fullShare X.o ∗ owns (c : Thread nD τ) (ms0_2 t) fullShare X.dy ∗ owns (c : Thread nD τ) (ms0_3 t) fullShare X.lse ∗ owns (c : Thread nD τ) (ms0_4 t) fullShare X.kc ∗ owns (c : Thread nD τ) (ms0_5 t) fullShare X.kct ∗ owns (c : Thread nD τ) (ms0_6 t) fullShare X.vct ∗ owns (c : Thread nD τ) (ms0_7 t) fullShare X.kl ∗ owns (c : Thread nD τ) (ms0_8 t) fullShare X.klt ∗ owns (c : Thread nD τ) (ms0_9 t) fullShare X.vlt ∗ owns (c : Thread nD τ) (ms0_10 t) fullShare d10 ∗ owns (c : Thread nD τ) (ms0_11 t) fullShare d11 ∗ owns (c : Thread nD τ) scM0_0 fullShare (stepAt t X s).dq ∗ owns (c : Thread nD τ) scM0_1 fullShare (stepAt t X s).dl ∗ owns (c : Thread nD τ) scM0_2 fullShare (stepAt t X s).dk ∗ owns (c : Thread nD τ) scM0_3 fullShare (stepAt t X s).dv ∗ semVal ((c : Thread nD τ), SemLoc.dma 24) 0 ∗ semVal ((c : Thread nD τ), SemLoc.dma 25) 0 ∗ hbPt0 c hbM0_0 (slabAt t w0 (stepAt t X s).dk) ∗ hbPt0 c hbM0_1 (slabAt t w1 (stepAt t X s).dv) ∗ (∃ W', owes (c : Thread nD τ) 0 W')) -∗ K ⟨⟩))
      ⊢ wp frame (wpE (defs₀ (F := F)) Variants.none c none) Set.univ (bodyAt0 t) K := by
  have h3 : ¬t.val % 512 = 511 := by omega
  unfold slabAt
  rw [if_neg h3, if_neg h3]
  by_cases h0 : t.val % 512 = 0
  · have h1 : t.val % 16 = 0 := by omega
    rw [show stepAt t X s = stepA (grid0.coords t) X from if_pos h0]
    exact runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) X s d10 d11 w0 w1 W K
  · by_cases h1 : t.val % 16 = 0
    · rw [show stepAt t X s = stepD (grid0.coords t) X s from (if_neg h0).trans (if_pos h1)]
      exact runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) X s d10 d11 w0 w1 W K
    · rw [show stepAt t X s = stepB (grid0.coords t) X s from (if_neg h0).trans ((if_neg h1).trans (if_neg h3))]
      exact runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) X s d10 d11 w0 w1 W K

set_option maxHeartbeats 1600000 in
/-- The body at the last key block of a query block: besides, the two windowed results are stored. -/
theorem run_live (c : Dev nD) (t : Fin cfg0.N) (h2 : t.val % 16 = 15) (X : Ins F) (s : St F) (d10 : Vec F S1x2x512x64 .f32) (d11 : Vec F S1x2x512x1 .f32)
    (w0 : HbBuf0 (F := F) c hbM0_0) (w1 : HbBuf0 (F := F) c hbM0_1) (W : Waits sig Unit) (K : PUnit → sProp 𝕄) :
    iprop(owns (c : Thread nD τ) (ms0_0 t) fullShare X.q ∗ owns (c : Thread nD τ) (ms0_1 t) fullShare X.o ∗ owns (c : Thread nD τ) (ms0_2 t) fullShare X.dy ∗ owns (c : Thread nD τ) (ms0_3 t) fullShare X.lse ∗ owns (c : Thread nD τ) (ms0_4 t) fullShare X.kc ∗ owns (c : Thread nD τ) (ms0_5 t) fullShare X.kct ∗ owns (c : Thread nD τ) (ms0_6 t) fullShare X.vct ∗ owns (c : Thread nD τ) (ms0_7 t) fullShare X.kl ∗ owns (c : Thread nD τ) (ms0_8 t) fullShare X.klt ∗ owns (c : Thread nD τ) (ms0_9 t) fullShare X.vlt ∗ owns (c : Thread nD τ) (ms0_10 t) fullShare d10 ∗ owns (c : Thread nD τ) (ms0_11 t) fullShare d11 ∗ owns (c : Thread nD τ) scM0_0 fullShare s.dq ∗ owns (c : Thread nD τ) scM0_1 fullShare s.dl ∗ owns (c : Thread nD τ) scM0_2 fullShare s.dk ∗ owns (c : Thread nD τ) scM0_3 fullShare s.dv ∗ semVal ((c : Thread nD τ), SemLoc.dma 24) 0 ∗ semVal ((c : Thread nD τ), SemLoc.dma 25) 0 ∗ hbPt0 c hbM0_0 w0 ∗ hbPt0 c hbM0_1 w1 ∗ owes (c : Thread nD τ) 0 W
        ∗ (iprop(owns (c : Thread nD τ) (ms0_0 t) fullShare X.q ∗ owns (c : Thread nD τ) (ms0_1 t) fullShare X.o ∗ owns (c : Thread nD τ) (ms0_2 t) fullShare X.dy ∗ owns (c : Thread nD τ) (ms0_3 t) fullShare X.lse ∗ owns (c : Thread nD τ) (ms0_4 t) fullShare X.kc ∗ owns (c : Thread nD τ) (ms0_5 t) fullShare X.kct ∗ owns (c : Thread nD τ) (ms0_6 t) fullShare X.vct ∗ owns (c : Thread nD τ) (ms0_7 t) fullShare X.kl ∗ owns (c : Thread nD τ) (ms0_8 t) fullShare X.klt ∗ owns (c : Thread nD τ) (ms0_9 t) fullShare X.vlt ∗ owns (c : Thread nD τ) (ms0_10 t) fullShare (k0_pay2 (stepAt t X s).dq) ∗ owns (c : Thread nD τ) (ms0_11 t) fullShare (k0_pay3 (stepAt t X s).dl) ∗ owns (c : Thread nD τ) scM0_0 fullShare (stepAt t X s).dq ∗ owns (c : Thread nD τ) scM0_1 fullShare (stepAt t X s).dl ∗ owns (c : Thread nD τ) scM0_2 fullShare (stepAt t X s).dk ∗ owns (c : Thread nD τ) scM0_3 fullShare (stepAt t X s).dv ∗ semVal ((c : Thread nD τ), SemLoc.dma 24) 0 ∗ semVal ((c : Thread nD τ), SemLoc.dma 25) 0 ∗ hbPt0 c hbM0_0 (slabAt t w0 (stepAt t X s).dk) ∗ hbPt0 c hbM0_1 (slabAt t w1 (stepAt t X s).dv) ∗ (∃ W', owes (c : Thread nD τ) 0 W')) -∗ K ⟨⟩))
      ⊢ wp frame (wpE (defs₀ (F := F)) Variants.none c none) Set.univ (bodyAt0 t) K := by
  have h0 : ¬t.val % 512 = 0 := by omega
  have h1 : ¬t.val % 16 = 0 := by omega
  unfold slabAt
  by_cases h3 : t.val % 512 = 511
  · rw [if_pos h3, if_pos h3, show stepAt t X s = stepE (grid0.coords t) X s from (if_neg h0).trans ((if_neg h1).trans (if_pos h3))]
    exact runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) X s d10 d11 w0 w1 W K
  · rw [if_neg h3, if_neg h3, show stepAt t X s = stepB (grid0.coords t) X s from (if_neg h0).trans ((if_neg h1).trans (if_neg h3))]
    exact runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) X s d10 d11 w0 w1 W K

/-! ## What the region holds before every point -/

variable (m : (ℓ : Loc nD τ sig) → Buf (Elt F) ℓ) (ρ : Dev nD → PrngReg)

/-- The ten blocks of point `t`. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t⟩

/-- The scratch and the two copied-out results before position `n` (the scratch before the first point is arbitrary: nothing reads it). -/
def heldAt (c : Dev nD) : ℕ → St F × Vec F S2x16384x64 .f32 × Vec F S2x16384x64 .f32
  | 0 => (⟨k0_pay13 (fun _ => k0_pay11 (ValueIdx.ix2 0 0)), fun _ => k0_pay11 (ValueIdx.ix2 0 0), k0_pay11, k0_pay12⟩, V m c main_v40_2, V m c main_v40_3)
  | n + 1 => if h : n < cfg0.N then
      let s := stepAt ⟨n, h⟩ (insAt m c ⟨n, h⟩) (heldAt c n).1
      (s, slabAt ⟨n, h⟩ (heldAt c n).2.1 s.dk, slabAt ⟨n, h⟩ (heldAt c n).2.2 s.dv)
    else heldAt c n

theorem heldAt_succ (c : Dev nD) (t : Fin cfg0.N) : heldAt m c (t.val + 1)
    = (stepAt t (insAt m c t) (heldAt m c t.val).1, slabAt t (heldAt m c t.val).2.1 (stepAt t (insAt m c t) (heldAt m c t.val).1).dk,
        slabAt t (heldAt m c t.val).2.2 (stepAt t (insAt m c t) (heldAt m c t.val).1).dv) :=
  dif_pos t.isLt

/-- A point at a head's start does not look at the scratch it finds. -/
theorem stepAt_first (t : Fin cfg0.N) (h0 : t.val % 512 = 0) (X : Ins F) (s s' : St F) : stepAt t X s = stepAt t X s' :=
  (if_pos h0).trans (if_pos h0).symm

/-- The region's invariant before position `n`: the scratch as the points before left it (before the first point, at anything), the generator register at some state, the copies' semaphores at zero, the two copied-out results. -/
def Held (c : Dev nD) (n : ℕ) : sProp 𝕄 :=
  iprop(∃ s : St F, ⌜n ≠ 0 → s = (heldAt m c n).1⌝ ∗ owns (c : Thread nD τ) scM0_0 fullShare s.dq ∗ owns (c : Thread nD τ) scM0_1 fullShare s.dl ∗ owns (c : Thread nD τ) scM0_2 fullShare s.dk ∗ owns (c : Thread nD τ) scM0_3 fullShare s.dv ∗ (∃ r, prngReg c r) ∗ semVal ((c : Thread nD τ), SemLoc.dma 24) 0 ∗ semVal ((c : Thread nD τ), SemLoc.dma 25) 0 ∗ hbPt0 c hbM0_0 (heldAt m c n).2.1 ∗ hbPt0 c hbM0_1 (heldAt m c n).2.2)

/-- The proof data of the region: the arrays as the region finds them; after the body every input's block in place and, in the windowed results' buffers, what the last key block of a query block stores. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay2 (heldAt m c (t.val + 1)).1.dq
    | ⟨11, _⟩ => k0_pay3 (heldAt m c (t.val + 1)).1.dl
  Φ t := Held m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = k0_pay2 (heldAt m c (t.val + 1)).1.dq := by dsimp only [dats]
theorem after_11 (c : Dev nD) (t : Fin cfg0.N) : (dats m 0 c).after 11 t = k0_pay3 (heldAt m c (t.val + 1)).1.dl := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem leaves_0 (c : Dev nD) (t : Fin cfg0.N) : (dats m 0 c).leavesExact 0 t = owns (c : Thread nD τ) (ms0_0 t) fullShare (iblk m c 0 t) := by
  rw [← after_0 m c t]
theorem leaves_1 (c : Dev nD) (t : Fin cfg0.N) : (dats m 0 c).leavesExact 1 t = owns (c : Thread nD τ) (ms0_1 t) fullShare (iblk m c 1 t) := by
  rw [← after_1 m c t]
theorem leaves_2 (c : Dev nD) (t : Fin cfg0.N) : (dats m 0 c).leavesExact 2 t = owns (c : Thread nD τ) (ms0_2 t) fullShare (iblk m c 2 t) := by
  rw [← after_2 m c t]
theorem leaves_3 (c : Dev nD) (t : Fin cfg0.N) : (dats m 0 c).leavesExact 3 t = owns (c : Thread nD τ) (ms0_3 t) fullShare (iblk m c 3 t) := by
  rw [← after_3 m c t]
theorem leaves_4 (c : Dev nD) (t : Fin cfg0.N) : (dats m 0 c).leavesExact 4 t = owns (c : Thread nD τ) (ms0_4 t) fullShare (iblk m c 4 t) := by
  rw [← after_4 m c t]
theorem leaves_5 (c : Dev nD) (t : Fin cfg0.N) : (dats m 0 c).leavesExact 5 t = owns (c : Thread nD τ) (ms0_5 t) fullShare (iblk m c 5 t) := by
  rw [← after_5 m c t]
theorem leaves_6 (c : Dev nD) (t : Fin cfg0.N) : (dats m 0 c).leavesExact 6 t = owns (c : Thread nD τ) (ms0_6 t) fullShare (iblk m c 6 t) := by
  rw [← after_6 m c t]
theorem leaves_7 (c : Dev nD) (t : Fin cfg0.N) : (dats m 0 c).leavesExact 7 t = owns (c : Thread nD τ) (ms0_7 t) fullShare (iblk m c 7 t) := by
  rw [← after_7 m c t]
theorem leaves_8 (c : Dev nD) (t : Fin cfg0.N) : (dats m 0 c).leavesExact 8 t = owns (c : Thread nD τ) (ms0_8 t) fullShare (iblk m c 8 t) := by
  rw [← after_8 m c t]
theorem leaves_9 (c : Dev nD) (t : Fin cfg0.N) : (dats m 0 c).leavesExact 9 t = owns (c : Thread nD τ) (ms0_9 t) fullShare (iblk m c 9 t) := by
  rw [← after_9 m c t]
theorem leaves_10 (c : Dev nD) (t : Fin cfg0.N) (h2 : t.val % 16 = 15) : (dats m 0 c).leavesExact 10 t = owns (c : Thread nD τ) (ms0_10 t) fullShare ((dats m 0 c).after 10 t) := by
  have h0 : ¬t.val % 512 = 0 := by omega
  have h1 : ¬t.val % 16 = 0 := by omega
  by_cases h3 : t.val % 512 = 511
  · unfold Dat.leavesExact
    rw [liveAt0_10_E t (fun h => h0 ((hcond0_0 t).mp h)) (fun h => h1 ((hcond0_1 t).mp h)) ((hcond0_2 t).mpr h2) ((hcond0_3 t).mpr h3)]
  · unfold Dat.leavesExact
    rw [liveAt0_10_C t (fun h => h0 ((hcond0_0 t).mp h)) (fun h => h1 ((hcond0_1 t).mp h)) ((hcond0_2 t).mpr h2) (fun h => h3 ((hcond0_3 t).mp h))]
theorem leaves_10_idle (c : Dev nD) (t : Fin cfg0.N) (h2 : ¬t.val % 16 = 15) (d : _) : owns (c : Thread nD τ) (ms0_10 t) fullShare ((dats m 0 c).before 10 t d) ⊢ (dats m 0 c).leavesExact 10 t := by
  have h3 : ¬t.val % 512 = 511 := by omega
  by_cases h0 : t.val % 512 = 0
  · have h1 : t.val % 16 = 0 := by omega
    rw [Dat.leavesExact_idle (dats m 0 c) 10 t (idleAt0_10_A t ((hcond0_0 t).mpr h0) ((hcond0_1 t).mpr h1) (fun h => h2 ((hcond0_2 t).mp h)) (fun h => h3 ((hcond0_3 t).mp h))) (noFlush0_10_A t ((hcond0_0 t).mpr h0) ((hcond0_1 t).mpr h1) (fun h => h2 ((hcond0_2 t).mp h)) (fun h => h3 ((hcond0_3 t).mp h)))]
    iintro H; iexists d; iexact H
  · by_cases h1 : t.val % 16 = 0
    · rw [Dat.leavesExact_idle (dats m 0 c) 10 t (idleAt0_10_D t (fun h => h0 ((hcond0_0 t).mp h)) ((hcond0_1 t).mpr h1) (fun h => h2 ((hcond0_2 t).mp h)) (fun h => h3 ((hcond0_3 t).mp h))) (noFlush0_10_D t (fun h => h0 ((hcond0_0 t).mp h)) ((hcond0_1 t).mpr h1) (fun h => h2 ((hcond0_2 t).mp h)) (fun h => h3 ((hcond0_3 t).mp h)))]
      iintro H; iexists d; iexact H
    · rw [Dat.leavesExact_idle (dats m 0 c) 10 t (idleAt0_10_B t (fun h => h0 ((hcond0_0 t).mp h)) (fun h => h1 ((hcond0_1 t).mp h)) (fun h => h2 ((hcond0_2 t).mp h)) (fun h => h3 ((hcond0_3 t).mp h))) (noFlush0_10_B t (fun h => h0 ((hcond0_0 t).mp h)) (fun h => h1 ((hcond0_1 t).mp h)) (fun h => h2 ((hcond0_2 t).mp h)) (fun h => h3 ((hcond0_3 t).mp h)))]
      iintro H; iexists d; iexact H
theorem leaves_11 (c : Dev nD) (t : Fin cfg0.N) (h2 : t.val % 16 = 15) : (dats m 0 c).leavesExact 11 t = owns (c : Thread nD τ) (ms0_11 t) fullShare ((dats m 0 c).after 11 t) := by
  have h0 : ¬t.val % 512 = 0 := by omega
  have h1 : ¬t.val % 16 = 0 := by omega
  by_cases h3 : t.val % 512 = 511
  · unfold Dat.leavesExact
    rw [liveAt0_11_E t (fun h => h0 ((hcond0_0 t).mp h)) (fun h => h1 ((hcond0_1 t).mp h)) ((hcond0_2 t).mpr h2) ((hcond0_3 t).mpr h3)]
  · unfold Dat.leavesExact
    rw [liveAt0_11_C t (fun h => h0 ((hcond0_0 t).mp h)) (fun h => h1 ((hcond0_1 t).mp h)) ((hcond0_2 t).mpr h2) (fun h => h3 ((hcond0_3 t).mp h))]
theorem leaves_11_idle (c : Dev nD) (t : Fin cfg0.N) (h2 : ¬t.val % 16 = 15) (d : _) : owns (c : Thread nD τ) (ms0_11 t) fullShare ((dats m 0 c).before 11 t d) ⊢ (dats m 0 c).leavesExact 11 t := by
  have h3 : ¬t.val % 512 = 511 := by omega
  by_cases h0 : t.val % 512 = 0
  · have h1 : t.val % 16 = 0 := by omega
    rw [Dat.leavesExact_idle (dats m 0 c) 11 t (idleAt0_11_A t ((hcond0_0 t).mpr h0) ((hcond0_1 t).mpr h1) (fun h => h2 ((hcond0_2 t).mp h)) (fun h => h3 ((hcond0_3 t).mp h))) (noFlush0_11_A t ((hcond0_0 t).mpr h0) ((hcond0_1 t).mpr h1) (fun h => h2 ((hcond0_2 t).mp h)) (fun h => h3 ((hcond0_3 t).mp h)))]
    iintro H; iexists d; iexact H
  · by_cases h1 : t.val % 16 = 0
    · rw [Dat.leavesExact_idle (dats m 0 c) 11 t (idleAt0_11_D t (fun h => h0 ((hcond0_0 t).mp h)) ((hcond0_1 t).mpr h1) (fun h => h2 ((hcond0_2 t).mp h)) (fun h => h3 ((hcond0_3 t).mp h))) (noFlush0_11_D t (fun h => h0 ((hcond0_0 t).mp h)) ((hcond0_1 t).mpr h1) (fun h => h2 ((hcond0_2 t).mp h)) (fun h => h3 ((hcond0_3 t).mp h)))]
      iintro H; iexists d; iexact H
    · rw [Dat.leavesExact_idle (dats m 0 c) 11 t (idleAt0_11_B t (fun h => h0 ((hcond0_0 t).mp h)) (fun h => h1 ((hcond0_1 t).mp h)) (fun h => h2 ((hcond0_2 t).mp h)) (fun h => h3 ((hcond0_3 t).mp h))) (noFlush0_11_B t (fun h => h0 ((hcond0_0 t).mp h)) (fun h => h1 ((hcond0_1 t).mp h)) (fun h => h2 ((hcond0_2 t).mp h)) (fun h => h3 ((hcond0_3 t).mp h)))]
      iintro H; iexists d; iexact H

set_option maxHeartbeats 8000000 in
/-- The body at any point, from the invariant before it to the invariant after it. -/
theorem sound_body (c : Dev nD) (t : Fin cfg0.N) :
    iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)))
      ⊢ wp frame (wpE (defs₀ (F := F)) Variants.none c none) Set.univ (bodyAt0 t) (fun _ => iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)) := by
  simp only [before_0, before_1, before_2, before_3, before_4, before_5, before_6, before_7, before_8, before_9, leaves_0, leaves_1, leaves_2, leaves_3, leaves_4, leaves_5, leaves_6, leaves_7, leaves_8, leaves_9]
  rw [show (dats m 0 c).Φ t.castSucc = Held m c t.val from rfl, show (dats m 0 c).Φ t.succ = Held m c (t.val + 1) from rfl]
  unfold Held Dat.owesAt Pipeline.owesWithin
  rw [show (dats m 0 c).owed t.castSucc = 0 from rfl, show (dats m 0 c).owed t.succ = 0 from rfl]
  by_cases h2 : t.val % 16 = 15
  · rw [leaves_10 m c t h2, leaves_11 m c t h2, after_10, after_11, heldAt_succ]
    iintro ⟨⟨%s, %hs, HS0, HS1, HS2, HS3, Hg, Hq0, Hq1, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hst : stepAt t (insAt m c t) s = stepAt t (insAt m c t) (heldAt m c t.val).1 := by
      by_cases hz : t.val = 0
      · exact stepAt_first t (by omega) _ _ _
      · rw [hs hz]
    iapply (run_live c t h2 (insAt m c t) s _ _ (heldAt m c t.val).2.1 (heldAt m c t.val).2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hh0]; · iexact Hh0
    isplitl [Hh1]; · iexact Hh1
    isplitl [HW]; · iexact HW
    rw [hst]
    iintro ⟨H0, H1, H2, H3, H4, H5, H6, H7, H8, H9, H10, H11, HS0, HS1, HS2, HS3, Hq0, Hq1, Hh0, Hh1, ⟨%W', HW'⟩⟩
    isplitl [HS0 HS1 HS2 HS3 Hg Hq0 Hq1 Hh0 Hh1]
    · iexists _; isplitr; · ipureintro; exact fun _ => rfl
      isplitl [HS0]; · iexact HS0
      isplitl [HS1]; · iexact HS1
      isplitl [HS2]; · iexact HS2
      isplitl [HS3]; · iexact HS3
      isplitl [Hg]; · iexact Hg
      isplitl [Hq0]; · iexact Hq0
      isplitl [Hq1]; · iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [heldAt_succ]
    iintro ⟨⟨%s, %hs, HS0, HS1, HS2, HS3, Hg, Hq0, Hq1, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hst : stepAt t (insAt m c t) s = stepAt t (insAt m c t) (heldAt m c t.val).1 := by
      by_cases hz : t.val = 0
      · exact stepAt_first t (by omega) _ _ _
      · rw [hs hz]
    iapply (run_idle c t h2 (insAt m c t) s _ _ (heldAt m c t.val).2.1 (heldAt m c t.val).2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hh0]; · iexact Hh0
    isplitl [Hh1]; · iexact Hh1
    isplitl [HW]; · iexact HW
    rw [hst]
    iintro ⟨H0, H1, H2, H3, H4, H5, H6, H7, H8, H9, H10, H11, HS0, HS1, HS2, HS3, Hq0, Hq1, Hh0, Hh1, ⟨%W', HW'⟩⟩
    isplitl [HS0 HS1 HS2 HS3 Hg Hq0 Hq1 Hh0 Hh1]
    · iexists _; isplitr; · ipureintro; exact fun _ => rfl
      isplitl [HS0]; · iexact HS0
      isplitl [HS1]; · iexact HS1
      isplitl [HS2]; · iexact HS2
      isplitl [HS3]; · iexact HS3
      isplitl [Hg]; · iexact Hg
      isplitl [Hq0]; · iexact Hq0
      isplitl [Hq1]; · iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves_10_idle m c t h2 _); iexact H10
    iapply (leaves_11_idle m c t h2 _); iexact H11

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-- The two copied-out results after the last point, every other buffer as the region found it. -/
def outs (c : Dev nD) (b : Ref sig .tc) : Buf (Elt F) ((c : Thread nD τ).loc b) :=
  if h : b = main_v40_2 then h ▸ (heldAt m c 1024).2.1 else if h' : b = main_v40_3 then h' ▸ (heldAt m c 1024).2.2 else V m c b

theorem outs_dk (c : Dev nD) : outs m c main_v40_2 = (heldAt m c 1024).2.1 := by
  unfold outs; rw [dif_pos rfl]
theorem outs_dv (c : Dev nD) : outs m c main_v40_3 = (heldAt m c 1024).2.2 := by
  unfold outs; rw [dif_neg (by decide), dif_pos rfl]

/-- The launch's invariant with the copied-out results at given contents, conjunct by conjunct. -/
theorem launchInv_eq (c : Dev nD) (G : (c : Dev nD) → (b : Ref sig .tc) → Buf (Elt F) ((c : Thread nD τ).loc b)) :
    (Pipeline.ΦDRG osem0 spec0 H0 R0 (V m) G c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 24) 0 ∗ semVal ((c : Thread nD τ), SemLoc.dma 25) 0) ∗ iprop(emp) ∗ iprop(hbPt0 c hbM0_0 (G c main_v40_2) ∗ hbPt0 c hbM0_1 (G c main_v40_3))) := by
  have hr : (Pipeline.routed R0 c (G c) : sProp 𝕄) = iprop(hbPt0 c hbM0_0 (G c main_v40_2) ∗ hbPt0 c hbM0_1 (G c main_v40_3)) := by
    unfold Pipeline.routed; rw [BI.bigSep_eq_bigSepL_of_eq [main_v40_2, main_v40_3] (by decide) (by decide)]; rfl
  rw [Pipeline.ΦDRG_eq, scopedRest0_eq, ownSems00_eq, hbmPts0_eq, hr]; simp only [scM0_0, scM0_1, scM0_2, scM0_3, owns_whole]; try rfl

theorem hin (c : Dev nD) : Pipeline.ΦDRG osem0 spec0 H0 R0 (V m) (V m) c ⊢ (dats m 0 c).Φ 0 := by
  rw [launchInv_eq, show (dats m 0 c).Φ 0 = Held m c 0 from rfl]
  unfold Held
  iintro ⟨⟨⟨%s0, HS0⟩, ⟨%s1, HS1⟩, ⟨%s2, HS2⟩, ⟨%s3, HS3⟩⟩, Hg, ⟨Hq0, Hq1⟩, -, Hh0, Hh1⟩
  iexists (⟨s0, s1, s2, s3⟩ : St F); isplitr; · ipureintro; exact fun h => absurd rfl h
  isplitl [HS0]; · iexact HS0
  isplitl [HS1]; · iexact HS1
  isplitl [HS2]; · iexact HS2
  isplitl [HS3]; · iexact HS3
  isplitl [Hg]; · iexact Hg
  isplitl [Hq0]; · iexact Hq0
  isplitl [Hq1]; · iexact Hq1
  isplitl [Hh0]; · iexact Hh0
  iexact Hh1

theorem hout (c : Dev nD) : (dats m 0 c).Φ (Fin.last cfg0.N) ⊢ Pipeline.ΦDRG osem0 spec0 H0 R0 (V m) (outs m) c := by
  rw [launchInv_eq, outs_dk, outs_dv, show (dats m 0 c).Φ (Fin.last cfg0.N) = Held m c 1024 from congrArg (Held m c) N_0]
  unfold Held
  iintro ⟨%s, %hs, HS0, HS1, HS2, HS3, Hg, Hq0, Hq1, Hh0, Hh1⟩
  isplitl [HS0 HS1 HS2 HS3]
  · isplitl [HS0]; · iexists _; iexact HS0
    isplitl [HS1]; · iexists _; iexact HS1
    isplitl [HS2]; · iexists _; iexact HS2
    iexists _; iexact HS3
  isplitl [Hg]; · iexact Hg
  isplitl [Hq0 Hq1]
  · isplitl [Hq0]; · iexact Hq0
    iexact Hq1
  isplitr; · iempintro
  isplitl [Hh0]; · iexact Hh0
  iexact Hh1

set_option backward.isDefEq.respectTransparency.types false in
/-- The launch: every run ends with the windowed results as the region's data say, the copied-out results as `outs` says, every other buffer but these as the region found it, and every semaphore at zero. -/
theorem run_main : θ_run defs (onTc (τ := τ) (main (F := F))) (s₀ m ρ) (fun r => (Pipeline.FramePostRG cfgs (dats m) 0 R0 (V m) (outs m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := outs m)
    (hin := hin m) (hout := hout m)

/-- The frame: every argument ends as it began and every semaphore is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1.1) (run_main m ρ))) ((θ_run defs _ _).mono (fun _ h => h.2) (run_main m ρ))

end Cert.KernelIdeal.Att

end
-- ==== Proof.Seq.lean ====
/- The scratch and the two slab results after every point of the grid, element by element: sums over the query blocks and
   key blocks met so far. -/
module

public import proofs.«01_k».proof.Proof.Pay
public import proofs.«01_k».proof.Proof.Cert

@[expose] public section

noncomputable section

namespace Cert.KernelIdeal.Att

open Cert.KernelIdeal Cert.KernelIdeal.Gen
open Idealize.ShloMosaic Idealize.ShloMosaic.TcCoe

/-- The arrays the launch is given, by coordinates: q, o and the cotangent by (kv head, query head of the group, position,
    component), the saved log-sum-exp without the component, the context and latent keys and values by (kv head, key, component). -/
structure Arr where
  q : Fin 2 → Fin 2 → Fin 16384 → Fin 64 → EReal
  o : Fin 2 → Fin 2 → Fin 16384 → Fin 64 → EReal
  y : Fin 2 → Fin 2 → Fin 16384 → Fin 64 → EReal
  lse : Fin 2 → Fin 2 → Fin 16384 → EReal
  kc : Fin 2 → Fin 256 → Fin 64 → EReal
  vc : Fin 2 → Fin 256 → Fin 64 → EReal
  kl : Fin 2 → Fin 16384 → Fin 64 → EReal
  vl : Fin 2 → Fin 16384 → Fin 64 → EReal

variable (A : Arr)

/-- The position of row `R` of query block `i`. -/
def tq (i : ℕ) (R : Fin 1024) : Fin 16384 := ⟨(512 * i + R.val % 512) % 16384, by omega⟩
/-- The position of row `b` of key block `j`. -/
def tk (j : ℕ) (b : Fin 1024) : Fin 16384 := ⟨(1024 * j + b.val) % 16384, by omega⟩
/-- The kv head of point `n`. -/
def hOf (n : ℕ) : Fin 2 := ⟨n / 512 % 2, by omega⟩

/-- The probability of a key `kr` for one query. -/
def pr (h g : Fin 2) (t : Fin 16384) (kr : Fin 64 → EReal) : EReal :=
  Ideal.exp (∑ d : Fin 64, A.q h g t d * scl * kr d - A.lse h g t)
/-- A query's row sum: o against the cotangent. -/
def dlt (h g : Fin 2) (t : Fin 16384) : EReal := ∑ d : Fin 64, A.o h g t d * A.y h g t d
/-- The gradient of the (unscaled) score of a key `kr` with value `vr` for one query. -/
def dsk (h g : Fin 2) (t : Fin 16384) (kr vr : Fin 64 → EReal) : EReal :=
  pr A h g t kr * (∑ d : Fin 64, A.y h g t d * vr d - dlt A h g t)
/-- The context keys' part of a query's gradient. -/
def ctxq (h g : Fin 2) (t : Fin 16384) (d : Fin 64) : EReal :=
  ∑ k : Fin 256, dsk A h g t (A.kc h k) (A.vc h k) * A.kc h k d
/-- Key block `j`'s part of a query's gradient. -/
def latq (h g : Fin 2) (t : Fin 16384) (j : ℕ) (d : Fin 64) : EReal :=
  ∑ b : Fin 1024, dsk A h g t (A.kl h (tk j b)) (A.vl h (tk j b)) * A.kl h (tk j b) d
/-- Query block `i`'s part of a key's gradient. -/
def wk (h : Fin 2) (i : ℕ) (k : Fin 16384) (d : Fin 64) : EReal :=
  ∑ R : Fin 1024, dsk A h (gOf R) (tq i R) (A.kl h k) (A.vl h k) * A.q h (gOf R) (tq i R) d
/-- Query block `i`'s part of a value's gradient. -/
def wv (h : Fin 2) (i : ℕ) (k : Fin 16384) (d : Fin 64) : EReal :=
  ∑ R : Fin 1024, pr A h (gOf R) (tq i R) (A.kl h k) * A.y h (gOf R) (tq i R) d

/-- The blocks `X` are those of head `h`, query block `i` and key block `j` of the arrays. -/
structure Fits (h : Fin 2) (i j : ℕ) (X : Ins Ideal) : Prop where
  q : ∀ R d, X.q (ix4 0 (gOf R) (rOf R) d) = A.q h (gOf R) (tq i R) d
  o : ∀ R d, X.o (ix4 0 (gOf R) (rOf R) d) = A.o h (gOf R) (tq i R) d
  dy : ∀ R d, X.dy (ix4 0 (gOf R) (rOf R) d) = A.y h (gOf R) (tq i R) d
  lse : ∀ R, X.lse (ix4 0 (gOf R) (rOf R) 0) = A.lse h (gOf R) (tq i R)
  kc : ∀ k d, X.kc (ix3 0 k d) = A.kc h k d
  kct : ∀ k d, X.kct (ix3 0 d k) = A.kc h k d
  vct : ∀ k d, X.vct (ix3 0 d k) = A.vc h k d
  kl : ∀ b d, X.kl (ix3 0 b d) = A.kl h (tk j b) d
  klt : ∀ b d, X.klt (ix3 0 d b) = A.kl h (tk j b) d
  vlt : ∀ b d, X.vlt (ix3 0 d b) = A.vl h (tk j b) d

variable {A}

section Point
variable {h : Fin 2} {i j : ℕ} {X : Ins Ideal} (H : Fits A h i j X)
include H

theorem Fits.prob1 (R b : Fin 1024) : prob1 X R b = pr A h (gOf R) (tq i R) (A.kl h (tk j b)) := by
  unfold Att.prob1 pr
  simp only [H.q, H.lse, H.klt]

theorem Fits.ds1 (R b : Fin 1024) (dl : EReal) (e : dl = dlt A h (gOf R) (tq i R)) :
    ds1 X dl R b = dsk A h (gOf R) (tq i R) (A.kl h (tk j b)) (A.vl h (tk j b)) := by
  subst e
  unfold Att.ds1 dsk
  simp only [H.prob1, H.dy, H.vlt]

theorem Fits.rowSums (R : Fin 1024) : rowSums X (ix2 R 0) = dlt A h (gOf R) (tq i R) := by
  rw [rowSums_at]
  unfold dlt
  simp only [H.o, H.dy]

theorem Fits.ctxPart (R : Fin 1024) (d : Fin 64) : ctxPart X (ix2 R d) = ctxq A h (gOf R) (tq i R) d := by
  rw [ctxPart_at]
  unfold ctxq dsk pr dlt
  simp only [H.q, H.lse, H.o, H.dy, H.kct, H.vct, H.kc]

end Point

variable (A)

/-- What the scratch `s` holds on entry to the common work of point (`h`, `i`, `j`): the query block's row sums; the context keys'
    and the key blocks before `j`'s part of the gradient of q; for each key the query blocks that met it. -/
structure Pre (h : Fin 2) (i j : ℕ) (s : St Ideal) : Prop where
  dl : ∀ R, s.dl (ix2 R 0) = dlt A h (gOf R) (tq i R)
  dq : ∀ R d, s.dq (ix2 R d) = ctxq A h (gOf R) (tq i R) d + ∑ j' ∈ Finset.range j, latq A h (gOf R) (tq i R) j' d
  dk : ∀ k d, s.dk (ix2 k d) = ∑ i' ∈ Finset.range (i + if k.val / 1024 < j then 1 else 0), wk A h i' k d
  dv : ∀ k d, s.dv (ix2 k d) = ∑ i' ∈ Finset.range (i + if k.val / 1024 < j then 1 else 0), wv A h i' k d

variable {A}

/-- A key is the row of its own block that it is. -/
theorem tk_bOf (k : Fin 16384) : tk (k.val / 1024) (bOf k) = k := Fin.ext (by
  show (1024 * (k.val / 1024) + k.val % 1024) % 16384 = k.val
  omega)

/-- The common work takes the state before key block `j` to the state before key block `j + 1`. -/
theorem Pre.step {h : Fin 2} {i j : ℕ} {X : Ins Ideal} (H : Fits A h i j X) (c : grid0.Coords) (hc : (c 2).val = j) {s : St Ideal}
    (P : Pre A h i j s) : Pre A h i (j + 1) (stepB c X s) := by
  refine ⟨P.dl, fun R d => ?_, fun k d => ?_, fun k d => ?_⟩
  · rw [stepB_dq, P.dq, Finset.sum_range_succ, ← add_assoc]
    refine congrArg₂ (· + ·) rfl ?_
    unfold latq
    refine Finset.sum_congr rfl fun b _ => ?_
    rw [H.ds1 R b _ (P.dl R), H.kl]
  · by_cases hk : k.val / 1024 = (c 2).val
    · rw [stepB_dk_in c X s k d hk, P.dk, if_neg (by omega), if_pos (by omega), Finset.sum_range_succ]
      refine congrArg₂ (· + ·) rfl ?_
      unfold wk
      refine Finset.sum_congr rfl fun R _ => ?_
      have e : tk j (bOf k) = k := by rw [← hc, ← hk]; exact tk_bOf k
      rw [H.ds1 R _ _ (P.dl R), H.q, e]
    · rw [stepB_dk_out c X s k d hk, P.dk]
      by_cases hlt : k.val / 1024 < j
      · rw [if_pos hlt, if_pos (by omega)]
      · rw [if_neg hlt, if_neg (by omega)]
  · by_cases hk : k.val / 1024 = (c 2).val
    · rw [stepB_dv_in c X s k d hk, P.dv, if_neg (by omega), if_pos (by omega), Finset.sum_range_succ]
      refine congrArg₂ (· + ·) rfl ?_
      unfold wv
      refine Finset.sum_congr rfl fun R _ => ?_
      have e : tk j (bOf k) = k := by rw [← hc, ← hk]; exact tk_bOf k
      rw [H.prob1, H.dy, e]
    · rw [stepB_dv_out c X s k d hk, P.dv]
      by_cases hlt : k.val / 1024 < j
      · rw [if_pos hlt, if_pos (by omega)]
      · rw [if_neg hlt, if_neg (by omega)]

theorem coords_two : ∀ t : Fin cfg0.N, (grid0.coords t 2).val = t.val % 16 :=
  (by decide +kernel : ∀ t : Fin grid0.N, (grid0.coords t 2).val = t.val % 16)
theorem coords_zero : ∀ t : Fin cfg0.N, (grid0.coords t 0).val = t.val / 512 :=
  (by decide +kernel : ∀ t : Fin grid0.N, (grid0.coords t 0).val = t.val / 512)

variable (m : (ℓ : Loc nD τ sig) → Buf (Elt Ideal) ℓ) (c : Dev nD)

/-- The scratch after point `n`: as the next key block wants it, except that a head's last point has scaled the gradient of k. -/
structure Post (A : Arr) (n : ℕ) (s : St Ideal) : Prop where
  dl : ∀ R, s.dl (ix2 R 0) = dlt A (hOf n) (gOf R) (tq (n / 16 % 32) R)
  dq : ∀ R d, s.dq (ix2 R d) = ctxq A (hOf n) (gOf R) (tq (n / 16 % 32) R) d
    + ∑ j' ∈ Finset.range (n % 16 + 1), latq A (hOf n) (gOf R) (tq (n / 16 % 32) R) j' d
  dk : n % 512 ≠ 511 → ∀ k d, s.dk (ix2 k d) = ∑ i' ∈ Finset.range (n / 16 % 32 + if k.val / 1024 < n % 16 + 1 then 1 else 0), wk A (hOf n) i' k d
  dkl : n % 512 = 511 → ∀ k d, s.dk (ix2 k d) = (∑ i' ∈ Finset.range 32, wk A (hOf n) i' k d) * scl
  dv : ∀ k d, s.dv (ix2 k d) = ∑ i' ∈ Finset.range (n / 16 % 32 + if k.val / 1024 < n % 16 + 1 then 1 else 0), wv A (hOf n) i' k d

theorem Post.of_pre {A : Arr} {n : ℕ} {s : St Ideal} (P : Pre A (hOf n) (n / 16 % 32) (n % 16 + 1) s) (hn : n % 512 ≠ 511) : Post A n s :=
  ⟨P.dl, P.dq, fun _ => P.dk, fun h => absurd h hn, P.dv⟩

/-- The scratch after every point. -/
theorem post (H : ∀ t : Fin cfg0.N, Fits A (hOf t.val) (t.val / 16 % 32) (t.val % 16) (insAt m c t)) :
    ∀ n : ℕ, n < 1024 → Post A n (heldAt m c (n + 1)).1 := by
  have hN : cfg0.N = 1024 := N_0
  intro n
  induction n using Nat.strong_induction_on with
  | _ n ih =>
    intro hn
    have hlt : n < cfg0.N := by omega
    have hs := congrArg Prod.fst (heldAt_succ m c ⟨n, hlt⟩)
    have hs' : (heldAt m c (n + 1)).1 = stepAt ⟨n, hlt⟩ (insAt m c ⟨n, hlt⟩) (heldAt m c n).1 := hs
    rw [hs']
    have HX := H ⟨n, hlt⟩
    have hc := coords_two ⟨n, hlt⟩
    dsimp only at HX hc
    by_cases h0 : n % 512 = 0
    · rw [show stepAt ⟨n, hlt⟩ (insAt m c ⟨n, hlt⟩) (heldAt m c n).1 = stepA (grid0.coords ⟨n, hlt⟩) (insAt m c ⟨n, hlt⟩) from if_pos h0]
      refine Post.of_pre (Pre.step HX _ hc ⟨HX.rowSums, fun R d => ?_, fun k d => ?_, fun k d => ?_⟩) (by omega)
      · rw [show n % 16 = 0 by omega, Finset.sum_range_zero, add_zero]; exact HX.ctxPart R d
      · rw [show n % 16 = 0 by omega, show n / 16 % 32 = 0 by omega, if_neg (by omega), Finset.sum_range_zero]; exact pay11_at k d
      · rw [show n % 16 = 0 by omega, show n / 16 % 32 = 0 by omega, if_neg (by omega), Finset.sum_range_zero]; exact pay12_at k d
    · obtain ⟨p, rfl⟩ : ∃ p, n = p + 1 := ⟨n - 1, by omega⟩
      have I := ih p (by omega) (by omega)
      have hh : hOf (p + 1) = hOf p := Fin.ext (by show (p + 1) / 512 % 2 = p / 512 % 2; omega)
      by_cases h1 : (p + 1) % 16 = 0
      · rw [show stepAt ⟨p + 1, hlt⟩ (insAt m c ⟨p + 1, hlt⟩) (heldAt m c (p + 1)).1
            = stepD (grid0.coords ⟨p + 1, hlt⟩) (insAt m c ⟨p + 1, hlt⟩) (heldAt m c (p + 1)).1 from (if_neg h0).trans (if_pos h1)]
        refine Post.of_pre (Pre.step HX _ hc ⟨HX.rowSums, fun R d => ?_, fun k d => ?_, fun k d => ?_⟩) (by omega)
        · rw [h1, Finset.sum_range_zero, add_zero]; exact HX.ctxPart R d
        · have e := I.dk (by omega) k d
          rw [show (p / 16 % 32 + if k.val / 1024 < p % 16 + 1 then 1 else 0) = (p + 1) / 16 % 32 by rw [if_pos (by omega)]; omega] at e
          rw [h1, if_neg (by omega), hh]; exact e
        · have e := I.dv k d
          rw [show (p / 16 % 32 + if k.val / 1024 < p % 16 + 1 then 1 else 0) = (p + 1) / 16 % 32 by rw [if_pos (by omega)]; omega] at e
          rw [h1, if_neg (by omega), hh]; exact e
      · have P : Pre A (hOf (p + 1)) ((p + 1) / 16 % 32) ((p + 1) % 16) (heldAt m c (p + 1)).1 := by
          rw [hh, show (p + 1) / 16 % 32 = p / 16 % 32 by omega, show (p + 1) % 16 = p % 16 + 1 by omega]
          exact ⟨I.dl, I.dq, I.dk (by omega), I.dv⟩
        have Q := Pre.step HX _ hc P
        by_cases h3 : (p + 1) % 512 = 511
        · rw [show stepAt ⟨p + 1, hlt⟩ (insAt m c ⟨p + 1, hlt⟩) (heldAt m c (p + 1)).1
              = stepE (grid0.coords ⟨p + 1, hlt⟩) (insAt m c ⟨p + 1, hlt⟩) (heldAt m c (p + 1)).1 from
            (if_neg h0).trans ((if_neg h1).trans (if_pos h3))]
          refine ⟨Q.dl, Q.dq, fun h => absurd h3 h, fun _ k d => ?_, Q.dv⟩
          have e := Q.dk k d
          rw [show ((p + 1) / 16 % 32 + if k.val / 1024 < (p + 1) % 16 + 1 then 1 else 0) = 32 by rw [if_pos (by omega)]; omega] at e
          exact (pay4_at _ k d).trans (congrArg (· * scl) e)
        · rw [show stepAt ⟨p + 1, hlt⟩ (insAt m c ⟨p + 1, hlt⟩) (heldAt m c (p + 1)).1
              = stepB (grid0.coords ⟨p + 1, hlt⟩) (insAt m c ⟨p + 1, hlt⟩) (heldAt m c (p + 1)).1 from
            (if_neg h0).trans ((if_neg h1).trans (if_neg h3))]
          exact Post.of_pre Q h3

/-- A slab result after a head's last point: that head holds the scratch, the other head what it held. -/
theorem slabAt_at (t : Fin cfg0.N) (w : Vec Ideal S2x16384x64 .f32) (x : Vec Ideal S16384x64 .f32) (h : Fin 2) (k : Fin 16384) (d : Fin 64) :
    slabAt t w x (ix3 h k d) = if t.val % 512 = 511 ∧ h.val = t.val / 512 then x (ix2 k d) else w (ix3 h k d) := by
  unfold slabAt
  by_cases h3 : t.val % 512 = 511
  · rw [if_pos h3]
    have hc := coords_zero t
    by_cases hh : h.val = t.val / 512
    · rw [if_pos ⟨h3, hh⟩]
      exact (if_pos (show h.val = (grid0.coords t 0).val by omega)).trans (congrArg x (ix2_eq_valueIdx k d).symm)
    · rw [if_neg (fun q => hh q.2)]
      exact if_neg (show ¬ h.val = (grid0.coords t 0).val by omega)
  · rw [if_neg h3, if_neg (fun q => h3 q.1)]

/-- A slab result once its head is done: the scratch after the head's last point. -/
theorem slab_done (h : Fin 2) (k : Fin 16384) (d : Fin 64) : ∀ n : ℕ, n ≤ 1024 → 512 * (h.val + 1) ≤ n →
    (heldAt m c n).2.1 (ix3 h k d) = (heldAt m c (512 * (h.val + 1))).1.dk (ix2 k d)
      ∧ (heldAt m c n).2.2 (ix3 h k d) = (heldAt m c (512 * (h.val + 1))).1.dv (ix2 k d) := by
  have hN : cfg0.N = 1024 := N_0
  intro n
  induction n with
  | zero => intro _ h2; omega
  | succ n ih =>
    intro h1 h2
    have hlt : n < cfg0.N := by omega
    have hs := heldAt_succ m c ⟨n, hlt⟩
    dsimp only at hs
    have hdk : (heldAt m c (n + 1)).1.dk = (stepAt ⟨n, hlt⟩ (insAt m c ⟨n, hlt⟩) (heldAt m c n).1).dk := congrArg (fun q => q.1.dk) hs
    have hdv : (heldAt m c (n + 1)).1.dv = (stepAt ⟨n, hlt⟩ (insAt m c ⟨n, hlt⟩) (heldAt m c n).1).dv := congrArg (fun q => q.1.dv) hs
    have e1 := congrFun (congrArg (fun q => q.2.1) hs) (ix3 h k d)
    have e2 := congrFun (congrArg (fun q => q.2.2) hs) (ix3 h k d)
    dsimp only at e1 e2
    rw [slabAt_at, ← hdk] at e1
    rw [slabAt_at, ← hdv] at e2
    dsimp only at e1 e2
    have hb := h.isLt
    by_cases hq : n + 1 = 512 * (h.val + 1)
    · rw [if_pos (by omega)] at e1 e2
      rw [← hq]; exact ⟨e1, e2⟩
    · rw [if_neg (by omega)] at e1 e2
      obtain ⟨i1, i2⟩ := ih (by omega) (by omega)
      exact ⟨e1.trans i1, e2.trans i2⟩

/-- The result for the gradient of k, at an element. -/
theorem dk_at (H : ∀ t : Fin cfg0.N, Fits A (hOf t.val) (t.val / 16 % 32) (t.val % 16) (insAt m c t)) (h : Fin 2) (k : Fin 16384) (d : Fin 64) :
    (heldAt m c 1024).2.1 (ix3 h k d) = (∑ i ∈ Finset.range 32, wk A h i k d) * scl := by
  have hb := h.isLt
  rw [(slab_done m c h k d 1024 le_rfl (by omega)).1]
  have P := (post m c H (512 * (h.val + 1) - 1) (by omega)).dkl (by omega) k d
  rw [show 512 * (h.val + 1) - 1 + 1 = 512 * (h.val + 1) by omega,
    show hOf (512 * (h.val + 1) - 1) = h from Fin.ext (by show (512 * (h.val + 1) - 1) / 512 % 2 = h.val; omega)] at P
  exact P

/-- The result for the gradient of v, at an element. -/
theorem dv_at (H : ∀ t : Fin cfg0.N, Fits A (hOf t.val) (t.val / 16 % 32) (t.val % 16) (insAt m c t)) (h : Fin 2) (k : Fin 16384) (d : Fin 64) :
    (heldAt m c 1024).2.2 (ix3 h k d) = ∑ i ∈ Finset.range 32, wv A h i k d := by
  have hb := h.isLt
  rw [(slab_done m c h k d 1024 le_rfl (by omega)).2]
  have P := (post m c H (512 * (h.val + 1) - 1) (by omega)).dv k d
  rw [show 512 * (h.val + 1) - 1 + 1 = 512 * (h.val + 1) by omega,
    show hOf (512 * (h.val + 1) - 1) = h from Fin.ext (by show (512 * (h.val + 1) - 1) / 512 % 2 = h.val; omega),
    show ((512 * (h.val + 1) - 1) / 16 % 32 + if k.val / 1024 < (512 * (h.val + 1) - 1) % 16 + 1 then 1 else 0) = 32 by
      rw [if_pos (by omega)]; omega] at P
  exact P

end Cert.KernelIdeal.Att

end
-- ==== Proof.Blocks.lean ====
/- The blocks the launch's windows carry at every point of the grid, as rows of the operands. -/
module

public import proofs.«01_k».proof.Proof.Host
public import proofs.«01_k».proof.Proof.Seq
public import Idealize.ShloMosaic.Lib.Pipeline.ValueKit

@[expose] public section

noncomputable section

namespace Cert.KernelIdeal.Att

open Cert.KernelIdeal Cert.KernelIdeal.Gen
open Idealize.ShloMosaic Idealize.ShloMosaic.TcCoe Idealize.ShloMosaic.StableHlo

/-! ## Where a window's block lies in its array -/

theorem index_0 : ∀ t : Fin cfg0.N, win0_0.index t = ![t.val / 512, 0, t.val / 16 % 32, 0] := (by decide +kernel : ∀ t : Fin grid0.N, _)
theorem index_1 : ∀ t : Fin cfg0.N, win0_1.index t = ![t.val / 512, 0, t.val / 16 % 32, 0] := (by decide +kernel : ∀ t : Fin grid0.N, _)
theorem index_2 : ∀ t : Fin cfg0.N, win0_2.index t = ![t.val / 512, 0, t.val / 16 % 32, 0] := (by decide +kernel : ∀ t : Fin grid0.N, _)
theorem index_3 : ∀ t : Fin cfg0.N, win0_3.index t = ![t.val / 512, 0, t.val / 16 % 32, 0] := (by decide +kernel : ∀ t : Fin grid0.N, _)
theorem index_4 : ∀ t : Fin cfg0.N, win0_4.index t = ![t.val / 512, 0, 0] := (by decide +kernel : ∀ t : Fin grid0.N, _)
theorem index_5 : ∀ t : Fin cfg0.N, win0_5.index t = ![t.val / 512, 0, 0] := (by decide +kernel : ∀ t : Fin grid0.N, _)
theorem index_6 : ∀ t : Fin cfg0.N, win0_6.index t = ![t.val / 512, 0, 0] := (by decide +kernel : ∀ t : Fin grid0.N, _)
theorem index_7 : ∀ t : Fin cfg0.N, win0_7.index t = ![t.val / 512, t.val % 16, 0] := (by decide +kernel : ∀ t : Fin grid0.N, _)
theorem index_8 : ∀ t : Fin cfg0.N, win0_8.index t = ![t.val / 512, 0, t.val % 16] := (by decide +kernel : ∀ t : Fin grid0.N, _)
theorem index_9 : ∀ t : Fin cfg0.N, win0_9.index t = ![t.val / 512, 0, t.val % 16] := (by decide +kernel : ∀ t : Fin grid0.N, _)
theorem index_10 : ∀ t : Fin cfg0.N, win0_10.index t = ![t.val / 512, 0, t.val / 16 % 32, 0] := (by decide +kernel : ∀ t : Fin grid0.N, _)

theorem lt_N (t : Fin cfg0.N) : t.val < 1024 := t.isLt

theorem emb_0 (t : Fin cfg0.N) (R : Fin 1024) (d : Fin 64) :
    (win0_0.blk t).view.emb (ix4 0 (gOf R) (rOf R) d) = ix4 (hOf t.val) (gOf R) (tq (t.val / 16 % 32) R) d := by
  have hh := lt_N t
  unfold hOf tq rOf gOf
  blk_ext [index_0]
theorem emb_1 (t : Fin cfg0.N) (R : Fin 1024) (d : Fin 64) :
    (win0_1.blk t).view.emb (ix4 0 (gOf R) (rOf R) d) = ix4 (hOf t.val) (gOf R) (tq (t.val / 16 % 32) R) d := by
  have hh := lt_N t
  unfold hOf tq rOf gOf
  blk_ext [index_1]
theorem emb_2 (t : Fin cfg0.N) (R : Fin 1024) (d : Fin 64) :
    (win0_2.blk t).view.emb (ix4 0 (gOf R) (rOf R) d) = ix4 (hOf t.val) (gOf R) (tq (t.val / 16 % 32) R) d := by
  have hh := lt_N t
  unfold hOf tq rOf gOf
  blk_ext [index_2]
theorem emb_3 (t : Fin cfg0.N) (R : Fin 1024) :
    (win0_3.blk t).view.emb (ix4 0 (gOf R) (rOf R) 0) = ix4 (hOf t.val) (gOf R) (tq (t.val / 16 % 32) R) 0 := by
  have hh := lt_N t
  unfold hOf tq rOf gOf
  blk_ext [index_3]
theorem emb_10 (t : Fin cfg0.N) (R : Fin 1024) (d : Fin 64) :
    (win0_10.blk t).view.emb (ix4 0 (gOf R) (rOf R) d) = ix4 (hOf t.val) (gOf R) (tq (t.val / 16 % 32) R) d := by
  have hh := lt_N t
  unfold hOf tq rOf gOf
  blk_ext [index_10]
theorem emb_4 (t : Fin cfg0.N) (k : Fin 256) (d : Fin 64) :
    (win0_4.blk t).view.emb (ix3 0 k d) = ix3 (hOf t.val) k d := by
  have hh := lt_N t
  unfold hOf
  blk_ext [index_4]
theorem emb_5 (t : Fin cfg0.N) (k : Fin 256) (d : Fin 64) :
    (win0_5.blk t).view.emb (ix3 0 d k) = ix3 (hOf t.val) d k := by
  have hh := lt_N t
  unfold hOf
  blk_ext [index_5]
theorem emb_6 (t : Fin cfg0.N) (k : Fin 256) (d : Fin 64) :
    (win0_6.blk t).view.emb (ix3 0 d k) = ix3 (hOf t.val) d k := by
  have hh := lt_N t
  unfold hOf
  blk_ext [index_6]
theorem emb_7 (t : Fin cfg0.N) (b : Fin 1024) (d : Fin 64) :
    (win0_7.blk t).view.emb (ix3 0 b d) = ix3 (hOf t.val) (tk (t.val % 16) b) d := by
  have hh := lt_N t
  unfold hOf tk
  blk_ext [index_7]
theorem emb_8 (t : Fin cfg0.N) (b : Fin 1024) (d : Fin 64) :
    (win0_8.blk t).view.emb (ix3 0 d b) = ix3 (hOf t.val) d (tk (t.val % 16) b) := by
  have hh := lt_N t
  unfold hOf tk
  blk_ext [index_8]
theorem emb_9 (t : Fin cfg0.N) (b : Fin 1024) (d : Fin 64) :
    (win0_9.blk t).view.emb (ix3 0 d b) = ix3 (hOf t.val) d (tk (t.val % 16) b) := by
  have hh := lt_N t
  unfold hOf tk
  blk_ext [index_9]

/-! ## The blocks are the arrays' rows -/

/-- The arrays the launch is given, from the output, the logarithmic sums and the six arguments. -/
def mkArr (o : FVec Ideal S2x2x16384x64 .f32) (l : FVec Ideal S2x2x16384x1 .f32) (x0 : FVec Ideal S16384x4x64 .f32)
    (x1 x2 : FVec Ideal S256x2x64 .f32) (x3 x4 : FVec Ideal S16384x2x64 .f32) (x5 : FVec Ideal S16384x4x64 .f32) : Arr where
  q h g t d := x0 (ix3 t ⟨h.val * 2 + g.val, by omega⟩ d)
  o h g t d := o (ix4 h g t d)
  y h g t d := x5 (ix3 t ⟨h.val * 2 + g.val, by omega⟩ d)
  lse h g t := l (ix4 h g t 0)
  kc h k d := x1 (ix3 k h d)
  vc h k d := x2 (ix3 k h d)
  kl h k d := x3 (ix3 k h d)
  vl h k d := x4 (ix3 k h d)

section Generic

variable {o : FVec Ideal S2x2x16384x64 .f32} {l : FVec Ideal S2x2x16384x1 .f32} {x0 : FVec Ideal S16384x4x64 .f32}
  {x1 x2 : FVec Ideal S256x2x64 .f32} {x3 x4 : FVec Ideal S16384x2x64 .f32} {x5 : FVec Ideal S16384x4x64 .f32}

/-- Blocks that are the arrays' rows fit the arrays. -/
theorem fits_mk {h : Fin 2} {i j : ℕ} {b0 b1 b2 b3 b4 b5 b6 b7 b8 b9}
    (h0 : ∀ R d, b0 (ix4 0 (gOf R) (rOf R) d) = x0 (ix3 (tq i R) ⟨h.val * 2 + (gOf R).val, by omega⟩ d))
    (h1 : ∀ R d, b1 (ix4 0 (gOf R) (rOf R) d) = o (ix4 h (gOf R) (tq i R) d))
    (h2 : ∀ R d, b2 (ix4 0 (gOf R) (rOf R) d) = x5 (ix3 (tq i R) ⟨h.val * 2 + (gOf R).val, by omega⟩ d))
    (h3 : ∀ R, b3 (ix4 0 (gOf R) (rOf R) 0) = l (ix4 h (gOf R) (tq i R) 0))
    (h4 : ∀ k d, b4 (ix3 0 k d) = x1 (ix3 k h d))
    (h5 : ∀ k d, b5 (ix3 0 d k) = x1 (ix3 k h d))
    (h6 : ∀ k d, b6 (ix3 0 d k) = x2 (ix3 k h d))
    (h7 : ∀ b d, b7 (ix3 0 b d) = x3 (ix3 (tk j b) h d))
    (h8 : ∀ b d, b8 (ix3 0 d b) = x3 (ix3 (tk j b) h d))
    (h9 : ∀ b d, b9 (ix3 0 d b) = x4 (ix3 (tk j b) h d)) :
    Fits (mkArr o l x0 x1 x2 x3 x4 x5) h i j (⟨b0, b1, b2, b3, b4, b5, b6, b7, b8, b9⟩ : Ins Ideal) :=
  ⟨h0, h1, h2, h3, h4, h5, h6, h7, h8, h9⟩

end Generic

variable (m : (ℓ : Loc nD τ sig) → Buf (Elt Ideal) ℓ) (c : Dev nD)

theorem blk_0 (t : Fin cfg0.N) (R : Fin 1024) (d : Fin 64) :
    iblk m c 0 t (ix4 0 (gOf R) (rOf R) d) = arg0 m c (ix3 (tq (t.val / 16 % 32) R) ⟨(hOf t.val).val * 2 + (gOf R).val, by omega⟩ d) := by
  blk_simp [iblk]
  have h2 := hostQ_at (arg0 m c) (hOf t.val) (gOf R) (tq (t.val / 16 % 32) R) d
  rw [← emb_0 t R d] at h2
  have h1 := congrFun (V_q m c) ((win0_0.blk t).view.emb (ix4 0 (gOf R) (rOf R) d))
  refine Eq.trans h1 ?_
  exact h2
theorem blk_1 (t : Fin cfg0.N) (R : Fin 1024) (d : Fin 64) :
    iblk m c 1 t (ix4 0 (gOf R) (rOf R) d) = outOf m c (ix4 (hOf t.val) (gOf R) (tq (t.val / 16 % 32) R) d) := by
  blk_simp [iblk]
  have h2 := congrArg (outOf m c) (emb_1 t R d)
  have h1 := congrFun (V_o m c) ((win0_1.blk t).view.emb (ix4 0 (gOf R) (rOf R) d))
  refine Eq.trans h1 ?_
  exact h2
theorem blk_2 (t : Fin cfg0.N) (R : Fin 1024) (d : Fin 64) :
    iblk m c 2 t (ix4 0 (gOf R) (rOf R) d) = arg5 m c (ix3 (tq (t.val / 16 % 32) R) ⟨(hOf t.val).val * 2 + (gOf R).val, by omega⟩ d) := by
  blk_simp [iblk]
  have h2 := hostQ_at (arg5 m c) (hOf t.val) (gOf R) (tq (t.val / 16 % 32) R) d
  rw [← emb_2 t R d] at h2
  have h1 := congrFun (V_dy m c) ((win0_2.blk t).view.emb (ix4 0 (gOf R) (rOf R) d))
  refine Eq.trans h1 ?_
  exact h2
theorem read_3 (t : Fin cfg0.N) (A : FVec Ideal S2x2x16384x1 .f32) (x : S1x2x512x1.Idx) :
    ((cfg0.win 3).blk t).view.read (Elt Ideal) A x = A ((win0_3.blk t).view.emb x) := by
  blk_simp []
theorem iblk_3 (t : Fin cfg0.N) (L : FVec Ideal S2x2x16384x1 .f32) (e : V m c main_v15 = L) :
    iblk m c 3 t = ((cfg0.win 3).blk t).view.read (Elt Ideal) L := by subst e; unfold iblk; rfl
theorem blk_3_of (t : Fin cfg0.N) (L : FVec Ideal S2x2x16384x1 .f32) (e : V m c main_v15 = L) (R : Fin 1024) :
    iblk m c 3 t (ix4 0 (gOf R) (rOf R) 0) = L (ix4 (hOf t.val) (gOf R) (tq (t.val / 16 % 32) R) 0) := by
  rw [iblk_3 m c t L e]
  exact (read_3 t L _).trans (congrArg L (emb_3 t R))
theorem blk_3 (t : Fin cfg0.N) (R : Fin 1024) :
    iblk m c 3 t (ix4 0 (gOf R) (rOf R) 0) = lseOf m c (ix4 (hOf t.val) (gOf R) (tq (t.val / 16 % 32) R) 0) :=
  blk_3_of m c t (lseOf m c) (V_lse m c) R
theorem blk_4 (t : Fin cfg0.N) (k : Fin 256) (d : Fin 64) :
    iblk m c 4 t (ix3 0 k d) = arg1 m c (ix3 k (hOf t.val) d) := by
  blk_simp [iblk]
  have h2 := hostC_at (arg1 m c) (hOf t.val) k d
  rw [← emb_4 t k d] at h2
  have h1 := congrFun (V_kc m c) ((win0_4.blk t).view.emb (ix3 0 k d))
  refine Eq.trans h1 ?_
  exact h2
theorem blk_5 (t : Fin cfg0.N) (k : Fin 256) (d : Fin 64) :
    iblk m c 5 t (ix3 0 d k) = arg1 m c (ix3 k (hOf t.val) d) := by
  blk_simp [iblk]
  have h2 := (hostCt_at (hostC (arg1 m c)) (hOf t.val) k d).trans (hostC_at (arg1 m c) (hOf t.val) k d)
  rw [← emb_5 t k d] at h2
  have h1 := congrFun (V_kct m c) ((win0_5.blk t).view.emb (ix3 0 d k))
  refine Eq.trans h1 ?_
  exact h2
theorem blk_6 (t : Fin cfg0.N) (k : Fin 256) (d : Fin 64) :
    iblk m c 6 t (ix3 0 d k) = arg2 m c (ix3 k (hOf t.val) d) := by
  blk_simp [iblk]
  have h2 := (hostCt_at (hostC (arg2 m c)) (hOf t.val) k d).trans (hostC_at (arg2 m c) (hOf t.val) k d)
  rw [← emb_6 t k d] at h2
  have h1 := congrFun (V_vct m c) ((win0_6.blk t).view.emb (ix3 0 d k))
  refine Eq.trans h1 ?_
  exact h2
theorem blk_7 (t : Fin cfg0.N) (b : Fin 1024) (d : Fin 64) :
    iblk m c 7 t (ix3 0 b d) = arg3 m c (ix3 (tk (t.val % 16) b) (hOf t.val) d) := by
  blk_simp [iblk]
  have h2 := hostK_at (arg3 m c) (hOf t.val) (tk (t.val % 16) b) d
  rw [← emb_7 t b d] at h2
  have h1 := congrFun (V_kl m c) ((win0_7.blk t).view.emb (ix3 0 b d))
  refine Eq.trans h1 ?_
  exact h2
theorem blk_8 (t : Fin cfg0.N) (b : Fin 1024) (d : Fin 64) :
    iblk m c 8 t (ix3 0 d b) = arg3 m c (ix3 (tk (t.val % 16) b) (hOf t.val) d) := by
  blk_simp [iblk]
  have h2 := (hostKt_at (hostK (arg3 m c)) (hOf t.val) (tk (t.val % 16) b) d).trans (hostK_at (arg3 m c) (hOf t.val) (tk (t.val % 16) b) d)
  rw [← emb_8 t b d] at h2
  have h1 := congrFun (V_klt m c) ((win0_8.blk t).view.emb (ix3 0 d b))
  refine Eq.trans h1 ?_
  exact h2
theorem blk_9 (t : Fin cfg0.N) (b : Fin 1024) (d : Fin 64) :
    iblk m c 9 t (ix3 0 d b) = arg4 m c (ix3 (tk (t.val % 16) b) (hOf t.val) d) := by
  blk_simp [iblk]
  have h2 := (hostKt_at (hostK (arg4 m c)) (hOf t.val) (tk (t.val % 16) b) d).trans (hostK_at (arg4 m c) (hOf t.val) (tk (t.val % 16) b) d)
  rw [← emb_9 t b d] at h2
  have h1 := congrFun (V_vlt m c) ((win0_9.blk t).view.emb (ix3 0 d b))
  refine Eq.trans h1 ?_
  exact h2

/-- The arrays the launch of memory `m` is given on core `c`. -/
def arrOf : Arr := mkArr (outOf m c) (lseOf m c) (arg0 m c) (arg1 m c) (arg2 m c) (arg3 m c) (arg4 m c) (arg5 m c)

/-- At every point the blocks are those of the point's head, query block and key block. -/
theorem fits (t : Fin cfg0.N) : Fits (arrOf m c) (hOf t.val) (t.val / 16 % 32) (t.val % 16) (insAt m c t) := by
  have F := fits_mk (blk_0 m c t) (blk_1 m c t) (blk_2 m c t) (blk_3 m c t) (blk_4 m c t) (blk_5 m c t) (blk_6 m c t) (blk_7 m c t)
    (blk_8 m c t) (blk_9 m c t)
  unfold arrOf insAt
  exact F

end Cert.KernelIdeal.Att
end
-- ==== Proof.Out.lean ====
/- The launch's first result, the gradient of q, element by element. -/
module

public import proofs.«01_k».proof.Proof.Blocks

@[expose] public section

noncomputable section

namespace Cert.KernelIdeal.Att

open Cert.KernelIdeal Cert.KernelIdeal.Gen
open Idealize.ShloMosaic Idealize.ShloMosaic.TcCoe Idealize.ShloMosaic.StableHlo

/-- The gradient of q of the arrays `A`: the context keys' part and the sixteen key blocks' parts, scaled. -/
def dqArr (A : Arr) : FVec Ideal S2x2x16384x64 .f32 := fun i =>
  (ctxq A (i 0) (i 1) (i 2) (i 3) + ∑ j ∈ Finset.range 16, latq A (i 0) (i 1) (i 2) j (i 3)) * scl

/-- Every index of a block of the result is a row and a component. -/
theorem idx_rows (y : S1x2x512x64.Idx) : ∃ (R : Fin 1024) (d : Fin 64), y = ix4 0 (gOf R) (rOf R) d := by
  have h1 : (y 1).val < 2 := (y 1).isLt
  have h2 : (y 2).val < 512 := (y 2).isLt
  refine ⟨⟨512 * (y 1).val + (y 2).val, by omega⟩, y 3, funext fun a => ?_⟩
  match a with
  | ⟨0, _⟩ => exact Subsingleton.elim (α := Fin 1) _ _
  | ⟨1, _⟩ => exact Fin.ext (show (y 1).val = (512 * (y 1).val + (y 2).val) / 512 by omega)
  | ⟨2, _⟩ => exact Fin.ext (show (y 2).val = (512 * (y 1).val + (y 2).val) % 512 by omega)
  | ⟨3, _⟩ => rfl

variable (m : (ℓ : Loc nD τ sig) → Buf (Elt Ideal) ℓ) (c : Dev nD)

/-- What a block of the result holds when it is written back. -/
theorem dq_block (A : Arr) (H : ∀ t : Fin cfg0.N, Fits A (hOf t.val) (t.val / 16 % 32) (t.val % 16) (insAt m c t))
    (t : Fin cfg0.N) (ht : t.val % 16 = 15) (R : Fin 1024) (d : Fin 64) :
    k0_pay2 (heldAt m c (t.val + 1)).1.dq (ix4 0 (gOf R) (rOf R) d)
      = dqArr A (ix4 (hOf t.val) (gOf R) (tq (t.val / 16 % 32) R) d) := by
  rw [pay2_at, (post m c H t.val (lt_N t)).dq R d, ht]
  rfl

theorem dq_arr : (dats m 0 c).arrAt 10 cfg0.N = dqArr (arrOf m c) := by
  have key := dq_block m c (arrOf m c) (fits m c)
  generalize arrOf m c = A at key ⊢
  refine (dats m 0 c).arrAt_eq_of_covers 10 (dqArr A) (by decide +kernel) fun t hf y => ?_
  blk_simp
  obtain ⟨R, d, hy⟩ := idx_rows y
  subst hy
  rw [after_10]
  exact (key t ((flush0_10 t).mp hf) R d).trans (congrArg (dqArr A) (emb_10 t R d)).symm

end Cert.KernelIdeal.Att
end
-- ==== Proof.Ref.lean ====
/- The reference's results read element by element. -/
module

public import proofs.«01_k».proof.Proof.Gen.ReferenceIdeal.Read
public import Idealize.ShloMosaic.Lib.Pointwise

@[expose] public section

noncomputable section

namespace Cert.ReferenceIdeal.Att

open Cert.ReferenceIdeal Cert.ReferenceIdeal.Gen Cert.ReferenceIdeal.Read
open Idealize.ShloMosaic Idealize.ShloMosaic.TcCoe Idealize.ShloMosaic.StableHlo

variable (x0 x5 : FVec Ideal S16384x4x64 .f32) (x1 x2 : FVec Ideal S256x2x64 .f32) (x3 x4 : FVec Ideal S16384x2x64 .f32)

/-- The maximum of a row of any scores. -/
theorem rowMax_at (s : FVec Ideal S2x2x16384x16640 .f32) (v : FVec Ideal S_ .f32) (h g : Fin 2) (t : Fin 16384) :
    Host.reduce FloatOps.maximumf s v reducesTo_S2x2x16384x16640_S2x2x16384_d3 h_S_ (ix3 h g t)
      = Finset.univ.fold max (v (Shape.Idx.first h_S_)) fun k : Fin 16640 => s (ix4 h g t k) := by
  pointwise []

theorem neg_at (b : FVec Ideal S2x2x16384 .f32) (h g : Fin 2) (t : Fin 16384) :
    maximumf (F := Ideal) (val_main_v13 (F := Ideal)) b (ix3 h g t) = max (Ideal.ofBits .f32 0xFF800000#32) (b (ix3 h g t)) := by
  pointwise [val_main_v13, val_main_cst_2]

theorem max_at (h g : Fin 2) (t : Fin 16384) :
    val_main_v14 (F := Ideal) x0 x1 x3 (ix3 h g t) = max (Ideal.ofBits .f32 0xFF800000#32)
      (Finset.univ.fold max (Ideal.ofBits .f32 0xFF800000#32) fun k : Fin 16640 => val_main_v6 (F := Ideal) x0 x1 x3 (ix4 h g t k)) := by
  unfold val_main_v14 val_main_v7
  rw [neg_at, rowMax_at]
  rfl

theorem score_at (h g : Fin 2) (t : Fin 16384) (k : Fin 16640) :
    val_main_v6 (F := Ideal) x0 x1 x3 (ix4 h g t k)
      = (∑ d : Fin 64, (if hk : k.val < 256 then x1 (ix3 ⟨k.val, hk⟩ h d) else x3 (ix3 ⟨k.val - 256, by omega⟩ h d))
          * x0 (ix3 t ⟨h.val * 2 + g.val, by omega⟩ d)) * Ideal.ofBits .f32 0x3E000000#32 := by
  pointwise [val_main_v6, val_main_v5, val_main_v4, val_main_v3, val_main_v2, val_main_v0, val_main_cst]

theorem exp_at (h g : Fin 2) (t : Fin 16384) (k : Fin 16640) :
    val_main_v27 (F := Ideal) x0 x1 x3 (ix4 h g t k)
      = Ideal.exp (val_main_v6 (F := Ideal) x0 x1 x3 (ix4 h g t k) - val_main_v14 (F := Ideal) x0 x1 x3 (ix3 h g t)) := by
  pointwise [val_main_v27, val_main_v26, val_main_v25, val_main_v24]

theorem sum_at (h g : Fin 2) (t : Fin 16384) :
    val_main_v28 (F := Ideal) x0 x1 x3 (ix3 h g t) = ∑ k : Fin 16640, val_main_v27 (F := Ideal) x0 x1 x3 (ix4 h g t k) := by
  pointwise [val_main_v28, val_main_cst_8]

theorem prob_at (h g : Fin 2) (t : Fin 16384) (k : Fin 16640) :
    val_main_v31 (F := Ideal) x0 x1 x3 (ix4 h g t k)
      = Ideal.div (val_main_v27 (F := Ideal) x0 x1 x3 (ix4 h g t k)) (val_main_v28 (F := Ideal) x0 x1 x3 (ix3 h g t)) := by
  pointwise [val_main_v31, val_main_v30, val_main_v29]

theorem dprob_at (h g : Fin 2) (t : Fin 16384) (k : Fin 16640) :
    val_main_v41 (F := Ideal) x2 x4 x5 (ix4 h g t k)
      = ∑ d : Fin 64, x5 (ix3 t ⟨h.val * 2 + g.val, by omega⟩ d)
          * (if hk : k.val < 256 then x2 (ix3 ⟨k.val, hk⟩ h d) else x4 (ix3 ⟨k.val - 256, by omega⟩ h d)) := by
  pointwise [val_main_v41, val_main_v40, val_main_v39, val_main_v38, val_main_v1]

theorem dscore_at (h g : Fin 2) (t : Fin 16384) (k : Fin 16640) :
    val_main_v57 (F := Ideal) x0 x1 x2 x3 x4 x5 (ix4 h g t k)
      = (Ideal.div (val_main_v41 (F := Ideal) x2 x4 x5 (ix4 h g t k)) (val_main_v28 (F := Ideal) x0 x1 x3 (ix3 h g t))
          + -∑ x : Fin 16640, val_main_v41 (F := Ideal) x2 x4 x5 (ix4 h g t x)
              * Ideal.div 1 (val_main_v28 (F := Ideal) x0 x1 x3 (ix3 h g t) * val_main_v28 (F := Ideal) x0 x1 x3 (ix3 h g t))
              * val_main_v27 (F := Ideal) x0 x1 x3 (ix4 h g t x))
        * val_main_v27 (F := Ideal) x0 x1 x3 (ix4 h g t k) * Ideal.ofBits .f32 0x3E000000#32 := by
  pointwise [val_main_v57, val_main_v56, val_main_cst_12, val_main_v55, val_main_v54, val_main_v53, val_main_v52, val_main_v51,
    val_main_v50, val_main_v49, val_main_v48, val_main_v47, val_main_v46, val_main_v45, val_main_v44, val_main_cst_10, val_main_cst_11,
    val_main_v34, val_main_v33, val_main_v32, val_main_cst_9, val_main_v29]
  rw [Fin.sum_univ_one]

theorem dq_at (h g : Fin 2) (t : Fin 16384) (d : Fin 64) :
    val_main_v69 (F := Ideal) x0 x1 x2 x3 x4 x5 (ix4 h g t d)
      = ∑ k : Fin 256, val_main_v57 (F := Ideal) x0 x1 x2 x3 x4 x5 (ix4 h g t ⟨k.val, by omega⟩) * x1 (ix3 k h d)
        + ∑ k : Fin 16384, val_main_v57 (F := Ideal) x0 x1 x2 x3 x4 x5 (ix4 h g t ⟨256 + k.val, by omega⟩) * x3 (ix3 k h d) := by
  pointwise [val_main_v69, val_main_v68, val_main_v63, val_main_v60, val_main_v59, val_main_v58, val_main_v0]

theorem dk_at (h : Fin 2) (k : Fin 16384) (d : Fin 64) :
    val_main_v70 (F := Ideal) x0 x1 x2 x3 x4 x5 (ix3 h k d)
      = ∑ t : Fin 16384, ∑ g : Fin 2, val_main_v57 (F := Ideal) x0 x1 x2 x3 x4 x5 (ix4 h g t ⟨256 + k.val, by omega⟩)
          * x0 (ix3 t ⟨h.val * 2 + g.val, by omega⟩ d) := by
  pointwise [val_main_v70, val_main_v67, val_main_v66, val_main_v62, val_main_v61, val_main_v58, val_main_v2]

theorem dv_at (h : Fin 2) (k : Fin 16384) (d : Fin 64) :
    val_main_v71 (F := Ideal) x0 x1 x3 x5 (ix3 h k d)
      = ∑ g : Fin 2, ∑ t : Fin 16384, x5 (ix3 t ⟨h.val * 2 + g.val, by omega⟩ d)
          * val_main_v31 (F := Ideal) x0 x1 x3 (ix4 h g t ⟨256 + k.val, by omega⟩) := by
  pointwise [val_main_v71, val_main_v65, val_main_v64, val_main_v43, val_main_v42, val_main_v40, val_main_v39, val_main_v38]

end Cert.ReferenceIdeal.Att
end
-- ==== Proof.Reindex.lean ====
/- Sums over blocks and their rows, as sums over the whole axis. -/
module

public import proofs.«01_k».proof.Proof.Seq

@[expose] public section

noncomputable section

namespace Cert.KernelIdeal.Att

open Cert.KernelIdeal Cert.KernelIdeal.Gen
open Idealize.ShloMosaic

/-- A sum over the sixteen key blocks and their rows is the sum over the keys. -/
theorem sum_keys (f : Fin 16384 → EReal) : ∑ j ∈ Finset.range 16, ∑ b : Fin 1024, f (tk j b) = ∑ k : Fin 16384, f k := by
  rw [Fin.sum_univ_tiles 16 1024 (by norm_num) f, Finset.sum_range]
  refine Finset.sum_congr rfl fun j _ => Finset.sum_congr rfl fun b _ => congrArg f (Fin.ext ?_)
  have := j.isLt; have := b.isLt
  show (1024 * j.val + b.val) % 16384 = _
  simp only []
  omega

/-- A sum over the thirty-two query blocks and their rows is the sum over the query heads of the group and the positions. -/
theorem sum_queries (f : Fin 2 → Fin 16384 → EReal) :
    ∑ i ∈ Finset.range 32, ∑ R : Fin 1024, f (gOf R) (tq i R) = ∑ g : Fin 2, ∑ t : Fin 16384, f g t := by
  have e : ∀ i : ℕ, ∑ R : Fin 1024, f (gOf R) (tq i R) = ∑ g : Fin 2, ∑ r : Fin 512, f g ⟨(512 * i + r.val) % 16384, by omega⟩ := by
    intro i
    rw [Fin.sum_univ_tiles 2 512 (by norm_num)]
    refine Finset.sum_congr rfl fun g _ => Finset.sum_congr rfl fun r _ => ?_
    have := g.isLt; have := r.isLt
    refine congrArg₂ f (Fin.ext ?_) (Fin.ext ?_)
    · show (_ : ℕ) / 512 = _
      simp only []
      omega
    · show (512 * i + _ % 512) % 16384 = _
      simp only []
      congr 2
      omega
  rw [Finset.sum_congr rfl fun i _ => e i, Finset.sum_comm]
  refine Finset.sum_congr rfl fun g _ => ?_
  rw [Fin.sum_univ_tiles 32 512 (by norm_num) (f g), Finset.sum_range]
  refine Finset.sum_congr rfl fun j _ => Finset.sum_congr rfl fun b _ => congrArg (f g) (Fin.ext ?_)
  have := j.isLt; have := b.isLt
  show (512 * j.val + b.val) % 16384 = _
  simp only []
  omega

/-- The scale is one eighth. -/
theorem scl_eq : scl = ((1 / 8 : ℝ) : EReal) := by
  unfold scl
  simp [Ideal.ofBits, Ideal.ieee, -EReal.coe_mul]; norm_num
end Cert.KernelIdeal.Att
end
-- ==== Proof.Row.lean ====
module

public import Idealize.ShloMosaic.Lib.Pointwise
public import Idealize.ShloMosaic.Lib.IdealHost

/-! The softmax over real numbers, and the extended-real expressions of the kernel and of the reference that
compute it and its derivative. -/

@[expose] public section

noncomputable section

namespace Cert.KernelIdeal.Att

open Idealize.ShloMosaic

/-- A finite sum of reals, read as an extended real, is the sum of the terms read so. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a nonempty row of reals, started from −∞, is a real. -/
theorem fold_max_coe {n : ℕ} (hn : 0 < n) (f : Fin n → ℝ) :
    ∃ μ : ℝ, Finset.univ.fold max (⊥ : EReal) (fun k => (f k : EReal)) = (μ : EReal) := by
  classical
  have key : ∀ s : Finset (Fin n), s.Nonempty → ∃ μ : ℝ, s.fold max (⊥ : EReal) (fun k => (f k : EReal)) = (μ : EReal) := by
    intro s hs
    induction hs using Finset.Nonempty.cons_induction with
    | singleton a => exact ⟨f a, by simp⟩
    | cons a s ha _ ih =>
      obtain ⟨μ, hμ⟩ := ih
      exact ⟨max (f a) μ, by rw [Finset.fold_cons, hμ]; exact (EReal.coe_strictMono.monotone.map_max).symm⟩
  exact key _ ⟨⟨0, hn⟩, Finset.mem_univ _⟩

section row

variable {n : ℕ} (s p : Fin n → ℝ)

/-- The softmax of a row. -/
def sm (k : Fin n) : ℝ := Real.exp (s k) / ∑ k', Real.exp (s k')

/-- The derivative of the row's loss in the scores, `p` being the derivative in the probabilities. -/
def ds (k : Fin n) : ℝ := sm s k * (p k - ∑ k', sm s k' * p k')

variable (hn : 0 < n)
include hn

theorem den_pos (μ : ℝ) : 0 < ∑ k, Real.exp (s k - μ) :=
  Finset.sum_pos (fun _ _ => Real.exp_pos _) ⟨⟨0, hn⟩, Finset.mem_univ _⟩

omit hn in
theorem den_shift (μ : ℝ) : ∑ k, Real.exp (s k - μ) = (∑ k, Real.exp (s k)) / Real.exp μ := by
  rw [Finset.sum_div]; exact Finset.sum_congr rfl fun k _ => Real.exp_sub _ _

/-- A softmax computed from scores less any real `μ` is the softmax. -/
theorem sm_shift (μ : ℝ) (k : Fin n) : Real.exp (s k - μ) / ∑ k', Real.exp (s k' - μ) = sm s k := by
  rw [den_shift, Real.exp_sub]; unfold sm
  have h := (Real.exp_pos μ).ne'
  have h2 := (den_pos s hn 0).ne'
  simp only [sub_zero] at h2
  field_simp

/-- The exponential of a score less the row's logarithmic sum is the softmax. -/
theorem sm_lse (μ : ℝ) (k : Fin n) : Real.exp (s k - (μ + Real.log (∑ k', Real.exp (s k' - μ)))) = sm s k := by
  rw [← sub_sub, Real.exp_sub, Real.exp_log (den_pos s hn μ)]; exact sm_shift s hn μ k

/-- The logarithmic sum of a row, as an extended real. -/
theorem lse_coe (μ : ℝ) :
    (μ : EReal) + Ideal.log (∑ k, Ideal.exp ((s k : EReal) - (μ : EReal)))
      = ((μ + Real.log (∑ k, Real.exp (s k - μ)) : ℝ) : EReal) := by
  have e : ∑ k, Ideal.exp ((s k : EReal) - (μ : EReal)) = ((∑ k, Real.exp (s k - μ) : ℝ) : EReal) := by
    rw [coe_sum]; exact Finset.sum_congr rfl fun k _ => by rw [← EReal.coe_sub]; rfl
  rw [e, EReal.coe_add]
  refine congrArg₂ (· + ·) rfl ?_
  exact if_neg (not_le.mpr (den_pos s hn μ))

/-- The quotient of extended reals that computes the softmax. -/
theorem sm_div (μ : ℝ) (k : Fin n) :
    Ideal.div (Ideal.exp ((s k : EReal) - (μ : EReal))) (∑ k', Ideal.exp ((s k' : EReal) - (μ : EReal)))
      = (sm s k : EReal) := by
  have e : ∑ k, Ideal.exp ((s k : EReal) - (μ : EReal)) = ((∑ k, Real.exp (s k - μ) : ℝ) : EReal) := by
    rw [coe_sum]; exact Finset.sum_congr rfl fun k _ => by rw [← EReal.coe_sub]; rfl
  rw [e, Ideal.div_coe (den_pos s hn μ).ne', ← EReal.coe_sub]
  rw [show Ideal.exp ((s k - μ : ℝ) : EReal) = ((Real.exp (s k - μ) : ℝ) : EReal) from rfl, ← EReal.coe_mul,
    ← sm_shift s hn μ k, mul_one_div]

/-- The reference's derivative in the scores, times an eighth. -/
theorem ds_coe (μ : ℝ) (k : Fin n) (Z : EReal) (E P : Fin n → EReal)
    (hE : ∀ k, E k = Ideal.exp ((s k : EReal) - (μ : EReal))) (hZ : Z = ∑ k, E k) (hP : ∀ k, P k = (p k : EReal)) :
    (Ideal.div (P k) Z + -∑ x, P x * Ideal.div 1 (Z * Z) * E x) * E k * ((1 / 8 : ℝ) : EReal)
      = ((ds s p k * (1 / 8) : ℝ) : EReal) := by
  have hE' : ∀ k, E k = ((Real.exp (s k - μ) : ℝ) : EReal) := fun k => by rw [hE, ← EReal.coe_sub]; rfl
  have hZ' : Z = ((∑ k, Real.exp (s k - μ) : ℝ) : EReal) := by
    rw [hZ, coe_sum]; exact Finset.sum_congr rfl fun k _ => hE' k
  have pos := den_pos s hn μ
  have e1 : ∑ x, P x * Ideal.div 1 (Z * Z) * E x
      = ((∑ x, p x * (1 / ((∑ k, Real.exp (s k - μ)) * ∑ k, Real.exp (s k - μ))) * Real.exp (s x - μ) : ℝ) : EReal) := by
    rw [coe_sum]
    refine Finset.sum_congr rfl fun x _ => ?_
    rw [hP, hE', hZ', ← EReal.coe_mul, Ideal.div_coe (mul_pos pos pos).ne', one_mul, ← EReal.coe_mul, ← EReal.coe_mul]
  rw [e1, hP, hE', hZ', Ideal.div_coe pos.ne', ← EReal.coe_mul, ← EReal.coe_neg, ← EReal.coe_add, ← EReal.coe_mul,
    ← EReal.coe_mul]
  refine congrArg _ (congrArg (· * (1 / 8 : ℝ)) ?_)
  unfold ds
  simp only [← sm_shift s hn μ]
  set D := ∑ k, Real.exp (s k - μ) with hD
  have e2 : ∑ x, p x * (1 / (D * D)) * Real.exp (s x - μ) = (∑ x, Real.exp (s x - μ) / D * p x) / D := by
    rw [Finset.sum_div]; refine Finset.sum_congr rfl fun x _ => ?_
    field_simp
  rw [e2]; field_simp; ring

end row

end Cert.KernelIdeal.Att
end
-- ==== Proof.Grad.lean ====
/- The kernel's gradients and the reference's over real inputs: both are the gradients of the softmax attention over the reals. -/
module

public import proofs.«01_k».proof.Proof.Reindex
public import proofs.«01_k».proof.Proof.Row

@[expose] public section

noncomputable section

namespace Cert.KernelIdeal.Att

open Cert.KernelIdeal Cert.KernelIdeal.Gen
open Idealize.ShloMosaic

/-- The query head of a kv head and a place in its group. -/
def hd (h g : Fin 2) : Fin 4 := ⟨h.val * 2 + g.val, by omega⟩
/-- A context key among all the keys. -/
def up (k : Fin 256) : Fin 16640 := ⟨k.val, by omega⟩
/-- A latent key among all the keys. -/
def lo (k : Fin 16384) : Fin 16640 := ⟨256 + k.val, by omega⟩

/-- The context's rows followed by the latents'. -/
def cat (a : S256x2x64.Idx → ℝ) (b : S16384x2x64.Idx → ℝ) (h : Fin 2) (k : Fin 16640) (d : Fin 64) : ℝ :=
  if hk : k.val < 256 then a (ix3 ⟨k.val, hk⟩ h d) else b (ix3 ⟨k.val - 256, by omega⟩ h d)

theorem cat_up (a : S256x2x64.Idx → ℝ) (b : S16384x2x64.Idx → ℝ) (h : Fin 2) (k : Fin 256) (d : Fin 64) :
    cat a b h (up k) d = a (ix3 k h d) := dif_pos k.isLt

theorem cat_lo (a : S256x2x64.Idx → ℝ) (b : S16384x2x64.Idx → ℝ) (h : Fin 2) (k : Fin 16384) (d : Fin 64) :
    cat a b h (lo k) d = b (ix3 k h d) := by
  unfold cat lo
  rw [dif_neg (by simp)]
  refine congrArg (fun i => b (ix3 i h d)) (Fin.ext ?_)
  show 256 + k.val - 256 = k.val
  omega

theorem sum_cat (f : Fin 16640 → EReal) : ∑ k, f k = ∑ k : Fin 256, f (up k) + ∑ k : Fin 16384, f (lo k) :=
  Fin.sum_univ_two_halves 256 16384 (by norm_num) f

section Reals

variable (a0 a5 : S16384x4x64.Idx → ℝ) (a1 a2 : S256x2x64.Idx → ℝ) (a3 a4 : S16384x2x64.Idx → ℝ)

/-- A query's scaled scores. -/
def zr (h g : Fin 2) (t : Fin 16384) (k : Fin 16640) : ℝ := (∑ d, cat a1 a3 h k d * a0 (ix3 t (hd h g) d)) * (1 / 8)
/-- The derivative of a query's loss in its probabilities. -/
def pd (h g : Fin 2) (t : Fin 16384) (k : Fin 16640) : ℝ := ∑ d, a5 (ix3 t (hd h g) d) * cat a2 a4 h k d

/-- The gradient in the scores, before the scale. -/
abbrev gs (h g : Fin 2) (t : Fin 16384) : Fin 16640 → ℝ := ds (zr a0 a1 a3 h g t) (pd a5 a2 a4 h g t)

variable (A : Arr)

/-- The arrays hold the real inputs, the attention's output over the reals and its logarithmic sums. -/
structure Holds : Prop where
  q : ∀ h g t d, A.q h g t d = (a0 (ix3 t (hd h g) d) : EReal)
  y : ∀ h g t d, A.y h g t d = (a5 (ix3 t (hd h g) d) : EReal)
  kc : ∀ h k d, A.kc h k d = (a1 (ix3 k h d) : EReal)
  vc : ∀ h k d, A.vc h k d = (a2 (ix3 k h d) : EReal)
  kl : ∀ h k d, A.kl h k d = (a3 (ix3 k h d) : EReal)
  vl : ∀ h k d, A.vl h k d = (a4 (ix3 k h d) : EReal)
  o : ∀ h g t d, A.o h g t d = ((∑ k, sm (zr a0 a1 a3 h g t) k * cat a2 a4 h k d : ℝ) : EReal)
  lse : ∀ h g t, ∃ μ : ℝ, A.lse h g t = ((μ + Real.log (∑ k, Real.exp (zr a0 a1 a3 h g t k - μ)) : ℝ) : EReal)

variable {a0 a5 a1 a2 a3 a4 A} (H : Holds a0 a5 a1 a2 a3 a4 A)
include H

theorem Holds.pr (h g : Fin 2) (t : Fin 16384) (k : Fin 16640) (kr : Fin 64 → EReal) (e : ∀ d, kr d = (cat a1 a3 h k d : EReal)) :
    pr A h g t kr = (sm (zr a0 a1 a3 h g t) k : EReal) := by
  obtain ⟨μ, hμ⟩ := H.lse h g t
  unfold Att.pr
  have e1 : ∑ d, A.q h g t d * scl * kr d = (zr a0 a1 a3 h g t k : EReal) := by
    unfold zr
    rw [Finset.sum_mul, coe_sum]
    refine Finset.sum_congr rfl fun d _ => ?_
    rw [H.q, e, scl_eq, ← EReal.coe_mul, ← EReal.coe_mul]
    exact congrArg _ (by ring)
  rw [e1, hμ, ← EReal.coe_sub]
  show ((Real.exp _ : ℝ) : EReal) = _
  rw [sm_lse _ (by norm_num)]

theorem Holds.dlt (h g : Fin 2) (t : Fin 16384) :
    dlt A h g t = ((∑ k, sm (zr a0 a1 a3 h g t) k * pd a5 a2 a4 h g t k : ℝ) : EReal) := by
  unfold Att.dlt
  have e : ∑ k, sm (zr a0 a1 a3 h g t) k * pd a5 a2 a4 h g t k
      = ∑ d, (∑ k, sm (zr a0 a1 a3 h g t) k * cat a2 a4 h k d) * a5 (ix3 t (hd h g) d) := by
    unfold pd
    simp only [Finset.mul_sum, Finset.sum_mul]
    rw [Finset.sum_comm]
    exact Finset.sum_congr rfl fun d _ => Finset.sum_congr rfl fun k _ => by ring
  rw [e, coe_sum]
  refine Finset.sum_congr rfl fun d _ => ?_
  rw [H.o, H.y, ← EReal.coe_mul]

theorem Holds.dsk (h g : Fin 2) (t : Fin 16384) (k : Fin 16640) (kr vr : Fin 64 → EReal) (e : ∀ d, kr d = (cat a1 a3 h k d : EReal))
    (e' : ∀ d, vr d = (cat a2 a4 h k d : EReal)) :
    dsk A h g t kr vr = (gs a0 a5 a1 a2 a3 a4 h g t k : EReal) := by
  unfold Att.dsk
  have e1 : ∑ d, A.y h g t d * vr d = (pd a5 a2 a4 h g t k : EReal) := by
    unfold pd
    rw [coe_sum]
    refine Finset.sum_congr rfl fun d _ => ?_
    rw [H.y, e', ← EReal.coe_mul]
  rw [H.pr h g t k kr e, e1, H.dlt, ← EReal.coe_sub, ← EReal.coe_mul]
  rfl

theorem Holds.dsc (h g : Fin 2) (t : Fin 16384) (k : Fin 256) :
    Att.dsk A h g t (A.kc h k) (A.vc h k) = (gs a0 a5 a1 a2 a3 a4 h g t (up k) : EReal) :=
  H.dsk h g t (up k) _ _ (fun d => by rw [H.kc, cat_up]) (fun d => by rw [H.vc, cat_up])

theorem Holds.dsl (h g : Fin 2) (t : Fin 16384) (k : Fin 16384) :
    Att.dsk A h g t (A.kl h k) (A.vl h k) = (gs a0 a5 a1 a2 a3 a4 h g t (lo k) : EReal) :=
  H.dsk h g t (lo k) _ _ (fun d => by rw [H.kl, cat_lo]) (fun d => by rw [H.vl, cat_lo])

/-- The kernel's gradient of q is the real gradient. -/
theorem Holds.dq (h g : Fin 2) (t : Fin 16384) (d : Fin 64) :
    (ctxq A h g t d + ∑ j ∈ Finset.range 16, latq A h g t j d) * scl
      = ((∑ k, gs a0 a5 a1 a2 a3 a4 h g t k * (1 / 8) * cat a1 a3 h k d : ℝ) : EReal) := by
  have e1 : ctxq A h g t d = ∑ k : Fin 256, ((gs a0 a5 a1 a2 a3 a4 h g t (up k) * cat a1 a3 h (up k) d : ℝ) : EReal) := by
    unfold ctxq
    exact Finset.sum_congr rfl fun k _ => by rw [H.dsc, H.kc, cat_up, EReal.coe_mul]
  have e2 : ∑ j ∈ Finset.range 16, latq A h g t j d
      = ∑ k : Fin 16384, ((gs a0 a5 a1 a2 a3 a4 h g t (lo k) * cat a1 a3 h (lo k) d : ℝ) : EReal) := by
    unfold latq
    refine (sum_keys fun k => Att.dsk A h g t (A.kl h k) (A.vl h k) * A.kl h k d).trans ?_
    exact Finset.sum_congr rfl fun k _ => by rw [H.dsl, H.kl, cat_lo, EReal.coe_mul]
  rw [e1, e2, ← sum_cat (fun k => ((gs a0 a5 a1 a2 a3 a4 h g t k * cat a1 a3 h k d : ℝ) : EReal)), ← coe_sum, scl_eq, ← EReal.coe_mul]
  refine congrArg _ ?_
  rw [Finset.sum_mul]
  exact Finset.sum_congr rfl fun k _ => by ring

/-- The kernel's gradient of the latents' keys is the real gradient. -/
theorem Holds.dk (h : Fin 2) (k : Fin 16384) (d : Fin 64) :
    (∑ i ∈ Finset.range 32, wk A h i k d) * scl
      = ((∑ t : Fin 16384, ∑ g : Fin 2, gs a0 a5 a1 a2 a3 a4 h g t (lo k) * (1 / 8) * a0 (ix3 t (hd h g) d) : ℝ) : EReal) := by
  unfold wk
  have e : ∑ g : Fin 2, ∑ t : Fin 16384, Att.dsk A h g t (A.kl h k) (A.vl h k) * A.q h g t d
      = ((∑ g : Fin 2, ∑ t : Fin 16384, gs a0 a5 a1 a2 a3 a4 h g t (lo k) * a0 (ix3 t (hd h g) d) : ℝ) : EReal) := by
    rw [coe_sum]
    refine Finset.sum_congr rfl fun g _ => ?_
    rw [coe_sum]
    exact Finset.sum_congr rfl fun t _ => by rw [H.dsl, H.q, EReal.coe_mul]
  rw [sum_queries fun g t => Att.dsk A h g t (A.kl h k) (A.vl h k) * A.q h g t d, e, scl_eq, ← EReal.coe_mul]
  refine congrArg _ ?_
  rw [Finset.sum_comm, Finset.sum_mul]
  refine Finset.sum_congr rfl fun t _ => ?_
  rw [Finset.sum_mul]
  exact Finset.sum_congr rfl fun g _ => by ring

/-- The kernel's gradient of the latents' values is the real gradient. -/
theorem Holds.dv (h : Fin 2) (k : Fin 16384) (d : Fin 64) :
    ∑ i ∈ Finset.range 32, wv A h i k d
      = ((∑ g : Fin 2, ∑ t : Fin 16384, a5 (ix3 t (hd h g) d) * sm (zr a0 a1 a3 h g t) (lo k) : ℝ) : EReal) := by
  unfold wv
  rw [sum_queries fun g t => Att.pr A h g t (A.kl h k) * A.y h g t d, coe_sum]
  refine Finset.sum_congr rfl fun g _ => ?_
  rw [coe_sum]
  refine Finset.sum_congr rfl fun t _ => ?_
  rw [H.pr h g t (lo k) _ (fun d => by rw [H.kl, cat_lo]), H.y, ← EReal.coe_mul, mul_comm]

end Reals

end Cert.KernelIdeal.Att
end
-- ==== Proof.HostReal.lean ====
/- Over real inputs the host lines give the launch the real attention's output and logarithmic sums. -/
module

public import proofs.«01_k».proof.Proof.Blocks
public import proofs.«01_k».proof.Proof.Grad

@[expose] public section

noncomputable section

namespace Cert.KernelIdeal.Att

open Cert.KernelIdeal Cert.KernelIdeal.Gen
open Idealize.ShloMosaic

variable {x0 x5 : FVec Ideal S16384x4x64 .f32} {x1 x2 : FVec Ideal S256x2x64 .f32} {x3 x4 : FVec Ideal S16384x2x64 .f32}
  {a0 a5 : S16384x4x64.Idx → ℝ} {a1 a2 : S256x2x64.Idx → ℝ} {a3 a4 : S16384x2x64.Idx → ℝ}

/-- The scaled scores, written over the concatenated keys, are the real ones. -/
theorem score_real (e0 : ∀ i, x0 i = (a0 i : EReal)) (e1 : ∀ i, x1 i = (a1 i : EReal)) (e3 : ∀ i, x3 i = (a3 i : EReal))
    (h g : Fin 2) (t : Fin 16384) (k : Fin 16640) :
    (∑ d : Fin 64, (if hk : k.val < 256 then x1 (ix3 ⟨k.val, hk⟩ h d) else x3 (ix3 ⟨k.val - 256, by omega⟩ h d))
          * x0 (ix3 t ⟨h.val * 2 + g.val, by omega⟩ d)) * Ideal.ofBits .f32 0x3E000000#32
      = (zr a0 a1 a3 h g t k : EReal) := by
  rw [show Ideal.ofBits .f32 0x3E000000#32 = ((1 / 8 : ℝ) : EReal) from scl_eq]
  unfold zr
  rw [EReal.coe_mul, coe_sum]
  refine congrArg₂ (· * ·) (Finset.sum_congr rfl fun d _ => ?_) rfl
  rw [EReal.coe_mul, e0]
  refine congrArg₂ (· * ·) ?_ rfl
  unfold cat
  by_cases hk : k.val < 256
  · rw [dif_pos hk, dif_pos hk, e1]
  · rw [dif_neg hk, dif_neg hk, e3]

/-- The derivative in the probabilities, written over the concatenated values, is the real one. -/
theorem dprob_real (e5 : ∀ i, x5 i = (a5 i : EReal)) (e2 : ∀ i, x2 i = (a2 i : EReal)) (e4 : ∀ i, x4 i = (a4 i : EReal))
    (h g : Fin 2) (t : Fin 16384) (k : Fin 16640) :
    ∑ d : Fin 64, x5 (ix3 t ⟨h.val * 2 + g.val, by omega⟩ d)
          * (if hk : k.val < 256 then x2 (ix3 ⟨k.val, hk⟩ h d) else x4 (ix3 ⟨k.val - 256, by omega⟩ h d))
      = (pd a5 a2 a4 h g t k : EReal) := by
  unfold pd
  rw [coe_sum]
  refine Finset.sum_congr rfl fun d _ => ?_
  rw [EReal.coe_mul, e5]
  refine congrArg₂ (· * ·) rfl ?_
  unfold cat
  by_cases hk : k.val < 256
  · rw [dif_pos hk, dif_pos hk, e2]
  · rw [dif_neg hk, dif_neg hk, e4]

section Rows

variable (s : FVec Ideal S2x2x16384x16640 .f32) (z : Fin 2 → Fin 2 → Fin 16384 → Fin 16640 → ℝ)
  (hs : ∀ h g t k, s (ix4 h g t k) = (z h g t k : EReal))
include hs

theorem hostM_real (h g : Fin 2) (t : Fin 16384) : ∃ μ : ℝ, hostM s (ix3 h g t) = (μ : EReal) := by
  obtain ⟨μ, hμ⟩ := fold_max_coe (by norm_num) (z h g t)
  refine ⟨μ, ?_⟩
  rw [hostM_at]
  simp only [hs]
  exact hμ

theorem hostL_real (h g : Fin 2) (t : Fin 16384) :
    ∃ μ : ℝ, hostL (hostM s) (hostZ (hostE s (hostM s))) (ix4 h g t 0)
      = ((μ + Real.log (∑ k, Real.exp (z h g t k - μ)) : ℝ) : EReal) := by
  obtain ⟨μ, hμ⟩ := hostM_real s z hs h g t
  refine ⟨μ, ?_⟩
  rw [hostL_at, hostZ_at]
  simp only [hostE_at, hs, hμ]
  exact lse_coe _ (by norm_num) μ

theorem hostO_real (e2 : ∀ i, x2 i = (a2 i : EReal)) (e4 : ∀ i, x4 i = (a4 i : EReal)) (h g : Fin 2) (t : Fin 16384) (d : Fin 64) :
    hostO (hostE s (hostN (hostM s))) (hostZ (hostE s (hostN (hostM s)))) x2 x4 (ix4 h g t d)
      = ((∑ k, sm (z h g t) k * cat a2 a4 h k d : ℝ) : EReal) := by
  obtain ⟨μ, hμ⟩ := hostM_real s z hs h g t
  have p : ∀ k, Ideal.div (hostE s (hostN (hostM s)) (ix4 h g t k)) (hostZ (hostE s (hostN (hostM s))) (ix3 h g t))
      = (sm (z h g t) k : EReal) := by
    intro k
    rw [hostZ_at]
    simp only [hostE_at, hostN_at, hs, hμ]
    exact sm_div _ (by norm_num) μ k
  rw [hostO_at, coe_sum, sum_cat]
  refine congrArg₂ (· + ·) (Finset.sum_congr rfl fun k _ => ?_) (Finset.sum_congr rfl fun k _ => ?_)
  · rw [p, e2, cat_up, EReal.coe_mul]; rfl
  · rw [p, e4, cat_lo, EReal.coe_mul]; rfl

end Rows

theorem holds_mk (s : FVec Ideal S2x2x16384x16640 .f32) (hs : ∀ h g t k, s (ix4 h g t k) = (zr a0 a1 a3 h g t k : EReal))
    (e0 : ∀ i, x0 i = (a0 i : EReal)) (e1 : ∀ i, x1 i = (a1 i : EReal)) (e2 : ∀ i, x2 i = (a2 i : EReal))
    (e3 : ∀ i, x3 i = (a3 i : EReal)) (e4 : ∀ i, x4 i = (a4 i : EReal)) (e5 : ∀ i, x5 i = (a5 i : EReal)) :
    Holds a0 a5 a1 a2 a3 a4 (mkArr (hostO (hostE s (hostN (hostM s))) (hostZ (hostE s (hostN (hostM s)))) x2 x4)
      (hostL (hostM s) (hostZ (hostE s (hostM s)))) x0 x1 x2 x3 x4 x5) where
  q _ _ _ _ := e0 _
  y _ _ _ _ := e5 _
  kc _ _ _ := e1 _
  vc _ _ _ := e2 _
  kl _ _ _ := e3 _
  vl _ _ _ := e4 _
  o h g t d := hostO_real s _ hs e2 e4 h g t d
  lse h g t := hostL_real s _ hs h g t

variable (m : (ℓ : Loc nD τ sig) → Buf (Elt Ideal) ℓ) (c : Dev nD)

/-- Over real arguments the launch's arrays hold the real attention. -/
theorem holds (e0 : ∀ i, arg0 m c i = (a0 i : EReal)) (e1 : ∀ i, arg1 m c i = (a1 i : EReal)) (e2 : ∀ i, arg2 m c i = (a2 i : EReal))
    (e3 : ∀ i, arg3 m c i = (a3 i : EReal)) (e4 : ∀ i, arg4 m c i = (a4 i : EReal)) (e5 : ∀ i, arg5 m c i = (a5 i : EReal)) :
    Holds a0 a5 a1 a2 a3 a4 (arrOf m c) := by
  have hs : ∀ h g t k, scores m c (ix4 h g t k) = (zr a0 a1 a3 h g t k : EReal) := fun h g t k =>
    (hostS_at _ _ _ h g t k).trans (score_real e0 e1 e3 h g t k)
  have K := holds_mk (scores m c) hs e0 e1 e2 e3 e4 e5
  unfold arrOf outOf lseOf
  exact K

end Cert.KernelIdeal.Att
end
-- ==== Proof.RefReal.lean ====
/- Over real inputs the reference's results are the gradients of the real attention. -/
module

public import proofs.«01_k».proof.Proof.Ref
public import proofs.«01_k».proof.Proof.HostReal

@[expose] public section

noncomputable section

namespace Cert.ReferenceIdeal.Att

open Cert.ReferenceIdeal Cert.ReferenceIdeal.Gen Cert.ReferenceIdeal.Read
open Cert.KernelIdeal.Att (zr pd gs sm cat up lo hd)
open Idealize.ShloMosaic

variable {x0 x5 : FVec Ideal S16384x4x64 .f32} {x1 x2 : FVec Ideal S256x2x64 .f32} {x3 x4 : FVec Ideal S16384x2x64 .f32}
  {a0 a5 : S16384x4x64.Idx → ℝ} {a1 a2 : S256x2x64.Idx → ℝ} {a3 a4 : S16384x2x64.Idx → ℝ}

section Scores
variable (e0 : ∀ i, x0 i = (a0 i : EReal)) (e1 : ∀ i, x1 i = (a1 i : EReal)) (e3 : ∀ i, x3 i = (a3 i : EReal))
include e0 e1 e3

theorem score_re (h g : Fin 2) (t : Fin 16384) (k : Fin 16640) :
    val_main_v6 (F := Ideal) x0 x1 x3 (ix4 h g t k) = (zr a0 a1 a3 h g t k : EReal) :=
  (score_at x0 x1 x3 h g t k).trans (Cert.KernelIdeal.Att.score_real e0 e1 e3 h g t k)

theorem max_re (h g : Fin 2) (t : Fin 16384) : ∃ μ : ℝ, val_main_v14 (F := Ideal) x0 x1 x3 (ix3 h g t) = (μ : EReal) := by
  obtain ⟨μ, hμ⟩ := Cert.KernelIdeal.Att.fold_max_coe (by norm_num) (zr a0 a1 a3 h g t)
  refine ⟨μ, ?_⟩
  rw [max_at, Cert.KernelIdeal.Att.ofBits_ninf]
  simp only [score_re e0 e1 e3]
  rw [hμ]
  exact max_bot_left _

theorem prob_re (h g : Fin 2) (t : Fin 16384) (k : Fin 16640) :
    val_main_v31 (F := Ideal) x0 x1 x3 (ix4 h g t k) = (sm (zr a0 a1 a3 h g t) k : EReal) := by
  obtain ⟨μ, hμ⟩ := max_re e0 e1 e3 h g t
  rw [prob_at, sum_at]
  simp only [exp_at, score_re e0 e1 e3, hμ]
  exact Cert.KernelIdeal.Att.sm_div _ (by norm_num) μ k

theorem dscore_re (e2 : ∀ i, x2 i = (a2 i : EReal)) (e4 : ∀ i, x4 i = (a4 i : EReal)) (e5 : ∀ i, x5 i = (a5 i : EReal))
    (h g : Fin 2) (t : Fin 16384) (k : Fin 16640) :
    val_main_v57 (F := Ideal) x0 x1 x2 x3 x4 x5 (ix4 h g t k) = ((gs a0 a5 a1 a2 a3 a4 h g t k * (1 / 8) : ℝ) : EReal) := by
  obtain ⟨μ, hμ⟩ := max_re e0 e1 e3 h g t
  rw [dscore_at, show Ideal.ofBits .f32 0x3E000000#32 = ((1 / 8 : ℝ) : EReal) from Cert.KernelIdeal.Att.scl_eq]
  refine Cert.KernelIdeal.Att.ds_coe (zr a0 a1 a3 h g t) (pd a5 a2 a4 h g t) (by norm_num) μ k _
    (fun k => val_main_v27 (F := Ideal) x0 x1 x3 (ix4 h g t k)) (fun k => val_main_v41 (F := Ideal) x2 x4 x5 (ix4 h g t k))
    (fun k => ?_) (sum_at x0 x1 x3 h g t) (fun k => ?_)
  · rw [exp_at, score_re e0 e1 e3, hμ]
  · exact (dprob_at x5 x2 x4 h g t k).trans (Cert.KernelIdeal.Att.dprob_real e5 e2 e4 h g t k)

theorem dq_re (e2 : ∀ i, x2 i = (a2 i : EReal)) (e4 : ∀ i, x4 i = (a4 i : EReal)) (e5 : ∀ i, x5 i = (a5 i : EReal))
    (h g : Fin 2) (t : Fin 16384) (d : Fin 64) :
    val_main_v69 (F := Ideal) x0 x1 x2 x3 x4 x5 (ix4 h g t d)
      = ((∑ k, gs a0 a5 a1 a2 a3 a4 h g t k * (1 / 8) * cat a1 a3 h k d : ℝ) : EReal) := by
  rw [dq_at, Cert.KernelIdeal.Att.coe_sum, Cert.KernelIdeal.Att.sum_cat]
  refine congrArg₂ (· + ·) (Finset.sum_congr rfl fun k _ => ?_) (Finset.sum_congr rfl fun k _ => ?_)
  · rw [dscore_re e0 e1 e3 e2 e4 e5, e1, Cert.KernelIdeal.Att.cat_up, ← EReal.coe_mul]; rfl
  · rw [dscore_re e0 e1 e3 e2 e4 e5, e3, Cert.KernelIdeal.Att.cat_lo, ← EReal.coe_mul]; rfl

theorem dk_re (e2 : ∀ i, x2 i = (a2 i : EReal)) (e4 : ∀ i, x4 i = (a4 i : EReal)) (e5 : ∀ i, x5 i = (a5 i : EReal))
    (h : Fin 2) (k : Fin 16384) (d : Fin 64) :
    val_main_v70 (F := Ideal) x0 x1 x2 x3 x4 x5 (ix3 h k d)
      = ((∑ t : Fin 16384, ∑ g : Fin 2, gs a0 a5 a1 a2 a3 a4 h g t (lo k) * (1 / 8) * a0 (ix3 t (hd h g) d) : ℝ) : EReal) := by
  rw [dk_at, Cert.KernelIdeal.Att.coe_sum]
  refine Finset.sum_congr rfl fun t _ => ?_
  rw [Cert.KernelIdeal.Att.coe_sum]
  refine Finset.sum_congr rfl fun g _ => ?_
  rw [dscore_re e0 e1 e3 e2 e4 e5, e0, ← EReal.coe_mul]; rfl

theorem dv_re (e5 : ∀ i, x5 i = (a5 i : EReal)) (h : Fin 2) (k : Fin 16384) (d : Fin 64) :
    val_main_v71 (F := Ideal) x0 x1 x3 x5 (ix3 h k d)
      = ((∑ g : Fin 2, ∑ t : Fin 16384, a5 (ix3 t (hd h g) d) * sm (zr a0 a1 a3 h g t) (lo k) : ℝ) : EReal) := by
  rw [dv_at, Cert.KernelIdeal.Att.coe_sum]
  refine Finset.sum_congr rfl fun g _ => ?_
  rw [Cert.KernelIdeal.Att.coe_sum]
  refine Finset.sum_congr rfl fun t _ => ?_
  rw [prob_re e0 e1 e3, e5, ← EReal.coe_mul]; rfl

end Scores
end Cert.ReferenceIdeal.Att
end
-- ==== Proof.Same.lean ====
/- The launch's three results are the reference's three results on real inputs. -/
module

public import proofs.«01_k».proof.Proof.Out
public import proofs.«01_k».proof.Proof.RefReal

@[expose] public section

noncomputable section

namespace Cert.KernelIdeal.Att

open Cert.KernelIdeal Cert.KernelIdeal.Gen
open Idealize.ShloMosaic

/-- Two arrays of four axes agree when they agree at every four coordinates. -/
theorem ext4 {f g : FVec Ideal S2x2x16384x64 .f32} (e : ∀ (h k : Fin 2) (t : Fin 16384) (d : Fin 64), f (ix4 h k t d) = g (ix4 h k t d)) :
    f = g := funext fun i => by
  have hi : i = ix4 (i 0) (i 1) (i 2) (i 3) := funext fun a => match a with
    | ⟨0, _⟩ => rfl | ⟨1, _⟩ => rfl | ⟨2, _⟩ => rfl | ⟨3, _⟩ => rfl
  rw [hi]
  exact e _ _ _ _

/-- Two arrays of three axes agree when they agree at every three coordinates. -/
theorem ext3 {f g : FVec Ideal S2x16384x64 .f32} (e : ∀ (h : Fin 2) (t : Fin 16384) (d : Fin 64), f (ix3 h t d) = g (ix3 h t d)) :
    f = g := funext fun i => by
  have hi : i = ix3 (i 0) (i 1) (i 2) := funext fun a => match a with
    | ⟨0, _⟩ => rfl | ⟨1, _⟩ => rfl | ⟨2, _⟩ => rfl
  rw [hi]
  exact e _ _ _

variable {x0 x5 : FVec Ideal S16384x4x64 .f32} {x1 x2 : FVec Ideal S256x2x64 .f32} {x3 x4 : FVec Ideal S16384x2x64 .f32}
  {a0 a5 : S16384x4x64.Idx → ℝ} {a1 a2 : S256x2x64.Idx → ℝ} {a3 a4 : S16384x2x64.Idx → ℝ} {A : Arr}
  (e0 : ∀ i, x0 i = (a0 i : EReal)) (e1 : ∀ i, x1 i = (a1 i : EReal)) (e2 : ∀ i, x2 i = (a2 i : EReal))
  (e3 : ∀ i, x3 i = (a3 i : EReal)) (e4 : ∀ i, x4 i = (a4 i : EReal)) (e5 : ∀ i, x5 i = (a5 i : EReal))
  (H : Holds a0 a5 a1 a2 a3 a4 A)
include e0 e1 e3 e5 H

include e2 e4 in
/-- The gradient of the queries. -/
theorem same_dq : Cert.ReferenceIdeal.Read.val_main_v69 (F := Ideal) x0 x1 x2 x3 x4 x5 = dqArr A :=
  ext4 fun h g t d => (Cert.ReferenceIdeal.Att.dq_re e0 e1 e3 e2 e4 e5 h g t d).trans (H.dq h g t d).symm

include e2 e4 in
/-- The gradient of the latent keys. -/
theorem same_dk (K : FVec Ideal S2x16384x64 .f32)
    (hK : ∀ h k d, K (ix3 h k d) = (∑ i ∈ Finset.range 32, wk A h i k d) * scl) :
    Cert.ReferenceIdeal.Read.val_main_v70 (F := Ideal) x0 x1 x2 x3 x4 x5 = K :=
  ext3 fun h k d => (Cert.ReferenceIdeal.Att.dk_re e0 e1 e3 e2 e4 e5 h k d).trans ((hK h k d).trans (H.dk h k d)).symm

/-- The gradient of the latent values. -/
theorem same_dv (K : FVec Ideal S2x16384x64 .f32) (hK : ∀ h k d, K (ix3 h k d) = ∑ i ∈ Finset.range 32, wv A h i k d) :
    Cert.ReferenceIdeal.Read.val_main_v71 (F := Ideal) x0 x1 x3 x5 = K :=
  ext3 fun h k d => (Cert.ReferenceIdeal.Att.dv_re e0 e1 e3 e5 h k d).trans ((hK h k d).trans (H.dv h k d)).symm

end Cert.KernelIdeal.Att

end
-- ==== Proof.Decode.lean ====
/- The precondition read: every element of the six arguments is a real number. -/
module

public import proofs.«01_k».proof.Pre_finite
public import Idealize.ShloMosaic.Lib.Pointwise
public import Idealize.ShloMosaic.Lib.ReduceAll

@[expose] public section

noncomputable section

namespace Cert.Pre_finite.Att

open Idealize.ShloMosaic

/-- The pattern the magnitudes are compared with is +∞. -/
theorem ofBits_inf : Ideal.ofBits .f32 0x7F800000#32 = ⊤ := by
  simp [Ideal.ofBits, Ideal.ieee]

/-- An extended real whose magnitude is below +∞ is a real. -/
theorem real_of_abs (x : EReal) (h : max x (-x) < ⊤) : ∃ r : ℝ, x = (r : EReal) := by
  induction x using EReal.rec with
  | bot => simp at h
  | coe r => exact ⟨r, rfl⟩
  | top => simp at h

/-- An element whose comparison reads one is a real. -/
theorem real_of_mask {s u : Shape} (dims : Fin u.rank → Fin s.rank) (hb) (x : FVec Ideal s .f32) (i : s.Idx)
    (h : cmpf (F := Ideal) .olt (Host.absf x) (broadcastInDim s dims hb (constant u .f32 0x7F800000#32)) i = 1#1) :
    ∃ r : ℝ, x i = (r : EReal) := by
  refine real_of_abs _ ?_
  have h' : Ideal.cmp .olt (max (x i) (-(x i))) (Ideal.ofBits .f32 0x7F800000#32) = 1#1 := h
  rw [ofBits_inf] at h'
  by_contra hc
  simp [Ideal.cmp, hc] at h'

/-- An array whose comparisons' conjunction reads one holds reals. -/
theorem reals_of_all {s : Shape} {axes} (hr : s.ReducesTo axes S_) (dims : Fin S_.rank → Fin s.rank) (hb) (x : FVec Ideal s .f32) (init : IVec S_ 1)
    (hu : 0 < S_.numel)
    (h : Host.reduce IntOp.andi (cmpf (F := Ideal) .olt (Host.absf x) (broadcastInDim s dims hb (constant S_ .f32 0x7F800000#32))) init hr hu ix0 = 1#1) :
    ∃ a : s.Idx → ℝ, ∀ i, x i = (a i : EReal) := by
  haveI : Subsingleton S_.Idx := ⟨fun _ _ => funext fun a => a.elim0⟩
  have hx : ∀ i, ∃ r : ℝ, x i = (r : EReal) := fun i => real_of_mask dims hb x i (Host.reduce_andi_all _ init hr hu ix0 h i)
  exact ⟨fun i => (hx i).choose, fun i => (hx i).choose_spec⟩

variable [Facts]

/-- Where the predicate reads one the six arguments hold reals. -/
theorem reals_of_fn (x0 : FVec Ideal S16384x4x64 .f32) (x1 x2 : FVec Ideal S256x2x64 .f32) (x3 x4 : FVec Ideal S16384x2x64 .f32)
    (x5 : FVec Ideal S16384x4x64 .f32) (h : fn (F := Ideal) x0 x1 x2 x3 x4 x5 = fun _ => 1#1) :
    ((∃ a : S16384x4x64.Idx → ℝ, ∀ i, x0 i = (a i : EReal)) ∧ (∃ a : S256x2x64.Idx → ℝ, ∀ i, x1 i = (a i : EReal))
      ∧ (∃ a : S256x2x64.Idx → ℝ, ∀ i, x2 i = (a i : EReal))) ∧ (∃ a : S16384x2x64.Idx → ℝ, ∀ i, x3 i = (a i : EReal))
      ∧ (∃ a : S16384x2x64.Idx → ℝ, ∀ i, x4 i = (a i : EReal)) ∧ ∃ a : S16384x4x64.Idx → ℝ, ∀ i, x5 i = (a i : EReal) := by
  have h0 := congrFun h ix0
  unfold fn fn_part1 at h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  obtain ⟨_, h0⟩ := IntOp.andi_eq_one.1 h0
  exact ⟨⟨reals_of_all _ _ _ x0 _ _ h0, reals_of_all _ _ _ x1 _ _ h1, reals_of_all _ _ _ x2 _ _ h2⟩, reals_of_all _ _ _ x3 _ _ h3,
    reals_of_all _ _ _ x4 _ _ h4, reals_of_all _ _ _ x5 _ _ h5⟩

end Cert.Pre_finite.Att
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.FfnUp
public import proofs.«01_k».proof.Proof.Gen.FfnUp.Frame
public import proofs.«01_k».proof.Proof.FfnUp
public import proofs.«01_k».proof.Proof.Gen.FfnDown
public import proofs.«01_k».proof.Proof.Gen.FfnDown.Frame
public import proofs.«01_k».proof.Proof.FfnDown
public import proofs.«01_k».proof.Proof.Gen.FfnDownDx
public import proofs.«01_k».proof.Proof.Gen.FfnDownDx.Frame
public import proofs.«01_k».proof.Proof.FfnDownDx
public import proofs.«01_k».proof.Proof.Gen.FfnDownDw
public import proofs.«01_k».proof.Proof.Gen.FfnDownDw.Frame
public import proofs.«01_k».proof.Proof.FfnDownDw
public import proofs.«01_k».proof.Proof.Gen.FfnUpDx
public import proofs.«01_k».proof.Proof.Gen.FfnUpDx.Frame
public import proofs.«01_k».proof.Proof.FfnUpDx
public import proofs.«01_k».proof.Proof.Gen.FfnUpDw
public import proofs.«01_k».proof.Proof.Gen.FfnUpDw.Frame
public import proofs.«01_k».proof.Proof.FfnUpDw
public import proofs.«01_k».proof.Proof.Gen.GateFwd
public import proofs.«01_k».proof.Proof.Gen.GateFwd.Frame
public import proofs.«01_k».proof.Proof.GateFwd
public import proofs.«01_k».proof.Proof.Gen.GateDx
public import proofs.«01_k».proof.Proof.Gen.GateDx.Frame
public import proofs.«01_k».proof.Proof.GateDx
public import proofs.«01_k».proof.Proof.Gen.GateDw
public import proofs.«01_k».proof.Proof.Gen.GateDw.Frame
public import proofs.«01_k».proof.Proof.GateDw
public import proofs.«01_k».proof.Proof.Gen.BranchFwd
public import proofs.«01_k».proof.Proof.Gen.BranchFwd.Frame
public import proofs.«01_k».proof.Proof.BranchFwd
public import proofs.«01_k».proof.Proof.Gen.BranchDx
public import proofs.«01_k».proof.Proof.Gen.BranchDx.Frame
public import proofs.«01_k».proof.Proof.BranchDx
public import proofs.«01_k».proof.Proof.Gen.BranchDw
public import proofs.«01_k».proof.Proof.Gen.BranchDw.Frame
public import proofs.«01_k».proof.Proof.BranchDw
public import proofs.«01_k».proof.Proof.Gen.OutFwd
public import proofs.«01_k».proof.Proof.Gen.OutFwd.Frame
public import proofs.«01_k».proof.Proof.OutFwd
public import proofs.«01_k».proof.Proof.Gen.OutDx
public import proofs.«01_k».proof.Proof.Gen.OutDx.Frame
public import proofs.«01_k».proof.Proof.OutDx
public import proofs.«01_k».proof.Proof.Gen.OutDw
public import proofs.«01_k».proof.Proof.Gen.OutDw.Frame
public import proofs.«01_k».proof.Proof.OutDw
public import proofs.«01_k».proof.Proof.Gen.GluFwd
public import proofs.«01_k».proof.Proof.Gen.GluFwd.Frame
public import proofs.«01_k».proof.Proof.GluFwd
public import proofs.«01_k».proof.Proof.Gen.GluDx
public import proofs.«01_k».proof.Proof.Gen.GluDx.Frame
public import proofs.«01_k».proof.Proof.GluDx
public import proofs.«01_k».proof.Proof.Gen.GluDw
public import proofs.«01_k».proof.Proof.Gen.GluDw.Frame
public import proofs.«01_k».proof.Proof.GluDw
public import proofs.«01_k».proof.Proof.Gen.SplitFwd
public import proofs.«01_k».proof.Proof.Gen.SplitFwd.Frame
public import proofs.«01_k».proof.Proof.SplitFwd
public import proofs.«01_k».proof.Proof.Gen.SplitDx
public import proofs.«01_k».proof.Proof.Gen.SplitDx.Frame
public import proofs.«01_k».proof.Proof.SplitDx
public import proofs.«01_k».proof.Proof.Gen.SplitDw
public import proofs.«01_k».proof.Proof.Gen.SplitDw.Frame
public import proofs.«01_k».proof.Proof.SplitDw
public import proofs.«01_k».proof.Proof.Gen.AdamSharded
public import proofs.«01_k».proof.Proof.Gen.AdamSharded.Frame
public import proofs.«01_k».proof.Proof.AdamSharded
public import proofs.«01_k».proof.Proof.Gen.AdamSmall
public import proofs.«01_k».proof.Proof.Gen.AdamSmall.Frame
public import proofs.«01_k».proof.Proof.AdamSmall
public import proofs.«01_k».proof.Proof.Gen.FfnAct
public import proofs.«01_k».proof.Proof.Gen.FfnAct.Frame
public import proofs.«01_k».proof.Proof.FfnAct
public import proofs.«01_k».proof.Proof.Gen.FfnActBwd
public import proofs.«01_k».proof.Proof.Gen.FfnActBwd.Frame
public import proofs.«01_k».proof.Proof.FfnActBwd
public import proofs.«01_k».proof.Proof.Gen.GluAct
public import proofs.«01_k».proof.Proof.Gen.GluAct.Frame
public import proofs.«01_k».proof.Proof.GluAct
public import proofs.«01_k».proof.Proof.Gen.GluActBwd
public import proofs.«01_k».proof.Proof.Gen.GluActBwd.Frame
public import proofs.«01_k».proof.Proof.GluActBwd
public import proofs.«01_k».proof.Proof.Gen.Merge
public import proofs.«01_k».proof.Proof.Gen.Merge.Frame
public import proofs.«01_k».proof.Proof.Merge
public import proofs.«01_k».proof.Proof.Gen.MergeBwd
public import proofs.«01_k».proof.Proof.Gen.MergeBwd.Frame
public import proofs.«01_k».proof.Proof.MergeBwd
public import proofs.«01_k».proof.Proof.Gen.FfnNorm
public import proofs.«01_k».proof.Proof.Gen.FfnNorm.Frame
public import proofs.«01_k».proof.Proof.FfnNorm
public import proofs.«01_k».proof.Proof.Gen.NormMod
public import proofs.«01_k».proof.Proof.Gen.NormMod.Frame
public import proofs.«01_k».proof.Proof.NormMod
public import proofs.«01_k».proof.Proof.Gen.FfnResid
public import proofs.«01_k».proof.Proof.Gen.FfnResid.Frame
public import proofs.«01_k».proof.Proof.FfnResid
public import proofs.«01_k».proof.Proof.Gen.ResidFull
public import proofs.«01_k».proof.Proof.Gen.ResidFull.Frame
public import proofs.«01_k».proof.Proof.ResidFull
public import proofs.«01_k».proof.Proof.Gen.PoolScale
public import proofs.«01_k».proof.Proof.Gen.PoolScale.Frame
public import proofs.«01_k».proof.Proof.PoolScale
public import proofs.«01_k».proof.Proof.Gen.LossRows
public import proofs.«01_k».proof.Proof.Gen.LossRows.Frame
public import proofs.«01_k».proof.Proof.LossRows
public import proofs.«01_k».proof.Proof.Same
public import proofs.«01_k».proof.Proof.Decode
public import Idealize.ShloMosaic.Adequacy
public import Idealize.ShloMosaic.Init

@[expose] public section

noncomputable section

namespace Cert.Proof

open Idealize.ShloMosaic Idealize.SL.Sem

section Kernel

open Cert.KernelIdeal Cert.KernelIdeal.Gen Cert.KernelIdeal.Att

variable (m : (ℓ : Loc nD τ sig) → Buf (Elt Ideal) ℓ) (ρ : Dev nD → PrngReg)

/-- The kernel's three results: the gradient of the queries, and what the launch holds for the latent keys and values at its end. -/
theorem kernel_values : θ_run defs (onTc (τ := τ) (main (F := Ideal))) ⟨m, fun _ => 0, ρ⟩ (fun r => ∀ c : Dev nD,
      r.2.mem ((c.tc : Thread nD τ).loc main_v40_0) = dqArr (arrOf m c)
      ∧ r.2.mem ((c.tc : Thread nD τ).loc main_v40_2) = (heldAt m c 1024).2.1
      ∧ r.2.mem ((c.tc : Thread nD τ).loc main_v40_3) = (heldAt m c 1024).2.2) :=
  (θ_run defs _ _).mono (fun _ h c => ⟨((h.1.1 c).1 10).trans (dq_arr m c), (h.1.2 c main_v40_2 (by decide)).trans (outs_dk m c),
    (h.1.2 c main_v40_3 (by decide)).trans (outs_dv m c)⟩) (run_main m ρ)

end Kernel

/-- The reference, which runs host operations only, ends with its arguments unchanged and no semaphore raised. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m ρ)

/-- On finite inputs the kernel's three results are the reference's. -/
theorem same [Cert.Pre_finite.Facts] (m : (ℓ : Loc Cert.KernelIdeal.nD Cert.KernelIdeal.τ Cert.KernelIdeal.sig) → Buf (Elt Ideal) ℓ)
    (c : Dev Cert.KernelIdeal.nD) (x0 x5 : FVec Ideal Cert.KernelIdeal.S16384x4x64 .f32) (x1 x2 : FVec Ideal Cert.KernelIdeal.S256x2x64 .f32)
    (x3 x4 : FVec Ideal Cert.KernelIdeal.S16384x2x64 .f32)
    (h0 : x0 = Cert.KernelIdeal.Att.arg0 m c) (h1 : x1 = Cert.KernelIdeal.Att.arg1 m c) (h2 : x2 = Cert.KernelIdeal.Att.arg2 m c)
    (h3 : x3 = Cert.KernelIdeal.Att.arg3 m c) (h4 : x4 = Cert.KernelIdeal.Att.arg4 m c) (h5 : x5 = Cert.KernelIdeal.Att.arg5 m c)
    (hp : Cert.Pre_finite.fn (F := Ideal) x0 x1 x2 x3 x4 x5 = fun _ => 1#1) :
    Cert.ReferenceIdeal.Read.val_main_v69 (F := Ideal) x0 x1 x2 x3 x4 x5 = Cert.KernelIdeal.Att.dqArr (Cert.KernelIdeal.Att.arrOf m c)
    ∧ Cert.ReferenceIdeal.Read.val_main_v70 (F := Ideal) x0 x1 x2 x3 x4 x5 = (Cert.KernelIdeal.Att.heldAt m c 1024).2.1
    ∧ Cert.ReferenceIdeal.Read.val_main_v71 (F := Ideal) x0 x1 x3 x5 = (Cert.KernelIdeal.Att.heldAt m c 1024).2.2 := by
  obtain ⟨⟨⟨a0, e0⟩, ⟨a1, e1⟩, ⟨a2, e2⟩⟩, ⟨a3, e3⟩, ⟨a4, e4⟩, ⟨a5, e5⟩⟩ := Cert.Pre_finite.Att.reals_of_fn x0 x1 x2 x3 x4 x5 hp
  have H := Cert.KernelIdeal.Att.holds m c (fun i => (congrFun h0 i).symm.trans (e0 i)) (fun i => (congrFun h1 i).symm.trans (e1 i))
    (fun i => (congrFun h2 i).symm.trans (e2 i)) (fun i => (congrFun h3 i).symm.trans (e3 i))
    (fun i => (congrFun h4 i).symm.trans (e4 i)) (fun i => (congrFun h5 i).symm.trans (e5 i))
  exact ⟨Cert.KernelIdeal.Att.same_dq e0 e1 e2 e3 e4 e5 H,
    Cert.KernelIdeal.Att.same_dk e0 e1 e2 e3 e4 e5 H _ (Cert.KernelIdeal.Att.dk_at m c (Cert.KernelIdeal.Att.fits m c)),
    Cert.KernelIdeal.Att.same_dv e0 e1 e3 e5 H _ (Cert.KernelIdeal.Att.dv_at m c (Cert.KernelIdeal.Att.fits m c))⟩

/-- The value claim: both programs end with the same three gradients and unchanged arguments. -/
theorem algebraic [Cert.Pre_finite.Facts] :
    Cert.algebraic_KernelIdeal_ReferenceIdeal_pre_finite (hKernelIdeal := Cert.KernelIdeal.Gen.facts) (hReferenceIdeal := Cert.ReferenceIdeal.Gen.facts) := by
  intro m g m' g' hp ha
  refine ⟨fun c => Cert.KernelIdeal.Att.dqArr (Cert.KernelIdeal.Att.arrOf m c), fun c => (Cert.KernelIdeal.Att.heldAt m c 1024).2.1,
    fun c => (Cert.KernelIdeal.Att.heldAt m c 1024).2.2, ?_, ?_⟩
  · exact (θ_run Cert.KernelIdeal.defs _ _).mono (fun r h c => ⟨(h.1 c).1, (h.1 c).2.1, (h.1 c).2.2, h.2.1 c⟩)
      (θ_run_and (kernel_values m g) (Cert.KernelIdeal.Att.frame m g))
  · refine (θ_run Cert.ReferenceIdeal.defs _ _).mono (fun r h c => ?_) (Cert.ReferenceIdeal.Value.run (F := Ideal) m' g')
    obtain ⟨h0, h1, h2, h3, h4, h5⟩ := ha c
    have hc : Cert.Pre_finite.fn (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = fun _ => 1#1 := by
      rw [h0, h1, h2, h3, h4, h5]
      exact hp c
    obtain ⟨s0, s1, s2⟩ := same m c _ _ _ _ _ _ h0 h1 h2 h3 h4 h5 hc
    obtain ⟨r0, r1, r2, rest⟩ := h c
    exact ⟨(r0.trans (Cert.ReferenceIdeal.Read.val_main_v69_eq m' c)).trans s0, (r1.trans (Cert.ReferenceIdeal.Read.val_main_v70_eq m' c)).trans s1,
      (r2.trans (Cert.ReferenceIdeal.Read.val_main_v71_eq _ _ _ _)).trans s2, rest⟩

theorem claim : Cert.Claim := ⟨Cert.Kernel.Gen.facts, Cert.KernelIdeal.Gen.facts, Cert.ReferenceIdeal.Gen.facts,
  Cert.FfnUp.Gen.facts, Cert.FfnUpIdeal.Gen.facts, Cert.FfnUpReferenceIdeal.Gen.facts,
  Cert.FfnDown.Gen.facts, Cert.FfnDownIdeal.Gen.facts, Cert.FfnDownReferenceIdeal.Gen.facts,
  Cert.FfnDownDx.Gen.facts, Cert.FfnDownDxIdeal.Gen.facts, Cert.FfnDownDxReferenceIdeal.Gen.facts,
  Cert.FfnDownDw.Gen.facts, Cert.FfnDownDwIdeal.Gen.facts, Cert.FfnDownDwReferenceIdeal.Gen.facts,
  Cert.FfnUpDx.Gen.facts, Cert.FfnUpDxIdeal.Gen.facts, Cert.FfnUpDxReferenceIdeal.Gen.facts,
  Cert.FfnUpDw.Gen.facts, Cert.FfnUpDwIdeal.Gen.facts, Cert.FfnUpDwReferenceIdeal.Gen.facts,
  Cert.GateFwd.Gen.facts, Cert.GateFwdIdeal.Gen.facts, Cert.GateFwdReferenceIdeal.Gen.facts,
  Cert.GateDx.Gen.facts, Cert.GateDxIdeal.Gen.facts, Cert.GateDxReferenceIdeal.Gen.facts,
  Cert.GateDw.Gen.facts, Cert.GateDwIdeal.Gen.facts, Cert.GateDwReferenceIdeal.Gen.facts,
  Cert.BranchFwd.Gen.facts, Cert.BranchFwdIdeal.Gen.facts, Cert.BranchFwdReferenceIdeal.Gen.facts,
  Cert.BranchDx.Gen.facts, Cert.BranchDxIdeal.Gen.facts, Cert.BranchDxReferenceIdeal.Gen.facts,
  Cert.BranchDw.Gen.facts, Cert.BranchDwIdeal.Gen.facts, Cert.BranchDwReferenceIdeal.Gen.facts,
  Cert.OutFwd.Gen.facts, Cert.OutFwdIdeal.Gen.facts, Cert.OutFwdReferenceIdeal.Gen.facts,
  Cert.OutDx.Gen.facts, Cert.OutDxIdeal.Gen.facts, Cert.OutDxReferenceIdeal.Gen.facts,
  Cert.OutDw.Gen.facts, Cert.OutDwIdeal.Gen.facts, Cert.OutDwReferenceIdeal.Gen.facts,
  Cert.GluFwd.Gen.facts, Cert.GluFwdIdeal.Gen.facts, Cert.GluFwdReferenceIdeal.Gen.facts,
  Cert.GluDx.Gen.facts, Cert.GluDxIdeal.Gen.facts, Cert.GluDxReferenceIdeal.Gen.facts,
  Cert.GluDw.Gen.facts, Cert.GluDwIdeal.Gen.facts, Cert.GluDwReferenceIdeal.Gen.facts,
  Cert.SplitFwd.Gen.facts, Cert.SplitFwdIdeal.Gen.facts, Cert.SplitFwdReferenceIdeal.Gen.facts,
  Cert.SplitDx.Gen.facts, Cert.SplitDxIdeal.Gen.facts, Cert.SplitDxReferenceIdeal.Gen.facts,
  Cert.SplitDw.Gen.facts, Cert.SplitDwIdeal.Gen.facts, Cert.SplitDwReferenceIdeal.Gen.facts,
  Cert.AdamSharded.Gen.facts, Cert.AdamShardedIdeal.Gen.facts, Cert.AdamShardedReferenceIdeal.Gen.facts,
  Cert.AdamSmall.Gen.facts, Cert.AdamSmallIdeal.Gen.facts, Cert.AdamSmallReferenceIdeal.Gen.facts,
  Cert.FfnAct.Gen.facts, Cert.FfnActIdeal.Gen.facts, Cert.FfnActReferenceIdeal.Gen.facts,
  Cert.FfnActBwd.Gen.facts, Cert.FfnActBwdIdeal.Gen.facts, Cert.FfnActBwdReferenceIdeal.Gen.facts,
  Cert.GluAct.Gen.facts, Cert.GluActIdeal.Gen.facts, Cert.GluActReferenceIdeal.Gen.facts,
  Cert.GluActBwd.Gen.facts, Cert.GluActBwdIdeal.Gen.facts, Cert.GluActBwdReferenceIdeal.Gen.facts,
  Cert.Merge.Gen.facts, Cert.MergeIdeal.Gen.facts, Cert.MergeReferenceIdeal.Gen.facts,
  Cert.MergeBwd.Gen.facts, Cert.MergeBwdIdeal.Gen.facts, Cert.MergeBwdReferenceIdeal.Gen.facts,
  Cert.FfnNorm.Gen.facts, Cert.FfnNormIdeal.Gen.facts, Cert.FfnNormReferenceIdeal.Gen.facts,
  Cert.NormMod.Gen.facts, Cert.NormModIdeal.Gen.facts, Cert.NormModReferenceIdeal.Gen.facts,
  Cert.FfnResid.Gen.facts, Cert.FfnResidIdeal.Gen.facts, Cert.FfnResidReferenceIdeal.Gen.facts,
  Cert.ResidFull.Gen.facts, Cert.ResidFullIdeal.Gen.facts, Cert.ResidFullReferenceIdeal.Gen.facts,
  Cert.PoolScale.Gen.facts, Cert.PoolScaleIdeal.Gen.facts, Cert.PoolScaleReferenceIdeal.Gen.facts,
  Cert.LossRows.Gen.facts, Cert.LossRowsIdeal.Gen.facts, Cert.LossRowsReferenceIdeal.Gen.facts,
  Cert.Pre_finite.Gen.facts,
  fun m ρ _ => Cert.Kernel.Gen.frame m ρ, fun m ρ _ => Cert.KernelIdeal.Att.frame m ρ, fun m ρ _ => Cert.KernelIdeal.Att.frame m ρ,
  fun m ρ _ => frame_reference m ρ, fun m ρ _ => frame_reference m ρ,
  fun m ρ _ => Cert.FfnUp.Gen.frame m ρ, fun m ρ _ => Cert.FfnUpIdeal.Gen.frame m ρ, Cert.FfnUpReferenceIdeal.Mm.frame,
  fun m ρ _ => Cert.FfnDown.Gen.frame m ρ, fun m ρ _ => Cert.FfnDownIdeal.Gen.frame m ρ, Cert.FfnDownReferenceIdeal.Mm.frame,
  fun m ρ _ => Cert.FfnDownDx.Gen.frame m ρ, fun m ρ _ => Cert.FfnDownDxIdeal.Gen.frame m ρ, Cert.FfnDownDxReferenceIdeal.Mm.frame,
  fun m ρ _ => Cert.FfnDownDw.Gen.frame m ρ, fun m ρ _ => Cert.FfnDownDwIdeal.Gen.frame m ρ, Cert.FfnDownDwReferenceIdeal.Mm.frame,
  fun m ρ _ => Cert.FfnUpDx.Gen.frame m ρ, fun m ρ _ => Cert.FfnUpDxIdeal.Gen.frame m ρ, Cert.FfnUpDxReferenceIdeal.Mm.frame,
  fun m ρ _ => Cert.FfnUpDw.Gen.frame m ρ, fun m ρ _ => Cert.FfnUpDwIdeal.Gen.frame m ρ, Cert.FfnUpDwReferenceIdeal.Mm.frame,
  fun m ρ _ => Cert.GateFwd.Gen.frame m ρ, fun m ρ _ => Cert.GateFwdIdeal.Gen.frame m ρ, Cert.GateFwdReferenceIdeal.Mm.frame,
  fun m ρ _ => Cert.GateDx.Gen.frame m ρ, fun m ρ _ => Cert.GateDxIdeal.Gen.frame m ρ, Cert.GateDxReferenceIdeal.Mm.frame,
  fun m ρ _ => Cert.GateDw.Gen.frame m ρ, fun m ρ _ => Cert.GateDwIdeal.Gen.frame m ρ, Cert.GateDwReferenceIdeal.Mm.frame,
  fun m ρ _ => Cert.BranchFwd.Gen.frame m ρ, fun m ρ _ => Cert.BranchFwdIdeal.Gen.frame m ρ, Cert.BranchFwdReferenceIdeal.Mm.frame,
  fun m ρ _ => Cert.BranchDx.Gen.frame m ρ, fun m ρ _ => Cert.BranchDxIdeal.Gen.frame m ρ, Cert.BranchDxReferenceIdeal.Mm.frame,
  fun m ρ _ => Cert.BranchDw.Gen.frame m ρ, fun m ρ _ => Cert.BranchDwIdeal.Gen.frame m ρ, Cert.BranchDwReferenceIdeal.Mm.frame,
  fun m ρ _ => Cert.OutFwd.Gen.frame m ρ, fun m ρ _ => Cert.OutFwdIdeal.Gen.frame m ρ, Cert.OutFwdReferenceIdeal.Mm.frame,
  fun m ρ _ => Cert.OutDx.Gen.frame m ρ, fun m ρ _ => Cert.OutDxIdeal.Gen.frame m ρ, Cert.OutDxReferenceIdeal.Mm.frame,
  fun m ρ _ => Cert.OutDw.Gen.frame m ρ, fun m ρ _ => Cert.OutDwIdeal.Gen.frame m ρ, Cert.OutDwReferenceIdeal.Mm.frame,
  fun m ρ _ => Cert.GluFwd.Gen.frame m ρ, fun m ρ _ => Cert.GluFwdIdeal.Gen.frame m ρ, Cert.GluFwdReferenceIdeal.Mm.frame,
  fun m ρ _ => Cert.GluDx.Gen.frame m ρ, fun m ρ _ => Cert.GluDxIdeal.Gen.frame m ρ, Cert.GluDxReferenceIdeal.Mm.frame,
  fun m ρ _ => Cert.GluDw.Gen.frame m ρ, fun m ρ _ => Cert.GluDwIdeal.Gen.frame m ρ, Cert.GluDwReferenceIdeal.Mm.frame,
  fun m ρ _ => Cert.SplitFwd.Gen.frame m ρ, fun m ρ _ => Cert.SplitFwdIdeal.Gen.frame m ρ, Cert.SplitFwdReferenceIdeal.Mm.frame,
  fun m ρ _ => Cert.SplitDx.Gen.frame m ρ, fun m ρ _ => Cert.SplitDxIdeal.Gen.frame m ρ, Cert.SplitDxReferenceIdeal.Mm.frame,
  fun m ρ _ => Cert.SplitDw.Gen.frame m ρ, fun m ρ _ => Cert.SplitDwIdeal.Gen.frame m ρ, Cert.SplitDwReferenceIdeal.Mm.frame,
  fun m ρ _ => Cert.AdamSharded.Gen.frame m ρ, fun m ρ _ => Cert.AdamShardedIdeal.Gen.frame m ρ, Cert.AdamShardedReferenceIdeal.Mm.frame,
  fun m ρ _ => Cert.AdamSmall.Gen.frame m ρ, fun m ρ _ => Cert.AdamSmallIdeal.Gen.frame m ρ, Cert.AdamSmallReferenceIdeal.Mm.frame,
  fun m ρ _ => Cert.FfnAct.Gen.frame m ρ, fun m ρ _ => Cert.FfnActIdeal.Gen.frame m ρ, Cert.FfnActReferenceIdeal.Mm.frame,
  fun m ρ _ => Cert.FfnActBwd.Gen.frame m ρ, fun m ρ _ => Cert.FfnActBwdIdeal.Gen.frame m ρ, Cert.FfnActBwdReferenceIdeal.Mm.frame,
  fun m ρ _ => Cert.GluAct.Gen.frame m ρ, fun m ρ _ => Cert.GluActIdeal.Gen.frame m ρ, Cert.GluActReferenceIdeal.Mm.frame,
  fun m ρ _ => Cert.GluActBwd.Gen.frame m ρ, fun m ρ _ => Cert.GluActBwdIdeal.Gen.frame m ρ, Cert.GluActBwdReferenceIdeal.Mm.frame,
  fun m ρ _ => Cert.Merge.Gen.frame m ρ, fun m ρ _ => Cert.MergeIdeal.Gen.frame m ρ, Cert.MergeReferenceIdeal.Mm.frame,
  fun m ρ _ => Cert.MergeBwd.Gen.frame m ρ, fun m ρ _ => Cert.MergeBwdIdeal.Gen.frame m ρ, Cert.MergeBwdReferenceIdeal.Mm.frame,
  fun m ρ _ => Cert.FfnNorm.Gen.frame m ρ, fun m ρ _ => Cert.FfnNormIdeal.Gen.frame m ρ, Cert.FfnNormReferenceIdeal.Mm.frame,
  fun m ρ _ => Cert.NormMod.Gen.frame m ρ, fun m ρ _ => Cert.NormModIdeal.Gen.frame m ρ, Cert.NormModReferenceIdeal.Mm.frame,
  fun m ρ _ => Cert.FfnResid.Gen.frame m ρ, fun m ρ _ => Cert.FfnResidIdeal.Gen.frame m ρ, Cert.FfnResidReferenceIdeal.Mm.frame,
  fun m ρ _ => Cert.ResidFull.Gen.frame m ρ, fun m ρ _ => Cert.ResidFullIdeal.Gen.frame m ρ, Cert.ResidFullReferenceIdeal.Mm.frame,
  fun m ρ _ => Cert.PoolScale.Gen.frame m ρ, fun m ρ _ => Cert.PoolScaleIdeal.Gen.frame m ρ, Cert.PoolScaleReferenceIdeal.Mm.frame,
  fun m ρ _ => Cert.LossRows.Gen.frame m ρ, fun m ρ _ => Cert.LossRowsIdeal.Gen.frame m ρ, Cert.LossRowsReferenceIdeal.Mm.frame,
  trivial, algebraic,
  trivial, Cert.FfnUpReferenceIdeal.Mm.algebraic,
  trivial, Cert.FfnDownReferenceIdeal.Mm.algebraic,
  trivial, Cert.FfnDownDxReferenceIdeal.Mm.algebraic,
  trivial, Cert.FfnDownDwReferenceIdeal.Mm.algebraic,
  trivial, Cert.FfnUpDxReferenceIdeal.Mm.algebraic,
  trivial, Cert.FfnUpDwReferenceIdeal.Mm.algebraic,
  trivial, Cert.GateFwdReferenceIdeal.Mm.algebraic,
  trivial, Cert.GateDxReferenceIdeal.Mm.algebraic,
  trivial, Cert.GateDwReferenceIdeal.Mm.algebraic,
  trivial, Cert.BranchFwdReferenceIdeal.Mm.algebraic,
  trivial, Cert.BranchDxReferenceIdeal.Mm.algebraic,
  trivial, Cert.BranchDwReferenceIdeal.Mm.algebraic,
  trivial, Cert.OutFwdReferenceIdeal.Mm.algebraic,
  trivial, Cert.OutDxReferenceIdeal.Mm.algebraic,
  trivial, Cert.OutDwReferenceIdeal.Mm.algebraic,
  trivial, Cert.GluFwdReferenceIdeal.Mm.algebraic,
  trivial, Cert.GluDxReferenceIdeal.Mm.algebraic,
  trivial, Cert.GluDwReferenceIdeal.Mm.algebraic,
  trivial, Cert.SplitFwdReferenceIdeal.Mm.algebraic,
  trivial, Cert.SplitDxReferenceIdeal.Mm.algebraic,
  trivial, Cert.SplitDwReferenceIdeal.Mm.algebraic,
  trivial, Cert.AdamShardedReferenceIdeal.Mm.algebraic,
  trivial, Cert.AdamSmallReferenceIdeal.Mm.algebraic,
  trivial, Cert.FfnActReferenceIdeal.Mm.algebraic,
  trivial, Cert.FfnActBwdReferenceIdeal.Mm.algebraic,
  trivial, Cert.GluActReferenceIdeal.Mm.algebraic,
  trivial, Cert.GluActBwdReferenceIdeal.Mm.algebraic,
  trivial, Cert.MergeReferenceIdeal.Mm.algebraic,
  trivial, Cert.MergeBwdReferenceIdeal.Mm.algebraic,
  trivial, Cert.FfnNormReferenceIdeal.Mm.algebraic,
  trivial, Cert.NormModReferenceIdeal.Mm.algebraic,
  trivial, Cert.FfnResidReferenceIdeal.Mm.algebraic,
  trivial, Cert.ResidFullReferenceIdeal.Mm.algebraic,
  trivial, Cert.PoolScaleReferenceIdeal.Mm.algebraic,
  trivial, Cert.LossRowsReferenceIdeal.Mm.algebraic⟩

end Cert.Proof

end
